-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mixer [hPre_finite_mixer : Cert.Pre_finite_mixer.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mixer.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mixer [hPre_finite_mixer : Cert.Pre_finite_mixer.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mixer.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mixer [hPre_finite_mixer : Cert.Pre_finite_mixer.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mixer.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_head [hPre_finite_head : Cert.Pre_finite_head.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_head.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_head [hPre_finite_head : Cert.Pre_finite_head.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_head.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_fwd [hPre_finite_fwd : Cert.Pre_finite_fwd.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_fwd.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_fwd [hPre_finite_fwd : Cert.Pre_finite_fwd.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_fwd.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_mixer [hKernel2Ideal : Cert.Kernel2Ideal.Facts] [hPre_finite_mixer : Cert.Pre_finite_mixer.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mixer m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_mixer [hReference2Ideal : Cert.Reference2Ideal.Facts] [hPre_finite_mixer : Cert.Pre_finite_mixer.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mixer m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_mixer [hReference3Ideal : Cert.Reference3Ideal.Facts] [hPre_finite_mixer : Cert.Pre_finite_mixer.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mixer m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_head [hKernel3Ideal : Cert.Kernel3Ideal.Facts] [hPre_finite_head : Cert.Pre_finite_head.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_head m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_head [hReference4Ideal : Cert.Reference4Ideal.Facts] [hPre_finite_head : Cert.Pre_finite_head.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_head m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_fwd [hKernel7Ideal : Cert.Kernel7Ideal.Facts] [hPre_finite_fwd : Cert.Pre_finite_fwd.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_fwd m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_fwd [hReference7Ideal : Cert.Reference7Ideal.Facts] [hPre_finite_fwd : Cert.Pre_finite_fwd.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_fwd m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_attention_columns_pre_finite_mixer [hKernel2Ideal : Cert.Kernel2Ideal.Facts] [hReference2Ideal : Cert.Reference2Ideal.Facts] [hPre_finite_mixer : Cert.Pre_finite_mixer.Facts] [hOn_attention_columns : Cert.On_attention_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mixer m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v300_0)) (v1 : (c : Dev Cert.Kernel2Ideal.nD) → Buf (Elt Ideal) ((c.tc : Thread Cert.Kernel2Ideal.nD Cert.Kernel2Ideal.τ).loc Cert.Kernel2Ideal.main_v300_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![16384, 2816]⟩ : Shape).Idx, (Cert.On_attention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Kernel2Ideal.nD Cert.Kernel2Ideal.τ).loc Cert.Kernel2Ideal.main_v300_0) i = v0 c i)
          ∧ (∀ i : (⟨2, ![1, 128]⟩ : Shape).Idx, (Cert.On_attention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Kernel2Ideal.nD Cert.Kernel2Ideal.τ).loc Cert.Kernel2Ideal.main_v300_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![16384, 2816]⟩ : Shape).Idx, (Cert.On_attention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Reference2Ideal.nD Cert.Reference2Ideal.τ).loc Cert.Reference2Ideal.main_v145) i = v0 c i)
          ∧ (∀ i : (⟨2, ![1, 128]⟩ : Shape).Idx, (Cert.On_attention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Reference2Ideal.nD Cert.Reference2Ideal.τ).loc Cert.Reference2Ideal.main_v147) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def algebraic_Kernel2Ideal_Reference3Ideal_on_retention_columns_pre_finite_mixer [hKernel2Ideal : Cert.Kernel2Ideal.Facts] [hReference3Ideal : Cert.Reference3Ideal.Facts] [hPre_finite_mixer : Cert.Pre_finite_mixer.Facts] [hOn_retention_columns : Cert.On_retention_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal_finite_mixer m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)
      ∧ m' ((c.tc : Thread Cert.Reference3Ideal.nD Cert.Reference3Ideal.τ).loc Cert.Reference3Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v300_0)) (v1 : (c : Dev Cert.Kernel2Ideal.nD) → Buf (Elt Ideal) ((c.tc : Thread Cert.Kernel2Ideal.nD Cert.Kernel2Ideal.τ).loc Cert.Kernel2Ideal.main_v300_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![16384, 2816]⟩ : Shape).Idx, (Cert.On_retention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Kernel2Ideal.nD Cert.Kernel2Ideal.τ).loc Cert.Kernel2Ideal.main_v300_0) i = v0 c i)
          ∧ (∀ i : (⟨2, ![1, 128]⟩ : Shape).Idx, (Cert.On_retention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Kernel2Ideal.nD Cert.Kernel2Ideal.τ).loc Cert.Kernel2Ideal.main_v300_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![16384, 2816]⟩ : Shape).Idx, (Cert.On_retention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Reference3Ideal.nD Cert.Reference3Ideal.τ).loc Cert.Reference3Ideal.main_v275) i = v0 c i)
          ∧ (∀ i : (⟨2, ![1, 128]⟩ : Shape).Idx, (Cert.On_retention_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Reference3Ideal.nD Cert.Reference3Ideal.τ).loc Cert.Reference3Ideal.main_v276) i = v1 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel3_Kernel3Ideal : Prop :=
  True

def algebraic_Kernel3Ideal_Reference4Ideal_pre_finite_head [hKernel3Ideal : Cert.Kernel3Ideal.Facts] [hReference4Ideal : Cert.Reference4Ideal.Facts] [hPre_finite_head : Cert.Pre_finite_head.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal_finite_head m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)
      ∧ m' ((c.tc : Thread Cert.Reference4Ideal.nD Cert.Reference4Ideal.τ).loc Cert.Reference4Ideal.main_arg2) = m ((c.tc : Thread Cert.Kernel3Ideal.nD Cert.Kernel3Ideal.τ).loc Cert.Kernel3Ideal.main_arg2)
      ∧ m' ((c.tc : Thread Cert.Reference4Ideal.nD Cert.Reference4Ideal.τ).loc Cert.Reference4Ideal.main_arg3) = m ((c.tc : Thread Cert.Kernel3Ideal.nD Cert.Kernel3Ideal.τ).loc Cert.Kernel3Ideal.main_arg3)
      ∧ m' ((c.tc : Thread Cert.Reference4Ideal.nD Cert.Reference4Ideal.τ).loc Cert.Reference4Ideal.main_arg4) = m ((c.tc : Thread Cert.Kernel3Ideal.nD Cert.Kernel3Ideal.τ).loc Cert.Kernel3Ideal.main_arg4)
      ∧ m' ((c.tc : Thread Cert.Reference4Ideal.nD Cert.Reference4Ideal.τ).loc Cert.Reference4Ideal.main_arg5) = m ((c.tc : Thread Cert.Kernel3Ideal.nD Cert.Kernel3Ideal.τ).loc Cert.Kernel3Ideal.main_arg5)
      ∧ m' ((c.tc : Thread Cert.Reference4Ideal.nD Cert.Reference4Ideal.τ).loc Cert.Reference4Ideal.main_arg6) = m ((c.tc : Thread Cert.Kernel3Ideal.nD Cert.Kernel3Ideal.τ).loc Cert.Kernel3Ideal.main_arg6)
      ∧ m' ((c.tc : Thread Cert.Reference4Ideal.nD Cert.Reference4Ideal.τ).loc Cert.Reference4Ideal.main_arg7) = m ((c.tc : Thread Cert.Kernel3Ideal.nD Cert.Kernel3Ideal.τ).loc Cert.Kernel3Ideal.main_arg7)
      ∧ m' ((c.tc : Thread Cert.Reference4Ideal.nD Cert.Reference4Ideal.τ).loc Cert.Reference4Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v128) = v0 c
          ∧ r.2.mem ((c.tc : Thread Cert.Reference4Ideal.nD Cert.Reference4Ideal.τ).loc Cert.Reference4Ideal.main_v129) = v1 c
          ∧ r.2.mem ((c.tc : Thread Cert.Reference4Ideal.nD Cert.Reference4Ideal.τ).loc Cert.Reference4Ideal.main_v131) = v2 c
          ∧ r.2.mem ((c.tc : Thread Cert.Reference4Ideal.nD Cert.Reference4Ideal.τ).loc Cert.Reference4Ideal.main_v133) = v3 c
          ∧ r.2.mem ((c.tc : Thread Cert.Reference4Ideal.nD Cert.Reference4Ideal.τ).loc Cert.Reference4Ideal.main_v126) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def algebraic_Kernel7Ideal_Reference7Ideal_on_attention_half_pre_finite_fwd [hKernel7Ideal : Cert.Kernel7Ideal.Facts] [hReference7Ideal : Cert.Reference7Ideal.Facts] [hPre_finite_fwd : Cert.Pre_finite_fwd.Facts] [hOn_attention_half : Cert.On_attention_half.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_fwd m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v83_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![16384, 1024]⟩ : Shape).Idx, (Cert.On_attention_half.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) i = 1#1 → r.2.mem ((c.tc : Thread Cert.Kernel7Ideal.nD Cert.Kernel7Ideal.τ).loc Cert.Kernel7Ideal.main_v83_0) i = v0 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![16384, 1024]⟩ : Shape).Idx, (Cert.On_attention_half.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) i = 1#1 → r.2.mem ((c.tc : Thread Cert.Reference7Ideal.nD Cert.Reference7Ideal.τ).loc Cert.Reference7Ideal.main_v73) i = v0 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel3 : Cert.Kernel3.Facts) (hKernel3Ideal : Cert.Kernel3Ideal.Facts) (hReference4Ideal : Cert.Reference4Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_mixer : Cert.Pre_finite_mixer.Facts) (hPre_finite_head : Cert.Pre_finite_head.Facts) (hPre_finite_fwd : Cert.Pre_finite_fwd.Facts) (hOn_attention_columns : Cert.On_attention_columns.Facts) (hOn_retention_columns : Cert.On_retention_columns.Facts) (hOn_attention_half : Cert.On_attention_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_mixer (hKernel2Ideal := hKernel2Ideal) (hPre_finite_mixer := hPre_finite_mixer)
    ∧ quiescent_Reference2Ideal (hReference2Ideal := hReference2Ideal)
    ∧ quiescent_Reference2Ideal_pre_finite_mixer (hReference2Ideal := hReference2Ideal) (hPre_finite_mixer := hPre_finite_mixer)
    ∧ quiescent_Reference3Ideal (hReference3Ideal := hReference3Ideal)
    ∧ quiescent_Reference3Ideal_pre_finite_mixer (hReference3Ideal := hReference3Ideal) (hPre_finite_mixer := hPre_finite_mixer)
    ∧ quiescent_Kernel3 (hKernel3 := hKernel3)
    ∧ quiescent_Kernel3Ideal (hKernel3Ideal := hKernel3Ideal)
    ∧ quiescent_Kernel3Ideal_pre_finite_head (hKernel3Ideal := hKernel3Ideal) (hPre_finite_head := hPre_finite_head)
    ∧ quiescent_Reference4Ideal (hReference4Ideal := hReference4Ideal)
    ∧ quiescent_Reference4Ideal_pre_finite_head (hReference4Ideal := hReference4Ideal) (hPre_finite_head := hPre_finite_head)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_fwd (hKernel7Ideal := hKernel7Ideal) (hPre_finite_fwd := hPre_finite_fwd)
    ∧ quiescent_Reference7Ideal (hReference7Ideal := hReference7Ideal)
    ∧ quiescent_Reference7Ideal_pre_finite_fwd (hReference7Ideal := hReference7Ideal) (hPre_finite_fwd := hPre_finite_fwd)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_attention_columns_pre_finite_mixer (hKernel2Ideal := hKernel2Ideal) (hReference2Ideal := hReference2Ideal) (hPre_finite_mixer := hPre_finite_mixer) (hOn_attention_columns := hOn_attention_columns)
    ∧ algebraic_Kernel2Ideal_Reference3Ideal_on_retention_columns_pre_finite_mixer (hKernel2Ideal := hKernel2Ideal) (hReference3Ideal := hReference3Ideal) (hPre_finite_mixer := hPre_finite_mixer) (hOn_retention_columns := hOn_retention_columns)
    ∧ preserves_Kernel3_Kernel3Ideal
    ∧ algebraic_Kernel3Ideal_Reference4Ideal_pre_finite_head (hKernel3Ideal := hKernel3Ideal) (hReference4Ideal := hReference4Ideal) (hPre_finite_head := hPre_finite_head)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_on_attention_half_pre_finite_fwd (hKernel7Ideal := hKernel7Ideal) (hReference7Ideal := hReference7Ideal) (hPre_finite_fwd := hPre_finite_fwd) (hOn_attention_half := hOn_attention_half)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_attention_columns.lean ====
abbrev S16384x2816 : Shape := ⟨2, ![16384, 2816]⟩
abbrev S1x8 : Shape := ⟨2, ![1, 8]⟩
abbrev S16384x1024 : Shape := ⟨2, ![16384, 1024]⟩
abbrev S_ : Shape := ⟨0, ![]⟩
abbrev S1x128 : Shape := ⟨2, ![1, 128]⟩

class Facts : Prop where
  bcast_S_S16384x2816 : S_.BroadcastsInDim S16384x2816 (![] : Fin 0 → Fin S16384x2816.rank)
  bcast_S_S1x128 : S_.BroadcastsInDim S1x128 (![] : Fin 0 → Fin S1x128.rank)

variable [Facts]

def fn {F : FTy → Type} [FloatOps F] (main_arg0 : FVec F S16384x2816 .f32) (main_arg1 : FVec F S1x8 .f32) (main_arg2 : FVec F S16384x1024 .f32) : IVec S16384x2816 1 × IVec S1x128 1 :=
  let main_v0 : IVec S16384x2816 32 := iotaInDim S16384x2816 32 1
  let main_c : IVec S_ 32 := constantI S_ 32 768#32
  let main_v1 : IVec S16384x2816 32 := broadcastInDim S16384x2816 ![] bcast_S_S16384x2816 main_c
  let main_v2 : IVec S16384x2816 1 := cmpi .slt main_v0 main_v1
  let main_v3 : IVec S1x128 32 := iotaInDim S1x128 32 1
  let main_c_0 : IVec S_ 32 := constantI S_ 32 128#32
  let main_v4 : IVec S1x128 32 := broadcastInDim S1x128 ![] bcast_S_S1x128 main_c_0
  let main_v5 : IVec S1x128 1 := cmpi .slt main_v3 main_v4
  (main_v2, main_v5)
-- ==== On_attention_half.lean ====
abbrev S16384x2816 : Shape := ⟨2, ![16384, 2816]⟩
abbrev S1x8 : Shape := ⟨2, ![1, 8]⟩
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S1x8 .f32) : IVec S16384x1024 1 :=
  let main_v0 : IVec S16384x1024 32 := iotaInDim S16384x1024 32 1
  let main_c : IVec S_ 32 := constantI S_ 32 512#32
  let main_v1 : IVec S16384x1024 32 := broadcastInDim S16384x1024 ![] bcast_S_S16384x1024 main_c
  let main_v2 : IVec S16384x1024 1 := cmpi .slt main_v0 main_v1
  main_v2
-- ==== On_retention_columns.lean ====
abbrev S16384x2816 : Shape := ⟨2, ![16384, 2816]⟩
abbrev S1x8 : Shape := ⟨2, ![1, 8]⟩
abbrev S16384x1024 : Shape := ⟨2, ![16384, 1024]⟩
abbrev S_ : Shape := ⟨0, ![]⟩
abbrev S1x128 : Shape := ⟨2, ![1, 128]⟩

class Facts : Prop where
  bcast_S_S16384x2816 : S_.BroadcastsInDim S16384x2816 (![] : Fin 0 → Fin S16384x2816.rank)
  bcast_S_S1x128 : S_.BroadcastsInDim S1x128 (![] : Fin 0 → Fin S1x128.rank)

variable [Facts]

def fn {F : FTy → Type} [FloatOps F] (main_arg0 : FVec F S16384x2816 .f32) (main_arg1 : FVec F S1x8 .f32) (main_arg2 : FVec F S16384x1024 .f32) : IVec S16384x2816 1 × IVec S1x128 1 :=
  let main_v0 : IVec S16384x2816 32 := iotaInDim S16384x2816 32 1
  let main_c : IVec S_ 32 := constantI S_ 32 768#32
  let main_v1 : IVec S16384x2816 32 := broadcastInDim S16384x2816 ![] bcast_S_S16384x2816 main_c
  let main_v2 : IVec S16384x2816 1 := cmpi .sge main_v0 main_v1
  let main_v3 : IVec S1x128 32 := iotaInDim S1x128 32 1
  let main_c_0 : IVec S_ 32 := constantI S_ 32 0#32
  let main_v4 : IVec S1x128 32 := broadcastInDim S1x128 ![] bcast_S_S1x128 main_c_0
  let main_v5 : IVec S1x128 1 := cmpi .slt main_v3 main_v4
  (main_v2, main_v5)
-- ==== Pre_finite.lean ====
abbrev S1x16384x1024 : Shape := ⟨3, ![1, 16384, 1024]⟩
abbrev S1x1024 : Shape := ⟨2, ![1, 1024]⟩
abbrev S1x1024x2816 : Shape := ⟨3, ![1, 1024, 2816]⟩
abbrev S16384x2816 : Shape := ⟨2, ![16384, 2816]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x16384x1024 .f32) (main_arg1 : FVec F S1x1024 .f32) (main_arg2 : FVec F S1x1024x2816 .f32) (main_arg3 : FVec F S1x16384x1024 .f32) (main_arg4 : FVec F S16384x2816 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S16384x2816 .f32 := Host.absf main_arg4
  let main_cst_4 : FVec F S_ .f32 := constant S_ .f32 0x7F800000#32
  let main_v13 : FVec F S16384x2816 .f32 := broadcastInDim S16384x2816 ![] bcast_S_S16384x2816 main_cst_4
  let main_v14 : IVec S16384x2816 1 := cmpf .olt main_v12 main_v13
  let main_c_5 : IVec S_ 1 := constantI S_ 1 1#1
  let main_v15 : IVec S_ 1 := (fun x v => Host.reduce IntOp.andi x v reducesTo_S16384x2816_S_d0_1 h_S_) main_v14 main_c_5
  fn_part1 (F := F) main_v3 main_v7 main_v11 main_v15
-- ==== Pre_finite_fwd.lean ====
abbrev S16384x2816 : Shape := ⟨2, ![16384, 2816]⟩
abbrev S1x8 : Shape := ⟨2, ![1, 8]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S16384x2816 .f32) (main_arg1 : FVec F S1x8 .f32) : IVec S_ 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_finite_head.lean ====
abbrev S1x16384x1024 : Shape := ⟨3, ![1, 16384, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S16384x5632 : Shape := ⟨2, ![16384, 5632]⟩
abbrev S16384x1024 : Shape := ⟨2, ![16384, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S16384x5632 : S_.BroadcastsInDim S16384x5632 (![] : Fin 0 → Fin S16384x5632.rank)
  reducesTo_S16384x5632_S_d0_1 : S16384x5632.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part2 {F : FTy → Type} [FloatOps F] (main_arg8 : FVec F S16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x1024 .f32 := Host.absf main_arg8
  let main_cst_14 : FVec F S_ .f32 := constant S_ .f32 0x7F800000#32
  let main_v33 : FVec F S16384x1024 .f32 := broadcastInDim S16384x1024 ![] bcast_S_S16384x1024 main_cst_14
  let main_v34 : IVec S16384x1024 1 := cmpf .olt main_v32 main_v33
  let main_c_15 : IVec S_ 1 := constantI S_ 1 1#1
  let main_v35 : IVec S_ 1 := (fun x v => Host.reduce IntOp.andi x v reducesTo_S16384x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024x1024 .f32) (main_arg5 : FVec F S1x1024x5632 .f32) (main_arg6 : FVec F S1x3x5632 .f32) (main_arg7 : FVec F S16384x5632 .f32) (main_arg8 : FVec F S16384x1024 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : FVec F S1x1024x5632 .f32 := Host.absf main_arg5
  let main_cst_8 : FVec F S_ .f32 := constant S_ .f32 0x7F800000#32
  let main_v21 : FVec F S1x1024x5632 .f32 := broadcastInDim S1x1024x5632 ![] bcast_S_S1x1024x5632 main_cst_8
  let main_v22 : IVec S1x1024x5632 1 := cmpf .olt main_v20 main_v21
  let main_c_9 : IVec S_ 1 := constantI S_ 1 1#1
  let main_v23 : IVec S_ 1 := (fun x v => Host.reduce IntOp.andi x v reducesTo_S1x1024x5632_S_d0_1_2 h_S_) main_v22 main_c_9
  let main_v24 : FVec F S1x3x5632 .f32 := Host.absf main_arg6
  let main_cst_10 : FVec F S_ .f32 := constant S_ .f32 0x7F800000#32
  let main_v25 : FVec F S1x3x5632 .f32 := broadcastInDim S1x3x5632 ![] bcast_S_S1x3x5632 main_cst_10
  let main_v26 : IVec S1x3x5632 1 := cmpf .olt main_v24 main_v25
  let main_c_11 : IVec S_ 1 := constantI S_ 1 1#1
  let main_v27 : IVec S_ 1 := (fun x v => Host.reduce IntOp.andi x v reducesTo_S1x3x5632_S_d0_1_2 h_S_) main_v26 main_c_11
  let main_v28 : FVec F S16384x5632 .f32 := Host.absf main_arg7
  let main_cst_12 : FVec F S_ .f32 := constant S_ .f32 0x7F800000#32
  let main_v29 : FVec F S16384x5632 .f32 := broadcastInDim S16384x5632 ![] bcast_S_S16384x5632 main_cst_12
  let main_v30 : IVec S16384x5632 1 := cmpf .olt main_v28 main_v29
  let main_c_13 : IVec S_ 1 := constantI S_ 1 1#1
  let main_v31 : IVec S_ 1 := (fun x v => Host.reduce IntOp.andi x v reducesTo_S16384x5632_S_d0_1 h_S_) main_v30 main_c_13
  fn_part2 (F := F) main_arg8 main_v3 main_v7 main_v11 main_v15 main_v19 main_v23 main_v27 main_v31

def fn {F : FTy → Type} [FloatOps F] (main_arg0 : FVec F S1x16384x1024 .f32) (main_arg1 : FVec F S1x16384x1024 .f32) (main_arg2 : FVec F S1x1024 .f32) (main_arg3 : FVec F S1x1024 .f32) (main_arg4 : FVec F S1x1024x1024 .f32) (main_arg5 : FVec F S1x1024x5632 .f32) (main_arg6 : FVec F S1x3x5632 .f32) (main_arg7 : FVec F S16384x5632 .f32) (main_arg8 : FVec F S16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Pre_finite_mixer.lean ====
abbrev S16384x2816 : Shape := ⟨2, ![16384, 2816]⟩
abbrev S1x8 : Shape := ⟨2, ![1, 8]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x2816 .f32) (main_arg1 : FVec F S1x8 .f32) (main_arg2 : FVec F S16384x1024 .f32) : IVec S_ 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S1x16384x1024 : Shape := ⟨3, ![1, 16384, 1024]⟩
abbrev S1x1024 : Shape := ⟨2, ![1, 1024]⟩
abbrev S1x1024x2816 : Shape := ⟨3, ![1, 1024, 2816]⟩
abbrev S16384x2816 : Shape := ⟨2, ![16384, 2816]⟩
abbrev S1024x2816 : Shape := ⟨2, ![1024, 2816]⟩
abbrev S2816x1024 : Shape := ⟨2, ![2816, 1024]⟩
abbrev S16384x1024 : Shape := ⟨2, ![16384, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2816, .f32⟩
  | .hbm, ⟨3, _⟩ => ⟨S1x16384x1024, .f32⟩
  | .hbm, ⟨4, _⟩ => ⟨S16384x2816, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S16384x2816, .bf16⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x16384x1024 : Shape := ⟨3, ![1, 16384, 1024]⟩
abbrev S1x1024 : Shape := ⟨2, ![1, 1024]⟩
abbrev S1x1024x2816 : Shape := ⟨3, ![1, 1024, 2816]⟩
abbrev S16384x2816 : Shape := ⟨2, ![16384, 2816]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2816 : Shape := ⟨2, ![1024, 2816]⟩
abbrev S1x16384x2816 : Shape := ⟨3, ![1, 16384, 2816]⟩
abbrev S16384 : Shape := ⟨1, ![16384]⟩
abbrev S16384x1024 : Shape := ⟨2, ![16384, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2816, .f32⟩
  | .hbm, ⟨3, _⟩ => ⟨S1x16384x1024, .f32⟩
  | .hbm, ⟨4, _⟩ => ⟨S16384x2816, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1024x2816, .f32⟩
  | .hbm, ⟨27, _⟩ => ⟨S1x16384x2816, .f32⟩
  | .hbm, ⟨28, _⟩ => ⟨S1x16384x2816, .f32⟩
  | .hbm, ⟨29, _⟩ => ⟨S1x16384x1024, .f32⟩
  | .hbm, ⟨30, _⟩ => ⟨S1x16384x1024, .f32⟩
  | .hbm, ⟨31, _⟩ => ⟨S_, .f32⟩
  | .hbm, ⟨32, _⟩ => ⟨S1x1024, .f32⟩
  | .hbm, ⟨33, _⟩ => ⟨S1x1x1024, .f32⟩
  | .hbm, ⟨34, _⟩ => ⟨S1x16384x1024, .f32⟩
  | .hbm, ⟨35, _⟩ => ⟨S1x16384x1024, .f32⟩
  | .hbm, ⟨36, _⟩ => ⟨S_, .f32⟩
  | .hbm, ⟨37, _⟩ => ⟨S1024, .f32⟩
  | .hbm, ⟨38, _⟩ => ⟨S1x16384x1024, .f32⟩
  | .hbm, ⟨39, _⟩ => ⟨S_, .f32⟩
  | .hbm, ⟨40, _⟩ => ⟨S1x16384, .f32⟩
  | .hbm, ⟨41, _⟩ => ⟨S1x16384x1, .f32⟩
  | .hbm, ⟨42, _⟩ => ⟨S1x16384x1024, .f32⟩
  | .hbm, ⟨43, _⟩ => ⟨S1x16384x1024, .f32⟩
  | .hbm, ⟨44, _⟩ => ⟨S1x16384x1024, .f32⟩
  | .hbm, ⟨45, _⟩ => ⟨S1x16384x1, .f32⟩
  | .hbm, ⟨46, _⟩ => ⟨S_, .f32⟩
  | .hbm, ⟨47, _⟩ => ⟨S1x16384x1, .f32⟩
  | .hbm, ⟨48, _⟩ => ⟨S1x16384x1, .f32⟩
  | .hbm, ⟨49, _⟩ => ⟨S_, .f32⟩
  | .hbm, ⟨50, _⟩ => ⟨S16384, .f32⟩
  | .hbm, ⟨51, _⟩ => ⟨S1x16384, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel2.lean ====
abbrev S16384x2816 : Shape := ⟨2, ![16384, 2816]⟩
abbrev S1x8 : Shape := ⟨2, ![1, 8]⟩
abbrev S16384x1024 : Shape := ⟨2, ![16384, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S128x4x128 : Shape := ⟨3, ![128, 4, 128]⟩
abbrev S128x512 : Shape := ⟨2, ![128, 512]⟩
abbrev S4x128 : Shape := ⟨2, ![4, 128]⟩
abbrev S512 : Shape := ⟨1, ![512]⟩
abbrev S1x512 : Shape := ⟨2, ![1, 512]⟩
abbrev S8x512 : Shape := ⟨2, ![8, 512]⟩
abbrev S16384 : Shape := ⟨1, ![16384]⟩
abbrev S63 : Shape := ⟨1, ![63]⟩
abbrev S1 : Shape := ⟨1, ![1]⟩
abbrev S64 : Shape := ⟨1, ![64]⟩
abbrev S64x2 : Shape := ⟨2, ![64, 2]⟩
abbrev S16384x1 : Shape := ⟨2, ![16384, 1]⟩
abbrev S16384x128 : Shape := ⟨2, ![16384, 128]⟩
abbrev S16384x512 : Shape := ⟨2, ![16384, 512]⟩
abbrev S128x128x2x4x64 : Shape := ⟨5, ![128, 128, 2, 4, 64]⟩
abbrev S128x128x2x64 : Shape := ⟨4, ![128, 128, 2, 64]⟩
abbrev S1x128x2x64 : Shape := ⟨4, ![1, 128, 2, 64]⟩
abbrev S127x128x2x64 : Shape := ⟨4, ![127, 128, 2, 64]⟩
abbrev S128x256x2x64 : Shape := ⟨4, ![128, 256, 2, 64]⟩
abbrev S128x2x256x128x4 : Shape := ⟨5, ![128, 2, 256, 128, 4]⟩
abbrev S128x2x4x128x256 : Shape := ⟨5, ![128, 2, 4, 128, 256]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x1x1 : Shape := ⟨3, ![128, 1, 1]⟩
abbrev S1x1x256 : Shape := ⟨3, ![1, 1, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S2x4 : Shape := ⟨2, ![2, 4]⟩
abbrev S1x2x4x1x1 : Shape := ⟨5, ![1, 2, 4, 1, 1]⟩
abbrev S128x2x4x128x1 : Shape := ⟨5, ![128, 2, 4, 128, 1]⟩
abbrev S128x2x4x128x257 : Shape := ⟨5, ![128, 2, 4, 128, 257]⟩
abbrev S128x2x4x128 : Shape := ⟨4, ![128, 2, 4, 128]⟩
abbrev S128x2x512x1 : Shape := ⟨4, ![128, 2, 512, 1]⟩
abbrev S128x2x512x256 : Shape := ⟨4, ![128, 2, 512, 256]⟩
abbrev S128x2x4x128x64 : Shape := ⟨5, ![128, 2, 4, 128, 64]⟩
abbrev S128x2x512x64 : Shape := ⟨4, ![128, 2, 512, 64]⟩
abbrev S128x1x512x64 : Shape := ⟨4, ![128, 1, 512, 64]⟩
abbrev S128x1x512x128 : Shape := ⟨4, ![128, 1, 512, 128]⟩
abbrev S128x2x512x128 : Shape := ⟨4, ![128, 2, 512, 128]⟩
abbrev S16384x1x128 : Shape := ⟨3, ![16384, 1, 128]⟩
abbrev S16384x4x128 : Shape := ⟨3, ![16384, 4, 128]⟩
abbrev S16384x4x64 : Shape := ⟨3, ![16384, 4, 64]⟩
abbrev S16384x4x64x1 : Shape := ⟨4, ![16384, 4, 64, 1]⟩
abbrev S16384x4x64x2 : Shape := ⟨4, ![16384, 4, 64, 2]⟩
abbrev S128x128x512 : Shape := ⟨3, ![128, 128, 512]⟩
abbrev S1x128x512 : Shape := ⟨3, ![1, 128, 512]⟩
abbrev S128x128x4x128 : Shape := ⟨4, ![128, 128, 4, 128]⟩
abbrev S128x128x1x4x128 : Shape := ⟨5, ![128, 128, 1, 4, 128]⟩
abbrev S128x1x128x4x128 : Shape := ⟨5, ![128, 1, 128, 4, 128]⟩
abbrev S128x128x128x4x128 : Shape := ⟨5, ![128, 128, 128, 4, 128]⟩
abbrev S128x128x128x4 : Shape := ⟨4, ![128, 128, 128, 4]⟩
abbrev S128x4x128x128 : Shape := ⟨4, ![128, 4, 128, 128]⟩
abbrev S1x4x128x128 : Shape := ⟨4, ![1, 4, 128, 128]⟩
abbrev S128x128x4x128x1 : Shape := ⟨5, ![128, 128, 4, 128, 1]⟩
abbrev S128x128x4x1x128 : Shape := ⟨5, ![128, 128, 4, 1, 128]⟩
abbrev S128x128x4x128x128 : Shape := ⟨5, ![128, 128, 4, 128, 128]⟩
abbrev S128x128x4 : Shape := ⟨3, ![128, 128, 4]⟩
abbrev S128x128x4x1x1 : Shape := ⟨5, ![128, 128, 4, 1, 1]⟩
abbrev S1x128x4x128x128 : Shape := ⟨5, ![1, 128, 4, 128, 128]⟩
abbrev S128x1x4x128x128 : Shape := ⟨5, ![128, 1, 4, 128, 128]⟩
abbrev S128x128x128x4x1 : Shape := ⟨5, ![128, 128, 128, 4, 1]⟩
abbrev S128x128x4x1 : Shape := ⟨4, ![128, 128, 4, 1]⟩
abbrev S128x4x128x1 : Shape := ⟨4, ![128, 4, 128, 1]⟩
abbrev S512x2816 : Shape := ⟨2, ![512, 2816]⟩
abbrev S512x1024 : Shape := ⟨2, ![512, 1024]⟩
abbrev S4x4x128x128 : Shape := ⟨4, ![4, 4, 128, 128]⟩
abbrev S4x2x512x256 : Shape := ⟨4, ![4, 2, 512, 256]⟩
abbrev S4x2x512x1 : Shape := ⟨4, ![4, 2, 512, 1]⟩
abbrev S512x512 : Shape := ⟨2, ![512, 512]⟩
abbrev S4x4x128x1 : Shape := ⟨4, ![4, 4, 128, 1]⟩
abbrev S4x2x512x128 : Shape := ⟨4, ![4, 2, 512, 128]⟩
abbrev S512x128 : Shape := ⟨2, ![512, 128]⟩
abbrev S256x128 : Shape := ⟨2, ![256, 128]⟩
abbrev S1x1x512x128 : Shape := ⟨4, ![1, 1, 512, 128]⟩
abbrev S1x1x512x256 : Shape := ⟨4, ![1, 1, 512, 256]⟩
abbrev S512x256 : Shape := ⟨2, ![512, 256]⟩
abbrev S512x1 : Shape := ⟨2, ![512, 1]⟩
abbrev S1x1x512x1 : Shape := ⟨4, ![1, 1, 512, 1]⟩
abbrev S1x1x128x128 : Shape := ⟨4, ![1, 1, 128, 128]⟩
abbrev S1x1x128x1 : Shape := ⟨4, ![1, 1, 128, 1]⟩

abbrev nBuf : Space → Nat
  | .hbm => 405
  | .vmem => 42
  | .smem => 0
  | _ => 0

abbrev hbmTy0_0 (i : Nat) : BufTy := match i % 128 with
  | 0 => ⟨S16384x2816, .f32⟩
  | 1 => ⟨S1x8, .f32⟩
  | 2 => ⟨S16384x1024, .f32⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S128, .f32⟩
  | 15 => ⟨S128x1, .f32⟩
  | 16 => ⟨S1x128, .f32⟩
  | 17 => ⟨S128x128, .f32⟩
  | 18 => ⟨S128x128, .f32⟩
  | 19 => ⟨S128x128, .f32⟩
  | 20 => ⟨S1x128x128, .f32⟩
  | 21 => ⟨S_, .f32⟩
  | 22 => ⟨S1x128x128, .f32⟩
  | 23 => ⟨S1x128x128, .i1⟩
  | 24 => ⟨S4x1x1, .f32⟩
  | 25 => ⟨S_, .f32⟩
  | 26 => ⟨S128x128, .f32⟩
  | 27 => ⟨S128x128, .f32⟩
  | 28 => ⟨S1x128x128, .f32⟩
  | 29 => ⟨S4x128x128, .f32⟩
  | 30 => ⟨S4x128x128, .f32⟩
  | 31 => ⟨S4x128x128, .f32⟩
  | 32 => ⟨S4x128x128, .f32⟩
  | 33 => ⟨S_, .f32⟩
  | 34 => ⟨S_, .f32⟩
  | 35 => ⟨S4x128x128, .i1⟩
  | 36 => ⟨S4x128x128, .f32⟩
  | 37 => ⟨S4x128x128, .f32⟩
  | 38 => ⟨S1x4, .f32⟩
  | 39 => ⟨S128x1, .f32⟩
  | 40 => ⟨S_, .f32⟩
  | 41 => ⟨S128x1, .f32⟩
  | 42 => ⟨S128x1, .f32⟩
  | 43 => ⟨S128x4, .f32⟩
  | 44 => ⟨S128x4, .f32⟩
  | 45 => ⟨S128x4, .f32⟩
  | 46 => ⟨S128x4, .f32⟩
  | 47 => ⟨S1x4, .f32⟩
  | 48 => ⟨S128x1, .f32⟩
  | 49 => ⟨S_, .f32⟩
  | 50 => ⟨S128x1, .f32⟩
  | 51 => ⟨S128x1, .f32⟩
  | 52 => ⟨S128x4, .f32⟩
  | 53 => ⟨S128x4, .f32⟩
  | 54 => ⟨S128x4, .f32⟩
  | 55 => ⟨S128x4, .f32⟩
  | 56 => ⟨S_, .f32⟩
  | 57 => ⟨S4, .f32⟩
  | 58 => ⟨S4, .f32⟩
  | 59 => ⟨S4, .f32⟩
  | 60 => ⟨S128x4x128, .f32⟩
  | 61 => ⟨S128x512, .f32⟩
  | 62 => ⟨S128x4x128, .f32⟩
  | 63 => ⟨S128x512, .f32⟩
  | 64 => ⟨S4x128, .f32⟩
  | 65 => ⟨S512, .f32⟩
  | 66 => ⟨S1x512, .f32⟩
  | 67 => ⟨S8x512, .f32⟩
  | 68 => ⟨S16384, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S63, .f32⟩
  | 77 => ⟨S_, .f32⟩
  | 78 => ⟨S63, .f32⟩
  | 79 => ⟨S63, .f32⟩
  | 80 => ⟨S1, .f32⟩
  | 81 => ⟨S_, .f32⟩
  | 82 => ⟨S63, .f32⟩
  | 83 => ⟨S63, .f32⟩
  | 84 => ⟨S63, .f32⟩
  | 85 => ⟨S63, .f32⟩
  | 86 => ⟨S1, .f32⟩
  | 87 => ⟨S63, .f32⟩
  | 88 => ⟨S63, .f32⟩
  | 89 => ⟨S63, .f32⟩
  | 90 => ⟨S1, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64x2, .f32⟩
  | 99 => ⟨S128, .f32⟩
  | 100 => ⟨S128, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S128, .i32⟩
  | 108 => ⟨S128, .i32⟩
  | 109 => ⟨S_, .i32⟩
  | 110 => ⟨S128, .i32⟩
  | 111 => ⟨S128, .i1⟩
  | 112 => ⟨S_, .i32⟩
  | 113 => ⟨S128, .i32⟩
  | 114 => ⟨S128, .i1⟩
  | 115 => ⟨S_, .i32⟩
  | 116 => ⟨S_, .i1⟩
  | 117 => ⟨S128, .i1⟩
  | 118 => ⟨S128, .i1⟩
  | 119 => ⟨S128, .i1⟩
  | 120 => ⟨S128, .i32⟩
  | 121 => ⟨S128, .i32⟩
  | 122 => ⟨S128, .i32⟩
  | 123 => ⟨S_, .i32⟩
  | 124 => ⟨S128, .i32⟩
  | 125 => ⟨S128, .i1⟩
  | 126 => ⟨S_, .f32⟩
  | 127 => ⟨S_, .f32⟩
  | _ => ⟨S16384x2816, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S16384x1, .f32⟩
  | 5 => ⟨S1x128, .f32⟩
  | 6 => ⟨S16384x128, .f32⟩
  | 7 => ⟨S16384x128, .f32⟩
  | 8 => ⟨S16384x128, .f32⟩
  | 9 => ⟨S16384x128, .f32⟩
  | 10 => ⟨S1x128, .f32⟩
  | 11 => ⟨S16384x128, .f32⟩
  | 12 => ⟨S16384x128, .f32⟩
  | 13 => ⟨S16384x1, .f32⟩
  | 14 => ⟨S1x128, .f32⟩
  | 15 => ⟨S16384x128, .f32⟩
  | 16 => ⟨S16384x128, .f32⟩
  | 17 => ⟨S16384x128, .f32⟩
  | 18 => ⟨S16384x128, .f32⟩
  | 19 => ⟨S16384x512, .f32⟩
  | 20 => ⟨S128x128x2x4x64, .f32⟩
  | 21 => ⟨S16384x128, .f32⟩
  | 22 => ⟨S128x128x2x64, .f32⟩
  | 23 => ⟨S_, .f32⟩
  | 24 => ⟨S1x128x2x64, .f32⟩
  | 25 => ⟨S127x128x2x64, .f32⟩
  | 26 => ⟨S128x128x2x64, .f32⟩
  | 27 => ⟨S128x256x2x64, .f32⟩
  | 28 => ⟨S128x2x256x128x4, .f32⟩
  | 29 => ⟨S128x2x4x128x256, .f32⟩
  | 30 => ⟨S_, .f32⟩
  | 31 => ⟨S128x2x4x128x256, .f32⟩
  | 32 => ⟨S128x2x4x128x256, .f32⟩
  | 33 => ⟨S128, .i32⟩
  | 34 => ⟨S128x1, .i32⟩
  | 35 => ⟨S_, .i32⟩
  | 36 => ⟨S128x1, .i32⟩
  | 37 => ⟨S128x1, .i32⟩
  | 38 => ⟨S256, .i32⟩
  | 39 => ⟨S1x256, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S1x128x256, .i1⟩
  | 51 => ⟨S128, .i32⟩
  | 52 => ⟨S128x1x1, .i32⟩
  | 53 => ⟨S_, .i32⟩
  | 54 => ⟨S128x1x1, .i32⟩
  | 55 => ⟨S128x1x1, .i1⟩
  | 56 => ⟨S256, .i32⟩
  | 57 => ⟨S1x256, .i32⟩
  | 58 => ⟨S_, .i32⟩
  | 59 => ⟨S1x256, .i32⟩
  | 60 => ⟨S1x256, .i1⟩
  | 61 => ⟨S1x1x256, .i1⟩
  | 62 => ⟨S128x1x256, .i1⟩
  | 63 => ⟨S128x1x256, .i1⟩
  | 64 => ⟨S128x1x256, .i1⟩
  | 65 => ⟨S128x128x256, .i1⟩
  | 66 => ⟨S128x128x256, .i1⟩
  | 67 => ⟨S128x128x256, .i1⟩
  | 68 => ⟨S128x1x1x128x256, .i1⟩
  | 69 => ⟨S_, .f32⟩
  | 70 => ⟨S_, .f32⟩
  | 71 => ⟨S128x2x4x128x256, .i1⟩
  | 72 => ⟨S128x2x4x128x256, .f32⟩
  | 73 => ⟨S128x2x4x128x256, .f32⟩
  | 74 => ⟨S2x4, .f32⟩
  | 75 => ⟨S1x2x4x1x1, .f32⟩
  | 76 => ⟨S128x2x4x128x1, .f32⟩
  | 77 => ⟨S128x2x4x128x257, .f32⟩
  | 78 => ⟨S_, .f32⟩
  | 79 => ⟨S128x2x4x128, .f32⟩
  | 80 => ⟨S_, .f32⟩
  | 81 => ⟨S128x2x4x128, .f32⟩
  | 82 => ⟨S128x2x4x128, .f32⟩
  | 83 => ⟨S128x2x4x128x1, .f32⟩
  | 84 => ⟨S128x2x4x128x257, .f32⟩
  | 85 => ⟨S128x2x4x128x257, .f32⟩
  | 86 => ⟨S128x2x4x128x257, .f32⟩
  | 87 => ⟨S_, .f32⟩
  | 88 => ⟨S128x2x4x128, .f32⟩
  | 89 => ⟨S128x2x4x128x1, .f32⟩
  | 90 => ⟨S128x2x4x128x257, .f32⟩
  | 91 => ⟨S128x2x4x128x257, .f32⟩
  | 92 => ⟨S128x2x4x128x1, .f32⟩
  | 93 => ⟨S128x2x512x1, .f32⟩
  | 94 => ⟨S128x2x4x128x256, .f32⟩
  | 95 => ⟨S128x2x512x256, .f32⟩
  | 96 => ⟨S128x2x4x128x64, .f32⟩
  | 97 => ⟨S128x2x512x64, .f32⟩
  | 98 => ⟨S_, .f32⟩
  | 99 => ⟨S128x1x512x64, .f32⟩
  | 100 => ⟨S128x1x512x64, .f32⟩
  | 101 => ⟨S128x1x512x128, .f32⟩
  | 102 => ⟨S128x1x512x64, .f32⟩
  | 103 => ⟨S128x1x512x128, .f32⟩
  | 104 => ⟨S128x2x512x128, .f32⟩
  | 105 => ⟨S16384x1x128, .f32⟩
  | 106 => ⟨S16384x1x128, .f32⟩
  | 107 => ⟨S16384x512, .f32⟩
  | 108 => ⟨S16384x4x128, .f32⟩
  | 109 => ⟨S16384x512, .f32⟩
  | 110 => ⟨S16384x4x128, .f32⟩
  | 111 => ⟨S_, .f32⟩
  | 112 => ⟨S16384x4x128, .f32⟩
  | 113 => ⟨S16384x4x128, .f32⟩
  | 114 => ⟨S16384x4x128, .f32⟩
  | 115 => ⟨S16384x4x128, .f32⟩
  | 116 => ⟨S16384x4x64, .f32⟩
  | 117 => ⟨S16384x4x64, .f32⟩
  | 118 => ⟨S16384x4x64x1, .f32⟩
  | 119 => ⟨S16384x4x64x1, .f32⟩
  | 120 => ⟨S16384x4x64x2, .f32⟩
  | 121 => ⟨S16384x4x128, .f32⟩
  | 122 => ⟨S16384x4x128, .f32⟩
  | 123 => ⟨S16384x4x128, .f32⟩
  | 124 => ⟨S16384x4x128, .f32⟩
  | 125 => ⟨S16384x4x128, .f32⟩
  | 126 => ⟨S16384x4x128, .f32⟩
  | 127 => ⟨S16384x4x64, .f32⟩
  | _ => ⟨S16384x2816, .f32⟩

abbrev hbmTy0_2 (i : Nat) : BufTy := match i % 128 with
  | 0 => ⟨S16384x4x64, .f32⟩
  | 1 => ⟨S16384x4x64x1, .f32⟩
  | 2 => ⟨S16384x4x64x1, .f32⟩
  | 3 => ⟨S16384x4x64x2, .f32⟩
  | 4 => ⟨S16384x4x128, .f32⟩
  | 5 => ⟨S16384x4x128, .f32⟩
  | 6 => ⟨S16384x4x128, .f32⟩
  | 7 => ⟨S16384x4x128, .f32⟩
  | 8 => ⟨S16384x512, .f32⟩
  | 9 => ⟨S16384x512, .f32⟩
  | 10 => ⟨S128x128x512, .f32⟩
  | 11 => ⟨S1x128x512, .f32⟩
  | 12 => ⟨S128x128x512, .f32⟩
  | 13 => ⟨S128x128x512, .f32⟩
  | 14 => ⟨S16384x512, .f32⟩
  | 15 => ⟨S128x128x4x128, .f32⟩
  | 16 => ⟨S128x128x4x128, .f32⟩
  | 17 => ⟨S128x128x4x128, .f32⟩
  | 18 => ⟨S16384x512, .f32⟩
  | 19 => ⟨S128x128x4x128, .f32⟩
  | 20 => ⟨S128x128x1x4x128, .f32⟩
  | 21 => ⟨S128x1x128x4x128, .f32⟩
  | 22 => ⟨S128x128x128x4x128, .f32⟩
  | 23 => ⟨S128x128x128x4x128, .f32⟩
  | 24 => ⟨S128x128x128x4x128, .f32⟩
  | 25 => ⟨S_, .f32⟩
  | 26 => ⟨S128x128x128x4, .f32⟩
  | 27 => ⟨S128x4x128x128, .f32⟩
  | 28 => ⟨S1x4x128x128, .f32⟩
  | 29 => ⟨S128x4x128x128, .f32⟩
  | 30 => ⟨S128x4x128x128, .f32⟩
  | 31 => ⟨S128x128x4x128x1, .f32⟩
  | 32 => ⟨S128x128x4x1x128, .f32⟩
  | 33 => ⟨S128x128x4x128x128, .f32⟩
  | 34 => ⟨S128x128x4x128x128, .f32⟩
  | 35 => ⟨S128x128x4x128x128, .f32⟩
  | 36 => ⟨S_, .f32⟩
  | 37 => ⟨S128x4x128x128, .f32⟩
  | 38 => ⟨S4, .f32⟩
  | 39 => ⟨S_, .f32⟩
  | 40 => ⟨S4, .f32⟩
  | 41 => ⟨S4, .f32⟩
  | 42 => ⟨S_, .f32⟩
  | 43 => ⟨S4, .f32⟩
  | 44 => ⟨S4, .f32⟩
  | 45 => ⟨S_, .f32⟩
  | 46 => ⟨S4, .f32⟩
  | 47 => ⟨S4, .f32⟩
  | 48 => ⟨S4, .f32⟩
  | 49 => ⟨S128, .i32⟩
  | 50 => ⟨S128x1, .i32⟩
  | 51 => ⟨S_, .i32⟩
  | 52 => ⟨S128x1, .i32⟩
  | 53 => ⟨S128x1, .i32⟩
  | 54 => ⟨S128, .i32⟩
  | 55 => ⟨S1x128, .i32⟩
  | 56 => ⟨S128x128, .i32⟩
  | 57 => ⟨S128x128, .i32⟩
  | 58 => ⟨S128x128, .i32⟩
  | 59 => ⟨S1x128x128, .i32⟩
  | 60 => ⟨S_, .i32⟩
  | 61 => ⟨S1x128x128, .i32⟩
  | 62 => ⟨S1x128x128, .i1⟩
  | 63 => ⟨S4x1x1, .f32⟩
  | 64 => ⟨S1x128x128, .i32⟩
  | 65 => ⟨S1x128x128, .f32⟩
  | 66 => ⟨S_, .f32⟩
  | 67 => ⟨S1x128x128, .f32⟩
  | 68 => ⟨S1x128x128, .f32⟩
  | 69 => ⟨S4x128x128, .f32⟩
  | 70 => ⟨S4x128x128, .f32⟩
  | 71 => ⟨S4x128x128, .f32⟩
  | 72 => ⟨S4x128x128, .f32⟩
  | 73 => ⟨S_, .f32⟩
  | 74 => ⟨S_, .f32⟩
  | 75 => ⟨S4x128x128, .i1⟩
  | 76 => ⟨S4x128x128, .f32⟩
  | 77 => ⟨S4x128x128, .f32⟩
  | 78 => ⟨S128x128x4, .f32⟩
  | 79 => ⟨S128x128x4x1x1, .f32⟩
  | 80 => ⟨S1x128x4x128x128, .f32⟩
  | 81 => ⟨S128x128x4x128x128, .f32⟩
  | 82 => ⟨S128x128x4x128x128, .f32⟩
  | 83 => ⟨S128x128x4x128x128, .f32⟩
  | 84 => ⟨S_, .f32⟩
  | 85 => ⟨S128x4x128x128, .f32⟩
  | 86 => ⟨S128x128x4x128x1, .f32⟩
  | 87 => ⟨S128x1x4x128x128, .f32⟩
  | 88 => ⟨S128x128x4x128x128, .f32⟩
  | 89 => ⟨S128x128x4x128x128, .f32⟩
  | 90 => ⟨S128x128x4x128x128, .f32⟩
  | 91 => ⟨S_, .f32⟩
  | 92 => ⟨S128x128x4x128, .f32⟩
  | 93 => ⟨S1x128x512, .f32⟩
  | 94 => ⟨S128x128x512, .f32⟩
  | 95 => ⟨S128x128x4x128, .f32⟩
  | 96 => ⟨S128x128x4x128, .f32⟩
  | 97 => ⟨S128x128x128x4, .f32⟩
  | 98 => ⟨S128x128x128x4x1, .f32⟩
  | 99 => ⟨S128x1x128x4x128, .f32⟩
  | 100 => ⟨S128x128x128x4x128, .f32⟩
  | 101 => ⟨S128x128x128x4x128, .f32⟩
  | 102 => ⟨S128x128x128x4x128, .f32⟩
  | 103 => ⟨S_, .f32⟩
  | 104 => ⟨S128x128x4x128, .f32⟩
  | 105 => ⟨S128x128x4x128, .f32⟩
  | 106 => ⟨S_, .f32⟩
  | 107 => ⟨S128x128x4, .f32⟩
  | 108 => ⟨S128x128x4x1, .f32⟩
  | 109 => ⟨S_, .f32⟩
  | 110 => ⟨S128x128x4x1, .f32⟩
  | 111 => ⟨S128x128x4x1, .f32⟩
  | 112 => ⟨S128x128x4x128, .f32⟩
  | 113 => ⟨S128x128x4x128, .f32⟩
  | 114 => ⟨S128x128x4x128, .f32⟩
  | 115 => ⟨S_, .f32⟩
  | 116 => ⟨S128x128x4, .f32⟩
  | 117 => ⟨S128x128x4x1, .f32⟩
  | 118 => ⟨S_, .f32⟩
  | 119 => ⟨S128x128x4x1, .f32⟩
  | 120 => ⟨S128x128x4x1, .f32⟩
  | 121 => ⟨S_, .f32⟩
  | 122 => ⟨S128x128x4x1, .f32⟩
  | 123 => ⟨S128x128x4x1, .f32⟩
  | 124 => ⟨S128x128x4x1, .f32⟩
  | 125 => ⟨S128x128x4x128, .f32⟩
  | 126 => ⟨S128x128x4x128, .f32⟩
  | 127 => ⟨S128x128x4x128, .f32⟩
  | _ => ⟨S16384x2816, .f32⟩

abbrev hbmTy0_3 (i : Nat) : BufTy := match i % 128 with
  | 0 => ⟨S128x128x4x128, .f32⟩
  | 1 => ⟨S16384x512, .f32⟩
  | 2 => ⟨S128x2x512x256, .bf16⟩
  | 3 => ⟨S128x4x128x128, .bf16⟩
  | 4 => ⟨S128x4x128x1, .f32⟩
  | 5 => ⟨S16384x512, .bf16⟩
  | 6 => ⟨S16384x512, .bf16⟩
  | 7 => ⟨S16384x512, .bf16⟩
  | 8 => ⟨S128x2x512x128, .bf16⟩
  | 9 => ⟨S16384x512, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S16384x1024, .bf16⟩
  | 19 => ⟨S16384x2816, .bf16⟩
  | 20 => ⟨S1x128, .f32⟩
  | _ => ⟨S16384x2816, .f32⟩

abbrev hbmTy (i : Nat) : BufTy := match i / 128 with
  | 0 => hbmTy0_0 i
  | 1 => hbmTy0_1 i
  | 2 => hbmTy0_2 i
  | 3 => hbmTy0_3 i
  | _ => ⟨S16384x2816, .f32⟩

abbrev bufTy : (tb : Table) → Fin (tcTables nBuf tb) → BufTy
  | .hbm, ⟨i, _⟩ => hbmTy i
  | .local _ .vmem, ⟨0, _⟩ => ⟨S512x2816, .f32⟩
  | .local _ .vmem, ⟨1, _⟩ => ⟨S512x2816, .f32⟩
  | .local _ .vmem, ⟨2, _⟩ => ⟨S128x256, .f32⟩
  | .local _ .vmem, ⟨3, _⟩ => ⟨S128x256, .f32⟩
  | .local _ .vmem, ⟨4, _⟩ => ⟨S512x1024, .bf16⟩
  | .local _ .vmem, ⟨5, _⟩ => ⟨S512x1024, .bf16⟩
  | .local _ .vmem, ⟨6, _⟩ => ⟨S4x4x128x128, .f32⟩
  | .local _ .vmem, ⟨7, _⟩ => ⟨S4x4x128x128, .f32⟩
  | .local _ .vmem, ⟨8, _⟩ => ⟨S4x2x512x256, .bf16⟩
  | .local _ .vmem, ⟨9, _⟩ => ⟨S4x2x512x256, .bf16⟩
  | .local _ .vmem, ⟨10, _⟩ => ⟨S4x2x512x1, .f32⟩
  | .local _ .vmem, ⟨11, _⟩ => ⟨S4x2x512x1, .f32⟩
  | .local _ .vmem, ⟨12, _⟩ => ⟨S4x4x128x128, .bf16⟩
  | .local _ .vmem, ⟨13, _⟩ => ⟨S4x4x128x128, .bf16⟩
  | .local _ .vmem, ⟨14, _⟩ => ⟨S512x512, .f32⟩
  | .local _ .vmem, ⟨15, _⟩ => ⟨S512x512, .f32⟩
  | .local _ .vmem, ⟨16, _⟩ => ⟨S4x4x128x1, .f32⟩
  | .local _ .vmem, ⟨17, _⟩ => ⟨S4x4x128x1, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x2x512x128, .bf16⟩
  | .local _ .vmem, ⟨25, _⟩ => ⟨S4x2x512x128, .bf16⟩
  | .local _ .vmem, ⟨26, _⟩ => ⟨S512x512, .f32⟩
  | .local _ .vmem, ⟨27, _⟩ => ⟨S512x512, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S4x128x128, .f32⟩
  | .local _ .vmem, ⟨33, _⟩ => ⟨S128x512, .f32⟩
  | .local _ .vmem, ⟨34, _⟩ => ⟨S128x512, .f32⟩
  | .local _ .vmem, ⟨35, _⟩ => ⟨S8x512, .f32⟩
  | .local _ .vmem, ⟨36, _⟩ => ⟨S512x2816, .bf16⟩
  | .local _ .vmem, ⟨37, _⟩ => ⟨S512x2816, .bf16⟩
  | .local _ .vmem, ⟨38, _⟩ => ⟨S1x128, .f32⟩
  | .local _ .vmem, ⟨39, _⟩ => ⟨S4x128x128, .f32⟩
  | .local _ .vmem, ⟨40, _⟩ => ⟨S128x256, .f32⟩
  | .local _ .vmem, ⟨41, _⟩ => ⟨S128x128, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_cst : Ref sig .tc := ⟨.hbm, 74, rfl⟩
abbrev main_call1_v3 : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_v15 : Ref sig .tc := ⟨.hbm, 89, rfl⟩
abbrev main_call1_v16 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_c_1 : Ref sig .tc := ⟨.hbm, 109, rfl⟩
abbrev main_call2_v5 : Ref sig .tc := ⟨.hbm, 110, rfl⟩
abbrev main_call2_v6 : Ref sig .tc := ⟨.hbm, 111, rfl⟩
abbrev main_call2_c_2 : Ref sig .tc := ⟨.hbm, 112, rfl⟩
abbrev main_call2_v7 : Ref sig .tc := ⟨.hbm, 113, rfl⟩
abbrev main_call2_v8 : Ref sig .tc := ⟨.hbm, 114, rfl⟩
abbrev main_call2_c_3 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_v62 : Ref sig .tc := ⟨.hbm, 122, rfl⟩
abbrev main_c_12 : Ref sig .tc := ⟨.hbm, 123, rfl⟩
abbrev main_v63 : Ref sig .tc := ⟨.hbm, 124, rfl⟩
abbrev main_v64 : Ref sig .tc := ⟨.hbm, 125, rfl⟩
abbrev main_cst_13 : Ref sig .tc := ⟨.hbm, 126, rfl⟩
abbrev main_cst_14 : Ref sig .tc := ⟨.hbm, 127, rfl⟩
abbrev main_call3_v0 : Ref sig .tc := ⟨.hbm, 128, rfl⟩
abbrev main_call3_v1 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_15 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_16 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_c_17 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_c_18 : Ref sig .tc := ⟨.hbm, 171, rfl⟩
abbrev main_v103 : Ref sig .tc := ⟨.hbm, 172, rfl⟩
abbrev main_v104 : Ref sig .tc := ⟨.hbm, 173, rfl⟩
abbrev main_c_19 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_c_20 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_c_21 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_cst_22 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_cst_23 : Ref sig .tc := ⟨.hbm, 206, rfl⟩
abbrev main_v130 : Ref sig .tc := ⟨.hbm, 207, rfl⟩
abbrev main_cst_24 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_25 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_26 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_27 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_cst_28 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_cst_29 : Ref sig .tc := ⟨.hbm, 292, rfl⟩
abbrev main_v210 : Ref sig .tc := ⟨.hbm, 293, rfl⟩
abbrev main_v211 : Ref sig .tc := ⟨.hbm, 294, rfl⟩
abbrev main_cst_30 : Ref sig .tc := ⟨.hbm, 295, rfl⟩
abbrev main_v212 : Ref sig .tc := ⟨.hbm, 296, rfl⟩
abbrev main_v213 : Ref sig .tc := ⟨.hbm, 297, rfl⟩
abbrev main_cst_31 : Ref sig .tc := ⟨.hbm, 298, rfl⟩
abbrev main_v214 : Ref sig .tc := ⟨.hbm, 299, rfl⟩
abbrev main_v215 : Ref sig .tc := ⟨.hbm, 300, rfl⟩
abbrev main_cst_32 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_c_33 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_c_34 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_cst_35 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_cst_36 : Ref sig .tc := ⟨.hbm, 329, rfl⟩
abbrev main_call5_v0 : Ref sig .tc := ⟨.hbm, 330, rfl⟩
abbrev main_call5_v1 : Ref sig .tc := ⟨.hbm, 331, rfl⟩
abbrev main_call5_v2 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_cst_37 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_cst_38 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_cst_39 : Ref sig .tc := ⟨.hbm, 359, rfl⟩
abbrev main_v264 : Ref sig .tc := ⟨.hbm, 360, rfl⟩
abbrev main_v265 : Ref sig .tc := ⟨.hbm, 361, rfl⟩
abbrev main_cst_40 : Ref sig .tc := ⟨.hbm, 362, rfl⟩
abbrev main_v266 : Ref sig .tc := ⟨.hbm, 363, rfl⟩
abbrev main_v267 : Ref sig .tc := ⟨.hbm, 364, rfl⟩
abbrev main_cst_41 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_cst_42 : Ref sig .tc := ⟨.hbm, 371, rfl⟩
abbrev main_v273 : Ref sig .tc := ⟨.hbm, 372, rfl⟩
abbrev main_v274 : Ref sig .tc := ⟨.hbm, 373, rfl⟩
abbrev main_cst_43 : Ref sig .tc := ⟨.hbm, 374, rfl⟩
abbrev main_v275 : Ref sig .tc := ⟨.hbm, 375, rfl⟩
abbrev main_v276 : Ref sig .tc := ⟨.hbm, 376, rfl⟩
abbrev main_cst_44 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_cst_45 : Ref sig .tc := ⟨.hbm, 396, rfl⟩
abbrev main_v295 : Ref sig .tc := ⟨.hbm, 397, rfl⟩
abbrev main_v296 : Ref sig .tc := ⟨.hbm, 398, rfl⟩
abbrev main_cst_46 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300_0 : Ref sig .tc := ⟨.hbm, 403, rfl⟩
abbrev main_v300_1 : Ref sig .tc := ⟨.hbm, 404, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37
abbrev cc0_sem21_0 : DmaSem sig := 38

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2411 : BitVec 1 := Scalar.cmpi .eq arg0 c31_i32
  let v2412 : BitVec 32 := Scalar.extui v2411
  let c0_i32_1396 : BitVec 32 := 0#32
  let v2413 : BitVec 1 := Scalar.cmpi .ne v2412 c0_i32_1396
  v2413

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference2Ideal.lean ====
abbrev S16384x2816 : Shape := ⟨2, ![16384, 2816]⟩
abbrev S1x8 : Shape := ⟨2, ![1, 8]⟩
abbrev S16384x1024 : Shape := ⟨2, ![16384, 1024]⟩
abbrev S16384x512 : Shape := ⟨2, ![16384, 512]⟩
abbrev S1x16384x512 : Shape := ⟨3, ![1, 16384, 512]⟩
abbrev S16384x128 : Shape := ⟨2, ![16384, 128]⟩
abbrev S1x16384x128 : Shape := ⟨3, ![1, 16384, 128]⟩
abbrev S8 : Shape := ⟨1, ![8]⟩
abbrev S1x128x128x2x4x64 : Shape := ⟨6, ![1, 128, 128, 2, 4, 64]⟩
abbrev S1x128x128x2x64 : Shape := ⟨5, ![1, 128, 128, 2, 64]⟩
abbrev S_ : Shape := ⟨0, ![]⟩
abbrev S1x1x128x2x64 : Shape := ⟨5, ![1, 1, 128, 2, 64]⟩
abbrev S1x127x128x2x64 : Shape := ⟨5, ![1, 127, 128, 2, 64]⟩
abbrev S1x128x256x2x64 : Shape := ⟨5, ![1, 128, 256, 2, 64]⟩
abbrev S1x128x2x256x128x4 : Shape := ⟨6, ![1, 128, 2, 256, 128, 4]⟩
abbrev S1x128x2x4x128x256 : Shape := ⟨6, ![1, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x1x128x256 : Shape := ⟨6, ![1, 128, 1, 1, 128, 256]⟩
abbrev S2x4 : Shape := ⟨2, ![2, 4]⟩
abbrev S1x1x2x4x1x1 : Shape := ⟨6, ![1, 1, 2, 4, 1, 1]⟩
abbrev S1x128x2x4x128x1 : Shape := ⟨6, ![1, 128, 2, 4, 128, 1]⟩
abbrev S1x128x2x4x128x257 : Shape := ⟨6, ![1, 128, 2, 4, 128, 257]⟩
abbrev S1x128x2x4x128 : Shape := ⟨5, ![1, 128, 2, 4, 128]⟩
abbrev S1x128x2x64x4x128 : Shape := ⟨6, ![1, 128, 2, 64, 4, 128]⟩
abbrev S1x128x2x64x256 : Shape := ⟨5, ![1, 128, 2, 64, 256]⟩
abbrev S128x2x4x128 : Shape := ⟨4, ![128, 2, 4, 128]⟩
abbrev S1x128x2x128x4x64 : Shape := ⟨6, ![1, 128, 2, 128, 4, 64]⟩
abbrev S1x128x2x256x64 : Shape := ⟨5, ![1, 128, 2, 256, 64]⟩
abbrev S16384x2048 : Shape := ⟨2, ![16384, 2048]⟩
abbrev S1x120 : Shape := ⟨2, ![1, 120]⟩
abbrev S1x128 : Shape := ⟨2, ![1, 128]⟩

abbrev nBuf : Space → Nat
  | .hbm => 188
  | .vmem => 0
  | .smem => 0
  | _ => 0

abbrev hbmTy0_0 (i : Nat) : BufTy := match i % 128 with
  | 0 => ⟨S16384x2816, .f32⟩
  | 1 => ⟨S1x8, .f32⟩
  | 2 => ⟨S16384x1024, .f32⟩
  | 3 => ⟨S16384x512, .f32⟩
  | 4 => ⟨S1x16384x512, .f32⟩
  | 5 => ⟨S16384x128, .f32⟩
  | 6 => ⟨S1x16384x128, .f32⟩
  | 7 => ⟨S16384x128, .f32⟩
  | 8 => ⟨S1x16384x128, .f32⟩
  | 9 => ⟨S8, .f32⟩
  | 10 => ⟨S1x128x128x2x4x64, .f32⟩
  | 11 => ⟨S1x128x128x2x64, .f32⟩
  | 12 => ⟨S1x128x128x2x64, .f32⟩
  | 13 => ⟨S_, .f32⟩
  | 14 => ⟨S1x1x128x2x64, .f32⟩
  | 15 => ⟨S1x127x128x2x64, .f32⟩
  | 16 => ⟨S1x128x128x2x64, .f32⟩
  | 17 => ⟨S_, .f32⟩
  | 18 => ⟨S1x1x128x2x64, .f32⟩
  | 19 => ⟨S1x128x256x2x64, .f32⟩
  | 20 => ⟨S1x127x128x2x64, .f32⟩
  | 21 => ⟨S1x128x128x2x64, .f32⟩
  | 22 => ⟨S_, .f32⟩
  | 23 => ⟨S1x1x128x2x64, .f32⟩
  | 24 => ⟨S1x128x256x2x64, .f32⟩
  | 25 => ⟨S1x128x2x256x128x4, .f32⟩
  | 26 => ⟨S1x128x2x4x128x256, .f32⟩
  | 27 => ⟨S_, .f32⟩
  | 28 => ⟨S1x128x2x4x128x256, .f32⟩
  | 29 => ⟨S1x128x2x4x128x256, .f32⟩
  | 30 => ⟨S128, .i32⟩
  | 31 => ⟨S128x1, .i32⟩
  | 32 => ⟨S_, .i32⟩
  | 33 => ⟨S128x1, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S128, .i32⟩
  | 48 => ⟨S128x1x1, .i32⟩
  | 49 => ⟨S_, .i32⟩
  | 50 => ⟨S128x1x1, .i32⟩
  | 51 => ⟨S128x1x1, .i1⟩
  | 52 => ⟨S_, .i32⟩
  | 53 => ⟨S1x256, .i32⟩
  | 54 => ⟨S1x256, .i1⟩
  | 55 => ⟨S1x1x256, .i1⟩
  | 56 => ⟨S128x1x256, .i1⟩
  | 57 => ⟨S128x1x256, .i1⟩
  | 58 => ⟨S128x1x256, .i1⟩
  | 59 => ⟨S1x128x256, .i1⟩
  | 60 => ⟨S128x128x256, .i1⟩
  | 61 => ⟨S128x128x256, .i1⟩
  | 62 => ⟨S128x128x256, .i1⟩
  | 63 => ⟨S1x128x1x1x128x256, .i1⟩
  | 64 => ⟨S_, .f32⟩
  | 65 => ⟨S_, .f32⟩
  | 66 => ⟨S1x128x2x4x128x256, .i1⟩
  | 67 => ⟨S1x128x2x4x128x256, .f32⟩
  | 68 => ⟨S1x128x2x4x128x256, .f32⟩
  | 69 => ⟨S_, .f32⟩
  | 70 => ⟨S1x128x2x4x128x256, .f32⟩
  | 71 => ⟨S2x4, .f32⟩
  | 72 => ⟨S1x1x2x4x1x1, .f32⟩
  | 73 => ⟨S1x128x2x4x128x1, .f32⟩
  | 74 => ⟨S1x128x2x4x128x257, .f32⟩
  | 75 => ⟨S_, .f32⟩
  | 76 => ⟨S1x128x2x4x128, .f32⟩
  | 77 => ⟨S1x128x2x4x128x1, .f32⟩
  | 78 => ⟨S1x128x2x4x128x257, .f32⟩
  | 79 => ⟨S1x128x2x4x128x257, .i1⟩
  | 80 => ⟨S1x128x2x4x128x257, .f32⟩
  | 81 => ⟨S_, .f32⟩
  | 82 => ⟨S1x128x2x4x128, .f32⟩
  | 83 => ⟨S_, .f32⟩
  | 84 => ⟨S1x128x2x4x128, .f32⟩
  | 85 => ⟨S1x128x2x4x128, .f32⟩
  | 86 => ⟨S_, .f32⟩
  | 87 => ⟨S1x128x2x4x128, .f32⟩
  | 88 => ⟨S1x128x2x4x128, .i1⟩
  | 89 => ⟨S_, .f32⟩
  | 90 => ⟨S1x128x2x4x128, .f32⟩
  | 91 => ⟨S1x128x2x4x128, .i1⟩
  | 92 => ⟨S_, .f32⟩
  | 93 => ⟨S1x128x2x4x128, .f32⟩
  | 94 => ⟨S_, .f32⟩
  | 95 => ⟨S1x128x2x4x128, .f32⟩
  | 96 => ⟨S_, .f32⟩
  | 97 => ⟨S1x128x2x4x128, .f32⟩
  | 98 => ⟨S1x128x2x4x128, .f32⟩
  | 99 => ⟨S1x128x2x4x128, .f32⟩
  | 100 => ⟨S1x128x2x4x128x1, .f32⟩
  | 101 => ⟨S1x128x2x4x128x257, .f32⟩
  | 102 => ⟨S1x128x2x4x128x257, .f32⟩
  | 103 => ⟨S1x128x2x4x128x257, .f32⟩
  | 104 => ⟨S_, .f32⟩
  | 105 => ⟨S1x128x2x4x128, .f32⟩
  | 106 => ⟨S1x128x2x4x128x1, .f32⟩
  | 107 => ⟨S1x128x2x4x128x257, .f32⟩
  | 108 => ⟨S1x128x2x4x128x257, .f32⟩
  | 109 => ⟨S1x128x2x4x128x1, .f32⟩
  | 110 => ⟨S_, .f32⟩
  | 111 => ⟨S1x128x2x4x128x1, .f32⟩
  | 112 => ⟨S1x128x2x4x128x1, .f32⟩
  | 113 => ⟨S1x128x2x4x128x256, .f32⟩
  | 114 => ⟨S1x128x2x64x4x128, .f32⟩
  | 115 => ⟨S1x128x128x2x4x64, .f32⟩
  | 116 => ⟨S1x16384x512, .f32⟩
  | 117 => ⟨S16384x512, .f32⟩
  | 118 => ⟨S1x16384x512, .f32⟩
  | 119 => ⟨S1x128x128x2x4x64, .f32⟩
  | 120 => ⟨S1x128x2x64x4x128, .f32⟩
  | 121 => ⟨S1x128x2x4x128x256, .f32⟩
  | 122 => ⟨S1x128x2x64x256, .f32⟩
  | 123 => ⟨S1x128x256x2x64, .f32⟩
  | 124 => ⟨S_, .f32⟩
  | 125 => ⟨S1x128x2x4x128x257, .f32⟩
  | 126 => ⟨S1x128x2x4x128x257, .f32⟩
  | 127 => ⟨S1x128x2x4x128x257, .f32⟩
  | _ => ⟨S16384x2816, .f32⟩

abbrev hbmTy0_1 (i : Nat) : BufTy := match i % 128 with
  | 0 => ⟨S1x128x2x4x128x257, .f32⟩
  | 1 => ⟨S_, .f32⟩
  | 2 => ⟨S1x128x2x4x128, .f32⟩
  | 3 => ⟨S1x128x2x4x128x1, .f32⟩
  | 4 => ⟨S1x128x2x4x128x1, .f32⟩
  | 5 => ⟨S1x128x2x4x128x257, .f32⟩
  | 6 => ⟨S1x128x2x4x128x257, .f32⟩
  | 7 => ⟨S_, .f32⟩
  | 8 => ⟨S128x2x4x128, .f32⟩
  | 9 => ⟨S1x128x2x4x128, .f32⟩
  | 10 => ⟨S1x128x2x4x128x257, .f32⟩
  | 11 => ⟨S1x128x2x4x128x257, .f32⟩
  | 12 => ⟨S1x128x2x4x128x257, .f32⟩
  | 13 => ⟨S1x128x2x4x128x256, .f32⟩
  | 14 => ⟨S1x128x2x4x128x1, .f32⟩
  | 15 => ⟨S_, .f32⟩
  | 16 => ⟨S2x4, .f32⟩
  | 17 => ⟨S1x1x2x4x1x1, .f32⟩
  | 18 => ⟨S_, .f32⟩
  | 19 => ⟨S2x4, .f32⟩
  | 20 => ⟨S8, .f32⟩
  | 21 => ⟨S_, .f32⟩
  | 22 => ⟨S1x128x2x4x128x256, .f32⟩
  | 23 => ⟨S1x128x2x4x128x256, .f32⟩
  | 24 => ⟨S_, .f32⟩
  | 25 => ⟨S1x128x2x4x128x256, .f32⟩
  | 26 => ⟨S1x128x2x4x128x256, .f32⟩
  | 27 => ⟨S1x128x2x256x128x4, .f32⟩
  | 28 => ⟨S1x128x2x128x4x64, .f32⟩
  | 29 => ⟨S1x128x128x2x4x64, .f32⟩
  | 30 => ⟨S1x128x2x256x64, .f32⟩
  | 31 => ⟨S1x128x256x2x64, .f32⟩
  | 32 => ⟨S1x128x128x2x64, .f32⟩
  | 33 => ⟨S1x128x128x2x64, .f32⟩
  | 34 => ⟨S1x1x128x2x64, .f32⟩
  | 35 => ⟨S1x127x128x2x64, .f32⟩
  | 36 => ⟨S_, .f32⟩
  | 37 => ⟨S1x128x128x2x64, .f32⟩
  | 38 => ⟨S1x128x128x2x64, .f32⟩
  | 39 => ⟨S1x128x128x2x64, .f32⟩
  | 40 => ⟨S1x128x128x2x64, .f32⟩
  | 41 => ⟨S1x1x128x2x64, .f32⟩
  | 42 => ⟨S1x127x128x2x64, .f32⟩
  | 43 => ⟨S_, .f32⟩
  | 44 => ⟨S1x128x128x2x64, .f32⟩
  | 45 => ⟨S1x128x128x2x64, .f32⟩
  | 46 => ⟨S1x16384x128, .f32⟩
  | 47 => ⟨S1x16384x128, .f32⟩
  | 48 => ⟨S1x16384x512, .f32⟩
  | 49 => ⟨S1x8, .f32⟩
  | 50 => ⟨S16384x512, .f32⟩
  | 51 => ⟨S16384x128, .f32⟩
  | 52 => ⟨S16384x128, .f32⟩
  | 53 => ⟨S_, .f32⟩
  | 54 => ⟨S16384x2048, .f32⟩
  | 55 => ⟨S16384x2816, .f32⟩
  | 56 => ⟨S16384x2816, .bf16⟩
  | 57 => ⟨S_, .f32⟩
  | 58 => ⟨S1x120, .f32⟩
  | 59 => ⟨S1x128, .f32⟩
  | _ => ⟨S16384x2816, .f32⟩

abbrev hbmTy (i : Nat) : BufTy := match i / 128 with
  | 0 => hbmTy0_0 i
  | 1 => hbmTy0_1 i
  | _ => ⟨S16384x2816, .f32⟩

abbrev bufTy : (tb : Table) → Fin (tcTables nBuf tb) → BufTy
  | .hbm, ⟨i, _⟩ => hbmTy i
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_call0_v0 : Ref sig .tc := ⟨.hbm, 65, rfl⟩
abbrev main_v52_1 : Ref sig .tc := ⟨.hbm, 66, rfl⟩
abbrev main_call0_v2 : Ref sig .tc := ⟨.hbm, 67, rfl⟩
abbrev main_v52_0 : Ref sig .tc := ⟨.hbm, 68, rfl⟩
abbrev main_call0_cst : Ref sig .tc := ⟨.hbm, 69, rfl⟩
abbrev main_v52_2 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_cst_22 : Ref sig .tc := ⟨.hbm, 146, rfl⟩
abbrev main_v114 : Ref sig .tc := ⟨.hbm, 147, rfl⟩
abbrev main_v115 : Ref sig .tc := ⟨.hbm, 148, rfl⟩
abbrev main_call1_cst : Ref sig .tc := ⟨.hbm, 149, rfl⟩
abbrev main_call1_v0 : Ref sig .tc := ⟨.hbm, 150, rfl⟩
abbrev main_v116 : Ref sig .tc := ⟨.hbm, 151, rfl⟩
abbrev main_cst_23 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_24 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_27 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== Reference3Ideal.lean ====
abbrev S16384x2816 : Shape := ⟨2, ![16384, 2816]⟩
abbrev S1x8 : Shape := ⟨2, ![1, 8]⟩
abbrev S16384x1024 : Shape := ⟨2, ![16384, 1024]⟩
abbrev S16384x512 : Shape := ⟨2, ![16384, 512]⟩
abbrev S1x16384x512 : Shape := ⟨3, ![1, 16384, 512]⟩
abbrev S16384 : Shape := ⟨1, ![16384]⟩
abbrev S_ : Shape := ⟨0, ![]⟩
abbrev S63 : Shape := ⟨1, ![63]⟩
abbrev S1 : Shape := ⟨1, ![1]⟩
abbrev S64 : Shape := ⟨1, ![64]⟩
abbrev S64x2 : Shape := ⟨2, ![64, 2]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S1x16384x1x128 : Shape := ⟨4, ![1, 16384, 1, 128]⟩
abbrev S1x16384x4x128 : Shape := ⟨4, ![1, 16384, 4, 128]⟩
abbrev S1x16384x4x64 : Shape := ⟨4, ![1, 16384, 4, 64]⟩
abbrev S1x16384x4x64x1 : Shape := ⟨5, ![1, 16384, 4, 64, 1]⟩
abbrev S1x16384x4x64x2 : Shape := ⟨5, ![1, 16384, 4, 64, 2]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S1x128x128x4x128 : Shape := ⟨5, ![1, 128, 128, 4, 128]⟩
abbrev S1x128x4x128x128 : Shape := ⟨5, ![1, 128, 4, 128, 128]⟩
abbrev S1x1x4x128x128 : Shape := ⟨5, ![1, 1, 4, 128, 128]⟩
abbrev S1x1x128x4x1 : Shape := ⟨5, ![1, 1, 128, 4, 1]⟩
abbrev S4x1x128x128x128 : Shape := ⟨5, ![4, 1, 128, 128, 128]⟩
abbrev S1x16384x4 : Shape := ⟨3, ![1, 16384, 4]⟩
abbrev S1x16384x4x1 : Shape := ⟨4, ![1, 16384, 4, 1]⟩
abbrev S16384x4 : Shape := ⟨2, ![16384, 4]⟩
abbrev S16384x768 : Shape := ⟨2, ![16384, 768]⟩

abbrev nBuf : Space → Nat
  | .hbm => 359
  | .vmem => 0
  | .smem => 0
  | _ => 0

abbrev hbmTy0_0 (i : Nat) : BufTy := match i % 128 with
  | 0 => ⟨S16384x2816, .f32⟩
  | 1 => ⟨S1x8, .f32⟩
  | 2 => ⟨S16384x1024, .f32⟩
  | 3 => ⟨S16384x512, .f32⟩
  | 4 => ⟨S1x16384x512, .f32⟩
  | 5 => ⟨S16384x512, .f32⟩
  | 6 => ⟨S1x16384x512, .f32⟩
  | 7 => ⟨S16384x512, .f32⟩
  | 8 => ⟨S1x16384x512, .f32⟩
  | 9 => ⟨S16384x512, .f32⟩
  | 10 => ⟨S1x16384x512, .f32⟩
  | 11 => ⟨S16384, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S63, .f32⟩
  | 20 => ⟨S_, .f32⟩
  | 21 => ⟨S63, .f32⟩
  | 22 => ⟨S63, .f32⟩
  | 23 => ⟨S1, .f32⟩
  | 24 => ⟨S_, .f32⟩
  | 25 => ⟨S63, .f32⟩
  | 26 => ⟨S63, .f32⟩
  | 27 => ⟨S63, .f32⟩
  | 28 => ⟨S63, .f32⟩
  | 29 => ⟨S1, .f32⟩
  | 30 => ⟨S63, .f32⟩
  | 31 => ⟨S63, .f32⟩
  | 32 => ⟨S63, .f32⟩
  | 33 => ⟨S1, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64x2, .f32⟩
  | 42 => ⟨S128, .f32⟩
  | 43 => ⟨S16384x1, .f32⟩
  | 44 => ⟨S1x128, .f32⟩
  | 45 => ⟨S16384x128, .f32⟩
  | 46 => ⟨S16384x128, .f32⟩
  | 47 => ⟨S16384x128, .f32⟩
  | 48 => ⟨S16384x128, .f32⟩
  | 49 => ⟨S1x16384x1x128, .f32⟩
  | 50 => ⟨S16384x1, .f32⟩
  | 51 => ⟨S1x128, .f32⟩
  | 52 => ⟨S16384x128, .f32⟩
  | 53 => ⟨S16384x128, .f32⟩
  | 54 => ⟨S16384x128, .f32⟩
  | 55 => ⟨S16384x128, .f32⟩
  | 56 => ⟨S1x16384x1x128, .f32⟩
  | 57 => ⟨S1x16384x4x128, .f32⟩
  | 58 => ⟨S1x16384x4x128, .f32⟩
  | 59 => ⟨S_, .f32⟩
  | 60 => ⟨S1x16384x4x128, .f32⟩
  | 61 => ⟨S1x16384x4x128, .f32⟩
  | 62 => ⟨S1x16384x4x128, .f32⟩
  | 63 => ⟨S1x16384x4x128, .f32⟩
  | 64 => ⟨S1x16384x4x128, .f32⟩
  | 65 => ⟨S1x16384x4x64, .f32⟩
  | 66 => ⟨S1x16384x4x64, .f32⟩
  | 67 => ⟨S1x16384x4x64, .f32⟩
  | 68 => ⟨S1x16384x4x64x1, .f32⟩
  | 69 => ⟨S1x16384x4x64x1, .f32⟩
  | 70 => ⟨S1x16384x4x64x2, .f32⟩
  | 71 => ⟨S1x16384x4x128, .f32⟩
  | 72 => ⟨S1x16384x4x128, .f32⟩
  | 73 => ⟨S1x16384x4x128, .f32⟩
  | 74 => ⟨S1x16384x4x128, .f32⟩
  | 75 => ⟨S1x16384x4x128, .f32⟩
  | 76 => ⟨S1x16384x4x128, .f32⟩
  | 77 => ⟨S1x16384x4x64, .f32⟩
  | 78 => ⟨S1x16384x4x64, .f32⟩
  | 79 => ⟨S1x16384x4x64, .f32⟩
  | 80 => ⟨S1x16384x4x64x1, .f32⟩
  | 81 => ⟨S1x16384x4x64x1, .f32⟩
  | 82 => ⟨S1x16384x4x64x2, .f32⟩
  | 83 => ⟨S1x16384x4x128, .f32⟩
  | 84 => ⟨S1x16384x4x128, .f32⟩
  | 85 => ⟨S1x16384x4x128, .f32⟩
  | 86 => ⟨S1x16384x4x128, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S128, .f32⟩
  | 99 => ⟨S128x1, .f32⟩
  | 100 => ⟨S1x128, .f32⟩
  | 101 => ⟨S128x128, .f32⟩
  | 102 => ⟨S128x128, .f32⟩
  | 103 => ⟨S128x128, .f32⟩
  | 104 => ⟨S1x128x128, .f32⟩
  | 105 => ⟨S_, .f32⟩
  | 106 => ⟨S1x128x128, .f32⟩
  | 107 => ⟨S1x128x128, .i1⟩
  | 108 => ⟨S4x1x1, .f32⟩
  | 109 => ⟨S_, .f32⟩
  | 110 => ⟨S128x128, .f32⟩
  | 111 => ⟨S128x128, .f32⟩
  | 112 => ⟨S1x128x128, .f32⟩
  | 113 => ⟨S4x128x128, .f32⟩
  | 114 => ⟨S4x128x128, .f32⟩
  | 115 => ⟨S4x128x128, .f32⟩
  | 116 => ⟨S4x128x128, .f32⟩
  | 117 => ⟨S_, .f32⟩
  | 118 => ⟨S_, .f32⟩
  | 119 => ⟨S4x128x128, .i1⟩
  | 120 => ⟨S4x128x128, .f32⟩
  | 121 => ⟨S4x128x128, .f32⟩
  | 122 => ⟨S1x4, .f32⟩
  | 123 => ⟨S128x1, .f32⟩
  | 124 => ⟨S_, .f32⟩
  | 125 => ⟨S128x1, .f32⟩
  | 126 => ⟨S128x1, .f32⟩
  | 127 => ⟨S128x4, .f32⟩
  | _ => ⟨S16384x2816, .f32⟩

abbrev hbmTy0_1 (i : Nat) : BufTy := match i % 128 with
  | 0 => ⟨S128x4, .f32⟩
  | 1 => ⟨S128x4, .f32⟩
  | 2 => ⟨S128x4, .f32⟩
  | 3 => ⟨S1x4, .f32⟩
  | 4 => ⟨S128x1, .f32⟩
  | 5 => ⟨S_, .f32⟩
  | 6 => ⟨S128x1, .f32⟩
  | 7 => ⟨S128x1, .f32⟩
  | 8 => ⟨S128x4, .f32⟩
  | 9 => ⟨S128x4, .f32⟩
  | 10 => ⟨S128x4, .f32⟩
  | 11 => ⟨S128x4, .f32⟩
  | 12 => ⟨S1x128x128x4x128, .f32⟩
  | 13 => ⟨S1x128x128x4x128, .f32⟩
  | 14 => ⟨S1x128x128x4x128, .f32⟩
  | 15 => ⟨S1x128x4x128x128, .f32⟩
  | 16 => ⟨S1x1x4x128x128, .f32⟩
  | 17 => ⟨S1x128x4x128x128, .f32⟩
  | 18 => ⟨S1x128x4x128x128, .f32⟩
  | 19 => ⟨S1x128x4x128x128, .f32⟩
  | 20 => ⟨S1x128x128x4x128, .f32⟩
  | 21 => ⟨S1x1x128x4x1, .f32⟩
  | 22 => ⟨S1x128x128x4x128, .f32⟩
  | 23 => ⟨S1x128x128x4x128, .f32⟩
  | 24 => ⟨S1x128x4x128x128, .f32⟩
  | 25 => ⟨S128, .i32⟩
  | 26 => ⟨S128x1, .i32⟩
  | 27 => ⟨S_, .i32⟩
  | 28 => ⟨S128x1, .i32⟩
  | 29 => ⟨S128x1, .i32⟩
  | 30 => ⟨S128, .i32⟩
  | 31 => ⟨S1x128, .i32⟩
  | 32 => ⟨S128x128, .i32⟩
  | 33 => ⟨S128x128, .i32⟩
  | 34 => ⟨S128x128, .i32⟩
  | 35 => ⟨S1x128x128, .i32⟩
  | 36 => ⟨S_, .i32⟩
  | 37 => ⟨S1x128x128, .i32⟩
  | 38 => ⟨S1x128x128, .i1⟩
  | 39 => ⟨S4x1x1, .f32⟩
  | 40 => ⟨S1x128x128, .i32⟩
  | 41 => ⟨S1x128x128, .f32⟩
  | 42 => ⟨S_, .f32⟩
  | 43 => ⟨S1x128x128, .f32⟩
  | 44 => ⟨S1x128x128, .f32⟩
  | 45 => ⟨S4x128x128, .f32⟩
  | 46 => ⟨S4x128x128, .f32⟩
  | 47 => ⟨S4x128x128, .f32⟩
  | 48 => ⟨S4x128x128, .f32⟩
  | 49 => ⟨S_, .f32⟩
  | 50 => ⟨S_, .f32⟩
  | 51 => ⟨S4x128x128, .i1⟩
  | 52 => ⟨S4x128x128, .f32⟩
  | 53 => ⟨S4x128x128, .f32⟩
  | 54 => ⟨S4x1x128x128x128, .f32⟩
  | 55 => ⟨S1x128x4x128x128, .f32⟩
  | 56 => ⟨S1x128x4x128x128, .f32⟩
  | 57 => ⟨S1x128x128x4x128, .f32⟩
  | 58 => ⟨S1x1x128x4x1, .f32⟩
  | 59 => ⟨S1x128x128x4x128, .f32⟩
  | 60 => ⟨S1x128x128x4x128, .f32⟩
  | 61 => ⟨S1x128x128x4x128, .f32⟩
  | 62 => ⟨S1x16384x4x128, .f32⟩
  | 63 => ⟨S_, .f32⟩
  | 64 => ⟨S1x16384x4, .f32⟩
  | 65 => ⟨S1x16384x4x1, .f32⟩
  | 66 => ⟨S_, .f32⟩
  | 67 => ⟨S1x16384x4x1, .f32⟩
  | 68 => ⟨S1x16384x4x1, .f32⟩
  | 69 => ⟨S1x16384x4x128, .f32⟩
  | 70 => ⟨S1x16384x4x128, .f32⟩
  | 71 => ⟨S1x16384x4x128, .f32⟩
  | 72 => ⟨S_, .f32⟩
  | 73 => ⟨S1x16384x4x128, .f32⟩
  | 74 => ⟨S1x16384x4x128, .f32⟩
  | 75 => ⟨S_, .f32⟩
  | 76 => ⟨S1x16384x4, .f32⟩
  | 77 => ⟨S1x16384x4x1, .f32⟩
  | 78 => ⟨S_, .f32⟩
  | 79 => ⟨S1x16384x4x1, .f32⟩
  | 80 => ⟨S1x16384x4x1, .f32⟩
  | 81 => ⟨S1x16384x4x128, .f32⟩
  | 82 => ⟨S1x16384x4x128, .f32⟩
  | 83 => ⟨S_, .f32⟩
  | 84 => ⟨S1x16384x4x1, .f32⟩
  | 85 => ⟨S1x16384x4x1, .f32⟩
  | 86 => ⟨S1x16384x4x1, .f32⟩
  | 87 => ⟨S1x16384x4x1, .f32⟩
  | 88 => ⟨S_, .f32⟩
  | 89 => ⟨S1x16384x4x1, .f32⟩
  | 90 => ⟨S1x16384x4x1, .f32⟩
  | 91 => ⟨S1x16384x4x128, .f32⟩
  | 92 => ⟨S1x16384x4x128, .f32⟩
  | 93 => ⟨S1x16384x512, .f32⟩
  | 94 => ⟨S1x16384x512, .f32⟩
  | 95 => ⟨S1x16384x512, .f32⟩
  | 96 => ⟨S_, .f32⟩
  | 97 => ⟨S1x16384x512, .f32⟩
  | 98 => ⟨S1x16384x512, .f32⟩
  | 99 => ⟨S_, .f32⟩
  | 100 => ⟨S1x16384x512, .f32⟩
  | 101 => ⟨S1x16384x512, .f32⟩
  | 102 => ⟨S_, .f32⟩
  | 103 => ⟨S1x16384x512, .f32⟩
  | 104 => ⟨S1x16384x512, .f32⟩
  | 105 => ⟨S1x16384x512, .f32⟩
  | 106 => ⟨S1x16384x512, .f32⟩
  | 107 => ⟨S1x16384x512, .f32⟩
  | 108 => ⟨S16384x512, .f32⟩
  | 109 => ⟨S1x16384x512, .f32⟩
  | 110 => ⟨S1x16384x512, .f32⟩
  | 111 => ⟨S1x16384x512, .f32⟩
  | 112 => ⟨S1x16384x512, .f32⟩
  | 113 => ⟨S1x16384x512, .f32⟩
  | 114 => ⟨S1x16384x512, .f32⟩
  | 115 => ⟨S1x16384x512, .f32⟩
  | 116 => ⟨S1x16384x4x128, .f32⟩
  | 117 => ⟨S1x16384x4x128, .f32⟩
  | 118 => ⟨S_, .f32⟩
  | 119 => ⟨S1x16384x4, .f32⟩
  | 120 => ⟨S1x16384x4x1, .f32⟩
  | 121 => ⟨S1x16384x4x128, .f32⟩
  | 122 => ⟨S1x16384x4x128, .f32⟩
  | 123 => ⟨S1x16384x4x1, .f32⟩
  | 124 => ⟨S1x16384x4x128, .f32⟩
  | 125 => ⟨S_, .f32⟩
  | 126 => ⟨S1x16384x4, .f32⟩
  | 127 => ⟨S1x16384x4x1, .f32⟩
  | _ => ⟨S16384x2816, .f32⟩

abbrev hbmTy0_2 (i : Nat) : BufTy := match i % 128 with
  | 0 => ⟨S_, .f32⟩
  | 1 => ⟨S1x16384x4x1, .f32⟩
  | 2 => ⟨S1x16384x4x1, .f32⟩
  | 3 => ⟨S_, .f32⟩
  | 4 => ⟨S16384x4, .f32⟩
  | 5 => ⟨S1x16384x4, .f32⟩
  | 6 => ⟨S1x16384x4x128, .f32⟩
  | 7 => ⟨S1x16384x4x128, .f32⟩
  | 8 => ⟨S1x16384x4x128, .f32⟩
  | 9 => ⟨S_, .f32⟩
  | 10 => ⟨S1x16384x4, .f32⟩
  | 11 => ⟨S1x16384x4x1, .f32⟩
  | 12 => ⟨S1x16384x4x128, .f32⟩
  | 13 => ⟨S1x16384x4x1, .f32⟩
  | 14 => ⟨S_, .f32⟩
  | 15 => ⟨S1x16384x4x1, .f32⟩
  | 16 => ⟨S1x16384x4x1, .f32⟩
  | 17 => ⟨S_, .f32⟩
  | 18 => ⟨S16384x4, .f32⟩
  | 19 => ⟨S1x16384x4, .f32⟩
  | 20 => ⟨S1x16384x4x128, .f32⟩
  | 21 => ⟨S1x16384x4x128, .f32⟩
  | 22 => ⟨S1x128x128x4x128, .f32⟩
  | 23 => ⟨S1x128x128x4x128, .f32⟩
  | 24 => ⟨S1x128x128x4x128, .f32⟩
  | 25 => ⟨S1x128x4x128x128, .f32⟩
  | 26 => ⟨S1x128x4x128x128, .f32⟩
  | 27 => ⟨S1x128x128x4x128, .f32⟩
  | 28 => ⟨S1x128x4x128x128, .f32⟩
  | 29 => ⟨S1x128x4x128x128, .f32⟩
  | 30 => ⟨S4x1x128x128x128, .f32⟩
  | 31 => ⟨S4x1x128x128x128, .f32⟩
  | 32 => ⟨S1x128x4x128x128, .f32⟩
  | 33 => ⟨S1x128x4x128x128, .f32⟩
  | 34 => ⟨S1x128x128x4x128, .f32⟩
  | 35 => ⟨S1x128x4x128x128, .f32⟩
  | 36 => ⟨S1x128x128x4x128, .f32⟩
  | 37 => ⟨S1x128x128x4x128, .f32⟩
  | 38 => ⟨S1x128x128x4x128, .f32⟩
  | 39 => ⟨S1x128x4x128x128, .f32⟩
  | 40 => ⟨S1x128x4x128x128, .f32⟩
  | 41 => ⟨S1x128x4x128x128, .f32⟩
  | 42 => ⟨S1x128x128x4x128, .f32⟩
  | 43 => ⟨S1x128x128x4x128, .f32⟩
  | 44 => ⟨S1x128x4x128x128, .f32⟩
  | 45 => ⟨S1x128x4x128x128, .f32⟩
  | 46 => ⟨S1x128x4x128x128, .f32⟩
  | 47 => ⟨S1x128x128x4x128, .f32⟩
  | 48 => ⟨S1x128x128x4x128, .f32⟩
  | 49 => ⟨S1x128x4x128x128, .f32⟩
  | 50 => ⟨S1x128x128x4x128, .f32⟩
  | 51 => ⟨S1x128x128x4x128, .f32⟩
  | 52 => ⟨S1x16384x4x128, .f32⟩
  | 53 => ⟨S1x16384x4x128, .f32⟩
  | 54 => ⟨S1x16384x4x128, .f32⟩
  | 55 => ⟨S1x16384x4x128, .f32⟩
  | 56 => ⟨S1x16384x4x128, .f32⟩
  | 57 => ⟨S1x16384x4x64x2, .f32⟩
  | 58 => ⟨S1x16384x4x64x1, .f32⟩
  | 59 => ⟨S1x16384x4x64, .f32⟩
  | 60 => ⟨S1x16384x4x64x1, .f32⟩
  | 61 => ⟨S1x16384x4x64, .f32⟩
  | 62 => ⟨S1x16384x4x64, .f32⟩
  | 63 => ⟨S_, .f32⟩
  | 64 => ⟨S1x16384x4x128, .f32⟩
  | 65 => ⟨S_, .f32⟩
  | 66 => ⟨S1x16384x4x128, .f32⟩
  | 67 => ⟨S1x16384x4x128, .f32⟩
  | 68 => ⟨S1x16384x4x128, .f32⟩
  | 69 => ⟨S1x16384x4x128, .f32⟩
  | 70 => ⟨S1x16384x4x128, .f32⟩
  | 71 => ⟨S1x16384x4x128, .f32⟩
  | 72 => ⟨S1x16384x4x128, .f32⟩
  | 73 => ⟨S1x16384x4x64x2, .f32⟩
  | 74 => ⟨S1x16384x4x64x1, .f32⟩
  | 75 => ⟨S1x16384x4x64, .f32⟩
  | 76 => ⟨S1x16384x4x64x1, .f32⟩
  | 77 => ⟨S1x16384x4x64, .f32⟩
  | 78 => ⟨S1x16384x4x64, .f32⟩
  | 79 => ⟨S_, .f32⟩
  | 80 => ⟨S1x16384x4x128, .f32⟩
  | 81 => ⟨S_, .f32⟩
  | 82 => ⟨S1x16384x4x128, .f32⟩
  | 83 => ⟨S1x16384x4x128, .f32⟩
  | 84 => ⟨S1x16384x4x128, .f32⟩
  | 85 => ⟨S1x16384x4x128, .f32⟩
  | 86 => ⟨S1x16384x4x128, .f32⟩
  | 87 => ⟨S1x16384x512, .f32⟩
  | 88 => ⟨S_, .f32⟩
  | 89 => ⟨S1x16384x4x128, .f32⟩
  | 90 => ⟨S1x16384x4x128, .f32⟩
  | 91 => ⟨S1x16384x512, .f32⟩
  | 92 => ⟨S1x16384x512, .f32⟩
  | 93 => ⟨S_, .f32⟩
  | 94 => ⟨S16384x768, .f32⟩
  | 95 => ⟨S16384x512, .f32⟩
  | 96 => ⟨S16384x512, .f32⟩
  | 97 => ⟨S16384x512, .f32⟩
  | 98 => ⟨S16384x512, .f32⟩
  | 99 => ⟨S16384x2816, .f32⟩
  | 100 => ⟨S16384x2816, .bf16⟩
  | 101 => ⟨S_, .f32⟩
  | 102 => ⟨S1x128, .f32⟩
  | _ => ⟨S16384x2816, .f32⟩

abbrev hbmTy (i : Nat) : BufTy := match i / 128 with
  | 0 => hbmTy0_0 i
  | 1 => hbmTy0_1 i
  | 2 => hbmTy0_2 i
  | _ => ⟨S16384x2816, .f32⟩

abbrev bufTy : (tb : Table) → Fin (tcTables nBuf tb) → BufTy
  | .hbm, ⟨i, _⟩ => hbmTy i
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_4 : Ref sig .tc := ⟨.hbm, 88, rfl⟩
abbrev main_v60 : Ref sig .tc := ⟨.hbm, 89, rfl⟩
abbrev main_v61 : Ref sig .tc := ⟨.hbm, 90, rfl⟩
abbrev main_cst_5 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_7 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_8 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_9 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_10 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_11 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_12 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_13 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_14 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_15 : Ref sig .tc := ⟨.hbm, 191, rfl⟩
abbrev main_v145 : Ref sig .tc := ⟨.hbm, 192, rfl⟩
abbrev main_v146 : Ref sig .tc := ⟨.hbm, 193, rfl⟩
abbrev main_cst_16 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_17 : Ref sig .tc := ⟨.hbm, 200, rfl⟩
abbrev main_v152 : Ref sig .tc := ⟨.hbm, 201, rfl⟩
abbrev main_v153 : Ref sig .tc := ⟨.hbm, 202, rfl⟩
abbrev main_cst_18 : Ref sig .tc := ⟨.hbm, 203, rfl⟩
abbrev main_v154 : Ref sig .tc := ⟨.hbm, 204, rfl⟩
abbrev main_v155 : Ref sig .tc := ⟨.hbm, 205, rfl⟩
abbrev main_cst_19 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_20 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_21 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_call3_v0 : Ref sig .tc := ⟨.hbm, 222, rfl⟩
abbrev main_call3_v1 : Ref sig .tc := ⟨.hbm, 223, rfl⟩
abbrev main_call3_cst : Ref sig .tc := ⟨.hbm, 224, rfl⟩
abbrev main_call3_v2 : Ref sig .tc := ⟨.hbm, 225, rfl⟩
abbrev main_call3_v3 : Ref sig .tc := ⟨.hbm, 226, rfl⟩
abbrev main_call3_cst_0 : Ref sig .tc := ⟨.hbm, 227, rfl⟩
abbrev main_call3_v4 : Ref sig .tc := ⟨.hbm, 228, rfl⟩
abbrev main_v169_2 : Ref sig .tc := ⟨.hbm, 229, rfl⟩
abbrev main_call3_cst_1 : Ref sig .tc := ⟨.hbm, 230, rfl⟩
abbrev main_call3_v6 : Ref sig .tc := ⟨.hbm, 231, rfl⟩
abbrev main_call3_v7 : Ref sig .tc := ⟨.hbm, 232, rfl⟩
abbrev main_v169_1 : Ref sig .tc := ⟨.hbm, 233, rfl⟩
abbrev main_v169_0 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_call4_v0 : Ref sig .tc := ⟨.hbm, 240, rfl⟩
abbrev main_call4_v1 : Ref sig .tc := ⟨.hbm, 241, rfl⟩
abbrev main_call4_v2 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_22 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_23 : Ref sig .tc := ⟨.hbm, 253, rfl⟩
abbrev main_v184 : Ref sig .tc := ⟨.hbm, 254, rfl⟩
abbrev main_v185 : Ref sig .tc := ⟨.hbm, 255, rfl⟩
abbrev main_cst_24 : Ref sig .tc := ⟨.hbm, 256, rfl⟩
abbrev main_v186 : Ref sig .tc := ⟨.hbm, 257, rfl⟩
abbrev main_v187 : Ref sig .tc := ⟨.hbm, 258, rfl⟩
abbrev main_cst_25 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_26 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_27 : Ref sig .tc := ⟨.hbm, 270, rfl⟩
abbrev main_v197 : Ref sig .tc := ⟨.hbm, 271, rfl⟩
abbrev main_v198 : Ref sig .tc := ⟨.hbm, 272, rfl⟩
abbrev main_cst_28 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_cst_29 : Ref sig .tc := ⟨.hbm, 319, rfl⟩
abbrev main_v244 : Ref sig .tc := ⟨.hbm, 320, rfl⟩
abbrev main_cst_30 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_cst_31 : Ref sig .tc := ⟨.hbm, 335, rfl⟩
abbrev main_v258 : Ref sig .tc := ⟨.hbm, 336, rfl⟩
abbrev main_cst_32 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_cst_33 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_cst_34 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_cst_35 : Ref sig .tc := ⟨.hbm, 357, rfl⟩
abbrev main_v276 : Ref sig .tc := ⟨.hbm, 358, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S16384x5632 : Shape := ⟨2, ![16384, 5632]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S3x5632 : Shape := ⟨2, ![3, 5632]⟩
abbrev S8x1024 : Shape := ⟨2, ![8, 1024]⟩
abbrev S256x5632 : Shape := ⟨2, ![256, 5632]⟩
abbrev S16x5632 : Shape := ⟨2, ![16, 5632]⟩
abbrev S256x1024 : Shape := ⟨2, ![256, 1024]⟩
abbrev S272x5632 : Shape := ⟨2, ![272, 5632]⟩
abbrev S1x512 : Shape := ⟨2, ![1, 512]⟩
abbrev S256x512 : Shape := ⟨2, ![256, 512]⟩
abbrev S1x1024x512 : Shape := ⟨3, ![1, 1024, 512]⟩
abbrev S1024x512 : Shape := ⟨2, ![1024, 512]⟩
abbrev S1x384 : Shape := ⟨2, ![1, 384]⟩
abbrev S256x384 : Shape := ⟨2, ![256, 384]⟩
abbrev S1x1024x384 : Shape := ⟨3, ![1, 1024, 384]⟩
abbrev S1024x384 : Shape := ⟨2, ![1024, 384]⟩
abbrev S256 : Shape := ⟨1, ![256]⟩
abbrev S256x1 : Shape := ⟨2, ![256, 1]⟩

abbrev nBuf : Space → Nat
  | .hbm => 44
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x5632, .f32⟩
  | .hbm, ⟨6, _⟩ => ⟨S1x3x5632, .f32⟩
  | .hbm, ⟨7, _⟩ => ⟨S16384x5632, .f32⟩
  | .hbm, ⟨8, _⟩ => ⟨S16384x1024, .f32⟩
  | .hbm, ⟨9, _⟩ => ⟨S1024x1024, .f32⟩
  | .hbm, ⟨10, _⟩ => ⟨S1x16384x1024, .f32⟩
  | .hbm, ⟨11, _⟩ => ⟨S1024, .f32⟩
  | .hbm, ⟨12, _⟩ => ⟨S1x16384x1024, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S1024x5632, .f32⟩
  | .hbm, ⟨30, _⟩ => ⟨S1024x4x1408, .f32⟩
  | .hbm, ⟨31, _⟩ => ⟨S4x1024x1408, .f32⟩
  | .hbm, ⟨32, _⟩ => ⟨S4x1024x1408, .bf16⟩
  | .hbm, ⟨33, _⟩ => ⟨S16384x5632, .bf16⟩
  | .hbm, ⟨34, _⟩ => ⟨S3x5632, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S1024x1024, .bf16⟩
  | .hbm, ⟨39, _⟩ => ⟨S16384x5632, .bf16⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S4x1024x1408, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1024x1024, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | .local _ .vmem, ⟨24, _⟩ => ⟨S272x5632, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S1x16384x1024 : Shape := ⟨3, ![1, 16384, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S16384x5632 : Shape := ⟨2, ![16384, 5632]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S3x5632 : Shape := ⟨2, ![3, 5632]⟩
abbrev S1x2x5632 : Shape := ⟨3, ![1, 2, 5632]⟩
abbrev S1x16386x5632 : Shape := ⟨3, ![1, 16386, 5632]⟩
abbrev S1x5632 : Shape := ⟨2, ![1, 5632]⟩
abbrev S5632 : Shape := ⟨1, ![5632]⟩
abbrev S1x1x5632 : Shape := ⟨3, ![1, 1, 5632]⟩
abbrev S16384 : Shape := ⟨1, ![16384]⟩
abbrev S6x1024 : Shape := ⟨2, ![6, 1024]⟩
abbrev S8x1024 : Shape := ⟨2, ![8, 1024]⟩

abbrev nBuf : Space → Nat
  | .hbm => 167
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1x1024, .f32⟩
  | 3 => ⟨S1x1024, .f32⟩
  | 4 => ⟨S1x1024x1024, .f32⟩
  | 5 => ⟨S1x1024x5632, .f32⟩
  | 6 => ⟨S1x3x5632, .f32⟩
  | 7 => ⟨S16384x5632, .f32⟩
  | 8 => ⟨S16384x1024, .f32⟩
  | 9 => ⟨S1024x1024, .f32⟩
  | 10 => ⟨S1x16384x1024, .f32⟩
  | 11 => ⟨S1024, .f32⟩
  | 12 => ⟨S1x16384x1024, .f32⟩
  | 13 => ⟨S_, .f32⟩
  | 14 => ⟨S1x16384, .f32⟩
  | 15 => ⟨S1x16384x1, .f32⟩
  | 16 => ⟨S_, .f32⟩
  | 17 => ⟨S1x16384x1, .f32⟩
  | 18 => ⟨S1x16384x1, .f32⟩
  | 19 => ⟨S_, .f32⟩
  | 20 => ⟨S1x16384x1, .f32⟩
  | 21 => ⟨S1x16384x1, .f32⟩
  | 22 => ⟨S1x16384x1, .f32⟩
  | 23 => ⟨S1x16384x1, .f32⟩
  | 24 => ⟨S_, .f32⟩
  | 25 => ⟨S1x16384x1, .f32⟩
  | 26 => ⟨S1x16384x1, .f32⟩
  | 27 => ⟨S1x16384x1024, .f32⟩
  | 28 => ⟨S1x16384x1024, .f32⟩
  | 29 => ⟨S1x1x1024, .f32⟩
  | 30 => ⟨S1x16384x1024, .f32⟩
  | 31 => ⟨S1x16384x1024, .f32⟩
  | 32 => ⟨S1x16384x1024, .f32⟩
  | 33 => ⟨S1024, .f32⟩
  | 34 => ⟨S1x16384x1024, .f32⟩
  | 35 => ⟨S_, .f32⟩
  | 36 => ⟨S1x16384, .f32⟩
  | 37 => ⟨S1x16384x1, .f32⟩
  | 38 => ⟨S_, .f32⟩
  | 39 => ⟨S1x16384x1, .f32⟩
  | 40 => ⟨S1x16384x1, .f32⟩
  | 41 => ⟨S_, .f32⟩
  | 42 => ⟨S1x16384x1, .f32⟩
  | 43 => ⟨S1x16384x1, .f32⟩
  | 44 => ⟨S1x16384x1, .f32⟩
  | 45 => ⟨S1x16384x1, .f32⟩
  | 46 => ⟨S_, .f32⟩
  | 47 => ⟨S1x16384x1, .f32⟩
  | 48 => ⟨S1x16384x1, .f32⟩
  | 49 => ⟨S1x16384x1024, .f32⟩
  | 50 => ⟨S1x16384x1024, .f32⟩
  | 51 => ⟨S1x1x1024, .f32⟩
  | 52 => ⟨S1x16384x1024, .f32⟩
  | 53 => ⟨S1x16384x1024, .f32⟩
  | 54 => ⟨S1024x5632, .f32⟩
  | 55 => ⟨S1x16384x5632, .f32⟩
  | 56 => ⟨S3x5632, .f32⟩
  | 57 => ⟨S_, .f32⟩
  | 58 => ⟨S1x2x5632, .f32⟩
  | 59 => ⟨S1x16386x5632, .f32⟩
  | 60 => ⟨S_, .f32⟩
  | 61 => ⟨S1x2x5632, .f32⟩
  | 62 => ⟨S1x5632, .f32⟩
  | 63 => ⟨S5632, .f32⟩
  | 64 => ⟨S1x16384x5632, .f32⟩
  | 65 => ⟨S1x1x5632, .f32⟩
  | 66 => ⟨S1x16384x5632, .f32⟩
  | 67 => ⟨S1x16384x5632, .f32⟩
  | 68 => ⟨S1x5632, .f32⟩
  | 69 => ⟨S5632, .f32⟩
  | 70 => ⟨S1x16384x5632, .f32⟩
  | 71 => ⟨S1x1x5632, .f32⟩
  | 72 => ⟨S1x16384x5632, .f32⟩
  | 73 => ⟨S1x16384x5632, .f32⟩
  | 74 => ⟨S1x16384x5632, .f32⟩
  | 75 => ⟨S1x5632, .f32⟩
  | 76 => ⟨S5632, .f32⟩
  | 77 => ⟨S1x16384x5632, .f32⟩
  | 78 => ⟨S1x1x5632, .f32⟩
  | 79 => ⟨S1x16384x5632, .f32⟩
  | 80 => ⟨S1x16384x5632, .f32⟩
  | 81 => ⟨S1x16384x5632, .f32⟩
  | 82 => ⟨S1x16384x5632, .f32⟩
  | 83 => ⟨S1x16384x5632, .f32⟩
  | 84 => ⟨S1x16384x5632, .f32⟩
  | 85 => ⟨S_, .f32⟩
  | 86 => ⟨S1x16386x5632, .f32⟩
  | 87 => ⟨S1x16384x5632, .f32⟩
  | 88 => ⟨S1x16384x5632, .f32⟩
  | 89 => ⟨S_, .f32⟩
  | 90 => ⟨S1x16386x5632, .f32⟩
  | 91 => ⟨S1x16386x5632, .f32⟩
  | 92 => ⟨S1x16384x5632, .f32⟩
  | 93 => ⟨S1x16384x5632, .f32⟩
  | 94 => ⟨S_, .f32⟩
  | 95 => ⟨S1x16386x5632, .f32⟩
  | 96 => ⟨S1x16386x5632, .f32⟩
  | 97 => ⟨S1x2x5632, .f32⟩
  | 98 => ⟨S1x16384x5632, .f32⟩
  | 99 => ⟨S1x16384x1024, .f32⟩
  | 100 => ⟨S1x16384x1024, .f32⟩
  | 101 => ⟨S1x16384x1024, .f32⟩
  | 102 => ⟨S_, .f32⟩
  | 103 => ⟨S1x1024, .f32⟩
  | 104 => ⟨S1x1x1024, .f32⟩
  | 105 => ⟨S1x16384x1024, .f32⟩
  | 106 => ⟨S1x16384x1024, .f32⟩
  | 107 => ⟨S_, .f32⟩
  | 108 => ⟨S1024, .f32⟩
  | 109 => ⟨S1x16384x1024, .f32⟩
  | 110 => ⟨S_, .f32⟩
  | 111 => ⟨S1x16384, .f32⟩
  | 112 => ⟨S1x16384x1, .f32⟩
  | 113 => ⟨S1x16384x1024, .f32⟩
  | 114 => ⟨S1x16384x1024, .f32⟩
  | 115 => ⟨S1x16384x1024, .f32⟩
  | 116 => ⟨S1x16384x1, .f32⟩
  | 117 => ⟨S_, .f32⟩
  | 118 => ⟨S1x16384x1, .f32⟩
  | 119 => ⟨S1x16384x1, .f32⟩
  | 120 => ⟨S_, .f32⟩
  | 121 => ⟨S16384, .f32⟩
  | 122 => ⟨S1x16384, .f32⟩
  | 123 => ⟨S1x16384x1024, .f32⟩
  | 124 => ⟨S1x16384x1024, .f32⟩
  | 125 => ⟨S1x16384x1024, .f32⟩
  | 126 => ⟨S1x16384x1024, .f32⟩
  | 127 => ⟨S1x16384x1024, .f32⟩
  | _ => ⟨S1x16384x1024, .f32⟩

abbrev hbmTy0_1 (i : Nat) : BufTy := match i % 128 with
  | 0 => ⟨S1x1024, .f32⟩
  | 1 => ⟨S1x16384x1024, .f32⟩
  | 2 => ⟨S_, .f32⟩
  | 3 => ⟨S1x1024, .f32⟩
  | 4 => ⟨S1x1x1024, .f32⟩
  | 5 => ⟨S1x16384x1024, .f32⟩
  | 6 => ⟨S1x16384x1024, .f32⟩
  | 7 => ⟨S_, .f32⟩
  | 8 => ⟨S1024, .f32⟩
  | 9 => ⟨S1x16384x1024, .f32⟩
  | 10 => ⟨S_, .f32⟩
  | 11 => ⟨S1x16384, .f32⟩
  | 12 => ⟨S1x16384x1, .f32⟩
  | 13 => ⟨S1x16384x1024, .f32⟩
  | 14 => ⟨S1x16384x1024, .f32⟩
  | 15 => ⟨S1x16384x1, .f32⟩
  | 16 => ⟨S_, .f32⟩
  | 17 => ⟨S1x16384x1, .f32⟩
  | 18 => ⟨S1x16384x1, .f32⟩
  | 19 => ⟨S_, .f32⟩
  | 20 => ⟨S16384, .f32⟩
  | 21 => ⟨S1x16384, .f32⟩
  | 22 => ⟨S1x16384x1024, .f32⟩
  | 23 => ⟨S1x16384x1024, .f32⟩
  | 24 => ⟨S1x16384x1024, .f32⟩
  | 25 => ⟨S1x16384x1024, .f32⟩
  | 26 => ⟨S1x16384x1024, .f32⟩
  | 27 => ⟨S1x1024, .f32⟩
  | 28 => ⟨S1x16384x1024, .f32⟩
  | 29 => ⟨S_, .f32⟩
  | 30 => ⟨S6x1024, .f32⟩
  | 31 => ⟨S8x1024, .f32⟩
  | 32 => ⟨S16384x5632, .f32⟩
  | 33 => ⟨S16384x5632, .bf16⟩
  | 34 => ⟨S16384x1024, .f32⟩
  | 35 => ⟨S16384x1024, .f32⟩
  | 36 => ⟨S16384x1024, .bf16⟩
  | 37 => ⟨S16384x1024, .f32⟩
  | 38 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_v93 : Ref sig .tc := ⟨.hbm, 119, rfl⟩
abbrev main_cst_16 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_17 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_18 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_20 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_22 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩

abbrev nD : Nat := 1
abbrev τ : Topo := Topo.v7x

variable {F : FTy → Type} [FloatOps F]
-- ==== Kernel4.lean ====
abbrev S16384x5632 : Shape := ⟨2, ![16384, 5632]⟩
abbrev S1x16384x1024 : Shape := ⟨3, ![1, 16384, 1024]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S16384x1024 : Shape := ⟨2, ![16384, 1024]⟩
abbrev S3x5632 : Shape := ⟨2, ![3, 5632]⟩
abbrev S2816x1024 : Shape := ⟨2, ![2816, 1024]⟩
abbrev S16384x2816 : Shape := ⟨2, ![16384, 2816]⟩
abbrev S8x5632 : Shape := ⟨2, ![8, 5632]⟩
abbrev S8x1024 : Shape := ⟨2, ![8, 1024]⟩
abbrev S256x5632 : Shape := ⟨2, ![256, 5632]⟩
abbrev S256x1024 : Shape := ⟨2, ![256, 1024]⟩
abbrev S256x2816 : Shape := ⟨2, ![256, 2816]⟩
abbrev S16x5632 : Shape := ⟨2, ![16, 5632]⟩
abbrev S32x5632 : Shape := ⟨2, ![32, 5632]⟩
abbrev S256x256 : Shape := ⟨2, ![256, 256]⟩
abbrev S8x1 : Shape := ⟨2, ![8, 1]⟩
abbrev S1x256 : Shape := ⟨2, ![1, 256]⟩
abbrev S8x256 : Shape := ⟨2, ![8, 256]⟩
abbrev S1x128 : Shape := ⟨2, ![1, 128]⟩
abbrev S64x128 : Shape := ⟨2, ![64, 128]⟩
abbrev S256 : Shape := ⟨1, ![256]⟩
abbrev S256x1 : Shape := ⟨2, ![256, 1]⟩
abbrev S1024 : Shape := ⟨1, ![1024]⟩
abbrev S8x128 : Shape := ⟨2, ![8, 128]⟩
abbrev S8x8x128 : Shape := ⟨3, ![8, 8, 128]⟩
abbrev S5632 : Shape := ⟨1, ![5632]⟩
abbrev S4x5632 : Shape := ⟨2, ![4, 5632]⟩

abbrev nBuf : Space → Nat
  | .hbm => 19
  | .vmem => 27
  | .smem => 0
  | _ => 0

abbrev bufTy : (tb : Table) → Fin (tcTables nBuf tb) → BufTy
  | .hbm, ⟨0, _⟩ => ⟨S16384x5632, .f32⟩
  | .hbm, ⟨1, _⟩ => ⟨S1x16384x1024, .f32⟩
  | .hbm, ⟨2, _⟩ => ⟨S1x16384x1024, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S16384x5632, .bf16⟩
  | .hbm, ⟨8, _⟩ => ⟨S16384x1024, .f32⟩
  | .hbm, ⟨9, _⟩ => ⟨S16384x1024, .f32⟩
  | .hbm, ⟨10, _⟩ => ⟨S3x5632, .f32⟩
  | .hbm, ⟨11, _⟩ => ⟨S2816x1024, .f32⟩
  | .hbm, ⟨12, _⟩ => ⟨S2816x1024, .bf16⟩
  | .hbm, ⟨13, _⟩ => ⟨S16384x2816, .bf16⟩
  | .hbm, ⟨14, _⟩ => ⟨S16384x1024, .bf16⟩
  | .hbm, ⟨15, _⟩ => ⟨S16384x1024, .f32⟩
  | .hbm, ⟨16, _⟩ => ⟨S16384x5632, .bf16⟩
  | .hbm, ⟨17, _⟩ => ⟨S8x5632, .f32⟩
  | .hbm, ⟨18, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x5632, .bf16⟩
  | .local _ .vmem, ⟨17, _⟩ => ⟨S256x5632, .bf16⟩
  | .local _ .vmem, ⟨18, _⟩ => ⟨S8x5632, .f32⟩
  | .local _ .vmem, ⟨19, _⟩ => ⟨S8x1024, .f32⟩
  | .local _ .vmem, ⟨20, _⟩ => ⟨S256x5632, .f32⟩
  | .local _ .vmem, ⟨21, _⟩ => ⟨S256x5632, .f32⟩
  | .local _ .vmem, ⟨22, _⟩ => ⟨S16x5632, .f32⟩
  | .local _ .vmem, ⟨23, _⟩ => ⟨S256x2816, .f32⟩
  | .local _ .vmem, ⟨24, _⟩ => ⟨S256x2816, .f32⟩
  | .local _ .vmem, ⟨25, _⟩ => ⟨S256x2816, .f32⟩
  | .local _ .vmem, ⟨26, _⟩ => ⟨S32x5632, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v12231 : BitVec 1 := Scalar.cmpi .eq arg0 c63_i32
  let v12232 : BitVec 32 := Scalar.extui v12231
  let c0_i32_6662 : BitVec 32 := 0#32
  let v12233 : BitVec 1 := Scalar.cmpi .ne v12232 c0_i32_6662
  v12233

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel5.lean ====
abbrev S1x16384x1024 : Shape := ⟨3, ![1, 16384, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x1024 : Shape := ⟨2, ![16384, 1024]⟩
abbrev S1024x1024 : Shape := ⟨2, ![1024, 1024]⟩
abbrev S16384x5632 : Shape := ⟨2, ![16384, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 19
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S1024x1024, .f32⟩
  | .hbm, ⟨14, _⟩ => ⟨S1024x1024, .bf16⟩
  | .hbm, ⟨15, _⟩ => ⟨S16384x1024, .f32⟩
  | .hbm, ⟨16, _⟩ => ⟨S16384x1024, .f32⟩
  | .hbm, ⟨17, _⟩ => ⟨S16384x1024, .bf16⟩
  | .hbm, ⟨18, _⟩ => ⟨S16384x5632, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x5632, .bf16⟩
  | .local _ .vmem, ⟨15, _⟩ => ⟨S512x5632, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S1x16384x1024 : Shape := ⟨3, ![1, 16384, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S16384x1024 : Shape := ⟨2, ![16384, 1024]⟩
abbrev S16384x5632 : Shape := ⟨2, ![16384, 5632]⟩

abbrev nBuf : Space → Nat
  | .hbm => 51
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S1024x1024, .f32⟩
  | .hbm, ⟨7, _⟩ => ⟨S1x16384x1024, .f32⟩
  | .hbm, ⟨8, _⟩ => ⟨S1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1x16384x1024, .f32⟩
  | .hbm, ⟨26, _⟩ => ⟨S1024, .f32⟩
  | .hbm, ⟨27, _⟩ => ⟨S1x16384x1024, .f32⟩
  | .hbm, ⟨28, _⟩ => ⟨S_, .f32⟩
  | .hbm, ⟨29, _⟩ => ⟨S1x16384, .f32⟩
  | .hbm, ⟨30, _⟩ => ⟨S1x16384x1, .f32⟩
  | .hbm, ⟨31, _⟩ => ⟨S_, .f32⟩
  | .hbm, ⟨32, _⟩ => ⟨S1x16384x1, .f32⟩
  | .hbm, ⟨33, _⟩ => ⟨S1x16384x1, .f32⟩
  | .hbm, ⟨34, _⟩ => ⟨S_, .f32⟩
  | .hbm, ⟨35, _⟩ => ⟨S1x16384x1, .f32⟩
  | .hbm, ⟨36, _⟩ => ⟨S1x16384x1, .f32⟩
  | .hbm, ⟨37, _⟩ => ⟨S1x16384x1, .f32⟩
  | .hbm, ⟨38, _⟩ => ⟨S1x16384x1024, .f32⟩
  | .hbm, ⟨39, _⟩ => ⟨S1x16384x1024, .f32⟩
  | .hbm, ⟨40, _⟩ => ⟨S1x1x1024, .f32⟩
  | .hbm, ⟨41, _⟩ => ⟨S1x16384x1024, .f32⟩
  | .hbm, ⟨42, _⟩ => ⟨S1x16384x1024, .f32⟩
  | .hbm, ⟨43, _⟩ => ⟨S1024x5632, .f32⟩
  | .hbm, ⟨44, _⟩ => ⟨S1x16384x5632, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x5632, .f32⟩
  | .hbm, ⟨50, _⟩ => ⟨S16384x5632, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel6.lean ====
abbrev S1x16384x1024 : Shape := ⟨3, ![1, 16384, 1024]⟩
abbrev S1x1024 : Shape := ⟨2, ![1, 1024]⟩
abbrev S1x1024x2816 : Shape := ⟨3, ![1, 1024, 2816]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S16384x1024, .f32⟩
  | .hbm, ⟨7, _⟩ => ⟨S16384x1024, .bf16⟩
  | .hbm, ⟨8, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2816, .f32⟩
  | .local _ .vmem, ⟨7, _⟩ => ⟨S1024x2816, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S1x16384x1024 : Shape := ⟨3, ![1, 16384, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2816 : Shape := ⟨2, ![1024, 2816]⟩
abbrev S1x16384x2816 : Shape := ⟨3, ![1, 16384, 2816]⟩
abbrev S16384x1024 : Shape := ⟨2, ![16384, 1024]⟩
abbrev S16384x2816 : Shape := ⟨2, ![16384, 2816]⟩

abbrev nBuf : Space → Nat
  | .hbm => 25
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2816, .f32⟩
  | .hbm, ⟨3, _⟩ => ⟨S1024, .f32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1024, .f32⟩
  | .hbm, ⟨16, _⟩ => ⟨S1x16384x1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1024x2816, .f32⟩
  | .hbm, ⟨21, _⟩ => ⟨S1x16384x2816, .f32⟩
  | .hbm, ⟨22, _⟩ => ⟨S16384x1024, .f32⟩
  | .hbm, ⟨23, _⟩ => ⟨S16384x1024, .bf16⟩
  | .hbm, ⟨24, _⟩ => ⟨S16384x2816, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S16384x2816 : Shape := ⟨2, ![16384, 2816]⟩
abbrev S1x8 : Shape := ⟨2, ![1, 8]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S128x4x128 : Shape := ⟨3, ![128, 4, 128]⟩
abbrev S128x512 : Shape := ⟨2, ![128, 512]⟩
abbrev S4x128 : Shape := ⟨2, ![4, 128]⟩
abbrev S512 : Shape := ⟨1, ![512]⟩
abbrev S1x512 : Shape := ⟨2, ![1, 512]⟩
abbrev S8x512 : Shape := ⟨2, ![8, 512]⟩
abbrev S16384 : Shape := ⟨1, ![16384]⟩
abbrev S63 : Shape := ⟨1, ![63]⟩
abbrev S1 : Shape := ⟨1, ![1]⟩
abbrev S64 : Shape := ⟨1, ![64]⟩
abbrev S64x2 : Shape := ⟨2, ![64, 2]⟩
abbrev S16384x1 : Shape := ⟨2, ![16384, 1]⟩
abbrev S16384x128 : Shape := ⟨2, ![16384, 128]⟩
abbrev S8 : Shape := ⟨1, ![8]⟩
abbrev S16384x1024 : Shape := ⟨2, ![16384, 1024]⟩
abbrev S128x4x128x128 : Shape := ⟨4, ![128, 4, 128, 128]⟩
abbrev S128x2x512x256 : Shape := ⟨4, ![128, 2, 512, 256]⟩
abbrev S128x2x512x1 : Shape := ⟨4, ![128, 2, 512, 1]⟩
abbrev S16384x512 : Shape := ⟨2, ![16384, 512]⟩
abbrev S128x4x128x1 : Shape := ⟨4, ![128, 4, 128, 1]⟩
abbrev S128x2x512x128 : Shape := ⟨4, ![128, 2, 512, 128]⟩
abbrev S512x2816 : Shape := ⟨2, ![512, 2816]⟩
abbrev S128x256 : Shape := ⟨2, ![128, 256]⟩
abbrev S512x128 : Shape := ⟨2, ![512, 128]⟩
abbrev S512x1024 : Shape := ⟨2, ![512, 1024]⟩
abbrev S4x4x128x128 : Shape := ⟨4, ![4, 4, 128, 128]⟩
abbrev S4x2x512x256 : Shape := ⟨4, ![4, 2, 512, 256]⟩
abbrev S4x2x512x1 : Shape := ⟨4, ![4, 2, 512, 1]⟩
abbrev S512x512 : Shape := ⟨2, ![512, 512]⟩
abbrev S4x4x128x1 : Shape := ⟨4, ![4, 4, 128, 1]⟩
abbrev S4x2x512x128 : Shape := ⟨4, ![4, 2, 512, 128]⟩
abbrev S512x256 : Shape := ⟨2, ![512, 256]⟩
abbrev S256x128 : Shape := ⟨2, ![256, 128]⟩
abbrev S512x1 : Shape := ⟨2, ![512, 1]⟩
abbrev S1x1x512x256 : Shape := ⟨4, ![1, 1, 512, 256]⟩
abbrev S1x1x512x1 : Shape := ⟨4, ![1, 1, 512, 1]⟩
abbrev S1x1x512x128 : Shape := ⟨4, ![1, 1, 512, 128]⟩
abbrev S1x1x128x128 : Shape := ⟨4, ![1, 1, 128, 128]⟩
abbrev S1x1x128x1 : Shape := ⟨4, ![1, 1, 128, 1]⟩

abbrev nBuf : Space → Nat
  | .hbm => 159
  | .vmem => 37
  | .smem => 1
  | _ => 0

abbrev hbmTy0_0 (i : Nat) : BufTy := match i % 128 with
  | 0 => ⟨S16384x2816, .f32⟩
  | 1 => ⟨S1x8, .f32⟩
  | 2 => ⟨S4, .f32⟩
  | 3 => ⟨S_, .f32⟩
  | 4 => ⟨S4, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S128, .f32⟩
  | 14 => ⟨S128x1, .f32⟩
  | 15 => ⟨S1x128, .f32⟩
  | 16 => ⟨S128x128, .f32⟩
  | 17 => ⟨S128x128, .f32⟩
  | 18 => ⟨S128x128, .f32⟩
  | 19 => ⟨S1x128x128, .f32⟩
  | 20 => ⟨S_, .f32⟩
  | 21 => ⟨S1x128x128, .f32⟩
  | 22 => ⟨S1x128x128, .i1⟩
  | 23 => ⟨S4x1x1, .f32⟩
  | 24 => ⟨S_, .f32⟩
  | 25 => ⟨S128x128, .f32⟩
  | 26 => ⟨S128x128, .f32⟩
  | 27 => ⟨S1x128x128, .f32⟩
  | 28 => ⟨S4x128x128, .f32⟩
  | 29 => ⟨S4x128x128, .f32⟩
  | 30 => ⟨S4x128x128, .f32⟩
  | 31 => ⟨S4x128x128, .f32⟩
  | 32 => ⟨S_, .f32⟩
  | 33 => ⟨S_, .f32⟩
  | 34 => ⟨S4x128x128, .i1⟩
  | 35 => ⟨S4x128x128, .f32⟩
  | 36 => ⟨S4x128x128, .f32⟩
  | 37 => ⟨S1x4, .f32⟩
  | 38 => ⟨S128x1, .f32⟩
  | 39 => ⟨S_, .f32⟩
  | 40 => ⟨S128x1, .f32⟩
  | 41 => ⟨S128x1, .f32⟩
  | 42 => ⟨S128x4, .f32⟩
  | 43 => ⟨S128x4, .f32⟩
  | 44 => ⟨S128x4, .f32⟩
  | 45 => ⟨S128x4, .f32⟩
  | 46 => ⟨S1x4, .f32⟩
  | 47 => ⟨S128x1, .f32⟩
  | 48 => ⟨S_, .f32⟩
  | 49 => ⟨S128x1, .f32⟩
  | 50 => ⟨S128x1, .f32⟩
  | 51 => ⟨S128x4, .f32⟩
  | 52 => ⟨S128x4, .f32⟩
  | 53 => ⟨S128x4, .f32⟩
  | 54 => ⟨S128x4, .f32⟩
  | 55 => ⟨S_, .f32⟩
  | 56 => ⟨S4, .f32⟩
  | 57 => ⟨S4, .f32⟩
  | 58 => ⟨S4, .f32⟩
  | 59 => ⟨S128x4x128, .f32⟩
  | 60 => ⟨S128x512, .f32⟩
  | 61 => ⟨S128x4x128, .f32⟩
  | 62 => ⟨S128x512, .f32⟩
  | 63 => ⟨S4x128, .f32⟩
  | 64 => ⟨S512, .f32⟩
  | 65 => ⟨S1x512, .f32⟩
  | 66 => ⟨S8x512, .f32⟩
  | 67 => ⟨S16384, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S63, .f32⟩
  | 76 => ⟨S_, .f32⟩
  | 77 => ⟨S63, .f32⟩
  | 78 => ⟨S63, .f32⟩
  | 79 => ⟨S1, .f32⟩
  | 80 => ⟨S_, .f32⟩
  | 81 => ⟨S63, .f32⟩
  | 82 => ⟨S63, .f32⟩
  | 83 => ⟨S63, .f32⟩
  | 84 => ⟨S63, .f32⟩
  | 85 => ⟨S1, .f32⟩
  | 86 => ⟨S63, .f32⟩
  | 87 => ⟨S63, .f32⟩
  | 88 => ⟨S63, .f32⟩
  | 89 => ⟨S1, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S64x2, .f32⟩
  | 98 => ⟨S128, .f32⟩
  | 99 => ⟨S128, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S128, .i32⟩
  | 107 => ⟨S128, .i32⟩
  | 108 => ⟨S_, .i32⟩
  | 109 => ⟨S128, .i32⟩
  | 110 => ⟨S128, .i1⟩
  | 111 => ⟨S_, .i32⟩
  | 112 => ⟨S128, .i32⟩
  | 113 => ⟨S128, .i1⟩
  | 114 => ⟨S_, .i32⟩
  | 115 => ⟨S_, .i1⟩
  | 116 => ⟨S128, .i1⟩
  | 117 => ⟨S128, .i1⟩
  | 118 => ⟨S128, .i1⟩
  | 119 => ⟨S128, .i32⟩
  | 120 => ⟨S128, .i32⟩
  | 121 => ⟨S128, .i32⟩
  | 122 => ⟨S_, .i32⟩
  | 123 => ⟨S128, .i32⟩
  | 124 => ⟨S128, .i1⟩
  | 125 => ⟨S_, .f32⟩
  | 126 => ⟨S_, .f32⟩
  | 127 => ⟨S128, .f32⟩
  | _ => ⟨S16384x2816, .f32⟩

abbrev hbmTy0_1 (i : Nat) : BufTy := match i % 128 with
  | 0 => ⟨S128, .f32⟩
  | 1 => ⟨S128, .f32⟩
  | 2 => ⟨S128, .f32⟩
  | 3 => ⟨S16384x1, .f32⟩
  | 4 => ⟨S1x128, .f32⟩
  | 5 => ⟨S16384x128, .f32⟩
  | 6 => ⟨S16384x128, .f32⟩
  | 7 => ⟨S16384x128, .f32⟩
  | 8 => ⟨S16384x128, .f32⟩
  | 9 => ⟨S1x128, .f32⟩
  | 10 => ⟨S16384x128, .f32⟩
  | 11 => ⟨S16384x128, .f32⟩
  | 12 => ⟨S16384x1, .f32⟩
  | 13 => ⟨S1x128, .f32⟩
  | 14 => ⟨S16384x128, .f32⟩
  | 15 => ⟨S16384x128, .f32⟩
  | 16 => ⟨S16384x128, .f32⟩
  | 17 => ⟨S16384x128, .f32⟩
  | 18 => ⟨S8, .f32⟩
  | 19 => ⟨S16384x1024, .bf16⟩
  | 20 => ⟨S128x4x128x128, .f32⟩
  | 21 => ⟨S128x2x512x256, .bf16⟩
  | 22 => ⟨S128x2x512x1, .f32⟩
  | 23 => ⟨S128x4x128x128, .bf16⟩
  | 24 => ⟨S16384x512, .f32⟩
  | 25 => ⟨S128x4x128x1, .f32⟩
  | 26 => ⟨S16384x512, .bf16⟩
  | 27 => ⟨S16384x512, .bf16⟩
  | 28 => ⟨S16384x512, .bf16⟩
  | 29 => ⟨S128x2x512x128, .bf16⟩
  | 30 => ⟨S16384x512, .f32⟩
  | _ => ⟨S16384x2816, .f32⟩

abbrev hbmTy (i : Nat) : BufTy := match i / 128 with
  | 0 => hbmTy0_0 i
  | 1 => hbmTy0_1 i
  | _ => ⟨S16384x2816, .f32⟩

abbrev bufTy : (tb : Table) → Fin (tcTables nBuf tb) → BufTy
  | .hbm, ⟨i, _⟩ => hbmTy i
  | .local _ .vmem, ⟨0, _⟩ => ⟨S512x2816, .f32⟩
  | .local _ .vmem, ⟨1, _⟩ => ⟨S512x2816, .f32⟩
  | .local _ .vmem, ⟨2, _⟩ => ⟨S128x256, .f32⟩
  | .local _ .vmem, ⟨3, _⟩ => ⟨S128x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4x128x128, .f32⟩
  | .local _ .vmem, ⟨9, _⟩ => ⟨S128x512, .f32⟩
  | .local _ .vmem, ⟨10, _⟩ => ⟨S128x512, .f32⟩
  | .local _ .vmem, ⟨11, _⟩ => ⟨S8x512, .f32⟩
  | .local _ .vmem, ⟨12, _⟩ => ⟨S512x1024, .bf16⟩
  | .local _ .vmem, ⟨13, _⟩ => ⟨S512x1024, .bf16⟩
  | .local _ .vmem, ⟨14, _⟩ => ⟨S4x4x128x128, .f32⟩
  | .local _ .vmem, ⟨15, _⟩ => ⟨S4x4x128x128, .f32⟩
  | .local _ .vmem, ⟨16, _⟩ => ⟨S4x2x512x256, .bf16⟩
  | .local _ .vmem, ⟨17, _⟩ => ⟨S4x2x512x256, .bf16⟩
  | .local _ .vmem, ⟨18, _⟩ => ⟨S4x2x512x1, .f32⟩
  | .local _ .vmem, ⟨19, _⟩ => ⟨S4x2x512x1, .f32⟩
  | .local _ .vmem, ⟨20, _⟩ => ⟨S4x4x128x128, .bf16⟩
  | .local _ .vmem, ⟨21, _⟩ => ⟨S4x4x128x128, .bf16⟩
  | .local _ .vmem, ⟨22, _⟩ => ⟨S512x512, .f32⟩
  | .local _ .vmem, ⟨23, _⟩ => ⟨S512x512, .f32⟩
  | .local _ .vmem, ⟨24, _⟩ => ⟨S4x4x128x1, .f32⟩
  | .local _ .vmem, ⟨25, _⟩ => ⟨S4x4x128x1, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S4x2x512x128, .bf16⟩
  | .local _ .vmem, ⟨33, _⟩ => ⟨S4x2x512x128, .bf16⟩
  | .local _ .vmem, ⟨34, _⟩ => ⟨S512x512, .f32⟩
  | .local _ .vmem, ⟨35, _⟩ => ⟨S512x512, .f32⟩
  | .local _ .vmem, ⟨36, _⟩ => ⟨S4x128x128, .f32⟩
  | .local _ .smem, ⟨0, _⟩ => ⟨S8, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_cst : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_v15 : Ref sig .tc := ⟨.hbm, 88, rfl⟩
abbrev main_call1_v16 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c : Ref sig .tc := ⟨.hbm, 100, rfl⟩
abbrev main_call2_v0 : Ref sig .tc := ⟨.hbm, 101, rfl⟩
abbrev main_call2_c : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_1 : Ref sig .tc := ⟨.hbm, 108, rfl⟩
abbrev main_call2_v5 : Ref sig .tc := ⟨.hbm, 109, rfl⟩
abbrev main_call2_v6 : Ref sig .tc := ⟨.hbm, 110, rfl⟩
abbrev main_call2_c_2 : Ref sig .tc := ⟨.hbm, 111, rfl⟩
abbrev main_call2_v7 : Ref sig .tc := ⟨.hbm, 112, rfl⟩
abbrev main_call2_v8 : Ref sig .tc := ⟨.hbm, 113, rfl⟩
abbrev main_call2_c_3 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_v62 : Ref sig .tc := ⟨.hbm, 121, rfl⟩
abbrev main_c_12 : Ref sig .tc := ⟨.hbm, 122, rfl⟩
abbrev main_v63 : Ref sig .tc := ⟨.hbm, 123, rfl⟩
abbrev main_v64 : Ref sig .tc := ⟨.hbm, 124, rfl⟩
abbrev main_cst_13 : Ref sig .tc := ⟨.hbm, 125, rfl⟩
abbrev main_cst_14 : Ref sig .tc := ⟨.hbm, 126, rfl⟩
abbrev main_call3_v0 : Ref sig .tc := ⟨.hbm, 127, rfl⟩
abbrev main_call3_v1 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83_0 : Ref sig .tc := ⟨.hbm, 147, rfl⟩
abbrev main_v83_1 : Ref sig .tc := ⟨.hbm, 148, rfl⟩
abbrev main_v83_2 : Ref sig .tc := ⟨.hbm, 149, rfl⟩
abbrev main_v83_3 : Ref sig .tc := ⟨.hbm, 150, rfl⟩
abbrev main_v83_4 : Ref sig .tc := ⟨.hbm, 151, rfl⟩
abbrev main_v83_5 : Ref sig .tc := ⟨.hbm, 152, rfl⟩
abbrev main_v83_6 : Ref sig .tc := ⟨.hbm, 153, rfl⟩
abbrev main_v83_7 : Ref sig .tc := ⟨.hbm, 154, rfl⟩
abbrev main_v83_8 : Ref sig .tc := ⟨.hbm, 155, rfl⟩
abbrev main_v83_9 : Ref sig .tc := ⟨.hbm, 156, rfl⟩
abbrev main_v83_10 : Ref sig .tc := ⟨.hbm, 157, rfl⟩
abbrev main_v83_11 : Ref sig .tc := ⟨.hbm, 158, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x2x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel7Ideal.lean ====
variable {F : FTy → Type} [FloatOps F] [Named F]
def κ : String → Option EReal := fun
  | "mask" => some ⊥
  | _ => none
-- ==== Reference7Ideal.lean ====
abbrev S16384x2816 : Shape := ⟨2, ![16384, 2816]⟩
abbrev S1x8 : Shape := ⟨2, ![1, 8]⟩
abbrev S16384x512 : Shape := ⟨2, ![16384, 512]⟩
abbrev S1x16384x512 : Shape := ⟨3, ![1, 16384, 512]⟩
abbrev S16384x128 : Shape := ⟨2, ![16384, 128]⟩
abbrev S1x16384x128 : Shape := ⟨3, ![1, 16384, 128]⟩
abbrev S8 : Shape := ⟨1, ![8]⟩
abbrev S1x128x128x2x4x64 : Shape := ⟨6, ![1, 128, 128, 2, 4, 64]⟩
abbrev S1x128x128x2x64 : Shape := ⟨5, ![1, 128, 128, 2, 64]⟩
abbrev S_ : Shape := ⟨0, ![]⟩
abbrev S1x1x128x2x64 : Shape := ⟨5, ![1, 1, 128, 2, 64]⟩
abbrev S1x127x128x2x64 : Shape := ⟨5, ![1, 127, 128, 2, 64]⟩
abbrev S1x128x256x2x64 : Shape := ⟨5, ![1, 128, 256, 2, 64]⟩
abbrev S1x128x2x256x128x4 : Shape := ⟨6, ![1, 128, 2, 256, 128, 4]⟩
abbrev S1x128x2x4x128x256 : Shape := ⟨6, ![1, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x1x128x256 : Shape := ⟨6, ![1, 128, 1, 1, 128, 256]⟩
abbrev S2x4 : Shape := ⟨2, ![2, 4]⟩
abbrev S1x1x2x4x1x1 : Shape := ⟨6, ![1, 1, 2, 4, 1, 1]⟩
abbrev S1x128x2x4x128x1 : Shape := ⟨6, ![1, 128, 2, 4, 128, 1]⟩
abbrev S1x128x2x4x128x257 : Shape := ⟨6, ![1, 128, 2, 4, 128, 257]⟩
abbrev S1x128x2x4x128 : Shape := ⟨5, ![1, 128, 2, 4, 128]⟩
abbrev S1x128x2x64x4x128 : Shape := ⟨6, ![1, 128, 2, 64, 4, 128]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S1x8, .f32⟩
  | .hbm, ⟨2, _⟩ => ⟨S16384x512, .f32⟩
  | .hbm, ⟨3, _⟩ => ⟨S1x16384x512, .f32⟩
  | .hbm, ⟨4, _⟩ => ⟨S16384x128, .f32⟩
  | .hbm, ⟨5, _⟩ => ⟨S1x16384x128, .f32⟩
  | .hbm, ⟨6, _⟩ => ⟨S16384x128, .f32⟩
  | .hbm, ⟨7, _⟩ => ⟨S1x16384x128, .f32⟩
  | .hbm, ⟨8, _⟩ => ⟨S8, .f32⟩
  | .hbm, ⟨9, _⟩ => ⟨S1x128x128x2x4x64, .f32⟩
  | .hbm, ⟨10, _⟩ => ⟨S1x128x128x2x64, .f32⟩
  | .hbm, ⟨11, _⟩ => ⟨S1x128x128x2x64, .f32⟩
  | .hbm, ⟨12, _⟩ => ⟨S_, .f32⟩
  | .hbm, ⟨13, _⟩ => ⟨S1x1x128x2x64, .f32⟩
  | .hbm, ⟨14, _⟩ => ⟨S1x127x128x2x64, .f32⟩
  | .hbm, ⟨15, _⟩ => ⟨S1x128x128x2x64, .f32⟩
  | .hbm, ⟨16, _⟩ => ⟨S1x128x256x2x64, .f32⟩
  | .hbm, ⟨17, _⟩ => ⟨S1x127x128x2x64, .f32⟩
  | .hbm, ⟨18, _⟩ => ⟨S1x128x128x2x64, .f32⟩
  | .hbm, ⟨19, _⟩ => ⟨S1x128x256x2x64, .f32⟩
  | .hbm, ⟨20, _⟩ => ⟨S1x128x2x256x128x4, .f32⟩
  | .hbm, ⟨21, _⟩ => ⟨S1x128x2x4x128x256, .f32⟩
  | .hbm, ⟨22, _⟩ => ⟨S_, .f32⟩
  | .hbm, ⟨23, _⟩ => ⟨S1x128x2x4x128x256, .f32⟩
  | .hbm, ⟨24, _⟩ => ⟨S1x128x2x4x128x256, .f32⟩
  | .hbm, ⟨25, _⟩ => ⟨S128, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S128, .i32⟩
  | .hbm, ⟨43, _⟩ => ⟨S128x1x1, .i32⟩
  | .hbm, ⟨44, _⟩ => ⟨S_, .i32⟩
  | .hbm, ⟨45, _⟩ => ⟨S128x1x1, .i32⟩
  | .hbm, ⟨46, _⟩ => ⟨S128x1x1, .i1⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x1x256, .i1⟩
  | .hbm, ⟨51, _⟩ => ⟨S128x1x256, .i1⟩
  | .hbm, ⟨52, _⟩ => ⟨S128x1x256, .i1⟩
  | .hbm, ⟨53, _⟩ => ⟨S128x1x256, .i1⟩
  | .hbm, ⟨54, _⟩ => ⟨S1x128x256, .i1⟩
  | .hbm, ⟨55, _⟩ => ⟨S128x128x256, .i1⟩
  | .hbm, ⟨56, _⟩ => ⟨S128x128x256, .i1⟩
  | .hbm, ⟨57, _⟩ => ⟨S128x128x256, .i1⟩
  | .hbm, ⟨58, _⟩ => ⟨S1x128x1x1x128x256, .i1⟩
  | .hbm, ⟨59, _⟩ => ⟨S_, .f32⟩
  | .hbm, ⟨60, _⟩ => ⟨S_, .f32⟩
  | .hbm, ⟨61, _⟩ => ⟨S1x128x2x4x128x256, .i1⟩
  | .hbm, ⟨62, _⟩ => ⟨S1x128x2x4x128x256, .f32⟩
  | .hbm, ⟨63, _⟩ => ⟨S1x128x2x4x128x256, .f32⟩
  | .hbm, ⟨64, _⟩ => ⟨S2x4, .f32⟩
  | .hbm, ⟨65, _⟩ => ⟨S1x1x2x4x1x1, .f32⟩
  | .hbm, ⟨66, _⟩ => ⟨S1x128x2x4x128x1, .f32⟩
  | .hbm, ⟨67, _⟩ => ⟨S1x128x2x4x128x257, .f32⟩
  | .hbm, ⟨68, _⟩ => ⟨S_, .f32⟩
  | .hbm, ⟨69, _⟩ => ⟨S1x128x2x4x128, .f32⟩
  | .hbm, ⟨70, _⟩ => ⟨S_, .f32⟩
  | .hbm, ⟨71, _⟩ => ⟨S1x128x2x4x128, .f32⟩
  | .hbm, ⟨72, _⟩ => ⟨S1x128x2x4x128, .f32⟩
  | .hbm, ⟨73, _⟩ => ⟨S1x128x2x4x128x1, .f32⟩
  | .hbm, ⟨74, _⟩ => ⟨S1x128x2x4x128x257, .f32⟩
  | .hbm, ⟨75, _⟩ => ⟨S1x128x2x4x128x257, .f32⟩
  | .hbm, ⟨76, _⟩ => ⟨S1x128x2x4x128x257, .f32⟩
  | .hbm, ⟨77, _⟩ => ⟨S_, .f32⟩
  | .hbm, ⟨78, _⟩ => ⟨S1x128x2x4x128, .f32⟩
  | .hbm, ⟨79, _⟩ => ⟨S1x128x2x4x128x1, .f32⟩
  | .hbm, ⟨80, _⟩ => ⟨S1x128x2x4x128x257, .f32⟩
  | .hbm, ⟨81, _⟩ => ⟨S1x128x2x4x128x257, .f32⟩
  | .hbm, ⟨82, _⟩ => ⟨S1x128x2x4x128x256, .f32⟩
  | .hbm, ⟨83, _⟩ => ⟨S1x128x2x64x4x128, .f32⟩
  | .hbm, ⟨84, _⟩ => ⟨S1x128x128x2x4x64, .f32⟩
  | .hbm, ⟨85, _⟩ => ⟨S1x16384x512, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x1024, .f32⟩
  | .hbm, ⟨90, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_1 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Kernel8.lean ====
abbrev S16384x1024 : Shape := ⟨2, ![16384, 1024]⟩
abbrev S16384x5632 : Shape := ⟨2, ![16384, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S16384x1024 : Shape := ⟨2, ![16384, 1024]⟩
abbrev S16384x5632 : Shape := ⟨2, ![16384, 5632]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S1024x1408 : Shape := ⟨2, ![1024, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference10Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Real.lean ====
/- Extended reals that are real: lifting a family, casting a sum, and the literals of the programs. -/
module

public import Idealize.ShloMosaic.PureOps.Ideal
public import Idealize.ShloMosaic.PureOps.Ideal.Laws

@[expose] public section

noncomputable section

namespace Cert.Proof

open Idealize.ShloMosaic

/-- A family of extended reals, each of which is a real, is a family of reals. -/
theorem exists_reals {ι : Type*} (f : ι → EReal) (h : ∀ i, f i ≠ ⊤ ∧ f i ≠ ⊥) : ∃ g : ι → ℝ, ∀ i, f i = (g i : EReal) :=
  ⟨fun i => (f i).toReal, fun i => (EReal.coe_toReal (h i).1 (h i).2).symm⟩

/-- The sum of reals, taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals, taken among the extended reals. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal root of a positive real. -/
theorem rsqrt_pos {a : ℝ} (ha : 0 < a) : Ideal.rsqrt (a : EReal) = (((Real.sqrt a)⁻¹ : ℝ) : EReal) := by
  rw [Ideal.rsqrt_coe, if_neg (not_lt.mpr ha.le), if_neg ha.ne']

/-- The length of a row, 1024. -/
theorem lit_1024 : Ideal.ofBits .f32 1149239296#32 = ((1024 : ℝ) : EReal) := by
  simp [Ideal.ofBits, Ideal.ieee, -EReal.coe_mul]; norm_num

/-- Minus one half. -/
theorem lit_neg_half : Ideal.ofBits .f32 3204448256#32 = ((-1 / 2 : ℝ) : EReal) := by
  simp [Ideal.ofBits, Ideal.ieee, -EReal.coe_mul, -EReal.coe_neg]; norm_num

/-- The small constant under the root. -/
def eps : ℝ := 8796093 / 2 ^ 43

theorem eps_pos : 0 < eps := by unfold eps; norm_num

/-- The literal of the small constant under the root. -/
theorem lit_eps : Ideal.ofBits .f32 897988541#32 = (eps : EReal) := by
  simp [Ideal.ofBits, Ideal.ieee, -EReal.coe_mul, eps]; norm_num

/-- Infinity, against which the arguments are compared. -/
theorem lit_inf : Ideal.ofBits .f32 2139095040#32 = ⊤ := by
  simp [Ideal.ofBits, Ideal.ieee]

end Cert.Proof

end
-- ==== Proof.Norm.lean ====
/- The backward of the normalisation of a row by its root mean square: the gradient as the kernel writes it out
   equals the gradient that differentiates the normalisation step by step. -/
module

public import proofs.«01_k».proof.Proof.Real

@[expose] public section

noncomputable section

namespace Cert.Proof

open Idealize.ShloMosaic

/-- The reciprocal root mean square of a row. -/
def rstd (x : Fin 1024 → EReal) : EReal :=
  Ideal.rsqrt (Ideal.div (∑ k, x k * x k) (Ideal.ofBits .f32 1149239296#32) + Ideal.ofBits .f32 897988541#32)

/-- The mean of the squares and the small constant, of a row of reals. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg (x k)) (by norm_num)) eps_pos

/-- What stands under the root, of a row of reals. -/
theorem under_root (x : Fin 1024 → ℝ) :
    Ideal.div (∑ k, (x k : EReal) * x k) (Ideal.ofBits .f32 1149239296#32) + Ideal.ofBits .f32 897988541#32 = (meanSq x : EReal) := by
  simp only [← EReal.coe_mul, coe_sum]
  rw [lit_1024, lit_eps, div_coe_coe _ (by norm_num), ← EReal.coe_add, meanSq]

/-- The reciprocal root mean square of a row of reals. -/
theorem rstd_coe (x : Fin 1024 → ℝ) : rstd (fun k => (x k : EReal)) = (((Real.sqrt (meanSq x))⁻¹ : ℝ) : EReal) := by
  rw [rstd, under_root, rsqrt_pos (meanSq_pos x)]

/-- The gradient of the row at `l`, as the kernel writes it: `d` is the gradient of the normalised row, before the gain `g`. -/
def gradOut (x d g : Fin 1024 → EReal) (l : Fin 1024) : EReal :=
  rstd x * (d l * g l - x l * rstd x * Ideal.div (∑ k, d k * g k * (x k * rstd x)) (Ideal.ofBits .f32 1149239296#32))

/-- What differentiating the root contributes to each factor of the square. -/
def gradRoot (x d g : Fin 1024 → EReal) : EReal :=
  Ideal.div ((∑ k, x k * (d k * g k)) * (Ideal.ofBits .f32 3204448256#32 * Ideal.div (rstd x)
    (Ideal.div (∑ k, x k * x k) (Ideal.ofBits .f32 1149239296#32) + Ideal.ofBits .f32 897988541#32)))
    (Ideal.ofBits .f32 1149239296#32)

/-- The two gradients of a row, over the reals. -/
theorem grad_real (x d g : Fin 1024 → ℝ) (l : Fin 1024) {v r : ℝ} (hv : r * r * v = 1) :
    r * (d l * g l - x l * r * ((∑ k, d k * g k * (x k * r)) / 1024))
      = d l * g l * r + x l * ((∑ k, x k * (d k * g k)) * (-1 / 2 * (r / v)) / 1024)
        + (∑ k, x k * (d k * g k)) * (-1 / 2 * (r / v)) / 1024 * x l := by
  have hs : ∑ k, d k * g k * (x k * r) = (∑ k, x k * (d k * g k)) * r := by
    rw [Finset.sum_mul]; exact Finset.sum_congr rfl fun k _ => by ring
  have hv0 : v ≠ 0 := fun h => by simp [h] at hv
  have hr : r / v = r * r * r := by
    rw [div_eq_iff hv0]; linear_combination -r * hv
  rw [hs, hr]; ring

/-- The two gradients of a row, each added to what flows past the normalisation. -/
theorem grad_eq (p : EReal) (x d g : Fin 1024 → EReal) (hx : ∀ k, x k ≠ ⊤ ∧ x k ≠ ⊥) (hd : ∀ k, d k ≠ ⊤ ∧ d k ≠ ⊥)
    (hg : ∀ k, g k ≠ ⊤ ∧ g k ≠ ⊥) (l : Fin 1024) :
    p + gradOut x d g l = p + d l * g l * rstd x + x l * gradRoot x d g + gradRoot x d g * x l := by
  obtain ⟨x, hx⟩ := exists_reals x hx
  obtain ⟨d, hd⟩ := exists_reals d hd
  obtain ⟨g, hg⟩ := exists_reals g hg
  obtain rfl := funext hx
  obtain rfl := funext hd
  obtain rfl := funext hg
  have hpos := meanSq_pos x
  have hv : (Real.sqrt (meanSq x))⁻¹ * (Real.sqrt (meanSq x))⁻¹ * meanSq x = 1 := by
    rw [← mul_inv, Real.mul_self_sqrt hpos.le, inv_mul_cancel₀ hpos.ne']
  have key := grad_real x d g l hv
  unfold gradOut gradRoot
  rw [rstd_coe, under_root]
  simp only [lit_1024, lit_neg_half, ← EReal.coe_mul, coe_sum, div_coe_coe _ hpos.ne', div_coe_coe _ (show (1024 : ℝ) ≠ 0 by norm_num),
    ← EReal.coe_sub, add_assoc, ← EReal.coe_add]
  rw [key, add_assoc]

end Cert.Proof

end
-- ==== Proof.InSpec.lean ====
/- The gradients of the first projection of a block, as functions of the arrays at an index. -/
module

public import proofs.«01_k».proof.Proof.Norm
public import Idealize.ShloMosaic.Lib.Pointwise

@[expose] public section

noncomputable section

namespace Cert.Proof

open Idealize.ShloMosaic

/-- The rows that are normalised, and what flows past them. -/
abbrev Rows := (⟨3, ![1, 16384, 1024]⟩ : Shape).Idx → EReal
/-- The gain. -/
abbrev Gain := (⟨2, ![1, 1024]⟩ : Shape).Idx → EReal
/-- The weight of the projection. -/
abbrev Weight := (⟨3, ![1, 1024, 2816]⟩ : Shape).Idx → EReal
/-- The gradient of the projection. -/
abbrev Proj := (⟨2, ![16384, 2816]⟩ : Shape).Idx → EReal

/-- Row `r`. -/
def xRow (x : Rows) (r : Fin 16384) (l : Fin 1024) : EReal := x (ix3 0 r l)
/-- Row `r` of the gradient of the normalised rows: the gradient of the projection times the transposed weight. -/
def dRow (w : Weight) (p : Proj) (r : Fin 16384) (l : Fin 1024) : EReal := ∑ k : Fin 2816, p (ix2 r k) * w (ix3 0 l k)
/-- The gain as a row. -/
def gRow (g : Gain) (l : Fin 1024) : EReal := g (ix2 0 l)

/-- The gradient of the rows, as the kernel writes it. -/
def gradX (x : Rows) (g : Gain) (w : Weight) (d : Rows) (p : Proj) (r : Fin 16384) (l : Fin 1024) : EReal :=
  d (ix3 0 r l) + gradOut (xRow x r) (dRow w p r) (gRow g) l

/-- What row `r` contributes to the gradient of the gain. -/
def gainTerm (x : Rows) (w : Weight) (p : Proj) (l : Fin 1024) (r : Fin 16384) : EReal :=
  dRow w p r l * (xRow x r l * rstd (xRow x r))

/-- Row `r` of block `t`. -/
def row (t : Fin 32) (r : Fin 512) : Fin 16384 := ⟨t.val * 512 + r.val, by omega⟩

theorem exists_row (r : Fin 16384) : ∃ t s, row t s = r :=
  ⟨⟨r.val / 512, by omega⟩, ⟨r.val % 512, by omega⟩, Fin.ext (by simp only [row]; omega)⟩

/-- The sum over all the rows is the sum over the blocks of the sums over their rows. -/
theorem sum_rows (f : Fin 16384 → EReal) : ∑ t : Fin 32, ∑ s : Fin 512, f (row t s) = ∑ r, f r :=
  (Fin.sum_univ_tiles 32 512 rfl f).symm

end Cert.Proof

end
-- ==== Proof.InBlocks.lean ====
/- The blocks that a point of the grid reads, at an index, as functions of the arrays that the program is given. -/
module
public import proofs.«01_k».proof.Proof.Gen.KernelIdeal.Value
public import Idealize.ShloMosaic.Lib.StableHlo.ReadAt
public import proofs.«01_k».proof.Proof.InSpec
@[expose] public section
noncomputable section
namespace Cert.KernelIdeal.Gen
open Cert.KernelIdeal Cert.Proof Idealize.ShloMosaic Idealize.ShloMosaic.TcCoe Idealize.SL.Sem
open Idealize.ShloMosaic.Pipeline (Dat)
variable (m : (ℓ : Loc nD τ sig) → Buf (Elt Ideal) ℓ) (c : Dev nD)

theorem V_dproj (r : Fin 16384) (k : Fin 2816) : V m c main_v3 (ix2 r k) = m ((c : Thread nD τ).loc main_arg4) (ix2 r k) := by
  unfold V; after_reads_at
theorem V_weight (k : Fin 2816) (l : Fin 1024) : V m c main_v2 (ix2 k l) = m ((c : Thread nD τ).loc main_arg2) (ix3 0 l k) := by
  unfold V; after_reads_at
theorem V_x (r : Fin 16384) (l : Fin 1024) : V m c main_v4 (ix2 r l) = m ((c : Thread nD τ).loc main_arg0) (ix3 0 r l) := by
  unfold V; after_reads_at
theorem V_dx1 (r : Fin 16384) (l : Fin 1024) : V m c main_v5 (ix2 r l) = m ((c : Thread nD τ).loc main_arg3) (ix3 0 r l) := by
  unfold V; after_reads_at

/-- A point as a number below 32. -/
def pt (t : Fin cfg0.N) : Fin 32 := ⟨t.val, lt_of_lt_of_eq t.isLt (show cfg0.N = 32 from N_0)⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

theorem blk_dproj (t : Fin cfg0.N) (r : Fin 512) (k : Fin 2816) :
    (iblk m c 0 t : Vec Ideal S512x2816 .bf16) (ix2 r k) = m ((c : Thread nD τ).loc main_arg4) (ix2 (row (pt t) r) k) := by
  rw [← V_dproj m c]
  unfold iblk
  rw [View.read_apply]
  show V m c main_v3 _ = V m c main_v3 _
  congr 1
  funext a
  apply Fin.ext
  match a with
  | ⟨0, _⟩ => show win0_0.index t 0 * 512 + 1 * r.val = t.val * 512 + r.val; rw [(idx0 t).1]; omega
  | ⟨1, _⟩ => show win0_0.index t 1 * 2816 + 1 * k.val = k.val; rw [(idx0 t).2]; omega

theorem blk_weight (t : Fin cfg0.N) (k : Fin 2816) (l : Fin 1024) :
    (iblk m c 1 t : Vec Ideal S2816x1024 .bf16) (ix2 k l) = m ((c : Thread nD τ).loc main_arg2) (ix3 0 l k) := by
  rw [← V_weight m c]
  unfold iblk
  rw [View.read_apply]
  show V m c main_v2 _ = V m c main_v2 _
  congr 1
  funext a
  apply Fin.ext
  match a with
  | ⟨0, _⟩ => show win0_1.index t 0 * 2816 + 1 * k.val = k.val; rw [(idx1 t).1]; omega
  | ⟨1, _⟩ => show win0_1.index t 1 * 1024 + 1 * l.val = l.val; rw [(idx1 t).2]; omega

theorem blk_x (t : Fin cfg0.N) (r : Fin 512) (l : Fin 1024) :
    (iblk m c 2 t : Vec Ideal S512x1024 .f32) (ix2 r l) = m ((c : Thread nD τ).loc main_arg0) (ix3 0 (row (pt t) r) l) := by
  rw [← V_x m c]
  unfold iblk
  rw [View.read_apply]
  show V m c main_v4 _ = V m c main_v4 _
  congr 1
  funext a
  apply Fin.ext
  match a with
  | ⟨0, _⟩ => show win0_2.index t 0 * 512 + 1 * r.val = t.val * 512 + r.val; rw [(idx2 t).1]; omega
  | ⟨1, _⟩ => show win0_2.index t 1 * 1024 + 1 * l.val = l.val; rw [(idx2 t).2]; omega

theorem blk_gain (t : Fin cfg0.N) (l : Fin 1024) :
    (iblk m c 3 t : Vec Ideal S1x1024 .f32) (ix2 0 l) = m ((c : Thread nD τ).loc main_arg1) (ix2 0 l) := by
  rw [← V_main_arg1 m c]
  unfold iblk
  rw [View.read_apply]
  show V m c main_arg1 _ = V m c main_arg1 _
  congr 1
  funext a
  apply Fin.ext
  match a with
  | ⟨0, _⟩ => show win0_3.index t 0 * 1 + 1 * 0 = 0; rw [(idx3 t).1]
  | ⟨1, _⟩ => show win0_3.index t 1 * 1024 + 1 * l.val = l.val; rw [(idx3 t).2]; omega

theorem blk_dx1 (t : Fin cfg0.N) (r : Fin 512) (l : Fin 1024) :
    (iblk m c 4 t : Vec Ideal S512x1024 .f32) (ix2 r l) = m ((c : Thread nD τ).loc main_arg3) (ix3 0 (row (pt t) r) l) := by
  rw [← V_dx1 m c]
  unfold iblk
  rw [View.read_apply]
  show V m c main_v5 _ = V m c main_v5 _
  congr 1
  funext a
  apply Fin.ext
  match a with
  | ⟨0, _⟩ => show win0_4.index t 0 * 512 + 1 * r.val = t.val * 512 + r.val; rw [(idx4 t).1]; omega
  | ⟨1, _⟩ => show win0_4.index t 1 * 1024 + 1 * l.val = l.val; rw [(idx4 t).2]; omega
end Cert.KernelIdeal.Gen
end
end
-- ==== Proof.InBody.lean ====
/- What one point of the grid writes in its two blocks: the body's stores read back. -/
module
public import proofs.«01_k».proof.Proof.Gen.KernelIdeal.Value
public import proofs.«01_k».proof.Proof.Norm
public import Idealize.ShloMosaic.Lib.Pointwise
public import Idealize.ShloMosaic.Lib.WritesUnit
public import Idealize.ShloMosaic.Lib.Pipeline.ReadBack
@[expose] public section
noncomputable section
namespace Cert.KernelIdeal.Gen
open Cert.KernelIdeal Idealize.ShloMosaic Idealize.ShloMosaic.TcCoe Idealize.SL.Sem
open Idealize.ShloMosaic.Pipeline (Dat)

theorem hz : (![0, 0] : Fin 2 → Nat) = fun _ => 0 := funext fun a => by fin_cases a <;> rfl
/-- A store of the first row, read at an index. -/
theorem read_row {κ : Kind} {sp : Space} (v : View sig κ sp S8x1024 .f32) (f : v.ty.Contents (Elt Ideal)) (inb) (w : S1x1024.Idx → Elt Ideal .f32)
    (L : List (View.Piece (Elt Ideal) S8x1024 .f32)) (r : Fin 8) (l : Fin 1024) :
    v.read (Elt Ideal) (v.writes (Elt Ideal) f (⟨Rect.unit (s := S8x1024) ![0, 0] S1x1024.size inb, w⟩ :: L)) (ix2 r l)
      = if r.val < 1 then w (ix2 0 l) else v.read (Elt Ideal) (v.writes (Elt Ideal) f L) (ix2 r l) := by
  split_ifs with h
  · exact View.read_writes_cons_unit_of_mem v f inb w L (ix2 r l) (ix2 0 l) rfl
      (Fin.forall_fin_two.mpr ⟨by show r.val = 0 + 0; omega, by show l.val = 0 + l.val; omega⟩)
  · exact View.read_writes_cons_unit_of_not_mem v f inb w L (ix2 r l) rfl (0 : Fin 2) (.inr (by show 0 + 1 ≤ r.val; omega))

/-- A store of the whole, read at an index. -/
theorem read_full {κ : Kind} {sp : Space} (v : View sig κ sp S8x1024 .f32) (f : v.ty.Contents (Elt Ideal)) (inb) (w : S8x1024.Idx → Elt Ideal .f32)
    (L : List (View.Piece (Elt Ideal) S8x1024 .f32)) (r : Fin 8) (l : Fin 1024) :
    v.read (Elt Ideal) (v.writes (Elt Ideal) f (⟨Rect.unit (s := S8x1024) ![0, 0] S8x1024.size inb, w⟩ :: L)) (ix2 r l) = w (ix2 r l) :=
  View.read_writes_cons_unit_of_mem v f inb w L (ix2 r l) (ix2 r l) rfl
    (Fin.forall_fin_two.mpr ⟨(Nat.zero_add _).symm, (Nat.zero_add _).symm⟩)

/-- A load of the first row. -/
theorem ld_row (X : S8x1024.Idx → Elt Ideal .f32) (inb) (l : Fin 1024) :
    View.ld X (Rect.unit (s := S8x1024) ![0, 0] S1x1024.size inb) (ix2 0 l) = X (ix2 0 l) :=
  congrArg X (funext fun a => match a with
    | ⟨0, _⟩ => rfl
    | ⟨1, _⟩ => Fin.ext (by show 0 + 1 * l.val = l.val; omega))

section
variable (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole)
    (x0 : Vec Ideal S512x2816 .bf16) (x1 : Vec Ideal S2816x1024 .bf16) (x2 : Vec Ideal S512x1024 .f32) (x3 : Vec Ideal S1x1024 .f32) (x4 : Vec Ideal S512x1024 .f32) (xo6 : Vec Ideal S8x1024 .f32)

theorem out5_A (hc0 : cond0_0 i) : out0_A_5 c i arg1 harg1 arg2 harg2 arg3 harg3 arg4 harg4 arg5 harg5 arg6 harg6 arg7 harg7 hc0 x0 x1 x2 x3 x4 = k0_pay8 x0 x1 x2 x3 x4 := by
  unfold out0_A_5
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz, View.ld_unit_zero (S := S1x1024) hz]

theorem out5_B (hc0 : ¬cond0_0 i) : out0_B_5 c i arg1 harg1 arg2 harg2 arg3 harg3 arg4 harg4 arg5 harg5 arg6 harg6 arg7 harg7 hc0 x0 x1 x2 x3 x4 xo6 = k0_pay8 x0 x1 x2 x3 x4 := by
  unfold out0_B_5
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz, View.ld_unit_zero (S := S1x1024) hz]

theorem out6_A (hc0 : cond0_0 i) (r : Fin 8) (l : Fin 1024) : out0_A_6 c i arg1 harg1 arg2 harg2 arg3 harg3 arg4 harg4 arg5 harg5 arg6 harg6 arg7 harg7 hc0 x0 x1 x2 x3 x4 (ix2 r l) = if r.val < 1 then k0_pay7 x0 x1 x2 (ix2 0 l) else 0 := by
  unfold out0_A_6
  unfold kernelRun0_A
  dsimp only
  sl_unfold_words
  simp only [View.readAt_eq_ld, harg1.read_unread, harg2.read_unread, harg3.read_unread,
    View.ld_unit_zero (S := S512x2816) hz, View.ld_unit_zero (S := S2816x1024) hz, View.ld_unit_zero (S := S512x1024) hz]
  refine (read_row _ _ _ _ _ r l).trans ?_
  congr 1
  · rw [View.readCov_fill (s := S8x1024) arg7.view _ _ _ _ (fun a => congrFun hz a)]
    unfold k0_pay1
    rw [ValueIdx.addf_apply, shapeCast_self]
    refine (congrArg (· + _) (ld_row _ _ l)).trans ?_
    pointwise [k0_pay2]
  · refine (read_full _ _ _ _ _ r l).trans ?_
    pointwise [k0_pay2]

theorem out6_B (hc0 : ¬cond0_0 i) (r : Fin 8) (l : Fin 1024) : out0_B_6 c i arg1 harg1 arg2 harg2 arg3 harg3 arg4 harg4 arg5 harg5 arg6 harg6 arg7 harg7 hc0 x0 x1 x2 x3 x4 xo6 (ix2 r l) = if r.val < 1 then xo6 (ix2 0 l) + k0_pay7 x0 x1 x2 (ix2 0 l) else xo6 (ix2 r l) := by
  unfold out0_B_6
  unfold kernelRun0_B
  dsimp only
  sl_unfold_words
  simp only [View.readAt_eq_ld, harg1.read_unread, harg2.read_unread, harg3.read_unread, harg7.read_unread,
    View.ld_unit_zero (S := S512x2816) hz, View.ld_unit_zero (S := S2816x1024) hz, View.ld_unit_zero (S := S512x1024) hz]
  refine (read_row _ _ _ _ _ r l).trans ?_
  congr 1
  · unfold k0_pay1
    rw [ValueIdx.addf_apply, shapeCast_self]
    exact congrArg (· + _) (ld_row _ _ l)
  · exact congrFun (harg7.read_unread xo6) _
end
end Cert.KernelIdeal.Gen
end
end
-- ==== Proof.InRun.lean ====
/- The two arrays that the kernel leaves: the gradient of the rows, a block of 512 rows for each point of the grid, and the
   gradient of the gain, summed over the points in one block. -/
module

public import proofs.«01_k».proof.Proof.InBlocks
public import proofs.«01_k».proof.Proof.InBody

@[expose] public section

noncomputable section
namespace Cert.KernelIdeal.Gen
open Cert.KernelIdeal Cert.Proof Idealize.ShloMosaic Idealize.ShloMosaic.TcCoe Idealize.SL.Sem
open Idealize.ShloMosaic.Pipeline (Dat)
variable (m : (ℓ : Loc nD τ sig) → Buf (Elt Ideal) ℓ) (c : Dev nD)

/-- The arrays that the program is given. -/
abbrev ax : Rows := m ((c : Thread nD τ).loc main_arg0)
abbrev ag : Gain := m ((c : Thread nD τ).loc main_arg1)
abbrev aw : Weight := m ((c : Thread nD τ).loc main_arg2)
abbrev ad : Rows := m ((c : Thread nD τ).loc main_arg3)
abbrev ap : Proj := m ((c : Thread nD τ).loc main_arg4)

/-- The rows that a point computes of the gradient of `x`. -/
theorem pay8_at (t : Fin cfg0.N) (r : Fin 512) (l : Fin 1024) :
    k0_pay8 (iblk m c 0 t : Vec Ideal S512x2816 .bf16) (iblk m c 1 t : Vec Ideal S2816x1024 .bf16) (iblk m c 2 t : Vec Ideal S512x1024 .f32) (iblk m c 3 t : Vec Ideal S1x1024 .f32) (iblk m c 4 t : Vec Ideal S512x1024 .f32) (ix2 r l)
      = gradX (ax m c) (ag m c) (aw m c) (ad m c) (ap m c) (row (pt t) r) l := by
  pointwise [k0_pay8, k0_pay6, k0_pay5, k0_pay4, k0_pay3]
  unfold gradX gradOut rstd dRow xRow gRow
  simp only [blk_dproj, blk_weight, blk_x, blk_gain, blk_dx1]

/-- The sum of one block's rows of the gradient of the gain. -/
def part (t : Fin cfg0.N) (l : Fin 1024) : EReal :=
  ∑ r : Fin 512, gainTerm (ax m c) (aw m c) (ap m c) l (row (pt t) r)

/-- The row that a point adds to the gradient of the gain. -/
theorem pay7_at (t : Fin cfg0.N) (l : Fin 1024) :
    k0_pay7 (iblk m c 0 t : Vec Ideal S512x2816 .bf16) (iblk m c 1 t : Vec Ideal S2816x1024 .bf16) (iblk m c 2 t : Vec Ideal S512x1024 .f32) (ix2 0 l)
      = part m c t l := by
  unfold part
  pointwise [k0_pay7, k0_pay6, k0_pay5, k0_pay4, k0_pay3]
  unfold gainTerm rstd dRow xRow
  simp only [blk_dproj, blk_weight, blk_x]

/-- What a point leaves in the block of the gradient of `x`. -/
theorem outs5 (t : Fin cfg0.N) (r : Fin 512) (l : Fin 1024) : (outsAt0 m c t.val t.isLt).1 (ix2 r l)
      = gradX (ax m c) (ag m c) (aw m c) (ad m c) (ap m c) (row (pt t) r) l := by
  rw [← pay8_at]
  by_cases h0 : t.val % 32 = 0
  · rw [outsAt0_A m c t h0]; dsimp only; rw [out5_A]
  · rw [outsAt0_B m c t h0]; dsimp only; rw [out5_B]

theorem idx5 : ∀ t : Fin cfg0.N, win0_5.index t 0 = t.val ∧ win0_5.index t 1 = 0 :=
  (by decide +kernel : ∀ t : Fin grid0.N, win0_5.index t 0 = t.val ∧ win0_5.index t 1 = 0)

theorem flush5 : ∀ t : Fin cfg0.N, (cfg0.win 5).flush t = true :=
  (by decide +kernel : ∀ t : Fin grid0.N, win0_5.flush t = true)

/-- The gradient of `x` after the run. -/
theorem arr5 (t : Fin cfg0.N) (r : Fin 512) (l : Fin 1024) : (dats m 0 c).arrAt 5 cfg0.N (ix2 (row (pt t) r) l)
      = gradX (ax m c) (ag m c) (aw m c) (ad m c) (ap m c) (row (pt t) r) l := by
  rw [← outs5]
  have h := congrFun (Value.blocks5 m c t (flush5 t)) (ix2 r l)
  rw [Value.flushed5, View.read_apply] at h
  refine Eq.trans (congrArg ((dats m 0 c).arrAt 5 cfg0.N) ?_) h
  funext a
  apply Fin.ext
  match a with
  | ⟨0, _⟩ => show t.val * 512 + r.val = win0_5.index t 0 * 512 + 1 * r.val; rw [(idx5 t).1]; omega
  | ⟨1, _⟩ => show l.val = win0_5.index t 1 * 1024 + 1 * l.val; rw [(idx5 t).2]; omega

/-- What the points up to `n` leave in the block of the gradient of the gain. -/
theorem outs6 (r : Fin 8) (l : Fin 1024) (n : ℕ) (h : n < cfg0.N) : (outsAt0 m c n h).2 (ix2 r l)
      = if r.val < 1 then ∑ t : Fin (n + 1), part m c ⟨t.val, lt_of_le_of_lt (Nat.le_of_lt_succ t.isLt) h⟩ l else 0 := by
  induction n generalizing r with
  | zero =>
    rw [outsAt0_A m c ⟨0, h⟩ rfl]
    dsimp only
    rw [out6_A, pay7_at]
    simp [part]
  | succ n ih =>
    have hN : cfg0.N = 32 := N_0
    have hB : ¬(⟨n + 1, h⟩ : Fin cfg0.N).val % 32 = 0 := by dsimp only; omega
    rw [outsAt0_B m c ⟨n + 1, h⟩ hB]
    dsimp only
    rw [out6_B, pay7_at, Fin.sum_univ_castSucc]
    simp only [Nat.add_sub_cancel]
    rw [ih, ih]
    split_ifs with h1 h2
    · rfl
    · exact absurd Nat.zero_lt_one h2
    · rfl

/-- The gradient of the gain, in the first of eight rows. -/
def gainOut (i : S8x1024.Idx) : EReal :=
  if (i 0).val < 1 then ∑ t : Fin cfg0.N, part m c t (i 1) else 0

theorem last_point (t : Fin cfg0.N) (h : t.val % 32 = 31) : t = ⟨31, by rw [show cfg0.N = 32 from N_0]; decide⟩ := by
  have hN : t.val < 32 := lt_of_lt_of_eq t.isLt (show cfg0.N = 32 from N_0)
  exact Fin.ext (by show t.val = 31; omega)

theorem idx6 : ∀ t : Fin cfg0.N, win0_6.index t 0 = 0 ∧ win0_6.index t 1 = 0 :=
  (by decide +kernel : ∀ t : Fin grid0.N, win0_6.index t 0 = 0 ∧ win0_6.index t 1 = 0)

theorem flushed6_eq (t : Fin cfg0.N) (hf : (cfg0.win 6).flush t = true) :
    (dats m 0 c).flushed 6 t = ((cfg0.win 6).blk t).view.read (Elt Ideal) (gainOut m c) := by
  have ht := last_point t ((flush0_6 t).mp hf)
  rw [Value.flushed6]
  funext j
  rw [View.read_apply]
  obtain ⟨r, l, rfl⟩ : ∃ (r : Fin 8) (l : Fin 1024), j = ix2 r l := ⟨j 0, j 1, funext fun a => match a with | ⟨0, _⟩ => rfl | ⟨1, _⟩ => rfl⟩
  refine (outs6 m c r l t.val t.isLt).trans ?_
  have hi : (View.emb ((cfg0.win 6).blk t).view (ix2 r l) : S8x1024.Idx) = ix2 r l := by
    funext a
    apply Fin.ext
    match a with
    | ⟨0, _⟩ => show win0_6.index t 0 * 8 + 1 * r.val = r.val; rw [(idx6 t).1]; omega
    | ⟨1, _⟩ => show win0_6.index t 1 * 1024 + 1 * l.val = l.val; rw [(idx6 t).2]; omega
  refine Eq.trans ?_ (congrArg (gainOut m c) hi).symm
  subst ht
  rfl

/-- The gradient of the gain after the run. -/
theorem arr6 : (dats m 0 c).arrAt 6 cfg0.N = gainOut m c :=
  (dats m 0 c).arrAt_eq_of_cover 6 (gainOut m c) (flushed6_eq m c) fun i => by
    have hN : cfg0.N = 32 := N_0
    have hlt : 31 < cfg0.N := by rw [hN]; decide
    refine ⟨⟨31, hlt⟩, (flush0_6 _).mpr rfl, ?_⟩
    show i ∈ ((View.whole main_v6_1).slice (win0_6.rect ⟨31, hlt⟩)).set
    rw [View.set_slice_whole, Rect.mem_set_unit]
    intro a
    have h0 : (i 0 : Nat) < 8 := (i 0).isLt
    have h1 : (i 1 : Nat) < 1024 := (i 1).isLt
    match a with
    | ⟨0, _⟩ => show win0_6.index ⟨31, hlt⟩ 0 * 8 ≤ (i 0 : Nat) ∧ (i 0 : Nat) < win0_6.index ⟨31, hlt⟩ 0 * 8 + 8; rw [(idx6 _).1]; omega
    | ⟨1, _⟩ => show win0_6.index ⟨31, hlt⟩ 1 * 1024 ≤ (i 1 : Nat) ∧ (i 1 : Nat) < win0_6.index ⟨31, hlt⟩ 1 * 1024 + 1024; rw [(idx6 _).2]; omega
end Cert.KernelIdeal.Gen

end
-- ==== Proof.Sums.lean ====
/- Sums over axes of size one. -/
module

public import Idealize.ShloMosaic.Lib.Pointwise

@[expose] public section

noncomputable section

namespace Cert.Proof

open Idealize.ShloMosaic

/-- Where the only source index that drops to `j` is `i`, a host sum at `j` is the initial value and the operand at `i`. -/
theorem hostReduceAdd_unit {s : Shape} {axes : List (Fin s.rank)} {t : Shape} (h : s.ReducesTo axes t) (v : s.Idx → EReal)
    (init : EReal) (j : t.Idx) (i : s.Idx) (hi : ∀ i', h.drop i' = j ↔ i' = i) :
    Ideal.hostReduceAdd h v init j = init + v i := by
  unfold Ideal.hostReduceAdd
  rw [show Finset.univ.filter (fun i' => h.drop i' = j) = {i} from Finset.ext fun i' => by simp [hi]]
  rw [Finset.sum_singleton]

/-- The sum over the two outer axes of size one of a `1 × n × 1` array. -/
theorem hostReduceAdd_outer {n : Nat} (h : (⟨3, ![1, n, 1]⟩ : Shape).ReducesTo [0, 2] ⟨1, ![n]⟩)
    (v : (⟨3, ![1, n, 1]⟩ : Shape).Idx → EReal) (init : EReal) (r : Fin n) :
    Ideal.hostReduceAdd h v init (ix1 r) = init + v (ix3 0 r 0) := by
  refine hostReduceAdd_unit h v init (ix1 r) (ix3 0 r 0) fun i => ⟨fun e => ?_, ?_⟩
  · funext a
    match a with
    | ⟨0, _⟩ => exact Subsingleton.elim (α := Fin 1) _ _
    | ⟨1, _⟩ => exact Fin.ext (congrArg Fin.val (congrFun e 0))
    | ⟨2, _⟩ => exact Subsingleton.elim (α := Fin 1) _ _
  · rintro rfl
    funext b
    match b with
    | ⟨0, _⟩ => rfl

/-- The sum over the two leading axes of size one of a `1 × 1 × n` array. -/
theorem hostReduceAdd_leading {n : Nat} (h : (⟨3, ![1, 1, n]⟩ : Shape).ReducesTo [0, 1] ⟨1, ![n]⟩)
    (v : (⟨3, ![1, 1, n]⟩ : Shape).Idx → EReal) (init : EReal) (l : Fin n) :
    Ideal.hostReduceAdd h v init (ix1 l) = init + v (ix3 0 0 l) := by
  refine hostReduceAdd_unit h v init (ix1 l) (ix3 0 0 l) fun i => ⟨fun e => ?_, ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
  · rintro rfl
    funext b
    match b with
    | ⟨0, _⟩ => rfl

end Cert.Proof

end
-- ==== Proof.InRef.lean ====
/- The two arrays that the reference returns, at an index. -/
module

public import proofs.«01_k».proof.Proof.Gen.ReferenceIdeal.Read
public import proofs.«01_k».proof.Proof.InSpec
public import proofs.«01_k».proof.Proof.Sums

@[expose] public section

noncomputable section

namespace Cert.Proof

open Idealize.ShloMosaic Cert.ReferenceIdeal.Read

/-- A row of the gradient of the normalised rows holds reals where the weight and the gradient of the projection do. -/
theorem dRow_real (w : Weight) (p : Proj) (hw : ∀ i, w i ≠ ⊤ ∧ w i ≠ ⊥) (hp : ∀ i, p i ≠ ⊤ ∧ p i ≠ ⊥) (r : Fin 16384) (l : Fin 1024) :
    dRow w p r l ≠ ⊤ ∧ dRow w p r l ≠ ⊥ := by
  obtain ⟨w, hw⟩ := exists_reals w hw
  obtain ⟨p, hp⟩ := exists_reals p hp
  obtain rfl := funext hw
  obtain rfl := funext hp
  unfold dRow
  simp only [← EReal.coe_mul, coe_sum]
  exact ⟨EReal.coe_ne_top _, EReal.coe_ne_bot _⟩

/-- The gradient of the rows. -/
theorem ref_x (x d : Rows) (g : Gain) (w : Weight) (p : Proj) (hx : ∀ i, x i ≠ ⊤ ∧ x i ≠ ⊥) (hg : ∀ i, g i ≠ ⊤ ∧ g i ≠ ⊥)
    (hw : ∀ i, w i ≠ ⊤ ∧ w i ≠ ⊥) (hp : ∀ i, p i ≠ ⊤ ∧ p i ≠ ⊥) (r : Fin 16384) (l : Fin 1024) :
    val_main_v44 (F := Ideal) x g w d p (ix2 r l) = gradX x g w d p r l := by
  refine Eq.trans ?_ (grad_eq (d (ix3 0 r l)) (xRow x r) (dRow w p r) (gRow g) (fun k => hx _) (dRow_real w p hw hp r) (fun k => hg _) l).symm
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, Cert.Proof.hostReduceAdd_outer, Cert.Proof.hostReduceAdd_leading]
  rfl

/-- The gradient of the gain, in the first of eight rows. -/
theorem ref_gain (x : Rows) (w : Weight) (p : Proj) (r : Fin 8) (l : Fin 1024) :
    val_main_v46 (F := Ideal) x w p (ix2 r l) = if r.val < 1 then ∑ k, gainTerm x w p l k else 0 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, Cert.Proof.hostReduceAdd_outer, Cert.Proof.hostReduceAdd_leading]
  split_ifs
  · exact Finset.sum_congr rfl fun k _ => mul_comm _ _
  · rfl

end Cert.Proof

end
-- ==== Proof.Finite.lean ====
/- What the precondition gives: an array whose elements all lie below infinity in absolute value holds reals. -/
module

public import proofs.«01_k».proof.Proof.Real
public import Idealize.ShloMosaic.Lib.ReduceAll
public import Idealize.ShloMosaic.Lib.Affine
public import Idealize.ShloMosaic.Lib.Pointwise

@[expose] public section

noncomputable section

namespace Cert.Proof

open Idealize.ShloMosaic

/-- An element of a comparison with infinity that holds. -/
theorem real_of_lt (x : EReal) (h : FloatOps.cmpf (F := Ideal) (φ := .f32) .olt (max x (-x)) (Ideal.ofBits .f32 2139095040#32) = 1#1) : x ≠ ⊤ ∧ x ≠ ⊥ := by
  rw [lit_inf] at h
  constructor
  · rintro rfl; simp [FloatOps.cmpf, Ideal.cmp] at h
  · rintro rfl; simp [FloatOps.cmpf, Ideal.cmp] at h

/-- Every element of an array whose absolute values are all below infinity is a real. -/
theorem real_of_all {s t u v : Shape} {axes : List (Fin s.rank)} {dims : Fin v.rank → Fin s.rank} [Subsingleton t.Idx] (x : FVec Ideal s .f32) (b : v.BroadcastsInDim s dims)
    (init : IVec u 1) (h : s.ReducesTo axes t) (hu : 0 < u.numel) (j : t.Idx)
    (e : Host.reduce IntOp.andi (cmpf .olt (Host.absf x) (broadcastInDim s dims b (constant v .f32 0x7F800000#32))) init h hu j = 1#1)
    (i : s.Idx) : x i ≠ ⊤ ∧ x i ≠ ⊥ :=
  real_of_lt _ (Host.reduce_andi_all _ _ h hu j e i)

end Cert.Proof

end
-- ==== Proof.InPre.lean ====
/- The precondition, array by array: the rows, the gain, the weight and the gradient of the projection hold reals. -/
module

public import proofs.«01_k».proof.Defs
public import proofs.«01_k».proof.Proof.Finite

@[expose] public section

noncomputable section

namespace Cert.Proof

open Idealize.ShloMosaic

/-- The four arrays that the precondition speaks of hold reals. -/
theorem finite_real [Cert.Pre_finite.Facts] (x d : FVec Ideal Cert.Pre_finite.S1x16384x1024 .f32) (g : FVec Ideal Cert.Pre_finite.S1x1024 .f32)
    (w : FVec Ideal Cert.Pre_finite.S1x1024x2816 .f32) (p : FVec Ideal Cert.Pre_finite.S16384x2816 .f32)
    (h : Cert.Pre_finite.fn (F := Ideal) x g w d p = fun _ => 1#1) :
    (∀ i, x i ≠ ⊤ ∧ x i ≠ ⊥) ∧ (∀ i, g i ≠ ⊤ ∧ g i ≠ ⊥) ∧ (∀ i, w i ≠ ⊤ ∧ w i ≠ ⊥) ∧ ∀ i, p i ≠ ⊤ ∧ p i ≠ ⊥ := by
  have e := congrFun h ix0
  dsimp only [Cert.Pre_finite.fn, Cert.Pre_finite.fn_part1] at e
  obtain ⟨e, hp⟩ := IntOp.andi_eq_one.mp e
  obtain ⟨e, hw⟩ := IntOp.andi_eq_one.mp e
  obtain ⟨hx, hg⟩ := IntOp.andi_eq_one.mp e
  haveI : Subsingleton Cert.Pre_finite.S_.Idx := ⟨fun a b => funext fun k => k.elim0⟩
  exact ⟨real_of_all _ _ _ _ _ _ hx, real_of_all _ _ _ _ _ _ hg, real_of_all _ _ _ _ _ _ hw, real_of_all _ _ _ _ _ _ hp⟩

end Cert.Proof

end
-- ==== Proof.MixStep.lean ====
/- What one step of the attention and retention backward leaves in its output blocks and in what it carries, and the run of the whole call. -/
module

public import proofs.«01_k».proof.Proof.Gen.Kernel2Ideal.Frame.RunC
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks, taken together -/

/-- The twenty input blocks of a step in front of `R`. -/
def blocksThen (c : Dev nD) (t : Fin cfg0.N) (R : sProp 𝕄) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ R)

/-- The input blocks alone. -/
def blocks (c : Dev nD) (t : Fin cfg0.N) : sProp 𝕄 := blocksThen m c t iprop(emp)

theorem blocksThen_out (c : Dev nD) (t : Fin cfg0.N) (R : sProp 𝕄) : blocksThen m c t R ⊢ iprop(R ∗ blocks m c t) := by
  unfold blocks blocksThen
  iterate 20 refine (sep_mono_right ?_).trans sep_left_comm.1
  exact Laws.sep_emp.2

theorem blocksThen_in (c : Dev nD) (t : Fin cfg0.N) (R : sProp 𝕄) : iprop(R ∗ blocks m c t) ⊢ blocksThen m c t R := by
  unfold blocks blocksThen
  iterate 20 refine sep_left_comm.1.trans (sep_mono_right ?_)
  exact Laws.sep_emp.1

/-- A buffer whose stores cover it holds what they read back as, whatever was there before. -/
theorem owns_of_pieces {s : Shape} {e : EltTy} (c : Dev nD) (M : Memref sig .tc .vmem s e) (V : View sig .tc .vmem s e) (L : List (View.Piece (Elt F) s e))
    (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (V.read (Elt F) (V.writes (Elt F) V.junk L)) := by
  iintro ⟨%f, H⟩
  unfold owns
  iexists _
  isplitr
  swap
  · iexact H
  ipureintro
  exact View.read_writes_of_cover _ _ _ _ _ h

/-! ## What a step leaves -/

/-- What a step leaves: its block of the gradient, the sinks' gradient, and what it hands to the next step. -/
structure Left (F : FTy → Type) where
  /-- The block of the gradient of the projection. -/
  dproj : Vec F S512x2816 .bf16
  /-- The gradient of the sinks, written by the last step. -/
  dsinks : Vec F S1x128 .f32
  /-- The gradient of the retention's state. -/
  state : Vec F S4x128x128 .f32
  /-- The key and value gradients owed to the chunk before. -/
  later : Vec F S128x256 .f32
  /-- The sinks' gradient so far. -/
  acc : Vec F S128x128 .f32

variable (c : Dev nD) (t : Fin cfg0.N)

/-- The stores of the first step. -/
def storesA (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) ((hcond0_0 t).mpr (by omega)) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The stores of a step between. -/
def storesB (h0 : t.val ≠ 0) (h1 : t.val ≠ 31) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => absurd ((hcond0_0 t).mp h) (by have := t.isLt.trans_eq (show cfg0.N = 32 from N_0); omega)) (fun h => absurd ((hcond0_1 t).mp h) (by have := t.isLt.trans_eq (show cfg0.N = 32 from N_0); omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.state p.later p.acc

/-- The stores of the last step. -/
def storesC (h : t.val = 31) (p : Left F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => absurd ((hcond0_0 t).mp h) (by have := t.isLt.trans_eq (show cfg0.N = 32 from N_0); omega)) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.state p.later p.acc

theorem coverA_20 (h : t.val = 0) : ∀ y, ∃ p ∈ (storesA m c t h).1, y ∈ p.1.set := fun y => View.cover_of_tiledBy (storesA m c t h).1 ![128, 128] (by sl_kernel_rfl) y
theorem coverA_state (h : t.val = 0) : ∀ y, ∃ p ∈ (storesA m c t h).2.2.1, y ∈ p.1.set := fun y => View.cover_of_wholeMem (storesA m c t h).2.2.1 (by sl_whole_mem) y
theorem coverA_later (h : t.val = 0) : ∀ y, ∃ p ∈ (storesA m c t h).2.2.2.1, y ∈ p.1.set := fun y => View.cover_of_tiledL (storesA m c t h).2.2.2.1 S128x256.size (by sl_kernel_rfl) y
theorem coverA_acc (h : t.val = 0) : ∀ y, ∃ p ∈ (storesA m c t h).2.2.2.2.1, y ∈ p.1.set := fun y => View.cover_of_tiledL (storesA m c t h).2.2.2.2.1 S128x128.size (by sl_kernel_rfl) y
theorem coverB_20 (h0 : t.val ≠ 0) (h1 : t.val ≠ 31) (q : Left F) : ∀ y, ∃ p ∈ (storesB m c t h0 h1 q).1, y ∈ p.1.set := fun y => View.cover_of_tiledBy (storesB m c t h0 h1 q).1 ![128, 128] (by sl_kernel_rfl) y
theorem coverB_state (h0 : t.val ≠ 0) (h1 : t.val ≠ 31) (q : Left F) : ∀ y, ∃ p ∈ (storesB m c t h0 h1 q).2.2.1, y ∈ p.1.set := fun y => View.cover_of_tiledL (storesB m c t h0 h1 q).2.2.1 S1x128x128.size (by sl_kernel_rfl) y
theorem coverB_later (h0 : t.val ≠ 0) (h1 : t.val ≠ 31) (q : Left F) : ∀ y, ∃ p ∈ (storesB m c t h0 h1 q).2.2.2.1, y ∈ p.1.set := fun y => View.cover_of_tiledL (storesB m c t h0 h1 q).2.2.2.1 S128x256.size (by sl_kernel_rfl) y
theorem coverB_acc (h0 : t.val ≠ 0) (h1 : t.val ≠ 31) (q : Left F) : ∀ y, ∃ p ∈ (storesB m c t h0 h1 q).2.2.2.2.1, y ∈ p.1.set := fun y => View.cover_of_tiledL (storesB m c t h0 h1 q).2.2.2.2.1 S128x128.size (by sl_kernel_rfl) y
theorem coverC_20 (h : t.val = 31) (q : Left F) : ∀ y, ∃ p ∈ (storesC m c t h q).1, y ∈ p.1.set := fun y => View.cover_of_tiledBy (storesC m c t h q).1 ![128, 128] (by sl_kernel_rfl) y
theorem coverC_21 (h : t.val = 31) (q : Left F) : ∀ y, ∃ p ∈ (storesC m c t h q).2.1, y ∈ p.1.set := fun y => View.cover_of_tiledL (storesC m c t h q).2.1 S1x128.size (by sl_kernel_rfl) y
theorem coverC_state (h : t.val = 31) (q : Left F) : ∀ y, ∃ p ∈ (storesC m c t h q).2.2.1, y ∈ p.1.set := fun y => View.cover_of_tiledL (storesC m c t h q).2.2.1 S1x128x128.size (by sl_kernel_rfl) y
theorem coverC_later (h : t.val = 31) (q : Left F) : ∀ y, ∃ p ∈ (storesC m c t h q).2.2.2.1, y ∈ p.1.set := fun y => View.cover_of_tiledL (storesC m c t h q).2.2.2.1 S128x256.size (by sl_kernel_rfl) y
theorem coverC_acc (h : t.val = 31) (q : Left F) : ∀ y, ∃ p ∈ (storesC m c t h q).2.2.2.2.1, y ∈ p.1.set := fun y => View.cover_of_tiledL (storesC m c t h q).2.2.2.2.1 S128x128.size (by sl_kernel_rfl) y

attribute [irreducible] storesA storesB storesC

/-- What the first step leaves. -/
def first (h : t.val = 0) : Left F :=
  ⟨VO0_20.read (Elt F) (VO0_20.writes (Elt F) VO0_20.junk (storesA m c t h).1),
    VO0_21.read (Elt F) VO0_21.junk,
    VS0_0.read (Elt F) (VS0_0.writes (Elt F) VS0_0.junk (storesA m c t h).2.2.1),
    VS0_1.read (Elt F) (VS0_1.writes (Elt F) VS0_1.junk (storesA m c t h).2.2.2.1),
    VS0_2.read (Elt F) (VS0_2.writes (Elt F) VS0_2.junk (storesA m c t h).2.2.2.2.1)⟩

/-- What a step between leaves, over what the step before left. -/
def mid (h0 : t.val ≠ 0) (h1 : t.val ≠ 31) (p : Left F) : Left F :=
  ⟨VO0_20.read (Elt F) (VO0_20.writes (Elt F) VO0_20.junk (storesB m c t h0 h1 p).1),
    VO0_21.read (Elt F) VO0_21.junk,
    VS0_0.read (Elt F) (VS0_0.writes (Elt F) VS0_0.junk (storesB m c t h0 h1 p).2.2.1),
    VS0_1.read (Elt F) (VS0_1.writes (Elt F) VS0_1.junk (storesB m c t h0 h1 p).2.2.2.1),
    VS0_2.read (Elt F) (VS0_2.writes (Elt F) VS0_2.junk (storesB m c t h0 h1 p).2.2.2.2.1)⟩

/-- What the last step leaves. -/
def last (h : t.val = 31) (p : Left F) : Left F :=
  ⟨VO0_20.read (Elt F) (VO0_20.writes (Elt F) VO0_20.junk (storesC m c t h p).1),
    VO0_21.read (Elt F) (VO0_21.writes (Elt F) VO0_21.junk (storesC m c t h p).2.1),
    VS0_0.read (Elt F) (VS0_0.writes (Elt F) VS0_0.junk (storesC m c t h p).2.2.1),
    VS0_1.read (Elt F) (VS0_1.writes (Elt F) VS0_1.junk (storesC m c t h p).2.2.2.1),
    VS0_2.read (Elt F) (VS0_2.writes (Elt F) VS0_2.junk (storesC m c t h p).2.2.2.2.1)⟩

theorem first_dproj (h : t.val = 0) : (first m c t h).dproj = VO0_20.read (Elt F) (VO0_20.writes (Elt F) VO0_20.junk (storesA m c t h).1) := by unfold first; rfl
theorem first_state (h : t.val = 0) : (first m c t h).state = VS0_0.read (Elt F) (VS0_0.writes (Elt F) VS0_0.junk (storesA m c t h).2.2.1) := by unfold first; rfl
theorem first_later (h : t.val = 0) : (first m c t h).later = VS0_1.read (Elt F) (VS0_1.writes (Elt F) VS0_1.junk (storesA m c t h).2.2.2.1) := by unfold first; rfl
theorem first_acc (h : t.val = 0) : (first m c t h).acc = VS0_2.read (Elt F) (VS0_2.writes (Elt F) VS0_2.junk (storesA m c t h).2.2.2.2.1) := by unfold first; rfl
theorem mid_dproj (h0 : t.val ≠ 0) (h1 : t.val ≠ 31) (p : Left F) : (mid m c t h0 h1 p).dproj = VO0_20.read (Elt F) (VO0_20.writes (Elt F) VO0_20.junk (storesB m c t h0 h1 p).1) := by unfold mid; rfl
theorem mid_state (h0 : t.val ≠ 0) (h1 : t.val ≠ 31) (p : Left F) : (mid m c t h0 h1 p).state = VS0_0.read (Elt F) (VS0_0.writes (Elt F) VS0_0.junk (storesB m c t h0 h1 p).2.2.1) := by unfold mid; rfl
theorem mid_later (h0 : t.val ≠ 0) (h1 : t.val ≠ 31) (p : Left F) : (mid m c t h0 h1 p).later = VS0_1.read (Elt F) (VS0_1.writes (Elt F) VS0_1.junk (storesB m c t h0 h1 p).2.2.2.1) := by unfold mid; rfl
theorem mid_acc (h0 : t.val ≠ 0) (h1 : t.val ≠ 31) (p : Left F) : (mid m c t h0 h1 p).acc = VS0_2.read (Elt F) (VS0_2.writes (Elt F) VS0_2.junk (storesB m c t h0 h1 p).2.2.2.2.1) := by unfold mid; rfl
theorem last_dproj (h : t.val = 31) (p : Left F) : (last m c t h p).dproj = VO0_20.read (Elt F) (VO0_20.writes (Elt F) VO0_20.junk (storesC m c t h p).1) := by unfold last; rfl
theorem last_dsinks (h : t.val = 31) (p : Left F) : (last m c t h p).dsinks = VO0_21.read (Elt F) (VO0_21.writes (Elt F) VO0_21.junk (storesC m c t h p).2.1) := by unfold last; rfl
theorem last_state (h : t.val = 31) (p : Left F) : (last m c t h p).state = VS0_0.read (Elt F) (VS0_0.writes (Elt F) VS0_0.junk (storesC m c t h p).2.2.1) := by unfold last; rfl
theorem last_later (h : t.val = 31) (p : Left F) : (last m c t h p).later = VS0_1.read (Elt F) (VS0_1.writes (Elt F) VS0_1.junk (storesC m c t h p).2.2.2.1) := by unfold last; rfl
theorem last_acc (h : t.val = 31) (p : Left F) : (last m c t h p).acc = VS0_2.read (Elt F) (VS0_2.writes (Elt F) VS0_2.junk (storesC m c t h p).2.2.2.2.1) := by unfold last; rfl

/-! ## One step -/

set_option maxHeartbeats 2000000 in
/-- The first step of the body. -/
theorem stepA (h : t.val = 0) (xi : Vec F S1x128 .f32) (K : PUnit → sProp 𝕄) :
    iprop(((∃ d, owns (c : Thread nD τ) (ms0_20 t) fullShare d) ∗ owns (c : Thread nD τ) (ms0_21 t) fullShare xi ∗ (∃ d, owns (c : Thread nD τ) scM0_0 fullShare d) ∗ (∃ d, owns (c : Thread nD τ) scM0_1 fullShare d) ∗ (∃ d, owns (c : Thread nD τ) scM0_2 fullShare d)
        ∗ (blocksThen m c t iprop(owns (c : Thread nD τ) (ms0_20 t) fullShare (first m c t h).dproj ∗ owns (c : Thread nD τ) (ms0_21 t) fullShare xi ∗ owns (c : Thread nD τ) scM0_0 fullShare (first m c t h).state
            ∗ owns (c : Thread nD τ) scM0_1 fullShare (first m c t h).later ∗ owns (c : Thread nD τ) scM0_2 fullShare (first m c t h).acc) -∗ K ⟨⟩)) ∗ blocks m c t)
      ⊢ wp frame (wpE (defs₀ (F := F)) Variants.none c none) Set.univ (bodyAt0 t) K := by
  refine (blocksThen_in m c t _).trans (BIBase.Entails.trans ?_ ((storesA m c t h).2.2.2.2.2 xi Set.univ K))
  unfold blocksThen
  iterate 20 refine sep_mono_right ?_
  refine sep_mono_right (sep_mono_right (sep_mono_right (sep_mono_right (sep_mono_right (wand_mono_left ?_)))))
  iterate 20 refine sep_mono_right ?_
  refine Laws.sep_mono ?_ (sep_mono_right (Laws.sep_mono ?_ (Laws.sep_mono ?_ ?_)))
  · rw [first_dproj]; exact owns_of_pieces c (ms0_20 t) VO0_20 _ (coverA_20 m c t h)
  · rw [first_state]; exact owns_of_pieces c scM0_0 VS0_0 _ (coverA_state m c t h)
  · rw [first_later]; exact owns_of_pieces c scM0_1 VS0_1 _ (coverA_later m c t h)
  · rw [first_acc]; exact owns_of_pieces c scM0_2 VS0_2 _ (coverA_acc m c t h)

set_option maxHeartbeats 2000000 in
/-- A step between. -/
theorem stepB (h0 : t.val ≠ 0) (h1 : t.val ≠ 31) (p : Left F) (xi : Vec F S1x128 .f32) (K : PUnit → sProp 𝕄) :
    iprop(((∃ d, owns (c : Thread nD τ) (ms0_20 t) fullShare d) ∗ owns (c : Thread nD τ) (ms0_21 t) fullShare xi ∗ owns (c : Thread nD τ) scM0_0 fullShare p.state ∗ owns (c : Thread nD τ) scM0_1 fullShare p.later ∗ owns (c : Thread nD τ) scM0_2 fullShare p.acc
        ∗ (blocksThen m c t iprop(owns (c : Thread nD τ) (ms0_20 t) fullShare (mid m c t h0 h1 p).dproj ∗ owns (c : Thread nD τ) (ms0_21 t) fullShare xi ∗ owns (c : Thread nD τ) scM0_0 fullShare (mid m c t h0 h1 p).state
            ∗ owns (c : Thread nD τ) scM0_1 fullShare (mid m c t h0 h1 p).later ∗ owns (c : Thread nD τ) scM0_2 fullShare (mid m c t h0 h1 p).acc) -∗ K ⟨⟩)) ∗ blocks m c t)
      ⊢ wp frame (wpE (defs₀ (F := F)) Variants.none c none) Set.univ (bodyAt0 t) K := by
  refine (blocksThen_in m c t _).trans (BIBase.Entails.trans ?_ ((storesB m c t h0 h1 p).2.2.2.2.2 xi Set.univ K))
  unfold blocksThen
  iterate 20 refine sep_mono_right ?_
  refine sep_mono_right (sep_mono_right (sep_mono_right (sep_mono_right (sep_mono_right (wand_mono_left ?_)))))
  iterate 20 refine sep_mono_right ?_
  refine Laws.sep_mono ?_ (sep_mono_right (Laws.sep_mono ?_ (Laws.sep_mono ?_ ?_)))
  · rw [mid_dproj]; exact owns_of_pieces c (ms0_20 t) VO0_20 _ (coverB_20 m c t h0 h1 p)
  · rw [mid_state]; exact owns_of_pieces c scM0_0 VS0_0 _ (coverB_state m c t h0 h1 p)
  · rw [mid_later]; exact owns_of_pieces c scM0_1 VS0_1 _ (coverB_later m c t h0 h1 p)
  · rw [mid_acc]; exact owns_of_pieces c scM0_2 VS0_2 _ (coverB_acc m c t h0 h1 p)

set_option maxHeartbeats 2000000 in
/-- The last step. -/
theorem stepC (h : t.val = 31) (p : Left F) (K : PUnit → sProp 𝕄) :
    iprop(((∃ d, owns (c : Thread nD τ) (ms0_20 t) fullShare d) ∗ (∃ d, owns (c : Thread nD τ) (ms0_21 t) fullShare d) ∗ owns (c : Thread nD τ) scM0_0 fullShare p.state ∗ owns (c : Thread nD τ) scM0_1 fullShare p.later ∗ owns (c : Thread nD τ) scM0_2 fullShare p.acc
        ∗ (blocksThen m c t iprop(owns (c : Thread nD τ) (ms0_20 t) fullShare (last m c t h p).dproj ∗ owns (c : Thread nD τ) (ms0_21 t) fullShare (last m c t h p).dsinks ∗ owns (c : Thread nD τ) scM0_0 fullShare (last m c t h p).state
            ∗ owns (c : Thread nD τ) scM0_1 fullShare (last m c t h p).later ∗ owns (c : Thread nD τ) scM0_2 fullShare (last m c t h p).acc) -∗ K ⟨⟩)) ∗ blocks m c t)
      ⊢ wp frame (wpE (defs₀ (F := F)) Variants.none c none) Set.univ (bodyAt0 t) K := by
  refine (blocksThen_in m c t _).trans (BIBase.Entails.trans ?_ ((storesC m c t h p).2.2.2.2.2 Set.univ K))
  unfold blocksThen
  iterate 20 refine sep_mono_right ?_
  refine sep_mono_right (sep_mono_right (sep_mono_right (sep_mono_right (sep_mono_right (wand_mono_left ?_)))))
  iterate 20 refine sep_mono_right ?_
  refine Laws.sep_mono ?_ (Laws.sep_mono ?_ (Laws.sep_mono ?_ (Laws.sep_mono ?_ ?_)))
  · rw [last_dproj]; exact owns_of_pieces c (ms0_20 t) VO0_20 _ (coverC_20 m c t h p)
  · rw [last_dsinks]; exact owns_of_pieces c (ms0_21 t) VO0_21 _ (coverC_21 m c t h p)
  · rw [last_state]; exact owns_of_pieces c scM0_0 VS0_0 _ (coverC_state m c t h p)
  · rw [last_later]; exact owns_of_pieces c scM0_1 VS0_1 _ (coverC_later m c t h p)
  · rw [last_acc]; exact owns_of_pieces c scM0_2 VS0_2 _ (coverC_acc m c t h p)

end Cert.Kernel2Ideal.Gen

end
-- ==== Proof.MixRun.lean ====
/- The run of the attention and retention backward, step after step, with what it leaves in its two result arrays. -/
module

public import proofs.«01_k».proof.Proof.MixStep

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the steps leave -/

/-- What step `n` leaves. -/
def left (c : Dev nD) : (n : ℕ) → n < cfg0.N → Left F
  | 0, h => first m c ⟨0, h⟩ rfl
  | n + 1, h => if e : n + 1 = 31 then last m c ⟨n + 1, h⟩ e (left c n (Nat.lt_of_succ_lt h))
      else mid m c ⟨n + 1, h⟩ (Nat.succ_ne_zero n) e (left c n (Nat.lt_of_succ_lt h))

theorem left_first (c : Dev nD) (t : Fin cfg0.N) (h : t.val = 0) : left m c t.val t.isLt = first m c t h := by
  obtain ⟨n, hn⟩ := t
  cases n with
  | zero => rfl
  | succ n => exact absurd h (Nat.succ_ne_zero n)

theorem left_mid (c : Dev nD) (t : Fin cfg0.N) (h0 : t.val ≠ 0) (h1 : t.val ≠ 31) :
    left m c t.val t.isLt = mid m c t h0 h1 (left m c (t.val - 1) (lt_of_le_of_lt (Nat.sub_le _ _) t.isLt)) := by
  obtain ⟨n, hn⟩ := t
  cases n with
  | zero => exact absurd rfl h0
  | succ n =>
    rw [left, dif_neg h1]
    rfl

theorem left_last (c : Dev nD) (t : Fin cfg0.N) (h : t.val = 31) :
    left m c t.val t.isLt = last m c t h (left m c (t.val - 1) (lt_of_le_of_lt (Nat.sub_le _ _) t.isLt)) := by
  obtain ⟨n, hn⟩ := t
  cases n with
  | zero => exact absurd (show (0 : ℕ) = 31 from h) (by decide)
  | succ n =>
    rw [left, dif_pos h]
    rfl

/-! ## What is carried between the steps -/

/-- The three carried buffers, holding what a step left. -/
def carried (c : Dev nD) (p : Left F) : sProp 𝕄 :=
  iprop(iprop(owns (c : Thread nD τ) scM0_0 fullShare p.state ∗ owns (c : Thread nD τ) scM0_1 fullShare p.later ∗ owns (c : Thread nD τ) scM0_2 fullShare p.acc) ∗ (∃ r, prngReg c r))

/-- What the core holds besides the blocks before step `n`. -/
def held (c : Dev nD) : (n : ℕ) → n ≤ cfg0.N → sProp 𝕄
  | 0, _ => Pipeline.ΦA spec0 c
  | n + 1, h => carried c (left m c n h)

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) : held m c n h = carried c (left m c (n - 1) (by omega)) := by
  cases n with
  | zero => exact absurd rfl hz
  | succ n => rfl

/-- The arrays as the call finds them, what each step leaves in its blocks and what is held between the steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (left m c t.val t.isLt).dproj
    | ⟨21, _⟩ => (left m c t.val t.isLt).dsinks
    | ⟨_ + 22, h⟩ => absurd h (Nat.not_lt.2 (Nat.le_add_left _ _))
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_dproj (c : Dev nD) (t : Fin cfg0.N) : (dats m 0 c).after 20 t = (left m c t.val t.isLt).dproj := by
  dsimp only [dats]

theorem after_dsinks (c : Dev nD) (t : Fin cfg0.N) : (dats m 0 c).after 21 t = (left m c t.val t.isLt).dsinks := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem held_succ (c : Dev nD) (t : Fin cfg0.N) : (dats m 0 c).Φ t.succ = carried c (left m c t.val t.isLt) := by
  dsimp only [dats]; rfl

/-! ## The blocks before and after a step -/

/-- The input blocks as the pipeline hands them over, in front of `R`. -/
def given (c : Dev nD) (t : Fin cfg0.N) (R : sProp 𝕄) : sProp 𝕄 :=
  iprop((∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ R)

theorem given_blocks (c : Dev nD) (t : Fin cfg0.N) (R : sProp 𝕄) : given m c t R ⊢ blocksThen m c t R := by
  unfold given blocksThen
  refine sep_mono (exists_elim fun d => by rw [before0_0_of m (dats m 0 c) (A_eq m c 0) (fun _ => by dsimp only [dats]) t d]) ?_
  refine sep_mono (exists_elim fun d => by rw [before0_1_of m (dats m 0 c) (A_eq m c 1) (fun _ => by dsimp only [dats]) t d]) ?_
  refine sep_mono (exists_elim fun d => by rw [before0_2_of m (dats m 0 c) (A_eq m c 2) (fun _ => by dsimp only [dats]) t d]) ?_
  refine sep_mono (exists_elim fun d => by rw [before0_3_of m (dats m 0 c) (A_eq m c 3) (fun _ => by dsimp only [dats]) t d]) ?_
  refine sep_mono (exists_elim fun d => by rw [before0_4_of m (dats m 0 c) (A_eq m c 4) (fun _ => by dsimp only [dats]) t d]) ?_
  refine sep_mono (exists_elim fun d => by rw [before0_5_of m (dats m 0 c) (A_eq m c 5) (fun _ => by dsimp only [dats]) t d]) ?_
  refine sep_mono (exists_elim fun d => by rw [before0_6_of m (dats m 0 c) (A_eq m c 6) (fun _ => by dsimp only [dats]) t d]) ?_
  refine sep_mono (exists_elim fun d => by rw [before0_7_of m (dats m 0 c) (A_eq m c 7) (fun _ => by dsimp only [dats]) t d]) ?_
  refine sep_mono (exists_elim fun d => by rw [before0_8_of m (dats m 0 c) (A_eq m c 8) (fun _ => by dsimp only [dats]) t d]) ?_
  refine sep_mono (exists_elim fun d => by rw [before0_9_of m (dats m 0 c) (A_eq m c 9) (fun _ => by dsimp only [dats]) t d]) ?_
  refine sep_mono (exists_elim fun d => by rw [before0_10_of m (dats m 0 c) (A_eq m c 10) (fun _ => by dsimp only [dats]) t d]) ?_
  refine sep_mono (exists_elim fun d => by rw [before0_11_of m (dats m 0 c) (A_eq m c 11) (fun _ => by dsimp only [dats]) t d]) ?_
  refine sep_mono (exists_elim fun d => by rw [before0_12_of m (dats m 0 c) (A_eq m c 12) (fun _ => by dsimp only [dats]) t d]) ?_
  refine sep_mono (exists_elim fun d => by rw [before0_13_of m (dats m 0 c) (A_eq m c 13) (fun _ => by dsimp only [dats]) t d]) ?_
  refine sep_mono (exists_elim fun d => by rw [before0_14_of m (dats m 0 c) (A_eq m c 14) (fun _ => by dsimp only [dats]) t d]) ?_
  refine sep_mono (exists_elim fun d => by rw [before0_15_of m (dats m 0 c) (A_eq m c 15) (fun _ => by dsimp only [dats]) t d]) ?_
  refine sep_mono (exists_elim fun d => by rw [before0_16_of m (dats m 0 c) (A_eq m c 16) (fun _ => by dsimp only [dats]) t d]) ?_
  refine sep_mono (exists_elim fun d => by rw [before0_17_of m (dats m 0 c) (A_eq m c 17) (fun _ => by dsimp only [dats]) t d]) ?_
  refine sep_mono (exists_elim fun d => by rw [before0_18_of m (dats m 0 c) (A_eq m c 18) (fun _ => by dsimp only [dats]) t d]) ?_
  refine sep_mono (exists_elim fun d => by rw [before0_19_of m (dats m 0 c) (A_eq m c 19) (fun _ => by dsimp only [dats]) t d]) ?_
  exact .rfl

/-- What the pipeline takes back of the input blocks, in front of `R`. -/
def returned (c : Dev nD) (t : Fin cfg0.N) (R : sProp 𝕄) : sProp 𝕄 :=
  iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ R)

theorem blocks_returned (c : Dev nD) (t : Fin cfg0.N) (R : sProp 𝕄) : blocksThen m c t R ⊢ returned m c t R := by
  unfold returned blocksThen Dat.leavesExact
  simp only [liveAt0_0, liveAt0_1, liveAt0_2, liveAt0_3, liveAt0_4, liveAt0_5, liveAt0_6, liveAt0_7, liveAt0_8, liveAt0_9, liveAt0_10, liveAt0_11, liveAt0_12, liveAt0_13, liveAt0_14, liveAt0_15, liveAt0_16, liveAt0_17, liveAt0_18, liveAt0_19]
  dsimp only [dats]
  exact .rfl

theorem returned_dproj (c : Dev nD) (t : Fin cfg0.N) :
    owns (c : Thread nD τ) (ms0_20 t) fullShare (left m c t.val t.isLt).dproj ⊢ (dats m 0 c).leavesExact 20 t := by
  unfold Dat.leavesExact
  rw [liveAt0_20 t, after_dproj]

/-! ## The body -/

/-- What the body is given at a step. -/
def atStart (c : Dev nD) (t : Fin cfg0.N) : sProp 𝕄 :=
  iprop((dats m 0 c).Φ t.castSucc ∗ (dats m 0 c).owesAt () t.castSucc
    ∗ given m c t iprop((∃ d, owns (c : Thread nD τ) (ms0_20 t) fullShare ((dats m 0 c).before 20 t d)) ∗ (∃ d, owns (c : Thread nD τ) (ms0_21 t) fullShare ((dats m 0 c).before 21 t d))))

/-- What the body returns. -/
def atEnd (c : Dev nD) (t : Fin cfg0.N) : sProp 𝕄 :=
  iprop((dats m 0 c).Φ t.succ ∗ (dats m 0 c).owesAt () t.succ ∗ returned m c t iprop((dats m 0 c).leavesExact 20 t ∗ (dats m 0 c).leavesExact 21 t))

/-- The blocks and the carried buffers after a step are what the pipeline takes back. -/
theorem ends (c : Dev nD) (t : Fin cfg0.N) (X : sProp 𝕄) (hX : X ⊢ (dats m 0 c).leavesExact 21 t) :
    iprop(blocksThen m c t iprop(owns (c : Thread nD τ) (ms0_20 t) fullShare (left m c t.val t.isLt).dproj ∗ X
        ∗ owns (c : Thread nD τ) scM0_0 fullShare (left m c t.val t.isLt).state ∗ owns (c : Thread nD τ) scM0_1 fullShare (left m c t.val t.isLt).later
        ∗ owns (c : Thread nD τ) scM0_2 fullShare (left m c t.val t.isLt).acc) ∗ (∃ r, prngReg c r) ∗ (dats m 0 c).owesAt () t.castSucc)
      ⊢ atEnd m c t := by
  unfold atEnd
  rw [held_succ, show (dats m 0 c).owesAt () t.succ = (dats m 0 c).owesAt () t.castSucc from rfl]
  refine (sep_mono (blocksThen_out m c t _) .rfl).trans ?_
  refine BIBase.Entails.trans ?_ (sep_mono_right (sep_mono_right ((blocksThen_in m c t _).trans (blocks_returned m c t _))))
  unfold carried
  iintro ⟨⟨⟨H20, H21, HS0, HS1, HS2⟩, Hb⟩, Hg, Ho⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitr [Hb]
  swap; · iexact Hb
  isplitl [H20]
  · iapply (returned_dproj m c t)
    iexact H20
  iapply hX
  iexact H21

theorem body_step (c : Dev nD) (t : Fin cfg0.N) :
    atStart m c t ⊢ wp frame (wpE (defs₀ (F := F)) Variants.none c none) Set.univ (bodyAt0 t) (fun _ => atEnd m c t) := by
  unfold atStart
  refine (sep_mono_right (sep_mono_right ((given_blocks m c t _).trans (blocksThen_out m c t _)))).trans ?_
  have hN : t.val < 32 := lt_of_lt_of_eq t.isLt (show cfg0.N = 32 from N_0)
  rw [held_castSucc]
  by_cases h0 : t.val = 0
  · have i0 := (hcond0_0 t).mpr (by omega)
    have i1 := fun h : cond0_1 (grid0.coords t) => absurd (b := False) ((hcond0_1 t).mp h) (by omega)
    rw [held_zero m c _ _ h0, PhiA0_eq]
    iintro ⟨⟨⟨HS0, HS1, HS2⟩, Hg⟩, Ho, ⟨⟨%d20, H20⟩, ⟨%d21, H21⟩⟩, Hb⟩
    iapply (stepA m c t h0 _ _)
    isplitr [Hb]
    swap; · iexact Hb
    isplitl [H20]; · iexists _; iexact H20
    isplitl [H21]; · iexact H21
    isplitl [HS0]; · iexact HS0
    isplitl [HS1]; · iexact HS1
    isplitl [HS2]; · iexact HS2
    iintro H
    have e := ends m c t (owns (c : Thread nD τ) (ms0_21 t) fullShare ((dats m 0 c).before 21 t d21)) (by
      rw [Dat.leavesExact_idle (dats m 0 c) 21 t (idleAt0_21_A t i0 i1) (noFlush0_21_A t i0 i1)]
      iintro H; iexists _; iexact H)
    rw [left_first m c t h0] at e
    iapply e
    isplitl [H]; · iexact H
    isplitl [Hg]; · iexact Hg
    iexact Ho
  by_cases h1 : t.val = 31
  · have i0 := fun h : cond0_0 (grid0.coords t) => absurd (b := False) ((hcond0_0 t).mp h) (by omega)
    have i1 := (hcond0_1 t).mpr (by omega)
    rw [held_pos m c _ _ h0]
    unfold carried
    iintro ⟨⟨⟨HS0, HS1, HS2⟩, Hg⟩, Ho, ⟨⟨%d20, H20⟩, ⟨%d21, H21⟩⟩, Hb⟩
    iapply (stepC m c t h1 _ _)
    isplitr [Hb]
    swap; · iexact Hb
    isplitl [H20]; · iexists _; iexact H20
    isplitl [H21]; · iexists _; iexact H21
    isplitl [HS0]; · iexact HS0
    isplitl [HS1]; · iexact HS1
    isplitl [HS2]; · iexact HS2
    iintro H
    have e := ends m c t (owns (c : Thread nD τ) (ms0_21 t) fullShare (left m c t.val t.isLt).dsinks) (by
      unfold Dat.leavesExact
      rw [liveAt0_21_C t i0 i1, after_dsinks])
    rw [left_last m c t h1] at e
    iapply e
    isplitl [H]; · iexact H
    isplitl [Hg]; · iexact Hg
    iexact Ho
  · have i0 := fun h : cond0_0 (grid0.coords t) => absurd (b := False) ((hcond0_0 t).mp h) (by omega)
    have i1 := fun h : cond0_1 (grid0.coords t) => absurd (b := False) ((hcond0_1 t).mp h) (by omega)
    rw [held_pos m c _ _ h0]
    unfold carried
    iintro ⟨⟨⟨HS0, HS1, HS2⟩, Hg⟩, Ho, ⟨⟨%d20, H20⟩, ⟨%d21, H21⟩⟩, Hb⟩
    iapply (stepB m c t h0 h1 _ _ _)
    isplitr [Hb]
    swap; · iexact Hb
    isplitl [H20]; · iexists _; iexact H20
    isplitl [H21]; · iexact H21
    isplitl [HS0]; · iexact HS0
    isplitl [HS1]; · iexact HS1
    isplitl [HS2]; · iexact HS2
    iintro H
    have e := ends m c t (owns (c : Thread nD τ) (ms0_21 t) fullShare ((dats m 0 c).before 21 t d21)) (by
      rw [Dat.leavesExact_idle (dats m 0 c) 21 t (idleAt0_21_B t i0 i1) (noFlush0_21_B t i0 i1)]
      iintro H; iexists _; iexact H)
    rw [left_mid m c t h0 h1] at e
    iapply e
    isplitl [H]; · iexact H
    isplitl [Hg]; · iexact Hg
    iexact Ho

theorem body_row (t : Fin cfg0.N) : defs₀ (F := F) .tc cfg0.body (cfg0.bodyArgs t (cfg0.slots t)) = bodyAt0 t := by
  unfold defs₀; rw [Defs.onTc_tc]

theorem body_at (c : Dev nD) : BodyObligation (dats (F := F) m 0 c) (defs₀ (F := F)) Variants.none () Set.univ := fun t => by
  rw [bigSep_W0, bigSep_W0, body_row]
  exact triple_restated (body_step m c t) rfl .rfl fun _ => .rfl

/-! ## The run -/

theorem held_in (c : Dev nD) : Pipeline.ΦA spec0 c ⊢ (dats m 0 c).Φ 0 := by
  rw [show (dats m 0 c).Φ 0 = held m c 0 (Nat.zero_le _) from rfl, held_zero m c 0 _ rfl]

theorem held_out (c : Dev nD) : (dats m 0 c).Φ (Fin.last cfg0.N) ⊢ Pipeline.ΦA spec0 c := by
  have e : (Fin.last cfg0.N).val ≠ 0 := by rw [Fin.val_last]; have : cfg0.N = 32 := N_0; omega
  rw [show (dats m 0 c).Φ (Fin.last cfg0.N) = held m c (Fin.last cfg0.N).val (Nat.le_of_lt_succ (Fin.last cfg0.N).isLt) from rfl, held_pos m c _ _ e, PhiA0_eq]
  unfold carried
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The whole run: the arrays end as the steps leave them, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_at m c).loose) (hq := fun _ _ _ => rfl) (howed := fun _ _ => rfl)
    (V := V m) (hmain := hmain m Variants.none) (hA := A_eq m) (hin := held_in m) (hout := held_out m)

theorem run_arrays : θ_run defs (onTc (τ := τ) (main (F := F))) (s₀ m ρ) (Pipeline.FramePost cfgs (dats m) 0 (V m)) :=
  (θ_run defs _ _).mono (fun _ h => h.1) (run_all m ρ)

/-- The run terminates, leaves the argument arrays as they were and every counter at zero. -/
theorem mixer_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_all m ρ))

end Cert.Kernel2Ideal.Gen

end
-- ==== Proof.MixFrame.lean ====
/- The frames of the attention and retention backward, as its claims state them, and of the attention's reference. -/
module

public import proofs.«01_k».proof.Defs
public import proofs.«01_k».proof.Proof.MixRun
public import proofs.«01_k».proof.Proof.Gen.Kernel2
public import proofs.«01_k».proof.Proof.Gen.Reference2Ideal.Run

@[expose] public section

set_option maxRecDepth 16384

noncomputable section

namespace Cert.Proof

open Idealize.ShloMosaic Idealize.SL.Sem

/-- What the frame of the kernel as printed for idealization says, at any reading of the floats. -/
def IdealText (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg),
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

/-- The same of the kernel as it runs. -/
def KernelText (F : FTy → Type) [FloatOps F] : Prop :=
  ∀ (m : (ℓ : Loc Cert.Kernel2.nD Cert.Kernel2.τ Cert.Kernel2.sig) → Buf (Elt F) ℓ) (g : Dev Cert.Kernel2.nD → PrngReg),
    θ_run (Cert.Kernel2.defs (F := F)) (onTc (τ := Cert.Kernel2.τ) (Cert.Kernel2.main (F := F))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

/-- The two programs have the same text, so the two statements are the same. -/
theorem same_text (F : FTy → Type) [FloatOps F] : IdealText F = KernelText F := by sl_kernel_rfl

theorem mixer_kernel : Cert.quiescent_Kernel2 :=
  fun m ρ _ => (same_text Bits).mp (fun m ρ => Cert.Kernel2Ideal.Gen.mixer_frame m ρ) m ρ

theorem mixer_ideal : Cert.quiescent_Kernel2Ideal :=
  fun m ρ _ => Cert.Kernel2Ideal.Gen.mixer_frame m ρ

/-- The attention's reference ends and leaves its arguments as they were. It has no semaphore. -/
theorem attention_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

end Cert.Proof

end
-- ==== Proof.MixSpec.lean ====
/- The gradient of the attention with sinks, element by element: sixty-four columns to a head, four query heads to a key head, each row of a chunk of 128 looking
   at the chunk before its own and at its own chunk. -/
module

public import proofs.«01_k».proof.Proof.Real
public import proofs.«01_k».proof.Proof.InSpec
public import Idealize.ShloMosaic.Lib.Pointwise

@[expose] public section

noncomputable section

namespace Cert.Proof

open Idealize.ShloMosaic

/-- The logits of the sinks, one to a query head. -/
abbrev Sinks := FVec Ideal ⟨2, ![1, 8]⟩ .f32

/-- The gradient of the mixed rows. -/
abbrev Mixed := FVec Ideal ⟨2, ![16384, 1024]⟩ .f32

/-- The row of all rows that is row `r` of chunk `n`. -/
def pos (n r : Fin 128) : Fin 16384 := ⟨n.val * 128 + r.val, by omega⟩

/-- The column of a query head's lane. -/
def queryCol (h : Fin 2) (g : Fin 4) (d : Fin 64) : Fin 2816 := ⟨h.val * 256 + g.val * 64 + d.val, by omega⟩

/-- The column of a key head's lane. -/
def keyCol (h : Fin 2) (d : Fin 64) : Fin 2816 := ⟨512 + (h.val * 64 + d.val), by omega⟩

/-- The column of a value head's lane. -/
def valueCol (h : Fin 2) (d : Fin 64) : Fin 2816 := ⟨640 + (h.val * 64 + d.val), by omega⟩

/-- One eighth, the scale of the scores. -/
def eighth : EReal := Ideal.ofBits .f32 1040187392#32

section
variable (x : Proj) (s : Sinks) (y : Mixed) (n : Fin 128) (h : Fin 2) (g : Fin 4) (r : Fin 128)

/-- The query. -/
def query (d : Fin 64) : EReal := x (ix2 (pos n r) (queryCol h g d))

/-- A column of the window of chunk `n`: 128 rows of the chunk before, nothing where there is none, and 128 of its own. -/
def inWindow (b : Fin 256) (c : Fin 2816) : EReal :=
  if b.val < 128 then (if n.val < 1 then 0 else x (ix2 ⟨(n.val - 1) * 128 + b.val, by omega⟩ c)) else x (ix2 ⟨n.val * 128 + (b.val - 128), by omega⟩ c)

/-- The keys of the window. -/
def winKey (b : Fin 256) (d : Fin 64) : EReal := inWindow x n b (keyCol h d)

/-- The values of the window. -/
def winValue (b : Fin 256) (d : Fin 64) : EReal := inWindow x n b (valueCol h d)

/-- The places of the window that a row looks at: the 128 that end with its own, none before the first row. -/
def live (b : Fin 256) : Prop := (b.val ≤ r.val + 128 ∧ r.val < b.val) ∧ (0 < n.val ∨ 128 ≤ b.val)

instance (b : Fin 256) : Decidable (live n r b) := inferInstanceAs (Decidable (_ ∧ _))

/-- The scores, nothing where the row does not look, and the sink's after them. -/
def logit (j : Fin 257) : EReal :=
  if hj : j.val < 256 then (if live n r ⟨j.val, hj⟩ then (∑ d, winKey x n h ⟨j.val, hj⟩ d * query x n h g r d) * eighth else ⊥)
  else s (ix2 0 ⟨h.val * 4 + g.val, by omega⟩)

/-- The largest score. -/
def top : EReal := max ⊥ ((Finset.univ : Finset (Fin 257)).fold max ⊥ (logit x s n h g r))

/-- The exponentials. -/
def weight (j : Fin 257) : EReal := Ideal.exp (logit x s n h g r j - top x s n h g r)

/-- Their sum. -/
def total : EReal := ∑ j, weight x s n h g r j

/-- The probabilities. -/
def prob (j : Fin 257) : EReal := Ideal.div (weight x s n h g r j) (total x s n h g r)

/-- The gradient of a head's result. -/
def outGrad (d : Fin 64) : EReal := y (ix2 (pos n r) ⟨h.val * 256 + g.val * 64 + d.val, by omega⟩)

/-- The gradient of a probability. -/
def probGrad (b : Fin 256) : EReal := ∑ d, outGrad y n h g r d * winValue x n h b d

/-- The mean of the gradients of the probabilities. -/
def meanGrad : EReal := ∑ b : Fin 256, prob x s n h g r b.castSucc * probGrad x y n h g r b

/-- The gradient of a score. -/
def scoreGrad (b : Fin 256) : EReal := prob x s n h g r b.castSucc * (probGrad x y n h g r b - meanGrad x s y n h g r) * eighth

/-- The gradient of a query. -/
def queryGrad (d : Fin 64) : EReal := ∑ b, scoreGrad x s y n h g r b * winKey x n h b d

end

section
variable (x : Proj) (s : Sinks) (y : Mixed) (n : Fin 128) (h : Fin 2)

/-- The gradient of a key of a chunk's window. -/
def winKeyGrad (b : Fin 256) (d : Fin 64) : EReal := ∑ g, ∑ r, scoreGrad x s y n h g r b * query x n h g r d

/-- The gradient of a value of a chunk's window. -/
def winValueGrad (b : Fin 256) (d : Fin 64) : EReal := ∑ g, ∑ r, prob x s n h g r b.castSucc * outGrad y n h g r d

/-- What a chunk's window and the window of the chunk after it add up to at row `r` of the chunk. -/
def overlap (w : Fin 128 → Fin 256 → EReal) (r : Fin 128) : EReal :=
  w n ⟨128 + r.val, by omega⟩ + if hn : n.val < 127 then w ⟨1 + n.val, by omega⟩ ⟨r.val, by omega⟩ else 0

/-- The gradient of a key. -/
def keyGrad (r : Fin 128) (d : Fin 64) : EReal := overlap n (fun n b => winKeyGrad x s y n h b d) r

/-- The gradient of a value. -/
def valueGrad (r : Fin 128) (d : Fin 64) : EReal := overlap n (fun n b => winValueGrad x s y n h b d) r

/-- The gradient of a sink. -/
def sinkGrad (g : Fin 4) : EReal := ∑ n, ∑ r, prob x s n h g r (Fin.last 256) * (0 - meanGrad x s y n h g r)

/-- The gradient of the projection, 512 columns of queries, 128 of keys and 128 of values, nothing after them. -/
def mixColumns (c : Fin 16384) (l : Fin 2816) : EReal :=
  if hq : l.val < 512 then queryGrad x s y ⟨c.val / 128, by omega⟩ ⟨l.val / 256, by omega⟩ ⟨l.val / 64 % 4, by omega⟩ ⟨c.val % 128, by omega⟩ ⟨l.val % 64, by omega⟩
  else if hk : l.val - 512 < 128 then keyGrad x s y ⟨c.val / 128, by omega⟩ ⟨(l.val - 512) / 64, by omega⟩ ⟨c.val % 128, by omega⟩ ⟨(l.val - 512) % 64, by omega⟩
  else if hv : l.val - 512 - 128 < 128 then valueGrad x s y ⟨c.val / 128, by omega⟩ ⟨(l.val - 512 - 128) / 64, by omega⟩ ⟨c.val % 128, by omega⟩ ⟨(l.val - 512 - 128) % 64, by omega⟩
  else 0

/-- The gradient of the sinks, in eight lanes of 128. -/
def mixSinks (l : Fin 128) : EReal := if hl : l.val < 8 then sinkGrad x s y ⟨l.val / 4, by omega⟩ ⟨l.val % 4, by omega⟩ else 0

end

theorem eighth_eq : eighth = ((1 / 8 : ℝ) : EReal) := by
  unfold eighth; simp [Ideal.ofBits, Ideal.ieee, -EReal.coe_mul]; norm_num

theorem lit_bot : Ideal.ofBits .f32 4286578688#32 = ⊥ := by
  simp [Ideal.ofBits, Ideal.ieee]

theorem lit_one : Ideal.ofBits .f32 1065353216#32 = ((1 : ℝ) : EReal) := by
  simp [Ideal.ofBits, Ideal.ieee, -EReal.coe_mul]; norm_num

section
variable {x : Proj} {s : Sinks} {y : Mixed} (hx : ∀ i, x i ≠ ⊤ ∧ x i ≠ ⊥) (hs : ∀ i, s i ≠ ⊤ ∧ s i ≠ ⊥) (hy : ∀ i, y i ≠ ⊤ ∧ y i ≠ ⊥)
  (n : Fin 128) (h : Fin 2) (g : Fin 4) (r : Fin 128)

include hx in
/-- A window holds reals. -/
theorem inWindow_real : ∃ w : Fin 256 → Fin 2816 → ℝ, ∀ b c, inWindow x n b c = (w b c : EReal) := by
  have k : ∀ b c, inWindow x n b c ≠ ⊤ ∧ inWindow x n b c ≠ ⊥ := by
    intro b c
    unfold inWindow
    split_ifs
    · exact ⟨EReal.zero_ne_top, EReal.zero_ne_bot⟩
    · exact hx _
    · exact hx _
  exact ⟨fun b c => (inWindow x n b c).toReal, fun b c => (EReal.coe_toReal (k b c).1 (k b c).2).symm⟩

include hx hs in
/-- A score is a real or nothing. -/
theorem logit_lt (j : Fin 257) : logit x s n h g r j ≠ ⊤ := by
  obtain ⟨x', hx'⟩ := exists_reals x hx
  obtain ⟨w, hw⟩ := inWindow_real hx n
  unfold logit
  split_ifs
  · unfold winKey query
    simp only [hw, hx', eighth_eq, ← EReal.coe_mul, coe_sum]
    exact EReal.coe_ne_top _
  · exact bot_ne_top
  · exact (hs _).1

include hx hs in
/-- The largest score is a real. -/
theorem top_real : ∃ t : ℝ, top x s n h g r = (t : EReal) := by
  refine ⟨(top x s n h g r).toReal, (EReal.coe_toReal ?_ ?_).symm⟩
  · refine ne_of_lt ?_
    unfold top
    refine max_lt bot_lt_top ?_
    exact (Finset.fold_max_lt _).mpr ⟨bot_lt_top, fun j _ => lt_top_iff_ne_top.mpr (logit_lt hx hs n h g r j)⟩
  · refine ne_of_gt ?_
    unfold top
    refine lt_of_lt_of_le (bot_lt_iff_ne_bot.mpr (hs (ix2 0 ⟨h.val * 4 + g.val, by omega⟩)).2) (le_max_of_le_right ?_)
    refine (Finset.le_fold_max _).mpr (Or.inr ⟨Fin.last 256, Finset.mem_univ _, ?_⟩)
    unfold logit
    rw [dif_neg (by simp)]

include hx hs in
/-- The exponentials are reals whose sum is positive. -/
theorem weight_real : ∃ e : Fin 257 → ℝ, (∀ j, weight x s n h g r j = (e j : EReal)) ∧ 0 < ∑ j, e j := by
  obtain ⟨t, ht⟩ := top_real hx hs n h g r
  have key : ∀ j, weight x s n h g r j = ((if logit x s n h g r j = ⊥ then 0 else Real.exp ((logit x s n h g r j).toReal - t) : ℝ) : EReal) := by
    intro j
    unfold weight
    rw [ht]
    split_ifs with q
    · rw [q]; rfl
    · obtain ⟨a, ha⟩ : ∃ a : ℝ, logit x s n h g r j = (a : EReal) := ⟨_, (EReal.coe_toReal (logit_lt hx hs n h g r j) q).symm⟩
      rw [ha, ← EReal.coe_sub, Ideal.exp_coe, EReal.toReal_coe]
  refine ⟨_, key, Finset.sum_pos' (fun j _ => ?_) ⟨Fin.last 256, Finset.mem_univ _, ?_⟩⟩
  · split_ifs
    · exact le_rfl
    · exact (Real.exp_pos _).le
  · rw [if_neg]
    · exact Real.exp_pos _
    · unfold logit
      rw [dif_neg (by simp)]
      exact (hs _).2

include hx hy in
/-- The gradients of the probabilities are reals. -/
theorem probGrad_real : ∃ p : Fin 256 → ℝ, ∀ b, probGrad x y n h g r b = (p b : EReal) := by
  obtain ⟨y', hy'⟩ := exists_reals y hy
  obtain ⟨w, hw⟩ := inWindow_real hx n
  refine ⟨fun b => ∑ d, y' (ix2 (pos n r) ⟨h.val * 256 + g.val * 64 + d.val, by omega⟩) * w b (valueCol h d), fun b => ?_⟩
  unfold probGrad outGrad winValue
  simp only [hw, hy', ← EReal.coe_mul, coe_sum]

include hx hs in
/-- A place that the row does not look at has no probability. -/
theorem prob_dead (b : Fin 256) (hb : ¬ live n r b) : prob x s n h g r b.castSucc = 0 := by
  obtain ⟨e, he, hp⟩ := weight_real hx hs n h g r
  have hz : weight x s n h g r b.castSucc = 0 := by
    unfold weight logit
    rw [dif_pos (show b.castSucc.val < 256 from b.isLt), if_neg (show ¬ live n r ⟨b.castSucc.val, b.isLt⟩ from hb)]
    obtain ⟨t, ht⟩ := top_real hx hs n h g r
    rw [ht]; rfl
  unfold prob total
  rw [hz]
  simp only [he, coe_sum]
  rw [Ideal.div_coe hp.ne', zero_mul]

/-- The gradient through a quotient by the sum is the gradient through the probabilities. -/
theorem softmax_core (e p : Fin 257 → ℝ) (he : 0 < ∑ j, e j) (j : Fin 257) :
    (Ideal.div (p j : EReal) (∑ k, (e k : EReal)) + (0 + -(0 + ∑ k, (p k : EReal) * Ideal.div ((1 : ℝ) : EReal) ((∑ k, (e k : EReal)) * (∑ k, (e k : EReal))) * (e k : EReal)))) * (e j : EReal)
      = Ideal.div (e j : EReal) (∑ k, (e k : EReal)) * ((p j : EReal) - ∑ k, Ideal.div (e k : EReal) (∑ k, (e k : EReal)) * (p k : EReal)) := by
  have hz : (∑ k, e k) ≠ 0 := he.ne'
  simp only [coe_sum, ← EReal.coe_mul, div_coe_coe _ hz, div_coe_coe _ (mul_ne_zero hz hz), zero_add, ← EReal.coe_neg, ← EReal.coe_add, ← EReal.coe_sub]
  congr 1
  generalize (∑ k, e k) = z at hz
  have e1 : (∑ k, p k * (1 / (z * z)) * e k) = (∑ k, e k / z * p k) / z := by
    rw [Finset.sum_div]
    refine Finset.sum_congr rfl fun k _ => ?_
    field_simp
  rw [e1]
  field_simp
  ring

end

end Cert.Proof

end
-- ==== Proof.HostSums.lean ====
/- Host reductions over the axes of arrays of rank five and six, at an index. -/
module

public import Idealize.ShloMosaic.Lib.Pointwise

@[expose] public section

noncomputable section

namespace Cert.Proof

open Idealize.ShloMosaic

section last5
variable {a b c d e : Nat} (h : (⟨5, ![a, b, c, d, e]⟩ : Shape).ReducesTo [4] ⟨4, ![a, b, c, d]⟩)

/-- What drops to an index, the last of five axes reduced. -/
theorem drop_last5 (i : Fin a) (j : Fin b) (k : Fin c) (l : Fin d) (x : (⟨5, ![a, b, c, d, e]⟩ : Shape).Idx) :
    h.drop x = ix4 i j k l ↔ ∃ m : Fin e, ix5 i j k l m = x := by
  constructor
  · intro q
    refine ⟨x 4, ?_⟩
    funext p
    match p with
    | ⟨0, _⟩ => exact Fin.ext (congrArg Fin.val (congrFun q 0)).symm
    | ⟨1, _⟩ => exact Fin.ext (congrArg Fin.val (congrFun q 1)).symm
    | ⟨2, _⟩ => exact Fin.ext (congrArg Fin.val (congrFun q 2)).symm
    | ⟨3, _⟩ => exact Fin.ext (congrArg Fin.val (congrFun q 3)).symm
    | ⟨4, _⟩ => rfl
  · rintro ⟨m, rfl⟩
    funext p
    match p with
    | ⟨0, _⟩ => rfl
    | ⟨1, _⟩ => rfl
    | ⟨2, _⟩ => rfl
    | ⟨3, _⟩ => rfl

/-- The host's sum over the last of five axes. -/
theorem sum_last5 (v : (⟨5, ![a, b, c, d, e]⟩ : Shape).Idx → EReal) (z : EReal) (i : Fin a) (j : Fin b) (k : Fin c) (l : Fin d) :
    Ideal.hostReduceAdd h v z (ix4 i j k l) = z + ∑ m, v (ix5 i j k l m) :=
  congrArg (z + ·) (Finset.sum_filter_eq_sum_of_fiber _ (fun m : Fin e => (ix5 i j k l m : (⟨5, ![a, b, c, d, e]⟩ : Shape).Idx)) (fun _ _ q => congrFun q 4) (drop_last5 h i j k l) v)

/-- The host's largest element along the last of five axes. -/
theorem max_last5 {u : Shape} (v : FVec Ideal ⟨5, ![a, b, c, d, e]⟩ .f32) (z : FVec Ideal u .f32) (hu : 0 < u.numel) (i : Fin a) (j : Fin b) (k : Fin c) (l : Fin d) :
    Host.reduce (FloatOps.maximumf (F := Ideal) (φ := .f32)) v z h hu (ix4 i j k l)
      = (Finset.univ : Finset (Fin e)).fold max (z (Shape.Idx.first hu)) fun m => v (ix5 i j k l m) := by
  refine (Host.reduce_eq_fold _ _ _ _ _ _).trans ?_
  exact Finset.fold_filter_eq_fold_of_fiber _ _ (fun m : Fin e => (ix5 i j k l m : (⟨5, ![a, b, c, d, e]⟩ : Shape).Idx)) (fun _ _ q => congrFun q 4) (drop_last5 h i j k l) _ v

end last5

section last6
variable {a b c d e f : Nat} (h : (⟨6, ![a, b, c, d, e, f]⟩ : Shape).ReducesTo [5] ⟨5, ![a, b, c, d, e]⟩)

/-- What drops to an index, the last of six axes reduced. -/
theorem drop_last6 (i : Fin a) (j : Fin b) (k : Fin c) (l : Fin d) (o : Fin e) (x : (⟨6, ![a, b, c, d, e, f]⟩ : Shape).Idx) :
    h.drop x = ix5 i j k l o ↔ ∃ m : Fin f, ix6 i j k l o m = x := by
  constructor
  · intro q
    refine ⟨x 5, ?_⟩
    funext p
    match p with
    | ⟨0, _⟩ => exact Fin.ext (congrArg Fin.val (congrFun q 0)).symm
    | ⟨1, _⟩ => exact Fin.ext (congrArg Fin.val (congrFun q 1)).symm
    | ⟨2, _⟩ => exact Fin.ext (congrArg Fin.val (congrFun q 2)).symm
    | ⟨3, _⟩ => exact Fin.ext (congrArg Fin.val (congrFun q 3)).symm
    | ⟨4, _⟩ => exact Fin.ext (congrArg Fin.val (congrFun q 4)).symm
    | ⟨5, _⟩ => rfl
  · rintro ⟨m, rfl⟩
    funext p
    match p with
    | ⟨0, _⟩ => rfl
    | ⟨1, _⟩ => rfl
    | ⟨2, _⟩ => rfl
    | ⟨3, _⟩ => rfl
    | ⟨4, _⟩ => rfl

/-- The host's sum over the last of six axes. -/
theorem sum_last6 (v : (⟨6, ![a, b, c, d, e, f]⟩ : Shape).Idx → EReal) (z : EReal) (i : Fin a) (j : Fin b) (k : Fin c) (l : Fin d) (o : Fin e) :
    Ideal.hostReduceAdd h v z (ix5 i j k l o) = z + ∑ m, v (ix6 i j k l o m) :=
  congrArg (z + ·) (Finset.sum_filter_eq_sum_of_fiber _ (fun m : Fin f => (ix6 i j k l o m : (⟨6, ![a, b, c, d, e, f]⟩ : Shape).Idx)) (fun _ _ q => congrFun q 5) (drop_last6 h i j k l o) v)

/-- The host's largest element along the last of six axes. -/
theorem max_last6 {u : Shape} (v : FVec Ideal ⟨6, ![a, b, c, d, e, f]⟩ .f32) (z : FVec Ideal u .f32) (hu : 0 < u.numel) (i : Fin a) (j : Fin b) (k : Fin c) (l : Fin d) (o : Fin e) :
    Host.reduce (FloatOps.maximumf (F := Ideal) (φ := .f32)) v z h hu (ix5 i j k l o)
      = (Finset.univ : Finset (Fin f)).fold max (z (Shape.Idx.first hu)) fun m => v (ix6 i j k l o m) := by
  refine (Host.reduce_eq_fold _ _ _ _ _ _).trans ?_
  exact Finset.fold_filter_eq_fold_of_fiber _ _ (fun m : Fin f => (ix6 i j k l o m : (⟨6, ![a, b, c, d, e, f]⟩ : Shape).Idx)) (fun _ _ q => congrFun q 5) (drop_last6 h i j k l o) _ v

end last6

/-- The host's sum over a first and a last axis of size one. -/
theorem sum_ends6 {b c d e : Nat} (h : (⟨6, ![1, b, c, d, e, 1]⟩ : Shape).ReducesTo [0, 5] ⟨4, ![b, c, d, e]⟩)
    (v : (⟨6, ![1, b, c, d, e, 1]⟩ : Shape).Idx → EReal) (z : EReal) (j : Fin b) (k : Fin c) (l : Fin d) (o : Fin e) :
    Ideal.hostReduceAdd h v z (ix4 j k l o) = z + v (ix6 0 j k l o 0) := by
  refine (congrArg (z + ·) (Finset.sum_filter_eq_sum_of_fiber _ (fun _ : Fin 1 => (ix6 0 j k l o 0 : (⟨6, ![1, b, c, d, e, 1]⟩ : Shape).Idx))
    (fun _ _ _ => Subsingleton.elim _ _) (fun x => ⟨fun q => ⟨0, ?_⟩, ?_⟩) v)).trans (by simp)
  · funext p
    match p with
    | ⟨0, _⟩ => exact Subsingleton.elim (α := Fin 1) _ _
    | ⟨1, _⟩ => exact Fin.ext (congrArg Fin.val (congrFun q 0)).symm
    | ⟨2, _⟩ => exact Fin.ext (congrArg Fin.val (congrFun q 1)).symm
    | ⟨3, _⟩ => exact Fin.ext (congrArg Fin.val (congrFun q 2)).symm
    | ⟨4, _⟩ => exact Fin.ext (congrArg Fin.val (congrFun q 3)).symm
    | ⟨5, _⟩ => exact Subsingleton.elim (α := Fin 1) _ _
  · rintro ⟨_, rfl⟩
    funext p
    match p with
    | ⟨0, _⟩ => rfl
    | ⟨1, _⟩ => rfl
    | ⟨2, _⟩ => rfl
    | ⟨3, _⟩ => rfl

/-- The host's sum over all axes of six but the two in the middle, of which the first and the last are of size one. -/
theorem sum_outer6 {b c d e : Nat} (h : (⟨6, ![1, b, c, d, e, 1]⟩ : Shape).ReducesTo [0, 1, 4, 5] ⟨2, ![c, d]⟩)
    (v : (⟨6, ![1, b, c, d, e, 1]⟩ : Shape).Idx → EReal) (z : EReal) (k : Fin c) (l : Fin d) :
    Ideal.hostReduceAdd h v z (ix2 k l) = z + ∑ j : Fin b, ∑ o : Fin e, v (ix6 0 j k l o 0) := by
  refine (congrArg (z + ·) (Finset.sum_filter_eq_sum_of_fiber _ (fun m : Fin b × Fin e => (ix6 0 m.1 k l m.2 0 : (⟨6, ![1, b, c, d, e, 1]⟩ : Shape).Idx))
    (fun _ _ q => Prod.ext (congrFun q 1) (congrFun q 4)) (fun x => ⟨fun q => ⟨(x 1, x 4), ?_⟩, ?_⟩) v)).trans (congrArg (z + ·) (Fintype.sum_prod_type _))
  · funext p
    match p with
    | ⟨0, _⟩ => exact Subsingleton.elim (α := Fin 1) _ _
    | ⟨1, _⟩ => rfl
    | ⟨2, _⟩ => exact Fin.ext (congrArg Fin.val (congrFun q 0)).symm
    | ⟨3, _⟩ => exact Fin.ext (congrArg Fin.val (congrFun q 1)).symm
    | ⟨4, _⟩ => rfl
    | ⟨5, _⟩ => exact Subsingleton.elim (α := Fin 1) _ _
  · rintro ⟨_, rfl⟩
    funext p
    match p with
    | ⟨0, _⟩ => rfl
    | ⟨1, _⟩ => rfl

end Cert.Proof

end
-- ==== Proof.MixRef.lean ====
/- The arrays that the attention's reference returns, at an index. -/
module

public import proofs.«01_k».proof.Proof.Gen.Reference2Ideal.Read
public import proofs.«01_k».proof.Proof.MixSpec
public import proofs.«01_k».proof.Proof.HostSums

@[expose] public section

noncomputable section

namespace Cert.Proof

open Idealize.ShloMosaic Cert.Reference2Ideal.Read Cert.Reference2Ideal

variable (x : Proj) (s : Sinks) (y : Mixed) (n r : Fin 128) (h : Fin 2) (g : Fin 4) (d : Fin 64) (b : Fin 256) (j : Fin 257)

/-- The program's test of where a row looks. -/
theorem mask_live : IntOp.andi
      (IntOp.andi (IntOp.cmpi .sge (IntOp.subi (IntOp.addi (BitVec.ofNat 32 r) 128#32) (BitVec.ofNat 32 b)) 0#32)
        (IntOp.cmpi .slt (IntOp.subi (IntOp.addi (BitVec.ofNat 32 r) 128#32) (BitVec.ofNat 32 b)) 128#32))
      (IntOp.ori (IntOp.cmpi .sgt (BitVec.ofNat 32 n) 0#32) (IntOp.cmpi .sge (BitVec.ofNat 32 b) 128#32)) = if live n r b then 1#1 else 0#1 := by
  have near : ∀ r : Fin 128, ∀ b : Fin 256, IntOp.andi (IntOp.cmpi .sge (IntOp.subi (IntOp.addi (BitVec.ofNat 32 r) 128#32) (BitVec.ofNat 32 b)) 0#32)
      (IntOp.cmpi .slt (IntOp.subi (IntOp.addi (BitVec.ofNat 32 r) 128#32) (BitVec.ofNat 32 b)) 128#32) = if b.val ≤ r.val + 128 ∧ r.val < b.val then 1#1 else 0#1 := by
    decide +kernel
  have later : ∀ n : Fin 128, IntOp.cmpi .sgt (BitVec.ofNat 32 n) 0#32 = if 0 < n.val then 1#1 else 0#1 := by decide +kernel
  have own : ∀ b : Fin 256, IntOp.cmpi .sge (BitVec.ofNat 32 b) 128#32 = if 128 ≤ b.val then 1#1 else 0#1 := by decide +kernel
  rw [near, later, own]
  unfold live
  by_cases h1 : b.val ≤ r.val + 128 ∧ r.val < b.val <;> by_cases h2 : 0 < n.val <;> by_cases h3 : 128 ≤ b.val <;> simp [h1, h2, h3, IntOp.andi, IntOp.ori]

/-- The elementwise larger of two arrays, at an index. -/
theorem larger_at {t : Shape} (a b : FVec Ideal t .f32) (i : t.Idx) : maximumf a b i = max (a i : EReal) (b i) := rfl

theorem top_def : top x s n h g r = max ⊥ ((Finset.univ : Finset (Fin 257)).fold max ⊥ (logit x s n h g r)) := by
  unfold top
  rfl

theorem ref_query : val_main_v7 (F := Ideal) x (ix6 0 n r h g d) = query x n h g r d := by
  pointwise [val_main_v7, val_main_v1, val_main_v0]
  rfl

theorem ref_key : val_main_v14 (F := Ideal) x (ix5 0 n b h d) = winKey x n h b d := by
  pointwise [val_main_v14, val_main_v12, val_main_v11, val_main_v10, val_main_v8, val_main_v3, val_main_v2, val_main_cst]
  unfold winKey inWindow keyCol
  rfl

theorem ref_value : val_main_v18 (F := Ideal) x (ix5 0 n b h d) = winValue x n h b d := by
  pointwise [val_main_v18, val_main_v16, val_main_v15, val_main_v10, val_main_v9, val_main_v5, val_main_v4, val_main_cst]
  unfold winValue inWindow valueCol
  rfl

theorem ref_score : val_main_v22 (F := Ideal) x (ix6 0 n h g r b) = (∑ d, winKey x n h b d * query x n h g r d) * eighth := by
  pointwise [val_main_v22, val_main_v21, val_main_v20, val_main_v19, val_main_cst_2, ref_key, ref_query]
  rfl

theorem ref_mask : val_main_v52_1 (F := Ideal) (ix6 0 n h g r b) = if live n r b then 1#1 else 0#1 := by
  pointwise [val_main_v52_1, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_c, val_main_c_3, val_main_c_4, val_main_c_5, val_main_c_6]
  exact mask_live n r b

theorem ref_masked : val_main_v52_0 (F := Ideal) x (ix6 0 n h g r b) = if live n r b then (∑ d, winKey x n h b d * query x n h g r d) * eighth else ⊥ := by
  pointwise [val_main_v52_0, val_main_call0_v2, val_main_call0_v0, val_main_cst_7, ref_score, ref_mask]
  rw [show id (constant (F := Ideal) S_ FTy.f32 4286578688#32) ix0 = ⊥ from lit_bot]
  split_ifs <;> rfl

theorem ref_logit : val_main_v56 (F := Ideal) x s (ix6 0 n h g r j) = logit x s n h g r j := by
  pointwise [val_main_v56, val_main_v55, val_main_v54, val_main_v53, val_main_v6, ref_masked]
  rfl

theorem ref_max : val_main_v57 (F := Ideal) x s (ix5 0 n h g r) = (Finset.univ : Finset (Fin 257)).fold max ⊥ (logit x s n h g r) := by
  have e : val_main_cst_8 (F := Ideal) (Shape.Idx.first Gen.h_S_) = ⊥ := by
    unfold val_main_cst_8
    exact lit_bot
  unfold val_main_v57
  rw [max_last6, e]
  exact Finset.fold_congr fun j _ => ref_logit x s n r h g j

theorem ref_top : val_main_v64 (F := Ideal) x s (ix5 0 n h g r) = top x s n h g r := by
  have e : val_main_v63 (F := Ideal) (ix5 0 n h g r) = ⊥ := by
    pointwise [val_main_v63, val_main_cst_10]
    exact lit_bot
  unfold val_main_v64
  rw [larger_at, e, ref_max, top_def]

theorem ref_weight : val_main_v77 (F := Ideal) x s (ix6 0 n h g r j) = weight x s n h g r j := by
  pointwise [val_main_v77, val_main_v76, val_main_v75, val_main_v74, ref_top, ref_logit]
  rfl

theorem ref_total : val_main_v79 (F := Ideal) x s (ix6 0 n h g r 0) = total x s n h g r := by
  have k : val_main_v78 (F := Ideal) x s (ix5 0 n h g r) = total x s n h g r := by
    refine (sum_last6 _ _ _ 0 n h g r).trans ?_
    rw [show val_main_cst_16 (F := Ideal) (Shape.Idx.first Gen.h_S_) = 0 from Ideal.ofBits_zero_f32, zero_add]
    exact Finset.sum_congr rfl fun j _ => ref_weight x s n r h g j
  pointwise [val_main_v79, k]

theorem ref_prob : val_main_v85 (F := Ideal) x s (ix6 0 n h g r b) = prob x s n h g r b.castSucc := by
  pointwise [val_main_v85, val_main_v81, val_main_v80, ref_weight, ref_total]
  rfl

/-- The gradient of a probability, with nothing for the sink after them. -/
def padGrad : EReal := if hj : j.val < 256 then probGrad x y n h g r ⟨j.val, hj⟩ else 0

theorem padGrad_castSucc : padGrad x y n r h g b.castSucc = probGrad x y n h g r b := by
  unfold padGrad
  exact dif_pos b.isLt

theorem padGrad_last : padGrad x y n r h g (Fin.last 256) = 0 := by
  unfold padGrad
  exact dif_neg (lt_irrefl 256)

theorem padGrad_real {x : Proj} {y : Mixed} (hx : ∀ i, x i ≠ ⊤ ∧ x i ≠ ⊥) (hy : ∀ i, y i ≠ ⊤ ∧ y i ≠ ⊥) (n r : Fin 128) (h : Fin 2) (g : Fin 4) :
    ∃ p : Fin 257 → ℝ, ∀ k, padGrad x y n r h g k = (p k : EReal) := by
  obtain ⟨p, hq⟩ := probGrad_real hx hy n h g r
  refine ⟨fun k => if hk : k.val < 256 then p ⟨k.val, hk⟩ else 0, fun k => ?_⟩
  dsimp only
  unfold padGrad
  by_cases hk : k.val < 256
  · rw [dif_pos hk, dif_pos hk]; exact hq _
  · rw [dif_neg hk, dif_neg hk]; rfl

theorem ref_padGrad : val_main_v96 (F := Ideal) x y (ix6 0 n h g r j) = padGrad x y n r h g j := by
  pointwise [val_main_v96, val_main_v93, val_main_v92, val_main_v91, val_main_v90, val_main_v89, val_main_cst_18, ref_value]
  rfl

theorem ref_spread : val_main_v100 (F := Ideal) x s y (ix5 0 n h g r) = 0 + ∑ k, padGrad x y n r h g k * Ideal.div ((1 : ℝ) : EReal) (total x s n h g r * total x s n h g r) * weight x s n h g r k := by
  refine (sum_last6 _ _ _ 0 n h g r).trans ?_
  rw [show val_main_cst_19 (F := Ideal) (Shape.Idx.first Gen.h_S_) = 0 from Ideal.ofBits_zero_f32]
  refine congrArg (0 + ·) (Finset.sum_congr rfl fun k _ => ?_)
  pointwise [val_main_v99, val_main_v98, val_main_v97, val_main_v84, val_main_v83, val_main_cst_17, val_main_v82, ref_padGrad, ref_weight, ref_total]
  rfl

theorem ref_lost : val_main_v105 (F := Ideal) x s y (ix4 n h g r) = 0 + -(val_main_v100 (F := Ideal) x s y (ix5 0 n h g r)) := by
  refine (sum_ends6 _ _ _ n h g r).trans ?_
  rw [show val_main_cst_20 (F := Ideal) (Shape.Idx.first Gen.h_S_) = 0 from Ideal.ofBits_zero_f32]
  refine congrArg (0 + ·) ?_
  pointwise [val_main_v102, val_main_v101]

theorem ref_logitGrad : val_main_v109 (F := Ideal) x s y (ix6 0 n h g r j)
    = (Ideal.div (padGrad x y n r h g j) (total x s n h g r) + (0 + -(0 + ∑ k, padGrad x y n r h g k * Ideal.div ((1 : ℝ) : EReal) (total x s n h g r * total x s n h g r) * weight x s n h g r k))) * weight x s n h g r j := by
  rw [← ref_spread, ← ref_lost]
  pointwise [val_main_v109, val_main_v108, val_main_v107, val_main_v106, val_main_v104, val_main_v103, ref_padGrad, ref_weight, ref_total]

section
variable {x s y} (hx : ∀ i, x i ≠ ⊤ ∧ x i ≠ ⊥) (hs : ∀ i, s i ≠ ⊤ ∧ s i ≠ ⊥) (hy : ∀ i, y i ≠ ⊤ ∧ y i ≠ ⊥)
include hx hs hy

theorem ref_logitGrad_eq : val_main_v109 (F := Ideal) x s y (ix6 0 n h g r j) = prob x s n h g r j * (padGrad x y n r h g j - meanGrad x s y n h g r) := by
  obtain ⟨e, he, hp⟩ := weight_real hx hs n h g r
  obtain ⟨p, hpad⟩ := padGrad_real hx hy n r h g
  have hm : meanGrad x s y n h g r = ∑ k : Fin 257, prob x s n h g r k * padGrad x y n r h g k := by
    unfold meanGrad
    refine Eq.trans ?_ (Fin.sum_univ_castSucc (n := 256) _).symm
    rw [padGrad_last, mul_zero, add_zero]
    exact Finset.sum_congr rfl fun b _ => congrArg (_ * ·) (padGrad_castSucc x y n r h g b).symm
  rw [ref_logitGrad, hm]
  unfold prob total
  simp only [he, hpad]
  exact softmax_core e p hp j

theorem ref_scoreGrad : val_main_v118 (F := Ideal) x s y (ix6 0 n h g r b) = scoreGrad x s y n h g r b := by
  have k := ref_logitGrad_eq n r h g b.castSucc hx hs hy
  rw [padGrad_castSucc] at k
  pointwise [val_main_v118, val_main_v117, val_main_cst_23, val_main_v116, val_main_call1_v0, val_main_call1_cst, val_main_v110, ref_mask]
  unfold scoreGrad
  by_cases hb : live n r b
  · rw [if_pos hb]
    exact congrArg (· * eighth) k
  · rw [if_neg hb, prob_dead hx hs n h g r b hb, zero_mul]
    exact (zero_mul eighth).symm

theorem ref_winKeyGrad : val_main_v123 (F := Ideal) x s y (ix5 0 n b h d) = winKeyGrad x s y n h b d := by
  pointwise [val_main_v123, val_main_v122, val_main_v119, ref_query, ref_scoreGrad _ _ _ _ _ hx hs hy]
  unfold winKeyGrad
  exact Finset.sum_comm

omit hx hs hy in
theorem ref_winValueGrad : val_main_v95 (F := Ideal) x s y (ix5 0 n b h d) = winValueGrad x s y n h b d := by
  pointwise [val_main_v95, val_main_v94, val_main_v92, val_main_v91, val_main_v90, val_main_v89, ref_prob]
  unfold winValueGrad
  exact Finset.sum_congr rfl fun g _ => Finset.sum_congr rfl fun r _ => mul_comm _ _

theorem ref_queryGrad : val_main_v121 (F := Ideal) x s y (ix6 0 n r h g d) = queryGrad x s y n h g r d := by
  pointwise [val_main_v121, val_main_v120, val_main_v119, ref_key, ref_scoreGrad _ _ _ _ _ hx hs hy]
  rfl

theorem ref_keyGrad : val_main_v135 (F := Ideal) x s y (ix5 0 n r h d) = keyGrad x s y n h r d := by
  pointwise [val_main_v135, val_main_v134, val_main_v133, val_main_cst_25, val_main_v131, val_main_v130, ref_winKeyGrad _ _ _ _ hx hs hy]
  rfl

omit hx hs hy in
theorem ref_valueGrad : val_main_v129 (F := Ideal) x s y (ix5 0 n r h d) = valueGrad x s y n h r d := by
  pointwise [val_main_v129, val_main_v128, val_main_v127, val_main_cst_24, val_main_v125, val_main_v124, ref_winValueGrad]
  rfl

theorem ref_sinkGrad : val_main_v114 (F := Ideal) x s y (ix2 h g) = sinkGrad x s y h g := by
  have k : val_main_v112 (F := Ideal) x s y (ix2 h g) = sinkGrad x s y h g := by
    unfold val_main_v112
    refine (sum_outer6 _ _ _ h g).trans ?_
    rw [show val_main_cst_21 (F := Ideal) (Shape.Idx.first Gen.h_S_) = 0 from Ideal.ofBits_zero_f32, zero_add]
    refine Finset.sum_congr rfl fun n _ => Finset.sum_congr rfl fun r _ => ?_
    have q := ref_logitGrad_eq n r h g (Fin.last 256) hx hs hy
    rw [padGrad_last] at q
    refine Eq.trans ?_ q
    pointwise [val_main_v111]
    rfl
  unfold val_main_v114
  refine (sum_outer6 _ _ _ h g).trans ?_
  rw [show val_main_cst_22 (F := Ideal) (Shape.Idx.first Gen.h_S_) = 0 from Ideal.ofBits_zero_f32, zero_add]
  rw [Fin.sum_univ_one, Fin.sum_univ_one]
  pointwise [val_main_v113, k]

theorem ref_columns (c : Fin 16384) (l : Fin 2816) : val_main_v145 (F := Ideal) x s y (ix2 c l) = mixColumns x s y c l := by
  have hq : ∀ l : Fin 512, val_main_v140 (F := Ideal) x s y (ix2 c l) = queryGrad x s y ⟨c.val / 128, by omega⟩ ⟨l.val / 256, by omega⟩ ⟨l.val / 64 % 4, by omega⟩ ⟨c.val % 128, by omega⟩ ⟨l.val % 64, by omega⟩ := by
    intro l
    pointwise [val_main_v140, val_main_v138]
    exact ref_queryGrad _ _ _ _ _ hx hs hy
  have hk : ∀ l : Fin 128, val_main_v141 (F := Ideal) x s y (ix2 c l) = keyGrad x s y ⟨c.val / 128, by omega⟩ ⟨l.val / 64, by omega⟩ ⟨c.val % 128, by omega⟩ ⟨l.val % 64, by omega⟩ := by
    intro l
    pointwise [val_main_v141, val_main_v137]
    exact ref_keyGrad _ _ _ _ hx hs hy
  have hv : ∀ l : Fin 128, val_main_v142 (F := Ideal) x s y (ix2 c l) = valueGrad x s y ⟨c.val / 128, by omega⟩ ⟨l.val / 64, by omega⟩ ⟨c.val % 128, by omega⟩ ⟨l.val % 64, by omega⟩ := by
    intro l
    pointwise [val_main_v142, val_main_v136]
    exact ref_valueGrad _ _ _ _
  pointwise [val_main_v145, val_main_v144, val_main_v143, val_main_cst_26]
  simp only [hq, hk, hv]
  rfl

theorem ref_sinks (l : Fin 128) : val_main_v147 (F := Ideal) x s y (ix2 0 l) = mixSinks x s y l := by
  pointwise [val_main_v147, val_main_v146, val_main_cst_27, val_main_v139, val_main_v115]
  simp only [ref_sinkGrad _ _ hx hs hy]
  rfl

end

end Cert.Proof
-- ==== Proof.MixTile.lean ====
/- The attention part of one chunk of the backward call: what the step stores for it, as functions of what the chunk loads. -/
module

public import proofs.«01_k».proof.Proof.MixRun
public import Idealize.ShloMosaic.Lib.Pipeline.Value
public import Idealize.ShloMosaic.Lib.Pipeline.FrameBody

@[expose] public section

set_option maxRecDepth 16384

noncomputable section

namespace Cert.Kernel2Ideal.Gen

open Idealize.ShloMosaic Idealize.ShloMosaic.TcCoe Idealize.ShloMosaic.Tactic

variable {F : FTy → Type} [FloatOps F]

/-- What the attention part of a chunk reads. -/
structure Loads (F : FTy → Type) where
  /-- The chunk's keys and values. -/
  cur : Vec F S128x256 .f32
  /-- The keys and values of the chunk before. -/
  prev : Vec F S128x256 .f32
  /-- The stacked queries of each group of four heads. -/
  queries : Fin 2 → Vec F S1x1x512x128 .bf16
  /-- The probabilities of each group. -/
  probs : Fin 2 → Vec F S1x1x512x256 .bf16
  /-- The probabilities of the sinks. -/
  sinks : Fin 2 → Vec F S1x1x512x1 .f32
  /-- The output's gradient, in column tiles of two heads. -/
  grads : Fin 4 → Vec F S128x128 .bf16

/-- The lanes of the first head of a pair, and of the second; over 256 rows too. -/
def firstLanes : IVec S128x128 1 := k0_pay12 (iota .tc S128x128 32 [1] iota_S128x128_d1_w32)
/-- The lanes of the second head of a pair. -/
def secondLanes : IVec S128x128 1 := k0_pay13
/-- The lanes of the first key head. -/
def firstKeys : IVec S256x128 1 := k0_pay15 (iota .tc S256x128 32 [1] iota_S256x128_d1_w32) (Scalar.select (Scalar.cmpi .eq 128#32 0#32) 1#32 128#32) k0_pay14
/-- The lanes of the second key head. -/
def secondKeys : IVec S256x128 1 := k0_pay16

namespace Loads

variable (x : Loads F)

/-- The keys of both chunks. -/
def keys : FVec F S256x128 .f32 := k0_pay17 x.cur x.prev
/-- The values of both chunks. -/
def values : FVec F S256x128 .bf16 := k0_pay18 x.cur x.prev

/-- The output's gradient of the first group, its four heads stacked. -/
def outGrad0 : FVec F S512x128 .bf16 := k0_pay22 firstLanes (x.grads 0) (x.grads 0) (x.grads 1) (x.grads 1)
/-- The output's gradient of the second group. -/
def outGrad1 : FVec F S512x128 .bf16 := k0_pay40 secondLanes (k0_pay37 secondLanes (x.grads 2)) (k0_pay38 secondLanes (x.grads 2)) (k0_pay39 (x.grads 3)) 64#32 (x.grads 3)

/-- The gradient of the scores of the first group. -/
def scoreGrad0 : FVec F S512x256 .bf16 :=
  k0_pay28 (k0_pay24 (x.probs 0)) (k0_pay25 firstLanes x.values (x.grads 0) (x.grads 0) (x.grads 1) (x.grads 1)) (k0_pay26 firstLanes x.values (x.grads 0) (x.grads 0) (x.grads 1) (x.grads 1) (x.probs 0))
/-- The gradient of the scores of the second group. -/
def scoreGrad1 : FVec F S512x256 .bf16 :=
  k0_pay45 secondLanes x.values (k0_pay37 secondLanes (x.grads 2)) (k0_pay38 secondLanes (x.grads 2)) (k0_pay39 (x.grads 3)) 64#32 (x.grads 3) (x.probs 1)

/-- The gradient of the queries, in column tiles of two heads. -/
def queryTile0 : FVec F S128x128 .bf16 := k0_pay32 firstKeys x.keys x.scoreGrad0 k0_pay30
/-- The second tile. -/
def queryTile1 : FVec F S128x128 .bf16 := k0_pay33 firstKeys x.keys x.scoreGrad0 k0_pay30
/-- The third tile. -/
def queryTile2 : FVec F S128x128 .bf16 := k0_pay52 secondKeys x.keys x.scoreGrad1
/-- The fourth tile. -/
def queryTile3 : FVec F S128x128 .bf16 := k0_pay53 secondKeys x.keys x.scoreGrad1

/-- The gradient of both chunks' keys. -/
def keyGrad : FVec F S256x128 .f32 := k0_pay54 (k0_pay34 k0_pay19 (k0_pay21 (x.queries 0)) x.scoreGrad0) (k0_pay36 (x.queries 1)) x.scoreGrad1
/-- The gradient of both chunks' values. -/
def valueGrad : FVec F S256x128 .f32 := k0_pay55 (k0_pay35 k0_pay20 x.outGrad0 (k0_pay23 (x.probs 0))) x.outGrad1 (k0_pay41 (x.probs 1))

/-- The chunk's gradient of the keys, over what the next chunk owes it. -/
def keyTile (later : Vec F S128x256 .f32) : FVec F S128x128 .bf16 := k0_pay56 later (k0_pay34 k0_pay19 (k0_pay21 (x.queries 0)) x.scoreGrad0) (k0_pay36 (x.queries 1)) x.scoreGrad1
/-- The chunk's gradient of the values. -/
def valueTile (later : Vec F S128x256 .f32) : FVec F S128x128 .bf16 := k0_pay57 later x.valueGrad
/-- What the chunk owes the chunk before. -/
def owed : FVec F S128x256 .f32 := k0_pay58 x.keyGrad x.valueGrad

/-- The gradient of the sinks, a row of it for every row of the chunk, over what the chunks after left. -/
def sinkRows (acc : FVec F S128x128 .f32) : FVec F S128x128 .f32 :=
  k0_pay50 (iota .tc S128x128 32 [1] iota_S128x128_d1_w32)
    (k0_pay46 secondLanes x.values (k0_pay37 secondLanes (x.grads 2)) (k0_pay38 secondLanes (x.grads 2)) (k0_pay39 (x.grads 3)) 64#32 (x.grads 3) (x.probs 1) (x.sinks 1))
    (k0_pay47 (iota .tc S128x128 32 [1] iota_S128x128_d1_w32) secondLanes x.values
      (k0_pay29 (iota .tc S128x128 32 [1] iota_S128x128_d1_w32) acc (k0_pay26 firstLanes x.values (x.grads 0) (x.grads 0) (x.grads 1) (x.grads 1) (x.probs 0)) (x.sinks 0))
      (k0_pay37 secondLanes (x.grads 2)) (k0_pay38 secondLanes (x.grads 2)) (k0_pay39 (x.grads 3)) 64#32 (x.grads 3) (x.probs 1) (x.sinks 1))
    (k0_pay48 (iota .tc S128x128 32 [1] iota_S128x128_d1_w32)) (Scalar.ofBits .f32 0x00000000#32)
    (k0_pay49 secondLanes x.values (k0_pay37 secondLanes (x.grads 2)) (k0_pay38 secondLanes (x.grads 2)) (k0_pay39 (x.grads 3)) 64#32 (x.grads 3) (x.probs 1) (x.sinks 1))

end Loads

variable (m : (ℓ : Loc nD τ sig) → Buf (Elt F) ℓ) (c : Dev nD) (t : Fin cfg0.N)

/-- What chunk `j` of a step reads. -/
def loads (j : Fin 4) : Loads F where
  cur := View.readAt (Elt F) (ms0_0 t).view (Rect.unit (s := S512x2816) ![128 * j.val, 512] S128x256.size (by revert j; decide)).toLoadRect ((hs0_0 t).unread (iblk m c 0 t))
  prev := match j with
    | 0 => View.readAt (Elt F) (ms0_1 t).view (Rect.unit (s := S128x256) ![0, 0] S128x256.size inb_S128x256_S128x256_0_0).toLoadRect ((hs0_1 t).unread (iblk m c 1 t))
    | 1 => View.readAt (Elt F) (ms0_0 t).view (Rect.unit (s := S512x2816) ![0, 512] S128x256.size inb_S512x2816_S128x256_0_512).toLoadRect ((hs0_0 t).unread (iblk m c 0 t))
    | 2 => View.readAt (Elt F) (ms0_0 t).view (Rect.unit (s := S512x2816) ![128, 512] S128x256.size inb_S512x2816_S128x256_128_512).toLoadRect ((hs0_0 t).unread (iblk m c 0 t))
    | 3 => View.readAt (Elt F) (ms0_0 t).view (Rect.unit (s := S512x2816) ![256, 512] S128x256.size inb_S512x2816_S128x256_256_512).toLoadRect ((hs0_0 t).unread (iblk m c 0 t))
  queries g := View.readAt (Elt F) (ms0_12 t).view (Rect.unit (s := S4x2x512x128) ![j.val, g.val, 0, 0] S1x1x512x128.size (by revert j g; decide)).toLoadRect ((hs0_12 t).unread (iblk m c 12 t))
  probs g := View.readAt (Elt F) (ms0_4 t).view (Rect.unit (s := S4x2x512x256) ![j.val, g.val, 0, 0] S1x1x512x256.size (by revert j g; decide)).toLoadRect ((hs0_4 t).unread (iblk m c 4 t))
  sinks g := View.readAt (Elt F) (ms0_5 t).view (Rect.unit (s := S4x2x512x1) ![j.val, g.val, 0, 0] S1x1x512x1.size (by revert j g; decide)).toLoadRect ((hs0_5 t).unread (iblk m c 5 t))
  grads k := View.readAt (Elt F) (ms0_2 t).view (Rect.unit (s := S512x1024) ![128 * j.val, 128 * k.val] S128x128.size (by revert j k; decide)).toLoadRect ((hs0_2 t).unread (iblk m c 2 t))

/-- What a chunk is owed: by the step before for the last chunk of a step, else by the next chunk. -/
def owedTo (later : Vec F S128x256 .f32) : Fin 4 → Vec F S128x256 .f32
  | 3 => later
  | 2 => (loads m c t 3).owed
  | 1 => (loads m c t 2).owed
  | 0 => (loads m c t 1).owed

/-- The place of column tile `k` of chunk `j`. -/
def place (j : Fin 4) (k : Fin 6) : Rect S512x2816 := Rect.unit (s := S512x2816) ![128 * j.val, 128 * k.val] S128x128.size (by revert j k; decide)

/-- A tile that a chunk stores, with its place. -/
def piece (j : Fin 4) (k : Fin 6) (w : Vec F S128x128 .bf16) : View.Piece (Elt F) S512x2816 .bf16 := ⟨place j k, w⟩

/-- Column tile `k` of chunk `j` in the attention's columns. -/
def attnTile (later : Vec F S128x256 .f32) (j : Fin 4) : Fin 6 → Vec F S128x128 .bf16
  | 0 => (loads m c t j).queryTile0
  | 1 => (loads m c t j).queryTile1
  | 2 => (loads m c t j).queryTile2
  | 3 => (loads m c t j).queryTile3
  | 4 => (loads m c t j).keyTile (owedTo m c t later j)
  | 5 => (loads m c t j).valueTile (owedTo m c t later j)

/-- The sinks' gradient of a step's rows. -/
def stepSinks : FVec F S128x128 .f32 :=
  (loads m c t 0).sinkRows ((loads m c t 1).sinkRows ((loads m c t 2).sinkRows ((loads m c t 3).sinkRows k0_pay10)))

/-- Piece `k` of chunk `j` in a step's list of stores, the newest first, and whether the newer ones leave its place alone. -/
def stored (L : List (View.Piece (Elt F) S512x2816 .bf16)) (j : Fin 4) (k : Fin 6) : Option (View.Piece (Elt F) S512x2816 .bf16) × Bool :=
  (View.Piece.nth L (16 * j.val + (15 - k.val)), LoadRect.hitChk (L.map Sigma.fst) (place j k).toLoadRect (16 * j.val + (15 - k.val)))

/-- The pieces of the attention's columns in a list of stores. -/
def storedAll (L : List (View.Piece (Elt F) S512x2816 .bf16)) (j : Fin 4) : List (Option (View.Piece (Elt F) S512x2816 .bf16) × Bool) :=
  [stored L j 0, stored L j 1, stored L j 2, stored L j 3, stored L j 4, stored L j 5]

/-- The pieces that a chunk should store. -/
def attnAll (later : Vec F S128x256 .f32) (j : Fin 4) : List (Option (View.Piece (Elt F) S512x2816 .bf16) × Bool) :=
  [(some (piece j 0 (attnTile m c t later j 0)), true), (some (piece j 1 (attnTile m c t later j 1)), true), (some (piece j 2 (attnTile m c t later j 2)), true),
   (some (piece j 3 (attnTile m c t later j 3)), true), (some (piece j 4 (attnTile m c t later j 4)), true), (some (piece j 5 (attnTile m c t later j 5)), true)]

/-- A place that the newer stores leave alone holds what was stored there. -/
theorem canon_of_hit : ∀ (L : List (View.Piece (Elt F) S512x2816 .bf16)) (n : Nat) (r : Rect S512x2816) (w : r.shape.Idx → Elt F .bf16),
    View.Piece.nth L n = some ⟨r, w⟩ → LoadRect.hitChk (L.map Sigma.fst) r.toLoadRect n = true → ∀ x, View.canon L (r.emb x) = w x
  | [], n, _, _, hn, _, _ => by cases n <;> cases hn
  | p :: L, 0, r, w, hn, _, x => by
    simp only [View.Piece.nth, Option.some.injEq] at hn
    subst hn
    exact View.canon_cons_emb r w L x
  | p :: L, n + 1, r, w, hn, hc, x => by
    simp only [View.Piece.nth] at hn
    simp only [List.map_cons, LoadRect.hitChk, Bool.and_eq_true] at hc
    exact (View.canon_cons_of_not_mem p L (LoadRect.idx_not_mem_of_disj hc.1 x)).trans (canon_of_hit L n r w hn hc.2 x)

/-- A list of stores that holds the pieces of the attention's columns leaves them in place. -/
theorem canon_of_stored (L : List (View.Piece (Elt F) S512x2816 .bf16)) (later : Vec F S128x256 .f32) (j : Fin 4)
    (h : storedAll L j = attnAll m c t later j) (k : Fin 6) (x : S128x128.Idx) : View.canon L ((place j k).emb x) = attnTile m c t later j k x := by
  simp only [storedAll, attnAll, List.cons.injEq, and_true] at h
  have go : ∀ k, stored L j k = (some (piece j k (attnTile m c t later j k)), true) → View.canon L ((place j k).emb x) = attnTile m c t later j k x := fun k e => by
    simp only [stored, Prod.mk.injEq] at e
    exact canon_of_hit L _ (place j k) (attnTile m c t later j k) e.1 e.2 x
  match k with
  | 0 => exact go 0 h.1
  | 1 => exact go 1 h.2.1
  | 2 => exact go 2 h.2.2.1
  | 3 => exact go 3 h.2.2.2.1
  | 4 => exact go 4 h.2.2.2.2.1
  | 5 => exact go 5 h.2.2.2.2.2

theorem zeros : (![0, 0] : Fin 2 → Nat) = fun _ => 0 := funext fun a => by fin_cases a <;> rfl

/-! ## The step's lists of stores -/

/-- The key and value gradients owed by the step before, as a step loads them. -/
def owedBefore (p : Left F) : Vec F S128x256 .f32 :=
  View.readAt (Elt F) (View.whole cc0_scratch1) (Rect.unit (s := S128x256) ![0, 0] S128x256.size inb_S128x256_S128x256_0_0).toLoadRect ((Memref.isWhole_whole cc0_scratch1).unread p.later)

/-- The sinks' gradient so far, as a step loads it. -/
def sinksBefore (p : Left F) : Vec F S128x128 .f32 :=
  View.readAt (Elt F) (View.whole cc0_scratch2) (Rect.unit (s := S128x128) ![0, 0] S128x128.size inb_S128x128_S128x128_0_0).toLoadRect ((Memref.isWhole_whole cc0_scratch2).unread p.acc)

theorem owedBefore_eq (p : Left F) : owedBefore p = p.later := by
  unfold owedBefore
  rw [View.readAt_eq_ld]
  exact (View.ld_unit_zero (S := S128x256) zeros _ _).trans ((Memref.isWhole_whole cc0_scratch1).read_unread _)

theorem sinksBefore_eq (p : Left F) : sinksBefore p = p.acc := by
  unfold sinksBefore
  rw [View.readAt_eq_ld]
  exact (View.ld_unit_zero (S := S128x128) zeros _ _).trans ((Memref.isWhole_whole cc0_scratch2).read_unread _)

/-- What the first step loads of what it has just cleared. -/
def clearedOwed : Vec F S128x256 .f32 :=
  scM0_1.view.readCov [(⟨Rect.unit (s := S128x256) ![0, 0] S128x256.size inb_S128x256_S128x256_0_0, k0_pay4⟩ : View.Piece (Elt F) S128x256 .f32)]
    (Rect.unit (s := S128x256) ![0, 0] S128x256.size inb_S128x256_S128x256_0_0).toLoadRect
/-- The sinks' gradient that the first step has just cleared, as it loads it. -/
def clearedSinks : Vec F S128x128 .f32 :=
  scM0_2.view.readCov [(⟨Rect.unit (s := S128x128) ![0, 0] S128x128.size inb_S128x128_S128x128_0_0, k0_pay5⟩ : View.Piece (Elt F) S128x128 .f32)]
    (Rect.unit (s := S128x128) ![0, 0] S128x128.size inb_S128x128_S128x128_0_0).toLoadRect

theorem clearedOwed_eq : clearedOwed (F := F) = k0_pay4 := by
  unfold clearedOwed
  rw [View.readCov_eq_canon']
  exact (View.ld_unit_zero (S := S128x256) zeros _ _).trans (View.canon_unit_zero (S := S128x256) zeros _ _)

theorem clearedSinks_eq : clearedSinks (F := F) = k0_pay5 := by
  unfold clearedSinks
  rw [View.readCov_eq_canon']
  exact (View.ld_unit_zero (S := S128x128) zeros _ _).trans (View.canon_unit_zero (S := S128x128) zeros _ _)

theorem storesA_attn (h : t.val = 0) : ∀ j, storedAll (storesA m c t h).1 j = attnAll m c t clearedOwed j
  | 0 => by sl_kernel_rfl
  | 1 => by sl_kernel_rfl
  | 2 => by sl_kernel_rfl
  | 3 => by sl_kernel_rfl

theorem storesB_attn (h0 : t.val ≠ 0) (h1 : t.val ≠ 31) (p : Left F) : ∀ j, storedAll (storesB m c t h0 h1 p).1 j = attnAll m c t (owedBefore p) j
  | 0 => by sl_kernel_rfl
  | 1 => by sl_kernel_rfl
  | 2 => by sl_kernel_rfl
  | 3 => by sl_kernel_rfl

theorem storesC_attn (h : t.val = 31) (p : Left F) : ∀ j, storedAll (storesC m c t h p).1 j = attnAll m c t (owedBefore p) j
  | 0 => by sl_kernel_rfl
  | 1 => by sl_kernel_rfl
  | 2 => by sl_kernel_rfl
  | 3 => by sl_kernel_rfl

/-- A list of stores of which the newest stores the whole of what is owed. -/
def owedList (w : Vec F S128x256 .f32) (L : List (View.Piece (Elt F) S128x256 .f32)) : List (View.Piece (Elt F) S128x256 .f32) :=
  ⟨Rect.unit (s := S128x256) ![0, 0] S128x256.size inb_S128x256_S128x256_0_0, w⟩ :: L
/-- The same for the sinks' gradient. -/
def sinksList (w : Vec F S128x128 .f32) (L : List (View.Piece (Elt F) S128x128 .f32)) : List (View.Piece (Elt F) S128x128 .f32) :=
  ⟨Rect.unit (s := S128x128) ![0, 0] S128x128.size inb_S128x128_S128x128_0_0, w⟩ :: L

theorem storesA_owed (h : t.val = 0) : (storesA m c t h).2.2.2.1 = owedList (k0_pay565 (loads m c t 0).owed) (storesA m c t h).2.2.2.1.tail := by sl_kernel_rfl
theorem storesB_owed (h0 : t.val ≠ 0) (h1 : t.val ≠ 31) (p : Left F) : (storesB m c t h0 h1 p).2.2.2.1 = owedList (k0_pay565 (loads m c t 0).owed) (storesB m c t h0 h1 p).2.2.2.1.tail := by sl_kernel_rfl
theorem storesA_sinks (h : t.val = 0) : (storesA m c t h).2.2.2.2.1 = sinksList (k0_pay1 (stepSinks m c t) clearedSinks) (storesA m c t h).2.2.2.2.1.tail := by sl_kernel_rfl
theorem storesB_sinks (h0 : t.val ≠ 0) (h1 : t.val ≠ 31) (p : Left F) : (storesB m c t h0 h1 p).2.2.2.2.1 = sinksList (k0_pay1 (stepSinks m c t) (sinksBefore p)) (storesB m c t h0 h1 p).2.2.2.2.1.tail := by sl_kernel_rfl
theorem storesC_21 (h : t.val = 31) (p : Left F) : (storesC m c t h p).2.1
    = [(⟨Rect.unit (s := S1x128) ![0, 0] S1x128.size inb_S1x128_S1x128_0_0, k0_pay2 (scM0_2.view.readCov (sinksList (k0_pay1 (stepSinks m c t) (sinksBefore p)) []) (Rect.unit (s := S128x128) ![0, 0] S128x128.size inb_S128x128_S128x128_0_0).toLoadRect)⟩ : View.Piece (Elt F) S1x128 .f32)] := by sl_kernel_rfl

/-! ## What a step leaves -/

theorem first_tile (h : t.val = 0) (j : Fin 4) (k : Fin 6) (x : S128x128.Idx) : (first m c t h).dproj ((place j k).emb x) = attnTile m c t k0_pay4 j k x :=
  (congrFun ((first_dproj m c t h).trans (View.read_writes_junk_eq_canon _ _)) _).trans
    ((canon_of_stored m c t _ _ j (storesA_attn m c t h j) k x).trans (congrArg (fun l => attnTile m c t l j k x) clearedOwed_eq))
theorem mid_tile (h0 : t.val ≠ 0) (h1 : t.val ≠ 31) (p : Left F) (j : Fin 4) (k : Fin 6) (x : S128x128.Idx) : (mid m c t h0 h1 p).dproj ((place j k).emb x) = attnTile m c t p.later j k x :=
  (congrFun ((mid_dproj m c t h0 h1 p).trans (View.read_writes_junk_eq_canon _ _)) _).trans
    ((canon_of_stored m c t _ _ j (storesB_attn m c t h0 h1 p j) k x).trans (congrArg (fun l => attnTile m c t l j k x) (owedBefore_eq p)))
theorem last_tile (h : t.val = 31) (p : Left F) (j : Fin 4) (k : Fin 6) (x : S128x128.Idx) : (last m c t h p).dproj ((place j k).emb x) = attnTile m c t p.later j k x :=
  (congrFun ((last_dproj m c t h p).trans (View.read_writes_junk_eq_canon _ _)) _).trans
    ((canon_of_stored m c t _ _ j (storesC_attn m c t h p j) k x).trans (congrArg (fun l => attnTile m c t l j k x) (owedBefore_eq p)))

theorem pay565_eq (w : FVec F S128x256 .f32) : k0_pay565 w = w := shapeCast_self _ _

theorem first_owed (h : t.val = 0) : (first m c t h).later = (loads m c t 0).owed := by
  rw [first_later, View.read_writes_junk_eq_canon, storesA_owed, pay565_eq]
  exact View.canon_cons_unit_zero (S := S128x256) zeros _ _ _
theorem mid_owed (h0 : t.val ≠ 0) (h1 : t.val ≠ 31) (p : Left F) : (mid m c t h0 h1 p).later = (loads m c t 0).owed := by
  rw [mid_later, View.read_writes_junk_eq_canon, storesB_owed, pay565_eq]
  exact View.canon_cons_unit_zero (S := S128x256) zeros _ _ _
theorem first_sinks (h : t.val = 0) : (first m c t h).acc = k0_pay1 (stepSinks m c t) k0_pay5 := by
  rw [first_acc, View.read_writes_junk_eq_canon, storesA_sinks, clearedSinks_eq]
  exact View.canon_cons_unit_zero (S := S128x128) zeros _ _ _
theorem mid_sinks (h0 : t.val ≠ 0) (h1 : t.val ≠ 31) (p : Left F) : (mid m c t h0 h1 p).acc = k0_pay1 (stepSinks m c t) p.acc := by
  rw [mid_acc, View.read_writes_junk_eq_canon, storesB_sinks, sinksBefore_eq]
  exact View.canon_cons_unit_zero (S := S128x128) zeros _ _ _
theorem last_sinks (h : t.val = 31) (p : Left F) : (last m c t h p).dsinks = k0_pay2 (k0_pay1 (stepSinks m c t) p.acc) := by
  rw [last_dsinks, View.read_writes_junk_eq_canon, storesC_21, sinksBefore_eq, View.canon_unit_zero (S := S1x128) zeros, View.readCov_eq_canon']
  exact congrArg k0_pay2 ((View.ld_unit_zero (S := S128x128) zeros _ _).trans (View.canon_unit_zero (S := S128x128) zeros _ _))

end Cert.Kernel2Ideal.Gen

end
-- ==== Proof.MixLanes.lean ====
/- The attention part of one chunk, lane by lane: two heads of 64 columns lie side by side in a tile, a product of tiles masked to one head's lanes is the product
   over that head's columns. -/
module

public import proofs.«01_k».proof.Proof.MixTile
public import Idealize.ShloMosaic.Lib.Pointwise

@[expose] public section

noncomputable section

namespace Cert.Kernel2Ideal.Gen

open Idealize.ShloMosaic

/-- Lane `d` of the first or second head of a tile. -/
def lane (h : Fin 2) (d : Fin 64) : Fin 128 := ⟨64 * h.val + d.val, by omega⟩

/-- Row `r` of head `g` among the stacked rows of four heads. -/
def stack (g : Fin 4) (r : Fin 128) : Fin 512 := ⟨128 * g.val + r.val, by omega⟩

/-- A sum over the lanes of a tile that is nothing outside one head's. -/
theorem sum_half (h : Fin 2) (f : Fin 128 → EReal) (hf : ∀ l : Fin 128, l.val / 64 ≠ h.val → f l = 0) : ∑ l, f l = ∑ d, f (lane h d) := by
  have e : ∑ l, f l = ∑ p : Fin 2 × Fin 64, f (lane p.1 p.2) := by
    refine (Fintype.sum_equiv (finProdFinEquiv (m := 2) (n := 64)) _ _ fun p => congrArg f (Fin.ext ?_)).symm
    simp [lane, finProdFinEquiv]; omega
  rw [e, Fintype.sum_prod_type]
  refine (Finset.sum_eq_single h (fun p _ hp => Finset.sum_eq_zero fun d _ => hf _ ?_) fun q => absurd (Finset.mem_univ h) q)
  intro q
  refine hp (Fin.ext ?_)
  rw [← q]
  simp [lane]; omega

/-- A sum over the stacked rows. -/
theorem sum_stack (f : Fin 512 → EReal) : ∑ k, f k = ∑ g, ∑ r, f (stack g r) := by
  have e : ∑ l, f l = ∑ p : Fin 4 × Fin 128, f (stack p.1 p.2) := by
    refine (Fintype.sum_equiv (finProdFinEquiv (m := 4) (n := 128)) _ _ fun p => congrArg f (Fin.ext ?_)).symm
    simp [stack, finProdFinEquiv]; omega
  rw [e, Fintype.sum_prod_type]

theorem firstLanes_at (r l : Fin 128) : firstLanes (ix2 r l) = if l.val < 64 then 1#1 else 0#1 := by
  unfold firstLanes
  pointwise [k0_pay12]
  revert l; decide +kernel

theorem secondLanes_at (r l : Fin 128) : secondLanes (ix2 r l) = if l.val < 64 then 0#1 else 1#1 := by
  unfold secondLanes
  pointwise [k0_pay13]
  revert l; decide +kernel

theorem firstKeys_at (b : Fin 256) (l : Fin 128) : firstKeys (ix2 b l) = if l.val < 64 then 1#1 else 0#1 := by
  unfold firstKeys
  pointwise [k0_pay14, k0_pay15]
  revert l; decide +kernel

theorem secondKeys_at (b : Fin 256) (l : Fin 128) : secondKeys (ix2 b l) = if l.val < 64 then 0#1 else 1#1 := by
  unfold secondKeys
  pointwise [k0_pay16]
  revert l; decide +kernel

/-- The head of a tile in which a lane lies. -/
theorem lane_cases (l : Fin 128) : ∃ p d, l = lane p d :=
  ⟨⟨l.val / 64, by omega⟩, ⟨l.val % 64, by omega⟩, Fin.ext (by simp [lane]; omega)⟩

variable (x : Loads Ideal) (h : Fin 2) (g : Fin 4) (r : Fin 128) (b : Fin 256) (d : Fin 64)

theorem keys_at (l : Fin 128) : x.keys (ix2 b l) = if hb : b.val < 128 then x.prev (ix2 ⟨b.val, hb⟩ ⟨l.val, by omega⟩) else x.cur (ix2 ⟨b.val - 128, by omega⟩ ⟨l.val, by omega⟩) := by
  unfold Loads.keys
  pointwise [k0_pay17]

theorem values_at (l : Fin 128) : x.values (ix2 b l) = if hb : b.val < 128 then x.prev (ix2 ⟨b.val, hb⟩ ⟨128 + l.val, by omega⟩) else x.cur (ix2 ⟨b.val - 128, by omega⟩ ⟨128 + l.val, by omega⟩) := by
  unfold Loads.values
  pointwise [k0_pay18]

/-- The output's gradient, by group. -/
def Loads.outGrad (x : Loads Ideal) : Fin 2 → FVec Ideal S512x128 .bf16
  | 0 => x.outGrad0
  | 1 => x.outGrad1

/-- The gradient of the scores, by group. -/
def Loads.scoreGrad (x : Loads Ideal) : Fin 2 → FVec Ideal S512x256 .bf16
  | 0 => x.scoreGrad0
  | 1 => x.scoreGrad1

/-- The output's gradient of a head. -/
def Loads.headGrad (x : Loads Ideal) (h : Fin 2) (g : Fin 4) (r : Fin 128) (d : Fin 64) : EReal :=
  x.grads ⟨2 * h.val + g.val / 2, by omega⟩ (ix2 r (lane ⟨g.val % 2, by omega⟩ d))

theorem outGrad_at (p : Fin 2) : x.outGrad h (ix2 (stack g r) (lane p d)) = if p = h then x.headGrad h g r d else 0 := by
  unfold stack lane Loads.headGrad lane
  fin_cases h <;> fin_cases g <;> fin_cases p
  all_goals
    simp only [Loads.outGrad, Loads.outGrad0, Loads.outGrad1]
    pointwise [k0_pay22, k0_pay37, k0_pay38, k0_pay39, k0_pay40, firstLanes_at, secondLanes_at]
  all_goals
    (repeat' split) <;> first
      | rfl
      | (exfalso; omega)
      | (congr 2 <;> exact Fin.ext (by dsimp only; omega))

/-- The gradient of a probability. -/
def Loads.probGrad (x : Loads Ideal) (h : Fin 2) (g : Fin 4) (r : Fin 128) (b : Fin 256) : EReal := ∑ d, x.headGrad h g r d * x.values (ix2 b (lane h d))

theorem dot_values : ∑ l, x.outGrad h (ix2 (stack g r) l) * x.values (ix2 b l) = x.probGrad h g r b := by
  refine (sum_half h _ fun l hl => ?_).trans (Finset.sum_congr rfl fun d _ => ?_)
  · obtain ⟨p, d, rfl⟩ := lane_cases l
    rw [outGrad_at, if_neg, zero_mul]
    rintro rfl
    exact hl (by simp [lane]; omega)
  · rw [outGrad_at, if_pos rfl]

/-- The mean of the gradients of the probabilities. -/
def Loads.meanGrad (x : Loads Ideal) (h : Fin 2) (g : Fin 4) (r : Fin 128) : EReal := ∑ b, x.probs h (ix4 0 0 (stack g r) b) * x.probGrad h g r b

theorem scoreGrad_at : x.scoreGrad h (ix2 (stack g r) b)
    = x.probs h (ix4 0 0 (stack g r) b) * (x.probGrad h g r b - x.meanGrad h g r) * Ideal.ofBits .f32 1040187392#32 := by
  unfold Loads.meanGrad
  simp only [← dot_values]
  fin_cases h
  · simp only [Loads.scoreGrad, Loads.outGrad]
    unfold Loads.scoreGrad0 Loads.outGrad0
    pointwise [k0_pay28, k0_pay24, k0_pay23, k0_pay25, k0_pay26, k0_pay27]
  · simp only [Loads.scoreGrad, Loads.outGrad]
    unfold Loads.scoreGrad1 Loads.outGrad1
    pointwise [k0_pay45, k0_pay44, k0_pay43, k0_pay42, k0_pay41]

/-- The gradient of the queries, by column tile. -/
def Loads.queryTile (x : Loads Ideal) : Fin 2 → Fin 2 → FVec Ideal S128x128 .bf16
  | 0, 0 => x.queryTile0
  | 0, 1 => x.queryTile1
  | 1, 0 => x.queryTile2
  | 1, 1 => x.queryTile3

theorem queryTile_at (q p : Fin 2) : x.queryTile h q (ix2 r (lane p d)) = ∑ b, x.scoreGrad h (ix2 (stack ⟨2 * q.val + p.val, by omega⟩ r) b) * x.keys (ix2 b (lane h d)) := by
  unfold stack lane
  fin_cases h <;> fin_cases q <;> fin_cases p
  all_goals
    simp only [Loads.queryTile, Loads.queryTile0, Loads.queryTile1, Loads.queryTile2, Loads.queryTile3, Loads.scoreGrad]
    pointwise [k0_pay32, k0_pay33, k0_pay31, k0_pay30, k0_pay51, k0_pay52, k0_pay53, firstKeys_at, secondKeys_at]
  all_goals
    simp only [show (d.val + 128 - 64) % 128 = 64 + d.val by omega, show (64 + d.val + 128 - 64) % 128 = d.val by omega, if_neg (show ¬ 64 + d.val < 64 by omega), if_pos d.isLt,
      Scalar.select, if_true, mul_zero, Finset.sum_const_zero, zero_add, add_zero]
    simp

/-- The queries of a group lie in its half of the lanes. -/
def Loads.Split (x : Loads Ideal) : Prop := ∀ h p : Fin 2, p ≠ h → ∀ k d, x.queries h (ix4 0 0 k (lane p d)) = 0

theorem keyGrad_at (hx : x.Split) : x.keyGrad (ix2 b (lane h d)) = ∑ g, ∑ r, x.scoreGrad h (ix2 (stack g r) b) * x.queries h (ix4 0 0 (stack g r) (lane h d)) := by
  unfold Loads.keyGrad
  pointwise [k0_pay54, k0_pay34, k0_pay19, k0_pay21, k0_pay36]
  rw [sum_stack, sum_stack]
  fin_cases h
  · have z : ∀ k d, x.queries 1 (ix4 0 0 k (lane 0 d)) = 0 := hx 1 0 (by decide)
    simp [z, Loads.scoreGrad]
  · have z : ∀ k d, x.queries 0 (ix4 0 0 k (lane 1 d)) = 0 := hx 0 1 (by decide)
    simp [z, Loads.scoreGrad]

theorem valueGrad_at : x.valueGrad (ix2 b (lane h d)) = ∑ g, ∑ r, x.probs h (ix4 0 0 (stack g r) b) * x.headGrad h g r d := by
  have e : x.valueGrad (ix2 b (lane h d)) = ∑ k, x.probs 0 (ix4 0 0 k b) * x.outGrad 0 (ix2 k (lane h d)) + ∑ k, x.probs 1 (ix4 0 0 k b) * x.outGrad 1 (ix2 k (lane h d)) := by
    unfold Loads.valueGrad
    pointwise [k0_pay55, k0_pay35, k0_pay20, k0_pay23, k0_pay41]
    rfl
  rw [e, sum_stack, sum_stack]
  simp only [outGrad_at]
  fin_cases h <;> simp

theorem keyTile_at (w : Vec Ideal S128x256 .f32) (l : Fin 128) : x.keyTile w (ix2 r l) = x.keyGrad (ix2 ⟨128 + r.val, by omega⟩ l) + w (ix2 r ⟨l.val, by omega⟩) := by
  unfold Loads.keyTile Loads.keyGrad
  pointwise [k0_pay56]

theorem valueTile_at (w : Vec Ideal S128x256 .f32) (l : Fin 128) : x.valueTile w (ix2 r l) = x.valueGrad (ix2 ⟨128 + r.val, by omega⟩ l) + w (ix2 r ⟨128 + l.val, by omega⟩) := by
  unfold Loads.valueTile
  pointwise [k0_pay57]

theorem owed_key (l : Fin 128) : x.owed (ix2 r ⟨l.val, by omega⟩) = x.keyGrad (ix2 ⟨r.val, by omega⟩ l) := by
  unfold Loads.owed
  pointwise [k0_pay58]

theorem owed_value (l : Fin 128) : x.owed (ix2 r ⟨128 + l.val, by omega⟩) = x.valueGrad (ix2 ⟨r.val, by omega⟩ l) := by
  unfold Loads.owed
  pointwise [k0_pay58]

theorem stack_0 : stack 0 r = ⟨r.val, by omega⟩ := Fin.ext (by simp [stack])
theorem stack_1 : stack 1 r = ⟨128 + r.val, by omega⟩ := Fin.ext (by simp [stack])
theorem stack_2 : stack 2 r = ⟨256 + r.val, by omega⟩ := Fin.ext (by simp [stack])
theorem stack_3 : stack 3 r = ⟨384 + r.val, by omega⟩ := Fin.ext (by simp [stack])

/-- The sink's gradient of a row. -/
def Loads.sinkTerm (x : Loads Ideal) (h : Fin 2) (g : Fin 4) (r : Fin 128) : EReal := (0 - x.sinks h (ix4 0 0 (stack g r) 0)) * x.meanGrad h g r

/-- A term that is put in one lane. -/
theorem pick (l : Fin 128) (k : Fin 8) (t : EReal) : Scalar.select (IntOp.cmpi .eq (BitVec.ofNat 32 l) (BitVec.ofNat 32 k)) t 0 = if l.val = k.val then t else 0 := by
  have e : ∀ l : Fin 128, ∀ k : Fin 8, IntOp.cmpi .eq (BitVec.ofNat 32 l) (BitVec.ofNat 32 k) = if l.val = k.val then 1#1 else 0#1 := by decide +kernel
  rw [e]
  split_ifs <;> rfl

theorem sinkRows_at (acc : FVec Ideal S128x128 .f32) (l : Fin 128) : x.sinkRows acc (ix2 r l)
    = acc (ix2 r l) + (if l.val = 0 then x.sinkTerm 0 0 r else 0) + (if l.val = 1 then x.sinkTerm 0 1 r else 0) + (if l.val = 2 then x.sinkTerm 0 2 r else 0)
      + (if l.val = 3 then x.sinkTerm 0 3 r else 0) + (if l.val = 4 then x.sinkTerm 1 0 r else 0) + (if l.val = 5 then x.sinkTerm 1 1 r else 0)
      + (if l.val = 6 then x.sinkTerm 1 2 r else 0) + (if l.val = 7 then x.sinkTerm 1 3 r else 0) := by
  have p := fun (k : Fin 8) t => (pick l k t).symm
  have p0 := p 0
  have p1 := p 1
  have p2 := p 2
  have p3 := p 3
  have p4 := p 4
  have p5 := p 5
  have p6 := p 6
  have p7 := p 7
  simp only [Fin.isValue, Fin.coe_ofNat_eq_mod, Nat.zero_mod, Nat.one_mod, Nat.reduceMod] at p0 p1 p2 p3 p4 p5 p6 p7
  simp only [p0, p1, p2, p3, p4, p5, p6, p7]
  unfold Loads.sinkTerm Loads.meanGrad
  simp only [← dot_values, Loads.outGrad]
  unfold Loads.sinkRows Loads.outGrad0 Loads.outGrad1
  pointwise [k0_pay29, k0_pay46, k0_pay47, k0_pay48, k0_pay49, k0_pay50, k0_pay43, k0_pay26, k0_pay27, k0_pay23, k0_pay24, k0_pay25, k0_pay44, k0_pay42, k0_pay41]
  rw [stack_0, stack_1, stack_2, stack_3]

/-- The sink's gradient of a row, in the lane of its head. -/
theorem sinkRows_head (acc : FVec Ideal S128x128 .f32) : x.sinkRows acc (ix2 r ⟨4 * h.val + g.val, by omega⟩)
    = acc (ix2 r ⟨4 * h.val + g.val, by omega⟩) + x.sinkTerm h g r := by
  rw [sinkRows_at]
  fin_cases h <;> fin_cases g <;> simp

theorem sinkRows_rest (acc : FVec Ideal S128x128 .f32) (l : Fin 128) (hl : 8 ≤ l.val) : x.sinkRows acc (ix2 r l) = acc (ix2 r l) := by
  rw [sinkRows_at, if_neg (by omega), if_neg (by omega), if_neg (by omega), if_neg (by omega), if_neg (by omega), if_neg (by omega), if_neg (by omega), if_neg (by omega)]
  simp

end Cert.Kernel2Ideal.Gen
-- ==== Proof.MixHost.lean ====
/- The arrays that the mixer's host lines prepare, at an index. -/
module

public import proofs.«01_k».proof.Proof.Gen.Kernel2Ideal.Frame.Runs
public import Idealize.ShloMosaic.Lib.StableHlo.ReadAt
public import proofs.«01_k».proof.Proof.MixRef
public import proofs.«01_k».proof.Proof.MixLanes

@[expose] public section

noncomputable section

namespace Cert.Kernel2Ideal.Gen

open Cert.Kernel2Ideal Cert.Proof Idealize.ShloMosaic Idealize.ShloMosaic.TcCoe Idealize.SL.Sem

variable (m : (ℓ : Loc nD τ sig) → Buf (Elt Ideal) ℓ) (c : Dev nD)
  (n r : Fin 128) (h : Fin 2) (g : Fin 4) (d : Fin 64) (b : Fin 256) (j : Fin 257)

/-- The projection. -/
abbrev projOf : Proj := m ((c : Thread nD τ).loc main_arg0)

/-- The sinks. -/
abbrev sinksOf : Cert.Proof.Sinks := m ((c : Thread nD τ).loc main_arg1)

/-- The gradient of the mixed rows. -/
abbrev mixedOf : Mixed := m ((c : Thread nD τ).loc main_arg2)

theorem V_dmix (r : Fin 16384) (k : Fin 1024) : V m c main_v299 (ix2 r k) = mixedOf m c (ix2 r k) := by
  unfold V; after_reads_at

/-- The windows' keys. -/
def hostKeys : FVec Ideal S128x256x2x64 .f32 := V m c main_v89

/-- The queries. -/
def hostQueries : FVec Ideal S128x128x2x4x64 .f32 := V m c main_v83

/-- The scores. -/
def hostScores : FVec Ideal S128x2x4x128x256 .f32 := V m c main_v93

/-- Where a row looks. -/
def hostMask : IVec S128x1x1x128x256 1 := V m c main_v124

/-- The scores where a row looks. -/
def hostMasked : FVec Ideal S128x2x4x128x256 .f32 := V m c main_v125

/-- The scores and the sink's. -/
def hostLogits : FVec Ideal S128x2x4x128x257 .f32 := V m c main_v129

/-- The largest score of a row. -/
def hostMax : FVec Ideal S128x2x4x128 .f32 := V m c main_v130

/-- It again. -/
def hostTop : FVec Ideal S128x2x4x128 .f32 := V m c main_v132

/-- The exponentials. -/
def hostWeights : FVec Ideal S128x2x4x128x257 .f32 := V m c main_v136

/-- Their sums. -/
def hostTotals : FVec Ideal S128x2x4x128 .f32 := V m c main_v137

/-- The probabilities. -/
def hostProbs : FVec Ideal S128x2x4x128x257 .f32 := V m c main_v140

/-- The queries, the four heads of a group stacked. -/
def hostStacked : FVec Ideal S128x2x512x64 .f32 := V m c main_v146

/-- The keys of the chunks. -/
def hostOwn : FVec Ideal S128x128x2x64 .f32 := V m c main_v85

/-- The keys of the chunks before. -/
def hostBefore : FVec Ideal S128x128x2x64 .f32 := V m c main_v88

theorem hostOwn_at : hostOwn m c (ix4 n r h d) = projOf m c (ix2 ⟨n.val * 128 + r.val, by omega⟩ (keyCol h d)) := by
  unfold hostOwn V; after_reads_at
  rfl

theorem hostBefore_at : hostBefore m c (ix4 n r h d) = if n.val < 1 then 0 else projOf m c (ix2 ⟨(n.val - 1) * 128 + r.val, by omega⟩ (keyCol h d)) := by
  have e : hostBefore m c = concatenate S128x128x2x64 0 [⟨S1x128x2x64, broadcastInDim S1x128x2x64 ![] bcast_S_S1x128x2x64 (constant (F := Ideal) S_ .f32 0#32)⟩, ⟨S127x128x2x64, extractStridedSlice S127x128x2x64 ![0, 0, 0, 0] (hostOwn m c) slices_S128x128x2x64_S127x128x2x64_0_0_0_0⟩] concatenates_S1x128x2x64_S127x128x2x64_S128x128x2x64_d0 := by
    unfold hostBefore hostOwn V; after_reads_simp
    refine congrArg₂ (fun (a : FVec Ideal S1x128x2x64 .f32) (b : FVec Ideal S127x128x2x64 .f32) => concatenate S128x128x2x64 0 [⟨S1x128x2x64, a⟩, ⟨S127x128x2x64, b⟩] concatenates_S1x128x2x64_S127x128x2x64_S128x128x2x64_d0) ?_ ?_ <;> after_reads_simp
  rw [e]
  pointwise [hostOwn_at]
  rfl

theorem hostKeys_at : hostKeys m c (ix4 n b h d) = winKey (projOf m c) n h b d := by
  have e : hostKeys m c = concatenate S128x256x2x64 1 [⟨S128x128x2x64, hostBefore m c⟩, ⟨S128x128x2x64, hostOwn m c⟩] concatenates_S128x128x2x64_S128x128x2x64_S128x256x2x64_d1 := by
    unfold hostKeys hostBefore hostOwn V; after_reads_simp
    refine congrArg₂ (fun (a : FVec Ideal S128x128x2x64 .f32) (b : FVec Ideal S128x128x2x64 .f32) => concatenate S128x256x2x64 1 [⟨S128x128x2x64, a⟩, ⟨S128x128x2x64, b⟩] concatenates_S128x128x2x64_S128x128x2x64_S128x256x2x64_d1) ?_ ?_ <;> after_reads_simp
  rw [e]
  pointwise [hostBefore_at, hostOwn_at]
  rfl

theorem hostQueries_at : hostQueries m c (ix5 n r h g d) = query (projOf m c) n h g r d := by
  unfold hostQueries V; after_reads_at
  rfl

theorem hostScores_at : hostScores m c (ix5 n h g r b) = (∑ d, winKey (projOf m c) n h b d * query (projOf m c) n h g r d) * eighth := by
  have e : hostScores m c = mulf (transpose S128x2x4x128x256 [0, 1, 4, 3, 2] (Host.dotGeneral dot_S128x256x2x64_S128x128x2x4x64_S128x2x256x128x4_3_4_1_13_02_02 none (hostKeys m c) (hostQueries m c)) transposes_S128x2x256x128x4_S128x2x4x128x256_0_1_4_3_2) (broadcastInDim S128x2x4x128x256 ![] bcast_S_S128x2x4x128x256 (constant (F := Ideal) S_ .f32 1040187392#32)) := by
    unfold hostScores hostKeys hostQueries V; after_reads_simp
  rw [e]
  pointwise [hostKeys_at, hostQueries_at]
  rfl

theorem hostMask_at : hostMask m c (ix5 n 0 0 r b) = if live n r b then 1#1 else 0#1 := by
  unfold hostMask V; after_reads_at
  exact mask_live n r b

theorem hostMasked_at : hostMasked m c (ix5 n h g r b) = if live n r b then (∑ d, winKey (projOf m c) n h b d * query (projOf m c) n h g r d) * eighth else ⊥ := by
  have e : hostMasked m c = select (broadcastInDim S128x2x4x128x256 ![0, 1, 2, 3, 4] bcast_S128x1x1x128x256_S128x2x4x128x256_0_1_2_3_4 (hostMask m c)) (hostScores m c) (broadcastInDim S128x2x4x128x256 ![] bcast_S_S128x2x4x128x256 (constant (F := Ideal) S_ .f32 4286578688#32)) := by
    unfold hostMasked hostMask hostScores V; after_reads_simp
    rfl
  rw [e]
  pointwise [hostMask_at, hostScores_at]
  rw [lit_bot]
  by_cases q : live n r b
  · rw [if_pos q, if_pos q]; rfl
  · rw [if_neg q, if_neg q]; rfl

/-- The sinks, one to a head. -/
def hostSinks : FVec Ideal S128x2x4x128x1 .f32 := V m c main_v128

theorem hostSinks_at (o : Fin 1) : hostSinks m c (ix5 n h g r o) = sinksOf m c (ix2 0 ⟨h.val * 4 + g.val, by omega⟩) := by
  unfold hostSinks V; after_reads_at

theorem hostLogits_at : hostLogits m c (ix5 n h g r j) = logit (projOf m c) (sinksOf m c) n h g r j := by
  have e : hostLogits m c = concatenate S128x2x4x128x257 4 [⟨S128x2x4x128x256, hostMasked m c⟩, ⟨S128x2x4x128x1, hostSinks m c⟩] concatenates_S128x2x4x128x256_S128x2x4x128x1_S128x2x4x128x257_d4 := by
    unfold hostLogits hostMasked hostSinks V; after_reads_simp
    refine congrArg₂ (fun (a : FVec Ideal S128x2x4x128x256 .f32) (b : FVec Ideal S128x2x4x128x1 .f32) => concatenate S128x2x4x128x257 4 [⟨S128x2x4x128x256, a⟩, ⟨S128x2x4x128x1, b⟩] concatenates_S128x2x4x128x256_S128x2x4x128x1_S128x2x4x128x257_d4) ?_ ?_ <;> after_reads_simp
  rw [e]
  pointwise [hostMasked_at, hostSinks_at]
  unfold logit
  by_cases q : j.val < 256
  · simp only [q, dite_true]
  · simp only [q, dite_false]

theorem hostMax_at : hostMax m c (ix4 n h g r) = (Finset.univ : Finset (Fin 257)).fold max ⊥ (logit (projOf m c) (sinksOf m c) n h g r) := by
  have e : hostMax m c = Host.reduce (FloatOps.maximumf (F := Ideal) (φ := .f32)) (hostLogits m c) (constant (F := Ideal) S_ .f32 4286578688#32) reducesTo_S128x2x4x128x257_S128x2x4x128_d4 h_S_ := by
    unfold hostMax hostLogits V; after_reads_simp
  rw [e, max_last5, show constant (F := Ideal) S_ .f32 4286578688#32 (Shape.Idx.first h_S_) = ⊥ from lit_bot]
  exact Finset.fold_congr fun j _ => hostLogits_at m c n r h g j

theorem hostTop_at : hostTop m c (ix4 n h g r) = top (projOf m c) (sinksOf m c) n h g r := by
  have e : hostTop m c = maximumf (broadcastInDim S128x2x4x128 ![] bcast_S_S128x2x4x128 (constant (F := Ideal) S_ .f32 4286578688#32)) (hostMax m c) := by
    unfold hostTop hostMax V; after_reads_simp
  have z : (broadcastInDim S128x2x4x128 ![] bcast_S_S128x2x4x128 (constant (F := Ideal) S_ .f32 4286578688#32) : FVec Ideal S128x2x4x128 .f32) (ix4 n h g r) = ⊥ := by
    pointwise
    exact lit_bot
  rw [e, larger_at, z, hostMax_at, top_def]

theorem hostWeights_at : hostWeights m c (ix5 n h g r j) = weight (projOf m c) (sinksOf m c) n h g r j := by
  have e : hostWeights m c = Host.exp (subf (hostLogits m c) (broadcastInDim S128x2x4x128x257 ![0, 1, 2, 3, 4] bcast_S128x2x4x128x1_S128x2x4x128x257_0_1_2_3_4 (broadcastInDim S128x2x4x128x1 ![0, 1, 2, 3] bcast_S128x2x4x128_S128x2x4x128x1_0_1_2_3 (hostTop m c)))) := by
    unfold hostWeights hostLogits hostTop V; after_reads_simp
  rw [e]
  pointwise [hostTop_at, hostLogits_at]
  rfl

theorem hostTotals_at : hostTotals m c (ix4 n h g r) = total (projOf m c) (sinksOf m c) n h g r := by
  have e : hostTotals m c = Host.reduceAdd (hostWeights m c) (constant (F := Ideal) S_ .f32 0#32) reducesTo_S128x2x4x128x257_S128x2x4x128_d4 h_S_ := by
    unfold hostTotals hostWeights V; after_reads_simp
  rw [e]
  refine (sum_last5 _ _ _ n h g r).trans ?_
  rw [show constant (F := Ideal) S_ .f32 0#32 (Shape.Idx.first h_S_) = 0 from Ideal.ofBits_zero_f32, zero_add]
  exact Finset.sum_congr rfl fun j _ => hostWeights_at m c n r h g j

theorem hostProbs_at : hostProbs m c (ix5 n h g r j) = prob (projOf m c) (sinksOf m c) n h g r j := by
  have e : hostProbs m c = Host.divf (hostWeights m c) (broadcastInDim S128x2x4x128x257 ![0, 1, 2, 3, 4] bcast_S128x2x4x128x1_S128x2x4x128x257_0_1_2_3_4 (broadcastInDim S128x2x4x128x1 ![0, 1, 2, 3] bcast_S128x2x4x128_S128x2x4x128x1_0_1_2_3 (hostTotals m c))) := by
    unfold hostProbs hostWeights hostTotals V; after_reads_simp
  rw [e]
  pointwise [hostWeights_at, hostTotals_at]
  rfl

theorem stack_div : (⟨(stack g r).val / 128, by omega⟩ : Fin 4) = g := Fin.ext (by unfold stack; dsimp only; omega)

theorem stack_mod : (⟨(stack g r).val % 128, by omega⟩ : Fin 128) = r := Fin.ext (by unfold stack; dsimp only; omega)

theorem V_probs : (V m c main_v285 : FVec Ideal S128x2x512x256 .bf16) (ix4 n h (stack g r) b) = prob (projOf m c) (sinksOf m c) n h g r b.castSucc := by
  have e : (V m c main_v285 : FVec Ideal S128x2x512x256 .bf16) = truncf .bf16 (shapeCast S128x2x512x256 (extractStridedSlice S128x2x4x128x256 ![0, 0, 0, 0, 0] (hostProbs m c) slices_S128x2x4x128x257_S128x2x4x128x256_0_0_0_0_0) shapeCasts_S128x2x4x128x256_S128x2x512x256) bitsLt_bf16_f32 := by
    unfold hostProbs V; after_reads_simp
    rfl
  rw [e, ← hostProbs_at]
  pointwise
  rw [stack_div, stack_mod]
  exact congrArg (hostProbs m c) (congrArg (ix5 n h g r) (Fin.ext rfl))

theorem V_sink : (V m c main_v142 : FVec Ideal S128x2x512x1 .f32) (ix4 n h (stack g r) 0) = prob (projOf m c) (sinksOf m c) n h g r (Fin.last 256) := by
  have e : (V m c main_v142 : FVec Ideal S128x2x512x1 .f32) = shapeCast S128x2x512x1 (extractStridedSlice S128x2x4x128x1 ![0, 0, 0, 0, 256] (hostProbs m c) slices_S128x2x4x128x257_S128x2x4x128x1_0_0_0_0_256) shapeCasts_S128x2x4x128x1_S128x2x512x1 := by
    unfold hostProbs V; after_reads_simp
    rfl
  rw [e, ← hostProbs_at]
  pointwise
  rw [stack_div, stack_mod]
  exact congrArg (hostProbs m c) (congrArg (ix5 n h g r) (Fin.ext rfl))

theorem hostStacked_at : hostStacked m c (ix4 n h (stack g r) d) = query (projOf m c) n h g r d := by
  have e : hostStacked m c = shapeCast S128x2x512x64 (transpose S128x2x4x128x64 [0, 2, 3, 1, 4] (hostQueries m c) transposes_S128x128x2x4x64_S128x2x4x128x64_0_2_3_1_4) shapeCasts_S128x2x4x128x64_S128x2x512x64 := by
    unfold hostStacked hostQueries V; after_reads_simp
    rfl
  rw [e, ← hostQueries_at]
  pointwise
  rw [stack_div, stack_mod]

/-- The first group's queries in the first lanes of a tile. -/
def hostLow : FVec Ideal S128x1x512x128 .f32 := V m c main_v149

/-- The second group's queries in the second lanes of a tile. -/
def hostHigh : FVec Ideal S128x1x512x128 .f32 := V m c main_v151

/-- Nothing, for the other lanes. -/
def hostNone : FVec Ideal S128x1x512x64 .f32 := V m c main_v147

theorem hostNone_at (i : S128x1x512x64.Idx) : hostNone m c i = 0 := by
  have e : hostNone m c = broadcastInDim S128x1x512x64 ![] bcast_S_S128x1x512x64 (constant (F := Ideal) S_ .f32 0#32) := by
    unfold hostNone V; after_reads_simp
  rw [e]
  exact Ideal.ofBits_zero_f32

theorem hostLow_at (k : Fin 512) (l : Fin 128) : hostLow m c (ix4 n 0 k l) = if hl : l.val < 64 then hostStacked m c (ix4 n 0 k ⟨l.val, hl⟩) else 0 := by
  have e : hostLow m c = concatenate S128x1x512x128 3 [⟨S128x1x512x64, extractStridedSlice S128x1x512x64 ![0, 0, 0, 0] (hostStacked m c) slices_S128x2x512x64_S128x1x512x64_0_0_0_0⟩, ⟨S128x1x512x64, hostNone m c⟩] concatenates_S128x1x512x64_S128x1x512x64_S128x1x512x128_d3 := by
    unfold hostLow hostStacked hostNone V; after_reads_simp
    refine congrArg₂ (fun (a : FVec Ideal S128x1x512x64 .f32) (b : FVec Ideal S128x1x512x64 .f32) => concatenate S128x1x512x128 3 [⟨S128x1x512x64, a⟩, ⟨S128x1x512x64, b⟩] concatenates_S128x1x512x64_S128x1x512x64_S128x1x512x128_d3) ?_ ?_ <;> after_reads_simp
  rw [e]
  pointwise [hostNone_at]

theorem hostHigh_at (k : Fin 512) (l : Fin 128) : hostHigh m c (ix4 n 0 k l) = if hl : l.val < 64 then 0 else hostStacked m c (ix4 n 1 k ⟨l.val - 64, by omega⟩) := by
  have e : hostHigh m c = concatenate S128x1x512x128 3 [⟨S128x1x512x64, hostNone m c⟩, ⟨S128x1x512x64, extractStridedSlice S128x1x512x64 ![0, 1, 0, 0] (hostStacked m c) slices_S128x2x512x64_S128x1x512x64_0_1_0_0⟩] concatenates_S128x1x512x64_S128x1x512x64_S128x1x512x128_d3 := by
    unfold hostHigh hostStacked hostNone V; after_reads_simp
    refine congrArg₂ (fun (a : FVec Ideal S128x1x512x64 .f32) (b : FVec Ideal S128x1x512x64 .f32) => concatenate S128x1x512x128 3 [⟨S128x1x512x64, a⟩, ⟨S128x1x512x64, b⟩] concatenates_S128x1x512x64_S128x1x512x64_S128x1x512x128_d3) ?_ ?_ <;> after_reads_simp
  rw [e]
  pointwise [hostNone_at]

theorem V_stacked_eq (k : Fin 512) (l : Fin 128) : (V m c main_v291 : FVec Ideal S128x2x512x128 .bf16) (ix4 n h k l) = if h = 0 then hostLow m c (ix4 n 0 k l) else hostHigh m c (ix4 n 0 k l) := by
  have e : (V m c main_v291 : FVec Ideal S128x2x512x128 .bf16) = truncf .bf16 (concatenate S128x2x512x128 1 [⟨S128x1x512x128, hostLow m c⟩, ⟨S128x1x512x128, hostHigh m c⟩] concatenates_S128x1x512x128_S128x1x512x128_S128x2x512x128_d1 : FVec Ideal S128x2x512x128 .f32) bitsLt_bf16_f32 := by
    unfold hostLow hostHigh V; after_reads_simp
    refine congrArg₂ (fun (a : FVec Ideal S128x1x512x128 .f32) (b : FVec Ideal S128x1x512x128 .f32) => (truncf .bf16 (concatenate S128x2x512x128 1 [⟨S128x1x512x128, a⟩, ⟨S128x1x512x128, b⟩] concatenates_S128x1x512x128_S128x1x512x128_S128x2x512x128_d1 : FVec Ideal S128x2x512x128 .f32) bitsLt_bf16_f32 : FVec Ideal S128x2x512x128 .bf16)) ?_ ?_ <;> after_reads_simp
  rw [e]
  fin_cases h <;> pointwise <;> rfl

theorem V_stacked (p : Fin 2) : (V m c main_v291 : FVec Ideal S128x2x512x128 .bf16) (ix4 n h (stack g r) (lane p d)) = if p = h then query (projOf m c) n h g r d else 0 := by
  rw [V_stacked_eq, ← hostStacked_at]
  fin_cases h <;> fin_cases p
  all_goals simp [hostLow_at, hostHigh_at, lane]

end Cert.Kernel2Ideal.Gen
-- ==== Proof.MixChunk.lean ====
/- The attention part of one chunk of the backward call is the gradient of the attention, given that the chunk loads what the gradient is of. -/
module

public import proofs.«01_k».proof.Proof.MixLanes
public import proofs.«01_k».proof.Proof.MixSpec

@[expose] public section

noncomputable section

namespace Cert.Kernel2Ideal.Gen

open Cert.Proof Idealize.ShloMosaic

/-- What chunk `n` loads: its rows and those before, the probabilities, the queries and the gradient of its rows. -/
structure Reads (L : Loads Ideal) (x : Proj) (s : Cert.Proof.Sinks) (y : Mixed) (n : Fin 128) : Prop where
  cur : ∀ (r : Fin 128) (l : Fin 256), L.cur (ix2 r l) = x (ix2 (pos n r) ⟨512 + l.val, by omega⟩)
  prev : ∀ (_ : 0 < n.val) (r : Fin 128) (l : Fin 256), L.prev (ix2 r l) = x (ix2 ⟨(n.val - 1) * 128 + r.val, by omega⟩ ⟨512 + l.val, by omega⟩)
  grads : ∀ (k : Fin 4) (r l : Fin 128), L.grads k (ix2 r l) = y (ix2 (pos n r) ⟨128 * k.val + l.val, by omega⟩)
  probs : ∀ (h : Fin 2) (g : Fin 4) (r : Fin 128) (b : Fin 256), L.probs h (ix4 0 0 (stack g r) b) = prob x s n h g r b.castSucc
  sinks : ∀ (h : Fin 2) (g : Fin 4) (r : Fin 128), L.sinks h (ix4 0 0 (stack g r) 0) = prob x s n h g r (Fin.last 256)
  queries : ∀ (h p : Fin 2) (g : Fin 4) (r : Fin 128) (d : Fin 64), L.queries h (ix4 0 0 (stack g r) (lane p d)) = if p = h then query x n h g r d else 0

/-- What is added to chunk `n` for the chunk after it, keys beside values. -/
def Owes (w : Vec Ideal S128x256 .f32) (x : Proj) (s : Cert.Proof.Sinks) (y : Mixed) (n : Fin 128) : Prop :=
  ∀ (r : Fin 128) (h : Fin 2) (d : Fin 64),
    w (ix2 r ⟨(lane h d).val, by omega⟩) = (if hn : n.val < 127 then winKeyGrad x s y ⟨1 + n.val, by omega⟩ h ⟨r.val, by omega⟩ d else 0)
    ∧ w (ix2 r ⟨128 + (lane h d).val, by omega⟩) = (if hn : n.val < 127 then winValueGrad x s y ⟨1 + n.val, by omega⟩ h ⟨r.val, by omega⟩ d else 0)

section
variable {L : Loads Ideal} {x : Proj} {s : Cert.Proof.Sinks} {y : Mixed} {n : Fin 128} (R : Reads L x s y n)
  (hx : ∀ i, x i ≠ ⊤ ∧ x i ≠ ⊥) (hs : ∀ i, s i ≠ ⊤ ∧ s i ≠ ⊥)
  (h : Fin 2) (g : Fin 4) (r : Fin 128) (b : Fin 256) (d : Fin 64)

/-- A window's columns. -/
def Loads.window (L : Loads Ideal) (b : Fin 256) (l : Fin 256) : EReal :=
  if hb : b.val < 128 then L.prev (ix2 ⟨b.val, hb⟩ l) else L.cur (ix2 ⟨b.val - 128, by omega⟩ l)

include R

theorem window_at (hb : 0 < n.val ∨ 128 ≤ b.val) (l : Fin 256) : L.window b l = inWindow x n b ⟨512 + l.val, by omega⟩ := by
  unfold Loads.window inWindow
  by_cases q : b.val < 128
  · have hn : 0 < n.val := by omega
    rw [dif_pos q, if_pos q, if_neg (by omega), R.prev hn]
  · rw [dif_neg q, if_neg q, R.cur]
    rfl

theorem keys_window (hb : 0 < n.val ∨ 128 ≤ b.val) : L.keys (ix2 b (lane h d)) = winKey x n h b d := by
  have e : L.keys (ix2 b (lane h d)) = L.window b ⟨(lane h d).val, by omega⟩ := by
    rw [keys_at]; rfl
  rw [e, window_at R b hb]
  unfold winKey
  exact congrArg (inWindow x n b) (Fin.ext (by simp only [lane, keyCol]; omega))

theorem values_window (hb : 0 < n.val ∨ 128 ≤ b.val) : L.values (ix2 b (lane h d)) = winValue x n h b d := by
  have e : L.values (ix2 b (lane h d)) = L.window b ⟨128 + (lane h d).val, by omega⟩ := by
    rw [values_at]; rfl
  rw [e, window_at R b hb]
  unfold winValue
  exact congrArg (inWindow x n b) (Fin.ext (by simp only [lane, valueCol]; omega))

theorem headGrad_eq : L.headGrad h g r d = outGrad y n h g r d := by
  unfold Loads.headGrad outGrad
  rw [R.grads]
  exact congrArg y (congrArg (ix2 (pos n r)) (Fin.ext (by simp only [lane]; omega)))

theorem probGrad_eq (hb : 0 < n.val ∨ 128 ≤ b.val) : L.probGrad h g r b = probGrad x y n h g r b := by
  unfold Loads.probGrad probGrad
  exact Finset.sum_congr rfl fun d _ => by rw [headGrad_eq R, values_window R _ _ _ hb]

include hx hs in
omit R in
theorem prob_before (hb : ¬(0 < n.val ∨ 128 ≤ b.val)) : prob x s n h g r b.castSucc = 0 :=
  prob_dead hx hs n h g r b fun q => hb q.2

include hx hs

theorem meanGrad_eq : L.meanGrad h g r = meanGrad x s y n h g r := by
  unfold Loads.meanGrad meanGrad
  refine Finset.sum_congr rfl fun b _ => ?_
  rw [R.probs]
  by_cases hb : 0 < n.val ∨ 128 ≤ b.val
  · rw [probGrad_eq R _ _ _ _ hb]
  · rw [prob_before hx hs h g r b hb, zero_mul, zero_mul]

theorem scoreGrad_eq : L.scoreGrad h (ix2 (stack g r) b) = scoreGrad x s y n h g r b := by
  rw [scoreGrad_at, R.probs, meanGrad_eq R hx hs]
  unfold scoreGrad
  by_cases hb : 0 < n.val ∨ 128 ≤ b.val
  · rw [probGrad_eq R _ _ _ _ hb]
    rfl
  · rw [prob_before hx hs h g r b hb, zero_mul, zero_mul, zero_mul, zero_mul]

theorem scoreGrad_before (hb : ¬(0 < n.val ∨ 128 ≤ b.val)) : scoreGrad x s y n h g r b = 0 := by
  unfold scoreGrad
  rw [prob_before hx hs h g r b hb, zero_mul, zero_mul]

theorem queryTile_eq (q p : Fin 2) : L.queryTile h q (ix2 r (lane p d)) = queryGrad x s y n h ⟨2 * q.val + p.val, by omega⟩ r d := by
  rw [queryTile_at]
  unfold queryGrad
  refine Finset.sum_congr rfl fun b _ => ?_
  rw [scoreGrad_eq R hx hs]
  by_cases hb : 0 < n.val ∨ 128 ≤ b.val
  · rw [keys_window R _ _ _ hb]
  · rw [scoreGrad_before R hx hs _ _ _ _ hb, zero_mul, zero_mul]

theorem keyGrad_eq : L.keyGrad (ix2 b (lane h d)) = winKeyGrad x s y n h b d := by
  rw [keyGrad_at]
  · unfold winKeyGrad
    refine Finset.sum_congr rfl fun g _ => Finset.sum_congr rfl fun r _ => ?_
    rw [scoreGrad_eq R hx hs, R.queries, if_pos rfl]
  · intro h p hp k d
    obtain ⟨g, r, rfl⟩ : ∃ g r, k = stack g r := ⟨⟨k.val / 128, by omega⟩, ⟨k.val % 128, by omega⟩, Fin.ext (by simp only [stack]; omega)⟩
    rw [R.queries, if_neg hp]

omit hx hs in
theorem valueGrad_eq : L.valueGrad (ix2 b (lane h d)) = winValueGrad x s y n h b d := by
  rw [valueGrad_at]
  unfold winValueGrad
  refine Finset.sum_congr rfl fun g _ => Finset.sum_congr rfl fun r _ => ?_
  rw [R.probs, headGrad_eq R]

theorem keyTile_eq (w : Vec Ideal S128x256 .f32) (hw : Owes w x s y n) : L.keyTile w (ix2 r (lane h d)) = keyGrad x s y n h r d := by
  rw [keyTile_at, keyGrad_eq R hx hs, (hw r h d).1]
  rfl

omit hx hs in
theorem valueTile_eq (w : Vec Ideal S128x256 .f32) (hw : Owes w x s y n) : L.valueTile w (ix2 r (lane h d)) = valueGrad x s y n h r d := by
  rw [valueTile_at, valueGrad_eq R, (hw r h d).2]
  rfl

theorem owed_owes (n' : Fin 128) (hn : n.val = n'.val + 1) : Owes L.owed x s y n' := by
  intro r h d
  have e : n = ⟨1 + n'.val, by omega⟩ := Fin.ext (by dsimp only; omega)
  rw [owed_key, owed_value, keyGrad_eq R hx hs, valueGrad_eq R, dif_pos (by omega), dif_pos (by omega)]
  exact ⟨congrArg (fun q => winKeyGrad x s y q h ⟨r.val, by omega⟩ d) e, congrArg (fun q => winValueGrad x s y q h ⟨r.val, by omega⟩ d) e⟩

theorem sinkTerm_eq : L.sinkTerm h g r = prob x s n h g r (Fin.last 256) * (0 - meanGrad x s y n h g r) := by
  unfold Loads.sinkTerm
  rw [R.sinks, meanGrad_eq R hx hs, zero_sub, zero_sub, neg_mul, mul_neg]

end

section
variable (x : Proj) (s : Cert.Proof.Sinks) (y : Mixed) (n : Fin 128) (h : Fin 2) (g : Fin 4) (r : Fin 128) (d : Fin 64)

theorem mixColumns_query : mixColumns x s y (pos n r) (queryCol h g d) = queryGrad x s y n h g r d := by
  unfold mixColumns
  rw [dif_pos (by simp only [queryCol]; omega)]
  congr 1 <;> exact Fin.ext (by simp only [pos, queryCol]; omega)

theorem mixColumns_key : mixColumns x s y (pos n r) (keyCol h d) = keyGrad x s y n h r d := by
  unfold mixColumns
  rw [dif_neg (by simp only [keyCol]; omega), dif_pos (by simp only [keyCol]; omega)]
  congr 1 <;> exact Fin.ext (by simp only [pos, keyCol]; omega)

theorem mixColumns_value : mixColumns x s y (pos n r) (valueCol h d) = valueGrad x s y n h r d := by
  unfold mixColumns
  rw [dif_neg (by simp only [valueCol]; omega), dif_neg (by simp only [valueCol]; omega), dif_pos (by simp only [valueCol]; omega)]
  congr 1 <;> exact Fin.ext (by simp only [pos, valueCol]; omega)

end

/-- The column tiles of a chunk. -/
def chunkTile (L : Loads Ideal) (w : Vec Ideal S128x256 .f32) : Fin 6 → Vec Ideal S128x128 .bf16
  | 0 => L.queryTile0
  | 1 => L.queryTile1
  | 2 => L.queryTile2
  | 3 => L.queryTile3
  | 4 => L.keyTile w
  | 5 => L.valueTile w

theorem chunkTile_eq {L : Loads Ideal} {x : Proj} {s : Cert.Proof.Sinks} {y : Mixed} {n : Fin 128} (R : Reads L x s y n)
    (hx : ∀ i, x i ≠ ⊤ ∧ x i ≠ ⊥) (hs : ∀ i, s i ≠ ⊤ ∧ s i ≠ ⊥) (w : Vec Ideal S128x256 .f32) (hw : Owes w x s y n) (k : Fin 6) (r l : Fin 128) :
    chunkTile L w k (ix2 r l) = mixColumns x s y (pos n r) ⟨128 * k.val + l.val, by omega⟩ := by
  obtain ⟨p, d, rfl⟩ := lane_cases l
  have query : ∀ h q : Fin 2, L.queryTile h q (ix2 r (lane p d)) = mixColumns x s y (pos n r) ⟨128 * (2 * h.val + q.val) + (lane p d).val, by omega⟩ := by
    intro h q
    rw [queryTile_eq R hx hs, ← mixColumns_query]
    exact congrArg (mixColumns x s y (pos n r)) (Fin.ext (by simp only [queryCol, lane]; omega))
  match k with
  | 0 => exact query 0 0
  | 1 => exact query 0 1
  | 2 => exact query 1 0
  | 3 => exact query 1 1
  | 4 =>
    refine (keyTile_eq R hx hs p r d w hw).trans ((mixColumns_key x s y n p r d).symm.trans ?_)
    exact congrArg (mixColumns x s y (pos n r)) (Fin.ext (by simp only [keyCol, lane]; omega))
  | 5 =>
    refine (valueTile_eq R p r d w hw).trans ((mixColumns_value x s y n p r d).symm.trans ?_)
    exact congrArg (mixColumns x s y (pos n r)) (Fin.ext (by simp only [valueCol, lane]; omega))

end Cert.Kernel2Ideal.Gen
-- ==== Proof.MixBlocks.lean ====
/- What a chunk of the backward call loads, at an index, as functions of the arrays that the program is given. -/
module

public import proofs.«01_k».proof.Proof.MixHost
public import proofs.«01_k».proof.Proof.MixChunk
public import Idealize.ShloMosaic.Lib.Pipeline.ValueKit.Tiles

@[expose] public section

noncomputable section

namespace Cert.Kernel2Ideal.Gen

open Cert.Kernel2Ideal Cert.Proof Idealize.ShloMosaic Idealize.ShloMosaic.TcCoe Idealize.SL.Sem

variable (m : (ℓ : Loc nD τ sig) → Buf (Elt Ideal) ℓ) (c : Dev nD) (t : Fin cfg0.N)

theorem step_lt : t.val < 32 := lt_of_lt_of_eq t.isLt (show cfg0.N = 32 from N_0)

/-- The chunk that is chunk `j` of step `t`: the last step has the first four. -/
def chunk (j : Fin 4) : Fin 128 := ⟨4 * (31 - t.val) + j.val, by omega⟩

theorem idx0 : ∀ t : Fin cfg0.N, win0_0.index t 0 = 31 - t.val ∧ win0_0.index t 1 = 0 :=
  (by decide +kernel : ∀ t : Fin grid0.N, win0_0.index t 0 = 31 - t.val ∧ win0_0.index t 1 = 0)
theorem idx1 : ∀ t : Fin cfg0.N, win0_1.index t 0 = 4 * (31 - t.val) - 1 ∧ win0_1.index t 1 = 2 :=
  (by decide +kernel : ∀ t : Fin grid0.N, win0_1.index t 0 = 4 * (31 - t.val) - 1 ∧ win0_1.index t 1 = 2)
theorem idx2 : ∀ t : Fin cfg0.N, win0_2.index t 0 = 31 - t.val ∧ win0_2.index t 1 = 0 :=
  (by decide +kernel : ∀ t : Fin grid0.N, win0_2.index t 0 = 31 - t.val ∧ win0_2.index t 1 = 0)
theorem idx4 : ∀ t : Fin cfg0.N, win0_4.index t 0 = 31 - t.val ∧ win0_4.index t 1 = 0 ∧ win0_4.index t 2 = 0 ∧ win0_4.index t 3 = 0 :=
  (by decide +kernel : ∀ t : Fin grid0.N, win0_4.index t 0 = 31 - t.val ∧ win0_4.index t 1 = 0 ∧ win0_4.index t 2 = 0 ∧ win0_4.index t 3 = 0)
theorem idx5 : ∀ t : Fin cfg0.N, win0_5.index t 0 = 31 - t.val ∧ win0_5.index t 1 = 0 ∧ win0_5.index t 2 = 0 ∧ win0_5.index t 3 = 0 :=
  (by decide +kernel : ∀ t : Fin grid0.N, win0_5.index t 0 = 31 - t.val ∧ win0_5.index t 1 = 0 ∧ win0_5.index t 2 = 0 ∧ win0_5.index t 3 = 0)
theorem idx12 : ∀ t : Fin cfg0.N, win0_12.index t 0 = 31 - t.val ∧ win0_12.index t 1 = 0 ∧ win0_12.index t 2 = 0 ∧ win0_12.index t 3 = 0 :=
  (by decide +kernel : ∀ t : Fin grid0.N, win0_12.index t 0 = 31 - t.val ∧ win0_12.index t 1 = 0 ∧ win0_12.index t 2 = 0 ∧ win0_12.index t 3 = 0)

theorem read0 (X : Vec Ideal S16384x2816 .f32) (r : Fin 512) (k : Fin 2816) :
    (((cfg0.win 0).blk t).view.read (Elt Ideal) X : Vec Ideal S512x2816 .f32) (ix2 r k) = X (ix2 ⟨(31 - t.val) * 512 + r.val, by omega⟩ k) := by
  rw [View.read_apply]
  show X _ = X _
  congr 1
  funext a
  apply Fin.ext
  match a with
  | ⟨0, _⟩ => show win0_0.index t 0 * 512 + 1 * r.val = (31 - t.val) * 512 + r.val; rw [(idx0 t).1]; omega
  | ⟨1, _⟩ => show win0_0.index t 1 * 2816 + 1 * k.val = k.val; rw [(idx0 t).2]; omega

theorem blk_proj (r : Fin 512) (k : Fin 2816) :
    (iblk m c 0 t : Vec Ideal S512x2816 .f32) (ix2 r k) = projOf m c (ix2 ⟨(31 - t.val) * 512 + r.val, by omega⟩ k) :=
  (read0 t (V m c main_arg0) r k).trans (congrFun (V_main_arg0 m c) _)

theorem read1 (X : Vec Ideal S16384x2816 .f32) (r : Fin 128) (k : Fin 256) :
    (((cfg0.win 1).blk t).view.read (Elt Ideal) X : Vec Ideal S128x256 .f32) (ix2 r k) = X (ix2 ⟨(4 * (31 - t.val) - 1) * 128 + r.val, by omega⟩ ⟨512 + k.val, by omega⟩) := by
  rw [View.read_apply]
  show X _ = X _
  congr 1
  funext a
  apply Fin.ext
  match a with
  | ⟨0, _⟩ => show win0_1.index t 0 * 128 + 1 * r.val = (4 * (31 - t.val) - 1) * 128 + r.val; rw [(idx1 t).1]; omega
  | ⟨1, _⟩ => show win0_1.index t 1 * 256 + 1 * k.val = 512 + k.val; rw [(idx1 t).2]; omega

theorem blk_before (r : Fin 128) (k : Fin 256) :
    (iblk m c 1 t : Vec Ideal S128x256 .f32) (ix2 r k) = projOf m c (ix2 ⟨(4 * (31 - t.val) - 1) * 128 + r.val, by omega⟩ ⟨512 + k.val, by omega⟩) :=
  (read1 t (V m c main_arg0) r k).trans (congrFun (V_main_arg0 m c) _)

theorem read2 (X : Vec Ideal S16384x1024 .bf16) (r : Fin 512) (k : Fin 1024) :
    (((cfg0.win 2).blk t).view.read (Elt Ideal) X : Vec Ideal S512x1024 .bf16) (ix2 r k) = X (ix2 ⟨(31 - t.val) * 512 + r.val, by omega⟩ k) := by
  rw [View.read_apply]
  show X _ = X _
  congr 1
  funext a
  apply Fin.ext
  match a with
  | ⟨0, _⟩ => show win0_2.index t 0 * 512 + 1 * r.val = (31 - t.val) * 512 + r.val; rw [(idx2 t).1]; omega
  | ⟨1, _⟩ => show win0_2.index t 1 * 1024 + 1 * k.val = k.val; rw [(idx2 t).2]; omega

theorem blk_dmix (r : Fin 512) (k : Fin 1024) :
    (iblk m c 2 t : Vec Ideal S512x1024 .bf16) (ix2 r k) = mixedOf m c (ix2 ⟨(31 - t.val) * 512 + r.val, by omega⟩ k) :=
  (read2 t (V m c main_v299) r k).trans (V_dmix m c _ _)

theorem read4 (X : Vec Ideal S128x2x512x256 .bf16) (j : Fin 4) (h : Fin 2) (k : Fin 512) (b : Fin 256) :
    (((cfg0.win 4).blk t).view.read (Elt Ideal) X : Vec Ideal S4x2x512x256 .bf16) (ix4 j h k b) = X (ix4 (chunk t j) h k b) := by
  rw [View.read_apply]
  show X _ = X _
  congr 1
  funext a
  apply Fin.ext
  match a with
  | ⟨0, _⟩ => show win0_4.index t 0 * 4 + 1 * j.val = 4 * (31 - t.val) + j.val; rw [(idx4 t).1]; omega
  | ⟨1, _⟩ => show win0_4.index t 1 * 2 + 1 * h.val = h.val; rw [(idx4 t).2.1]; omega
  | ⟨2, _⟩ => show win0_4.index t 2 * 512 + 1 * k.val = k.val; rw [(idx4 t).2.2.1]; omega
  | ⟨3, _⟩ => show win0_4.index t 3 * 256 + 1 * b.val = b.val; rw [(idx4 t).2.2.2]; omega

theorem blk_probs (j : Fin 4) (h : Fin 2) (k : Fin 512) (b : Fin 256) :
    (iblk m c 4 t : Vec Ideal S4x2x512x256 .bf16) (ix4 j h k b) = (V m c main_v285 : FVec Ideal S128x2x512x256 .bf16) (ix4 (chunk t j) h k b) :=
  read4 t (V m c main_v285) j h k b

theorem read5 (X : Vec Ideal S128x2x512x1 .f32) (j : Fin 4) (h : Fin 2) (k : Fin 512) :
    (((cfg0.win 5).blk t).view.read (Elt Ideal) X : Vec Ideal S4x2x512x1 .f32) (ix4 j h k 0) = X (ix4 (chunk t j) h k 0) := by
  rw [View.read_apply]
  show X _ = X _
  congr 1
  funext a
  apply Fin.ext
  match a with
  | ⟨0, _⟩ => show win0_5.index t 0 * 4 + 1 * j.val = 4 * (31 - t.val) + j.val; rw [(idx5 t).1]; omega
  | ⟨1, _⟩ => show win0_5.index t 1 * 2 + 1 * h.val = h.val; rw [(idx5 t).2.1]; omega
  | ⟨2, _⟩ => show win0_5.index t 2 * 512 + 1 * k.val = k.val; rw [(idx5 t).2.2.1]; omega
  | ⟨3, _⟩ => show win0_5.index t 3 * 1 + 1 * 0 = 0; rw [(idx5 t).2.2.2]

theorem blk_sinks (j : Fin 4) (h : Fin 2) (k : Fin 512) :
    (iblk m c 5 t : Vec Ideal S4x2x512x1 .f32) (ix4 j h k 0) = (V m c main_v142 : FVec Ideal S128x2x512x1 .f32) (ix4 (chunk t j) h k 0) :=
  read5 t (V m c main_v142) j h k

theorem read12 (X : Vec Ideal S128x2x512x128 .bf16) (j : Fin 4) (h : Fin 2) (k : Fin 512) (l : Fin 128) :
    (((cfg0.win 12).blk t).view.read (Elt Ideal) X : Vec Ideal S4x2x512x128 .bf16) (ix4 j h k l) = X (ix4 (chunk t j) h k l) := by
  rw [View.read_apply]
  show X _ = X _
  congr 1
  funext a
  apply Fin.ext
  match a with
  | ⟨0, _⟩ => show win0_12.index t 0 * 4 + 1 * j.val = 4 * (31 - t.val) + j.val; rw [(idx12 t).1]; omega
  | ⟨1, _⟩ => show win0_12.index t 1 * 2 + 1 * h.val = h.val; rw [(idx12 t).2.1]; omega
  | ⟨2, _⟩ => show win0_12.index t 2 * 512 + 1 * k.val = k.val; rw [(idx12 t).2.2.1]; omega
  | ⟨3, _⟩ => show win0_12.index t 3 * 128 + 1 * l.val = l.val; rw [(idx12 t).2.2.2]; omega

theorem blk_queries (j : Fin 4) (h : Fin 2) (k : Fin 512) (l : Fin 128) :
    (iblk m c 12 t : Vec Ideal S4x2x512x128 .bf16) (ix4 j h k l) = (V m c main_v291 : FVec Ideal S128x2x512x128 .bf16) (ix4 (chunk t j) h k l) :=
  read12 t (V m c main_v291) j h k l

/-- A load from a block. -/
theorem load_at {sp : Space} {S : Shape} {e : EltTy} {M : Memref sig .tc sp S e} (h : M.IsWhole) (X : S.Idx → Elt Ideal e) (off size : Fin S.rank → Nat)
    (inb : ∀ a, off a + size a ≤ S.size a) (x : (Rect.unit off size inb).shape.Idx) (i : S.Idx) (hi : ∀ a, (i a : Nat) = off a + x a) :
    View.readAt (Elt Ideal) M.view (Rect.unit off size inb).toLoadRect (h.unread X) x = X i :=
  (congrFun (congrArg (fun Y => View.ld Y (Rect.unit off size inb)) (h.read_unread X)) x).trans (View.ld_unit_apply_of X off size inb x i hi)

theorem loads_cur (j : Fin 4) (r : Fin 128) (l : Fin 256) : (loads m c t j).cur (ix2 r l) = (iblk m c 0 t : Vec Ideal S512x2816 .f32) (ix2 ⟨128 * j.val + r.val, by omega⟩ ⟨512 + l.val, by omega⟩) :=
  load_at (hs0_0 t) (iblk m c 0 t : Vec Ideal S512x2816 .f32) _ _ _ (ix2 r l) (ix2 ⟨128 * j.val + r.val, by omega⟩ ⟨512 + l.val, by omega⟩) fun a => match a with | ⟨0, _⟩ => rfl | ⟨1, _⟩ => rfl

theorem loads_prev_0 (r : Fin 128) (l : Fin 256) : (loads m c t 0).prev (ix2 r l) = (iblk m c 1 t : Vec Ideal S128x256 .f32) (ix2 r l) :=
  load_at (hs0_1 t) (iblk m c 1 t : Vec Ideal S128x256 .f32) _ _ _ (ix2 r l) (ix2 r l) fun a => match a with | ⟨0, _⟩ => (Nat.zero_add _).symm | ⟨1, _⟩ => (Nat.zero_add _).symm

theorem loads_prev_1 (r : Fin 128) (l : Fin 256) : (loads m c t 1).prev (ix2 r l) = (iblk m c 0 t : Vec Ideal S512x2816 .f32) (ix2 ⟨0 + r.val, by omega⟩ ⟨512 + l.val, by omega⟩) :=
  load_at (hs0_0 t) (iblk m c 0 t : Vec Ideal S512x2816 .f32) _ _ _ (ix2 r l) (ix2 ⟨0 + r.val, by omega⟩ ⟨512 + l.val, by omega⟩) fun a => match a with | ⟨0, _⟩ => rfl | ⟨1, _⟩ => rfl

theorem loads_prev_2 (r : Fin 128) (l : Fin 256) : (loads m c t 2).prev (ix2 r l) = (iblk m c 0 t : Vec Ideal S512x2816 .f32) (ix2 ⟨128 + r.val, by omega⟩ ⟨512 + l.val, by omega⟩) :=
  load_at (hs0_0 t) (iblk m c 0 t : Vec Ideal S512x2816 .f32) _ _ _ (ix2 r l) (ix2 ⟨128 + r.val, by omega⟩ ⟨512 + l.val, by omega⟩) fun a => match a with | ⟨0, _⟩ => rfl | ⟨1, _⟩ => rfl

theorem loads_prev_3 (r : Fin 128) (l : Fin 256) : (loads m c t 3).prev (ix2 r l) = (iblk m c 0 t : Vec Ideal S512x2816 .f32) (ix2 ⟨256 + r.val, by omega⟩ ⟨512 + l.val, by omega⟩) :=
  load_at (hs0_0 t) (iblk m c 0 t : Vec Ideal S512x2816 .f32) _ _ _ (ix2 r l) (ix2 ⟨256 + r.val, by omega⟩ ⟨512 + l.val, by omega⟩) fun a => match a with | ⟨0, _⟩ => rfl | ⟨1, _⟩ => rfl

theorem loads_grads (j k : Fin 4) (r l : Fin 128) : (loads m c t j).grads k (ix2 r l) = (iblk m c 2 t : Vec Ideal S512x1024 .bf16) (ix2 ⟨128 * j.val + r.val, by omega⟩ ⟨128 * k.val + l.val, by omega⟩) :=
  load_at (hs0_2 t) (iblk m c 2 t : Vec Ideal S512x1024 .bf16) _ _ _ (ix2 r l) (ix2 ⟨128 * j.val + r.val, by omega⟩ ⟨128 * k.val + l.val, by omega⟩) fun a => match a with | ⟨0, _⟩ => rfl | ⟨1, _⟩ => rfl

theorem loads_probs (j : Fin 4) (h : Fin 2) (k : Fin 512) (b : Fin 256) : (loads m c t j).probs h (ix4 0 0 k b) = (iblk m c 4 t : Vec Ideal S4x2x512x256 .bf16) (ix4 j h k b) :=
  load_at (hs0_4 t) (iblk m c 4 t : Vec Ideal S4x2x512x256 .bf16) _ _ _ (ix4 0 0 k b) (ix4 j h k b) fun a => match a with | ⟨0, _⟩ => rfl | ⟨1, _⟩ => rfl | ⟨2, _⟩ => (Nat.zero_add _).symm | ⟨3, _⟩ => (Nat.zero_add _).symm

theorem loads_sinks (j : Fin 4) (h : Fin 2) (k : Fin 512) : (loads m c t j).sinks h (ix4 0 0 k 0) = (iblk m c 5 t : Vec Ideal S4x2x512x1 .f32) (ix4 j h k 0) :=
  load_at (hs0_5 t) (iblk m c 5 t : Vec Ideal S4x2x512x1 .f32) _ _ _ (ix4 0 0 k 0) (ix4 j h k 0) fun a => match a with | ⟨0, _⟩ => rfl | ⟨1, _⟩ => rfl | ⟨2, _⟩ => (Nat.zero_add _).symm | ⟨3, _⟩ => (Nat.zero_add _).symm

theorem loads_queries (j : Fin 4) (h : Fin 2) (k : Fin 512) (l : Fin 128) : (loads m c t j).queries h (ix4 0 0 k l) = (iblk m c 12 t : Vec Ideal S4x2x512x128 .bf16) (ix4 j h k l) :=
  load_at (hs0_12 t) (iblk m c 12 t : Vec Ideal S4x2x512x128 .bf16) _ _ _ (ix4 0 0 k l) (ix4 j h k l) fun a => match a with | ⟨0, _⟩ => rfl | ⟨1, _⟩ => rfl | ⟨2, _⟩ => (Nat.zero_add _).symm | ⟨3, _⟩ => (Nat.zero_add _).symm

/-- A chunk loads what the gradient of the attention is of. -/
theorem loads_reads (j : Fin 4) : Reads (loads m c t j) (projOf m c) (sinksOf m c) (mixedOf m c) (chunk t j) where
  cur r l := by
    rw [loads_cur, blk_proj]
    exact congrArg (projOf m c) (congrArg (ix2 · _) (Fin.ext (by simp only [pos, chunk]; omega)))
  prev hn r l := by
    have hn' : 0 < 4 * (31 - t.val) + j.val := hn
    match j with
    | 0 =>
      rw [loads_prev_0, blk_before]
      exact congrArg (projOf m c) (congrArg (ix2 · _) (Fin.ext (by simp only [chunk]; rfl)))
    | 1 =>
      rw [loads_prev_1, blk_proj]
      exact congrArg (projOf m c) (congrArg (ix2 · _) (Fin.ext (by simp only [chunk, Fin.val_one]; omega)))
    | 2 =>
      rw [loads_prev_2, blk_proj]
      exact congrArg (projOf m c) (congrArg (ix2 · _) (Fin.ext (by simp only [chunk, Fin.val_two]; omega)))
    | 3 =>
      rw [loads_prev_3, blk_proj]
      exact congrArg (projOf m c) (congrArg (ix2 · _) (Fin.ext (by simp only [chunk, show (3 : Fin 4).val = 3 from rfl]; omega)))
  grads k r l := by
    rw [loads_grads, blk_dmix]
    exact congrArg (mixedOf m c) (congrArg (ix2 · _) (Fin.ext (by simp only [pos, chunk]; omega)))
  probs h g r b := by rw [loads_probs, blk_probs, V_probs]
  sinks h g r := by rw [loads_sinks, blk_sinks, V_sink]
  queries h p g r d := by rw [loads_queries, blk_queries, V_stacked]

end Cert.Kernel2Ideal.Gen
-- ==== Proof.MixValue.lean ====
/- What the backward call of the mixer leaves in its result arrays, in the attention's columns. -/
module

public import proofs.«01_k».proof.Proof.MixBlocks

@[expose] public section

noncomputable section

namespace Cert.Kernel2Ideal.Gen

open Cert.Kernel2Ideal Cert.Proof Idealize.ShloMosaic Idealize.ShloMosaic.TcCoe Idealize.SL.Sem
open Idealize.ShloMosaic.Pipeline (Dat)

variable (m : (ℓ : Loc nD τ sig) → Buf (Elt Ideal) ℓ) (c : Dev nD)
  (hx : ∀ i, projOf m c i ≠ ⊤ ∧ projOf m c i ≠ ⊥) (hs : ∀ i, sinksOf m c i ≠ ⊤ ∧ sinksOf m c i ≠ ⊥)

theorem pay4_at (i : S128x256.Idx) : k0_pay4 (F := Ideal) i = 0 := by
  obtain ⟨r, l, rfl⟩ : ∃ (r : Fin 128) (l : Fin 256), i = ix2 r l := ⟨i 0, i 1, funext fun a => match a with | ⟨0, _⟩ => rfl | ⟨1, _⟩ => rfl⟩
  pointwise [k0_pay4]

theorem pay5_at (r l : Fin 128) : k0_pay5 (F := Ideal) (ix2 r l) = 0 := by
  pointwise [k0_pay5]

theorem pay10_at (r l : Fin 128) : k0_pay10 (F := Ideal) (ix2 r l) = 0 := by
  pointwise [k0_pay10]

theorem pay1_at (u v : FVec Ideal S128x128 .f32) (r l : Fin 128) : k0_pay1 u v (ix2 r l) = v (ix2 r l) + u (ix2 r l) := by
  pointwise [k0_pay1]

theorem pay2_at (u : Vec Ideal S128x128 .f32) (l : Fin 128) : k0_pay2 u (ix2 0 l) = ∑ r, u (ix2 r l) := by
  pointwise [k0_pay2]

/-! ## What the steps hand over -/

/-- The step before step `t`. -/
def earlier (t : Fin cfg0.N) : Fin cfg0.N := ⟨t.val - 1, lt_of_le_of_lt (Nat.sub_le _ _) t.isLt⟩

theorem later_eq (t : Fin cfg0.N) (h1 : t.val ≠ 31) : (left m c t.val t.isLt).later = (loads m c t 0).owed := by
  by_cases h0 : t.val = 0
  · rw [left_first m c t h0, first_owed]
  · rw [left_mid m c t h0 h1, mid_owed]

/-- What step `t` is handed. -/
def handed (t : Fin cfg0.N) : Vec Ideal S128x256 .f32 := if t.val = 0 then k0_pay4 (F := Ideal) else (loads m c (earlier t) 0).owed

theorem left_tile (t : Fin cfg0.N) (j : Fin 4) (k : Fin 6) (x : S128x128.Idx) :
    (left m c t.val t.isLt).dproj ((place j k).emb x) = attnTile m c t (handed m c t) j k x := by
  unfold handed
  by_cases h0 : t.val = 0
  · rw [left_first m c t h0, first_tile, if_pos h0]
  · have hN := step_lt t
    rw [if_neg h0, ← later_eq m c (earlier t) (by simp only [earlier]; omega)]
    by_cases h1 : t.val = 31
    · rw [left_last m c t h1, last_tile]; rfl
    · rw [left_mid m c t h0 h1, mid_tile]; rfl

include hx hs

theorem handed_owes (t : Fin cfg0.N) : Owes (handed m c t) (projOf m c) (sinksOf m c) (mixedOf m c) (chunk t 3) := by
  have hN := step_lt t
  unfold handed
  by_cases h0 : t.val = 0
  · rw [if_pos h0]
    intro r h d
    have hn : ¬(chunk t 3).val < 127 := by simp only [chunk, show (3 : Fin 4).val = 3 from rfl]; omega
    rw [dif_neg hn, dif_neg hn]
    exact ⟨pay4_at _, pay4_at _⟩
  · rw [if_neg h0]
    exact owed_owes (loads_reads m c (earlier t) 0) hx hs _ (by simp only [chunk, earlier, show (3 : Fin 4).val = 3 from rfl, show (0 : Fin 4).val = 0 from rfl]; omega)

theorem owedTo_owes (t : Fin cfg0.N) (j : Fin 4) : Owes (owedTo m c t (handed m c t) j) (projOf m c) (sinksOf m c) (mixedOf m c) (chunk t j) := by
  match j with
  | 0 => exact owed_owes (loads_reads m c t 1) hx hs _ rfl
  | 1 => exact owed_owes (loads_reads m c t 2) hx hs _ rfl
  | 2 => exact owed_owes (loads_reads m c t 3) hx hs _ rfl
  | 3 => exact handed_owes m c hx hs t

omit hx hs in
theorem attnTile_chunk (t : Fin cfg0.N) (w : Vec Ideal S128x256 .f32) (j : Fin 4) (k : Fin 6) : attnTile m c t w j k = chunkTile (loads m c t j) (owedTo m c t w j) k := by
  match k with
  | 0 => rfl
  | 1 => rfl
  | 2 => rfl
  | 3 => rfl
  | 4 => rfl
  | 5 => rfl

/-- A step's block of the projection's gradient. -/
theorem left_columns (t : Fin cfg0.N) (a : Fin 512) (l : Fin 2816) (hl : l.val < 768) :
    (left m c t.val t.isLt).dproj (ix2 a l) = mixColumns (projOf m c) (sinksOf m c) (mixedOf m c) ⟨(31 - t.val) * 512 + a.val, by omega⟩ l := by
  have e : (ix2 a l : S512x2816.Idx) = (place ⟨a.val / 128, by omega⟩ ⟨l.val / 128, by omega⟩).emb (ix2 (⟨a.val % 128, by omega⟩ : Fin 128) (⟨l.val % 128, by omega⟩ : Fin 128)) := by
    funext p
    apply Fin.ext
    match p with
    | ⟨0, _⟩ => show a.val = 128 * (a.val / 128) + 1 * (a.val % 128); omega
    | ⟨1, _⟩ => show l.val = 128 * (l.val / 128) + 1 * (l.val % 128); omega
  rw [e, left_tile, attnTile_chunk, chunkTile_eq (loads_reads m c t _) hx hs _ (owedTo_owes m c hx hs t _)]
  refine congrArg₂ (mixColumns (projOf m c) (sinksOf m c) (mixedOf m c)) (Fin.ext ?_) (Fin.ext ?_)
  · simp only [pos, chunk]; omega
  · dsimp only; omega

/-! ## The sinks -/

/-- A chunk's part of a sink's gradient at a row. -/
def sinkPart (h : Fin 2) (g : Fin 4) (r : Fin 128) (n : ℕ) : EReal :=
  if hn : n < 128 then prob (projOf m c) (sinksOf m c) ⟨n, hn⟩ h g r (Fin.last 256) * (0 - meanGrad (projOf m c) (sinksOf m c) (mixedOf m c) ⟨n, hn⟩ h g r) else 0

theorem stepSinks_head (t : Fin cfg0.N) (h : Fin 2) (g : Fin 4) (r : Fin 128) : stepSinks m c t (ix2 r ⟨4 * h.val + g.val, by omega⟩)
    = sinkPart m c h g r (127 - (4 * t.val)) + sinkPart m c h g r (127 - (4 * t.val + 1)) + sinkPart m c h g r (127 - (4 * t.val + 2)) + sinkPart m c h g r (127 - (4 * t.val + 3)) := by
  have hN := step_lt t
  have part : ∀ (j : Fin 4) (n : ℕ), n = (chunk t j).val → (loads m c t j).sinkTerm h g r = sinkPart m c h g r n := by
    rintro j n rfl
    rw [sinkTerm_eq (loads_reads m c t j) hx hs]
    unfold sinkPart
    rw [dif_pos (chunk t j).isLt]
  unfold stepSinks
  rw [sinkRows_head, sinkRows_head, sinkRows_head, sinkRows_head, pay10_at, zero_add]
  rw [part 3 (127 - (4 * t.val)) (by simp only [chunk, show (3 : Fin 4).val = 3 from rfl]; omega), part 2 (127 - (4 * t.val + 1)) (by simp only [chunk, show (2 : Fin 4).val = 2 from rfl]; omega),
    part 1 (127 - (4 * t.val + 2)) (by simp only [chunk, show (1 : Fin 4).val = 1 from rfl]; omega), part 0 (127 - (4 * t.val + 3)) (by simp only [chunk, show (0 : Fin 4).val = 0 from rfl]; omega)]

omit hx hs in
theorem stepSinks_rest (t : Fin cfg0.N) (r l : Fin 128) (hl : 8 ≤ l.val) : stepSinks m c t (ix2 r l) = 0 := by
  unfold stepSinks
  rw [sinkRows_rest _ _ _ _ hl, sinkRows_rest _ _ _ _ hl, sinkRows_rest _ _ _ _ hl, sinkRows_rest _ _ _ _ hl, pay10_at]

/-- The sum of the steps up to `n`. -/
def sinksUpTo : (n : ℕ) → n < cfg0.N → FVec Ideal S128x128 .f32
  | 0, h => k0_pay1 (stepSinks m c ⟨0, h⟩) (k0_pay5 (F := Ideal))
  | n + 1, h => k0_pay1 (stepSinks m c ⟨n + 1, h⟩) (sinksUpTo n (Nat.lt_of_succ_lt h))

omit hx hs in
theorem left_acc (n : ℕ) (h : n < cfg0.N) (h1 : n ≠ 31) : (left m c n h).acc = sinksUpTo m c n h := by
  induction n with
  | zero => exact (congrArg Left.acc (left_first m c ⟨0, h⟩ rfl)).trans (first_sinks ..)
  | succ n ih =>
    have hN := step_lt ⟨n + 1, h⟩
    have e := ih (Nat.lt_of_succ_lt h) (by dsimp only at hN; omega)
    refine (congrArg Left.acc (left_mid m c ⟨n + 1, h⟩ (Nat.succ_ne_zero n) h1)).trans ((mid_sinks ..).trans ?_)
    exact congrArg (k0_pay1 _) e

omit hx hs in
theorem left_dsinks (t : Fin cfg0.N) (h : t.val = 31) : (left m c t.val t.isLt).dsinks = k0_pay2 (F := Ideal) (sinksUpTo m c t.val t.isLt) := by
  obtain ⟨n, hn⟩ := t
  obtain rfl : n = 31 := h
  refine (congrArg Left.dsinks (left_last m c ⟨31, hn⟩ rfl)).trans ((last_sinks ..).trans ?_)
  exact congrArg (fun w => k0_pay2 (k0_pay1 _ w)) (left_acc m c 30 _ (by decide))

theorem upTo_head (h : Fin 2) (g : Fin 4) (r : Fin 128) (n : ℕ) (hn : n < cfg0.N) : sinksUpTo m c n hn (ix2 r ⟨4 * h.val + g.val, by omega⟩)
    = ∑ i ∈ Finset.range (4 * (n + 1)), sinkPart m c h g r (127 - i) := by
  induction n with
  | zero =>
    unfold sinksUpTo
    rw [pay1_at, pay5_at, stepSinks_head m c hx hs]
    simp [Finset.sum_range_succ]
  | succ n ih =>
    unfold sinksUpTo
    rw [pay1_at, stepSinks_head m c hx hs, ih]
    rw [show 4 * (n + 1 + 1) = 4 * (n + 1) + 1 + 1 + 1 + 1 from by omega, Finset.sum_range_succ, Finset.sum_range_succ, Finset.sum_range_succ, Finset.sum_range_succ]
    simp only [add_assoc]

omit hx hs in
theorem upTo_rest (r l : Fin 128) (hl : 8 ≤ l.val) (n : ℕ) (hn : n < cfg0.N) : sinksUpTo m c n hn (ix2 r l) = 0 := by
  induction n with
  | zero =>
    unfold sinksUpTo
    rw [pay1_at, pay5_at, stepSinks_rest m c _ _ _ hl, zero_add]
  | succ n ih =>
    unfold sinksUpTo
    rw [pay1_at, stepSinks_rest m c _ _ _ hl, ih, zero_add]

theorem left_sinks (t : Fin cfg0.N) (h : t.val = 31) (l : Fin 128) : (left m c t.val t.isLt).dsinks (ix2 0 l) = mixSinks (projOf m c) (sinksOf m c) (mixedOf m c) l := by
  rw [left_dsinks m c t h, pay2_at]
  unfold mixSinks
  by_cases hl : l.val < 8
  · rw [dif_pos hl]
    unfold sinkGrad
    rw [Finset.sum_comm]
    refine Finset.sum_congr rfl fun r _ => ?_
    have e : l = ⟨4 * (⟨l.val / 4, by omega⟩ : Fin 2).val + (⟨l.val % 4, by omega⟩ : Fin 4).val, by dsimp only; omega⟩ := Fin.ext (by dsimp only; omega)
    rw [congrArg (fun l => sinksUpTo m c t.val t.isLt (ix2 r l)) e, upTo_head m c hx hs, h]
    rw [show 4 * (31 + 1) = 128 from rfl, show (127 : ℕ) = 128 - 1 from rfl, Finset.sum_range_reflect, ← Fin.sum_univ_eq_sum_range]
    refine Finset.sum_congr rfl fun n _ => ?_
    unfold sinkPart
    rw [dif_pos n.isLt]
  · rw [dif_neg hl]
    exact Finset.sum_eq_zero fun r _ => upTo_rest m c r l (by omega) _ _

/-! ## The result arrays -/

omit hx hs in
theorem idx20 : ∀ t : Fin cfg0.N, win0_20.index t 0 = 31 - t.val ∧ win0_20.index t 1 = 0 :=
  (by decide +kernel : ∀ t : Fin grid0.N, win0_20.index t 0 = 31 - t.val ∧ win0_20.index t 1 = 0)

omit hx hs in
theorem idx21 : ∀ t : Fin cfg0.N, win0_21.index t 0 = 0 ∧ win0_21.index t 1 = 0 :=
  (by decide +kernel : ∀ t : Fin grid0.N, win0_21.index t 0 = 0 ∧ win0_21.index t 1 = 0)

/-- The step that writes a row. -/
def writer (r : ℕ) (hr : r < 16384) : Fin cfg0.N := ⟨31 - r / 512, by rw [show cfg0.N = 32 from N_0]; omega⟩

/-- The gradient of the projection after the run. -/
def projOut (i : S16384x2816.Idx) : EReal :=
  (left m c (writer (i 0).val (i 0).isLt).val (writer (i 0).val (i 0).isLt).isLt).dproj (ix2 (⟨(i 0).val % 512, Nat.mod_lt _ (by decide)⟩ : Fin 512) (⟨(i 1).val, (i 1).isLt⟩ : Fin 2816))

omit hx hs in
theorem projOut_at (t u : Fin cfg0.N) (r r' : Fin 512) (l : Fin 2816) (hu : u = t) (hr : r' = r) :
    (left m c u.val u.isLt).dproj (ix2 r' l) = (left m c t.val t.isLt).dproj (ix2 r l) := by
  subst hu hr; rfl

omit hx hs in
theorem flushed20_eq (t : Fin cfg0.N) (hf : (cfg0.win 20).flush t = true) :
    (dats m 0 c).flushed 20 t = ((cfg0.win 20).blk t).view.read (Elt Ideal) (projOut m c) := by
  have hN := step_lt t
  show (cfg0.win 20).cut (grid0.coords t) ((dats m 0 c).after 20 t) = _
  rw [after_dproj]
  funext j
  rw [View.read_apply]
  obtain ⟨r, l, rfl⟩ : ∃ (r : Fin 512) (l : Fin 2816), j = ix2 r l := ⟨j 0, j 1, funext fun a => match a with | ⟨0, _⟩ => rfl | ⟨1, _⟩ => rfl⟩
  have hi : (View.emb ((cfg0.win 20).blk t).view (ix2 r l) : S16384x2816.Idx) = ix2 (⟨(31 - t.val) * 512 + r.val, by omega⟩ : Fin 16384) l := by
    funext a
    apply Fin.ext
    match a with
    | ⟨0, _⟩ => show win0_20.index t 0 * 512 + 1 * r.val = (31 - t.val) * 512 + r.val; rw [(idx20 t).1]; omega
    | ⟨1, _⟩ => show win0_20.index t 1 * 2816 + 1 * l.val = l.val; rw [(idx20 t).2]; omega
  refine Eq.trans ?_ (congrArg (projOut m c) hi).symm
  refine (projOut_at m c t (writer ((31 - t.val) * 512 + r.val) (by omega)) r ⟨((31 - t.val) * 512 + r.val) % 512, Nat.mod_lt _ (by decide)⟩ l (Fin.ext ?_) (Fin.ext ?_)).symm
  · show 31 - ((31 - t.val) * 512 + r.val) / 512 = t.val
    omega
  · show ((31 - t.val) * 512 + r.val) % 512 = r.val
    omega

omit hx hs in
theorem arr20 : (dats m 0 c).arrAt 20 cfg0.N = projOut m c :=
  (dats m 0 c).arrAt_eq_of_cover 20 (projOut m c) (flushed20_eq m c) fun i => by
    have h0 : (i 0 : Nat) < 16384 := (i 0).isLt
    have h1 : (i 1 : Nat) < 2816 := (i 1).isLt
    refine ⟨writer (i 0).val h0, flush0_20 _, ?_⟩
    show i ∈ ((View.whole main_v300_0).slice (win0_20.rect (writer (i 0).val h0))).set
    rw [View.set_slice_whole, Rect.mem_set_unit]
    have e : (writer (i 0).val h0).val = 31 - (i 0).val / 512 := rfl
    intro a
    match a with
    | ⟨0, _⟩ => show win0_20.index (writer (i 0).val h0) 0 * 512 ≤ (i 0 : Nat) ∧ (i 0 : Nat) < win0_20.index (writer (i 0).val h0) 0 * 512 + 512; rw [(idx20 _).1, e]; omega
    | ⟨1, _⟩ => show win0_20.index (writer (i 0).val h0) 1 * 2816 ≤ (i 1 : Nat) ∧ (i 1 : Nat) < win0_20.index (writer (i 0).val h0) 1 * 2816 + 2816; rw [(idx20 _).2]; omega

/-- The gradient of the projection after the run, in the attention's columns. -/
theorem proj_at (r : Fin 16384) (l : Fin 2816) (hl : l.val < 768) : (dats m 0 c).arrAt 20 cfg0.N (ix2 r l) = mixColumns (projOf m c) (sinksOf m c) (mixedOf m c) r l := by
  rw [arr20]
  refine (left_columns m c hx hs (writer r.val r.isLt) ⟨r.val % 512, Nat.mod_lt _ (by decide)⟩ l hl).trans ?_
  refine congrArg (fun r => mixColumns (projOf m c) (sinksOf m c) (mixedOf m c) r l) (Fin.ext ?_)
  show (31 - (31 - r.val / 512)) * 512 + r.val % 512 = r.val
  omega

/-- The gradient of the sinks after the run. -/
def sinksOut (i : S1x128.Idx) : EReal := mixSinks (projOf m c) (sinksOf m c) (mixedOf m c) (i 1)

theorem flushed21_eq (t : Fin cfg0.N) (hf : (cfg0.win 21).flush t = true) :
    (dats m 0 c).flushed 21 t = ((cfg0.win 21).blk t).view.read (Elt Ideal) (sinksOut m c) := by
  have hN := step_lt t
  have ht := (flush0_21 t).mp hf
  show (cfg0.win 21).cut (grid0.coords t) ((dats m 0 c).after 21 t) = _
  rw [after_dsinks]
  funext j
  rw [View.read_apply]
  obtain ⟨r, l, rfl⟩ : ∃ (r : Fin 1) (l : Fin 128), j = ix2 r l := ⟨j 0, j 1, funext fun a => match a with | ⟨0, _⟩ => rfl | ⟨1, _⟩ => rfl⟩
  obtain rfl : r = 0 := Subsingleton.elim _ _
  have hi : (View.emb ((cfg0.win 21).blk t).view (ix2 0 l) : S1x128.Idx) = ix2 0 l := by
    funext a
    apply Fin.ext
    match a with
    | ⟨0, _⟩ => show win0_21.index t 0 * 1 + 1 * 0 = 0; rw [(idx21 t).1]
    | ⟨1, _⟩ => show win0_21.index t 1 * 128 + 1 * l.val = l.val; rw [(idx21 t).2]; omega
  refine Eq.trans ?_ (congrArg (sinksOut m c) hi).symm
  exact left_sinks m c hx hs t (by omega) l

theorem arr21 : (dats m 0 c).arrAt 21 cfg0.N = sinksOut m c :=
  (dats m 0 c).arrAt_eq_of_cover 21 (sinksOut m c) (flushed21_eq m c hx hs) fun i => by
    have hN : cfg0.N = 32 := N_0
    have hlt : 31 < cfg0.N := by rw [hN]; decide
    have h0 : (i 0 : Nat) < 1 := (i 0).isLt
    have h1 : (i 1 : Nat) < 128 := (i 1).isLt
    refine ⟨⟨31, hlt⟩, (flush0_21 _).mpr rfl, ?_⟩
    show i ∈ ((View.whole main_v300_1).slice (win0_21.rect ⟨31, hlt⟩)).set
    rw [View.set_slice_whole, Rect.mem_set_unit]
    intro a
    match a with
    | ⟨0, _⟩ => show win0_21.index ⟨31, hlt⟩ 0 * 1 ≤ (i 0 : Nat) ∧ (i 0 : Nat) < win0_21.index ⟨31, hlt⟩ 0 * 1 + 1; rw [(idx21 _).1]; omega
    | ⟨1, _⟩ => show win0_21.index ⟨31, hlt⟩ 1 * 128 ≤ (i 1 : Nat) ∧ (i 1 : Nat) < win0_21.index ⟨31, hlt⟩ 1 * 128 + 128; rw [(idx21 _).2]; omega

theorem sinks_at (l : Fin 128) : (dats m 0 c).arrAt 21 cfg0.N (ix2 0 l) = mixSinks (projOf m c) (sinksOf m c) (mixedOf m c) l := by
  rw [arr21 m c hx hs]
  rfl

end Cert.Kernel2Ideal.Gen
-- ==== Proof.MixClaim.lean ====
/- The mixer's backward: in the attention's columns the kernel and the reference compute the same gradients. -/
module

public import proofs.«01_k».proof.Proof.MixFrame
public import proofs.«01_k».proof.Proof.MixValue
public import proofs.«01_k».proof.Proof.MixRef
public import proofs.«01_k».proof.Proof.Finite
public import proofs.«01_k».proof.Proof.Gen.Kernel2
public import proofs.«01_k».proof.Proof.Gen.On_attention_columns
public import proofs.«01_k».proof.Proof.Gen.Pre_finite_mixer

@[expose] public section

noncomputable section

namespace Cert.Proof

open Idealize.ShloMosaic Idealize.SL.Sem Idealize.ShloMosaic.StableHlo

/-- The three arrays that the precondition speaks of hold reals. -/
theorem mixer_real (x : FVec Ideal Cert.Pre_finite_mixer.S16384x2816 .f32) (s : FVec Ideal Cert.Pre_finite_mixer.S1x8 .f32) (y : FVec Ideal Cert.Pre_finite_mixer.S16384x1024 .f32)
    (h : Cert.Pre_finite_mixer.fn (F := Ideal) x s y = fun _ => 1#1) :
    (∀ i, x i ≠ ⊤ ∧ x i ≠ ⊥) ∧ (∀ i, s i ≠ ⊤ ∧ s i ≠ ⊥) ∧ ∀ i, y i ≠ ⊤ ∧ y i ≠ ⊥ := by
  have e := congrFun h ix0
  dsimp only [Cert.Pre_finite_mixer.fn] at e
  obtain ⟨e, hy⟩ := IntOp.andi_eq_one.mp e
  obtain ⟨hx, hs⟩ := IntOp.andi_eq_one.mp e
  haveI : Subsingleton Cert.Pre_finite_mixer.S_.Idx := ⟨fun a b => funext fun k => k.elim0⟩
  exact ⟨real_of_all _ _ _ _ _ _ hx, real_of_all _ _ _ _ _ _ hs, real_of_all _ _ _ _ _ _ hy⟩

/-- The mask selects the first 768 columns only. -/
theorem attention_column (x : FVec Ideal Cert.On_attention_columns.S16384x2816 .f32) (s : FVec Ideal Cert.On_attention_columns.S1x8 .f32) (y : FVec Ideal Cert.On_attention_columns.S16384x1024 .f32)
    (r : Fin 16384) (l : Fin 2816) (h : (Cert.On_attention_columns.fn (F := Ideal) x s y).1 (ix2 r l) = 1#1) : l.val < 768 := by
  have e : IntOp.cmpi .slt (BitVec.ofNat 32 l.val) 768#32 = 1#1 := h
  by_contra hl
  have : ∀ l : Fin 2816, ¬l.val < 768 → IntOp.cmpi .slt (BitVec.ofNat 32 l.val) 768#32 ≠ 1#1 := by decide +kernel
  exact this l hl e

/-- The two programs of the attention's backward compute the same arrays where the mask is set. -/
theorem attention : Cert.algebraic_Kernel2Ideal_Reference2Ideal_on_attention_columns_pre_finite_mixer := by
  intro m g m' g' hpre hargs
  refine ⟨fun c => (Cert.Kernel2Ideal.Gen.dats m 0 c).arrAt 20 Cert.Kernel2Ideal.cfg0.N, fun c => (Cert.Kernel2Ideal.Gen.dats m 0 c).arrAt 21 Cert.Kernel2Ideal.cfg0.N,
    (θ_run _ _ _).mono (fun r h c => ⟨fun i _ => congrFun ((h.1 c).1 20) i, fun i _ => congrFun ((h.1 c).1 21) i, h.2.1 c⟩)
      (θ_run_and (Cert.Kernel2Ideal.Gen.run_arrays m g) (Cert.Kernel2Ideal.Gen.mixer_frame m g)),
    (θ_run _ _ _).mono (fun _ h c => ?_) (Cert.Reference2Ideal.Value.run m' g')⟩
  obtain ⟨h0, h1, hrest⟩ := h c
  obtain ⟨a0, a1, a2⟩ := hargs c
  obtain ⟨hx, hs, hy⟩ := mixer_real _ _ _ (hpre c)
  refine ⟨fun i hi => ?_, fun i _ => ?_, hrest⟩
  · obtain ⟨r, l, rfl⟩ : ∃ (r : Fin 16384) (l : Fin 2816), i = ix2 r l := ⟨i 0, i 1, funext fun a => match a with | ⟨0, _⟩ => rfl | ⟨1, _⟩ => rfl⟩
    have hl := attention_column _ _ _ r l hi
    refine (congrFun (h0.trans (Cert.Reference2Ideal.Read.val_main_v145_eq (launchContents m' c))) (ix2 r l)).trans ?_
    refine Eq.trans ?_ (Cert.Kernel2Ideal.Gen.proj_at m c hx hs r l hl).symm
    refine Eq.trans ?_ (ref_columns hx hs hy r l)
    exact congrFun (congr (congrArg₂ (Cert.Reference2Ideal.Read.val_main_v145 (F := Ideal)) a0 a1) a2) (ix2 r l)
  · obtain ⟨r, l, rfl⟩ : ∃ (r : Fin 1) (l : Fin 128), i = ix2 r l := ⟨i 0, i 1, funext fun a => match a with | ⟨0, _⟩ => rfl | ⟨1, _⟩ => rfl⟩
    obtain rfl : r = 0 := Subsingleton.elim _ _
    refine (congrFun (h1.trans (Cert.Reference2Ideal.Read.val_main_v147_eq (launchContents m' c))) (ix2 0 l)).trans ?_
    refine Eq.trans ?_ (Cert.Kernel2Ideal.Gen.sinks_at m c hx hs l).symm
    refine Eq.trans ?_ (ref_sinks hx hs hy l)
    exact congrFun (congr (congrArg₂ (Cert.Reference2Ideal.Read.val_main_v147 (F := Ideal)) a0 a1) a2) (ix2 0 l)

end Cert.Proof

end
-- ==== Proof.RetReal.lean ====
/- Which extended reals are real, and what holds of sums and products of them. -/
module

public import proofs.«01_k».proof.Proof.Real

@[expose] public section

noncomputable section

namespace Cert.Proof

open Idealize.ShloMosaic

/-- An extended real that is a real. -/
def IsReal (x : EReal) : Prop := ∃ r : ℝ, x = (r : EReal)

namespace IsReal

variable {x y : EReal}

theorem coe (r : ℝ) : IsReal (r : EReal) := ⟨r, rfl⟩

theorem of_finite (h : x ≠ ⊤ ∧ x ≠ ⊥) : IsReal x := ⟨x.toReal, (EReal.coe_toReal h.1 h.2).symm⟩

theorem zero : IsReal 0 := ⟨0, rfl⟩

theorem one : IsReal 1 := ⟨1, rfl⟩

theorem add : IsReal x → IsReal y → IsReal (x + y)
  | ⟨a, ha⟩, ⟨b, hb⟩ => ⟨a + b, by rw [ha, hb, EReal.coe_add]⟩

theorem sub : IsReal x → IsReal y → IsReal (x - y)
  | ⟨a, ha⟩, ⟨b, hb⟩ => ⟨a - b, by rw [ha, hb, EReal.coe_sub]⟩

theorem mul : IsReal x → IsReal y → IsReal (x * y)
  | ⟨a, ha⟩, ⟨b, hb⟩ => ⟨a * b, by rw [ha, hb, EReal.coe_mul]⟩

theorem neg : IsReal x → IsReal (-x)
  | ⟨a, ha⟩ => ⟨-a, by rw [ha, EReal.coe_neg]⟩

theorem exp : IsReal x → IsReal (Ideal.exp x)
  | ⟨a, ha⟩ => ⟨Real.exp a, by rw [ha]; rfl⟩

theorem sin : IsReal x → IsReal (Ideal.sin x)
  | ⟨a, ha⟩ => ⟨Real.sin a, by rw [ha]; rfl⟩

theorem cos : IsReal x → IsReal (Ideal.cos x)
  | ⟨a, ha⟩ => ⟨Real.cos a, by rw [ha]; rfl⟩

theorem ite {p : Prop} [Decidable p] (hx : IsReal x) (hy : IsReal y) : IsReal (if p then x else y) := by
  split_ifs
  · exact hx
  · exact hy

theorem div (hx : IsReal x) {b : ℝ} (hy : y = (b : EReal)) (hb : b ≠ 0) : IsReal (Ideal.div x y) := by
  obtain ⟨a, ha⟩ := hx
  exact ⟨a / b, by rw [ha, hy, div_coe_coe _ hb]⟩

theorem sum {ι : Type*} (s : Finset ι) (f : ι → EReal) (h : ∀ i, IsReal (f i)) : IsReal (∑ i ∈ s, f i) := by
  choose g hg using h
  exact ⟨∑ i ∈ s, g i, by simp only [hg, coe_sum]⟩

end IsReal

/-- A family of reals as extended reals. -/
theorem reals {ι : Type*} {f : ι → EReal} (h : ∀ i, IsReal (f i)) : ∃ g : ι → ℝ, f = fun i => (g i : EReal) :=
  ⟨fun i => (h i).choose, funext fun i => (h i).choose_spec⟩

/-- A real factor goes into a sum of reals. -/
theorem mul_sum_reals {ι : Type*} [Fintype ι] {c : EReal} (hc : IsReal c) {f : ι → EReal} (hf : ∀ i, IsReal (f i)) : c * ∑ i, f i = ∑ i, c * f i := by
  obtain ⟨c, rfl⟩ := hc
  obtain ⟨g, rfl⟩ := reals hf
  simp only [← EReal.coe_mul, coe_sum, Finset.mul_sum]

/-- One step of the recurrence that a weighted sum obeys: the weights are `γ` times the next ones, and one more at `k`. -/
theorem sum_step {ι : Type*} [Fintype ι] [DecidableEq ι] {γ : EReal} (hγ : IsReal γ) {f w v : ι → EReal} (hf : ∀ i, IsReal (f i)) (hv : ∀ i, IsReal (v i)) (k : ι)
    (hw : ∀ i, w i = γ * v i + if i = k then 1 else 0) : ∑ i, f i * w i = γ * (∑ i, f i * v i) + f k := by
  obtain ⟨c, rfl⟩ := hγ
  obtain ⟨f, rfl⟩ := reals hf
  obtain ⟨v, rfl⟩ := reals hv
  have hw' : ∀ i, w i = ((c * v i + if i = k then 1 else 0 : ℝ) : EReal) := by
    intro i
    rw [hw]
    split_ifs <;> simp [EReal.coe_add, EReal.coe_mul]
  simp only [hw', ← EReal.coe_mul, coe_sum, ← EReal.coe_add]
  congr 1
  simp only [mul_add, Finset.sum_add_distrib, Finset.mul_sum]
  congr 1
  · exact Finset.sum_congr rfl fun i _ => by ring
  · simp

/-- The gradient through a gate and its sigmoid, the two ways of writing it. -/
theorem gate_core {a s g : EReal} (ha : IsReal a) (hs : IsReal s) (hg : IsReal g) (one : EReal) (h1 : one = ((1 : ℝ) : EReal)) :
    a * s + g * a * (s * (one - s)) = a * (s * (one + g * (one - s))) := by
  obtain ⟨a, rfl⟩ := ha
  obtain ⟨s, rfl⟩ := hs
  obtain ⟨g, rfl⟩ := hg
  subst h1
  simp only [← EReal.coe_mul, ← EReal.coe_sub, ← EReal.coe_add]
  congr 1
  ring

/-- The length of a head. -/
theorem lit_128 : Ideal.ofBits .f32 1124073472#32 = ((128 : ℝ) : EReal) := by
  simp [Ideal.ofBits, Ideal.ieee, -EReal.coe_mul]; norm_num

/-- Two. -/
theorem lit_two : Ideal.ofBits .f32 1073741824#32 = ((2 : ℝ) : EReal) := by
  simp [Ideal.ofBits, Ideal.ieee, -EReal.coe_mul]; norm_num

section norm

variable (o : Fin 128 → EReal)

/-- The mean of a head's row. -/
def rowMean : EReal := Ideal.div (∑ e, o e) (Ideal.ofBits .f32 1124073472#32)
/-- The row less its mean. -/
def centred (e : Fin 128) : EReal := o e - rowMean o
/-- What stands under the root. -/
def spread : EReal := Ideal.div (∑ e, centred o e * centred o e) (Ideal.ofBits .f32 1124073472#32) + Ideal.ofBits .f32 897988541#32
/-- The reciprocal deviation. -/
def invDev : EReal := Ideal.rsqrt (spread o)
/-- The normed row. -/
def normedRow (e : Fin 128) : EReal := centred o e * invDev o

/-- The gradient of a row before its norm, as the kernel writes it: `D` is the gradient of the normed row. -/
def normGrad (D : Fin 128 → EReal) (e : Fin 128) : EReal :=
  invDev o * ((D e - Ideal.div (∑ k, D k) (Ideal.ofBits .f32 1124073472#32)) - normedRow o e * Ideal.div (∑ k, D k * normedRow o k) (Ideal.ofBits .f32 1124073472#32))

/-- What differentiating the root gives to each square. -/
def rootGrad (D : Fin 128 → EReal) : EReal :=
  Ideal.div ((∑ k, centred o k * D k) * (Ideal.ofBits .f32 3204448256#32 * Ideal.div (invDev o) (spread o))) (Ideal.ofBits .f32 1124073472#32)

/-- The same gradient, the norm differentiated step by step. -/
def normGradSteps (D : Fin 128 → EReal) (e : Fin 128) : EReal :=
  D e * invDev o + rootGrad o D * (Ideal.ofBits .f32 1073741824#32 * centred o e)
    + Ideal.div ((∑ k, -(D k * invDev o)) + ∑ k, -(rootGrad o D * (Ideal.ofBits .f32 1073741824#32 * centred o k))) (Ideal.ofBits .f32 1124073472#32)

variable {o}

/-- The pieces of the norm of a row of reals. -/
theorem norm_reals (ho : ∀ e, IsReal (o e)) : ∃ (u : Fin 128 → ℝ) (v : ℝ), (∀ e, centred o e = (u e : EReal)) ∧ (∑ e, u e = 0) ∧ 0 < v
    ∧ spread o = (v : EReal) ∧ invDev o = (((Real.sqrt v)⁻¹ : ℝ) : EReal) := by
  obtain ⟨a, rfl⟩ := reals ho
  have hm : rowMean (fun i => (a i : EReal)) = (((∑ e, a e) / 128 : ℝ) : EReal) := by
    unfold rowMean
    rw [lit_128, coe_sum, div_coe_coe _ (by norm_num)]
  have hc : ∀ e, centred (fun i => (a i : EReal)) e = ((a e - (∑ e, a e) / 128 : ℝ) : EReal) := fun e => by
    unfold centred
    rw [hm, EReal.coe_sub]
  have hp : 0 < (∑ e, (a e - (∑ e, a e) / 128) * (a e - (∑ e, a e) / 128)) / 128 + eps :=
    add_pos_of_nonneg_of_pos (div_nonneg (Finset.sum_nonneg fun k _ => mul_self_nonneg _) (by norm_num)) eps_pos
  have hv : spread (fun i => (a i : EReal)) = (((∑ e, (a e - (∑ e, a e) / 128) * (a e - (∑ e, a e) / 128)) / 128 + eps : ℝ) : EReal) := by
    unfold spread
    simp only [hc, ← EReal.coe_mul, coe_sum]
    rw [lit_128, lit_eps, div_coe_coe _ (by norm_num), ← EReal.coe_add]
  refine ⟨fun e => a e - (∑ e, a e) / 128, _, hc, ?_, hp, hv, ?_⟩
  · rw [Finset.sum_sub_distrib]
    simp
    ring
  · unfold invDev
    rw [hv, rsqrt_pos hp]

theorem invDev_real (ho : ∀ e, IsReal (o e)) : IsReal (invDev o) := by
  obtain ⟨u, v, -, -, -, -, hr⟩ := norm_reals ho
  exact ⟨_, hr⟩

theorem normedRow_real (ho : ∀ e, IsReal (o e)) (e : Fin 128) : IsReal (normedRow o e) := by
  obtain ⟨u, v, hc, -, -, -, hr⟩ := norm_reals ho
  unfold normedRow
  rw [hc, hr]
  exact (IsReal.coe _).mul (IsReal.coe _)

theorem normGrad_real (ho : ∀ e, IsReal (o e)) {D : Fin 128 → EReal} (hD : ∀ e, IsReal (D e)) (e : Fin 128) : IsReal (normGrad o D e) := by
  unfold normGrad
  exact (invDev_real ho).mul (((hD e).sub ((IsReal.sum _ _ hD).div lit_128 (by norm_num))).sub
    ((normedRow_real ho e).mul ((IsReal.sum _ _ fun k => (hD k).mul (normedRow_real ho k)).div lit_128 (by norm_num))))

/-- The two gradients of a row of reals are one. -/
theorem normGrad_eq (ho : ∀ e, IsReal (o e)) {D : Fin 128 → EReal} (hD : ∀ e, IsReal (D e)) (e : Fin 128) : normGradSteps o D e = normGrad o D e := by
  obtain ⟨u, v, hc, hu, hv, hs, hr⟩ := norm_reals ho
  obtain ⟨D, rfl⟩ := reals hD
  have hq : (Real.sqrt v)⁻¹ * (Real.sqrt v)⁻¹ * v = 1 := by
    rw [← mul_inv, Real.mul_self_sqrt hv.le, inv_mul_cancel₀ hv.ne']
  generalize (Real.sqrt v)⁻¹ = r at hq hr
  unfold normGradSteps normGrad rootGrad normedRow
  simp only [hc, hs, hr, lit_128, lit_two, lit_neg_half, ← EReal.coe_mul, ← EReal.coe_neg, coe_sum, div_coe_coe _ hv.ne', div_coe_coe _ (show (128 : ℝ) ≠ 0 by norm_num),
    ← EReal.coe_sub, ← EReal.coe_add]
  congr 1
  have e1 : r / v = r * r * r := by
    rw [div_eq_iff hv.ne']; linear_combination -r * hq
  have e2 : ∑ k, D k * (u k * r) = (∑ k, u k * D k) * r := by
    rw [Finset.sum_mul]; exact Finset.sum_congr rfl fun k _ => by ring
  have e3 : ∑ k, -(D k * r) = -((∑ k, D k) * r) := by
    rw [Finset.sum_neg_distrib, Finset.sum_mul]
  have e4 : ∀ z : ℝ, ∑ k, -(z * (2 * u k)) = 0 := fun z => by
    rw [Finset.sum_neg_distrib, ← Finset.mul_sum, ← Finset.mul_sum, hu]; simp
  rw [e1, e2, e3, e4]
  ring

end norm

end Cert.Proof

end
-- ==== Proof.RetSpec.lean ====
/- The gradient of the retention, element by element: 128 columns to a head, four heads, rotated queries and keys, decays inside a chunk of 128 rows and
   over the chunks, a norm over each head's row and a gate. -/
module

public import proofs.«01_k».proof.Proof.RetReal
public import proofs.«01_k».proof.Proof.MixSpec

@[expose] public section

noncomputable section

namespace Cert.Proof.Ret

open Idealize.ShloMosaic

/-- The column of a head's lane in the strip of 512 columns that starts at `o`. -/
def col (o : Nat) (ho : o + 512 ≤ 2816) (h : Fin 4) (d : Fin 128) : Fin 2816 := ⟨o + (h.val * 128 + d.val), by omega⟩

/-- The scale of the keys. -/
def scale : EReal := Ideal.ofBits .f32 1035273459#32

/-- The other lane of a pair. -/
def partner (d : Fin 128) : Fin 128 := if h : d.val % 2 = 0 then ⟨d.val + 1, by omega⟩ else ⟨d.val - 1, by omega⟩

/-! ## The tables -/

/-- The angle's factor of a pair of lanes: a power of ten thousand. -/
def frequency (k : Fin 64) : EReal :=
  Ideal.div (1) (Ideal.pow (Ideal.ofBits .f32 1176256512#32)
    (if k.val < 63 then (0 : EReal) * (1 - Ideal.div ((k.val : ℝ) : EReal) (Ideal.ofBits .f32 1115422720#32))
        + 1 * Ideal.div ((k.val : ℝ) : EReal) (Ideal.ofBits .f32 1115422720#32)
      else 1))

/-- The angle of a row and a lane. -/
def angle (c : Fin 16384) (d : Fin 128) : EReal := ((c.val : ℝ) : EReal) * frequency ⟨d.val / 2, by omega⟩

/-- Its sine. -/
def sine (c : Fin 16384) (d : Fin 128) : EReal := Ideal.sin (angle c d)
/-- Its cosine. -/
def cosine (c : Fin 16384) (d : Fin 128) : EReal := Ideal.cos (angle c d)

/-- The logarithm of a head's decay. -/
def logDecay (h : Fin 4) : EReal :=
  Ideal.log (1 - Ideal.pow (Ideal.ofBits .f32 1073741824#32) (Ideal.ofBits .f32 3231711232#32 - ((h.val : ℝ) : EReal)))

/-- The decay between two rows of a chunk, nothing for a later one. -/
def inner (h : Fin 4) (i j : Fin 128) : EReal :=
  if j.val ≤ i.val then Ideal.exp (logDecay h * (((i.val - j.val : ℝ)) : EReal)) else 0

/-- The decay of the state where row `i` reads it. -/
def cross (i : Fin 128) (h : Fin 4) : EReal := Ideal.exp (logDecay h * (((i.val : ℝ) : EReal) + 1))

/-- The decay with which row `j` enters the state. -/
def enter (j : Fin 128) (h : Fin 4) : EReal := Ideal.exp (logDecay h * (Ideal.ofBits .f32 1123942400#32 - ((j.val : ℝ) : EReal)))

/-- The decay of the state over a chunk. -/
def chunkDecay (h : Fin 4) : EReal := Ideal.exp (logDecay h * Ideal.ofBits .f32 1124073472#32)

/-- The decay from chunk `m` to the state that enters chunk `n`, nothing unless `m` is earlier. -/
def past (h : Fin 4) (n m : Fin 128) : EReal :=
  if m.val < n.val then Ideal.exp (logDecay h * (Ideal.ofBits .f32 1124073472#32 * (((n.val : ℝ) - 1 - m.val : ℝ) : EReal))) else 0

/-! ## Forward -/

section
variable (x : Proj) (y : Mixed) (n : Fin 128) (h : Fin 4)

/-- A row of pairs rotated. -/
def rotate (q : Fin 128 → EReal) (c : Fin 16384) (d : Fin 128) : EReal :=
  q d * cosine c d + (if d.val % 2 = 0 then -q (partner d) else q (partner d)) * sine c d

/-- The rotated queries. -/
def Q (r : Fin 128) (d : Fin 128) : EReal := rotate (fun d => x (ix2 (pos n r) (col 768 (by omega) h d))) (pos n r) d
/-- The rotated and scaled keys. -/
def K (r : Fin 128) (d : Fin 128) : EReal := rotate (fun d => x (ix2 (pos n r) (col 1280 (by omega) h d)) * scale) (pos n r) d
/-- The values. -/
def W (r : Fin 128) (d : Fin 128) : EReal := x (ix2 (pos n r) (col 1792 (by omega) h d))
/-- The gate. -/
def G (r : Fin 128) (d : Fin 128) : EReal := x (ix2 (pos n r) (col 2304 (by omega) h d))

/-- The decayed scores. -/
def score (i j : Fin 128) : EReal := (∑ d, Q x n h i d * K x n h j d) * inner h i j
/-- What a chunk adds to the state. -/
def added (d e : Fin 128) : EReal := ∑ j, K x n h j d * (W x n h j e * enter j h)
/-- The state that enters a chunk. -/
def entering (d e : Fin 128) : EReal := ∑ m, added x m h d e * past h n m
/-- The output. -/
def out (i e : Fin 128) : EReal := (∑ j, W x n h j e * score x n h i j) + (∑ d, entering x n h d e * Q x n h i d) * cross i h
/-- The gate's sigmoid. -/
def sig (r d : Fin 128) : EReal := Ideal.div (1) (1 + Ideal.exp (-G x n h r d))
/-- The gradient of the retention's result. -/
def dr (r e : Fin 128) : EReal := y (ix2 (pos n r) ⟨512 + (h.val * 128 + e.val), by omega⟩)

/-! ## Backward -/

/-- The gradient of the normed output. -/
def dNormed (r e : Fin 128) : EReal := dr y n h r e * G x n h r e * sig x n h r e
/-- The gradient of the gate. -/
def dGate (r e : Fin 128) : EReal :=
  dr y n h r e * normedRow (out x n h r) e * (sig x n h r e * (1 + G x n h r e * (1 - sig x n h r e)))
/-- The gradient of the output. -/
def dOut (r e : Fin 128) : EReal := normGrad (out x n h r) (dNormed x y n h r) e
/-- The gradient of the score before its decay. -/
def dScore (i j : Fin 128) : EReal := (∑ e, dOut x y n h i e * W x n h j e) * inner h i j
/-- The gradient of the rotated queries. -/
def dQ (i d : Fin 128) : EReal := (∑ j, dScore x y n h i j * K x n h j d) + ∑ e, dOut x y n h i e * cross i h * entering x n h d e
/-- The gradient of the state that a chunk reads. -/
def dRead (d e : Fin 128) : EReal := ∑ i, Q x n h i d * (dOut x y n h i e * cross i h)
/-- The gradient of what chunk `n` adds to the state: what the later chunks read. -/
def dAdded (d e : Fin 128) : EReal := ∑ m, dRead x y m h d e * past h m n
/-- The gradient of the rotated keys. -/
def dK (j d : Fin 128) : EReal := (∑ i, dScore x y n h i j * Q x n h i d) + enter j h * ∑ e, W x n h j e * dAdded x y n h d e
/-- The gradient of the values. -/
def dW (j e : Fin 128) : EReal := (∑ i, score x n h i j * dOut x y n h i e) + ∑ d, K x n h j d * enter j h * dAdded x y n h d e

/-- The rotation taken back. -/
def unrotated (g : Fin 128 → EReal) (c : Fin 16384) (d : Fin 128) : EReal :=
  (if d.val % 2 = 0 then g (partner d) * sine c d else -(g (partner d) * sine c d)) + g d * cosine c d

end

/-- The chunk of a row. -/
def chunkOf (c : Fin 16384) : Fin 128 := ⟨c.val / 128, by omega⟩
/-- The row of its chunk that a row is. -/
def rowOf (c : Fin 16384) : Fin 128 := ⟨c.val % 128, by omega⟩

theorem pos_chunk_row (c : Fin 16384) : pos (chunkOf c) (rowOf c) = c := Fin.ext (by show c.val / 128 * 128 + c.val % 128 = c.val; omega)
theorem chunkOf_pos (n r : Fin 128) : chunkOf (pos n r) = n := Fin.ext (by show (n.val * 128 + r.val) / 128 = n.val; omega)
theorem rowOf_pos (n r : Fin 128) : rowOf (pos n r) = r := Fin.ext (by show (n.val * 128 + r.val) % 128 = r.val; omega)

/-- A strip of 512 columns, of which head `h` has 128. -/
def stripOf (f : Fin 128 → Fin 4 → Fin 128 → Fin 128 → EReal) (c : Fin 16384) (l : Fin 512) : EReal :=
  f (chunkOf c) ⟨l.val / 128, by omega⟩ (rowOf c) ⟨l.val % 128, by omega⟩

/-- The gradient of the projection in the retention's columns, nothing before them. -/
def columns (x : Proj) (y : Mixed) (c : Fin 16384) (l : Fin 2816) : EReal :=
  if h0 : l.val < 768 then 0
  else if h1 : l.val - 768 < 512 then stripOf (fun n h r d => unrotated (dQ x y n h r) (pos n r) d) c ⟨l.val - 768, h1⟩
  else if h2 : l.val - 768 - 512 < 512 then stripOf (fun n h r d => unrotated (dK x y n h r) (pos n r) d * scale) c ⟨l.val - 768 - 512, h2⟩
  else if h3 : l.val - 768 - 512 - 512 < 512 then stripOf (fun n h r e => dW x y n h r e) c ⟨l.val - 768 - 512 - 512, h3⟩
  else stripOf (fun n h r e => dGate x y n h r e) c ⟨l.val - 768 - 512 - 512 - 512, by omega⟩

/-! ## What is real -/

/-- A number that the program counts. -/
theorem num_eq (k : Nat) (hk : k < 2147483648) : FloatOps.sitofp (F := Ideal) .f32 (BitVec.ofNat 32 k) = ((k : ℝ) : EReal) := by
  show ((((BitVec.ofNat 32 k).toInt : ℤ) : ℝ) : EReal) = ((k : ℝ) : EReal)
  have e : (BitVec.ofNat 32 k).toInt = (k : ℤ) := by
    rw [BitVec.toInt_eq_toNat_of_lt] <;> rw [BitVec.toNat_ofNat, Nat.mod_eq_of_lt (by omega)]
    omega
  rw [e]; rfl

theorem partner_val (d : Fin 128) : (partner d).val = if d.val % 2 = 0 then d.val + 1 else d.val - 1 := by
  unfold partner
  split_ifs <;> rfl

theorem sine_partner (c : Fin 16384) (d : Fin 128) : sine c (partner d) = sine c d := by
  have e : (partner d).val / 2 = d.val / 2 := by
    rw [partner_val]
    split_ifs <;> omega
  unfold sine angle
  exact congrArg (fun k => Ideal.sin (((c.val : ℝ) : EReal) * frequency k)) (Fin.ext e)

theorem scale_real : IsReal scale := by
  unfold scale
  exact ⟨_, by simp [Ideal.ofBits, Ideal.ieee, -EReal.coe_mul]; rfl⟩

theorem lit_ten4 : Ideal.ofBits .f32 1176256512#32 = ((10000 : ℝ) : EReal) := by
  simp [Ideal.ofBits, Ideal.ieee, -EReal.coe_mul]; norm_num

theorem lit_63 : Ideal.ofBits .f32 1115422720#32 = ((63 : ℝ) : EReal) := by
  simp [Ideal.ofBits, Ideal.ieee, -EReal.coe_mul]; norm_num

theorem lit_127 : Ideal.ofBits .f32 1123942400#32 = ((127 : ℝ) : EReal) := by
  simp [Ideal.ofBits, Ideal.ieee, -EReal.coe_mul]; norm_num

theorem lit_neg5 : Ideal.ofBits .f32 3231711232#32 = ((-5 : ℝ) : EReal) := by
  simp [Ideal.ofBits, Ideal.ieee, -EReal.coe_mul, -EReal.coe_neg]; norm_num

theorem frequency_real (k : Fin 64) : IsReal (frequency k) := by
  have e : ∃ p : ℝ, (if k.val < 63 then (0 : EReal) * (1 - Ideal.div ((k.val : ℝ) : EReal) (Ideal.ofBits .f32 1115422720#32))
        + 1 * Ideal.div ((k.val : ℝ) : EReal) (Ideal.ofBits .f32 1115422720#32)
      else 1) = (p : EReal) := by
    have z : IsReal (Ideal.div ((k.val : ℝ) : EReal) (Ideal.ofBits .f32 1115422720#32)) := (IsReal.coe _).div lit_63 (by norm_num)
    have o : IsReal (1 : EReal) := IsReal.one
    exact ((IsReal.zero.mul (o.sub z)).add (o.mul z)).ite o
  obtain ⟨p, hp⟩ := e
  unfold frequency
  rw [hp, lit_ten4]
  exact (IsReal.coe _).div (show Ideal.pow ((10000 : ℝ) : EReal) (p : EReal) = ((Real.rpow 10000 p : ℝ) : EReal) from rfl) (Real.rpow_pos_of_pos (by norm_num) p).ne'

theorem angle_real (c : Fin 16384) (d : Fin 128) : IsReal (angle c d) := (IsReal.coe _).mul (frequency_real _)
theorem sine_real (c : Fin 16384) (d : Fin 128) : IsReal (sine c d) := (angle_real c d).sin
theorem cosine_real (c : Fin 16384) (d : Fin 128) : IsReal (cosine c d) := (angle_real c d).cos

theorem logDecay_real (h : Fin 4) : IsReal (logDecay h) := by
  unfold logDecay
  rw [lit_two, lit_neg5, ← EReal.coe_sub, ← EReal.coe_one, show Ideal.pow ((2 : ℝ) : EReal) ((-5 - (h.val : ℝ) : ℝ) : EReal) = ((Real.rpow 2 (-5 - (h.val : ℝ)) : ℝ) : EReal) from rfl, ← EReal.coe_sub]
  have p : ¬ (1 - Real.rpow 2 (-5 - (h.val : ℝ)) ≤ 0) := by
    have q : Real.rpow 2 (-5 - (h.val : ℝ)) < 1 := Real.rpow_lt_one_of_one_lt_of_neg (by norm_num) (by have := Nat.cast_nonneg (α := ℝ) h.val; linarith)
    linarith
  exact ⟨_, if_neg p⟩

theorem inner_real (h : Fin 4) (i j : Fin 128) : IsReal (inner h i j) := ((logDecay_real h).mul (IsReal.coe _)).exp.ite IsReal.zero
theorem cross_real (i : Fin 128) (h : Fin 4) : IsReal (cross i h) := ((logDecay_real h).mul ((IsReal.coe _).add IsReal.one)).exp
theorem enter_real (j : Fin 128) (h : Fin 4) : IsReal (enter j h) := ((logDecay_real h).mul (IsReal.sub ⟨127, lit_127⟩ (IsReal.coe _))).exp
theorem chunkDecay_real (h : Fin 4) : IsReal (chunkDecay h) := ((logDecay_real h).mul ⟨128, lit_128⟩).exp
theorem past_real (h : Fin 4) (n m : Fin 128) : IsReal (past h n m) := ((logDecay_real h).mul (IsReal.mul ⟨128, lit_128⟩ (IsReal.coe _))).exp.ite IsReal.zero

/-- The decay from a chunk is a chunk's decay times the one to the chunk before, and one where the state has just been added to. -/
theorem past_step (h : Fin 4) (m n : Fin 128) (hn : n.val < 127) :
    past h m n = chunkDecay h * past h m ⟨n.val + 1, by omega⟩ + if m = ⟨n.val + 1, by omega⟩ then 1 else 0 := by
  obtain ⟨l, hl⟩ := logDecay_real h
  unfold past chunkDecay
  rw [hl, lit_128]
  simp only [← EReal.coe_mul, Fin.ext_iff]
  by_cases h1 : m.val = n.val + 1
  · rw [if_pos (by omega), if_neg (by omega), if_pos h1, h1, mul_zero, zero_add]
    have : l * (128 * (((n.val + 1 : ℕ) : ℝ) - 1 - n.val)) = 0 := by push_cast; ring
    rw [this, Ideal.exp_coe, Real.exp_zero]; rfl
  · by_cases h2 : n.val < m.val
    · rw [if_pos h2, if_pos (by omega), if_neg h1, add_zero, Ideal.exp_coe, Ideal.exp_coe, Ideal.exp_coe, ← EReal.coe_mul, ← Real.exp_add]
      congr 2
      push_cast; ring
    · rw [if_neg h2, if_neg (by omega), if_neg h1, mul_zero, add_zero]

theorem past_last (h : Fin 4) (m n : Fin 128) (hn : n.val = 127) : past h m n = 0 := if_neg (by omega)

section
variable {x : Proj} {y : Mixed} (hx : ∀ i, x i ≠ ⊤ ∧ x i ≠ ⊥) (hy : ∀ i, y i ≠ ⊤ ∧ y i ≠ ⊥) (n : Fin 128) (h : Fin 4)

theorem rotate_real {q : Fin 128 → EReal} (hq : ∀ d, IsReal (q d)) (c : Fin 16384) (d : Fin 128) : IsReal (rotate q c d) :=
  ((hq _).mul (cosine_real _ _)).add (((hq _).neg.ite (hq _)).mul (sine_real _ _))

include hx
theorem Q_real (r d : Fin 128) : IsReal (Q x n h r d) := rotate_real (fun _ => .of_finite (hx _)) _ _
theorem K_real (r d : Fin 128) : IsReal (K x n h r d) := rotate_real (fun _ => (IsReal.of_finite (hx _)).mul scale_real) _ _
theorem W_real (r d : Fin 128) : IsReal (W x n h r d) := .of_finite (hx _)
theorem G_real (r d : Fin 128) : IsReal (G x n h r d) := .of_finite (hx _)
theorem score_real (i j : Fin 128) : IsReal (score x n h i j) := (IsReal.sum _ _ fun d => (Q_real hx n h i d).mul (K_real hx n h j d)).mul (inner_real h i j)
theorem added_real (d e : Fin 128) : IsReal (added x n h d e) := IsReal.sum _ _ fun j => (K_real hx n h j d).mul ((W_real hx n h j e).mul (enter_real j h))
theorem entering_real (d e : Fin 128) : IsReal (entering x n h d e) := IsReal.sum _ _ fun m => (added_real hx m h d e).mul (past_real h n m)
theorem out_real (i e : Fin 128) : IsReal (out x n h i e) :=
  (IsReal.sum _ _ fun j => (W_real hx n h j e).mul (score_real hx n h i j)).add ((IsReal.sum _ _ fun d => (entering_real hx n h d e).mul (Q_real hx n h i d)).mul (cross_real i h))

theorem sig_real (r d : Fin 128) : IsReal (sig x n h r d) := by
  obtain ⟨g, hg⟩ := G_real hx n h r d
  unfold sig
  rw [hg, ← EReal.coe_one, ← EReal.coe_neg, Ideal.exp_coe]
  exact (IsReal.coe _).div (EReal.coe_add _ _).symm (add_pos (by norm_num) (Real.exp_pos _)).ne'

omit hx in
include hy in
theorem dr_real (r e : Fin 128) : IsReal (dr y n h r e) := .of_finite (hy _)
include hy
theorem dNormed_real (r e : Fin 128) : IsReal (dNormed x y n h r e) := ((IsReal.of_finite (hy _)).mul (G_real hx n h r e)).mul (sig_real hx n h r e)
theorem dOut_real (r e : Fin 128) : IsReal (dOut x y n h r e) := normGrad_real (out_real hx n h r) (dNormed_real hx hy n h r) e
theorem dRead_real (d e : Fin 128) : IsReal (dRead x y n h d e) := IsReal.sum _ _ fun i => (Q_real hx n h i d).mul ((dOut_real hx hy n h i e).mul (cross_real i h))
theorem dAdded_real (d e : Fin 128) : IsReal (dAdded x y n h d e) := IsReal.sum _ _ fun m => (dRead_real hx hy m h d e).mul (past_real h m n)

/-- The gradient of what a chunk adds is the next chunk's, decayed, and what the next chunk reads. -/
theorem dAdded_step (hn : n.val < 127) (d e : Fin 128) :
    dAdded x y n h d e = chunkDecay h * dAdded x y ⟨n.val + 1, by omega⟩ h d e + dRead x y ⟨n.val + 1, by omega⟩ h d e := by
  unfold dAdded
  exact sum_step (chunkDecay_real h) (fun m => dRead_real hx hy m h d e) (fun m => past_real h m _) _ fun m => past_step h m n hn

omit hx hy in
/-- Nothing is read after the last chunk. -/
theorem dAdded_last (x : Proj) (y : Mixed) (hn : n.val = 127) (d e : Fin 128) : dAdded x y n h d e = 0 := by
  unfold dAdded
  exact Finset.sum_eq_zero fun m _ => by rw [past_last h m n hn, mul_zero]

end

end Cert.Proof.Ret

end
-- ==== Proof.RetRef.lean ====
/- The arrays that the retention's reference returns, at an index. -/
module

public import proofs.«01_k».proof.Proof.Gen.Reference3Ideal.Read
public import proofs.«01_k».proof.Proof.RetSpec
public import proofs.«01_k».proof.Proof.HostSums
public import proofs.«01_k».proof.Proof.Sums

@[expose] public section

noncomputable section

namespace Cert.Proof.Ret

open Idealize.ShloMosaic Cert.Reference3Ideal.Read Cert.Reference3Ideal

variable (x : Proj) (y : Mixed) (n r i j : Fin 128) (h : Fin 4) (d e : Fin 128) (c : Fin 16384)

/-! ## The tables -/

theorem ref_frequency (k : Fin 64) : val_main_v13 (F := Ideal) (ix1 k) = frequency k := by
  pointwise [val_main_v13, val_main_v12, val_main_cst_2, val_main_v11, val_main_v10, val_main_cst_1, val_main_v9, val_main_call0_v16, val_main_call0_v15, val_main_call0_v14, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_call0_cst_0, val_main_call0_cst_1, val_main_cst, val_main_cst_0, num_eq k.val (by omega)]
  unfold frequency
  by_cases hk : k.val < 63
  · rw [dif_pos hk, if_pos hk]
    show Ideal.div 1 (Ideal.pow _ (Ideal.ofBits .f32 0#32 * _ + Ideal.ofBits .f32 1065353216#32 * _)) = _
    rw [Ideal.ofBits_zero_f32, lit_one]; rfl
  · rw [dif_neg hk, if_neg hk]
    show Ideal.div 1 (Ideal.pow _ (Ideal.ofBits .f32 1065353216#32)) = _
    rw [lit_one]; rfl

theorem ref_sine : val_main_v21 (F := Ideal) (ix2 c d) = sine c d := by
  pointwise [val_main_v21, val_main_v20, val_main_v19, val_main_v18, val_main_v17, val_main_v16, val_main_v15, val_main_v14, val_main_v8, ref_frequency, num_eq c.val (by omega)]
  rfl

theorem ref_cosine : val_main_v28 (F := Ideal) (ix2 c d) = cosine c d := by
  pointwise [val_main_v28, val_main_v27, val_main_v26, val_main_v25, val_main_v24, val_main_v23, val_main_v15, val_main_v14, val_main_v8, ref_frequency, num_eq c.val (by omega)]
  rfl

theorem ref_logDecay : val_main_v66 (F := Ideal) (ix1 h) = logDecay h := by
  pointwise [val_main_v66, val_main_v65, val_main_v64, val_main_cst_6, val_main_v63, val_main_v62, val_main_cst_5, val_main_v61, val_main_v60, val_main_cst_4, val_main_v59, num_eq h.val (by omega)]
  rfl

theorem ref_cross : val_main_v92 (F := Ideal) (ix2 i h) = cross i h := by
  pointwise [val_main_v92, val_main_v91, val_main_v90, val_main_v89, val_main_v88, val_main_v87, val_main_v86, val_main_v85, val_main_cst_10, val_main_v67, ref_logDecay, num_eq i.val (by omega)]
  rfl

theorem ref_enter : val_main_v100 (F := Ideal) (ix2 i h) = enter i h := by
  pointwise [val_main_v100, val_main_v99, val_main_v98, val_main_v97, val_main_v96, val_main_v95, val_main_v94, val_main_v93, val_main_cst_11, val_main_v67, ref_logDecay, num_eq i.val (by omega)]
  rfl

theorem ref_inner : val_main_v84 (F := Ideal) (ix3 h i j) = inner h i j := by
  pointwise [val_main_v84, val_main_call1_v2, val_main_call1_v1, val_main_call1_v0, val_main_cst_9, val_main_v83, val_main_v82, val_main_v81, val_main_v80, val_main_v79, val_main_v78, val_main_v77, val_main_cst_8, val_main_v76, val_main_v75, val_main_v74, val_main_cst_7, val_main_v73, val_main_v72, val_main_v71, val_main_v70, val_main_v69, val_main_v68, val_main_v67, ref_logDecay, num_eq i.val (by omega), num_eq j.val (by omega)]
  unfold inner
  rw [← EReal.coe_sub]
  by_cases hj : j.val ≤ i.val
  · have p : (0 : ℝ) ≤ (i.val : ℝ) - j.val := by have := Nat.cast_le (α := ℝ).mpr hj; linarith
    rw [if_pos hj, if_pos (EReal.coe_nonneg.mpr p), max_eq_left (EReal.coe_nonneg.mpr p)]
  · have p : ¬ (0 : ℝ) ≤ (i.val : ℝ) - j.val := by have := Nat.cast_lt (α := ℝ).mpr (not_le.mp hj); linarith
    rw [if_neg hj, if_neg (fun q => p (EReal.coe_nonneg.mp q))]
    exact Ideal.ofBits_zero_f32

/-- The chunks between two, as the program counts them. -/
theorem ago_eq (i j : Fin 128) : (IntOp.subi (IntOp.subi (BitVec.ofNat 32 i.val) 1#32) (BitVec.ofNat 32 j.val)).toInt = (i.val : ℤ) - 1 - j.val := by
  revert i j
  decide +kernel

/-- Whether the program takes a chunk for an earlier one. -/
theorem earlier_eq (i j : Fin 128) : IntOp.cmpi .sge (IntOp.subi (IntOp.subi (BitVec.ofNat 32 i.val) 1#32) (BitVec.ofNat 32 j.val)) 0#32 = if j.val < i.val then 1#1 else 0#1 := by
  revert i j
  decide +kernel

theorem ref_past : val_main_v135 (F := Ideal) (ix3 h i j) = past h i j := by
  pointwise [val_main_v135, val_main_call2_v2, val_main_call2_v1, val_main_call2_v0, val_main_cst_14, val_main_v134, val_main_v133, val_main_v132, val_main_v131, val_main_v130, val_main_v129, val_main_cst_13, val_main_v128, val_main_v127, val_main_v126, val_main_v125, val_main_v124, val_main_c_12, val_main_v123, val_main_v122, val_main_v121, val_main_v120, val_main_v119, val_main_v118, val_main_v117, val_main_v116, val_main_c, val_main_v115, val_main_v114, ref_logDecay]
  have e := ago_eq i j
  unfold past
  rw [show FloatOps.sitofp (F := Ideal) .f32 (IntOp.subi (IntOp.subi (BitVec.ofNat 32 i.val) 1#32) (BitVec.ofNat 32 j.val)) = (((i.val : ℝ) - 1 - j.val : ℝ) : EReal) from by
    show ((((IntOp.subi (IntOp.subi (BitVec.ofNat 32 i.val) 1#32) (BitVec.ofNat 32 j.val)).toInt : ℤ) : ℝ) : EReal) = _
    rw [e]; push_cast; rfl]
  rw [earlier_eq i j]
  by_cases hj : j.val < i.val
  · rw [if_pos hj, if_pos hj]; rfl
  · rw [if_neg hj, if_neg hj]; exact Ideal.ofBits_zero_f32

/-! ## Forward -/

/-- The swapped and signed lanes of pairs. -/
theorem pair_at (f : Fin 128 → EReal) (d : Fin 128) (a b : EReal) (ha : a = f ⟨1 + 2 * (d.val / 2), by omega⟩) (hb : b = f ⟨2 * (d.val / 2), by omega⟩) :
    (if _ : d.val % 2 < 1 then -a else b) = if d.val % 2 = 0 then -f (partner d) else f (partner d) := by
  have p := partner_val d
  by_cases hd : d.val % 2 = 0
  · rw [dif_pos (by omega), if_pos hd, ha]
    rw [if_pos hd] at p
    exact congrArg (fun k => -f k) (Fin.ext (by rw [p]; show 1 + 2 * (d.val / 2) = d.val + 1; omega))
  · rw [dif_neg (by omega), if_neg hd, hb]
    rw [if_neg hd] at p
    exact congrArg f (Fin.ext (by rw [p]; show 2 * (d.val / 2) = d.val - 1; omega))

/-- The gradient of lanes that were swapped and signed. -/
theorem unpair_at (g : Fin 128 → EReal) (c : Fin 16384) (d : Fin 128) (a : (1 ≤ d.val ∧ (d.val - 1) % 2 = 0 ∧ (d.val - 1) / 2 < 64) → EReal) (b : (d.val % 2 = 0 ∧ d.val / 2 < 64) → EReal)
    (ha : ∀ k, a k = g ⟨(d.val - 1) / 2 * 2, by omega⟩ * sine c ⟨(d.val - 1) / 2 * 2, by omega⟩) (hb : ∀ k, b k = g ⟨d.val / 2 * 2 + 1, by omega⟩ * sine c ⟨d.val / 2 * 2 + 1, by omega⟩) :
    ((if k : 1 ≤ d.val ∧ (d.val - 1) % 2 = 0 ∧ (d.val - 1) / 2 < 64 then -a k else 0) + if k : d.val % 2 = 0 ∧ d.val / 2 < 64 then b k else 0)
      = if d.val % 2 = 0 then g (partner d) * sine c d else -(g (partner d) * sine c d) := by
  have p := partner_val d
  by_cases hd : d.val % 2 = 0
  · rw [if_pos hd] at p
    rw [dif_neg (by omega), dif_pos ⟨hd, by omega⟩, if_pos hd, hb, zero_add, ← sine_partner c d]
    exact congrArg (fun k => g k * sine c k) (Fin.ext (by rw [p]; show d.val / 2 * 2 + 1 = d.val + 1; omega))
  · rw [if_neg hd] at p
    rw [dif_pos (by omega), dif_neg (by omega), if_neg hd, ha, add_zero, ← sine_partner c d]
    exact congrArg (fun k => -(g k * sine c k)) (Fin.ext (by rw [p]; show (d.val - 1) / 2 * 2 = d.val - 1; omega))

theorem ref_Q : val_main_v101 (F := Ideal) x (ix5 0 n r h d) = Q x n h r d := by
  pointwise [val_main_v101, val_main_v46, val_main_v45, val_main_v44, val_main_v43, val_main_v42, val_main_v41, val_main_v40, val_main_v39, val_main_v38, val_main_v37, val_main_v36, val_main_v35, val_main_v30, val_main_v29, val_main_v22, val_main_v1, val_main_v0, ref_sine, ref_cosine]
  unfold Q rotate
  exact congrArg₂ (fun a b : EReal => a + b) rfl (congrArg₂ (fun a b : EReal => a * b) (pair_at (fun d => x (ix2 (pos n r) (col 768 (by omega) h d))) d _ _ rfl rfl) rfl)

theorem ref_K : val_main_v102 (F := Ideal) x (ix5 0 n r h d) = K x n h r d := by
  pointwise [val_main_v102, val_main_v58, val_main_v57, val_main_v56, val_main_v55, val_main_v54, val_main_v53, val_main_v52, val_main_v51, val_main_v50, val_main_v49, val_main_v48, val_main_v47, val_main_v33, val_main_v32, val_main_cst_3, val_main_v31, val_main_v29, val_main_v22, val_main_v3, val_main_v2, ref_sine, ref_cosine]
  unfold K rotate
  exact congrArg₂ (fun a b : EReal => a + b) rfl (congrArg₂ (fun a b : EReal => a * b) (pair_at (fun d => x (ix2 (pos n r) (col 1280 (by omega) h d)) * scale) d _ _ rfl rfl) rfl)

theorem ref_W : val_main_v103 (F := Ideal) x (ix5 0 n r h d) = W x n h r d := by
  pointwise [val_main_v103, val_main_v34, val_main_v5, val_main_v4]
  rfl

theorem ref_score : val_main_v107 (F := Ideal) x (ix5 0 n h i j) = score x n h i j := by
  pointwise [val_main_v107, val_main_v106, val_main_v105, val_main_v104, ref_inner, ref_Q, ref_K]
  rfl

theorem ref_added : val_main_v113 (F := Ideal) x (ix5 0 n h d e) = added x n h d e := by
  pointwise [val_main_v113, val_main_v112, val_main_v111, val_main_v110, ref_W, ref_enter, ref_K]
  rfl

theorem ref_entering : val_main_v137 (F := Ideal) x (ix5 0 n h d e) = entering x n h d e := by
  pointwise [val_main_v137, val_main_v136, ref_added, ref_past]
  rfl

theorem ref_out : val_main_v144 (F := Ideal) x (ix4 0 c h e) = out x (chunkOf c) h (rowOf c) e := by
  pointwise [val_main_v144, val_main_v143, val_main_v142, val_main_v141, val_main_v140, val_main_v139, val_main_v138, val_main_v109, val_main_v108, ref_entering, ref_Q, ref_W, ref_score, ref_cross]
  rfl

theorem ref_rowMean : val_main_v148 (F := Ideal) x (ix4 0 c h 0) = rowMean (out x (chunkOf c) h (rowOf c)) := by
  pointwise [val_main_v148, val_main_v147, val_main_cst_16, val_main_v146, val_main_v145, val_main_cst_15, ref_out]
  rfl

theorem ref_centred : val_main_v150 (F := Ideal) x (ix4 0 c h e) = centred (out x (chunkOf c) h (rowOf c)) e := by
  pointwise [val_main_v150, val_main_v149, ref_rowMean, ref_out]
  rfl

theorem ref_centred' : val_main_v159 (F := Ideal) x (ix4 0 c h e) = centred (out x (chunkOf c) h (rowOf c)) e := by
  pointwise [val_main_v159, val_main_v158, ref_rowMean, ref_out]
  rfl

theorem ref_spread : val_main_v161 (F := Ideal) x (ix4 0 c h 0) = spread (out x (chunkOf c) h (rowOf c)) := by
  pointwise [val_main_v161, val_main_v160, val_main_cst_20, val_main_v157, val_main_v156, val_main_cst_19, val_main_v155, val_main_v154, val_main_cst_18, val_main_v151, ref_centred]
  rfl

theorem ref_invDev : val_main_v162 (F := Ideal) x (ix4 0 c h 0) = invDev (out x (chunkOf c) h (rowOf c)) := by
  pointwise [val_main_v162, ref_spread]
  rfl

theorem ref_normed (l : Fin 512) : val_main_v168 (F := Ideal) x (ix3 0 c l) = normedRow (out x (chunkOf c) ⟨l.val / 128, by omega⟩ (rowOf c)) ⟨l.val % 128, by omega⟩ := by
  have k : ∀ h e, val_main_v167 (F := Ideal) x (ix4 0 c h e) = normedRow (out x (chunkOf c) h (rowOf c)) e := by
    intro h e
    pointwise [val_main_v167, val_main_v166, ref_centred', ref_invDev]
    rfl
  pointwise [val_main_v168, k]

/-- A column of a strip, by its head and its lane in it. -/
theorem col_lane (o : Nat) (ho : o + 512 ≤ 2816) (l : Fin 512) : (⟨o + l.val, by omega⟩ : Fin 2816) = col o ho ⟨l.val / 128, by omega⟩ ⟨l.val % 128, by omega⟩ :=
  Fin.ext (by show o + l.val = o + (l.val / 128 * 128 + l.val % 128); omega)

theorem ref_gate (l : Fin 512) : val_main_v7 (F := Ideal) x (ix3 0 c l) = G x (chunkOf c) ⟨l.val / 128, by omega⟩ (rowOf c) ⟨l.val % 128, by omega⟩ := by
  pointwise [val_main_v7, val_main_v6]
  unfold G
  rw [pos_chunk_row, ← col_lane]

theorem ref_dr (l : Fin 512) : val_main_v172 (F := Ideal) y (ix3 0 c l) = dr y (chunkOf c) ⟨l.val / 128, by omega⟩ (rowOf c) ⟨l.val % 128, by omega⟩ := by
  pointwise [val_main_v172, val_main_v171]
  unfold dr
  rw [pos_chunk_row]
  exact congrArg (fun k => y (ix2 c k)) (Fin.ext (by show 512 + l.val = 512 + (l.val / 128 * 128 + l.val % 128); omega))

theorem ref_sig (l : Fin 512) : val_main_v169_2 (F := Ideal) x (ix3 0 c l) = sig x (chunkOf c) ⟨l.val / 128, by omega⟩ (rowOf c) ⟨l.val % 128, by omega⟩ := by
  pointwise [val_main_v169_2, val_main_call3_v4, val_main_call3_cst_0, val_main_call3_v3, val_main_call3_v2, val_main_call3_cst, val_main_call3_v1, val_main_call3_v0, ref_gate]
  rfl

/-! ## Backward -/

theorem lane_head (h : Fin 4) (e : Fin 128) : (⟨(h.val * 128 + e.val) / 128, by omega⟩ : Fin 4) = h := Fin.ext (by show (h.val * 128 + e.val) / 128 = h.val; omega)
theorem lane_lane (h : Fin 4) (e : Fin 128) : (⟨(h.val * 128 + e.val) % 128, by omega⟩ : Fin 128) = e := Fin.ext (by show (h.val * 128 + e.val) % 128 = e.val; omega)

theorem ref_dNormed : val_main_v176 (F := Ideal) x y (ix4 0 c h e) = dNormed x y (chunkOf c) h (rowOf c) e := by
  pointwise [val_main_v176, val_main_v173, val_main_v169_0, ref_sig, ref_gate, ref_dr]
  simp only [lane_head, lane_lane]
  exact (mul_comm _ _).trans (mul_assoc _ _ _).symm

/-- The sum over two axes of size one. -/
theorem sum_ends4 (k : (⟨4, ![1, 16384, 4, 1]⟩ : Shape).ReducesTo [0, 3] ⟨2, ![16384, 4]⟩) (v : (⟨4, ![1, 16384, 4, 1]⟩ : Shape).Idx → EReal) (z : EReal) (c : Fin 16384) (h : Fin 4) :
    Ideal.hostReduceAdd k v z (ix2 c h) = z + v (ix4 0 c h 0) := by
  refine hostReduceAdd_unit k v z (ix2 c h) (ix4 0 c h 0) fun i => ⟨fun e => ?_, ?_⟩
  · funext a
    match a with
    | ⟨0, _⟩ => exact Subsingleton.elim (α := Fin 1) _ _
    | ⟨1, _⟩ => exact Fin.ext (congrArg Fin.val (congrFun e 0))
    | ⟨2, _⟩ => exact Fin.ext (congrArg Fin.val (congrFun e 1))
    | ⟨3, _⟩ => exact Subsingleton.elim (α := Fin 1) _ _
  · rintro rfl
    funext b
    match b with
    | ⟨0, _⟩ => rfl
    | ⟨1, _⟩ => rfl

theorem ref_rootGrad : val_main_v188 (F := Ideal) x y (ix2 c h) = rootGrad (out x (chunkOf c) h (rowOf c)) (dNormed x y (chunkOf c) h (rowOf c)) := by
  unfold val_main_v188
  refine (sum_ends4 _ _ _ c h).trans ?_
  rw [show val_main_cst_25 (F := Ideal) (Shape.Idx.first Gen.h_S_) = 0 from Ideal.ofBits_zero_f32, zero_add]
  pointwise [val_main_v187, val_main_v186, val_main_cst_24, val_main_v182, val_main_v179, val_main_v178, val_main_cst_22, val_main_v177, val_main_v165, val_main_v164, val_main_cst_21, val_main_v163, ref_centred', ref_dNormed, ref_invDev, ref_spread]
  rfl

theorem ref_meanPart : val_main_v199 (F := Ideal) x y (ix2 c h)
    = Ideal.div ((∑ k, -(dNormed x y (chunkOf c) h (rowOf c) k * invDev (out x (chunkOf c) h (rowOf c))))
        + ∑ k, -(rootGrad (out x (chunkOf c) h (rowOf c)) (dNormed x y (chunkOf c) h (rowOf c)) * (Ideal.ofBits .f32 1073741824#32 * centred (out x (chunkOf c) h (rowOf c)) k)))
      (Ideal.ofBits .f32 1124073472#32) := by
  unfold val_main_v199
  refine (sum_ends4 _ _ _ c h).trans ?_
  rw [show val_main_cst_28 (F := Ideal) (Shape.Idx.first Gen.h_S_) = 0 from Ideal.ofBits_zero_f32, zero_add]
  pointwise [val_main_v198, val_main_v197, val_main_cst_27, val_main_v196, val_main_v185, val_main_v184, val_main_cst_23, val_main_v183, val_main_v181, val_main_v180, val_main_v194, val_main_v193, val_main_cst_26, val_main_v192, val_main_v191, val_main_v190, val_main_v189, val_main_v153, val_main_v152, val_main_cst_17, ref_rootGrad, ref_centred, ref_dNormed, ref_invDev]

section
variable {x y} (hx : ∀ i, x i ≠ ⊤ ∧ x i ≠ ⊥) (hy : ∀ i, y i ≠ ⊤ ∧ y i ≠ ⊥)
include hx hy

theorem ref_dOut : val_main_v203 (F := Ideal) x y (ix5 0 n r h e) = dOut x y n h r e := by
  have k : ∀ c h e, val_main_v202 (F := Ideal) x y (ix4 0 c h e) = dOut x y (chunkOf c) h (rowOf c) e := by
    intro c h e
    refine Eq.trans ?_ (normGrad_eq (out_real hx _ h _) (dNormed_real hx hy _ h _) e)
    pointwise [val_main_v202, val_main_v201, val_main_v200, val_main_v195, val_main_v191, val_main_v190, val_main_v189, val_main_v181, val_main_v180, val_main_v153, val_main_v152, val_main_cst_17, ref_rootGrad, ref_meanPart, ref_centred, ref_dNormed, ref_invDev]
    rfl
  pointwise [val_main_v203, k]
  exact congrArg₂ (fun a b => dOut x y a h b e) (chunkOf_pos n r) (rowOf_pos n r)

theorem ref_dScore : val_main_v226 (F := Ideal) x y (ix5 0 n h i j) = dScore x y n h i j := by
  pointwise [val_main_v226, val_main_v225, val_main_v105, val_main_v221, val_main_v220, ref_inner, ref_W, ref_dOut _ _ _ _ hx hy]
  rfl

theorem ref_dQ : val_main_v235 (F := Ideal) x y (ix4 0 c h d) = dQ x y (chunkOf c) h (rowOf c) d := by
  pointwise [val_main_v235, val_main_v232, val_main_v231, val_main_v230, val_main_v208, val_main_v207, val_main_v206, val_main_v205, val_main_v204, val_main_v140, ref_cross, ref_K, ref_dScore _ _ _ _ hx hy, ref_entering, ref_dOut _ _ _ _ hx hy]
  exact add_comm _ _

theorem ref_dAdded : val_main_v213 (F := Ideal) x y (ix5 0 n h d e) = dAdded x y n h d e := by
  have k : ∀ m, val_main_v211 (F := Ideal) x y (ix5 h 0 d e m) = dRead x y m h d e := by
    intro m
    pointwise [val_main_v211, val_main_v210, val_main_v209, val_main_v206, val_main_v205, val_main_v204, val_main_v140, ref_cross, ref_Q, ref_dOut _ _ _ _ hx hy]
    exact Finset.sum_congr rfl fun _ _ => mul_comm _ _
  pointwise [val_main_v213, val_main_v212, k, ref_past]
  rfl

theorem ref_dK : val_main_v234 (F := Ideal) x y (ix4 0 c h d) = dK x y (chunkOf c) h (rowOf c) d := by
  pointwise [val_main_v234, val_main_v229, val_main_v228, val_main_v227, val_main_v217, val_main_v216, val_main_v112, val_main_v111, val_main_v110, ref_enter, ref_W, ref_Q, ref_dScore _ _ _ _ hx hy, ref_dAdded _ _ _ _ hx hy]
  refine (add_comm _ _).trans ?_
  unfold dK
  refine congrArg (fun z : EReal => _ + z) ?_
  rw [mul_sum_reals (enter_real _ h) fun e => (W_real hx _ h _ e).mul (dAdded_real hx hy _ h d e)]
  exact Finset.sum_congr rfl fun e _ => by rw [mul_comm, mul_assoc, mul_left_comm]; rfl

theorem ref_dW : val_main_v233 (F := Ideal) x y (ix4 0 c h e) = dW x y (chunkOf c) h (rowOf c) e := by
  pointwise [val_main_v233, val_main_v224, val_main_v223, val_main_v222, val_main_v220, val_main_v219, val_main_v218, val_main_v110, val_main_v215, val_main_v214, ref_enter, ref_K, ref_score, ref_dOut _ _ _ _ hx hy, ref_dAdded _ _ _ _ hx hy]
  refine (add_comm _ _).trans ?_
  unfold dW
  refine congrArg₂ (fun a b : EReal => a + b) (Finset.sum_congr rfl fun _ _ => mul_comm _ _) ?_
  rw [mul_comm, mul_sum_reals (enter_real _ h) fun d => (dAdded_real hx hy _ h d e).mul (K_real hx _ h _ d)]
  exact Finset.sum_congr rfl fun d _ => by rw [mul_comm (dAdded _ _ _ _ _ _), mul_left_comm, mul_assoc]; rfl

theorem ref_dGate (l : Fin 512) : val_main_v175 (F := Ideal) x y (ix3 0 c l) = dGate x y (chunkOf c) ⟨l.val / 128, by omega⟩ (rowOf c) ⟨l.val % 128, by omega⟩ := by
  pointwise [val_main_v175, val_main_call4_v2, val_main_call4_v1, val_main_call4_v0, val_main_v174, val_main_v169_1, val_main_call3_v7, val_main_call3_v6, val_main_call3_cst_1, ref_sig, ref_gate, ref_normed, ref_dr]
  exact gate_core ((dr_real hy _ _ _ _).mul (normedRow_real (out_real hx _ _ _) _)) (sig_real hx _ _ _ _) (G_real hx _ _ _ _) 1 rfl

theorem ref_unQ : val_main_v263 (F := Ideal) x y (ix4 0 c h d) = unrotated (dQ x y (chunkOf c) h (rowOf c)) c d := by
  pointwise [val_main_v263, val_main_v262, val_main_v261, val_main_v260, val_main_v259, val_main_v258, val_main_cst_32, val_main_cst_31, val_main_v257, val_main_v256, val_main_v255, val_main_v254, val_main_v253, val_main_v252, val_main_v251, val_main_v250, val_main_v29, val_main_v22, ref_sine, ref_cosine, ref_dQ _ _ _ hx hy]
  unfold unrotated
  exact congrArg₂ (fun a b : EReal => a + b) (unpair_at (dQ x y (chunkOf c) h (rowOf c)) c d _ _ (fun _ => rfl) (fun _ => rfl)) rfl

theorem ref_unK : val_main_v249 (F := Ideal) x y (ix4 0 c h d) = unrotated (dK x y (chunkOf c) h (rowOf c)) c d := by
  pointwise [val_main_v249, val_main_v248, val_main_v247, val_main_v246, val_main_v245, val_main_v244, val_main_cst_30, val_main_cst_29, val_main_v243, val_main_v242, val_main_v241, val_main_v240, val_main_v239, val_main_v238, val_main_v237, val_main_v236, val_main_v29, val_main_v22, ref_sine, ref_cosine, ref_dK _ _ _ hx hy]
  unfold unrotated
  exact congrArg₂ (fun a b : EReal => a + b) (unpair_at (dK x y (chunkOf c) h (rowOf c)) c d _ _ (fun _ => rfl) (fun _ => rfl)) rfl

theorem ref_columns (k : Fin 2816) : val_main_v275 (F := Ideal) x y (ix2 c k) = columns x y c k := by
  have hq : ∀ l : Fin 512, val_main_v270 (F := Ideal) x y (ix2 c l) = stripOf (fun n h r d => unrotated (dQ x y n h r) (pos n r) d) c l := by
    intro l
    pointwise [val_main_v270, val_main_v268, ref_unQ _ _ _ hx hy]
    unfold stripOf
    dsimp only
    rw [pos_chunk_row]
  have hk : ∀ l : Fin 512, val_main_v271 (F := Ideal) x y (ix2 c l) = stripOf (fun n h r d => unrotated (dK x y n h r) (pos n r) d * scale) c l := by
    intro l
    pointwise [val_main_v271, val_main_v267, val_main_v266, val_main_v265, val_main_cst_33, ref_unK _ _ _ hx hy]
    unfold stripOf
    dsimp only
    rw [pos_chunk_row]
    rfl
  have hw : ∀ l : Fin 512, val_main_v272 (F := Ideal) x y (ix2 c l) = stripOf (fun n h r e => dW x y n h r e) c l := by
    intro l
    pointwise [val_main_v272, val_main_v264, ref_dW _ _ _ hx hy]
    rfl
  have hg : ∀ l : Fin 512, val_main_v273 (F := Ideal) x y (ix2 c l) = stripOf (fun n h r e => dGate x y n h r e) c l := by
    intro l
    pointwise [val_main_v273, ref_dGate _ hx hy]
    rfl
  pointwise [val_main_v275, val_main_v274, val_main_v269, val_main_cst_34]
  simp only [hq, hk, hw, hg]
  rfl

end

end Cert.Proof.Ret

end
-- ==== Proof.RetHost.lean ====
/- The arrays that the mixer's host lines prepare for the retention, at an index. -/
module

public import proofs.«01_k».proof.Proof.Gen.Kernel2Ideal.Frame.Runs
public import Idealize.ShloMosaic.Lib.StableHlo.ReadAt
public import proofs.«01_k».proof.Proof.RetRef
public import proofs.«01_k».proof.Proof.MixHost

@[expose] public section

set_option maxHeartbeats 4000000

noncomputable section

namespace Cert.Proof.Ret

open Idealize.ShloMosaic

section sums5
variable {a b c d e : Nat}

/-- The host's sum over the second of five axes. -/
theorem sum_second5 (h : (⟨5, ![a, b, c, d, e]⟩ : Shape).ReducesTo [1] ⟨4, ![a, c, d, e]⟩) (v : (⟨5, ![a, b, c, d, e]⟩ : Shape).Idx → EReal) (z : EReal) (i : Fin a) (k : Fin c) (l : Fin d) (o : Fin e) :
    Ideal.hostReduceAdd h v z (ix4 i k l o) = z + ∑ m, v (ix5 i m k l o) := by
  refine congrArg (z + ·) (Finset.sum_filter_eq_sum_of_fiber _ (fun m : Fin b => (ix5 i m k l o : (⟨5, ![a, b, c, d, e]⟩ : Shape).Idx)) (fun _ _ q => congrFun q 1) (fun x => ⟨fun q => ⟨x 1, ?_⟩, ?_⟩) v)
  · funext p
    match p with
    | ⟨0, _⟩ => exact Fin.ext (congrArg Fin.val (congrFun q 0)).symm
    | ⟨1, _⟩ => rfl
    | ⟨2, _⟩ => exact Fin.ext (congrArg Fin.val (congrFun q 1)).symm
    | ⟨3, _⟩ => exact Fin.ext (congrArg Fin.val (congrFun q 2)).symm
    | ⟨4, _⟩ => exact Fin.ext (congrArg Fin.val (congrFun q 3)).symm
  · rintro ⟨m, rfl⟩
    funext p
    match p with
    | ⟨0, _⟩ => rfl
    | ⟨1, _⟩ => rfl
    | ⟨2, _⟩ => rfl
    | ⟨3, _⟩ => rfl

/-- The host's sum over the third of five axes. -/
theorem sum_third5 (h : (⟨5, ![a, b, c, d, e]⟩ : Shape).ReducesTo [2] ⟨4, ![a, b, d, e]⟩) (v : (⟨5, ![a, b, c, d, e]⟩ : Shape).Idx → EReal) (z : EReal) (i : Fin a) (k : Fin b) (l : Fin d) (o : Fin e) :
    Ideal.hostReduceAdd h v z (ix4 i k l o) = z + ∑ m, v (ix5 i k m l o) := by
  refine congrArg (z + ·) (Finset.sum_filter_eq_sum_of_fiber _ (fun m : Fin c => (ix5 i k m l o : (⟨5, ![a, b, c, d, e]⟩ : Shape).Idx)) (fun _ _ q => congrFun q 2) (fun x => ⟨fun q => ⟨x 2, ?_⟩, ?_⟩) v)
  · funext p
    match p with
    | ⟨0, _⟩ => exact Fin.ext (congrArg Fin.val (congrFun q 0)).symm
    | ⟨1, _⟩ => exact Fin.ext (congrArg Fin.val (congrFun q 1)).symm
    | ⟨2, _⟩ => rfl
    | ⟨3, _⟩ => exact Fin.ext (congrArg Fin.val (congrFun q 2)).symm
    | ⟨4, _⟩ => exact Fin.ext (congrArg Fin.val (congrFun q 3)).symm
  · rintro ⟨m, rfl⟩
    funext p
    match p with
    | ⟨0, _⟩ => rfl
    | ⟨1, _⟩ => rfl
    | ⟨2, _⟩ => rfl
    | ⟨3, _⟩ => rfl

/-- The host's sum over the fourth of five axes. -/
theorem sum_fourth5 (h : (⟨5, ![a, b, c, d, e]⟩ : Shape).ReducesTo [3] ⟨4, ![a, b, c, e]⟩) (v : (⟨5, ![a, b, c, d, e]⟩ : Shape).Idx → EReal) (z : EReal) (i : Fin a) (k : Fin b) (l : Fin c) (o : Fin e) :
    Ideal.hostReduceAdd h v z (ix4 i k l o) = z + ∑ m, v (ix5 i k l m o) := by
  refine congrArg (z + ·) (Finset.sum_filter_eq_sum_of_fiber _ (fun m : Fin d => (ix5 i k l m o : (⟨5, ![a, b, c, d, e]⟩ : Shape).Idx)) (fun _ _ q => congrFun q 3) (fun x => ⟨fun q => ⟨x 3, ?_⟩, ?_⟩) v)
  · funext p
    match p with
    | ⟨0, _⟩ => exact Fin.ext (congrArg Fin.val (congrFun q 0)).symm
    | ⟨1, _⟩ => exact Fin.ext (congrArg Fin.val (congrFun q 1)).symm
    | ⟨2, _⟩ => exact Fin.ext (congrArg Fin.val (congrFun q 2)).symm
    | ⟨3, _⟩ => rfl
    | ⟨4, _⟩ => exact Fin.ext (congrArg Fin.val (congrFun q 3)).symm
  · rintro ⟨m, rfl⟩
    funext p
    match p with
    | ⟨0, _⟩ => rfl
    | ⟨1, _⟩ => rfl
    | ⟨2, _⟩ => rfl
    | ⟨3, _⟩ => rfl

end sums5

end Cert.Proof.Ret

namespace Cert.Kernel2Ideal.Gen

open Cert.Kernel2Ideal Cert.Proof Cert.Proof.Ret Idealize.ShloMosaic Idealize.ShloMosaic.TcCoe Idealize.SL.Sem

variable (m : (ℓ : Loc nD τ sig) → Buf (Elt Ideal) ℓ) (c : Dev nD)
  (n r i j : Fin 128) (h : Fin 4) (d e : Fin 128) (k : Fin 16384) (l : Fin 512)

/-! ## The tables -/

theorem host_inner : (V m c main_v25 : FVec Ideal S4x128x128 .f32) = Cert.Reference3Ideal.Read.val_main_v84 (F := Ideal) := by
  unfold V; after_reads_simp; rfl

theorem host_log : (V m c main_v7 : FVec Ideal S4 .f32) = Cert.Reference3Ideal.Read.val_main_v66 (F := Ideal) := by
  unfold V; after_reads_simp; rfl

theorem host_cross : (V m c main_v33 : FVec Ideal S128x4 .f32) = Cert.Reference3Ideal.Read.val_main_v92 (F := Ideal) := by
  unfold V; after_reads_simp; rfl

theorem host_enter : (V m c main_v41 : FVec Ideal S128x4 .f32) = Cert.Reference3Ideal.Read.val_main_v100 (F := Ideal) := by
  unfold V; after_reads_simp; rfl

theorem host_past : (V m c main_v240 : FVec Ideal S4x128x128 .f32) = Cert.Reference3Ideal.Read.val_main_v135 (F := Ideal) := by
  unfold V; after_reads_simp; rfl

theorem host_sine : (V m c main_v72 : FVec Ideal S16384x128 .f32) = Cert.Reference3Ideal.Read.val_main_v21 (F := Ideal) := by
  unfold V; after_reads_simp; rfl

theorem host_cosine : (V m c main_v81 : FVec Ideal S16384x128 .f32) = Cert.Reference3Ideal.Read.val_main_v28 (F := Ideal) := by
  unfold V; after_reads_simp; rfl

/-- The sign of a lane. -/
def hostSign : FVec Ideal S128 .f32 := V m c main_v66

/-- Whether a lane is even, as the program finds it. -/
def evenLane : IVec S128 1 :=
  let two : IVec S_ 32 := select (cmpi CmpIPredicate.eq (id (constantI S_ 32 2#32)) (constantI S_ 32 0#32)) (constantI S_ 32 1#32) (id (constantI S_ 32 2#32))
  let rest : IVec S128 32 := Host.remsi (iotaInDim S128 32 0) (broadcastInDim S128 ![] bcast_S_S128 two)
  cmpi CmpIPredicate.eq
    (select (andi (cmpi CmpIPredicate.ne (cmpi CmpIPredicate.slt rest (broadcastInDim S128 ![] bcast_S_S128 (constantI S_ 32 0#32))) (broadcastInDim S128 ![] bcast_S_S128 (cmpi CmpIPredicate.slt two (constantI S_ 32 0#32))))
        (cmpi CmpIPredicate.ne rest (broadcastInDim S128 ![] bcast_S_S128 (constantI S_ 32 0#32))))
      (addi rest (broadcastInDim S128 ![] bcast_S_S128 two)) rest)
    (broadcastInDim S128 ![] bcast_S_S128 (constantI S_ 32 0#32))

theorem evenLane_at : evenLane (ix1 d) = if d.val % 2 = 0 then 1#1 else 0#1 := by
  revert d
  decide +kernel

theorem lit_neg_one : Ideal.ofBits .f32 3212836864#32 = -1 := by
  rw [show (-1 : EReal) = ((-1 : ℝ) : EReal) from rfl]
  simp [Ideal.ofBits, Ideal.ieee, -EReal.coe_mul, -EReal.coe_neg]; norm_num

theorem hostSign_at : hostSign m c (ix1 d) = if d.val % 2 = 0 then -1 else 1 := by
  unfold hostSign V; after_reads_at
  show Scalar.select (evenLane (ix1 d)) (Ideal.ofBits .f32 3212836864#32) (Ideal.ofBits .f32 1065353216#32) = _
  rw [evenLane_at, lit_neg_one, lit_one]
  by_cases q : d.val % 2 = 0
  · rw [if_pos q, if_pos q]; rfl
  · rw [if_neg q, if_neg q]; rfl

theorem V_inner : (V m c main_v25 : FVec Ideal S4x128x128 .f32) (ix3 h i j) = inner h i j := by
  rw [host_inner, ref_inner]

theorem V_cross : (V m c main_v46 : FVec Ideal S128x512 .f32) (ix2 i l) = cross i ⟨l.val / 128, by omega⟩ := by
  have q : (V m c main_v46 : FVec Ideal S128x512 .f32) = shapeCast S128x512 (broadcastInDim S128x4x128 ![0, 1] bcast_S128x4_S128x4x128_0_1 (V m c main_v33 : FVec Ideal S128x4 .f32)) shapeCasts_S128x4x128_S128x512 := by
    unfold V; after_reads_simp; rfl
  rw [q, host_cross]
  pointwise [ref_cross]

theorem V_enter : (V m c main_v48 : FVec Ideal S128x512 .f32) (ix2 i l) = enter i ⟨l.val / 128, by omega⟩ := by
  have q : (V m c main_v48 : FVec Ideal S128x512 .f32) = shapeCast S128x512 (broadcastInDim S128x4x128 ![0, 1] bcast_S128x4_S128x4x128_0_1 (V m c main_v41 : FVec Ideal S128x4 .f32)) shapeCasts_S128x4x128_S128x512 := by
    unfold V; after_reads_simp; rfl
  rw [q, host_enter]
  pointwise [ref_enter]

theorem V_decay (p : Fin 8) : (V m c main_v52 : FVec Ideal S8x512 .f32) (ix2 p l) = chunkDecay ⟨l.val / 128, by omega⟩ := by
  unfold V; after_reads_at
  unfold chunkDecay logDecay
  rw [num_eq (l.val / 128) (by omega)]

theorem V_cosine : (V m c main_v81 : FVec Ideal S16384x128 .f32) (ix2 k d) = cosine k d := by
  rw [host_cosine, ref_cosine]

theorem V_sine : (V m c main_v75 : FVec Ideal S16384x128 .f32) (ix2 k d) = sine k d * (if d.val % 2 = 0 then -1 else 1) := by
  have q : (V m c main_v75 : FVec Ideal S16384x128 .f32) = mulf (V m c main_v72 : FVec Ideal S16384x128 .f32) (broadcastInDim S16384x128 ![0, 1] bcast_S1x128_S16384x128_0_1 (broadcastInDim S1x128 ![1] bcast_S128_S1x128_1 (hostSign m c))) := by
    unfold hostSign V; after_reads_simp; try rfl
  rw [q, host_sine]
  pointwise [ref_sine, hostSign_at]

/-! ## The rotated queries and keys -/

def hostLanes : FVec Ideal S16384x4x128 .f32 := V m c main_v156
def hostKeyLanes : FVec Ideal S16384x4x128 .f32 := V m c main_v160
def hostPairs : FVec Ideal S16384x4x64x2 .f32 := V m c main_v167
def hostKeyPairs : FVec Ideal S16384x4x64x2 .f32 := V m c main_v178
def hostRotated : FVec Ideal S16384x4x128 .f32 := V m c main_v171
def hostKeyRotated : FVec Ideal S16384x4x128 .f32 := V m c main_v182

/-- A row's queries, rotated. -/
def qAt (x : Proj) (k : Fin 16384) (h : Fin 4) (d : Fin 128) : EReal := rotate (fun d => x (ix2 k (col 768 (by omega) h d))) k d
/-- A row's keys, rotated. -/
def kAt (x : Proj) (k : Fin 16384) (h : Fin 4) (d : Fin 128) : EReal := rotate (fun d => x (ix2 k (col 1280 (by omega) h d)) * scale) k d

theorem hostLanes_at : hostLanes m c (ix3 k h d) = projOf m c (ix2 k (col 768 (by omega) h d)) := by
  unfold hostLanes V; after_reads_at
  rfl

theorem hostKeyLanes_at : hostKeyLanes m c (ix3 k h d) = projOf m c (ix2 k (col 1280 (by omega) h d)) * scale := by
  unfold hostKeyLanes V; after_reads_at
  rfl

theorem hostPairs_at (a : Fin 64) (b : Fin 2) : hostPairs m c (ix4 k h a b) = if b.val < 1 then hostLanes m c (ix3 k h ⟨1 + 2 * a.val, by omega⟩) else hostLanes m c (ix3 k h ⟨2 * a.val, by omega⟩) := by
  have e : hostPairs m c = concatenate S16384x4x64x2 3 [⟨S16384x4x64x1, broadcastInDim S16384x4x64x1 ![0, 1, 2] bcast_S16384x4x64_S16384x4x64x1_0_1_2 (Host.slice S16384x4x64 ![0, 0, 1] ![1, 1, 2] (hostLanes m c) slicesBy_S16384x4x128_S16384x4x64_0s1_0s1_1s2)⟩, ⟨S16384x4x64x1, broadcastInDim S16384x4x64x1 ![0, 1, 2] bcast_S16384x4x64_S16384x4x64x1_0_1_2 (Host.slice S16384x4x64 ![0, 0, 0] ![1, 1, 2] (hostLanes m c) slicesBy_S16384x4x128_S16384x4x64_0s1_0s1_0s2)⟩] concatenates_S16384x4x64x1_S16384x4x64x1_S16384x4x64x2_d3 := by
    unfold hostPairs hostLanes V; after_reads_simp
    refine congrArg₂ (fun (a : FVec Ideal S16384x4x64x1 .f32) (b : FVec Ideal S16384x4x64x1 .f32) => concatenate S16384x4x64x2 3 [⟨S16384x4x64x1, a⟩, ⟨S16384x4x64x1, b⟩] concatenates_S16384x4x64x1_S16384x4x64x1_S16384x4x64x2_d3) ?_ ?_ <;> after_reads_simp
  rw [e]
  pointwise
  rfl

theorem hostKeyPairs_at (a : Fin 64) (b : Fin 2) : hostKeyPairs m c (ix4 k h a b) = if b.val < 1 then hostKeyLanes m c (ix3 k h ⟨1 + 2 * a.val, by omega⟩) else hostKeyLanes m c (ix3 k h ⟨2 * a.val, by omega⟩) := by
  have e : hostKeyPairs m c = concatenate S16384x4x64x2 3 [⟨S16384x4x64x1, broadcastInDim S16384x4x64x1 ![0, 1, 2] bcast_S16384x4x64_S16384x4x64x1_0_1_2 (Host.slice S16384x4x64 ![0, 0, 1] ![1, 1, 2] (hostKeyLanes m c) slicesBy_S16384x4x128_S16384x4x64_0s1_0s1_1s2)⟩, ⟨S16384x4x64x1, broadcastInDim S16384x4x64x1 ![0, 1, 2] bcast_S16384x4x64_S16384x4x64x1_0_1_2 (Host.slice S16384x4x64 ![0, 0, 0] ![1, 1, 2] (hostKeyLanes m c) slicesBy_S16384x4x128_S16384x4x64_0s1_0s1_0s2)⟩] concatenates_S16384x4x64x1_S16384x4x64x1_S16384x4x64x2_d3 := by
    unfold hostKeyPairs hostKeyLanes V; after_reads_simp
    refine congrArg₂ (fun (a : FVec Ideal S16384x4x64x1 .f32) (b : FVec Ideal S16384x4x64x1 .f32) => concatenate S16384x4x64x2 3 [⟨S16384x4x64x1, a⟩, ⟨S16384x4x64x1, b⟩] concatenates_S16384x4x64x1_S16384x4x64x1_S16384x4x64x2_d3) ?_ ?_ <;> after_reads_simp
  rw [e]
  pointwise
  rfl

/-- The swapped lanes of pairs. -/
theorem swap_at (f : Fin 128 → EReal) (d : Fin 128) (s : EReal) :
    (if d.val % 2 < 1 then f ⟨1 + 2 * (d.val / 2), by omega⟩ else f ⟨2 * (d.val / 2), by omega⟩) * (s * if d.val % 2 = 0 then -1 else 1)
      = (if d.val % 2 = 0 then -f (partner d) else f (partner d)) * s := by
  have p := partner_val d
  by_cases hd : d.val % 2 = 0
  · rw [if_pos (by omega), if_pos hd, if_pos hd, mul_neg, mul_one, mul_neg, EReal.neg_mul]
    rw [if_pos hd] at p
    exact congrArg (fun k => -(f k * s)) (Fin.ext (by rw [p]; show 1 + 2 * (d.val / 2) = d.val + 1; omega))
  · rw [if_neg (by omega), if_neg hd, if_neg hd, mul_one]
    rw [if_neg hd] at p
    exact congrArg (fun k => f k * s) (Fin.ext (by rw [p]; show 2 * (d.val / 2) = d.val - 1; omega))

theorem hostRotated_at : hostRotated m c (ix3 k h d) = qAt (projOf m c) k h d := by
  have e : hostRotated m c = addf (mulf (hostLanes m c) (broadcastInDim S16384x4x128 ![0, 1, 2] bcast_S16384x1x128_S16384x4x128_0_1_2 (broadcastInDim S16384x1x128 ![0, 2] bcast_S16384x128_S16384x1x128_0_2 (V m c main_v81 : FVec Ideal S16384x128 .f32))))
      (mulf (shapeCast S16384x4x128 (hostPairs m c) shapeCasts_S16384x4x64x2_S16384x4x128) (broadcastInDim S16384x4x128 ![0, 1, 2] bcast_S16384x1x128_S16384x4x128_0_1_2 (broadcastInDim S16384x1x128 ![0, 2] bcast_S16384x128_S16384x1x128_0_2 (V m c main_v75 : FVec Ideal S16384x128 .f32)))) := by
    unfold hostRotated hostPairs hostLanes V; after_reads_simp; try rfl
  rw [e]
  pointwise [hostPairs_at, hostLanes_at, V_sine, V_cosine]
  unfold qAt rotate
  refine congrArg₂ (fun a b : EReal => a + b) (congrArg₂ (fun a b : EReal => a * b) rfl (V_cosine m c d k)) ?_
  exact (congrArg₂ (fun a b : EReal => a * b) rfl (V_sine m c d k)).trans (swap_at (fun d => projOf m c (ix2 k (col 768 (by omega) h d))) d (sine k d))

theorem hostKeyRotated_at : hostKeyRotated m c (ix3 k h d) = kAt (projOf m c) k h d := by
  have e : hostKeyRotated m c = addf (mulf (hostKeyLanes m c) (broadcastInDim S16384x4x128 ![0, 1, 2] bcast_S16384x1x128_S16384x4x128_0_1_2 (broadcastInDim S16384x1x128 ![0, 2] bcast_S16384x128_S16384x1x128_0_2 (V m c main_v81 : FVec Ideal S16384x128 .f32))))
      (mulf (shapeCast S16384x4x128 (hostKeyPairs m c) shapeCasts_S16384x4x64x2_S16384x4x128) (broadcastInDim S16384x4x128 ![0, 1, 2] bcast_S16384x1x128_S16384x4x128_0_1_2 (broadcastInDim S16384x1x128 ![0, 2] bcast_S16384x128_S16384x1x128_0_2 (V m c main_v75 : FVec Ideal S16384x128 .f32)))) := by
    unfold hostKeyRotated hostKeyPairs hostKeyLanes V; after_reads_simp; try rfl
  rw [e]
  pointwise [hostKeyPairs_at, hostKeyLanes_at, V_sine, V_cosine]
  unfold kAt rotate
  refine congrArg₂ (fun a b : EReal => a + b) (congrArg₂ (fun a b : EReal => a * b) rfl (V_cosine m c d k)) ?_
  exact (congrArg₂ (fun a b : EReal => a * b) rfl (V_sine m c d k)).trans (swap_at (fun d => projOf m c (ix2 k (col 1280 (by omega) h d)) * scale) d (sine k d))

theorem V_queries : (V m c main_v288 : FVec Ideal S16384x512 .bf16) (ix2 (pos n r) l) = Q (projOf m c) n ⟨l.val / 128, by omega⟩ r ⟨l.val % 128, by omega⟩ := by
  have e : (V m c main_v288 : FVec Ideal S16384x512 .bf16) = truncf .bf16 (shapeCast S16384x512 (hostRotated m c) shapeCasts_S16384x4x128_S16384x512) bitsLt_bf16_f32 := by
    unfold hostRotated V; after_reads_simp; try rfl
  rw [e]
  pointwise [hostRotated_at]
  rfl

theorem V_keys : (V m c main_v289 : FVec Ideal S16384x512 .bf16) (ix2 (pos n r) l) = K (projOf m c) n ⟨l.val / 128, by omega⟩ r ⟨l.val % 128, by omega⟩ := by
  have e : (V m c main_v289 : FVec Ideal S16384x512 .bf16) = truncf .bf16 (shapeCast S16384x512 (hostKeyRotated m c) shapeCasts_S16384x4x128_S16384x512) bitsLt_bf16_f32 := by
    unfold hostKeyRotated V; after_reads_simp; try rfl
  rw [e]
  pointwise [hostKeyRotated_at]
  rfl

end Cert.Kernel2Ideal.Gen

end
-- ==== Proof.RetStates.lean ====
/- The scores, states and outputs that the mixer's host lines prepare for the retention, at an index. -/
module

public import proofs.«01_k».proof.Proof.RetHost

@[expose] public section

set_option maxHeartbeats 4000000

noncomputable section

namespace Cert.Kernel2Ideal.Gen

open Cert.Kernel2Ideal Cert.Proof Cert.Proof.Ret Idealize.ShloMosaic Idealize.ShloMosaic.TcCoe Idealize.SL.Sem

variable (m : (ℓ : Loc nD τ sig) → Buf (Elt Ideal) ℓ) (c : Dev nD)
  (n r i j : Fin 128) (h : Fin 4) (d e : Fin 128) (k : Fin 16384) (l : Fin 512)

def hostDecayed : FVec Ideal S16384x512 .f32 := V m c main_v189

theorem hostDecayed_at : hostDecayed m c (ix2 k l) = kAt (projOf m c) k ⟨l.val / 128, by omega⟩ ⟨l.val % 128, by omega⟩ * enter (rowOf k) ⟨l.val / 128, by omega⟩ := by
  have e : hostDecayed m c = shapeCast S16384x512 (mulf (shapeCast S128x128x512 (shapeCast S16384x512 (hostKeyRotated m c) shapeCasts_S16384x4x128_S16384x512) shapeCasts_S16384x512_S128x128x512) (broadcastInDim S128x128x512 ![0, 1, 2] bcast_S1x128x512_S128x128x512_0_1_2 (broadcastInDim S1x128x512 ![1, 2] bcast_S128x512_S1x128x512_1_2 (V m c main_v48 : FVec Ideal S128x512 .f32)))) shapeCasts_S128x128x512_S16384x512 := by
    unfold hostDecayed hostKeyRotated V; after_reads_simp; try rfl
  rw [e]
  pointwise [hostKeyRotated_at, V_enter]
  exact congrArg₂ (fun a b : EReal => a * b) rfl (V_enter m c (rowOf k) l)

theorem V_decayed : (V m c main_v290 : FVec Ideal S16384x512 .bf16) (ix2 (pos n r) l) = K (projOf m c) n ⟨l.val / 128, by omega⟩ r ⟨l.val % 128, by omega⟩ * enter r ⟨l.val / 128, by omega⟩ := by
  have e : (V m c main_v290 : FVec Ideal S16384x512 .bf16) = truncf .bf16 (hostDecayed m c) bitsLt_bf16_f32 := by
    unfold hostDecayed V; after_reads_simp; try rfl
  rw [e, ← congrArg (fun a => enter a _) (rowOf_pos n r)]
  exact hostDecayed_at m c (pos n r) l

/-! ## Scores, states, outputs -/

def hostQueryChunks : FVec Ideal S128x128x4x128 .f32 := V m c main_v190
def hostKeyChunks : FVec Ideal S128x128x4x128 .f32 := V m c main_v191
def hostDecayedChunks : FVec Ideal S128x128x4x128 .f32 := V m c main_v192
def hostValueChunks : FVec Ideal S128x128x4x128 .f32 := V m c main_v194
def hostScore : FVec Ideal S128x4x128x128 .f32 := V m c main_v204
def hostAdded : FVec Ideal S128x4x128x128 .f32 := V m c main_v210
def hostEntering : FVec Ideal S128x4x128x128 .f32 := V m c main_v247
def hostRead : FVec Ideal S128x128x4x128 .f32 := V m c main_v253
def hostInner : FVec Ideal S128x128x4x128 .f32 := V m c main_v264
def hostOut : FVec Ideal S128x128x4x128 .f32 := V m c main_v265
def hostMean : FVec Ideal S128x128x4x1 .f32 := V m c main_v269
def hostDev : FVec Ideal S128x128x4x1 .f32 := V m c main_v279

theorem zero_init : constant (F := Ideal) S_ .f32 0#32 (Shape.Idx.first h_S_) = 0 := Ideal.ofBits_zero_f32

theorem hostQueryChunks_at : hostQueryChunks m c (ix4 n r h d) = Q (projOf m c) n h r d := by
  have e : hostQueryChunks m c = shapeCast S128x128x4x128 (hostRotated m c) shapeCasts_S16384x4x128_S128x128x4x128 := by
    unfold hostQueryChunks hostRotated V; after_reads_simp; try rfl
  rw [e]
  pointwise [hostRotated_at]
  rfl

theorem hostKeyChunks_at : hostKeyChunks m c (ix4 n r h d) = K (projOf m c) n h r d := by
  have e : hostKeyChunks m c = shapeCast S128x128x4x128 (hostKeyRotated m c) shapeCasts_S16384x4x128_S128x128x4x128 := by
    unfold hostKeyChunks hostKeyRotated V; after_reads_simp; try rfl
  rw [e]
  pointwise [hostKeyRotated_at]
  rfl

theorem hostDecayedChunks_at : hostDecayedChunks m c (ix4 n r h d) = K (projOf m c) n h r d * enter r h := by
  have e : hostDecayedChunks m c = shapeCast S128x128x4x128 (hostDecayed m c) shapeCasts_S16384x512_S128x128x4x128 := by
    unfold hostDecayedChunks hostDecayed V; after_reads_simp; try rfl
  rw [e]
  pointwise [hostDecayed_at]
  simp only [lane_head, lane_lane]
  exact congrArg (fun a => K (projOf m c) n h r d * enter a h) (rowOf_pos n r)

theorem hostValueChunks_at : hostValueChunks m c (ix4 n r h d) = W (projOf m c) n h r d := by
  unfold hostValueChunks V; after_reads_at
  rfl

theorem hostScore_at : hostScore m c (ix4 n h i j) = score (projOf m c) n h i j := by
  have e : hostScore m c = mulf (transpose S128x4x128x128 [0, 3, 1, 2] (Host.reduceAdd (mulf (broadcastInDim S128x128x128x4x128 ![0, 1, 2, 3, 4] bcast_S128x128x1x4x128_S128x128x128x4x128_0_1_2_3_4 (broadcastInDim S128x128x1x4x128 ![0, 1, 3, 4] bcast_S128x128x4x128_S128x128x1x4x128_0_1_3_4 (hostQueryChunks m c)))
      (broadcastInDim S128x128x128x4x128 ![0, 1, 2, 3, 4] bcast_S128x1x128x4x128_S128x128x128x4x128_0_1_2_3_4 (broadcastInDim S128x1x128x4x128 ![0, 2, 3, 4] bcast_S128x128x4x128_S128x1x128x4x128_0_2_3_4 (hostKeyChunks m c)))) (constant (F := Ideal) S_ .f32 0#32) reducesTo_S128x128x128x4x128_S128x128x128x4_d4 h_S_) transposes_S128x128x128x4_S128x4x128x128_0_3_1_2)
      (broadcastInDim S128x4x128x128 ![0, 1, 2, 3] bcast_S1x4x128x128_S128x4x128x128_0_1_2_3 (broadcastInDim S1x4x128x128 ![1, 2, 3] bcast_S4x128x128_S1x4x128x128_1_2_3 (V m c main_v25 : FVec Ideal S4x128x128 .f32))) := by
    unfold hostScore hostQueryChunks hostKeyChunks V; after_reads_simp; try rfl
  have s : ∀ (v : FVec Ideal S128x128x128x4x128 .f32) (n i j : Fin 128) (h : Fin 4), Host.reduceAdd v (constant (F := Ideal) S_ .f32 0#32) reducesTo_S128x128x128x4x128_S128x128x128x4_d4 h_S_ (ix4 n i j h) = ∑ d, v (ix5 n i j h d) := by
    intro v n i j h
    refine (sum_last5 _ _ _ n i j h).trans ?_
    rw [zero_init, zero_add]
  rw [e]
  pointwise [s, hostQueryChunks_at, hostKeyChunks_at]
  exact congrArg₂ (fun a b : EReal => a * b) rfl (V_inner m c i j h)

theorem hostAdded_at : hostAdded m c (ix4 n h d e) = added (projOf m c) n h d e := by
  have q : hostAdded m c = Host.reduceAdd (mulf (broadcastInDim S128x128x4x128x128 ![0, 1, 2, 3, 4] bcast_S128x128x4x128x1_S128x128x4x128x128_0_1_2_3_4 (broadcastInDim S128x128x4x128x1 ![0, 1, 2, 3] bcast_S128x128x4x128_S128x128x4x128x1_0_1_2_3 (hostDecayedChunks m c)))
      (broadcastInDim S128x128x4x128x128 ![0, 1, 2, 3, 4] bcast_S128x128x4x1x128_S128x128x4x128x128_0_1_2_3_4 (broadcastInDim S128x128x4x1x128 ![0, 1, 2, 4] bcast_S128x128x4x128_S128x128x4x1x128_0_1_2_4 (hostValueChunks m c)))) (constant (F := Ideal) S_ .f32 0#32) reducesTo_S128x128x4x128x128_S128x4x128x128_d1 h_S_ := by
    unfold hostAdded hostDecayedChunks hostValueChunks V; after_reads_simp; try rfl
  rw [q]
  refine (sum_second5 _ _ _ n h d e).trans ?_
  rw [zero_init, zero_add]
  refine Finset.sum_congr rfl fun j _ => ?_
  pointwise [hostDecayedChunks_at, hostValueChunks_at]
  rw [mul_assoc]
  exact congrArg (fun a : EReal => K (projOf m c) n h j d * a) (mul_comm _ _)

theorem hostEntering_at : hostEntering m c (ix4 n h d e) = entering (projOf m c) n h d e := by
  have q : hostEntering m c = Host.reduceAdd (mulf (broadcastInDim S128x128x4x128x128 ![0, 1, 2, 3, 4] bcast_S128x128x4x1x1_S128x128x4x128x128_0_1_2_3_4 (broadcastInDim S128x128x4x1x1 ![0, 1, 2] bcast_S128x128x4_S128x128x4x1x1_0_1_2 (transpose S128x128x4 [1, 2, 0] (V m c main_v240 : FVec Ideal S4x128x128 .f32) transposes_S4x128x128_S128x128x4_1_2_0)))
      (broadcastInDim S128x128x4x128x128 ![0, 1, 2, 3, 4] bcast_S1x128x4x128x128_S128x128x4x128x128_0_1_2_3_4 (broadcastInDim S1x128x4x128x128 ![1, 2, 3, 4] bcast_S128x4x128x128_S1x128x4x128x128_1_2_3_4 (hostAdded m c)))) (constant (F := Ideal) S_ .f32 0#32) reducesTo_S128x128x4x128x128_S128x4x128x128_d1 h_S_ := by
    unfold hostEntering hostAdded V; after_reads_simp; try rfl
  rw [q, host_past]
  refine (sum_second5 _ _ _ n h d e).trans ?_
  rw [zero_init, zero_add]
  refine Finset.sum_congr rfl fun j _ => ?_
  pointwise [ref_past, hostAdded_at]
  exact mul_comm _ _

theorem hostRead_at : hostRead m c (ix4 n i h e) = ∑ d, entering (projOf m c) n h d e * Q (projOf m c) n h i d := by
  have q : hostRead m c = Host.reduceAdd (mulf (broadcastInDim S128x128x4x128x128 ![0, 1, 2, 3, 4] bcast_S128x128x4x128x1_S128x128x4x128x128_0_1_2_3_4 (broadcastInDim S128x128x4x128x1 ![0, 1, 2, 3] bcast_S128x128x4x128_S128x128x4x128x1_0_1_2_3 (hostQueryChunks m c)))
      (broadcastInDim S128x128x4x128x128 ![0, 1, 2, 3, 4] bcast_S128x1x4x128x128_S128x128x4x128x128_0_1_2_3_4 (broadcastInDim S128x1x4x128x128 ![0, 2, 3, 4] bcast_S128x4x128x128_S128x1x4x128x128_0_2_3_4 (hostEntering m c)))) (constant (F := Ideal) S_ .f32 0#32) reducesTo_S128x128x4x128x128_S128x128x4x128_d3 h_S_ := by
    unfold hostRead hostQueryChunks hostEntering V; after_reads_simp; try rfl
  rw [q]
  refine (sum_fourth5 _ _ _ n i h e).trans ?_
  rw [zero_init, zero_add]
  refine Finset.sum_congr rfl fun d _ => ?_
  pointwise [hostQueryChunks_at, hostEntering_at]
  exact mul_comm _ _

theorem hostInner_at : hostInner m c (ix4 n i h e) = ∑ j, W (projOf m c) n h j e * score (projOf m c) n h i j := by
  have q : hostInner m c = Host.reduceAdd (mulf (broadcastInDim S128x128x128x4x128 ![0, 1, 2, 3, 4] bcast_S128x128x128x4x1_S128x128x128x4x128_0_1_2_3_4 (broadcastInDim S128x128x128x4x1 ![0, 1, 2, 3] bcast_S128x128x128x4_S128x128x128x4x1_0_1_2_3 (transpose S128x128x128x4 [0, 2, 3, 1] (hostScore m c) transposes_S128x4x128x128_S128x128x128x4_0_2_3_1)))
      (broadcastInDim S128x128x128x4x128 ![0, 1, 2, 3, 4] bcast_S128x1x128x4x128_S128x128x128x4x128_0_1_2_3_4 (broadcastInDim S128x1x128x4x128 ![0, 2, 3, 4] bcast_S128x128x4x128_S128x1x128x4x128_0_2_3_4 (hostValueChunks m c)))) (constant (F := Ideal) S_ .f32 0#32) reducesTo_S128x128x128x4x128_S128x128x4x128_d2 h_S_ := by
    unfold hostInner hostScore hostValueChunks V; after_reads_simp; try rfl
  rw [q]
  refine (sum_third5 _ _ _ n i h e).trans ?_
  rw [zero_init, zero_add]
  refine Finset.sum_congr rfl fun j _ => ?_
  pointwise [hostScore_at, hostValueChunks_at]
  exact mul_comm _ _

theorem hostOut_at : hostOut m c (ix4 n i h e) = out (projOf m c) n h i e := by
  have q : hostOut m c = addf (hostInner m c) (mulf (hostRead m c) (shapeCast S128x128x4x128 (broadcastInDim S128x128x512 ![0, 1, 2] bcast_S1x128x512_S128x128x512_0_1_2 (broadcastInDim S1x128x512 ![1, 2] bcast_S128x512_S1x128x512_1_2 (V m c main_v46 : FVec Ideal S128x512 .f32))) shapeCasts_S128x128x512_S128x128x4x128)) := by
    unfold hostOut hostInner hostRead V; after_reads_simp; try rfl
  rw [q]
  pointwise [hostInner_at, hostRead_at]
  exact congrArg₂ (fun a b : EReal => a + b) rfl (congrArg₂ (fun a b : EReal => a * b) rfl ((V_cross m c i ⟨h.val * 128 + e.val, by omega⟩).trans (congrArg (cross i) (lane_head h e))))

theorem hostMean_at : hostMean m c (ix4 n i h 0) = rowMean (out (projOf m c) n h i) := by
  have q : hostMean m c = Host.divf (broadcastInDim S128x128x4x1 ![0, 1, 2] bcast_S128x128x4_S128x128x4x1_0_1_2 (Host.reduceAdd (hostOut m c) (constant (F := Ideal) S_ .f32 0#32) reducesTo_S128x128x4x128_S128x128x4_d3 h_S_)) (broadcastInDim S128x128x4x1 ![] bcast_S_S128x128x4x1 (constant (F := Ideal) S_ .f32 1124073472#32)) := by
    unfold hostMean hostOut V; after_reads_simp; try rfl
  rw [q]
  pointwise [hostOut_at]
  rfl

theorem hostDev_at : hostDev m c (ix4 n i h 0) = invDev (out (projOf m c) n h i) := by
  have q : hostDev m c = Host.rsqrt (addf (Host.divf (broadcastInDim S128x128x4x1 ![0, 1, 2] bcast_S128x128x4_S128x128x4x1_0_1_2 (Host.reduceAdd
        (mulf (subf (hostOut m c) (broadcastInDim S128x128x4x128 ![0, 1, 2, 3] bcast_S128x128x4x1_S128x128x4x128_0_1_2_3 (hostMean m c))) (subf (hostOut m c) (broadcastInDim S128x128x4x128 ![0, 1, 2, 3] bcast_S128x128x4x1_S128x128x4x128_0_1_2_3 (hostMean m c))))
        (constant (F := Ideal) S_ .f32 0#32) reducesTo_S128x128x4x128_S128x128x4_d3 h_S_)) (broadcastInDim S128x128x4x1 ![] bcast_S_S128x128x4x1 (constant (F := Ideal) S_ .f32 1124073472#32))) (broadcastInDim S128x128x4x1 ![] bcast_S_S128x128x4x1 (constant (F := Ideal) S_ .f32 897988541#32))) := by
    unfold hostDev hostMean hostOut V; after_reads_simp; try rfl
  rw [q]
  pointwise [hostOut_at, hostMean_at]
  rfl

theorem V_entering : (V m c main_v247 : FVec Ideal S128x4x128x128 .f32) (ix4 n h d e) = entering (projOf m c) n h d e := hostEntering_at m c n h d e

theorem V_score : (V m c main_v286 : FVec Ideal S128x4x128x128 .bf16) (ix4 n h i j) = score (projOf m c) n h i j := by
  have e : (V m c main_v286 : FVec Ideal S128x4x128x128 .bf16) = truncf .bf16 (hostScore m c) bitsLt_bf16_f32 := by
    unfold hostScore V; after_reads_simp; try rfl
  rw [e]
  exact hostScore_at m c n i j h

theorem V_normed : (V m c main_v284 : FVec Ideal S16384x512 .f32) (ix2 (pos n r) l) = normedRow (out (projOf m c) n ⟨l.val / 128, by omega⟩ r) ⟨l.val % 128, by omega⟩ := by
  have q : (V m c main_v284 : FVec Ideal S16384x512 .f32) = shapeCast S16384x512 (mulf (subf (hostOut m c) (broadcastInDim S128x128x4x128 ![0, 1, 2, 3] bcast_S128x128x4x1_S128x128x4x128_0_1_2_3 (hostMean m c))) (broadcastInDim S128x128x4x128 ![0, 1, 2, 3] bcast_S128x128x4x1_S128x128x4x128_0_1_2_3 (hostDev m c))) shapeCasts_S128x128x4x128_S16384x512 := by
    unfold hostOut hostMean hostDev V; after_reads_simp; try rfl
  rw [q]
  pointwise [hostOut_at, hostMean_at, hostDev_at]
  exact congrArg₂ (fun a b => normedRow (out (projOf m c) a ⟨l.val / 128, by omega⟩ b) ⟨l.val % 128, by omega⟩) (chunkOf_pos n r) (rowOf_pos n r)

theorem V_dev : (V m c main_v287 : FVec Ideal S128x4x128x1 .f32) (ix4 n h r 0) = invDev (out (projOf m c) n h r) := by
  have q : (V m c main_v287 : FVec Ideal S128x4x128x1 .f32) = transpose S128x4x128x1 [0, 2, 1, 3] (hostDev m c) transposes_S128x128x4x1_S128x4x128x1_0_2_1_3 := by
    unfold hostDev V; after_reads_simp; try rfl
  rw [q]
  pointwise [hostDev_at]

theorem V_sig : (V m c main_v298 : FVec Ideal S16384x512 .f32) (ix2 (pos n r) l) = Ret.sig (projOf m c) n ⟨l.val / 128, by omega⟩ r ⟨l.val % 128, by omega⟩ := by
  unfold V; after_reads_at
  unfold Ret.sig G
  rw [← col_lane]

end Cert.Kernel2Ideal.Gen

end
-- ==== Proof.RetTile.lean ====
/- The retention part of one chunk of the backward call: what the step stores for it, as functions of what the chunk loads and of the gradient
   of the state that the chunks after it left. -/
module

public import proofs.«01_k».proof.Proof.MixTile

@[expose] public section

set_option maxRecDepth 16384

noncomputable section

namespace Cert.Kernel2Ideal.Gen

open Idealize.ShloMosaic Idealize.ShloMosaic.TcCoe Idealize.ShloMosaic.Tactic

variable {F : FTy → Type} [FloatOps F]

/-- What one head of the retention reads in a chunk. -/
structure Head (F : FTy → Type) where
  /-- The rotated queries. -/
  query : Vec F S128x128 .bf16
  /-- The rotated and scaled keys. -/
  key : Vec F S128x128 .bf16
  /-- The values. -/
  value : Vec F S128x128 .f32
  /-- The state that enters the chunk. -/
  entering : Vec F S1x1x128x128 .f32
  /-- The decay that a row's reading of the state has. -/
  crossDecay : Vec F S128x128 .f32
  /-- The decay between two rows of a chunk. -/
  innerDecay : Vec F S1x128x128 .f32
  /-- The decayed scores. -/
  scores : Vec F S1x1x128x128 .bf16
  /-- The normed output. -/
  normed : Vec F S128x128 .f32
  /-- The reciprocal deviation of a row. -/
  rstd : Vec F S1x1x128x1 .f32
  /-- The gate before its sigmoid. -/
  gateIn : Vec F S128x128 .f32
  /-- The gate's sigmoid. -/
  gate : Vec F S128x128 .f32
  /-- The gradient of the retention's output. -/
  grad : Vec F S128x128 .bf16
  /-- The decay with which a row enters the state. -/
  writeDecay : Vec F S128x128 .f32
  /-- The decayed keys. -/
  decayedKey : Vec F S128x128 .bf16
  /-- The decay of the state over a chunk. -/
  stateDecay : Vec F S1x128 .f32

namespace Head

variable (x : Head F)

/-- The gradient of the gate. -/
def gateTile : FVec F S128x128 .bf16 := k0_pay72 x.normed x.gateIn x.gate x.grad
/-- The gradient of the output before its norm. -/
def outGrad : FVec F S128x128 .f32 := k0_pay73 x.normed x.rstd x.gateIn x.gate x.grad
/-- The same in the kernel's short format. -/
def outGradShort : FVec F S128x128 .bf16 := k0_pay74 x.normed x.rstd x.gateIn x.gate x.grad
/-- The gradient of the rotated queries. -/
def queryGrad : FVec F S128x128 .f32 :=
  k0_pay77 (k0_pay62 x.key) (k0_pay63 x.value) (k0_pay64 x.entering) (k0_pay66 x.crossDecay) (k0_pay67 x.innerDecay) x.outGrad x.outGradShort
/-- The gradient of the rotated keys. -/
def keyGrad (s : FVec F S128x128 .f32) : FVec F S128x128 .f32 :=
  k0_pay78 (k0_pay61 x.query) (k0_pay63 x.value) (k0_pay65 s) (k0_pay67 x.innerDecay) x.outGradShort x.writeDecay
/-- The gradient of the values. -/
def valueTile (s : FVec F S128x128 .f32) : FVec F S128x128 .bf16 := k0_pay79 (k0_pay65 s) (k0_pay68 x.scores) x.outGradShort x.decayedKey
/-- The gradient of the state that enters the chunk. -/
def stateGrad (s : FVec F S128x128 .f32) : FVec F S128x128 .f32 := k0_pay80 s (k0_pay61 x.query) (k0_pay66 x.crossDecay) x.outGrad x.stateDecay

end Head

/-- Four heads side by side. -/
def beside (a b c d : FVec F S128x128 .f32) : FVec F S128x512 .f32 :=
  concatenate S128x512 1 [⟨S128x128, a⟩, ⟨S128x128, b⟩, ⟨S128x128, c⟩, ⟨S128x128, d⟩] concatenates_S128x128_S128x128_S128x128_S128x128_S128x512_d1

/-- The rotation taken back: the lanes of a pair swapped against the signed sine. -/
def unrotate (s c : Vec F S128x128 .f32) (x : FVec F S128x512 .f32) : FVec F S128x512 .f32 :=
  subf (mulf x (k0_pay60 c)) (mulf (select k0_pay11 (dynamicRotate 1 511#32 none x rotates_S128x512_d1) (dynamicRotate 1 1#32 none x rotates_S128x512_d1)) (k0_pay59 s))

/-- The same in the output's format. -/
def queryStrip (s c : Vec F S128x128 .f32) (x : FVec F S128x512 .f32) : FVec F S128x512 .bf16 := truncf .bf16 (unrotate s c x) bitsLt_bf16_f32
/-- The keys' one has the keys' scale. -/
def keyStrip (s c : Vec F S128x128 .f32) (x : FVec F S128x512 .f32) : FVec F S128x512 .bf16 :=
  truncf .bf16 (mulf (broadcast S128x512 (Scalar.ofBits .f32 0x3DB504F3#32)) (unrotate s c x)) bitsLt_bf16_f32

variable (m : (ℓ : Loc nD τ sig) → Buf (Elt F) ℓ) (c : Dev nD) (t : Fin cfg0.N)

/-- What head `h` reads in chunk `j` of a step. -/
def head (j h : Fin 4) : Head F where
  query := View.readAt (Elt F) (ms0_9 t).view (Rect.unit (s := S512x512) ![128 * j.val, 128 * h.val] S128x128.size (by revert j h; decide)).toLoadRect ((hs0_9 t).unread (iblk m c 9 t))
  key := View.readAt (Elt F) (ms0_10 t).view (Rect.unit (s := S512x512) ![128 * j.val, 128 * h.val] S128x128.size (by revert j h; decide)).toLoadRect ((hs0_10 t).unread (iblk m c 10 t))
  value := View.readAt (Elt F) (ms0_0 t).view (Rect.unit (s := S512x2816) ![128 * j.val, 1792 + 128 * h.val] S128x128.size (by revert j h; decide)).toLoadRect ((hs0_0 t).unread (iblk m c 0 t))
  entering := View.readAt (Elt F) (ms0_3 t).view (Rect.unit (s := S4x4x128x128) ![j.val, h.val, 0, 0] S1x1x128x128.size (by revert j h; decide)).toLoadRect ((hs0_3 t).unread (iblk m c 3 t))
  crossDecay := View.readAt (Elt F) (ms0_17 t).view (Rect.unit (s := S128x512) ![0, 128 * h.val] S128x128.size (by revert h; decide)).toLoadRect ((hs0_17 t).unread (iblk m c 17 t))
  innerDecay := View.readAt (Elt F) (ms0_16 t).view (Rect.unit (s := S4x128x128) ![h.val, 0, 0] S1x128x128.size (by revert h; decide)).toLoadRect ((hs0_16 t).unread (iblk m c 16 t))
  scores := View.readAt (Elt F) (ms0_6 t).view (Rect.unit (s := S4x4x128x128) ![j.val, h.val, 0, 0] S1x1x128x128.size (by revert j h; decide)).toLoadRect ((hs0_6 t).unread (iblk m c 6 t))
  normed := View.readAt (Elt F) (ms0_7 t).view (Rect.unit (s := S512x512) ![128 * j.val, 128 * h.val] S128x128.size (by revert j h; decide)).toLoadRect ((hs0_7 t).unread (iblk m c 7 t))
  rstd := View.readAt (Elt F) (ms0_8 t).view (Rect.unit (s := S4x4x128x1) ![j.val, h.val, 0, 0] S1x1x128x1.size (by revert j h; decide)).toLoadRect ((hs0_8 t).unread (iblk m c 8 t))
  gateIn := View.readAt (Elt F) (ms0_0 t).view (Rect.unit (s := S512x2816) ![128 * j.val, 2304 + 128 * h.val] S128x128.size (by revert j h; decide)).toLoadRect ((hs0_0 t).unread (iblk m c 0 t))
  gate := View.readAt (Elt F) (ms0_13 t).view (Rect.unit (s := S512x512) ![128 * j.val, 128 * h.val] S128x128.size (by revert j h; decide)).toLoadRect ((hs0_13 t).unread (iblk m c 13 t))
  grad := View.readAt (Elt F) (ms0_2 t).view (Rect.unit (s := S512x1024) ![128 * j.val, 512 + 128 * h.val] S128x128.size (by revert j h; decide)).toLoadRect ((hs0_2 t).unread (iblk m c 2 t))
  writeDecay := View.readAt (Elt F) (ms0_18 t).view (Rect.unit (s := S128x512) ![0, 128 * h.val] S128x128.size (by revert h; decide)).toLoadRect ((hs0_18 t).unread (iblk m c 18 t))
  decayedKey := View.readAt (Elt F) (ms0_11 t).view (Rect.unit (s := S512x512) ![128 * j.val, 128 * h.val] S128x128.size (by revert j h; decide)).toLoadRect ((hs0_11 t).unread (iblk m c 11 t))
  stateDecay := View.readAt (Elt F) (ms0_19 t).view (Rect.unit (s := S8x512) ![0, 128 * h.val] S1x128.size (by revert h; decide)).toLoadRect ((hs0_19 t).unread (iblk m c 19 t))

/-- The signed sines of a chunk's rows. -/
def sines (j : Fin 4) : Vec F S128x128 .f32 := View.readAt (Elt F) (ms0_14 t).view (Rect.unit (s := S512x128) ![128 * j.val, 0] S128x128.size (by revert j; decide)).toLoadRect ((hs0_14 t).unread (iblk m c 14 t))
/-- The cosines of a chunk's rows. -/
def cosines (j : Fin 4) : Vec F S128x128 .f32 := View.readAt (Elt F) (ms0_15 t).view (Rect.unit (s := S512x128) ![128 * j.val, 0] S128x128.size (by revert j; decide)).toLoadRect ((hs0_15 t).unread (iblk m c 15 t))

/-- The gradient of the state that leaves chunk `j`, over the one `base` that leaves the step's last chunk. -/
def leaving (base : Fin 4 → FVec F S128x128 .f32) (j h : Fin 4) : FVec F S128x128 .f32 :=
  match j with
  | 3 => base h
  | 2 => (head m c t 3 h).stateGrad (base h)
  | 1 => (head m c t 2 h).stateGrad ((head m c t 3 h).stateGrad (base h))
  | 0 => (head m c t 1 h).stateGrad ((head m c t 2 h).stateGrad ((head m c t 3 h).stateGrad (base h)))

/-- The queries' gradient of chunk `j`. -/
def queriesOf (j : Fin 4) : FVec F S128x512 .bf16 :=
  queryStrip (sines m c t j) (cosines m c t j) (beside (head m c t j 0).queryGrad (head m c t j 1).queryGrad (head m c t j 2).queryGrad (head m c t j 3).queryGrad)
/-- The keys' gradient of chunk `j`. -/
def keysOf (base : Fin 4 → FVec F S128x128 .f32) (j : Fin 4) : FVec F S128x512 .bf16 :=
  keyStrip (sines m c t j) (cosines m c t j)
    (beside ((head m c t j 0).keyGrad (leaving m c t base j 0)) ((head m c t j 1).keyGrad (leaving m c t base j 1))
      ((head m c t j 2).keyGrad (leaving m c t base j 2)) ((head m c t j 3).keyGrad (leaving m c t base j 3)))

/-- The places of the queries' and of the keys' gradient. -/
def stripPlace (j : Fin 4) (k : Fin 2) : Rect S512x2816 := Rect.unit (s := S512x2816) ![128 * j.val, 768 + 512 * k.val] S128x512.size (by revert j k; decide)
/-- The places of the values' and of the gate's gradient of a head. -/
def tilePlace (j : Fin 4) (k : Fin 2) (h : Fin 4) : Rect S512x2816 := Rect.unit (s := S512x2816) ![128 * j.val, 1792 + 512 * k.val + 128 * h.val] S128x128.size (by revert j k h; decide)

/-- What a chunk stores at `stripPlace`. -/
def strip (base : Fin 4 → FVec F S128x128 .f32) (j : Fin 4) : Fin 2 → Vec F S128x512 .bf16
  | 0 => queriesOf m c t j
  | 1 => keysOf m c t base j
/-- What a chunk stores at `tilePlace`. -/
def tile (base : Fin 4 → FVec F S128x128 .f32) (j : Fin 4) (k : Fin 2) (h : Fin 4) : Vec F S128x128 .bf16 :=
  match k with
  | 0 => (head m c t j h).valueTile (leaving m c t base j h)
  | 1 => (head m c t j h).gateTile

/-- Piece `n` in a list of stores, and whether the newer ones leave `r` alone. -/
def pieceAt {S : Shape} {e : EltTy} (L : List (View.Piece (Elt F) S e)) (n : Nat) (r : Rect S) : Option (View.Piece (Elt F) S e) × Bool :=
  (View.Piece.nth L n, LoadRect.hitChk (L.map Sigma.fst) r.toLoadRect n)

/-- The pieces of the retention's columns that a list of stores holds for chunk `j`. -/
def retStored (L : List (View.Piece (Elt F) S512x2816 .bf16)) (j : Fin 4) : List (Option (View.Piece (Elt F) S512x2816 .bf16) × Bool) :=
  [pieceAt L (16 * j.val + 1) (stripPlace j 0), pieceAt L (16 * j.val) (stripPlace j 1),
   pieceAt L (16 * j.val + 8) (tilePlace j 0 0), pieceAt L (16 * j.val + 6) (tilePlace j 0 1), pieceAt L (16 * j.val + 4) (tilePlace j 0 2), pieceAt L (16 * j.val + 2) (tilePlace j 0 3),
   pieceAt L (16 * j.val + 9) (tilePlace j 1 0), pieceAt L (16 * j.val + 7) (tilePlace j 1 1), pieceAt L (16 * j.val + 5) (tilePlace j 1 2), pieceAt L (16 * j.val + 3) (tilePlace j 1 3)]

/-- The pieces that it should hold. -/
def retPieces (base : Fin 4 → FVec F S128x128 .f32) (j : Fin 4) : List (Option (View.Piece (Elt F) S512x2816 .bf16) × Bool) :=
  [(some ⟨stripPlace j 0, strip m c t base j 0⟩, true), (some ⟨stripPlace j 1, strip m c t base j 1⟩, true),
   (some ⟨tilePlace j 0 0, tile m c t base j 0 0⟩, true), (some ⟨tilePlace j 0 1, tile m c t base j 0 1⟩, true), (some ⟨tilePlace j 0 2, tile m c t base j 0 2⟩, true), (some ⟨tilePlace j 0 3, tile m c t base j 0 3⟩, true),
   (some ⟨tilePlace j 1 0, tile m c t base j 1 0⟩, true), (some ⟨tilePlace j 1 1, tile m c t base j 1 1⟩, true), (some ⟨tilePlace j 1 2, tile m c t base j 1 2⟩, true), (some ⟨tilePlace j 1 3, tile m c t base j 1 3⟩, true)]

/-- A place that the newer stores leave alone holds what was stored there. -/
theorem canon_of_piece {S : Shape} {e : EltTy} [∀ e, Nonempty (Elt F e)] : ∀ (L : List (View.Piece (Elt F) S e)) (n : Nat) (r : Rect S) (w : r.shape.Idx → Elt F e),
    pieceAt L n r = (some ⟨r, w⟩, true) → ∀ x, View.canon L (r.emb x) = w x
  | [], n, _, _, hn, _ => by cases n <;> cases hn
  | p :: L, 0, r, w, hn, x => by
    simp only [pieceAt, View.Piece.nth, Option.some.injEq, Prod.mk.injEq] at hn
    rw [hn.1]
    exact View.canon_cons_emb r w L x
  | p :: L, n + 1, r, w, hn, x => by
    simp only [pieceAt, View.Piece.nth, List.map_cons, LoadRect.hitChk, Prod.mk.injEq, Bool.and_eq_true] at hn
    exact (View.canon_cons_of_not_mem p L (LoadRect.idx_not_mem_of_disj hn.2.1 x)).trans (canon_of_piece L n r w (Prod.ext hn.1 hn.2.2) x)

theorem canon_of_strip (L : List (View.Piece (Elt F) S512x2816 .bf16)) (base : Fin 4 → FVec F S128x128 .f32) (j : Fin 4)
    (e : retStored L j = retPieces m c t base j) (k : Fin 2) (x : S128x512.Idx) : View.canon L ((stripPlace j k).emb x) = strip m c t base j k x := by
  simp only [retStored, retPieces, List.cons.injEq, and_true] at e
  match k with
  | 0 => exact canon_of_piece L _ (stripPlace j 0) _ e.1 x
  | 1 => exact canon_of_piece L _ (stripPlace j 1) _ e.2.1 x

theorem canon_of_tile (L : List (View.Piece (Elt F) S512x2816 .bf16)) (base : Fin 4 → FVec F S128x128 .f32) (j : Fin 4)
    (e : retStored L j = retPieces m c t base j) (k : Fin 2) (h : Fin 4) (x : S128x128.Idx) : View.canon L ((tilePlace j k h).emb x) = tile m c t base j k h x := by
  simp only [retStored, retPieces, List.cons.injEq, and_true] at e
  obtain ⟨-, -, e0, e1, e2, e3, f0, f1, f2, f3⟩ := e
  match k, h with
  | 0, 0 => exact canon_of_piece L _ (tilePlace j 0 0) _ e0 x
  | 0, 1 => exact canon_of_piece L _ (tilePlace j 0 1) _ e1 x
  | 0, 2 => exact canon_of_piece L _ (tilePlace j 0 2) _ e2 x
  | 0, 3 => exact canon_of_piece L _ (tilePlace j 0 3) _ e3 x
  | 1, 0 => exact canon_of_piece L _ (tilePlace j 1 0) _ f0 x
  | 1, 1 => exact canon_of_piece L _ (tilePlace j 1 1) _ f1 x
  | 1, 2 => exact canon_of_piece L _ (tilePlace j 1 2) _ f2 x
  | 1, 3 => exact canon_of_piece L _ (tilePlace j 1 3) _ f3 x

/-! ## The step's lists of stores -/

/-- The place of a head in the kept gradient of the state. -/
def statePlace (h : Fin 4) : Rect S4x128x128 := Rect.unit (s := S4x128x128) ![h.val, 0, 0] S1x128x128.size (by revert h; decide)

/-- The gradient of the state that the step before left, as a step loads it. -/
def stateBefore (p : Left F) (h : Fin 4) : FVec F S128x128 .f32 :=
  k0_pay6 (View.readAt (Elt F) (View.whole cc0_scratch0) (statePlace h).toLoadRect ((Memref.isWhole_whole cc0_scratch0).unread p.state))
/-- The one that the first step has just cleared. -/
def clearedState (h : Fin 4) : FVec F S128x128 .f32 :=
  k0_pay6 (scM0_0.view.readCov [(⟨Rect.unit (s := S4x128x128) ![0, 0, 0] S4x128x128.size inb_S4x128x128_S4x128x128_0_0_0, k0_pay3⟩ : View.Piece (Elt F) S4x128x128 .f32)] (statePlace h).toLoadRect)

theorem storesA_ret (h : t.val = 0) : ∀ j, retStored (storesA m c t h).1 j = retPieces m c t clearedState j
  | 0 => by sl_kernel_rfl
  | 1 => by sl_kernel_rfl
  | 2 => by sl_kernel_rfl
  | 3 => by sl_kernel_rfl

theorem storesB_ret (h0 : t.val ≠ 0) (h1 : t.val ≠ 31) (p : Left F) : ∀ j, retStored (storesB m c t h0 h1 p).1 j = retPieces m c t (stateBefore p) j
  | 0 => by sl_kernel_rfl
  | 1 => by sl_kernel_rfl
  | 2 => by sl_kernel_rfl
  | 3 => by sl_kernel_rfl

theorem storesC_ret (h : t.val = 31) (p : Left F) : ∀ j, retStored (storesC m c t h p).1 j = retPieces m c t (stateBefore p) j
  | 0 => by sl_kernel_rfl
  | 1 => by sl_kernel_rfl
  | 2 => by sl_kernel_rfl
  | 3 => by sl_kernel_rfl

/-- The gradient of the state that enters a step. -/
def handedOn (base : Fin 4 → FVec F S128x128 .f32) (h : Fin 4) : FVec F S128x128 .f32 := (head m c t 0 h).stateGrad (leaving m c t base 0 h)

/-- The four heads' pieces of the kept gradient in a list of stores. -/
def stateStored (L : List (View.Piece (Elt F) S4x128x128 .f32)) : List (Option (View.Piece (Elt F) S4x128x128 .f32) × Bool) :=
  [pieceAt L 3 (statePlace 0), pieceAt L 2 (statePlace 1), pieceAt L 1 (statePlace 2), pieceAt L 0 (statePlace 3)]
/-- What they should be. -/
def statePieces (base : Fin 4 → FVec F S128x128 .f32) : List (Option (View.Piece (Elt F) S4x128x128 .f32) × Bool) :=
  [(some ⟨statePlace 0, k0_pay561 (handedOn m c t base 0)⟩, true), (some ⟨statePlace 1, k0_pay561 (handedOn m c t base 1)⟩, true),
   (some ⟨statePlace 2, k0_pay561 (handedOn m c t base 2)⟩, true), (some ⟨statePlace 3, k0_pay561 (handedOn m c t base 3)⟩, true)]

theorem storesA_state (h : t.val = 0) : stateStored (storesA m c t h).2.2.1 = statePieces m c t clearedState := by sl_kernel_rfl
theorem storesB_state (h0 : t.val ≠ 0) (h1 : t.val ≠ 31) (p : Left F) : stateStored (storesB m c t h0 h1 p).2.2.1 = statePieces m c t (stateBefore p) := by sl_kernel_rfl

theorem canon_of_state (L : List (View.Piece (Elt F) S4x128x128 .f32)) (base : Fin 4 → FVec F S128x128 .f32)
    (e : stateStored L = statePieces m c t base) (h : Fin 4) (x : S1x128x128.Idx) : View.canon L ((statePlace h).emb x) = k0_pay561 (handedOn m c t base h) x := by
  simp only [stateStored, statePieces, List.cons.injEq, and_true] at e
  obtain ⟨e0, e1, e2, e3⟩ := e
  match h with
  | 0 => exact canon_of_piece L _ (statePlace 0) _ e0 x
  | 1 => exact canon_of_piece L _ (statePlace 1) _ e1 x
  | 2 => exact canon_of_piece L _ (statePlace 2) _ e2 x
  | 3 => exact canon_of_piece L _ (statePlace 3) _ e3 x

/-! ## What a step leaves -/

theorem first_strip (h : t.val = 0) (j : Fin 4) (k : Fin 2) (x : S128x512.Idx) : (first m c t h).dproj ((stripPlace j k).emb x) = strip m c t clearedState j k x :=
  (congrFun ((first_dproj m c t h).trans (View.read_writes_junk_eq_canon _ _)) _).trans (canon_of_strip m c t _ _ j (storesA_ret m c t h j) k x)
theorem mid_strip (h0 : t.val ≠ 0) (h1 : t.val ≠ 31) (p : Left F) (j : Fin 4) (k : Fin 2) (x : S128x512.Idx) : (mid m c t h0 h1 p).dproj ((stripPlace j k).emb x) = strip m c t (stateBefore p) j k x :=
  (congrFun ((mid_dproj m c t h0 h1 p).trans (View.read_writes_junk_eq_canon _ _)) _).trans (canon_of_strip m c t _ _ j (storesB_ret m c t h0 h1 p j) k x)
theorem last_strip (h : t.val = 31) (p : Left F) (j : Fin 4) (k : Fin 2) (x : S128x512.Idx) : (last m c t h p).dproj ((stripPlace j k).emb x) = strip m c t (stateBefore p) j k x :=
  (congrFun ((last_dproj m c t h p).trans (View.read_writes_junk_eq_canon _ _)) _).trans (canon_of_strip m c t _ _ j (storesC_ret m c t h p j) k x)
theorem first_headTile (h : t.val = 0) (j : Fin 4) (k : Fin 2) (e : Fin 4) (x : S128x128.Idx) : (first m c t h).dproj ((tilePlace j k e).emb x) = tile m c t clearedState j k e x :=
  (congrFun ((first_dproj m c t h).trans (View.read_writes_junk_eq_canon _ _)) _).trans (canon_of_tile m c t _ _ j (storesA_ret m c t h j) k e x)
theorem mid_headTile (h0 : t.val ≠ 0) (h1 : t.val ≠ 31) (p : Left F) (j : Fin 4) (k : Fin 2) (e : Fin 4) (x : S128x128.Idx) : (mid m c t h0 h1 p).dproj ((tilePlace j k e).emb x) = tile m c t (stateBefore p) j k e x :=
  (congrFun ((mid_dproj m c t h0 h1 p).trans (View.read_writes_junk_eq_canon _ _)) _).trans (canon_of_tile m c t _ _ j (storesB_ret m c t h0 h1 p j) k e x)
theorem last_headTile (h : t.val = 31) (p : Left F) (j : Fin 4) (k : Fin 2) (e : Fin 4) (x : S128x128.Idx) : (last m c t h p).dproj ((tilePlace j k e).emb x) = tile m c t (stateBefore p) j k e x :=
  (congrFun ((last_dproj m c t h p).trans (View.read_writes_junk_eq_canon _ _)) _).trans (canon_of_tile m c t _ _ j (storesC_ret m c t h p j) k e x)
theorem first_stateAt (h : t.val = 0) (e : Fin 4) (x : S1x128x128.Idx) : (first m c t h).state ((statePlace e).emb x) = k0_pay561 (handedOn m c t clearedState e) x :=
  (congrFun ((first_state m c t h).trans (View.read_writes_junk_eq_canon _ _)) _).trans (canon_of_state m c t _ _ (storesA_state m c t h) e x)
theorem mid_stateAt (h0 : t.val ≠ 0) (h1 : t.val ≠ 31) (p : Left F) (e : Fin 4) (x : S1x128x128.Idx) : (mid m c t h0 h1 p).state ((statePlace e).emb x) = k0_pay561 (handedOn m c t (stateBefore p) e) x :=
  (congrFun ((mid_state m c t h0 h1 p).trans (View.read_writes_junk_eq_canon _ _)) _).trans (canon_of_state m c t _ _ (storesB_state m c t h0 h1 p) e x)

end Cert.Kernel2Ideal.Gen

end
-- ==== Proof.RetChunk.lean ====
/- One chunk of the retention's backward pass over the arrays it reads: each of the kernel's values is the gradient that the specification names. -/
module

public import proofs.«01_k».proof.Proof.RetTile
public import proofs.«01_k».proof.Proof.RetSpec
public import Idealize.ShloMosaic.Lib.Pointwise

@[expose] public section

noncomputable section

namespace Cert.Kernel2Ideal.Gen

open Cert.Proof Cert.Proof.Ret Idealize.ShloMosaic Idealize.ShloMosaic.TcCoe

/-- What a head reads, in terms of the projection and of the result's gradient. -/
structure HeadReads (H : Head Ideal) (x : Proj) (y : Mixed) (n : Fin 128) (h : Fin 4) : Prop where
  query : ∀ r d : Fin 128, H.query (ix2 r d) = Q x n h r d
  key : ∀ r d : Fin 128, H.key (ix2 r d) = K x n h r d
  value : ∀ r d : Fin 128, H.value (ix2 r d) = W x n h r d
  entering : ∀ d e : Fin 128, H.entering (ix4 0 0 d e) = entering x n h d e
  crossDecay : ∀ r d : Fin 128, H.crossDecay (ix2 r d) = cross r h
  innerDecay : ∀ i j : Fin 128, H.innerDecay (ix3 0 i j) = inner h i j
  scores : ∀ i j : Fin 128, H.scores (ix4 0 0 i j) = score x n h i j
  normed : ∀ r e : Fin 128, H.normed (ix2 r e) = normedRow (out x n h r) e
  rstd : ∀ r : Fin 128, H.rstd (ix4 0 0 r 0) = invDev (out x n h r)
  gateIn : ∀ r e : Fin 128, H.gateIn (ix2 r e) = G x n h r e
  gate : ∀ r e : Fin 128, H.gate (ix2 r e) = Ret.sig x n h r e
  grad : ∀ r e : Fin 128, H.grad (ix2 r e) = dr y n h r e
  writeDecay : ∀ r d : Fin 128, H.writeDecay (ix2 r d) = enter r h
  decayedKey : ∀ r d : Fin 128, H.decayedKey (ix2 r d) = K x n h r d * enter r h
  stateDecay : ∀ d : Fin 128, H.stateDecay (ix2 0 d) = chunkDecay h

namespace HeadReads

variable {H : Head Ideal} {x : Proj} {y : Mixed} {n : Fin 128} {h : Fin 4} (R : HeadReads H x y n h)
include R

theorem gateTile (r e : Fin 128) : H.gateTile (ix2 r e) = dGate x y n h r e := by
  unfold Head.gateTile
  pointwise [k0_pay72, k0_pay71, k0_pay70, k0_pay69, R.normed, R.gateIn, R.gate, R.grad]
  rfl

theorem outGrad (r e : Fin 128) : H.outGrad (ix2 r e) = dOut x y n h r e := by
  unfold Head.outGrad
  pointwise [k0_pay73, k0_pay71, k0_pay70, k0_pay69, R.normed, R.gateIn, R.gate, R.grad, R.rstd]
  rfl

theorem outGradShort (r e : Fin 128) : H.outGradShort (ix2 r e) = dOut x y n h r e := R.outGrad r e

theorem queryGrad (r d : Fin 128) : H.queryGrad (ix2 r d) = dQ x y n h r d := by
  unfold Head.queryGrad
  pointwise [k0_pay77, k0_pay76, k0_pay75, k0_pay62, k0_pay63, k0_pay64, k0_pay66, k0_pay67, R.key, R.value, R.entering, R.crossDecay, R.innerDecay, R.outGrad, R.outGradShort]
  rfl

variable {s : FVec Ideal S128x128 .f32} (hs : ∀ d e : Fin 128, s (ix2 d e) = dAdded x y n h d e)
include hs

theorem keyGrad (r d : Fin 128) : H.keyGrad s (ix2 r d) = dK x y n h r d := by
  unfold Head.keyGrad
  pointwise [k0_pay78, k0_pay76, k0_pay61, k0_pay63, k0_pay65, k0_pay67, R.query, R.value, R.innerDecay, R.outGradShort, R.writeDecay, hs]
  rfl

theorem valueTile (r e : Fin 128) : H.valueTile s (ix2 r e) = dW x y n h r e := by
  unfold Head.valueTile
  pointwise [k0_pay79, k0_pay65, k0_pay68, R.scores, R.outGradShort, R.decayedKey, hs]
  rfl

theorem stateGrad (d e : Fin 128) : H.stateGrad s (ix2 d e) = chunkDecay h * dAdded x y n h d e + dRead x y n h d e := by
  unfold Head.stateGrad
  pointwise [k0_pay80, k0_pay75, k0_pay61, k0_pay66, R.query, R.crossDecay, R.outGrad, R.stateDecay, hs]
  rfl

end HeadReads

/-! ## The rotation taken back -/

theorem beside_at (f : Fin 4 → FVec Ideal S128x128 .f32) (r : Fin 128) (l : Fin 512) :
    beside (f 0) (f 1) (f 2) (f 3) (ix2 r l) = f ⟨l.val / 128, by omega⟩ (ix2 r ⟨l.val % 128, by omega⟩) := by
  have hl := l.isLt
  have key : ∀ (a : Fin 4) (b : Fin 128) (k : ℕ), a.val = k → k = l.val / 128 → b.val = l.val % 128 → f a (ix2 r b) = f ⟨l.val / 128, by omega⟩ (ix2 r ⟨l.val % 128, by omega⟩) :=
    fun a b k h0 h1 h2 => congrArg₂ (fun a b => f a (ix2 r b)) (Fin.ext (h0.trans h1)) (Fin.ext h2)
  unfold beside
  pointwise
  by_cases h0 : l.val < 128
  · rw [dif_pos h0]
    exact key 0 _ 0 rfl (by omega) (by dsimp only; omega)
  · rw [dif_neg h0]
    by_cases h1 : l.val - 128 < 128
    · rw [dif_pos h1]
      exact key 1 _ 1 rfl (by omega) (by dsimp only; omega)
    · rw [dif_neg h1]
      by_cases h2 : l.val - 128 - 128 < 128
      · rw [dif_pos h2]
        exact key 2 _ 2 rfl (by omega) (by dsimp only; omega)
      · rw [dif_neg h2]
        exact key 3 _ 3 rfl (by omega) (by dsimp only; omega)

theorem four_at (v : Vec Ideal S128x128 .f32) (r : Fin 128) (l : Fin 512) : k0_pay60 (F := Ideal) v (ix2 r l) = v (ix2 r ⟨l.val % 128, by omega⟩) := by
  have e : shapeCast S128x128 v shapeCasts_S128x128_S128x128 = v := by funext i; pointwise
  unfold k0_pay60
  rw [e]
  exact beside_at (fun _ => v) r l

theorem four_at' (v : Vec Ideal S128x128 .f32) (r : Fin 128) (l : Fin 512) : k0_pay59 (F := Ideal) v (ix2 r l) = v (ix2 r ⟨l.val % 128, by omega⟩) := four_at v r l

theorem even_at (r : Fin 128) (l : Fin 512) : k0_pay11 (ix2 r l) = if l.val % 2 = 0 then 1#1 else 0#1 := by
  have k : ∀ l : Fin 512, k0_pay11 (ix2 0 l) = if l.val % 2 = 0 then 1#1 else 0#1 := by decide +kernel
  exact (show k0_pay11 (ix2 r l) = k0_pay11 (ix2 0 l) from rfl).trans (k l)

/-- The lanes of a pair swapped. -/
theorem swapped_at (v : FVec Ideal S128x512 .f32) (f : Fin 4 → Fin 128 → EReal) (r : Fin 128) (hv : ∀ l : Fin 512, v (ix2 r l) = f ⟨l.val / 128, by omega⟩ ⟨l.val % 128, by omega⟩) (l : Fin 512) :
    select k0_pay11 (dynamicRotate 1 511#32 none v rotates_S128x512_d1) (dynamicRotate 1 1#32 none v rotates_S128x512_d1) (ix2 r l) = f ⟨l.val / 128, by omega⟩ (partner ⟨l.val % 128, by omega⟩) := by
  have p := partner_val ⟨l.val % 128, by omega⟩
  pointwise [even_at, hv]
  by_cases q : l.val % 2 = 0
  · rw [if_pos (by show l.val % 128 % 2 = 0; omega)] at p
    rw [if_pos q]
    refine (if_pos rfl).trans ?_
    exact congrArg₂ f (Fin.ext (by dsimp only; omega)) (Fin.ext (by rw [p]; dsimp only; omega))
  · rw [if_neg (by show ¬ l.val % 128 % 2 = 0; omega)] at p
    rw [if_neg q]
    refine (if_neg (by decide)).trans ?_
    exact congrArg₂ f (Fin.ext (by dsimp only; omega)) (Fin.ext (by rw [p]; dsimp only; omega))

theorem unrotate_at (s c : Vec Ideal S128x128 .f32) (v : FVec Ideal S128x512 .f32) (f : Fin 4 → Fin 128 → EReal) (r : Fin 128) (k : Fin 16384)
    (hs : ∀ d : Fin 128, s (ix2 r d) = sine k d * if d.val % 2 = 0 then -1 else 1) (hc : ∀ d : Fin 128, c (ix2 r d) = cosine k d)
    (hv : ∀ l : Fin 512, v (ix2 r l) = f ⟨l.val / 128, by omega⟩ ⟨l.val % 128, by omega⟩) (l : Fin 512) :
    unrotate s c v (ix2 r l) = unrotated (f ⟨l.val / 128, by omega⟩) k ⟨l.val % 128, by omega⟩ := by
  show v (ix2 r l) * k0_pay60 (F := Ideal) c (ix2 r l) - select k0_pay11 (dynamicRotate 1 511#32 none v rotates_S128x512_d1) (dynamicRotate 1 1#32 none v rotates_S128x512_d1) (ix2 r l) * k0_pay59 (F := Ideal) s (ix2 r l) = _
  rw [four_at, four_at', swapped_at v f r hv, hv, hs, hc]
  unfold unrotated
  rw [sub_eq_add_neg, add_comm]
  refine congrArg₂ (fun a b : EReal => a + b) ?_ rfl
  by_cases q : (⟨l.val % 128, by omega⟩ : Fin 128).val % 2 = 0
  · rw [if_pos q, if_pos q, mul_neg, mul_one, mul_neg, neg_neg]
  · rw [if_neg q, if_neg q, mul_one]

theorem queryStrip_at (s c : Vec Ideal S128x128 .f32) (v : FVec Ideal S128x512 .f32) (f : Fin 4 → Fin 128 → EReal) (r : Fin 128) (k : Fin 16384)
    (hs : ∀ d : Fin 128, s (ix2 r d) = sine k d * if d.val % 2 = 0 then -1 else 1) (hc : ∀ d : Fin 128, c (ix2 r d) = cosine k d)
    (hv : ∀ l : Fin 512, v (ix2 r l) = f ⟨l.val / 128, by omega⟩ ⟨l.val % 128, by omega⟩) (l : Fin 512) :
    queryStrip s c v (ix2 r l) = unrotated (f ⟨l.val / 128, by omega⟩) k ⟨l.val % 128, by omega⟩ := unrotate_at s c v f r k hs hc hv l

theorem keyStrip_at (s c : Vec Ideal S128x128 .f32) (v : FVec Ideal S128x512 .f32) (f : Fin 4 → Fin 128 → EReal) (r : Fin 128) (k : Fin 16384)
    (hs : ∀ d : Fin 128, s (ix2 r d) = sine k d * if d.val % 2 = 0 then -1 else 1) (hc : ∀ d : Fin 128, c (ix2 r d) = cosine k d)
    (hv : ∀ l : Fin 512, v (ix2 r l) = f ⟨l.val / 128, by omega⟩ ⟨l.val % 128, by omega⟩) (l : Fin 512) :
    keyStrip s c v (ix2 r l) = unrotated (f ⟨l.val / 128, by omega⟩) k ⟨l.val % 128, by omega⟩ * scale := by
  rw [← unrotate_at s c v f r k hs hc hv l]
  exact mul_comm _ _

end Cert.Kernel2Ideal.Gen

end
-- ==== Proof.RetBlocks.lean ====
/- What a head of the retention loads in a chunk of the backward call, at an index, as functions of the arrays that the program is given. -/
module

public import proofs.«01_k».proof.Proof.RetStates
public import proofs.«01_k».proof.Proof.RetChunk
public import proofs.«01_k».proof.Proof.MixBlocks

@[expose] public section

noncomputable section

namespace Cert.Kernel2Ideal.Gen

open Cert.Kernel2Ideal Cert.Proof Cert.Proof.Ret Idealize.ShloMosaic Idealize.ShloMosaic.TcCoe Idealize.SL.Sem

variable (m : (ℓ : Loc nD τ sig) → Buf (Elt Ideal) ℓ) (c : Dev nD) (t : Fin cfg0.N)

theorem idx7 : ∀ t : Fin cfg0.N, win0_7.index t 0 = 31 - t.val ∧ win0_7.index t 1 = 0 :=
  (by decide +kernel : ∀ t : Fin grid0.N, win0_7.index t 0 = 31 - t.val ∧ win0_7.index t 1 = 0)
theorem idx9 : ∀ t : Fin cfg0.N, win0_9.index t 0 = 31 - t.val ∧ win0_9.index t 1 = 0 :=
  (by decide +kernel : ∀ t : Fin grid0.N, win0_9.index t 0 = 31 - t.val ∧ win0_9.index t 1 = 0)
theorem idx10 : ∀ t : Fin cfg0.N, win0_10.index t 0 = 31 - t.val ∧ win0_10.index t 1 = 0 :=
  (by decide +kernel : ∀ t : Fin grid0.N, win0_10.index t 0 = 31 - t.val ∧ win0_10.index t 1 = 0)
theorem idx11 : ∀ t : Fin cfg0.N, win0_11.index t 0 = 31 - t.val ∧ win0_11.index t 1 = 0 :=
  (by decide +kernel : ∀ t : Fin grid0.N, win0_11.index t 0 = 31 - t.val ∧ win0_11.index t 1 = 0)
theorem idx13 : ∀ t : Fin cfg0.N, win0_13.index t 0 = 31 - t.val ∧ win0_13.index t 1 = 0 :=
  (by decide +kernel : ∀ t : Fin grid0.N, win0_13.index t 0 = 31 - t.val ∧ win0_13.index t 1 = 0)
theorem idx14 : ∀ t : Fin cfg0.N, win0_14.index t 0 = 31 - t.val ∧ win0_14.index t 1 = 0 :=
  (by decide +kernel : ∀ t : Fin grid0.N, win0_14.index t 0 = 31 - t.val ∧ win0_14.index t 1 = 0)
theorem idx15 : ∀ t : Fin cfg0.N, win0_15.index t 0 = 31 - t.val ∧ win0_15.index t 1 = 0 :=
  (by decide +kernel : ∀ t : Fin grid0.N, win0_15.index t 0 = 31 - t.val ∧ win0_15.index t 1 = 0)
theorem idx3 : ∀ t : Fin cfg0.N, win0_3.index t 0 = 31 - t.val ∧ win0_3.index t 1 = 0 ∧ win0_3.index t 2 = 0 ∧ win0_3.index t 3 = 0 :=
  (by decide +kernel : ∀ t : Fin grid0.N, win0_3.index t 0 = 31 - t.val ∧ win0_3.index t 1 = 0 ∧ win0_3.index t 2 = 0 ∧ win0_3.index t 3 = 0)
theorem idx6 : ∀ t : Fin cfg0.N, win0_6.index t 0 = 31 - t.val ∧ win0_6.index t 1 = 0 ∧ win0_6.index t 2 = 0 ∧ win0_6.index t 3 = 0 :=
  (by decide +kernel : ∀ t : Fin grid0.N, win0_6.index t 0 = 31 - t.val ∧ win0_6.index t 1 = 0 ∧ win0_6.index t 2 = 0 ∧ win0_6.index t 3 = 0)
theorem idx8 : ∀ t : Fin cfg0.N, win0_8.index t 0 = 31 - t.val ∧ win0_8.index t 1 = 0 ∧ win0_8.index t 2 = 0 ∧ win0_8.index t 3 = 0 :=
  (by decide +kernel : ∀ t : Fin grid0.N, win0_8.index t 0 = 31 - t.val ∧ win0_8.index t 1 = 0 ∧ win0_8.index t 2 = 0 ∧ win0_8.index t 3 = 0)
theorem idx16 : ∀ t : Fin cfg0.N, win0_16.index t 0 = 0 ∧ win0_16.index t 1 = 0 ∧ win0_16.index t 2 = 0 :=
  (by decide +kernel : ∀ t : Fin grid0.N, win0_16.index t 0 = 0 ∧ win0_16.index t 1 = 0 ∧ win0_16.index t 2 = 0)
theorem idx17 : ∀ t : Fin cfg0.N, win0_17.index t 0 = 0 ∧ win0_17.index t 1 = 0 :=
  (by decide +kernel : ∀ t : Fin grid0.N, win0_17.index t 0 = 0 ∧ win0_17.index t 1 = 0)
theorem idx18 : ∀ t : Fin cfg0.N, win0_18.index t 0 = 0 ∧ win0_18.index t 1 = 0 :=
  (by decide +kernel : ∀ t : Fin grid0.N, win0_18.index t 0 = 0 ∧ win0_18.index t 1 = 0)
theorem idx19 : ∀ t : Fin cfg0.N, win0_19.index t 0 = 0 ∧ win0_19.index t 1 = 0 :=
  (by decide +kernel : ∀ t : Fin grid0.N, win0_19.index t 0 = 0 ∧ win0_19.index t 1 = 0)

/-- A lane of a head in a strip. -/
def headLane (h : Fin 4) (d : Fin 128) : Fin 512 := ⟨128 * h.val + d.val, by omega⟩
theorem headLane_div (h : Fin 4) (d : Fin 128) : (⟨(headLane h d).val / 128, by omega⟩ : Fin 4) = h := Fin.ext (by simp only [headLane]; omega)
theorem headLane_mod (h : Fin 4) (d : Fin 128) : (⟨(headLane h d).val % 128, by omega⟩ : Fin 128) = d := Fin.ext (by simp only [headLane]; omega)
/-- A row of a chunk in a step's block. -/
def rowIn (j : Fin 4) (r : Fin 128) : Fin 512 := ⟨128 * j.val + r.val, by omega⟩

/-! ## The blocks -/

theorem read7 (X : Vec Ideal S16384x512 .f32) (j : Fin 4) (r : Fin 128) (l : Fin 512) :
    (((cfg0.win 7).blk t).view.read (Elt Ideal) X : Vec Ideal S512x512 .f32) (ix2 (rowIn j r) l) = X (ix2 (pos (chunk t j) r) l) := by
  rw [View.read_apply]
  show X _ = X _
  congr 1
  funext a
  apply Fin.ext
  match a with
  | ⟨0, _⟩ => show win0_7.index t 0 * 512 + 1 * (128 * j.val + r.val) = (4 * (31 - t.val) + j.val) * 128 + r.val; rw [(idx7 t).1]; omega
  | ⟨1, _⟩ => show win0_7.index t 1 * 512 + 1 * l.val = l.val; rw [(idx7 t).2]; omega

theorem read9 (X : Vec Ideal S16384x512 .bf16) (j : Fin 4) (r : Fin 128) (l : Fin 512) :
    (((cfg0.win 9).blk t).view.read (Elt Ideal) X : Vec Ideal S512x512 .bf16) (ix2 (rowIn j r) l) = X (ix2 (pos (chunk t j) r) l) := by
  rw [View.read_apply]
  show X _ = X _
  congr 1
  funext a
  apply Fin.ext
  match a with
  | ⟨0, _⟩ => show win0_9.index t 0 * 512 + 1 * (128 * j.val + r.val) = (4 * (31 - t.val) + j.val) * 128 + r.val; rw [(idx9 t).1]; omega
  | ⟨1, _⟩ => show win0_9.index t 1 * 512 + 1 * l.val = l.val; rw [(idx9 t).2]; omega

theorem read10 (X : Vec Ideal S16384x512 .bf16) (j : Fin 4) (r : Fin 128) (l : Fin 512) :
    (((cfg0.win 10).blk t).view.read (Elt Ideal) X : Vec Ideal S512x512 .bf16) (ix2 (rowIn j r) l) = X (ix2 (pos (chunk t j) r) l) := by
  rw [View.read_apply]
  show X _ = X _
  congr 1
  funext a
  apply Fin.ext
  match a with
  | ⟨0, _⟩ => show win0_10.index t 0 * 512 + 1 * (128 * j.val + r.val) = (4 * (31 - t.val) + j.val) * 128 + r.val; rw [(idx10 t).1]; omega
  | ⟨1, _⟩ => show win0_10.index t 1 * 512 + 1 * l.val = l.val; rw [(idx10 t).2]; omega

theorem read11 (X : Vec Ideal S16384x512 .bf16) (j : Fin 4) (r : Fin 128) (l : Fin 512) :
    (((cfg0.win 11).blk t).view.read (Elt Ideal) X : Vec Ideal S512x512 .bf16) (ix2 (rowIn j r) l) = X (ix2 (pos (chunk t j) r) l) := by
  rw [View.read_apply]
  show X _ = X _
  congr 1
  funext a
  apply Fin.ext
  match a with
  | ⟨0, _⟩ => show win0_11.index t 0 * 512 + 1 * (128 * j.val + r.val) = (4 * (31 - t.val) + j.val) * 128 + r.val; rw [(idx11 t).1]; omega
  | ⟨1, _⟩ => show win0_11.index t 1 * 512 + 1 * l.val = l.val; rw [(idx11 t).2]; omega

theorem read13 (X : Vec Ideal S16384x512 .f32) (j : Fin 4) (r : Fin 128) (l : Fin 512) :
    (((cfg0.win 13).blk t).view.read (Elt Ideal) X : Vec Ideal S512x512 .f32) (ix2 (rowIn j r) l) = X (ix2 (pos (chunk t j) r) l) := by
  rw [View.read_apply]
  show X _ = X _
  congr 1
  funext a
  apply Fin.ext
  match a with
  | ⟨0, _⟩ => show win0_13.index t 0 * 512 + 1 * (128 * j.val + r.val) = (4 * (31 - t.val) + j.val) * 128 + r.val; rw [(idx13 t).1]; omega
  | ⟨1, _⟩ => show win0_13.index t 1 * 512 + 1 * l.val = l.val; rw [(idx13 t).2]; omega

theorem read14 (X : Vec Ideal S16384x128 .f32) (j : Fin 4) (r : Fin 128) (l : Fin 128) :
    (((cfg0.win 14).blk t).view.read (Elt Ideal) X : Vec Ideal S512x128 .f32) (ix2 (rowIn j r) l) = X (ix2 (pos (chunk t j) r) l) := by
  rw [View.read_apply]
  show X _ = X _
  congr 1
  funext a
  apply Fin.ext
  match a with
  | ⟨0, _⟩ => show win0_14.index t 0 * 512 + 1 * (128 * j.val + r.val) = (4 * (31 - t.val) + j.val) * 128 + r.val; rw [(idx14 t).1]; omega
  | ⟨1, _⟩ => show win0_14.index t 1 * 128 + 1 * l.val = l.val; rw [(idx14 t).2]; omega

theorem read15 (X : Vec Ideal S16384x128 .f32) (j : Fin 4) (r : Fin 128) (l : Fin 128) :
    (((cfg0.win 15).blk t).view.read (Elt Ideal) X : Vec Ideal S512x128 .f32) (ix2 (rowIn j r) l) = X (ix2 (pos (chunk t j) r) l) := by
  rw [View.read_apply]
  show X _ = X _
  congr 1
  funext a
  apply Fin.ext
  match a with
  | ⟨0, _⟩ => show win0_15.index t 0 * 512 + 1 * (128 * j.val + r.val) = (4 * (31 - t.val) + j.val) * 128 + r.val; rw [(idx15 t).1]; omega
  | ⟨1, _⟩ => show win0_15.index t 1 * 128 + 1 * l.val = l.val; rw [(idx15 t).2]; omega

theorem read3 (X : Vec Ideal S128x4x128x128 .f32) (j h : Fin 4) (d e : Fin 128) :
    (((cfg0.win 3).blk t).view.read (Elt Ideal) X : Vec Ideal S4x4x128x128 .f32) (ix4 j h d e) = X (ix4 (chunk t j) h d e) := by
  rw [View.read_apply]
  show X _ = X _
  congr 1
  funext a
  apply Fin.ext
  match a with
  | ⟨0, _⟩ => show win0_3.index t 0 * 4 + 1 * j.val = 4 * (31 - t.val) + j.val; rw [(idx3 t).1]; omega
  | ⟨1, _⟩ => show win0_3.index t 1 * 4 + 1 * h.val = h.val; rw [(idx3 t).2.1]; omega
  | ⟨2, _⟩ => show win0_3.index t 2 * 128 + 1 * d.val = d.val; rw [(idx3 t).2.2.1]; omega
  | ⟨3, _⟩ => show win0_3.index t 3 * 128 + 1 * e.val = e.val; rw [(idx3 t).2.2.2]; omega

theorem read6 (X : Vec Ideal S128x4x128x128 .bf16) (j h : Fin 4) (d e : Fin 128) :
    (((cfg0.win 6).blk t).view.read (Elt Ideal) X : Vec Ideal S4x4x128x128 .bf16) (ix4 j h d e) = X (ix4 (chunk t j) h d e) := by
  rw [View.read_apply]
  show X _ = X _
  congr 1
  funext a
  apply Fin.ext
  match a with
  | ⟨0, _⟩ => show win0_6.index t 0 * 4 + 1 * j.val = 4 * (31 - t.val) + j.val; rw [(idx6 t).1]; omega
  | ⟨1, _⟩ => show win0_6.index t 1 * 4 + 1 * h.val = h.val; rw [(idx6 t).2.1]; omega
  | ⟨2, _⟩ => show win0_6.index t 2 * 128 + 1 * d.val = d.val; rw [(idx6 t).2.2.1]; omega
  | ⟨3, _⟩ => show win0_6.index t 3 * 128 + 1 * e.val = e.val; rw [(idx6 t).2.2.2]; omega

theorem read8 (X : Vec Ideal S128x4x128x1 .f32) (j h : Fin 4) (d : Fin 128) :
    (((cfg0.win 8).blk t).view.read (Elt Ideal) X : Vec Ideal S4x4x128x1 .f32) (ix4 j h d 0) = X (ix4 (chunk t j) h d 0) := by
  rw [View.read_apply]
  show X _ = X _
  congr 1
  funext a
  apply Fin.ext
  match a with
  | ⟨0, _⟩ => show win0_8.index t 0 * 4 + 1 * j.val = 4 * (31 - t.val) + j.val; rw [(idx8 t).1]; omega
  | ⟨1, _⟩ => show win0_8.index t 1 * 4 + 1 * h.val = h.val; rw [(idx8 t).2.1]; omega
  | ⟨2, _⟩ => show win0_8.index t 2 * 128 + 1 * d.val = d.val; rw [(idx8 t).2.2.1]; omega
  | ⟨3, _⟩ => show win0_8.index t 3 * 1 + 1 * 0 = 0; rw [(idx8 t).2.2.2]

theorem read16 (X : Vec Ideal S4x128x128 .f32) (h : Fin 4) (i j : Fin 128) :
    (((cfg0.win 16).blk t).view.read (Elt Ideal) X : Vec Ideal S4x128x128 .f32) (ix3 h i j) = X (ix3 h i j) := by
  rw [View.read_apply]
  show X _ = X _
  congr 1
  funext a
  apply Fin.ext
  match a with
  | ⟨0, _⟩ => show win0_16.index t 0 * 4 + 1 * h.val = h.val; rw [(idx16 t).1]; omega
  | ⟨1, _⟩ => show win0_16.index t 1 * 128 + 1 * i.val = i.val; rw [(idx16 t).2.1]; omega
  | ⟨2, _⟩ => show win0_16.index t 2 * 128 + 1 * j.val = j.val; rw [(idx16 t).2.2]; omega

theorem read17 (X : Vec Ideal S128x512 .f32) (r : Fin 128) (l : Fin 512) :
    (((cfg0.win 17).blk t).view.read (Elt Ideal) X : Vec Ideal S128x512 .f32) (ix2 r l) = X (ix2 r l) := by
  rw [View.read_apply]
  show X _ = X _
  congr 1
  funext a
  apply Fin.ext
  match a with
  | ⟨0, _⟩ => show win0_17.index t 0 * 128 + 1 * r.val = r.val; rw [(idx17 t).1]; omega
  | ⟨1, _⟩ => show win0_17.index t 1 * 512 + 1 * l.val = l.val; rw [(idx17 t).2]; omega

theorem read18 (X : Vec Ideal S128x512 .f32) (r : Fin 128) (l : Fin 512) :
    (((cfg0.win 18).blk t).view.read (Elt Ideal) X : Vec Ideal S128x512 .f32) (ix2 r l) = X (ix2 r l) := by
  rw [View.read_apply]
  show X _ = X _
  congr 1
  funext a
  apply Fin.ext
  match a with
  | ⟨0, _⟩ => show win0_18.index t 0 * 128 + 1 * r.val = r.val; rw [(idx18 t).1]; omega
  | ⟨1, _⟩ => show win0_18.index t 1 * 512 + 1 * l.val = l.val; rw [(idx18 t).2]; omega

theorem read19 (X : Vec Ideal S8x512 .f32) (r : Fin 8) (l : Fin 512) :
    (((cfg0.win 19).blk t).view.read (Elt Ideal) X : Vec Ideal S8x512 .f32) (ix2 r l) = X (ix2 r l) := by
  rw [View.read_apply]
  show X _ = X _
  congr 1
  funext a
  apply Fin.ext
  match a with
  | ⟨0, _⟩ => show win0_19.index t 0 * 8 + 1 * r.val = r.val; rw [(idx19 t).1]; omega
  | ⟨1, _⟩ => show win0_19.index t 1 * 512 + 1 * l.val = l.val; rw [(idx19 t).2]; omega

/-! ## The loads -/

/-- A head's rows and columns in a strip. -/
theorem load_head {e : EltTy} {M : Memref sig .tc .vmem S512x512 e} (hM : M.IsWhole) (X : Vec Ideal S512x512 e) (j h : Fin 4) (inb : ∀ a, (![128 * j.val, 128 * h.val] : Fin 2 → Nat) a + S128x128.size a ≤ S512x512.size a) (r d : Fin 128) :
    (View.readAt (Elt Ideal) M.view (Rect.unit (s := S512x512) ![128 * j.val, 128 * h.val] S128x128.size inb).toLoadRect (hM.unread X) : Vec Ideal S128x128 e) (ix2 r d) = X (ix2 (rowIn j r) (headLane h d)) :=
  load_at hM X _ _ _ (ix2 r d) (ix2 (rowIn j r) (headLane h d)) fun a => match a with | ⟨0, _⟩ => rfl | ⟨1, _⟩ => rfl

/-- A head of a chunk. -/
theorem load_square {e : EltTy} {M : Memref sig .tc .vmem S4x4x128x128 e} (hM : M.IsWhole) (X : Vec Ideal S4x4x128x128 e) (j h : Fin 4) (inb : ∀ a, (![j.val, h.val, 0, 0] : Fin 4 → Nat) a + S1x1x128x128.size a ≤ S4x4x128x128.size a) (r d : Fin 128) :
    (View.readAt (Elt Ideal) M.view (Rect.unit (s := S4x4x128x128) ![j.val, h.val, 0, 0] S1x1x128x128.size inb).toLoadRect (hM.unread X) : Vec Ideal S1x1x128x128 e) (ix4 0 0 r d) = X (ix4 j h r d) :=
  load_at hM X _ _ _ (ix4 0 0 r d) (ix4 j h r d) fun a => match a with | ⟨0, _⟩ => rfl | ⟨1, _⟩ => rfl | ⟨2, _⟩ => (Nat.zero_add _).symm | ⟨3, _⟩ => (Nat.zero_add _).symm

/-- A head's columns of a table. -/
theorem load_table {M : Memref sig .tc .vmem S128x512 .f32} (hM : M.IsWhole) (X : Vec Ideal S128x512 .f32) (h : Fin 4) (inb : ∀ a, (![0, 128 * h.val] : Fin 2 → Nat) a + S128x128.size a ≤ S128x512.size a) (r d : Fin 128) :
    (View.readAt (Elt Ideal) M.view (Rect.unit (s := S128x512) ![0, 128 * h.val] S128x128.size inb).toLoadRect (hM.unread X) : Vec Ideal S128x128 .f32) (ix2 r d) = X (ix2 r (headLane h d)) :=
  load_at hM X _ _ _ (ix2 r d) (ix2 r (headLane h d)) fun a => match a with | ⟨0, _⟩ => (Nat.zero_add _).symm | ⟨1, _⟩ => rfl

/-- A chunk's rows of an angle's table. -/
theorem load_angle {M : Memref sig .tc .vmem S512x128 .f32} (hM : M.IsWhole) (X : Vec Ideal S512x128 .f32) (j : Fin 4) (inb : ∀ a, (![128 * j.val, 0] : Fin 2 → Nat) a + S128x128.size a ≤ S512x128.size a) (r d : Fin 128) :
    (View.readAt (Elt Ideal) M.view (Rect.unit (s := S512x128) ![128 * j.val, 0] S128x128.size inb).toLoadRect (hM.unread X) : Vec Ideal S128x128 .f32) (ix2 r d) = X (ix2 (rowIn j r) d) :=
  load_at hM X _ _ _ (ix2 r d) (ix2 (rowIn j r) d) fun a => match a with | ⟨0, _⟩ => rfl | ⟨1, _⟩ => (Nat.zero_add _).symm

/-- A head's square of a table. -/
theorem load_between {M : Memref sig .tc .vmem S4x128x128 .f32} (hM : M.IsWhole) (X : Vec Ideal S4x128x128 .f32) (h : Fin 4) (inb : ∀ a, (![h.val, 0, 0] : Fin 3 → Nat) a + S1x128x128.size a ≤ S4x128x128.size a) (i k : Fin 128) :
    (View.readAt (Elt Ideal) M.view (Rect.unit (s := S4x128x128) ![h.val, 0, 0] S1x128x128.size inb).toLoadRect (hM.unread X) : Vec Ideal S1x128x128 .f32) (ix3 0 i k) = X (ix3 h i k) :=
  load_at hM X _ _ _ (ix3 0 i k) (ix3 h i k) fun a => match a with | ⟨0, _⟩ => rfl | ⟨1, _⟩ => (Nat.zero_add _).symm | ⟨2, _⟩ => (Nat.zero_add _).symm

/-- A head's column of a chunk. -/
theorem load_column {M : Memref sig .tc .vmem S4x4x128x1 .f32} (hM : M.IsWhole) (X : Vec Ideal S4x4x128x1 .f32) (j h : Fin 4) (inb : ∀ a, (![j.val, h.val, 0, 0] : Fin 4 → Nat) a + S1x1x128x1.size a ≤ S4x4x128x1.size a) (r : Fin 128) :
    (View.readAt (Elt Ideal) M.view (Rect.unit (s := S4x4x128x1) ![j.val, h.val, 0, 0] S1x1x128x1.size inb).toLoadRect (hM.unread X) : Vec Ideal S1x1x128x1 .f32) (ix4 0 0 r 0) = X (ix4 j h r 0) :=
  load_at hM X _ _ _ (ix4 0 0 r 0) (ix4 j h r 0) fun a => match a with | ⟨0, _⟩ => rfl | ⟨1, _⟩ => rfl | ⟨2, _⟩ => (Nat.zero_add _).symm | ⟨3, _⟩ => (Nat.zero_add _).symm

/-- A head's lanes of the first row of a table. -/
theorem load_first {M : Memref sig .tc .vmem S8x512 .f32} (hM : M.IsWhole) (X : Vec Ideal S8x512 .f32) (h : Fin 4) (inb : ∀ a, (![0, 128 * h.val] : Fin 2 → Nat) a + S1x128.size a ≤ S8x512.size a) (d : Fin 128) :
    (View.readAt (Elt Ideal) M.view (Rect.unit (s := S8x512) ![0, 128 * h.val] S1x128.size inb).toLoadRect (hM.unread X) : Vec Ideal S1x128 .f32) (ix2 0 d) = X (ix2 0 (headLane h d)) :=
  load_at hM X _ _ _ (ix2 0 d) (ix2 0 (headLane h d)) fun a => match a with | ⟨0, _⟩ => rfl | ⟨1, _⟩ => rfl

theorem proj_row (j : Fin 4) (r : Fin 128) (k : Fin 2816) : (iblk m c 0 t : Vec Ideal S512x2816 .f32) (ix2 (rowIn j r) k) = projOf m c (ix2 (pos (chunk t j) r) k) := by
  rw [blk_proj]
  exact congrArg (projOf m c) (congrArg (ix2 · _) (Fin.ext (by simp only [pos, chunk, rowIn]; omega)))

theorem mixed_row (j : Fin 4) (r : Fin 128) (k : Fin 1024) : (iblk m c 2 t : Vec Ideal S512x1024 .bf16) (ix2 (rowIn j r) k) = mixedOf m c (ix2 (pos (chunk t j) r) k) := by
  rw [blk_dmix]
  exact congrArg (mixedOf m c) (congrArg (ix2 · _) (Fin.ext (by simp only [pos, chunk, rowIn]; omega)))

set_option maxHeartbeats 2000000 in
/-- A head reads what the gradient of the retention is of. -/
theorem head_reads (j h : Fin 4) : HeadReads (head m c t j h) (projOf m c) (mixedOf m c) (chunk t j) h where
  query r d := by
    refine (load_head (hs0_9 t) (iblk m c 9 t) j h _ r d).trans ((read9 t (V m c main_v288) j r (headLane h d)).trans ?_)
    rw [V_queries, headLane_div, headLane_mod]
  key r d := by
    refine (load_head (hs0_10 t) (iblk m c 10 t) j h _ r d).trans ((read10 t (V m c main_v289) j r (headLane h d)).trans ?_)
    rw [V_keys, headLane_div, headLane_mod]
  value r d := by
    refine (load_at (hs0_0 t) (iblk m c 0 t : Vec Ideal S512x2816 .f32) _ _ _ (ix2 r d) (ix2 (rowIn j r) ⟨1792 + 128 * h.val + d.val, by omega⟩) fun a => match a with | ⟨0, _⟩ => rfl | ⟨1, _⟩ => rfl).trans ?_
    rw [proj_row]
    exact congrArg (projOf m c) (congrArg (ix2 _) (Fin.ext (by simp only [col]; omega)))
  entering d e := by
    refine (load_square (hs0_3 t) (iblk m c 3 t) j h _ d e).trans ((read3 t (V m c main_v247) j h d e).trans ?_)
    rw [V_entering]
  crossDecay r d := by
    refine (load_table (hs0_17 t) (iblk m c 17 t) h _ r d).trans ((read17 t (V m c main_v46) r (headLane h d)).trans ?_)
    rw [V_cross, headLane_div]
  innerDecay i k := by
    refine (load_between (hs0_16 t) (iblk m c 16 t) h _ i k).trans ((read16 t (V m c main_v25) h i k).trans ?_)
    rw [V_inner]
  scores i k := by
    refine (load_square (hs0_6 t) (iblk m c 6 t) j h _ i k).trans ((read6 t (V m c main_v286) j h i k).trans ?_)
    rw [V_score]
  normed r e := by
    refine (load_head (hs0_7 t) (iblk m c 7 t) j h _ r e).trans ((read7 t (V m c main_v284) j r (headLane h e)).trans ?_)
    rw [V_normed, headLane_div, headLane_mod]
  rstd r := by
    refine (load_column (hs0_8 t) (iblk m c 8 t) j h _ r).trans ((read8 t (V m c main_v287) j h r).trans ?_)
    rw [V_dev]
  gateIn r e := by
    refine (load_at (hs0_0 t) (iblk m c 0 t : Vec Ideal S512x2816 .f32) _ _ _ (ix2 r e) (ix2 (rowIn j r) ⟨2304 + 128 * h.val + e.val, by omega⟩) fun a => match a with | ⟨0, _⟩ => rfl | ⟨1, _⟩ => rfl).trans ?_
    rw [proj_row]
    exact congrArg (projOf m c) (congrArg (ix2 _) (Fin.ext (by simp only [col]; omega)))
  gate r e := by
    refine (load_head (hs0_13 t) (iblk m c 13 t) j h _ r e).trans ((read13 t (V m c main_v298) j r (headLane h e)).trans ?_)
    rw [V_sig, headLane_div, headLane_mod]
  grad r e := by
    refine (load_at (hs0_2 t) (iblk m c 2 t : Vec Ideal S512x1024 .bf16) _ _ _ (ix2 r e) (ix2 (rowIn j r) ⟨512 + 128 * h.val + e.val, by omega⟩) fun a => match a with | ⟨0, _⟩ => rfl | ⟨1, _⟩ => rfl).trans ?_
    rw [mixed_row]
    exact congrArg (mixedOf m c) (congrArg (ix2 _) (Fin.ext (by dsimp only; omega)))
  writeDecay r d := by
    refine (load_table (hs0_18 t) (iblk m c 18 t) h _ r d).trans ((read18 t (V m c main_v48) r (headLane h d)).trans ?_)
    rw [V_enter, headLane_div]
  decayedKey r d := by
    refine (load_head (hs0_11 t) (iblk m c 11 t) j h _ r d).trans ((read11 t (V m c main_v290) j r (headLane h d)).trans ?_)
    rw [V_decayed, headLane_div, headLane_mod]
  stateDecay d := by
    refine (load_first (hs0_19 t) (iblk m c 19 t) h _ d).trans ((read19 t (V m c main_v52) 0 (headLane h d)).trans ?_)
    rw [V_decay, headLane_div]

theorem sines_at (j : Fin 4) (r d : Fin 128) : sines m c t j (ix2 r d) = sine (pos (chunk t j) r) d * if d.val % 2 = 0 then -1 else 1 := by
  refine (load_angle (hs0_14 t) (iblk m c 14 t) j _ r d).trans ((read14 t (V m c main_v75) j r d).trans ?_)
  rw [V_sine]

theorem cosines_at (j : Fin 4) (r d : Fin 128) : cosines m c t j (ix2 r d) = cosine (pos (chunk t j) r) d := by
  refine (load_angle (hs0_15 t) (iblk m c 15 t) j _ r d).trans ((read15 t (V m c main_v81) j r d).trans ?_)
  rw [V_cosine]

end Cert.Kernel2Ideal.Gen

end
-- ==== Proof.RetValue.lean ====
/- What the backward call of the mixer leaves in its result array, in the retention's columns. -/
module

public import proofs.«01_k».proof.Proof.RetBlocks
public import proofs.«01_k».proof.Proof.MixValue

@[expose] public section

noncomputable section

namespace Cert.Kernel2Ideal.Gen

open Cert.Kernel2Ideal Cert.Proof Cert.Proof.Ret Idealize.ShloMosaic Idealize.ShloMosaic.TcCoe Idealize.SL.Sem
open Idealize.ShloMosaic.Pipeline (Dat)

variable (m : (ℓ : Loc nD τ sig) → Buf (Elt Ideal) ℓ) (c : Dev nD)

/-! ## The kept gradient of the state -/

theorem pay3_at (h : Fin 4) (d e : Fin 128) : k0_pay3 (F := Ideal) (ix3 h d e) = 0 := by
  pointwise [k0_pay3]

theorem pay6_at (v : Vec Ideal S1x128x128 .f32) (d e : Fin 128) : k0_pay6 v (ix2 d e) = v (ix3 0 d e) := by
  pointwise [k0_pay6]

theorem pay561_at (v : FVec Ideal S128x128 .f32) (d e : Fin 128) : k0_pay561 v (ix3 0 d e) = v (ix2 d e) := by
  pointwise [k0_pay561]

theorem statePlace_emb (h : Fin 4) (d e : Fin 128) : (statePlace h).emb (ix3 0 d e) = (ix3 h d e : S4x128x128.Idx) := by
  funext a
  apply Fin.ext
  match a with
  | ⟨0, _⟩ => show h.val + 1 * 0 = h.val; omega
  | ⟨1, _⟩ => show 0 + 1 * d.val = d.val; omega
  | ⟨2, _⟩ => show 0 + 1 * e.val = e.val; omega

theorem stateBefore_at (p : Left Ideal) (h : Fin 4) (d e : Fin 128) : stateBefore p h (ix2 d e) = p.state (ix3 h d e) := by
  unfold stateBefore
  refine (pay6_at _ d e).trans ?_
  exact load_at (Memref.isWhole_whole cc0_scratch0) p.state _ _ _ (ix3 0 d e) (ix3 h d e) fun a => match a with | ⟨0, _⟩ => rfl | ⟨1, _⟩ => (Nat.zero_add _).symm | ⟨2, _⟩ => (Nat.zero_add _).symm

theorem zeros3 : (![0, 0, 0] : Fin 3 → Nat) = fun _ => 0 := by decide

theorem clearedState_at (h : Fin 4) (d e : Fin 128) : clearedState (F := Ideal) h (ix2 d e) = 0 := by
  unfold clearedState
  refine (pay6_at _ d e).trans ?_
  refine (congrFun (View.readCov_eq_canon' _ _ (statePlace h).toLoadRect) (ix3 0 d e : S1x128x128.Idx)).trans ?_
  refine (congrFun (View.canon_unit_zero (S := S4x128x128) zeros3 _ _) ((statePlace h).emb (ix3 0 d e))).trans ?_
  rw [statePlace_emb]
  exact pay3_at h d e

/-- The gradient of the state that leaves the last chunk of step `t`, as the step finds it. -/
def found (t : Fin cfg0.N) : Fin 4 → FVec Ideal S128x128 .f32 :=
  if t.val = 0 then clearedState else stateBefore (left m c (earlier t).val (earlier t).isLt)

theorem left_state (t : Fin cfg0.N) (h1 : t.val ≠ 31) (h : Fin 4) (d e : Fin 128) :
    (left m c t.val t.isLt).state (ix3 h d e) = handedOn m c t (found m c t) h (ix2 d e) := by
  unfold found
  rw [← statePlace_emb]
  by_cases h0 : t.val = 0
  · rw [left_first m c t h0, first_stateAt, if_pos h0, pay561_at]
  · rw [left_mid m c t h0 h1, mid_stateAt, if_neg h0, pay561_at]
    rfl

theorem left_strip (t : Fin cfg0.N) (j : Fin 4) (k : Fin 2) (x : S128x512.Idx) :
    (left m c t.val t.isLt).dproj ((stripPlace j k).emb x) = strip m c t (found m c t) j k x := by
  unfold found
  by_cases h0 : t.val = 0
  · rw [left_first m c t h0, first_strip, if_pos h0]
  · rw [if_neg h0]
    by_cases h1 : t.val = 31
    · rw [left_last m c t h1, last_strip]; rfl
    · rw [left_mid m c t h0 h1, mid_strip]; rfl

theorem left_headTile (t : Fin cfg0.N) (j : Fin 4) (k : Fin 2) (h : Fin 4) (x : S128x128.Idx) :
    (left m c t.val t.isLt).dproj ((tilePlace j k h).emb x) = tile m c t (found m c t) j k h x := by
  unfold found
  by_cases h0 : t.val = 0
  · rw [left_first m c t h0, first_headTile, if_pos h0]
  · rw [if_neg h0]
    by_cases h1 : t.val = 31
    · rw [left_last m c t h1, last_headTile]; rfl
    · rw [left_mid m c t h0 h1, mid_headTile]; rfl

variable (hx : ∀ i, projOf m c i ≠ ⊤ ∧ projOf m c i ≠ ⊥) (hy : ∀ i, mixedOf m c i ≠ ⊤ ∧ mixedOf m c i ≠ ⊥)
include hx hy

/-- A chunk hands the chunk before it the gradient of the state between them. -/
theorem stateGrad_before (t : Fin cfg0.N) (j h : Fin 4) (s : FVec Ideal S128x128 .f32) (hs : ∀ d e : Fin 128, s (ix2 d e) = dAdded (projOf m c) (mixedOf m c) (chunk t j) h d e)
    (n : Fin 128) (hn : n.val + 1 = (chunk t j).val) (d e : Fin 128) : (head m c t j h).stateGrad s (ix2 d e) = dAdded (projOf m c) (mixedOf m c) n h d e := by
  have hc := (chunk t j).isLt
  rw [(head_reads m c t j h).stateGrad hs, dAdded_step hx hy n h (by omega)]
  have q : (⟨n.val + 1, by omega⟩ : Fin 128) = chunk t j := Fin.ext hn
  rw [q]

theorem leaving_at (t : Fin cfg0.N) (b : Fin 4 → FVec Ideal S128x128 .f32) (hb : ∀ (h : Fin 4) (d e : Fin 128), b h (ix2 d e) = dAdded (projOf m c) (mixedOf m c) (chunk t 3) h d e)
    (j h : Fin 4) (d e : Fin 128) : leaving m c t b j h (ix2 d e) = dAdded (projOf m c) (mixedOf m c) (chunk t j) h d e := by
  have s2 := fun d e => stateGrad_before m c hx hy t 3 h (b h) (hb h) (chunk t 2) rfl d e
  have s1 := fun d e => stateGrad_before m c hx hy t 2 h _ s2 (chunk t 1) rfl d e
  have s0 := fun d e => stateGrad_before m c hx hy t 1 h _ s1 (chunk t 0) rfl d e
  match j with
  | 3 => exact hb h d e
  | 2 => exact s2 d e
  | 1 => exact s1 d e
  | 0 => exact s0 d e

/-- What a step finds is the gradient of the state that leaves its last chunk. -/
theorem found_at (k : ℕ) (hk : k < cfg0.N) (h : Fin 4) (d e : Fin 128) : found m c ⟨k, hk⟩ h (ix2 d e) = dAdded (projOf m c) (mixedOf m c) (chunk ⟨k, hk⟩ 3) h d e := by
  have hN := step_lt ⟨k, hk⟩
  induction k generalizing h d e with
  | zero =>
    unfold found
    rw [if_pos rfl, clearedState_at, dAdded_last _ _ _ _ (by rfl)]
  | succ k ih =>
    have hN' : k + 1 < 32 := hN
    have hk' : k < cfg0.N := Nat.lt_of_succ_lt hk
    unfold found
    rw [if_neg (Nat.succ_ne_zero k), stateBefore_at]
    refine (left_state m c ⟨k, hk'⟩ (by dsimp only; omega) h d e).trans ?_
    exact stateGrad_before m c hx hy ⟨k, hk'⟩ 0 h _ (leaving_at m c hx hy ⟨k, hk'⟩ _ (fun h d e => ih hk' h d e (step_lt ⟨k, hk'⟩)) 0 h) _ (by simp only [chunk, show (3 : Fin 4).val = 3 from rfl, show (0 : Fin 4).val = 0 from rfl]; omega) d e

theorem left_leaving (t : Fin cfg0.N) (j h : Fin 4) (d e : Fin 128) : leaving m c t (found m c t) j h (ix2 d e) = dAdded (projOf m c) (mixedOf m c) (chunk t j) h d e :=
  leaving_at m c hx hy t _ (fun h d e => found_at m c hx hy t.val t.isLt h d e) j h d e

/-! ## The columns -/

omit hx hy in
theorem queryStrips_at (t : Fin cfg0.N) (j : Fin 4) (r : Fin 128) (l : Fin 512) : queriesOf m c t j (ix2 r l)
    = stripOf (fun n h r d => unrotated (dQ (projOf m c) (mixedOf m c) n h r) (pos n r) d) (pos (chunk t j) r) l := by
  simp only [stripOf, chunkOf_pos, rowOf_pos]
  exact queryStrip_at _ _ _ (fun h d => dQ (projOf m c) (mixedOf m c) (chunk t j) h r d) r (pos (chunk t j) r) (sines_at m c t j r) (cosines_at m c t j r)
    (fun l => (beside_at (fun h => (head m c t j h).queryGrad) r l).trans ((head_reads m c t j _).queryGrad r _)) l

theorem keyStrips_at (t : Fin cfg0.N) (j : Fin 4) (r : Fin 128) (l : Fin 512) : keysOf m c t (found m c t) j (ix2 r l)
    = stripOf (fun n h r d => unrotated (dK (projOf m c) (mixedOf m c) n h r) (pos n r) d * scale) (pos (chunk t j) r) l := by
  simp only [stripOf, chunkOf_pos, rowOf_pos]
  exact keyStrip_at _ _ _ (fun h d => dK (projOf m c) (mixedOf m c) (chunk t j) h r d) r (pos (chunk t j) r) (sines_at m c t j r) (cosines_at m c t j r)
    (fun l => (beside_at (fun h => (head m c t j h).keyGrad (leaving m c t (found m c t) j h)) r l).trans ((head_reads m c t j _).keyGrad (left_leaving m c hx hy t j _) r _)) l

/-- A step's block of the projection's gradient in the retention's columns. -/
theorem left_retention (t : Fin cfg0.N) (j : Fin 4) (r : Fin 128) (l : Fin 2816) (hl : 768 ≤ l.val) :
    (left m c t.val t.isLt).dproj (ix2 (rowIn j r) l) = columns (projOf m c) (mixedOf m c) (pos (chunk t j) r) l := by
  have strips : ∀ (k : Fin 2) (a : Fin 512), l.val = 768 + 512 * k.val + a.val → (left m c t.val t.isLt).dproj (ix2 (rowIn j r) l) = strip m c t (found m c t) j k (ix2 r a) := by
    intro k a e
    rw [← left_strip]
    congr 1
    funext p
    apply Fin.ext
    match p with
    | ⟨0, _⟩ => show 128 * j.val + r.val = 128 * j.val + 1 * r.val; omega
    | ⟨1, _⟩ => show l.val = 768 + 512 * k.val + 1 * a.val; omega
  have tiles : ∀ (k : Fin 2) (h : Fin 4) (a : Fin 128), l.val = 1792 + 512 * k.val + 128 * h.val + a.val → (left m c t.val t.isLt).dproj (ix2 (rowIn j r) l) = tile m c t (found m c t) j k h (ix2 r a) := by
    intro k h a e
    rw [← left_headTile]
    congr 1
    funext p
    apply Fin.ext
    match p with
    | ⟨0, _⟩ => show 128 * j.val + r.val = 128 * j.val + 1 * r.val; omega
    | ⟨1, _⟩ => show l.val = 1792 + 512 * k.val + 128 * h.val + 1 * a.val; omega
  unfold columns
  rw [dif_neg (by omega)]
  by_cases h1 : l.val - 768 < 512
  · rw [dif_pos h1, strips 0 ⟨l.val - 768, h1⟩ (by simp only [Fin.val_zero]; omega)]
    exact queryStrips_at m c t j r _
  · rw [dif_neg h1]
    by_cases h2 : l.val - 768 - 512 < 512
    · rw [dif_pos h2, strips 1 ⟨l.val - 768 - 512, h2⟩ (by simp only [Fin.val_one]; omega)]
      exact keyStrips_at m c hx hy t j r _
    · rw [dif_neg h2]
      by_cases h3 : l.val - 768 - 512 - 512 < 512
      · rw [dif_pos h3, tiles 0 ⟨(l.val - 768 - 512 - 512) / 128, by omega⟩ ⟨(l.val - 768 - 512 - 512) % 128, by omega⟩ (by simp only [Fin.val_zero]; omega)]
        simp only [stripOf, chunkOf_pos, rowOf_pos]
        exact (head_reads m c t j _).valueTile (left_leaving m c hx hy t j _) r _
      · have hl' := l.isLt
        rw [dif_neg h3, tiles 1 ⟨(l.val - 768 - 512 - 512 - 512) / 128, by omega⟩ ⟨(l.val - 768 - 512 - 512 - 512) % 128, by omega⟩ (by simp only [Fin.val_one]; omega)]
        simp only [stripOf, chunkOf_pos, rowOf_pos]
        exact (head_reads m c t j _).gateTile r _

/-- The gradient of the projection after the run, in the retention's columns. -/
theorem retention_at (r : Fin 16384) (l : Fin 2816) (hl : 768 ≤ l.val) : (dats m 0 c).arrAt 20 cfg0.N (ix2 r l) = columns (projOf m c) (mixedOf m c) r l := by
  rw [arr20]
  have e : (⟨r.val % 512, Nat.mod_lt _ (by decide)⟩ : Fin 512) = rowIn ⟨r.val % 512 / 128, by omega⟩ ⟨r.val % 128, by omega⟩ := Fin.ext (by simp only [rowIn]; omega)
  have q := left_retention m c hx hy (writer r.val r.isLt) ⟨r.val % 512 / 128, by omega⟩ ⟨r.val % 128, by omega⟩ l hl
  rw [← e] at q
  refine q.trans ?_
  refine congrArg (fun r => columns (projOf m c) (mixedOf m c) r l) (Fin.ext ?_)
  show (4 * (31 - (31 - r.val / 512)) + r.val % 512 / 128) * 128 + r.val % 128 = r.val
  omega

end Cert.Kernel2Ideal.Gen

end
-- ==== Proof.RetClaim.lean ====
/- The mixer's backward: in the retention's columns the kernel and the reference compute the same gradients. -/
module

public import proofs.«01_k».proof.Proof.MixClaim
public import proofs.«01_k».proof.Proof.RetValue
public import proofs.«01_k».proof.Proof.RetRef
public import proofs.«01_k».proof.Proof.Gen.Reference3Ideal.Run
public import proofs.«01_k».proof.Proof.Gen.On_retention_columns

@[expose] public section

noncomputable section

namespace Cert.Proof

open Idealize.ShloMosaic Idealize.SL.Sem Idealize.ShloMosaic.StableHlo

/-- The retention's reference ends and leaves its arguments as they were. It has no semaphore. -/
theorem retention_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The mask selects no column before the retention's. -/
theorem retention_column (x : FVec Ideal Cert.On_retention_columns.S16384x2816 .f32) (s : FVec Ideal Cert.On_retention_columns.S1x8 .f32) (y : FVec Ideal Cert.On_retention_columns.S16384x1024 .f32)
    (r : Fin 16384) (l : Fin 2816) (h : (Cert.On_retention_columns.fn (F := Ideal) x s y).1 (ix2 r l) = 1#1) : 768 ≤ l.val := by
  have e : IntOp.cmpi .sge (BitVec.ofNat 32 l.val) 768#32 = 1#1 := h
  by_contra hl
  have : ∀ l : Fin 2816, ¬768 ≤ l.val → IntOp.cmpi .sge (BitVec.ofNat 32 l.val) 768#32 ≠ 1#1 := by decide +kernel
  exact this l hl e

/-- It selects nothing of the sinks' gradient. -/
theorem retention_sinks (x : FVec Ideal Cert.On_retention_columns.S16384x2816 .f32) (s : FVec Ideal Cert.On_retention_columns.S1x8 .f32) (y : FVec Ideal Cert.On_retention_columns.S16384x1024 .f32)
    (i : (⟨2, ![1, 128]⟩ : Shape).Idx) : (Cert.On_retention_columns.fn (F := Ideal) x s y).2 i ≠ 1#1 := by
  obtain ⟨r, l, rfl⟩ : ∃ (r : Fin 1) (l : Fin 128), i = ix2 r l := ⟨i 0, i 1, funext fun a => match a with | ⟨0, _⟩ => rfl | ⟨1, _⟩ => rfl⟩
  have : ∀ l : Fin 128, IntOp.cmpi .slt (BitVec.ofNat 32 l.val) 0#32 ≠ 1#1 := by decide +kernel
  exact this l

/-- The two programs of the retention's backward compute the same arrays where the mask is set. -/
theorem retention : Cert.algebraic_Kernel2Ideal_Reference3Ideal_on_retention_columns_pre_finite_mixer := by
  intro m g m' g' hpre hargs
  refine ⟨fun c => (Cert.Kernel2Ideal.Gen.dats m 0 c).arrAt 20 Cert.Kernel2Ideal.cfg0.N, fun c => (Cert.Kernel2Ideal.Gen.dats m 0 c).arrAt 21 Cert.Kernel2Ideal.cfg0.N,
    (θ_run _ _ _).mono (fun r h c => ⟨fun i _ => congrFun ((h.1 c).1 20) i, fun i _ => congrFun ((h.1 c).1 21) i, h.2.1 c⟩)
      (θ_run_and (Cert.Kernel2Ideal.Gen.run_arrays m g) (Cert.Kernel2Ideal.Gen.mixer_frame m g)),
    (θ_run _ _ _).mono (fun _ h c => ?_) (Cert.Reference3Ideal.Value.run m' g')⟩
  obtain ⟨h0, _, hrest⟩ := h c
  obtain ⟨a0, a1, a2⟩ := hargs c
  obtain ⟨hx, _, hy⟩ := mixer_real _ _ _ (hpre c)
  refine ⟨fun i hi => ?_, fun i hi => absurd hi (retention_sinks _ _ _ i), hrest⟩
  obtain ⟨r, l, rfl⟩ : ∃ (r : Fin 16384) (l : Fin 2816), i = ix2 r l := ⟨i 0, i 1, funext fun a => match a with | ⟨0, _⟩ => rfl | ⟨1, _⟩ => rfl⟩
  have hl := retention_column _ _ _ r l hi
  refine (congrFun (h0.trans (Cert.Reference3Ideal.Read.val_main_v275_eq (launchContents m' c))) (ix2 r l)).trans ?_
  refine Eq.trans ?_ (Cert.Kernel2Ideal.Gen.retention_at m c hx hy r l hl).symm
  refine Eq.trans ?_ (Ret.ref_columns r hx hy l)
  exact congrFun (congrArg₂ (Cert.Reference3Ideal.Read.val_main_v275 (F := Ideal)) a0 a2) (ix2 r l)

end Cert.Proof

end
-- ==== Proof.HeadSpec.lean ====
/- The gradients from the causal convolution back to the mixed heads, as functions of the arrays at an index. -/
module

public import proofs.«01_k».proof.Proof.InSpec
public import proofs.«01_k».proof.Proof.RetReal

@[expose] public section

noncomputable section

namespace Cert.Proof.Head

open Idealize.ShloMosaic

/-- The product of the mixed heads with this weight is what the first of the two norms normalises. -/
abbrev Out := (⟨3, ![1, 1024, 1024]⟩ : Shape).Idx → EReal
/-- The weight before the convolution. -/
abbrev Up := (⟨3, ![1, 1024, 5632]⟩ : Shape).Idx → EReal
/-- The three taps of the convolution. -/
abbrev Taps := (⟨3, ![1, 3, 5632]⟩ : Shape).Idx → EReal
/-- The gradient of the convolution. -/
abbrev Conv := (⟨2, ![16384, 5632]⟩ : Shape).Idx → EReal
/-- The gradient of the residual. -/
abbrev Res := (⟨2, ![16384, 1024]⟩ : Shape).Idx → EReal

section
variable (x mix : Rows) (p q : Gain) (o : Out) (u : Up) (w : Taps) (z : Conv) (y : Res) (r : Fin 16384) (l : Fin 1024) (j : Fin 5632)

/-- A row of the heads' product. -/
def mixed (l : Fin 1024) : EReal := ∑ k : Fin 1024, mix (ix3 0 r k) * o (ix3 0 k l)
/-- A row of the residual after the mixer. -/
def resid (l : Fin 1024) : EReal := x (ix3 0 r l) + mixed mix o r l * rstd (mixed mix o r) * p (ix2 0 l)

/-- The gradient of the convolution, `k` rows later, and zero after the last row. -/
def later (k : Nat) : EReal := if h : r.val + k < 16384 then z (ix2 ⟨r.val + k, h⟩ j) else 0
/-- The gradient of what is convolved. -/
def conv (j : Fin 5632) : EReal := w (ix3 0 2 j) * later z r j 0 + w (ix3 0 1 j) * later z r j 1 + w (ix3 0 0 j) * later z r j 2
/-- The gradient of the normalised rows of the residual. -/
def normed (l : Fin 1024) : EReal := ∑ j : Fin 5632, conv w z r j * u (ix3 0 l j)
/-- The gradient of the residual. -/
def gradResid (l : Fin 1024) : EReal := y (ix2 r l) + gradOut (resid x mix p o r) (normed u w z r) (gRow q) l
/-- The gradient of the heads' product. -/
def gradMixed (l : Fin 1024) : EReal := gradOut (mixed mix o r) (gradResid x mix p q o u w z y r) (gRow p) l
/-- The gradient of the mixed heads. -/
def gradHeads (k : Fin 1024) : EReal := ∑ l : Fin 1024, gradMixed x mix p q o u w z y r l * o (ix3 0 k l)
/-- What a row contributes to the gradient of the gain before the convolution. -/
def gainPre (r : Fin 16384) : EReal := normed u w z r l * (resid x mix p o r l * rstd (resid x mix p o r))
/-- What a row contributes to the gradient of the gain after the mixer. -/
def gainPost (r : Fin 16384) : EReal := gradResid x mix p q o u w z y r l * (mixed mix o r l * rstd (mixed mix o r))
end

theorem ext2 {a b : ℕ} {α : Type} {f g : (⟨2, ![a, b]⟩ : Shape).Idx → α} (h : ∀ r l, f (ix2 r l) = g (ix2 r l)) : f = g := funext fun i => by
  obtain ⟨r, l, rfl⟩ : ∃ (r : Fin a) (l : Fin b), i = ix2 r l := ⟨i 0, i 1, funext fun a => match a with | ⟨0, _⟩ => rfl | ⟨1, _⟩ => rfl⟩
  exact h r l

/-! ## Reals -/

theorem ne_of_real {a : EReal} (h : IsReal a) : a ≠ ⊤ ∧ a ≠ ⊥ := by
  obtain ⟨a, rfl⟩ := h
  exact ⟨EReal.coe_ne_top _, EReal.coe_ne_bot _⟩

theorem rstd_real {v : Fin 1024 → EReal} (h : ∀ k, IsReal (v k)) : IsReal (rstd v) := by
  obtain ⟨v, rfl⟩ := reals h
  exact ⟨_, rstd_coe v⟩

theorem gradOut_real {v d g : Fin 1024 → EReal} (hv : ∀ k, IsReal (v k)) (hd : ∀ k, IsReal (d k)) (hg : ∀ k, IsReal (g k)) (l : Fin 1024) : IsReal (gradOut v d g l) :=
  (rstd_real hv).mul (((hd l).mul (hg l)).sub (((hv l).mul (rstd_real hv)).mul
    (IsReal.div (IsReal.sum _ _ fun k => ((hd k).mul (hg k)).mul ((hv k).mul (rstd_real hv))) lit_1024 (by norm_num))))

section
variable {x mix : Rows} {p q : Gain} {o : Out} {u : Up} {w : Taps} {z : Conv} {y : Res} (hx : ∀ i, IsReal (x i)) (hm : ∀ i, IsReal (mix i)) (hp : ∀ i, IsReal (p i)) (hq : ∀ i, IsReal (q i))
  (ho : ∀ i, IsReal (o i)) (hu : ∀ i, IsReal (u i)) (hw : ∀ i, IsReal (w i)) (hz : ∀ i, IsReal (z i)) (hy : ∀ i, IsReal (y i)) (r : Fin 16384)

include hm ho in
theorem mixed_real (l : Fin 1024) : IsReal (mixed mix o r l) := IsReal.sum _ _ fun k => (hm _).mul (ho _)

include hx hm hp ho in
theorem resid_real (l : Fin 1024) : IsReal (resid x mix p o r l) :=
  (hx _).add (((mixed_real hm ho r l).mul (rstd_real (mixed_real hm ho r))).mul (hp _))

include hz in
theorem later_real (j : Fin 5632) (k : Nat) : IsReal (later z r j k) := by
  unfold later
  split_ifs
  · exact hz _
  · exact IsReal.zero

include hw hz hu in
theorem normed_real (l : Fin 1024) : IsReal (normed u w z r l) := IsReal.sum _ _ fun j =>
  ((((hw _).mul (later_real hz r j 0)).add ((hw _).mul (later_real hz r j 1))).add ((hw _).mul (later_real hz r j 2))).mul (hu _)

include hx hm hp hq ho hu hw hz hy in
theorem gradResid_real (l : Fin 1024) : IsReal (gradResid x mix p q o u w z y r l) :=
  (hy _).add (gradOut_real (resid_real hx hm hp ho r) (normed_real hu hw hz r) (fun _ => hq _) l)
end

/-! ## The rows of the grid -/

/-- Row `s` of block `t`. -/
def at256 (t : Fin 64) (s : Fin 256) : Fin 16384 := ⟨t.val * 256 + s.val, by omega⟩

theorem exists_at256 (r : Fin 16384) : ∃ t s, at256 t s = r :=
  ⟨⟨r.val / 256, by omega⟩, ⟨r.val % 256, by omega⟩, Fin.ext (by simp only [at256]; omega)⟩

/-- The sum over all the rows is the sum over the blocks of the sums over their rows. -/
theorem sum_at256 (f : Fin 16384 → EReal) : ∑ t : Fin 64, ∑ s : Fin 256, f (at256 t s) = ∑ r, f r :=
  (Fin.sum_univ_tiles 64 256 rfl f).symm

end Cert.Proof.Head

end
-- ==== Proof.HeadRef.lean ====
/- The five arrays that the reference of the convolution's and the norms' gradients returns, at an index. -/
module

public import proofs.«01_k».proof.Proof.Gen.Reference4Ideal.Read
public import proofs.«01_k».proof.Proof.HeadSpec
public import proofs.«01_k».proof.Proof.Sums

@[expose] public section

noncomputable section

namespace Cert.Proof.Head

open Idealize.ShloMosaic Cert.Reference4Ideal.Read

variable (x mix : Rows) (p q : Gain) (o : Out) (u : Up) (w : Taps) (z : Conv) (y : Res) (r : Fin 16384) (l : Fin 1024) (j : Fin 5632)

/-! ## Forward -/

theorem ref_mixed : val_main_v1 (F := Ideal) mix o (ix3 0 r l) = mixed mix o r l := by
  pointwise [val_main_v1, val_main_v0]
  rfl

theorem ref_post : val_main_v10 (F := Ideal) mix o (ix3 0 r 0) = rstd (mixed mix o r) := by
  pointwise [val_main_v10, val_main_v9, val_main_v8, val_main_v7, val_main_v6, val_main_v5, val_main_v4, val_main_v3, val_main_cst, val_main_cst_0, val_main_cst_1, ref_mixed]
  rfl

theorem ref_resid : val_main_v19 (F := Ideal) x mix p o (ix3 0 r l) = resid x mix p o r l := by
  pointwise [val_main_v19, val_main_v18, val_main_v17, val_main_v16, val_main_v15, val_main_v14, val_main_v2, ref_mixed, ref_post]
  rfl

theorem ref_pre : val_main_v28 (F := Ideal) x mix p o (ix3 0 r 0) = rstd (resid x mix p o r) := by
  pointwise [val_main_v28, val_main_v27, val_main_v26, val_main_v25, val_main_v24, val_main_v23, val_main_v22, val_main_v21, val_main_cst_3, val_main_cst_4, val_main_cst_5, ref_resid]
  rfl

/-! ## The convolution -/

theorem ref_conv : val_main_v76 (F := Ideal) w z (ix3 0 r j) = conv w z r j := by
  pointwise [val_main_v76, val_main_v74, val_main_v73, val_main_v72, val_main_v71, val_main_v70, val_main_v69, val_main_v68, val_main_v67, val_main_v66, val_main_v65, val_main_v64, val_main_v63, val_main_cst_9, val_main_cst_10, val_main_cst_11, val_main_v59, val_main_v57, val_main_v56, val_main_v52, val_main_v50, val_main_v49, val_main_v46, val_main_v44, val_main_v43, val_main_v39]
  unfold conv later
  refine congrArg₂ (· + ·) (congrArg₂ (· + ·) ?_ ?_) ?_
  · rw [dif_pos (show r.val + 0 < 16384 from r.isLt)]
    rfl
  · by_cases h : r.val + 1 < 16384
    · rw [dif_pos h, dif_pos (by omega)]
      exact congrArg (fun i => w (ix3 0 1 j) * z (ix2 i j)) (Fin.ext (by show 2 + r.val - 1 = r.val + 1; omega))
    · rw [dif_neg h, dif_neg (by omega), mul_zero]
  · by_cases h : r.val + 2 < 16384
    · rw [dif_pos h, dif_pos (by omega)]
      exact congrArg (fun i => w (ix3 0 0 j) * z (ix2 i j)) (Fin.ext (by show 2 + r.val = r.val + 2; omega))
    · rw [dif_neg h, dif_neg (by omega), mul_zero]

theorem ref_normed : val_main_v78 (F := Ideal) u w z (ix3 0 r l) = normed u w z r l := by
  pointwise [val_main_v78, val_main_v37, ref_conv]
  rfl

/-! ## The norm before the convolution -/

section
variable {x mix p q o u w z y}
variable (hx : ∀ i, IsReal (x i)) (hm : ∀ i, IsReal (mix i)) (hp : ∀ i, IsReal (p i)) (hq : ∀ i, IsReal (q i))
  (ho : ∀ i, IsReal (o i)) (hu : ∀ i, IsReal (u i)) (hw : ∀ i, IsReal (w i)) (hz : ∀ i, IsReal (z i)) (hy : ∀ i, IsReal (y i))

include hx hm hp hq ho hu hw hz in
theorem ref_gradResid : val_main_v100 (F := Ideal) x mix p q o u w z y (ix3 0 r l) = gradResid x mix p q o u w z y r l := by
  refine Eq.trans ?_ (grad_eq (y (ix2 r l)) (resid x mix p o r) (normed u w z r) (gRow q) (fun k => ne_of_real (resid_real hx hm hp ho r k))
    (fun k => ne_of_real (normed_real hu hw hz r k)) (fun k => ne_of_real (hq _)) l).symm
  pointwise [val_main_v100, val_main_v99, val_main_v98, val_main_v97, val_main_v96, val_main_v95, val_main_v94, val_main_v93, val_main_v92, val_main_v91, val_main_v90, val_main_v89, val_main_v88, val_main_v87, val_main_v86, val_main_v85, val_main_v83, val_main_v82, val_main_v77, val_main_v34, val_main_v31, val_main_v30, val_main_v29, val_main_v27, val_main_v26, val_main_v25, val_main_v24, val_main_v23, val_main_v22, val_main_v21, val_main_v20, val_main_cst_3, val_main_cst_4, val_main_cst_5, val_main_cst_6, val_main_cst_14, val_main_cst_15, val_main_cst_16, ref_pre, ref_resid, ref_normed, hostReduceAdd_outer]
  rfl

include hx hm hp hq ho hu hw hz hy in
theorem ref_gradMixed : val_main_v122 (F := Ideal) x mix p q o u w z y (ix3 0 r l) = gradMixed x mix p q o u w z y r l := by
  have e := (grad_eq 0 (mixed mix o r) (gradResid x mix p q o u w z y r) (gRow p) (fun k => ne_of_real (mixed_real hm ho r k))
    (fun k => ne_of_real (gradResid_real hx hm hp hq ho hu hw hz hy r k)) (fun k => ne_of_real (hp _)) l).symm
  rw [zero_add, zero_add] at e
  refine Eq.trans ?_ e
  pointwise [val_main_v122, val_main_v121, val_main_v120, val_main_v119, val_main_v118, val_main_v117, val_main_v116, val_main_v115, val_main_v114, val_main_v113, val_main_v112, val_main_v111, val_main_v110, val_main_v109, val_main_v108, val_main_v106, val_main_v105, val_main_v16, val_main_v13, val_main_v12, val_main_v11, val_main_v9, val_main_v8, val_main_v7, val_main_v6, val_main_v5, val_main_v4, val_main_v3, val_main_v2, val_main_cst, val_main_cst_1, val_main_cst_2, val_main_cst_19, val_main_cst_20, val_main_cst_21, ref_post, ref_mixed, ref_gradResid r _ hx hm hp hq ho hu hw hz, hostReduceAdd_outer]
  rfl

include hx hm hp hq ho hu hw hz hy in
theorem ref_gradHeads : val_main_v124 (F := Ideal) x mix p q o u w z y (ix3 0 r l) = gradHeads x mix p q o u w z y r l := by
  pointwise [val_main_v124, val_main_v0, ref_gradMixed r _ hx hm hp hq ho hu hw hz hy]
  rfl

/-! ## What is returned -/

include hx hm hp hq ho hu hw hz in
theorem ref_gains (a : Fin 8) : val_main_v126 (F := Ideal) x mix p q o u w z y (ix2 a l)
    = if a.val < 1 then ∑ r, gainPre x mix p o u w z l r else if a.val < 2 then ∑ r, gainPost x mix p q o u w z y l r else 0 := by
  pointwise [val_main_v126, val_main_v125, val_main_v124, val_main_v123, val_main_v107, val_main_v104, val_main_v103, val_main_v102, val_main_v101, val_main_v84, val_main_v81, val_main_v80, val_main_v79, val_main_v33, val_main_v32, val_main_v15, val_main_v14, val_main_cst_12, val_main_cst_13, val_main_cst_17, val_main_cst_18, val_main_cst_22, ref_pre, ref_resid, ref_normed, ref_mixed, ref_post, hostReduceAdd_leading]
  by_cases h : a.val < 1
  · rw [dif_pos h, if_pos h]
    exact Finset.sum_congr rfl fun k _ => mul_comm _ _
  · rw [dif_neg h, if_neg h]
    by_cases h1 : a.val < 2
    · rw [dif_pos (by omega), if_pos h1]
      refine Finset.sum_congr rfl fun k _ => ?_
      rw [ref_gradResid k l hx hm hp hq ho hu hw hz]
      exact mul_comm _ _
    · rw [dif_neg (by omega), if_neg h1]
end

theorem ref_du0 (w : Taps) (z : Conv) (r : Fin 16384) (j : Fin 5632) : val_main_v128 (F := Ideal) w z (ix2 r j) = conv w z r j := by
  pointwise [val_main_v128, val_main_v127, ref_conv]

section
variable {x mix p q o u w z y}
variable (hx : ∀ i, IsReal (x i)) (hm : ∀ i, IsReal (mix i)) (hp : ∀ i, IsReal (p i)) (hq : ∀ i, IsReal (q i))
  (ho : ∀ i, IsReal (o i)) (hu : ∀ i, IsReal (u i)) (hw : ∀ i, IsReal (w i)) (hz : ∀ i, IsReal (z i)) (hy : ∀ i, IsReal (y i))

include hx hm hp hq ho hu hw hz in
theorem ref_dx1 : val_main_v129 (F := Ideal) x mix p q o u w z y (ix2 r l) = gradResid x mix p q o u w z y r l := by
  pointwise [val_main_v129, ref_gradResid r _ hx hm hp hq ho hu hw hz]

include hx hm hp hq ho hu hw hz hy in
theorem ref_dmixed : val_main_v131 (F := Ideal) x mix p q o u w z y (ix2 r l) = gradMixed x mix p q o u w z y r l := by
  pointwise [val_main_v131, val_main_v130, ref_gradMixed r _ hx hm hp hq ho hu hw hz hy]

include hx hm hp hq ho hu hw hz hy in
theorem ref_dmix : val_main_v133 (F := Ideal) x mix p q o u w z y (ix2 r l) = gradHeads x mix p q o u w z y r l := by
  pointwise [val_main_v133, val_main_v132, ref_gradHeads r _ hx hm hp hq ho hu hw hz hy]
end

end Cert.Proof.Head

end
-- ==== Proof.HeadBody.lean ====
/- What one point of the grid computes of its blocks, at an index: the convolution's gradient in pieces of columns, the product
   with the weight summed piece by piece, and the gradients through the two norms. -/
module

public import proofs.«01_k».proof.Proof.Gen.Kernel3Ideal.Value
public import proofs.«01_k».proof.Proof.HeadSpec
public import Idealize.ShloMosaic.Lib.Pointwise
public import Idealize.ShloMosaic.Lib.WritesUnit
public import Idealize.ShloMosaic.Lib.Pipeline.ReadBack

@[expose] public section

noncomputable section

namespace Cert.Kernel3Ideal.Gen

open Cert.Kernel3Ideal Cert.Proof Idealize.ShloMosaic Idealize.ShloMosaic.TcCoe Idealize.SL.Sem

/-! ## The rows that the convolution reads -/

/-- The block's rows and the sixteen rows below them, as they lie one below the other. -/
def stacked (i : grid0.Coords) (x0 : Vec Ideal S256x5632 .bf16) (x1 : Vec Ideal S16x5632 .bf16) : S272x5632.Idx → EReal :=
  View.canon (Val := Elt Ideal) (e := .f32) [⟨Rect.unit ![256, 0] S16x5632.size inb_S272x5632_S16x5632_256_0, k0_pay4 i x1⟩,
    ⟨Rect.unit ![0, 0] S256x5632.size inb_S272x5632_S256x5632_0_0, k0_pay3 x0⟩]

theorem stacked_block (i : grid0.Coords) (x0 : Vec Ideal S256x5632 .bf16) (x1 : Vec Ideal S16x5632 .bf16) (a : Fin 272) (h : a.val < 256) (j : Fin 5632) :
    stacked i x0 x1 (ix2 a j) = x0 (ix2 ⟨a.val, h⟩ j) := by
  unfold stacked
  rw [View.canon_cons_of_not_mem]
  · have hy : (Rect.unit (s := S272x5632) ![0, 0] S256x5632.size inb_S272x5632_S256x5632_0_0).emb (ix2 ⟨a.val, h⟩ j) = ix2 a j :=
      funext fun k => Fin.ext (match k with
        | ⟨0, _⟩ => by show 0 + 1 * a.val = a.val; omega
        | ⟨1, _⟩ => by show 0 + 1 * j.val = j.val; omega)
    rw [← hy, View.canon_cons_emb]
    pointwise [k0_pay3]
  · rw [Rect.mem_set_unit]
    intro hall
    have h0 : 256 ≤ a.val := (hall 0).1
    omega

theorem stacked_below (i : grid0.Coords) (x0 : Vec Ideal S256x5632 .bf16) (x1 : Vec Ideal S16x5632 .bf16) (a : Fin 16) (j : Fin 5632) :
    stacked i x0 x1 (ix2 ⟨256 + a.val, by omega⟩ j) = if (i 0).val < 63 then x1 (ix2 a j) else 0 := by
  unfold stacked
  have hy : (Rect.unit (s := S272x5632) ![256, 0] S16x5632.size inb_S272x5632_S16x5632_256_0).emb (ix2 a j) = ix2 ⟨256 + a.val, by omega⟩ j :=
    funext fun k => Fin.ext (match k with
      | ⟨0, _⟩ => by show 256 + 1 * a.val = 256 + a.val; omega
      | ⟨1, _⟩ => by show 0 + 1 * j.val = j.val; omega)
  rw [← hy, View.canon_cons_emb]
  pointwise [k0_pay4]
  have key : ∀ n : Fin 64, Scalar.cmpi .slt (BitVec.ofNat 32 n.val) 63#32 = if n.val < 63 then 1#1 else 0#1 := by decide +kernel
  rw [key (i 0)]
  by_cases h : (i 0).val < 63
  · rw [if_pos h, if_pos h]
    rfl
  · rw [if_neg h, if_neg h]
    rfl

/-! ## The convolution's gradient -/

section
variable (x2 : Vec Ideal S3x5632 .f32) (x3 : Vec Ideal S4x1024x1408 .bf16) (D : S272x5632.Idx → EReal)

/-- The gradient of what is convolved, of the rows of a block. -/
def tile (r : Fin 256) (j : Fin 5632) : EReal :=
  x2 (ix2 2 j) * D (ix2 ⟨r.val, by omega⟩ j) + x2 (ix2 1 j) * D (ix2 ⟨1 + r.val, by omega⟩ j) + x2 (ix2 0 j) * D (ix2 ⟨2 + r.val, by omega⟩ j)

theorem inb_tap {a o W : ℕ} (ha : a < 3) (ho : o + W ≤ 5632) (k : Fin 2) : (![a, o] : Fin 2 → ℕ) k + (![1, W] : Fin 2 → ℕ) k ≤ S3x5632.size k :=
  match k with
  | ⟨0, _⟩ => ha
  | ⟨1, _⟩ => ho

theorem inb_rows {a o W : ℕ} (ha : a + 256 ≤ 272) (ho : o + W ≤ 5632) (k : Fin 2) : (![a, o] : Fin 2 → ℕ) k + (![256, W] : Fin 2 → ℕ) k ≤ S272x5632.size k :=
  match k with
  | ⟨0, _⟩ => ha
  | ⟨1, _⟩ => ho

/-- A piece of a tap, and of the rows that it multiplies. -/
def tap (W a o : ℕ) (ha : a < 3) (ho : o + W ≤ 5632) : (⟨2, ![1, W]⟩ : Shape).Idx → EReal :=
  View.ld (Val := Elt Ideal) (e' := .f32) x2 (Rect.unit ![a, o] (![1, W] : Fin 2 → ℕ) (inb_tap ha ho))
def rows (W a o : ℕ) (ha : a + 256 ≤ 272) (ho : o + W ≤ 5632) : (⟨2, ![256, W]⟩ : Shape).Idx → EReal :=
  View.ld (Val := Elt Ideal) (e' := .f32) D (Rect.unit ![a, o] (![256, W] : Fin 2 → ℕ) (inb_rows ha ho))

theorem tap_at (W a o : ℕ) (ha : a < 3) (ho : o + W ≤ 5632) (e : Fin W) : tap x2 W a o ha ho (ix2 0 e) = x2 (ix2 ⟨a, ha⟩ ⟨o + e.val, by omega⟩) :=
  congrArg x2 (funext fun k => Fin.ext (match k with
    | ⟨0, _⟩ => by show a + 1 * 0 = a; omega
    | ⟨1, _⟩ => by show o + 1 * e.val = o + e.val; omega))
theorem rows_at (W a o : ℕ) (ha : a + 256 ≤ 272) (ho : o + W ≤ 5632) (r : Fin 256) (e : Fin W) : rows D W a o ha ho (ix2 r e) = D (ix2 ⟨a + r.val, by omega⟩ ⟨o + e.val, by omega⟩) :=
  congrArg D (funext fun k => Fin.ext (match k with
    | ⟨0, _⟩ => by show a + 1 * r.val = a + r.val; omega
    | ⟨1, _⟩ => by show o + 1 * e.val = o + e.val; omega))

/-- A piece of 512 columns, and one of 384. -/
def wide (o : ℕ) (ho : o + 512 ≤ 5632) : FVec Ideal S256x512 .bf16 :=
  k0_pay9 (tap x2 512 2 o (by omega) ho) (rows D 512 0 o (by omega) ho) (tap x2 512 1 o (by omega) ho) (rows D 512 1 o (by omega) ho)
    (tap x2 512 0 o (by omega) ho) (rows D 512 2 o (by omega) ho)
def narrow (o : ℕ) (ho : o + 384 ≤ 5632) : FVec Ideal S256x384 .bf16 :=
  k0_pay11 (tap x2 384 2 o (by omega) ho) (rows D 384 0 o (by omega) ho) (tap x2 384 1 o (by omega) ho) (rows D 384 1 o (by omega) ho)
    (tap x2 384 0 o (by omega) ho) (rows D 384 2 o (by omega) ho)

theorem wide_at (o : ℕ) (ho : o + 512 ≤ 5632) (r : Fin 256) (e : Fin 512) : wide x2 D o ho (ix2 r e) = tile x2 D r ⟨o + e.val, by omega⟩ := by
  unfold wide
  pointwise [k0_pay9, tap_at, rows_at]
  unfold tile
  simp only [Nat.zero_add]
theorem narrow_at (o : ℕ) (ho : o + 384 ≤ 5632) (r : Fin 256) (e : Fin 384) : narrow x2 D o ho (ix2 r e) = tile x2 D r ⟨o + e.val, by omega⟩ := by
  unfold narrow
  pointwise [k0_pay11, tap_at, rows_at]
  unfold tile
  simp only [Nat.zero_add]

/-- A piece, at a column of the whole. -/
theorem wide_tile {o : ℕ} (ho : o + 512 ≤ 5632) {r : Fin 256} {j : Fin 5632} (y : S256x512.Idx)
    (hy : ∀ a : Fin 2, ((ix2 r j : S256x5632.Idx) a : ℕ) = (![0, o] : Fin 2 → ℕ) a + y a) : wide x2 D o ho y = tile x2 D r j := by
  obtain ⟨s, e, rfl⟩ : ∃ (s : Fin 256) (e : Fin 512), y = ix2 s e := ⟨y 0, y 1, funext fun a => match a with | ⟨0, _⟩ => rfl | ⟨1, _⟩ => rfl⟩
  have h0 : r.val = 0 + s.val := hy 0
  have h1 : j.val = o + e.val := hy 1
  rw [wide_at, show s = r from Fin.ext (by omega), show (⟨o + e.val, by omega⟩ : Fin 5632) = j from Fin.ext h1.symm]
theorem narrow_tile {o : ℕ} (ho : o + 384 ≤ 5632) {r : Fin 256} {j : Fin 5632} (y : S256x384.Idx)
    (hy : ∀ a : Fin 2, ((ix2 r j : S256x5632.Idx) a : ℕ) = (![0, o] : Fin 2 → ℕ) a + y a) : narrow x2 D o ho y = tile x2 D r j := by
  obtain ⟨s, e, rfl⟩ : ∃ (s : Fin 256) (e : Fin 384), y = ix2 s e := ⟨y 0, y 1, funext fun a => match a with | ⟨0, _⟩ => rfl | ⟨1, _⟩ => rfl⟩
  have h0 : r.val = 0 + s.val := hy 0
  have h1 : j.val = o + e.val := hy 1
  rw [narrow_at, show s = r from Fin.ext (by omega), show (⟨o + e.val, by omega⟩ : Fin 5632) = j from Fin.ext h1.symm]

/-! ## The product with the weight -/

/-- The sum of the first `n` terms. -/
def firsts (f : Fin 5632 → EReal) (n : ℕ) : EReal := ∑ j ∈ Finset.range n, if h : j < 5632 then f ⟨j, h⟩ else 0

theorem firsts_all (f : Fin 5632 → EReal) : firsts f 5632 = ∑ j, f j := by
  unfold firsts
  rw [Finset.sum_range]
  exact Finset.sum_congr rfl fun j _ => dif_pos j.isLt

theorem firsts_add (f : Fin 5632 → EReal) (o W : ℕ) (ho : o + W ≤ 5632) : firsts f (o + W) = firsts f o + ∑ e : Fin W, f ⟨o + e.val, by omega⟩ := by
  unfold firsts
  rw [Finset.sum_range_add]
  congr 1
  rw [Finset.sum_range]
  exact Finset.sum_congr rfl fun e _ => dif_pos (by omega)

theorem inb_weight {a b W : ℕ} (ha : a < 4) (hb : b + W ≤ 1408) (k : Fin 3) : (![a, 0, b] : Fin 3 → ℕ) k + (![1, 1024, W] : Fin 3 → ℕ) k ≤ S4x1024x1408.size k :=
  match k with
  | ⟨0, _⟩ => ha
  | ⟨1, _⟩ => Nat.le_refl 1024
  | ⟨2, _⟩ => hb

/-- A piece of the weight: columns of one of its four blocks. -/
def weight (W a b : ℕ) (ha : a < 4) (hb : b + W ≤ 1408) : FVec Ideal ⟨3, ![1, 1024, W]⟩ .bf16 :=
  View.ld (Val := Elt Ideal) (e' := .bf16) x3 (Rect.unit ![a, 0, b] (![1, 1024, W] : Fin 3 → ℕ) (inb_weight ha hb))

/-- The weight at a column of the whole. -/
def weightAt (l : Fin 1024) (j : Fin 5632) : EReal := x3 (ix3 ⟨j.val / 1408, by omega⟩ l ⟨j.val % 1408, by omega⟩)

theorem weight_at (W a b : ℕ) (ha : a < 4) (hb : b + W ≤ 1408) (l : Fin 1024) (e : Fin W) :
    weight x3 W a b ha hb (ix3 0 l e) = weightAt x3 l ⟨a * 1408 + b + e.val, by omega⟩ :=
  congrArg x3 (funext fun k => Fin.ext (match k with
    | ⟨0, _⟩ => by show a + 1 * 0 = (a * 1408 + b + e.val) / 1408; omega
    | ⟨1, _⟩ => by show 0 + 1 * l.val = l.val; omega
    | ⟨2, _⟩ => by show b + 1 * e.val = (a * 1408 + b + e.val) % 1408; omega))

/-- A sum and the product of a piece with columns of the weight. -/
def plus512 (acc : FVec Ideal S256x1024 .f32) (d : FVec Ideal S256x512 .bf16) (w : FVec Ideal S1x1024x512 .bf16) : FVec Ideal S256x1024 .f32 :=
  addf acc (matmul dot_S256x512_S1024x512_S256x1024_1_1_0_0_n_n none d (shapeCast S1024x512 w shapeCasts_S1x1024x512_S1024x512) (constant S256x1024 .f32 0x00000000#32))
def plus384 (acc : FVec Ideal S256x1024 .f32) (d : FVec Ideal S256x384 .bf16) (w : FVec Ideal S1x1024x384 .bf16) : FVec Ideal S256x1024 .f32 :=
  addf acc (matmul dot_S256x384_S1024x384_S256x1024_1_1_0_0_n_n none d (shapeCast S1024x384 w shapeCasts_S1x1024x384_S1024x384) (constant S256x1024 .f32 0x00000000#32))

/-- One piece's product, added to the sum of those before it. -/
def addWide (acc : FVec Ideal S256x1024 .f32) (a b : ℕ) (ha : a < 4) (hb : b + 512 ≤ 1408) : FVec Ideal S256x1024 .f32 :=
  plus512 acc (wide x2 D (a * 1408 + b) (by omega)) (weight x3 512 a b ha hb)
def addNarrow (acc : FVec Ideal S256x1024 .f32) (a b : ℕ) (ha : a < 4) (hb : b + 384 ≤ 1408) : FVec Ideal S256x1024 .f32 :=
  plus384 acc (narrow x2 D (a * 1408 + b) (by omega)) (weight x3 384 a b ha hb)

/-- The terms of the product. -/
def term (r : Fin 256) (l : Fin 1024) (j : Fin 5632) : EReal := tile x2 D r j * weightAt x3 l j

theorem addWide_at {acc : FVec Ideal S256x1024 .f32} {a b n : ℕ} (ha : a < 4) (hb : b + 512 ≤ 1408) {r : Fin 256} {l : Fin 1024} (hn : n = a * 1408 + b)
    (h : acc (ix2 r l) = firsts (term x2 x3 D r l) n) : addWide x2 x3 D acc a b ha hb (ix2 r l) = firsts (term x2 x3 D r l) (n + 512) := by
  subst hn
  rw [firsts_add _ _ _ (by omega), ← h]
  unfold addWide plus512
  pointwise [wide_at, weight_at]
  rfl
theorem addNarrow_at {acc : FVec Ideal S256x1024 .f32} {a b n : ℕ} (ha : a < 4) (hb : b + 384 ≤ 1408) {r : Fin 256} {l : Fin 1024} (hn : n = a * 1408 + b)
    (h : acc (ix2 r l) = firsts (term x2 x3 D r l) n) : addNarrow x2 x3 D acc a b ha hb (ix2 r l) = firsts (term x2 x3 D r l) (n + 384) := by
  subst hn
  rw [firsts_add _ _ _ (by omega), ← h]
  unfold addNarrow plus384
  pointwise [narrow_at, weight_at]
  rfl

/-- One of the weight's four blocks, as two wide pieces and a narrow one. -/
def addBlock (acc : FVec Ideal S256x1024 .f32) (a : ℕ) (ha : a < 4) : FVec Ideal S256x1024 .f32 :=
  addNarrow x2 x3 D (addWide x2 x3 D (addWide x2 x3 D acc a 0 ha (by omega)) a 512 ha (by omega)) a 1024 ha (by omega)

theorem addBlock_at {acc : FVec Ideal S256x1024 .f32} {a n : ℕ} (ha : a < 4) {r : Fin 256} {l : Fin 1024} (hn : n = a * 1408)
    (h : acc (ix2 r l) = firsts (term x2 x3 D r l) n) : addBlock x2 x3 D acc a ha (ix2 r l) = firsts (term x2 x3 D r l) (n + 1408) := by
  have h1 := addWide_at x2 x3 D (b := 0) ha (by omega) (by omega) h
  have h2 := addWide_at x2 x3 D (b := 512) ha (by omega) (by omega) h1
  exact addNarrow_at x2 x3 D (b := 1024) ha (by omega) (by omega) h2

/-- The gradient of the normalised rows. -/
def back : FVec Ideal S256x1024 .f32 :=
  addBlock x2 x3 D (addBlock x2 x3 D (addBlock x2 x3 D (addBlock x2 x3 D k0_pay5 0 (by omega)) 1 (by omega)) 2 (by omega)) 3 (by omega)

theorem back_at (r : Fin 256) (l : Fin 1024) : back x2 x3 D (ix2 r l) = ∑ j, tile x2 D r j * weightAt x3 l j := by
  have h0 : (k0_pay5 (F := Ideal)) (ix2 r l) = firsts (term x2 x3 D r l) 0 := by
    pointwise [k0_pay5]
    simp [firsts]
  have h1 := addBlock_at x2 x3 D (a := 0) (by omega) (by omega) h0
  have h2 := addBlock_at x2 x3 D (a := 1) (by omega) (by omega) h1
  have h3 := addBlock_at x2 x3 D (a := 2) (by omega) (by omega) h2
  exact (addBlock_at x2 x3 D (a := 3) (by omega) (by omega) h3).trans (firsts_all _)
end

/-! ## The body's loads and payloads as these pieces -/

section
variable (i : grid0.Coords) (x0 : Vec Ideal S256x5632 .bf16) (x1 : Vec Ideal S16x5632 .bf16) (x2 : Vec Ideal S3x5632 .f32) (x3 : Vec Ideal S4x1024x1408 .bf16) (v : View sig .tc .vmem S272x5632 .f32)

theorem of_inb_tap {a o W : ℕ} (h : ∀ k : Fin 2, (![a, o] : Fin 2 → ℕ) k + (![1, W] : Fin 2 → ℕ) k ≤ S3x5632.size k) : a < 3 ∧ o + W ≤ 5632 := ⟨h 0, h 1⟩
theorem of_inb_rows {a o W : ℕ} (h : ∀ k : Fin 2, (![a, o] : Fin 2 → ℕ) k + (![256, W] : Fin 2 → ℕ) k ≤ S272x5632.size k) : a + 256 ≤ 272 ∧ o + W ≤ 5632 := ⟨h 0, h 1⟩
theorem of_inb_weight {a b W : ℕ} (h : ∀ k : Fin 3, (![a, 0, b] : Fin 3 → ℕ) k + (![1, 1024, W] : Fin 3 → ℕ) k ≤ S4x1024x1408.size k) : a < 4 ∧ b + W ≤ 1408 := ⟨h 0, h 2⟩

theorem ld_tap512 (a o : ℕ) (inb : ∀ k : Fin 2, (![a, o] : Fin 2 → ℕ) k + (![1, 512] : Fin 2 → ℕ) k ≤ S3x5632.size k) :
    View.ld (Val := Elt Ideal) (e' := .f32) x2 (Rect.unit (s := S3x5632) ![a, o] ![1, 512] inb) = tap x2 512 a o (of_inb_tap inb).1 (of_inb_tap inb).2 := rfl
theorem ld_weight512 (a b : ℕ) (inb : ∀ k : Fin 3, (![a, 0, b] : Fin 3 → ℕ) k + (![1, 1024, 512] : Fin 3 → ℕ) k ≤ S4x1024x1408.size k) :
    View.ld (Val := Elt Ideal) (e' := .bf16) x3 (Rect.unit (s := S4x1024x1408) ![a, 0, b] ![1, 1024, 512] inb) = weight x3 512 a b (of_inb_weight inb).1 (of_inb_weight inb).2 := rfl
theorem ld_rows512 (a o : ℕ) (inb : ∀ k : Fin 2, (![a, o] : Fin 2 → ℕ) k + (![256, 512] : Fin 2 → ℕ) k ≤ S272x5632.size k) :
    v.readCov (Val := Elt Ideal) [⟨Rect.unit ![256, 0] ![16, 5632] inb_S272x5632_S16x5632_256_0, k0_pay4 i x1⟩, ⟨Rect.unit ![0, 0] ![256, 5632] inb_S272x5632_S256x5632_0_0, k0_pay3 x0⟩]
      (Rect.unit (s := S272x5632) ![a, o] ![256, 512] inb).toLoadRect = rows (stacked i x0 x1) 512 a o (of_inb_rows inb).1 (of_inb_rows inb).2 :=
  funext fun j => (congrFun (View.readCov_eq_canon' v _ _) j).trans (by unfold rows stacked; rfl)
theorem ld_tap384 (a o : ℕ) (inb : ∀ k : Fin 2, (![a, o] : Fin 2 → ℕ) k + (![1, 384] : Fin 2 → ℕ) k ≤ S3x5632.size k) :
    View.ld (Val := Elt Ideal) (e' := .f32) x2 (Rect.unit (s := S3x5632) ![a, o] ![1, 384] inb) = tap x2 384 a o (of_inb_tap inb).1 (of_inb_tap inb).2 := rfl
theorem ld_weight384 (a b : ℕ) (inb : ∀ k : Fin 3, (![a, 0, b] : Fin 3 → ℕ) k + (![1, 1024, 384] : Fin 3 → ℕ) k ≤ S4x1024x1408.size k) :
    View.ld (Val := Elt Ideal) (e' := .bf16) x3 (Rect.unit (s := S4x1024x1408) ![a, 0, b] ![1, 1024, 384] inb) = weight x3 384 a b (of_inb_weight inb).1 (of_inb_weight inb).2 := rfl
theorem ld_rows384 (a o : ℕ) (inb : ∀ k : Fin 2, (![a, o] : Fin 2 → ℕ) k + (![256, 384] : Fin 2 → ℕ) k ≤ S272x5632.size k) :
    v.readCov (Val := Elt Ideal) [⟨Rect.unit ![256, 0] ![16, 5632] inb_S272x5632_S16x5632_256_0, k0_pay4 i x1⟩, ⟨Rect.unit ![0, 0] ![256, 5632] inb_S272x5632_S256x5632_0_0, k0_pay3 x0⟩]
      (Rect.unit (s := S272x5632) ![a, o] ![256, 384] inb).toLoadRect = rows (stacked i x0 x1) 384 a o (of_inb_rows inb).1 (of_inb_rows inb).2 :=
  funext fun j => (congrFun (View.readCov_eq_canon' v _ _) j).trans (by unfold rows stacked; rfl)
end

section
variable (t t' t'' : Vec Ideal S1x512 .f32) (r r' r'' : Vec Ideal S256x512 .f32)
theorem piece8 : k0_pay8 (k0_pay6 t r t' r') (k0_pay7 t'') r'' = k0_pay9 t r t' r' t'' r'' := rfl
theorem piece15 : k0_pay15 (k0_pay13 t r) (k0_pay14 t' r') t'' r'' = k0_pay9 t r t' r' t'' r'' := rfl
theorem piece17 : k0_pay17 t r t' r' t'' r'' = k0_pay9 t r t' r' t'' r'' := rfl
theorem piece21 : k0_pay21 (k0_pay20 t r) t' r' t'' r'' = k0_pay9 t r t' r' t'' r'' := rfl
theorem piece23 : k0_pay23 t r t' r' t'' r'' = k0_pay9 t r t' r' t'' r'' := rfl
theorem piece27 : k0_pay27 (k0_pay26 t) r t' r' t'' r'' = k0_pay9 t r t' r' t'' r'' := rfl
theorem piece31 : k0_pay31 (k0_pay29 t r t' r') (k0_pay30 t'') r'' = k0_pay9 t r t' r' t'' r'' := rfl
end
section
variable (t t' t'' : Vec Ideal S1x384 .f32) (r r' r'' : Vec Ideal S256x384 .f32)
theorem piece18 : k0_pay18 t r t' r' t'' r'' = k0_pay11 t r t' r' t'' r'' := rfl
theorem piece24 : k0_pay24 t r t' r' t'' r'' = k0_pay11 t r t' r' t'' r'' := rfl
theorem piece32 : k0_pay32 t r t' r' t'' r'' = k0_pay11 t r t' r' t'' r'' := rfl
end

theorem sum10 (v18 : FVec Ideal S256x1024 .f32) (v29 : FVec Ideal S256x512 .f32) (v31 : FVec Ideal S1x512 .f32) (v32 : Vec Ideal S256x512 .f32) (v38 : Vec Ideal S1x1024x512 .bf16) (v42 : Vec Ideal S1x512 .f32) (v44 : Vec Ideal S256x512 .f32) (v47 : Vec Ideal S1x512 .f32) (v49 : Vec Ideal S256x512 .f32) (v53 : Vec Ideal S1x512 .f32) (v55 : Vec Ideal S256x512 .f32) (v61 : Vec Ideal S1x1024x512 .bf16) :
    k0_pay10 v18 v29 v31 v32 v38 v42 v44 v47 v49 v53 v55 v61 = plus512 (plus512 v18 (k0_pay8 v29 v31 v32) v38) (k0_pay9 v42 v44 v47 v49 v53 v55) v61 := rfl
theorem sum12 (v64 : FVec Ideal S256x1024 .f32) (v65 : Vec Ideal S1x384 .f32) (v67 : Vec Ideal S256x384 .f32) (v70 : Vec Ideal S1x384 .f32) (v72 : Vec Ideal S256x384 .f32) (v76 : Vec Ideal S1x384 .f32) (v78 : Vec Ideal S256x384 .f32) (v84 : Vec Ideal S1x1024x384 .bf16) :
    k0_pay12 v64 v65 v67 v70 v72 v76 v78 v84 = plus384 v64 (k0_pay11 v65 v67 v70 v72 v76 v78) v84 := rfl
theorem sum16 (v87 : FVec Ideal S256x1024 .f32) (v92 : FVec Ideal S256x512 .f32) (v97 : FVec Ideal S256x512 .f32) (v99 : Vec Ideal S1x512 .f32) (v101 : Vec Ideal S256x512 .f32) (v107 : Vec Ideal S1x1024x512 .bf16) :
    k0_pay16 v87 v92 v97 v99 v101 v107 = plus512 v87 (k0_pay15 v92 v97 v99 v101) v107 := rfl
theorem sum19 (v110 : FVec Ideal S256x1024 .f32) (v128 : FVec Ideal S256x512 .bf16) (v130 : Vec Ideal S1x1024x512 .bf16) (v134 : Vec Ideal S1x384 .f32) (v136 : Vec Ideal S256x384 .f32) (v139 : Vec Ideal S1x384 .f32) (v141 : Vec Ideal S256x384 .f32) (v145 : Vec Ideal S1x384 .f32) (v147 : Vec Ideal S256x384 .f32) (v153 : Vec Ideal S1x1024x384 .bf16) :
    k0_pay19 v110 v128 v130 v134 v136 v139 v141 v145 v147 v153 = plus384 (plus512 v110 v128 v130) (k0_pay18 v134 v136 v139 v141 v145 v147) v153 := rfl
theorem sum22 (v156 : FVec Ideal S256x1024 .f32) (v161 : FVec Ideal S256x512 .f32) (v162 : Vec Ideal S1x512 .f32) (v164 : Vec Ideal S256x512 .f32) (v168 : Vec Ideal S1x512 .f32) (v170 : Vec Ideal S256x512 .f32) (v176 : Vec Ideal S1x1024x512 .bf16) :
    k0_pay22 v156 v161 v162 v164 v168 v170 v176 = plus512 v156 (k0_pay21 v161 v162 v164 v168 v170) v176 := rfl
theorem sum25 (v179 : FVec Ideal S256x1024 .f32) (v197 : FVec Ideal S256x512 .bf16) (v199 : Vec Ideal S1x1024x512 .bf16) (v203 : Vec Ideal S1x384 .f32) (v205 : Vec Ideal S256x384 .f32) (v208 : Vec Ideal S1x384 .f32) (v210 : Vec Ideal S256x384 .f32) (v214 : Vec Ideal S1x384 .f32) (v216 : Vec Ideal S256x384 .f32) (v222 : Vec Ideal S1x1024x384 .bf16) :
    k0_pay25 v179 v197 v199 v203 v205 v208 v210 v214 v216 v222 = plus384 (plus512 v179 v197 v199) (k0_pay24 v203 v205 v208 v210 v214 v216) v222 := rfl
theorem sum28 (v225 : FVec Ideal S256x1024 .f32) (v227 : FVec Ideal S1x512 .f32) (v228 : Vec Ideal S256x512 .f32) (v231 : Vec Ideal S1x512 .f32) (v233 : Vec Ideal S256x512 .f32) (v237 : Vec Ideal S1x512 .f32) (v239 : Vec Ideal S256x512 .f32) (v245 : Vec Ideal S1x1024x512 .bf16) :
    k0_pay28 v225 v227 v228 v231 v233 v237 v239 v245 = plus512 v225 (k0_pay27 v227 v228 v231 v233 v237 v239) v245 := rfl
theorem sum33 (v248 : FVec Ideal S256x1024 .f32) (v259 : FVec Ideal S256x512 .f32) (v261 : FVec Ideal S1x512 .f32) (v262 : Vec Ideal S256x512 .f32) (v268 : Vec Ideal S1x1024x512 .bf16) (v272 : Vec Ideal S1x384 .f32) (v274 : Vec Ideal S256x384 .f32) (v277 : Vec Ideal S1x384 .f32) (v279 : Vec Ideal S256x384 .f32) (v283 : Vec Ideal S1x384 .f32) (v285 : Vec Ideal S256x384 .f32) (v291 : Vec Ideal S1x1024x384 .bf16) :
    k0_pay33 v248 v259 v261 v262 v268 v272 v274 v277 v279 v283 v285 v291 = plus384 (plus512 v248 (k0_pay31 v259 v261 v262) v268) (k0_pay32 v272 v274 v277 v279 v283 v285) v291 := rfl

section
variable (x2 : Vec Ideal S3x5632 .f32) (x3 : Vec Ideal S4x1024x1408 .bf16) (D : S272x5632.Idx → EReal)
theorem wide_eq (o : ℕ) (h2 : 2 < 3) (h1 : 1 < 3) (h0 : 0 < 3) (g0 : 0 + 256 ≤ 272) (g1 : 1 + 256 ≤ 272) (g2 : 2 + 256 ≤ 272) (ho : o + 512 ≤ 5632) :
    k0_pay9 (tap x2 512 2 o h2 ho) (rows D 512 0 o g0 ho) (tap x2 512 1 o h1 ho) (rows D 512 1 o g1 ho) (tap x2 512 0 o h0 ho) (rows D 512 2 o g2 ho) = wide x2 D o ho := rfl
theorem narrow_eq (o : ℕ) (h2 : 2 < 3) (h1 : 1 < 3) (h0 : 0 < 3) (g0 : 0 + 256 ≤ 272) (g1 : 1 + 256 ≤ 272) (g2 : 2 + 256 ≤ 272) (ho : o + 384 ≤ 5632) :
    k0_pay11 (tap x2 384 2 o h2 ho) (rows D 384 0 o g0 ho) (tap x2 384 1 o h1 ho) (rows D 384 1 o g1 ho) (tap x2 384 0 o h0 ho) (rows D 384 2 o g2 ho) = narrow x2 D o ho := rfl
theorem back_eq : plus384 (plus512 (plus512 (plus384 (plus512 (plus512 (plus384 (plus512 (plus512 (plus384 (plus512 (plus512 k0_pay5 (wide x2 D 0 (by omega)) (weight x3 512 0 0 (by omega) (by omega))) (wide x2 D 512 (by omega)) (weight x3 512 0 512 (by omega) (by omega))) (narrow x2 D 1024 (by omega)) (weight x3 384 0 1024 (by omega) (by omega))) (wide x2 D 1408 (by omega)) (weight x3 512 1 0 (by omega) (by omega))) (wide x2 D 1920 (by omega)) (weight x3 512 1 512 (by omega) (by omega))) (narrow x2 D 2432 (by omega)) (weight x3 384 1 1024 (by omega) (by omega))) (wide x2 D 2816 (by omega)) (weight x3 512 2 0 (by omega) (by omega))) (wide x2 D 3328 (by omega)) (weight x3 512 2 512 (by omega) (by omega))) (narrow x2 D 3840 (by omega)) (weight x3 384 2 1024 (by omega) (by omega))) (wide x2 D 4224 (by omega)) (weight x3 512 3 0 (by omega) (by omega))) (wide x2 D 4736 (by omega)) (weight x3 512 3 512 (by omega) (by omega))) (narrow x2 D 5248 (by omega)) (weight x3 384 3 1024 (by omega) (by omega)) = back x2 x3 D := rfl
end

/-! ## The two norms -/

section
variable (d x4 x6 x7 : FVec Ideal S256x1024 .f32) (x5 x8 : Vec Ideal S1x1024 .f32) (x9 : Vec Ideal S1024x1024 .bf16) (r : Fin 256) (l : Fin 1024)

theorem pay38_at : k0_pay38 d x4 x5 x6 (ix2 r l) = x6 (ix2 r l) + gradOut (fun k => x4 (ix2 r k)) (fun k => d (ix2 r k)) (fun k => x5 (ix2 0 k)) l := by
  pointwise [k0_pay38, k0_pay36, k0_pay35, k0_pay34]
  rfl

theorem pay37_at : k0_pay37 d x4 (ix2 0 l) = ∑ r : Fin 256, d (ix2 r l) * (x4 (ix2 r l) * rstd fun k => x4 (ix2 r k)) := by
  pointwise [k0_pay37, k0_pay36, k0_pay35, k0_pay34]
  rfl

theorem pay44_at : k0_pay44 d (k0_pay39 x7) (k0_pay40 x7) x8 (ix2 r l) = gradOut (fun k => x7 (ix2 r k)) (fun k => d (ix2 r k)) (fun k => x8 (ix2 0 k)) l := by
  pointwise [k0_pay44, k0_pay42, k0_pay41, k0_pay40, k0_pay39]
  rfl

theorem pay45_at (k : Fin 1024) : k0_pay45 d (k0_pay39 x7) (k0_pay40 x7) x8 x9 (ix2 r k)
    = ∑ l, gradOut (fun k => x7 (ix2 r k)) (fun k => d (ix2 r k)) (fun k => x8 (ix2 0 k)) l * x9 (ix2 k l) := by
  pointwise [k0_pay45, pay44_at]

theorem pay43_at : k0_pay43 d (k0_pay39 x7) (k0_pay40 x7) (ix2 0 l) = ∑ r : Fin 256, d (ix2 r l) * (x7 (ix2 r l) * rstd fun k => x7 (ix2 r k)) := by
  pointwise [k0_pay43, k0_pay42, k0_pay41, k0_pay40, k0_pay39]
  rfl
end

end Cert.Kernel3Ideal.Gen

end
-- ==== Proof.HeadBlocks.lean ====
/- The blocks that a point of the grid reads, at an index, as functions of the arrays that the program is given. -/
module

public import proofs.«01_k».proof.Proof.HeadBody
public import Idealize.ShloMosaic.Lib.StableHlo.ReadAt

@[expose] public section

noncomputable section

namespace Cert.Kernel3Ideal.Gen

open Cert.Kernel3Ideal Cert.Proof Cert.Proof.Head Idealize.ShloMosaic Idealize.ShloMosaic.TcCoe Idealize.SL.Sem
open Idealize.ShloMosaic.Pipeline (Dat)

variable (m : (ℓ : Loc nD τ sig) → Buf (Elt Ideal) ℓ) (c : Dev nD)

/-- The arrays that the program is given. -/
abbrev ax : Rows := m ((c : Thread nD τ).loc main_arg0)
abbrev am : Rows := m ((c : Thread nD τ).loc main_arg1)
abbrev ap : Gain := m ((c : Thread nD τ).loc main_arg2)
abbrev aq : Gain := m ((c : Thread nD τ).loc main_arg3)
abbrev ao : Out := m ((c : Thread nD τ).loc main_arg4)
abbrev au : Up := m ((c : Thread nD τ).loc main_arg5)
abbrev aw : Taps := m ((c : Thread nD τ).loc main_arg6)
abbrev az : Conv := m ((c : Thread nD τ).loc main_arg7)
abbrev ay : Res := m ((c : Thread nD τ).loc main_arg8)

theorem V_mixed (r : Fin 16384) (l : Fin 1024) : V m c main_v24 (ix2 r l) = mixed (am m c) (ao m c) r l := by
  unfold V; after_reads_at; rfl
theorem V_x1 (r : Fin 16384) (l : Fin 1024) : V m c main_v23 (ix2 r l) = resid (ax m c) (am m c) (ap m c) (ao m c) r l := by
  unfold V; after_reads_at; rfl
theorem V_du (r : Fin 16384) (j : Fin 5632) : V m c main_v21 (ix2 r j) = az m c (ix2 r j) := by
  unfold V; after_reads_at
theorem V_taps (k : Fin 3) (j : Fin 5632) : V m c main_v22 (ix2 k j) = aw m c (ix3 0 k j) := by
  unfold V; after_reads_at
theorem V_up (a : Fin 4) (l : Fin 1024) (b : Fin 1408) : V m c main_v20 (ix3 a l b) = au m c (ix3 0 l ⟨a.val * 1408 + b.val, by omega⟩) := by
  unfold V; after_reads_at
theorem V_out (k l : Fin 1024) : V m c main_v26 (ix2 k l) = ao m c (ix3 0 k l) := by
  unfold V; after_reads_at

/-- A point as a number below 64. -/
def pt (t : Fin cfg0.N) : Fin 64 := ⟨t.val, lt_of_lt_of_eq t.isLt (show cfg0.N = 64 from N_0)⟩

theorem coord0 : ∀ t : Fin cfg0.N, ((grid0.coords t) 0).val = t.val :=
  (by decide +kernel : ∀ t : Fin grid0.N, ((grid0.coords t) 0).val = t.val)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = min (t.val + 1) 63 * 16 ∧ win0_1.index t 1 = 0 :=
  (by decide +kernel : ∀ t : Fin grid0.N, win0_1.index t 0 = min (t.val + 1) 63 * 16 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

theorem blk_du (t : Fin cfg0.N) (r : Fin 256) (j : Fin 5632) :
    (iblk m c 0 t : Vec Ideal S256x5632 .bf16) (ix2 r j) = az m c (ix2 (at256 (pt t) r) j) := by
  rw [← V_du m c]
  unfold iblk
  rw [View.read_apply]
  show V m c main_v21 _ = V m c main_v21 _
  congr 1
  funext a
  apply Fin.ext
  match a with
  | ⟨0, _⟩ => show win0_0.index t 0 * 256 + 1 * r.val = t.val * 256 + r.val; rw [(idx0 t).1]; omega
  | ⟨1, _⟩ => show win0_0.index t 1 * 5632 + 1 * j.val = j.val; rw [(idx0 t).2]; omega

theorem blk_below (t : Fin cfg0.N) (h : t.val < 63) (r : Fin 16) (j : Fin 5632) :
    (iblk m c 1 t : Vec Ideal S16x5632 .bf16) (ix2 r j) = az m c (ix2 ⟨(t.val + 1) * 256 + r.val, by omega⟩ j) := by
  rw [← V_du m c]
  unfold iblk
  rw [View.read_apply]
  show V m c main_v21 _ = V m c main_v21 _
  congr 1
  funext a
  apply Fin.ext
  match a with
  | ⟨0, _⟩ => show win0_1.index t 0 * 16 + 1 * r.val = (t.val + 1) * 256 + r.val; rw [(idx1 t).1]; omega
  | ⟨1, _⟩ => show win0_1.index t 1 * 5632 + 1 * j.val = j.val; rw [(idx1 t).2]; omega

theorem blk_taps (t : Fin cfg0.N) (k : Fin 3) (j : Fin 5632) :
    (iblk m c 2 t : Vec Ideal S3x5632 .f32) (ix2 k j) = aw m c (ix3 0 k j) := by
  rw [← V_taps m c]
  unfold iblk
  rw [View.read_apply]
  show V m c main_v22 _ = V m c main_v22 _
  congr 1
  funext a
  apply Fin.ext
  match a with
  | ⟨0, _⟩ => show win0_2.index t 0 * 3 + 1 * k.val = k.val; rw [(idx2 t).1]; omega
  | ⟨1, _⟩ => show win0_2.index t 1 * 5632 + 1 * j.val = j.val; rw [(idx2 t).2]; omega

theorem blk_up (t : Fin cfg0.N) (a : Fin 4) (l : Fin 1024) (b : Fin 1408) :
    (iblk m c 3 t : Vec Ideal S4x1024x1408 .bf16) (ix3 a l b) = au m c (ix3 0 l ⟨a.val * 1408 + b.val, by omega⟩) := by
  rw [← V_up m c]
  unfold iblk
  rw [View.read_apply]
  show V m c main_v20 _ = V m c main_v20 _
  congr 1
  funext i
  apply Fin.ext
  match i with
  | ⟨0, _⟩ => show win0_3.index t 0 * 4 + 1 * a.val = a.val; rw [(idx3 t).1]; omega
  | ⟨1, _⟩ => show win0_3.index t 1 * 1024 + 1 * l.val = l.val; rw [(idx3 t).2.1]; omega
  | ⟨2, _⟩ => show win0_3.index t 2 * 1408 + 1 * b.val = b.val; rw [(idx3 t).2.2]; omega

theorem blk_x1 (t : Fin cfg0.N) (r : Fin 256) (l : Fin 1024) :
    (iblk m c 4 t : Vec Ideal S256x1024 .f32) (ix2 r l) = resid (ax m c) (am m c) (ap m c) (ao m c) (at256 (pt t) r) l := by
  rw [← V_x1 m c]
  unfold iblk
  rw [View.read_apply]
  show V m c main_v23 _ = V m c main_v23 _
  congr 1
  funext a
  apply Fin.ext
  match a with
  | ⟨0, _⟩ => show win0_4.index t 0 * 256 + 1 * r.val = t.val * 256 + r.val; rw [(idx4 t).1]; omega
  | ⟨1, _⟩ => show win0_4.index t 1 * 1024 + 1 * l.val = l.val; rw [(idx4 t).2]; omega

theorem blk_dout (t : Fin cfg0.N) (r : Fin 256) (l : Fin 1024) :
    (iblk m c 6 t : Vec Ideal S256x1024 .f32) (ix2 r l) = ay m c (ix2 (at256 (pt t) r) l) := by
  rw [show ay m c = V m c main_arg8 from (V_main_arg8 m c).symm]
  unfold iblk
  rw [View.read_apply]
  show V m c main_arg8 _ = V m c main_arg8 _
  congr 1
  funext a
  apply Fin.ext
  match a with
  | ⟨0, _⟩ => show win0_6.index t 0 * 256 + 1 * r.val = t.val * 256 + r.val; rw [(idx6 t).1]; omega
  | ⟨1, _⟩ => show win0_6.index t 1 * 1024 + 1 * l.val = l.val; rw [(idx6 t).2]; omega

theorem blk_mixed (t : Fin cfg0.N) (r : Fin 256) (l : Fin 1024) :
    (iblk m c 7 t : Vec Ideal S256x1024 .f32) (ix2 r l) = mixed (am m c) (ao m c) (at256 (pt t) r) l := by
  rw [← V_mixed m c]
  unfold iblk
  rw [View.read_apply]
  show V m c main_v24 _ = V m c main_v24 _
  congr 1
  funext a
  apply Fin.ext
  match a with
  | ⟨0, _⟩ => show win0_7.index t 0 * 256 + 1 * r.val = t.val * 256 + r.val; rw [(idx7 t).1]; omega
  | ⟨1, _⟩ => show win0_7.index t 1 * 1024 + 1 * l.val = l.val; rw [(idx7 t).2]; omega

theorem blk_g_pre (t : Fin cfg0.N) (l : Fin 1024) :
    (iblk m c 5 t : Vec Ideal S1x1024 .f32) (ix2 0 l) = aq m c (ix2 0 l) := by
  rw [show aq m c = V m c main_arg3 from (V_main_arg3 m c).symm]
  unfold iblk
  rw [View.read_apply]
  show V m c main_arg3 _ = V m c main_arg3 _
  congr 1
  funext a
  apply Fin.ext
  match a with
  | ⟨0, _⟩ => show win0_5.index t 0 * 1 + 1 * 0 = 0; rw [(idx5 t).1]
  | ⟨1, _⟩ => show win0_5.index t 1 * 1024 + 1 * l.val = l.val; rw [(idx5 t).2]; omega

theorem blk_g_post (t : Fin cfg0.N) (l : Fin 1024) :
    (iblk m c 8 t : Vec Ideal S1x1024 .f32) (ix2 0 l) = ap m c (ix2 0 l) := by
  rw [show ap m c = V m c main_arg2 from (V_main_arg2 m c).symm]
  unfold iblk
  rw [View.read_apply]
  show V m c main_arg2 _ = V m c main_arg2 _
  congr 1
  funext a
  apply Fin.ext
  match a with
  | ⟨0, _⟩ => show win0_8.index t 0 * 1 + 1 * 0 = 0; rw [(idx8 t).1]
  | ⟨1, _⟩ => show win0_8.index t 1 * 1024 + 1 * l.val = l.val; rw [(idx8 t).2]; omega

theorem blk_out (t : Fin cfg0.N) (k l : Fin 1024) :
    (iblk m c 9 t : Vec Ideal S1024x1024 .bf16) (ix2 k l) = ao m c (ix3 0 k l) := by
  rw [← V_out m c]
  unfold iblk
  rw [View.read_apply]
  show V m c main_v26 _ = V m c main_v26 _
  congr 1
  funext a
  apply Fin.ext
  match a with
  | ⟨0, _⟩ => show win0_9.index t 0 * 1024 + 1 * k.val = k.val; rw [(idx9 t).1]; omega
  | ⟨1, _⟩ => show win0_9.index t 1 * 1024 + 1 * l.val = l.val; rw [(idx9 t).2]; omega

/-! ## The convolution and the product with the weight -/

/-- The rows under each other of a point. -/
abbrev stackOf (t : Fin cfg0.N) : S272x5632.Idx → EReal := stacked (grid0.coords t) (iblk m c 0 t : Vec Ideal S256x5632 .bf16) (iblk m c 1 t : Vec Ideal S16x5632 .bf16)

theorem stackOf_at (t : Fin cfg0.N) (r : Fin 256) (k : ℕ) (hk : k < 3) (j : Fin 5632) :
    stackOf m c t (ix2 ⟨k + r.val, by omega⟩ j) = later (az m c) (at256 (pt t) r) j k := by
  have ht : t.val < 64 := (pt t).isLt
  unfold later
  rcases Nat.lt_or_ge (k + r.val) 256 with h | h
  · rw [stackOf, stacked_block _ _ _ _ h, blk_du]
    have hb : (at256 (pt t) r).val + k < 16384 := by show t.val * 256 + r.val + k < 16384; omega
    rw [dif_pos hb]
    exact congrArg (fun e => az m c (ix2 e j)) (Fin.ext (by show t.val * 256 + (k + r.val) = t.val * 256 + r.val + k; omega))
  · have e : (⟨k + r.val, by omega⟩ : Fin 272) = ⟨256 + (⟨k + r.val - 256, by omega⟩ : Fin 16).val, by dsimp only; omega⟩ := Fin.ext (by dsimp only; omega)
    rw [e, stackOf, stacked_below, coord0]
    rcases Nat.lt_or_ge t.val 63 with h' | h'
    · have hb : (at256 (pt t) r).val + k < 16384 := by show t.val * 256 + r.val + k < 16384; omega
      rw [if_pos h', blk_below m c t h', dif_pos hb]
      exact congrArg (fun e => az m c (ix2 e j)) (Fin.ext (by show (t.val + 1) * 256 + (k + r.val - 256) = t.val * 256 + r.val + k; omega))
    · have hb : ¬ (at256 (pt t) r).val + k < 16384 := by show ¬ t.val * 256 + r.val + k < 16384; omega
      rw [if_neg (by omega), dif_neg hb]

theorem tile_at (t : Fin cfg0.N) (r : Fin 256) (j : Fin 5632) :
    tile (iblk m c 2 t : Vec Ideal S3x5632 .f32) (stackOf m c t) r j = conv (aw m c) (az m c) (at256 (pt t) r) j := by
  unfold tile conv
  rw [← stackOf_at m c t r 0 (by decide), ← stackOf_at m c t r 1 (by decide), ← stackOf_at m c t r 2 (by decide), blk_taps, blk_taps, blk_taps]
  have e0 : (⟨0 + r.val, by omega⟩ : Fin 272) = ⟨r.val, by omega⟩ := Fin.ext (Nat.zero_add _)
  rw [e0]

theorem weightAt_eq (t : Fin cfg0.N) (l : Fin 1024) (j : Fin 5632) : weightAt (iblk m c 3 t : Vec Ideal S4x1024x1408 .bf16) l j = au m c (ix3 0 l j) := by
  unfold weightAt
  rw [blk_up]
  exact congrArg (fun e => au m c (ix3 0 l e)) (Fin.ext (by dsimp only; omega))

/-- The product of a point. -/
abbrev backOf (t : Fin cfg0.N) : FVec Ideal S256x1024 .f32 := back (iblk m c 2 t : Vec Ideal S3x5632 .f32) (iblk m c 3 t : Vec Ideal S4x1024x1408 .bf16) (stackOf m c t)

theorem backOf_at (t : Fin cfg0.N) (r : Fin 256) (l : Fin 1024) : backOf m c t (ix2 r l) = normed (au m c) (aw m c) (az m c) (at256 (pt t) r) l := by
  unfold backOf normed
  rw [back_at]
  exact Finset.sum_congr rfl fun j _ => by rw [tile_at, weightAt_eq]

/-! ## The two norms -/

/-- The gradient of the residual, of a point. -/
abbrev residOf (t : Fin cfg0.N) : FVec Ideal S256x1024 .f32 :=
  k0_pay38 (backOf m c t) (iblk m c 4 t : Vec Ideal S256x1024 .f32) (iblk m c 5 t : Vec Ideal S1x1024 .f32) (iblk m c 6 t : Vec Ideal S256x1024 .f32)

theorem residOf_at (t : Fin cfg0.N) (r : Fin 256) (l : Fin 1024) :
    residOf m c t (ix2 r l) = gradResid (ax m c) (am m c) (ap m c) (aq m c) (ao m c) (au m c) (aw m c) (az m c) (ay m c) (at256 (pt t) r) l := by
  unfold residOf gradResid
  rw [pay38_at]
  simp only [blk_x1, blk_dout, blk_g_pre, backOf_at]
  rfl

theorem mixedOf_at (t : Fin cfg0.N) (r : Fin 256) (l : Fin 1024) :
    k0_pay44 (residOf m c t) (k0_pay39 (iblk m c 7 t : Vec Ideal S256x1024 .f32)) (k0_pay40 (iblk m c 7 t : Vec Ideal S256x1024 .f32)) (iblk m c 8 t : Vec Ideal S1x1024 .f32) (ix2 r l)
      = gradMixed (ax m c) (am m c) (ap m c) (aq m c) (ao m c) (au m c) (aw m c) (az m c) (ay m c) (at256 (pt t) r) l := by
  rw [pay44_at]
  simp only [blk_mixed, blk_g_post, residOf_at]
  rfl

theorem headsOf_at (t : Fin cfg0.N) (r : Fin 256) (k : Fin 1024) :
    k0_pay45 (residOf m c t) (k0_pay39 (iblk m c 7 t : Vec Ideal S256x1024 .f32)) (k0_pay40 (iblk m c 7 t : Vec Ideal S256x1024 .f32)) (iblk m c 8 t : Vec Ideal S1x1024 .f32) (iblk m c 9 t : Vec Ideal S1024x1024 .bf16) (ix2 r k)
      = gradHeads (ax m c) (am m c) (ap m c) (aq m c) (ao m c) (au m c) (aw m c) (az m c) (ay m c) (at256 (pt t) r) k := by
  rw [pay45_at]
  unfold gradHeads
  exact Finset.sum_congr rfl fun l _ => by rw [← mixedOf_at, pay44_at, blk_out]

theorem preOf_at (t : Fin cfg0.N) (l : Fin 1024) :
    k0_pay37 (backOf m c t) (iblk m c 4 t : Vec Ideal S256x1024 .f32) (ix2 0 l)
      = ∑ r : Fin 256, gainPre (ax m c) (am m c) (ap m c) (ao m c) (au m c) (aw m c) (az m c) l (at256 (pt t) r) := by
  rw [pay37_at]
  simp only [blk_x1, backOf_at]
  rfl

theorem postOf_at (t : Fin cfg0.N) (l : Fin 1024) :
    k0_pay43 (residOf m c t) (k0_pay39 (iblk m c 7 t : Vec Ideal S256x1024 .f32)) (k0_pay40 (iblk m c 7 t : Vec Ideal S256x1024 .f32)) (ix2 0 l)
      = ∑ r : Fin 256, gainPost (ax m c) (am m c) (ap m c) (aq m c) (ao m c) (au m c) (aw m c) (az m c) (ay m c) l (at256 (pt t) r) := by
  rw [pay43_at]
  simp only [blk_mixed, residOf_at]
  rfl

end Cert.Kernel3Ideal.Gen

end
-- ==== Proof.HeadOut.lean ====
/- What one point of the grid writes in its five blocks: the body's stores read back. -/
module

public import proofs.«01_k».proof.Proof.HeadBody
public import Idealize.ShloMosaic.Lib.Pipeline.ValueKit.Tiles

@[expose] public section

noncomputable section

namespace Cert.Kernel3Ideal.Gen

open Cert.Kernel3Ideal Cert.Proof Idealize.ShloMosaic Idealize.ShloMosaic.TcCoe Idealize.SL.Sem

theorem hz : (![0, 0] : Fin 2 → Nat) = fun _ => 0 := funext fun a => by fin_cases a <;> rfl

/-- A store of one row, read at an index. -/
theorem read_store {κ : Kind} {sp : Space} (v : View sig κ sp S8x1024 .f32) (f : v.ty.Contents (Elt Ideal)) (o : ℕ) (inb) (w : S1x1024.Idx → Elt Ideal .f32)
    (L : List (View.Piece (Elt Ideal) S8x1024 .f32)) (r : Fin 8) (l : Fin 1024) :
    v.read (Elt Ideal) (v.writes (Elt Ideal) f (⟨Rect.unit (s := S8x1024) ![o, 0] S1x1024.size inb, w⟩ :: L)) (ix2 r l)
      = if r.val = o then w (ix2 0 l) else v.read (Elt Ideal) (v.writes (Elt Ideal) f L) (ix2 r l) := by
  split_ifs with h
  · exact View.read_writes_cons_unit_of_mem v f inb w L (ix2 r l) (ix2 0 l) rfl
      (Fin.forall_fin_two.mpr ⟨by show r.val = o + 0; omega, by show l.val = 0 + l.val; omega⟩)
  · refine View.read_writes_cons_unit_of_not_mem v f inb w L (ix2 r l) rfl (0 : Fin 2) ?_
    rcases Nat.lt_or_ge r.val o with h' | h'
    · exact .inl (by show r.val < o; omega)
    · exact .inr (by show o + 1 ≤ r.val; omega)

/-- A store of the whole, read at an index. -/
theorem read_whole {κ : Kind} {sp : Space} (v : View sig κ sp S8x1024 .f32) (f : v.ty.Contents (Elt Ideal)) (inb) (w : S8x1024.Idx → Elt Ideal .f32)
    (L : List (View.Piece (Elt Ideal) S8x1024 .f32)) (r : Fin 8) (l : Fin 1024) :
    v.read (Elt Ideal) (v.writes (Elt Ideal) f (⟨Rect.unit (s := S8x1024) ![0, 0] S8x1024.size inb, w⟩ :: L)) (ix2 r l) = w (ix2 r l) :=
  View.read_writes_cons_unit_of_mem v f inb w L (ix2 r l) (ix2 r l) rfl
    (Fin.forall_fin_two.mpr ⟨(Nat.zero_add _).symm, (Nat.zero_add _).symm⟩)

theorem inb_lt {o : ℕ} (inb : ∀ a : Fin 2, (![o, 0] : Fin 2 → ℕ) a + S1x1024.size a ≤ S8x1024.size a) : o < 8 := inb 0

/-- A load of one row. -/
theorem ld_store (X : S8x1024.Idx → Elt Ideal .f32) (o : ℕ) (inb) (l : Fin 1024) :
    View.ld X (Rect.unit (s := S8x1024) ![o, 0] S1x1024.size inb) (ix2 0 l) = X (ix2 ⟨o, inb_lt inb⟩ l) :=
  congrArg X (funext fun a => match a with
    | ⟨0, _⟩ => rfl
    | ⟨1, _⟩ => Fin.ext (by show 0 + 1 * l.val = l.val; omega))

/-- A row loaded of what stores left. -/
theorem readCov_row {κ : Kind} {sp : Space} (v : View sig κ sp S8x1024 .f32) (L : List (View.Piece (Elt Ideal) S8x1024 .f32)) (o : ℕ) (inb) (l : Fin 1024) :
    v.readCov L (Rect.unit (s := S8x1024) ![o, 0] S1x1024.size inb).toLoadRect (ix2 0 l)
      = v.read (Elt Ideal) (v.writes (Elt Ideal) v.junk L) (ix2 ⟨o, inb_lt inb⟩ l) :=
  congrArg (v.read (Elt Ideal) (v.writes (Elt Ideal) v.junk L)) (funext fun a => match a with
    | ⟨0, _⟩ => rfl
    | ⟨1, _⟩ => Fin.ext (by show 0 + 1 * l.val = l.val; omega))

theorem add_row (a b : FVec Ideal S1x1024 .f32) (l : Fin 1024) : k0_pay1 a b (ix2 0 l) = b (ix2 0 l) + a (ix2 0 l) := by
  unfold k0_pay1
  rw [ValueIdx.addf_apply, shapeCast_self]

theorem add_row' (a b : FVec Ideal S1x1024 .f32) (l : Fin 1024) : k0_pay46 a b (ix2 0 l) = b (ix2 0 l) + a (ix2 0 l) := by
  unfold k0_pay46
  rw [ValueIdx.addf_apply, shapeCast_self]

theorem zeros_at (r : Fin 8) (l : Fin 1024) : k0_pay2 (F := Ideal) (ix2 r l) = 0 := by
  pointwise [k0_pay2]

/-- Two rows added to a block of zeros. -/
theorem two_rows_A {κ κ' : Kind} {sp sp' : Space} (v : View sig κ sp S8x1024 .f32) (u : View sig κ' sp' S8x1024 .f32) (f : v.ty.Contents (Elt Ideal)) (a b : FVec Ideal S1x1024 .f32) (i1 i2 i3) (r : Fin 8) (l : Fin 1024) :
    v.read (Elt Ideal) (v.writes (Elt Ideal) f
      [⟨Rect.unit (s := S8x1024) ![1, 0] S1x1024.size i1, k0_pay1 b (u.readCov
          [⟨Rect.unit (s := S8x1024) ![0, 0] S1x1024.size i2, k0_pay46 a (u.readCov [⟨Rect.unit (s := S8x1024) ![0, 0] S8x1024.size i3, k0_pay2 (F := Ideal)⟩] (Rect.unit (s := S8x1024) ![0, 0] S1x1024.size i2).toLoadRect)⟩,
            ⟨Rect.unit (s := S8x1024) ![0, 0] S8x1024.size i3, k0_pay2 (F := Ideal)⟩] (Rect.unit (s := S8x1024) ![1, 0] S1x1024.size i1).toLoadRect)⟩,
        ⟨Rect.unit (s := S8x1024) ![0, 0] S1x1024.size i2, k0_pay46 a (u.readCov [⟨Rect.unit (s := S8x1024) ![0, 0] S8x1024.size i3, k0_pay2 (F := Ideal)⟩] (Rect.unit (s := S8x1024) ![0, 0] S1x1024.size i2).toLoadRect)⟩,
        ⟨Rect.unit (s := S8x1024) ![0, 0] S8x1024.size i3, k0_pay2 (F := Ideal)⟩]) (ix2 r l)
      = if r.val < 1 then a (ix2 0 l) else if r.val < 2 then b (ix2 0 l) else 0 := by
  rw [read_store, read_store, read_whole, add_row, add_row', readCov_row, readCov_row, read_store, read_whole, read_whole, zeros_at, zeros_at, zeros_at]
  rw [if_neg (by decide : ¬ (1 : ℕ) = 0), zero_add, zero_add]
  split_ifs <;> first | rfl | omega

/-- Two rows added to a block held. -/
theorem two_rows_B {κ : Kind} {sp : Space} (v : View sig κ sp S8x1024 .f32) (f : v.ty.Contents (Elt Ideal)) (X : FVec Ideal S8x1024 .f32) (hX : v.read (Elt Ideal) f = X) (a b : FVec Ideal S1x1024 .f32) (i1 i2) (r : Fin 8) (l : Fin 1024) :
    v.read (Elt Ideal) (v.writes (Elt Ideal) f
      [⟨Rect.unit (s := S8x1024) ![1, 0] S1x1024.size i1, k0_pay1 b (View.ld X (Rect.unit (s := S8x1024) ![1, 0] S1x1024.size i1))⟩,
        ⟨Rect.unit (s := S8x1024) ![0, 0] S1x1024.size i2, k0_pay46 a (View.ld X (Rect.unit (s := S8x1024) ![0, 0] S1x1024.size i2))⟩]) (ix2 r l)
      = if r.val < 1 then X (ix2 0 l) + a (ix2 0 l) else if r.val < 2 then X (ix2 1 l) + b (ix2 0 l) else X (ix2 r l) := by
  rw [read_store, read_store, add_row, add_row', ld_store, ld_store]
  have e : v.read (Elt Ideal) (v.writes (Elt Ideal) f []) (ix2 r l) = X (ix2 r l) := congrFun hX _
  rw [e]
  split_ifs <;> first | rfl | omega

section
variable (c : Dev nD) (i : grid0.Coords) (arg1 : Memref sig .tc .vmem S256x5632 .bf16) (harg1 : arg1.IsWhole) (arg2 : Memref sig .tc .vmem S16x5632 .bf16) (harg2 : arg2.IsWhole) (arg3 : Memref sig .tc .vmem S3x5632 .f32) (harg3 : arg3.IsWhole) (arg4 : Memref sig .tc .vmem S4x1024x1408 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S8x1024 .f32) (harg15 : arg15.IsWhole) (arg16 : Memref sig .tc .vmem S272x5632 .f32) (harg16 : arg16.IsWhole)
    (x0 : Vec Ideal S256x5632 .bf16) (x1 : Vec Ideal S16x5632 .bf16) (x2 : Vec Ideal S3x5632 .f32) (x3 : Vec Ideal S4x1024x1408 .bf16) (x4 : Vec Ideal S256x1024 .f32) (x5 : Vec Ideal S1x1024 .f32) (x6 : Vec Ideal S256x1024 .f32) (x7 : Vec Ideal S256x1024 .f32) (x8 : Vec Ideal S1x1024 .f32) (x9 : Vec Ideal S1024x1024 .bf16) (xo14 : Vec Ideal S8x1024 .f32)

theorem out10_A (hc0 : cond0_0 i) (r : Fin 256) (j : Fin 5632) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 r j) = tile x2 (stacked i x0 x1) r j := by
  unfold out0_A_10
  rw [View.read_writes_junk_eq_canon]
  refine View.canon_eq_of_allAt _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 r j)) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, piece8, piece15, piece17, piece18, piece21, piece23, piece24, piece27, piece31, piece32]
  repeat first
    | exact View.allAt_nil _ _
    | refine View.allAt_cons_unit _ _ _ _ _ (fun y hy => wide_tile x2 (stacked i x0 x1) _ y hy) ?_
    | refine View.allAt_cons_unit _ _ _ _ _ (fun y hy => narrow_tile x2 (stacked i x0 x1) _ y hy) ?_

theorem out11_A (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay38 (back x2 x3 (stacked i x0 x1)) x4 x5 x6 := by
  unfold out0_A_11
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out12_A (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay44 (k0_pay38 (back x2 x3 (stacked i x0 x1)) x4 x5 x6) (k0_pay39 x7) (k0_pay40 x7) x8 := by
  unfold out0_A_12
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out13_A (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay45 (k0_pay38 (back x2 x3 (stacked i x0 x1)) x4 x5 x6) (k0_pay39 x7) (k0_pay40 x7) x8 x9 := by
  unfold out0_A_13
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out14_A (hc0 : cond0_0 i) (r : Fin 8) (l : Fin 1024) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 r l)
    = if r.val < 1 then k0_pay37 (back x2 x3 (stacked i x0 x1)) x4 (ix2 0 l) else if r.val < 2 then k0_pay43 (k0_pay38 (back x2 x3 (stacked i x0 x1)) x4 x5 x6) (k0_pay39 x7) (k0_pay40 x7) (ix2 0 l) else 0 := by
  unfold out0_A_14
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg15.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]
  exact two_rows_A _ _ _ _ _ _ _ _ r l

theorem out10_B (hc0 : ¬cond0_0 i) (r : Fin 256) (j : Fin 5632) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 (ix2 r j) = tile x2 (stacked i x0 x1) r j := by
  unfold out0_B_10
  rw [View.read_writes_junk_eq_canon]
  refine View.canon_eq_of_allAt _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 (ix2 r j)) ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, piece8, piece15, piece17, piece18, piece21, piece23, piece24, piece27, piece31, piece32]
  repeat first
    | exact View.allAt_nil _ _
    | refine View.allAt_cons_unit _ _ _ _ _ (fun y hy => wide_tile x2 (stacked i x0 x1) _ y hy) ?_
    | refine View.allAt_cons_unit _ _ _ _ _ (fun y hy => narrow_tile x2 (stacked i x0 x1) _ y hy) ?_

theorem out11_B (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 = k0_pay38 (back x2 x3 (stacked i x0 x1)) x4 x5 x6 := by
  unfold out0_B_11
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out12_B (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 = k0_pay44 (k0_pay38 (back x2 x3 (stacked i x0 x1)) x4 x5 x6) (k0_pay39 x7) (k0_pay40 x7) x8 := by
  unfold out0_B_12
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out13_B (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 = k0_pay45 (k0_pay38 (back x2 x3 (stacked i x0 x1)) x4 x5 x6) (k0_pay39 x7) (k0_pay40 x7) x8 x9 := by
  unfold out0_B_13
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]

theorem out14_B (hc0 : ¬cond0_0 i) (r : Fin 8) (l : Fin 1024) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo14 (ix2 r l)
    = if r.val < 1 then xo14 (ix2 0 l) + k0_pay37 (back x2 x3 (stacked i x0 x1)) x4 (ix2 0 l) else if r.val < 2 then xo14 (ix2 1 l) + k0_pay43 (k0_pay38 (back x2 x3 (stacked i x0 x1)) x4 x5 x6) (k0_pay39 x7) (k0_pay40 x7) (ix2 0 l) else xo14 (ix2 r l) := by
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg15.read_unread,
    View.ld_unit_zero (S := S256x5632) hz, View.ld_unit_zero (S := S16x5632) hz, View.ld_unit_zero (S := S256x1024) hz, View.ld_unit_zero (S := S1x1024) hz, View.ld_unit_zero (S := S1024x1024) hz,
    ld_tap512, ld_tap384, ld_weight512, ld_weight384, ld_rows512, ld_rows384, wide_eq, narrow_eq, back_eq, piece8, piece15, piece17, piece18, piece21, piece23, piece24, piece27, piece31, piece32,
    sum10, sum12, sum16, sum19, sum22, sum25, sum28, sum33]
  exact two_rows_B _ _ _ (harg15.read_unread xo14) _ _ _ _ r l

end
end Cert.Kernel3Ideal.Gen

end
-- ==== Proof.HeadRun.lean ====
/- The five arrays that the kernel leaves: the gradients of the rows, a block of 256 rows for each point of the grid, and the
   gradients of the two gains, summed over the points in one block. -/
module

public import proofs.«01_k».proof.Proof.HeadBlocks
public import proofs.«01_k».proof.Proof.HeadOut

@[expose] public section

noncomputable section

namespace Cert.Kernel3Ideal.Gen

open Cert.Kernel3Ideal Cert.Proof Cert.Proof.Head Idealize.ShloMosaic Idealize.ShloMosaic.TcCoe Idealize.SL.Sem
open Idealize.ShloMosaic.Pipeline (Dat)

variable (m : (ℓ : Loc nD τ sig) → Buf (Elt Ideal) ℓ) (c : Dev nD)

/-! ## The gradients of the rows -/

theorem outs10 (t : Fin cfg0.N) (r : Fin 256) (j : Fin 5632) : (outsAt0 m c t.val t.isLt).1 (ix2 r j) = conv (aw m c) (az m c) (at256 (pt t) r) j := by
  refine Eq.trans ?_ (tile_at m c t r j)
  by_cases h0 : t.val % 64 = 0
  · rw [outsAt0_A m c t h0]; dsimp only; rw [out10_A]
  · rw [outsAt0_B m c t h0]; dsimp only; rw [out10_B]

theorem idx10 : ∀ t : Fin cfg0.N, win0_10.index t 0 = t.val ∧ win0_10.index t 1 = 0 :=
  (by decide +kernel : ∀ t : Fin grid0.N, win0_10.index t 0 = t.val ∧ win0_10.index t 1 = 0)

theorem flush10 : ∀ t : Fin cfg0.N, (cfg0.win 10).flush t = true :=
  (by decide +kernel : ∀ t : Fin grid0.N, win0_10.flush t = true)

set_option maxRecDepth 8192 in
theorem arr10 (t : Fin cfg0.N) (r : Fin 256) (j : Fin 5632) : (dats m 0 c).arrAt 10 cfg0.N (ix2 (at256 (pt t) r) j) = conv (aw m c) (az m c) (at256 (pt t) r) j := by
  rw [← outs10]
  have h := congrFun (Value.blocks10 m c t (flush10 t)) (ix2 r j)
  rw [Value.flushed10, View.read_apply] at h
  refine Eq.trans (congrArg ((dats m 0 c).arrAt 10 cfg0.N) ?_) h
  funext a
  apply Fin.ext
  match a with
  | ⟨0, _⟩ => show t.val * 256 + r.val = win0_10.index t 0 * 256 + 1 * r.val; rw [(idx10 t).1]; omega
  | ⟨1, _⟩ => show j.val = win0_10.index t 1 * 5632 + 1 * j.val; rw [(idx10 t).2]; omega

theorem outs11 (t : Fin cfg0.N) (r : Fin 256) (l : Fin 1024) : (outsAt0 m c t.val t.isLt).2.1 (ix2 r l) = gradResid (ax m c) (am m c) (ap m c) (aq m c) (ao m c) (au m c) (aw m c) (az m c) (ay m c) (at256 (pt t) r) l := by
  refine Eq.trans ?_ (residOf_at m c t r l)
  by_cases h0 : t.val % 64 = 0
  · rw [outsAt0_A m c t h0]; dsimp only; rw [out11_A]
  · rw [outsAt0_B m c t h0]; dsimp only; rw [out11_B]

theorem idx11 : ∀ t : Fin cfg0.N, win0_11.index t 0 = t.val ∧ win0_11.index t 1 = 0 :=
  (by decide +kernel : ∀ t : Fin grid0.N, win0_11.index t 0 = t.val ∧ win0_11.index t 1 = 0)

theorem flush11 : ∀ t : Fin cfg0.N, (cfg0.win 11).flush t = true :=
  (by decide +kernel : ∀ t : Fin grid0.N, win0_11.flush t = true)

set_option maxRecDepth 8192 in
theorem arr11 (t : Fin cfg0.N) (r : Fin 256) (l : Fin 1024) : (dats m 0 c).arrAt 11 cfg0.N (ix2 (at256 (pt t) r) l) = gradResid (ax m c) (am m c) (ap m c) (aq m c) (ao m c) (au m c) (aw m c) (az m c) (ay m c) (at256 (pt t) r) l := by
  rw [← outs11]
  have h := congrFun (Value.blocks11 m c t (flush11 t)) (ix2 r l)
  rw [Value.flushed11, View.read_apply] at h
  refine Eq.trans (congrArg ((dats m 0 c).arrAt 11 cfg0.N) ?_) h
  funext a
  apply Fin.ext
  match a with
  | ⟨0, _⟩ => show t.val * 256 + r.val = win0_11.index t 0 * 256 + 1 * r.val; rw [(idx11 t).1]; omega
  | ⟨1, _⟩ => show l.val = win0_11.index t 1 * 1024 + 1 * l.val; rw [(idx11 t).2]; omega

theorem outs12 (t : Fin cfg0.N) (r : Fin 256) (l : Fin 1024) : (outsAt0 m c t.val t.isLt).2.2.1 (ix2 r l) = gradMixed (ax m c) (am m c) (ap m c) (aq m c) (ao m c) (au m c) (aw m c) (az m c) (ay m c) (at256 (pt t) r) l := by
  refine Eq.trans ?_ (mixedOf_at m c t r l)
  by_cases h0 : t.val % 64 = 0
  · rw [outsAt0_A m c t h0]; dsimp only; rw [out12_A]
  · rw [outsAt0_B m c t h0]; dsimp only; rw [out12_B]

theorem idx12 : ∀ t : Fin cfg0.N, win0_12.index t 0 = t.val ∧ win0_12.index t 1 = 0 :=
  (by decide +kernel : ∀ t : Fin grid0.N, win0_12.index t 0 = t.val ∧ win0_12.index t 1 = 0)

theorem flush12 : ∀ t : Fin cfg0.N, (cfg0.win 12).flush t = true :=
  (by decide +kernel : ∀ t : Fin grid0.N, win0_12.flush t = true)

set_option maxRecDepth 8192 in
theorem arr12 (t : Fin cfg0.N) (r : Fin 256) (l : Fin 1024) : (dats m 0 c).arrAt 12 cfg0.N (ix2 (at256 (pt t) r) l) = gradMixed (ax m c) (am m c) (ap m c) (aq m c) (ao m c) (au m c) (aw m c) (az m c) (ay m c) (at256 (pt t) r) l := by
  rw [← outs12]
  have h := congrFun (Value.blocks12 m c t (flush12 t)) (ix2 r l)
  rw [Value.flushed12, View.read_apply] at h
  refine Eq.trans (congrArg ((dats m 0 c).arrAt 12 cfg0.N) ?_) h
  funext a
  apply Fin.ext
  match a with
  | ⟨0, _⟩ => show t.val * 256 + r.val = win0_12.index t 0 * 256 + 1 * r.val; rw [(idx12 t).1]; omega
  | ⟨1, _⟩ => show l.val = win0_12.index t 1 * 1024 + 1 * l.val; rw [(idx12 t).2]; omega

theorem outs13 (t : Fin cfg0.N) (r : Fin 256) (l : Fin 1024) : (outsAt0 m c t.val t.isLt).2.2.2.1 (ix2 r l) = gradHeads (ax m c) (am m c) (ap m c) (aq m c) (ao m c) (au m c) (aw m c) (az m c) (ay m c) (at256 (pt t) r) l := by
  refine Eq.trans ?_ (headsOf_at m c t r l)
  by_cases h0 : t.val % 64 = 0
  · rw [outsAt0_A m c t h0]; dsimp only; rw [out13_A]
  · rw [outsAt0_B m c t h0]; dsimp only; rw [out13_B]

theorem idx13 : ∀ t : Fin cfg0.N, win0_13.index t 0 = t.val ∧ win0_13.index t 1 = 0 :=
  (by decide +kernel : ∀ t : Fin grid0.N, win0_13.index t 0 = t.val ∧ win0_13.index t 1 = 0)

theorem flush13 : ∀ t : Fin cfg0.N, (cfg0.win 13).flush t = true :=
  (by decide +kernel : ∀ t : Fin grid0.N, win0_13.flush t = true)

set_option maxRecDepth 8192 in
theorem arr13 (t : Fin cfg0.N) (r : Fin 256) (l : Fin 1024) : (dats m 0 c).arrAt 13 cfg0.N (ix2 (at256 (pt t) r) l) = gradHeads (ax m c) (am m c) (ap m c) (aq m c) (ao m c) (au m c) (aw m c) (az m c) (ay m c) (at256 (pt t) r) l := by
  rw [← outs13]
  have h := congrFun (Value.blocks13 m c t (flush13 t)) (ix2 r l)
  rw [Value.flushed13, View.read_apply] at h
  refine Eq.trans (congrArg ((dats m 0 c).arrAt 13 cfg0.N) ?_) h
  funext a
  apply Fin.ext
  match a with
  | ⟨0, _⟩ => show t.val * 256 + r.val = win0_13.index t 0 * 256 + 1 * r.val; rw [(idx13 t).1]; omega
  | ⟨1, _⟩ => show l.val = win0_13.index t 1 * 1024 + 1 * l.val; rw [(idx13 t).2]; omega

/-! ## The gradients of the gains -/

/-- One block's rows of the gradient of the gain before the convolution. -/
def partPre (t : Fin cfg0.N) (l : Fin 1024) : EReal :=
  ∑ r : Fin 256, gainPre (ax m c) (am m c) (ap m c) (ao m c) (au m c) (aw m c) (az m c) l (at256 (pt t) r)
/-- One block's rows of the gradient of the gain after the mixer. -/
def partPost (t : Fin cfg0.N) (l : Fin 1024) : EReal :=
  ∑ r : Fin 256, gainPost (ax m c) (am m c) (ap m c) (aq m c) (ao m c) (au m c) (aw m c) (az m c) (ay m c) l (at256 (pt t) r)

/-- What the points up to `n` leave in the block of the gains. -/
theorem outs14 (r : Fin 8) (l : Fin 1024) (n : ℕ) (h : n < cfg0.N) : (outsAt0 m c n h).2.2.2.2 (ix2 r l)
      = if r.val < 1 then ∑ t : Fin (n + 1), partPre m c ⟨t.val, lt_of_le_of_lt (Nat.le_of_lt_succ t.isLt) h⟩ l
        else if r.val < 2 then ∑ t : Fin (n + 1), partPost m c ⟨t.val, lt_of_le_of_lt (Nat.le_of_lt_succ t.isLt) h⟩ l else 0 := by
  induction n generalizing r with
  | zero =>
    rw [outsAt0_A m c ⟨0, h⟩ rfl]
    dsimp only
    rw [out14_A]
    refine if_congr Iff.rfl ?_ (if_congr Iff.rfl ?_ rfl)
    · rw [Fin.sum_univ_one]
      exact preOf_at m c ⟨0, h⟩ l
    · rw [Fin.sum_univ_one]
      exact postOf_at m c ⟨0, h⟩ l
  | succ n ih =>
    have hN : cfg0.N = 64 := N_0
    have hB : ¬(⟨n + 1, h⟩ : Fin cfg0.N).val % 64 = 0 := by dsimp only; omega
    rw [outsAt0_B m c ⟨n + 1, h⟩ hB]
    dsimp only
    rw [out14_B]
    simp only [Nat.add_sub_cancel]
    rw [ih, ih, ih]
    refine if_ctx_congr Iff.rfl (fun h1 => ?_) (fun h1 => if_ctx_congr Iff.rfl (fun h2 => ?_) (fun h2 => ?_))
    · exact (congrArg₂ (· + ·) (if_pos (show ((0 : Fin 8) : ℕ) < 1 by decide)) (preOf_at m c ⟨n + 1, h⟩ l)).trans (Fin.sum_univ_castSucc (fun t : Fin (n + 1 + 1) => partPre m c ⟨t.val, lt_of_le_of_lt (Nat.le_of_lt_succ t.isLt) h⟩ l)).symm
    · exact (congrArg₂ (· + ·) ((if_neg (show ¬((1 : Fin 8) : ℕ) < 1 by decide)).trans (if_pos (show ((1 : Fin 8) : ℕ) < 2 by decide))) (postOf_at m c ⟨n + 1, h⟩ l)).trans (Fin.sum_univ_castSucc (fun t : Fin (n + 1 + 1) => partPost m c ⟨t.val, lt_of_le_of_lt (Nat.le_of_lt_succ t.isLt) h⟩ l)).symm
    · rw [if_neg h1, if_neg h2]

/-- The gradients of the gains, in the first two of eight rows. -/
def gainsOut (i : S8x1024.Idx) : EReal :=
  if (i 0).val < 1 then ∑ t : Fin cfg0.N, partPre m c t (i 1) else if (i 0).val < 2 then ∑ t : Fin cfg0.N, partPost m c t (i 1) else 0

theorem last_point (t : Fin cfg0.N) (h : t.val % 64 = 63) : t = ⟨63, by rw [show cfg0.N = 64 from N_0]; decide⟩ := by
  have hN : t.val < 64 := lt_of_lt_of_eq t.isLt (show cfg0.N = 64 from N_0)
  exact Fin.ext (by show t.val = 63; omega)

theorem idx14 : ∀ t : Fin cfg0.N, win0_14.index t 0 = 0 ∧ win0_14.index t 1 = 0 :=
  (by decide +kernel : ∀ t : Fin grid0.N, win0_14.index t 0 = 0 ∧ win0_14.index t 1 = 0)

theorem flushed14_eq (t : Fin cfg0.N) (hf : (cfg0.win 14).flush t = true) :
    (dats m 0 c).flushed 14 t = ((cfg0.win 14).blk t).view.read (Elt Ideal) (gainsOut m c) := by
  have ht := last_point t ((flush0_14 t).mp hf)
  rw [Value.flushed14]
  funext j
  rw [View.read_apply]
  obtain ⟨r, l, rfl⟩ : ∃ (r : Fin 8) (l : Fin 1024), j = ix2 r l := ⟨j 0, j 1, funext fun a => match a with | ⟨0, _⟩ => rfl | ⟨1, _⟩ => rfl⟩
  refine (outs14 m c r l t.val t.isLt).trans ?_
  have hi : (View.emb ((cfg0.win 14).blk t).view (ix2 r l) : S8x1024.Idx) = ix2 r l := by
    funext a
    apply Fin.ext
    match a with
    | ⟨0, _⟩ => show win0_14.index t 0 * 8 + 1 * r.val = r.val; rw [(idx14 t).1]; omega
    | ⟨1, _⟩ => show win0_14.index t 1 * 1024 + 1 * l.val = l.val; rw [(idx14 t).2]; omega
  refine Eq.trans ?_ (congrArg (gainsOut m c) hi).symm
  subst ht
  rfl

/-- The gradients of the gains after the run. -/
theorem arr14 : (dats m 0 c).arrAt 14 cfg0.N = gainsOut m c :=
  (dats m 0 c).arrAt_eq_of_cover 14 (gainsOut m c) (flushed14_eq m c) fun i => by
    have hN : cfg0.N = 64 := N_0
    have hlt : 63 < cfg0.N := by rw [hN]; decide
    refine ⟨⟨63, hlt⟩, (flush0_14 _).mpr rfl, ?_⟩
    show i ∈ ((View.whole main_v27_4).slice (win0_14.rect ⟨63, hlt⟩)).set
    rw [View.set_slice_whole, Rect.mem_set_unit]
    intro a
    have h0 : (i 0 : Nat) < 8 := (i 0).isLt
    have h1 : (i 1 : Nat) < 1024 := (i 1).isLt
    match a with
    | ⟨0, _⟩ => show win0_14.index ⟨63, hlt⟩ 0 * 8 ≤ (i 0 : Nat) ∧ (i 0 : Nat) < win0_14.index ⟨63, hlt⟩ 0 * 8 + 8; rw [(idx14 _).1]; omega
    | ⟨1, _⟩ => show win0_14.index ⟨63, hlt⟩ 1 * 1024 ≤ (i 1 : Nat) ∧ (i 1 : Nat) < win0_14.index ⟨63, hlt⟩ 1 * 1024 + 1024; rw [(idx14 _).2]; omega

end Cert.Kernel3Ideal.Gen

end
-- ==== Proof.HeadClaim.lean ====
/- The backward call from the convolution to the mixed heads: its precondition, array by array, and its two programs. -/
module

public import proofs.«01_k».proof.Defs
public import proofs.«01_k».proof.Proof.Finite
public import proofs.«01_k».proof.Proof.HeadRef
public import proofs.«01_k».proof.Proof.HeadRun
public import proofs.«01_k».proof.Proof.Gen.Reference4Ideal.Run
public import proofs.«01_k».proof.Proof.Gen.Kernel3
public import proofs.«01_k».proof.Proof.Gen.Pre_finite_head
public import Idealize.ShloMosaic.Init

@[expose] public section

noncomputable section

namespace Cert.Proof

open Idealize.ShloMosaic Idealize.SL.Sem Cert.Proof.Head Cert.Reference4Ideal.Read

/-- The nine arrays that the precondition speaks of hold reals. -/
theorem head_real (x mix : FVec Ideal Cert.Pre_finite_head.S1x16384x1024 .f32) (p q : FVec Ideal Cert.Pre_finite_head.S1x1024 .f32) (o : FVec Ideal Cert.Pre_finite_head.S1x1024x1024 .f32)
    (u : FVec Ideal Cert.Pre_finite_head.S1x1024x5632 .f32) (w : FVec Ideal Cert.Pre_finite_head.S1x3x5632 .f32) (z : FVec Ideal Cert.Pre_finite_head.S16384x5632 .f32) (y : FVec Ideal Cert.Pre_finite_head.S16384x1024 .f32)
    (h : Cert.Pre_finite_head.fn (F := Ideal) x mix p q o u w z y = fun _ => 1#1) :
    (∀ i, IsReal (x i)) ∧ (∀ i, IsReal (mix i)) ∧ (∀ i, IsReal (p i)) ∧ (∀ i, IsReal (q i)) ∧ (∀ i, IsReal (o i)) ∧ (∀ i, IsReal (u i)) ∧ (∀ i, IsReal (w i))
      ∧ (∀ i, IsReal (z i)) ∧ ∀ i, IsReal (y i) := by
  have e := congrFun h ix0
  dsimp only [Cert.Pre_finite_head.fn, Cert.Pre_finite_head.fn_part1, Cert.Pre_finite_head.fn_part2] at e
  obtain ⟨e, h9⟩ := IntOp.andi_eq_one.mp e
  obtain ⟨e, h8⟩ := IntOp.andi_eq_one.mp e
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨h1, h2⟩ := IntOp.andi_eq_one.mp e
  haveI : Subsingleton Cert.Pre_finite_head.S_.Idx := ⟨fun a b => funext fun k => k.elim0⟩
  exact ⟨fun i => .of_finite (real_of_all _ _ _ _ _ _ h1 i), fun i => .of_finite (real_of_all _ _ _ _ _ _ h2 i), fun i => .of_finite (real_of_all _ _ _ _ _ _ h3 i),
    fun i => .of_finite (real_of_all _ _ _ _ _ _ h4 i), fun i => .of_finite (real_of_all _ _ _ _ _ _ h5 i), fun i => .of_finite (real_of_all _ _ _ _ _ _ h6 i),
    fun i => .of_finite (real_of_all _ _ _ _ _ _ h7 i), fun i => .of_finite (real_of_all _ _ _ _ _ _ h8 i), fun i => .of_finite (real_of_all _ _ _ _ _ _ h9 i)⟩

set_option maxHeartbeats 2000000 in
/-- The two programs compute the same arrays. -/
theorem head : Cert.algebraic_Kernel3Ideal_Reference4Ideal_pre_finite_head := by
  intro m g m' g' hpre hargs
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N,
    Cert.Kernel3Ideal.Value.run_blocks m g, (θ_run _ _ _).mono (fun _ h c => ?_) (Cert.Reference4Ideal.Value.run m' g')⟩
  obtain ⟨h0, h1, h2, h3, h4, hrest⟩ := h c
  obtain ⟨a0, a1, a2, a3, a4, a5, a6, a7, a8⟩ := hargs c
  obtain ⟨hx, hm, hp, hq, ho, hu, hw, hz, hy⟩ := head_real _ _ _ _ _ _ _ _ _ (hpre c)
  refine ⟨h0.trans ((val_main_v128_eq (F := Ideal) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7))).trans ?_), h1.trans ((val_main_v129_eq m' c).trans ?_), h2.trans ((val_main_v131_eq m' c).trans ?_), h3.trans ((val_main_v133_eq m' c).trans ?_),
    h4.trans ((val_main_v126_eq m' c).trans ?_), hrest⟩
  · rw [a6, a7]
    refine ext2 fun r j => ?_
    obtain ⟨t, s, rfl⟩ := exists_at256 r
    refine Eq.trans ?_ (Cert.Kernel3Ideal.Gen.arr10 m c (Fin.cast Cert.Kernel3Ideal.Gen.N_0.symm t) s j).symm
    exact ref_du0 _ _ _ _
  · rw [a0, a1, a2, a3, a4, a5, a6, a7, a8]
    refine ext2 fun r l => ?_
    obtain ⟨t, s, rfl⟩ := exists_at256 r
    refine Eq.trans ?_ (Cert.Kernel3Ideal.Gen.arr11 m c (Fin.cast Cert.Kernel3Ideal.Gen.N_0.symm t) s l).symm
    exact ref_dx1 _ _ hx hm hp hq ho hu hw hz
  · rw [a0, a1, a2, a3, a4, a5, a6, a7, a8]
    refine ext2 fun r l => ?_
    obtain ⟨t, s, rfl⟩ := exists_at256 r
    refine Eq.trans ?_ (Cert.Kernel3Ideal.Gen.arr12 m c (Fin.cast Cert.Kernel3Ideal.Gen.N_0.symm t) s l).symm
    exact ref_dmixed _ _ hx hm hp hq ho hu hw hz hy
  · rw [a0, a1, a2, a3, a4, a5, a6, a7, a8]
    refine ext2 fun r l => ?_
    obtain ⟨t, s, rfl⟩ := exists_at256 r
    refine Eq.trans ?_ (Cert.Kernel3Ideal.Gen.arr13 m c (Fin.cast Cert.Kernel3Ideal.Gen.N_0.symm t) s l).symm
    exact ref_dmix _ _ hx hm hp hq ho hu hw hz hy
  · rw [a0, a1, a2, a3, a4, a5, a6, a7, a8]
    refine Eq.trans ?_ (Cert.Kernel3Ideal.Gen.arr14 m c).symm
    refine ext2 fun r l => ?_
    refine (ref_gains l hx hm hp hq ho hu hw hz r).trans ?_
    unfold Cert.Kernel3Ideal.Gen.gainsOut
    refine if_congr Iff.rfl ?_ (if_congr Iff.rfl ?_ rfl)
    · rw [← sum_at256]
      exact (Fintype.sum_equiv (finCongr Cert.Kernel3Ideal.Gen.N_0) _ _ fun t => rfl).symm
    · rw [← sum_at256]
      exact (Fintype.sum_equiv (finCongr Cert.Kernel3Ideal.Gen.N_0) _ _ fun t => rfl).symm

/-- The reference ends and leaves its arguments as they were. It has no semaphore. -/
theorem head_frame : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

end Cert.Proof

end
-- ==== Proof.FwdSpec.lean ====
/- The forward calls around the mixer, as functions of the arrays at an index: a row normalised by its root mean square and
   scaled by a gain, and its product with a weight. -/
module

public import proofs.«01_k».proof.Proof.HeadSpec

@[expose] public section

noncomputable section

namespace Cert.Proof.Fwd

open Idealize.ShloMosaic Cert.Proof.Head

/-- A row normalised by its root mean square, with the gain. -/
def scaled (v : Fin 1024 → EReal) (g : Gain) (l : Fin 1024) : EReal := v l * rstd v * g (ix2 0 l)
/-- The first projection. -/
def projOf (x : Rows) (g : Gain) (w : Weight) (r : Fin 16384) (j : Fin 2816) : EReal := ∑ k : Fin 1024, scaled (xRow x r) g k * w (ix3 0 k j)
/-- What is convolved. -/
def upOf (x mix : Rows) (p q : Gain) (o : Out) (u : Up) (r : Fin 16384) (j : Fin 5632) : EReal :=
  ∑ k : Fin 1024, scaled (resid x mix p o r) q k * u (ix3 0 k j)

/-- Row `r` of block `t`, of blocks of 1024 rows. -/
def at1024 (t : Fin 16) (r : Fin 1024) : Fin 16384 := ⟨t.val * 1024 + r.val, by omega⟩

theorem exists_at1024 (r : Fin 16384) : ∃ t s, at1024 t s = r :=
  ⟨⟨r.val / 1024, by omega⟩, ⟨r.val % 1024, by omega⟩, Fin.ext (by simp only [at1024]; omega)⟩

end Cert.Proof.Fwd

end
-- ==== Proof.FwdRef.lean ====
/- What the references of the two forward calls around the mixer return, at an index. -/
module

public import proofs.«01_k».proof.Proof.Gen.Reference5Ideal.Read
public import proofs.«01_k».proof.Proof.Gen.Reference6Ideal.Read
public import proofs.«01_k».proof.Proof.FwdSpec

@[expose] public section

noncomputable section

namespace Cert.Proof.Fwd

open Idealize.ShloMosaic Cert.Proof.Head

variable (x mix : Rows) (g p q : Gain) (w : Weight) (o : Out) (u : Up) (r : Fin 16384) (l : Fin 1024)

section
open Cert.Reference6Ideal.Read

theorem in_scaled : val_main_v13 (F := Ideal) x g (ix3 0 r l) = scaled (xRow x r) g l := by
  pointwise [val_main_v13, val_main_v12, val_main_v11, val_main_v10, val_main_v9, val_main_v8, val_main_v7, val_main_v6, val_main_v5, val_main_v4, val_main_v3, val_main_v2, val_main_v1,
    val_main_v0, val_main_cst, val_main_cst_0, val_main_cst_1]
  rfl

theorem in_rows : val_main_v17 (F := Ideal) x g (ix2 r l) = scaled (xRow x r) g l := by
  pointwise [val_main_v17, val_main_v16, in_scaled]

theorem in_proj (j : Fin 2816) : val_main_v18 (F := Ideal) x g w (ix2 r j) = projOf x g w r j := by
  pointwise [val_main_v18, val_main_v15, val_main_v14, in_scaled]
  rfl
end

section
open Cert.Reference5Ideal.Read

theorem up_mixed : val_main_v1 (F := Ideal) mix o (ix3 0 r l) = mixed mix o r l := by
  pointwise [val_main_v1, val_main_v0]
  rfl

theorem up_post : val_main_v10 (F := Ideal) mix o (ix3 0 r 0) = rstd (mixed mix o r) := by
  pointwise [val_main_v10, val_main_v9, val_main_v8, val_main_v7, val_main_v6, val_main_v5, val_main_v4, val_main_v3, val_main_cst, val_main_cst_0, val_main_cst_1, up_mixed]
  rfl

theorem up_resid : val_main_v16 (F := Ideal) x mix o p (ix3 0 r l) = resid x mix p o r l := by
  pointwise [val_main_v16, val_main_v15, val_main_v14, val_main_v13, val_main_v12, val_main_v11, val_main_v2, up_mixed, up_post]
  rfl

theorem up_pre : val_main_v25 (F := Ideal) x mix o p (ix3 0 r 0) = rstd (resid x mix p o r) := by
  pointwise [val_main_v25, val_main_v24, val_main_v23, val_main_v22, val_main_v21, val_main_v20, val_main_v19, val_main_v18, val_main_cst_2, val_main_cst_3, val_main_cst_4, up_resid]
  rfl

theorem up_scaled : val_main_v30 (F := Ideal) x mix o p q (ix3 0 r l) = scaled (resid x mix p o r) q l := by
  pointwise [val_main_v30, val_main_v29, val_main_v28, val_main_v27, val_main_v26, val_main_v17, up_resid, up_pre]
  rfl

theorem up_mixed2 : val_main_v33 (F := Ideal) mix o (ix2 r l) = mixed mix o r l := by
  pointwise [val_main_v33, up_mixed]

theorem up_resid2 : val_main_v34 (F := Ideal) x mix o p (ix2 r l) = resid x mix p o r l := by
  pointwise [val_main_v34, up_resid]

theorem up_rows : val_main_v36 (F := Ideal) x mix o p q (ix2 r l) = scaled (resid x mix p o r) q l := by
  pointwise [val_main_v36, val_main_v35, up_scaled]

theorem up_wide (j : Fin 5632) : val_main_v38 (F := Ideal) x mix o p q u (ix2 r j) = upOf x mix p q o u r j := by
  pointwise [val_main_v38, val_main_v37, val_main_v32, val_main_v31, up_scaled]
  rfl
end

end Cert.Proof.Fwd

end
-- ==== Proof.InFwd.lean ====
/- The forward of the first projection: the two arrays that the kernel leaves, a block of 1024 rows for each point of the grid. -/
module

public import proofs.«01_k».proof.Proof.FwdSpec
public import proofs.«01_k».proof.Proof.Gen.Kernel6Ideal.Value
public import Idealize.ShloMosaic.Lib.Pointwise
public import Idealize.ShloMosaic.Lib.StableHlo.ReadAt
public import Idealize.ShloMosaic.Lib.Pipeline.ValueKit.Tiles

@[expose] public section

noncomputable section

namespace Cert.Kernel6Ideal.Gen

open Cert.Kernel6Ideal Cert.Proof Cert.Proof.Head Cert.Proof.Fwd Idealize.ShloMosaic Idealize.ShloMosaic.TcCoe Idealize.SL.Sem
open Idealize.ShloMosaic.Pipeline (Dat)

variable (m : (ℓ : Loc nD τ sig) → Buf (Elt Ideal) ℓ) (c : Dev nD)

/-- The arrays that the program is given. -/
abbrev ax : Rows := m ((c : Thread nD τ).loc main_arg0)
abbrev ag : Gain := m ((c : Thread nD τ).loc main_arg1)
abbrev aw : Weight := m ((c : Thread nD τ).loc main_arg2)

theorem V_weight (j : Fin 2816) (l : Fin 1024) : V m c main_v2 (ix2 j l) = aw m c (ix3 0 l j) := by
  unfold V; after_reads_at
theorem V_x (r : Fin 16384) (l : Fin 1024) : V m c main_v3 (ix2 r l) = ax m c (ix3 0 r l) := by
  unfold V; after_reads_at

/-- A point as a number below 16. -/
def pt (t : Fin cfg0.N) : Fin 16 := ⟨t.val, lt_of_lt_of_eq t.isLt (show cfg0.N = 16 from N_0)⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

theorem blk_x (t : Fin cfg0.N) (r l : Fin 1024) : (iblk m c 0 t : Vec Ideal S1024x1024 .f32) (ix2 r l) = ax m c (ix3 0 (at1024 (pt t) r) l) := by
  rw [← V_x m c]
  unfold iblk
  rw [View.read_apply]
  show V m c main_v3 _ = V m c main_v3 _
  congr 1
  funext i
  apply Fin.ext
  match i with
  | ⟨0, _⟩ => show win0_0.index t 0 * 1024 + 1 * r.val = t.val * 1024 + r.val; rw [(idx0 t).1]; omega
  | ⟨1, _⟩ => show win0_0.index t 1 * 1024 + 1 * l.val = l.val; rw [(idx0 t).2]; omega

theorem blk_gain (t : Fin cfg0.N) (l : Fin 1024) : (iblk m c 1 t : Vec Ideal S1x1024 .f32) (ix2 0 l) = ag m c (ix2 0 l) := by
  rw [show ag m c = V m c main_arg1 from (V_main_arg1 m c).symm]
  unfold iblk
  rw [View.read_apply]
  show V m c main_arg1 _ = V m c main_arg1 _
  congr 1
  funext i
  apply Fin.ext
  match i with
  | ⟨0, _⟩ => show win0_1.index t 0 * 1 + 1 * 0 = 0; rw [(idx1 t).1]
  | ⟨1, _⟩ => show win0_1.index t 1 * 1024 + 1 * l.val = l.val; rw [(idx1 t).2]; omega

theorem blk_weight (t : Fin cfg0.N) (j : Fin 2816) (l : Fin 1024) : (iblk m c 2 t : Vec Ideal S2816x1024 .bf16) (ix2 j l) = aw m c (ix3 0 l j) := by
  rw [← V_weight m c]
  unfold iblk
  rw [View.read_apply]
  show V m c main_v2 _ = V m c main_v2 _
  congr 1
  funext i
  apply Fin.ext
  match i with
  | ⟨0, _⟩ => show win0_2.index t 0 * 2816 + 1 * j.val = j.val; rw [(idx2 t).1]; omega
  | ⟨1, _⟩ => show win0_2.index t 1 * 1024 + 1 * l.val = l.val; rw [(idx2 t).2]; omega

theorem hz : (![0, 0] : Fin 2 → Nat) = fun _ => 0 := funext fun a => by fin_cases a <;> rfl

theorem pay1_at (t : Fin cfg0.N) (r l : Fin 1024) :
    k0_pay1 (iblk m c 0 t : Vec Ideal S1024x1024 .f32) (iblk m c 1 t : Vec Ideal S1x1024 .f32) (ix2 r l) = scaled (xRow (ax m c) (at1024 (pt t) r)) (ag m c) l := by
  pointwise [k0_pay1]
  unfold scaled rstd xRow
  simp only [blk_x, blk_gain]

theorem pay2_at (t : Fin cfg0.N) (r : Fin 1024) (j : Fin 2816) :
    k0_pay2 (iblk m c 0 t : Vec Ideal S1024x1024 .f32) (iblk m c 1 t : Vec Ideal S1x1024 .f32) (iblk m c 2 t : Vec Ideal S2816x1024 .bf16) (ix2 r j)
      = projOf (ax m c) (ag m c) (aw m c) (at1024 (pt t) r) j := by
  pointwise [k0_pay2]
  simp only [pay1_at, blk_weight]
  rfl

/-- The normalised rows. -/
theorem point3 (t : Fin cfg0.N) (r : Fin 1024) (l : Fin 1024) :
    out0_3 (iblk m c 0 t) (iblk m c 1 t) (iblk m c 2 t) (ix2 r l) = scaled (xRow (ax m c) (at1024 (pt t) r)) (ag m c) l := by
  unfold out0_3
  rw [View.canon_unit_zero hz]
  simp only [View.ld_unit_zero (S := S1024x1024) hz, View.ld_unit_zero (S := S1x1024) hz, View.ld_unit_zero (S := S2816x1024) hz]
  exact pay1_at m c t r l

theorem flush3 : ∀ t : Fin cfg0.N, (cfg0.win 3).flush t = true :=
  (by decide +kernel : ∀ t : Fin grid0.N, win0_3.flush t = true)

set_option maxRecDepth 8192 in
theorem arr3 (t : Fin cfg0.N) (r : Fin 1024) (l : Fin 1024) : (dats m 0 c).arrAt 3 cfg0.N (ix2 (at1024 (pt t) r) l) = scaled (xRow (ax m c) (at1024 (pt t) r)) (ag m c) l := by
  rw [← point3]
  have h := congrFun (Value.blocks3 m c t (flush3 t)) (ix2 r l)
  rw [Value.flushed3, View.read_apply] at h
  refine Eq.trans (congrArg ((dats m 0 c).arrAt 3 cfg0.N) ?_) h
  funext a
  apply Fin.ext
  match a with
  | ⟨0, _⟩ => show t.val * 1024 + r.val = win0_3.index t 0 * 1024 + 1 * r.val; rw [(idx3 t).1]; omega
  | ⟨1, _⟩ => show l.val = win0_3.index t 1 * 1024 + 1 * l.val; rw [(idx3 t).2]; omega

/-- The projection. -/
theorem point4 (t : Fin cfg0.N) (r : Fin 1024) (j : Fin 2816) :
    out0_4 (iblk m c 0 t) (iblk m c 1 t) (iblk m c 2 t) (ix2 r j) = projOf (ax m c) (ag m c) (aw m c) (at1024 (pt t) r) j := by
  unfold out0_4
  rw [View.canon_unit_zero hz]
  simp only [View.ld_unit_zero (S := S1024x1024) hz, View.ld_unit_zero (S := S1x1024) hz, View.ld_unit_zero (S := S2816x1024) hz]
  exact pay2_at m c t r j

theorem flush4 : ∀ t : Fin cfg0.N, (cfg0.win 4).flush t = true :=
  (by decide +kernel : ∀ t : Fin grid0.N, win0_4.flush t = true)

set_option maxRecDepth 8192 in
theorem arr4 (t : Fin cfg0.N) (r : Fin 1024) (j : Fin 2816) : (dats m 0 c).arrAt 4 cfg0.N (ix2 (at1024 (pt t) r) j) = projOf (ax m c) (ag m c) (aw m c) (at1024 (pt t) r) j := by
  rw [← point4]
  have h := congrFun (Value.blocks4 m c t (flush4 t)) (ix2 r j)
  rw [Value.flushed4, View.read_apply] at h
  refine Eq.trans (congrArg ((dats m 0 c).arrAt 4 cfg0.N) ?_) h
  funext a
  apply Fin.ext
  match a with
  | ⟨0, _⟩ => show t.val * 1024 + r.val = win0_4.index t 0 * 1024 + 1 * r.val; rw [(idx4 t).1]; omega
  | ⟨1, _⟩ => show j.val = win0_4.index t 1 * 2816 + 1 * j.val; rw [(idx4 t).2]; omega

end Cert.Kernel6Ideal.Gen

end
-- ==== Proof.UpFwd.lean ====
/- The forward from the mixed heads to what is convolved: the four arrays that the kernel leaves, a block of 512 rows for each
   point of the grid. -/
module

public import proofs.«01_k».proof.Proof.FwdSpec
public import proofs.«01_k».proof.Proof.Gen.Kernel5Ideal.Value
public import Idealize.ShloMosaic.Lib.Pointwise
public import Idealize.ShloMosaic.Lib.StableHlo.ReadAt
public import Idealize.ShloMosaic.Lib.Pipeline.ValueKit.Tiles

@[expose] public section

noncomputable section

namespace Cert.Kernel5Ideal.Gen

open Cert.Kernel5Ideal Cert.Proof Cert.Proof.Head Cert.Proof.Fwd Idealize.ShloMosaic Idealize.ShloMosaic.TcCoe Idealize.SL.Sem
open Idealize.ShloMosaic.Pipeline (Dat)

variable (m : (ℓ : Loc nD τ sig) → Buf (Elt Ideal) ℓ) (c : Dev nD)

/-- The arrays that the program is given. -/
abbrev ax : Rows := m ((c : Thread nD τ).loc main_arg0)
abbrev am : Rows := m ((c : Thread nD τ).loc main_arg1)
abbrev ao : Out := m ((c : Thread nD τ).loc main_arg2)
abbrev ap : Gain := m ((c : Thread nD τ).loc main_arg3)
abbrev aq : Gain := m ((c : Thread nD τ).loc main_arg4)
abbrev au : Up := m ((c : Thread nD τ).loc main_arg5)

theorem V_up (a : Fin 4) (l : Fin 1024) (b : Fin 1408) : V m c main_v3 (ix3 a l b) = au m c (ix3 0 l ⟨a.val * 1408 + b.val, by omega⟩) := by
  unfold V; after_reads_at
theorem V_heads (r : Fin 16384) (l : Fin 1024) : V m c main_v5 (ix2 r l) = am m c (ix3 0 r l) := by
  unfold V; after_reads_at
theorem V_x (r : Fin 16384) (l : Fin 1024) : V m c main_v6 (ix2 r l) = ax m c (ix3 0 r l) := by
  unfold V; after_reads_at
theorem V_out (k l : Fin 1024) : V m c main_v8 (ix2 k l) = ao m c (ix3 0 k l) := by
  unfold V; after_reads_at

/-- A point as a number below 32. -/
def pt (t : Fin cfg0.N) : Fin 32 := ⟨t.val, lt_of_lt_of_eq t.isLt (show cfg0.N = 32 from N_0)⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)

theorem blk_heads (t : Fin cfg0.N) (r : Fin 512) (l : Fin 1024) : (iblk m c 0 t : Vec Ideal S512x1024 .bf16) (ix2 r l) = am m c (ix3 0 (row (pt t) r) l) := by
  rw [← V_heads m c]
  unfold iblk
  rw [View.read_apply]
  show V m c main_v5 _ = V m c main_v5 _
  congr 1
  funext i
  apply Fin.ext
  match i with
  | ⟨0, _⟩ => show win0_0.index t 0 * 512 + 1 * r.val = t.val * 512 + r.val; rw [(idx0 t).1]; omega
  | ⟨1, _⟩ => show win0_0.index t 1 * 1024 + 1 * l.val = l.val; rw [(idx0 t).2]; omega

theorem blk_x (t : Fin cfg0.N) (r : Fin 512) (l : Fin 1024) : (iblk m c 1 t : Vec Ideal S512x1024 .f32) (ix2 r l) = ax m c (ix3 0 (row (pt t) r) l) := by
  rw [← V_x m c]
  unfold iblk
  rw [View.read_apply]
  show V m c main_v6 _ = V m c main_v6 _
  congr 1
  funext i
  apply Fin.ext
  match i with
  | ⟨0, _⟩ => show win0_1.index t 0 * 512 + 1 * r.val = t.val * 512 + r.val; rw [(idx1 t).1]; omega
  | ⟨1, _⟩ => show win0_1.index t 1 * 1024 + 1 * l.val = l.val; rw [(idx1 t).2]; omega

theorem blk_out (t : Fin cfg0.N) (k l : Fin 1024) : (iblk m c 2 t : Vec Ideal S1024x1024 .bf16) (ix2 k l) = ao m c (ix3 0 k l) := by
  rw [← V_out m c]
  unfold iblk
  rw [View.read_apply]
  show V m c main_v8 _ = V m c main_v8 _
  congr 1
  funext i
  apply Fin.ext
  match i with
  | ⟨0, _⟩ => show win0_2.index t 0 * 1024 + 1 * k.val = k.val; rw [(idx2 t).1]; omega
  | ⟨1, _⟩ => show win0_2.index t 1 * 1024 + 1 * l.val = l.val; rw [(idx2 t).2]; omega

theorem blk_post (t : Fin cfg0.N) (l : Fin 1024) : (iblk m c 3 t : Vec Ideal S1x1024 .f32) (ix2 0 l) = ap m c (ix2 0 l) := by
  rw [show ap m c = V m c main_arg3 from (V_main_arg3 m c).symm]
  unfold iblk
  rw [View.read_apply]
  show V m c main_arg3 _ = V m c main_arg3 _
  congr 1
  funext i
  apply Fin.ext
  match i with
  | ⟨0, _⟩ => show win0_3.index t 0 * 1 + 1 * 0 = 0; rw [(idx3 t).1]
  | ⟨1, _⟩ => show win0_3.index t 1 * 1024 + 1 * l.val = l.val; rw [(idx3 t).2]; omega

theorem blk_pre (t : Fin cfg0.N) (l : Fin 1024) : (iblk m c 4 t : Vec Ideal S1x1024 .f32) (ix2 0 l) = aq m c (ix2 0 l) := by
  rw [show aq m c = V m c main_arg4 from (V_main_arg4 m c).symm]
  unfold iblk
  rw [View.read_apply]
  show V m c main_arg4 _ = V m c main_arg4 _
  congr 1
  funext i
  apply Fin.ext
  match i with
  | ⟨0, _⟩ => show win0_4.index t 0 * 1 + 1 * 0 = 0; rw [(idx4 t).1]
  | ⟨1, _⟩ => show win0_4.index t 1 * 1024 + 1 * l.val = l.val; rw [(idx4 t).2]; omega

theorem blk_up (t : Fin cfg0.N) (a : Fin 4) (l : Fin 1024) (b : Fin 1408) : (iblk m c 5 t : Vec Ideal S4x1024x1408 .bf16) (ix3 a l b) = au m c (ix3 0 l ⟨a.val * 1408 + b.val, by omega⟩) := by
  rw [← V_up m c]
  unfold iblk
  rw [View.read_apply]
  show V m c main_v3 _ = V m c main_v3 _
  congr 1
  funext i
  apply Fin.ext
  match i with
  | ⟨0, _⟩ => show win0_5.index t 0 * 4 + 1 * a.val = a.val; rw [(idx5 t).1]; omega
  | ⟨1, _⟩ => show win0_5.index t 1 * 1024 + 1 * l.val = l.val; rw [(idx5 t).2.1]; omega
  | ⟨2, _⟩ => show win0_5.index t 2 * 1408 + 1 * b.val = b.val; rw [(idx5 t).2.2]; omega

theorem hz : (![0, 0] : Fin 2 → Nat) = fun _ => 0 := funext fun a => by fin_cases a <;> rfl

theorem pay6_at (t : Fin cfg0.N) (r : Fin 512) (l : Fin 1024) : k0_pay6 (iblk m c 0 t : Vec Ideal S512x1024 .bf16) (iblk m c 2 t : Vec Ideal S1024x1024 .bf16) (ix2 r l) = mixed (am m c) (ao m c) (row (pt t) r) l := by
  pointwise [k0_pay6]
  simp only [blk_heads, blk_out]
  rfl

theorem pay7_at (t : Fin cfg0.N) (r : Fin 512) (l : Fin 1024) : k0_pay7 (iblk m c 0 t : Vec Ideal S512x1024 .bf16) (iblk m c 2 t : Vec Ideal S1024x1024 .bf16) (iblk m c 1 t : Vec Ideal S512x1024 .f32) (iblk m c 3 t : Vec Ideal S1x1024 .f32) (ix2 r l) = resid (ax m c) (am m c) (ap m c) (ao m c) (row (pt t) r) l := by
  pointwise [k0_pay7]
  simp only [pay6_at, blk_x, blk_post]
  rfl

theorem pay8_at (t : Fin cfg0.N) (r : Fin 512) (l : Fin 1024) : k0_pay8 (iblk m c 0 t : Vec Ideal S512x1024 .bf16) (iblk m c 2 t : Vec Ideal S1024x1024 .bf16) (iblk m c 1 t : Vec Ideal S512x1024 .f32) (iblk m c 3 t : Vec Ideal S1x1024 .f32) (iblk m c 4 t : Vec Ideal S1x1024 .f32) (ix2 r l) = scaled (resid (ax m c) (am m c) (ap m c) (ao m c) (row (pt t) r)) (aq m c) l := by
  pointwise [k0_pay8]
  simp only [pay7_at, blk_pre]
  rfl

/-- The normalised rows of the residual that a point computes. -/
theorem pay9_at (t : Fin cfg0.N) (r : Fin 512) (l : Fin 1024) : k0_pay9 (iblk m c 0 t : Vec Ideal S512x1024 .bf16) (iblk m c 1 t : Vec Ideal S512x1024 .f32) (iblk m c 2 t : Vec Ideal S1024x1024 .bf16) (iblk m c 3 t : Vec Ideal S1x1024 .f32) (iblk m c 4 t : Vec Ideal S1x1024 .f32) (iblk m c 5 t : Vec Ideal S4x1024x1408 .bf16) (ix2 r l) = scaled (resid (ax m c) (am m c) (ap m c) (ao m c) (row (pt t) r)) (aq m c) l := by
  unfold k0_pay9
  simp only [View.ld_unit_zero (S := S512x1024) hz, View.ld_unit_zero (S := S1024x1024) hz, View.ld_unit_zero (S := S1x1024) hz]
  exact pay8_at m c t r l

/-- One column block of the weight. -/
theorem ld_up (X : S4x1024x1408.Idx → Elt Ideal .bf16) (k : ℕ) (hk : k < 4) (inb) (l : Fin 1024) (b : Fin 1408) :
    View.ld X (Rect.unit (s := S4x1024x1408) ![k, 0, 0] S1x1024x1408.size inb) (ix3 0 l b) = X (ix3 ⟨k, hk⟩ l b) :=
  congrArg X (funext fun a => match a with
    | ⟨0, _⟩ => rfl
    | ⟨1, _⟩ => Fin.ext (by show 0 + 1 * l.val = l.val; omega)
    | ⟨2, _⟩ => Fin.ext (by show 0 + 1 * b.val = b.val; omega))

/-- The product with one column block, at a column of the whole. -/
theorem piece_at (t : Fin cfg0.N) (k : ℕ) (hk : k < 4) (inb) (pay : FVec Ideal S512x1024 .f32 → Vec Ideal S1x1024x1408 .bf16 → FVec Ideal S512x1408 .bf16)
    (hp : ∀ h w (s : Fin 512) (b : Fin 1408), pay h w (ix2 s b) = ∑ l : Fin 1024, h (ix2 s l) * w (ix3 0 l b)) {r : Fin 512} {j : Fin 5632} (y : S512x1408.Idx)
    (hy : ∀ a : Fin 2, ((ix2 r j : S512x5632.Idx) a : ℕ) = (![0, k * 1408] : Fin 2 → ℕ) a + y a) :
    pay (k0_pay9 (iblk m c 0 t : Vec Ideal S512x1024 .bf16) (iblk m c 1 t : Vec Ideal S512x1024 .f32) (iblk m c 2 t : Vec Ideal S1024x1024 .bf16) (iblk m c 3 t : Vec Ideal S1x1024 .f32) (iblk m c 4 t : Vec Ideal S1x1024 .f32) (iblk m c 5 t : Vec Ideal S4x1024x1408 .bf16)) (View.ld (iblk m c 5 t : Vec Ideal S4x1024x1408 .bf16) (Rect.unit (s := S4x1024x1408) ![k, 0, 0] S1x1024x1408.size inb)) y
      = upOf (ax m c) (am m c) (ap m c) (aq m c) (ao m c) (au m c) (row (pt t) r) j := by
  obtain ⟨s, e, rfl⟩ : ∃ (s : Fin 512) (e : Fin 1408), y = ix2 s e := ⟨y 0, y 1, funext fun a => match a with | ⟨0, _⟩ => rfl | ⟨1, _⟩ => rfl⟩
  have h0 : r.val = 0 + s.val := hy 0
  have h1 : j.val = k * 1408 + e.val := hy 1
  obtain rfl : s = r := Fin.ext (by omega)
  have hj : j = ⟨k * 1408 + e.val, by omega⟩ := Fin.ext h1
  rw [hp, hj]
  refine Finset.sum_congr rfl fun l _ => ?_
  rw [pay9_at, ld_up _ k hk, blk_up]

section
variable (h : FVec Ideal S512x1024 .f32) (w : Vec Ideal S1x1024x1408 .bf16) (s : Fin 512) (b : Fin 1408)
theorem pay2_at : k0_pay2 h w (ix2 s b) = ∑ l : Fin 1024, h (ix2 s l) * w (ix3 0 l b) := by
  pointwise [k0_pay2, k0_pay1]
theorem pay3_at : k0_pay3 h w (ix2 s b) = ∑ l : Fin 1024, h (ix2 s l) * w (ix3 0 l b) := by
  pointwise [k0_pay3, k0_pay1]
theorem pay4_at : k0_pay4 h w (ix2 s b) = ∑ l : Fin 1024, h (ix2 s l) * w (ix3 0 l b) := by
  pointwise [k0_pay4, k0_pay1]
theorem pay5_at : k0_pay5 h w (ix2 s b) = ∑ l : Fin 1024, h (ix2 s l) * w (ix3 0 l b) := by
  pointwise [k0_pay5, k0_pay1]
end

/-- The heads' product. -/
theorem point6 (t : Fin cfg0.N) (r : Fin 512) (l : Fin 1024) :
    out0_6 (iblk m c 0 t) (iblk m c 1 t) (iblk m c 2 t) (iblk m c 3 t) (iblk m c 4 t) (iblk m c 5 t) (ix2 r l) = mixed (am m c) (ao m c) (row (pt t) r) l := by
  unfold out0_6
  rw [View.canon_unit_zero hz]
  simp only [View.ld_unit_zero (S := S512x1024) hz, View.ld_unit_zero (S := S1024x1024) hz, View.ld_unit_zero (S := S1x1024) hz]
  exact pay6_at m c t r l

theorem flush6 : ∀ t : Fin cfg0.N, (cfg0.win 6).flush t = true :=
  (by decide +kernel : ∀ t : Fin grid0.N, win0_6.flush t = true)

set_option maxRecDepth 8192 in
theorem arr6 (t : Fin cfg0.N) (r : Fin 512) (l : Fin 1024) : (dats m 0 c).arrAt 6 cfg0.N (ix2 (row (pt t) r) l) = mixed (am m c) (ao m c) (row (pt t) r) l := by
  rw [← point6]
  have h := congrFun (Value.blocks6 m c t (flush6 t)) (ix2 r l)
  rw [Value.flushed6, View.read_apply] at h
  refine Eq.trans (congrArg ((dats m 0 c).arrAt 6 cfg0.N) ?_) h
  funext a
  apply Fin.ext
  match a with
  | ⟨0, _⟩ => show t.val * 512 + r.val = win0_6.index t 0 * 512 + 1 * r.val; rw [(idx6 t).1]; omega
  | ⟨1, _⟩ => show l.val = win0_6.index t 1 * 1024 + 1 * l.val; rw [(idx6 t).2]; omega

/-- The residual. -/
theorem point7 (t : Fin cfg0.N) (r : Fin 512) (l : Fin 1024) :
    out0_7 (iblk m c 0 t) (iblk m c 1 t) (iblk m c 2 t) (iblk m c 3 t) (iblk m c 4 t) (iblk m c 5 t) (ix2 r l) = resid (ax m c) (am m c) (ap m c) (ao m c) (row (pt t) r) l := by
  unfold out0_7
  rw [View.canon_unit_zero hz]
  simp only [View.ld_unit_zero (S := S512x1024) hz, View.ld_unit_zero (S := S1024x1024) hz, View.ld_unit_zero (S := S1x1024) hz]
  exact pay7_at m c t r l

theorem flush7 : ∀ t : Fin cfg0.N, (cfg0.win 7).flush t = true :=
  (by decide +kernel : ∀ t : Fin grid0.N, win0_7.flush t = true)

set_option maxRecDepth 8192 in
theorem arr7 (t : Fin cfg0.N) (r : Fin 512) (l : Fin 1024) : (dats m 0 c).arrAt 7 cfg0.N (ix2 (row (pt t) r) l) = resid (ax m c) (am m c) (ap m c) (ao m c) (row (pt t) r) l := by
  rw [← point7]
  have h := congrFun (Value.blocks7 m c t (flush7 t)) (ix2 r l)
  rw [Value.flushed7, View.read_apply] at h
  refine Eq.trans (congrArg ((dats m 0 c).arrAt 7 cfg0.N) ?_) h
  funext a
  apply Fin.ext
  match a with
  | ⟨0, _⟩ => show t.val * 512 + r.val = win0_7.index t 0 * 512 + 1 * r.val; rw [(idx7 t).1]; omega
  | ⟨1, _⟩ => show l.val = win0_7.index t 1 * 1024 + 1 * l.val; rw [(idx7 t).2]; omega

/-- The normalised residual. -/
theorem point8 (t : Fin cfg0.N) (r : Fin 512) (l : Fin 1024) :
    out0_8 (iblk m c 0 t) (iblk m c 1 t) (iblk m c 2 t) (iblk m c 3 t) (iblk m c 4 t) (iblk m c 5 t) (ix2 r l) = scaled (resid (ax m c) (am m c) (ap m c) (ao m c) (row (pt t) r)) (aq m c) l := by
  unfold out0_8
  rw [View.canon_unit_zero hz]
  unfold k0_pay1
  rw [ValueIdx.truncf_apply]
  exact pay9_at m c t r l

theorem flush8 : ∀ t : Fin cfg0.N, (cfg0.win 8).flush t = true :=
  (by decide +kernel : ∀ t : Fin grid0.N, win0_8.flush t = true)

set_option maxRecDepth 8192 in
theorem arr8 (t : Fin cfg0.N) (r : Fin 512) (l : Fin 1024) : (dats m 0 c).arrAt 8 cfg0.N (ix2 (row (pt t) r) l) = scaled (resid (ax m c) (am m c) (ap m c) (ao m c) (row (pt t) r)) (aq m c) l := by
  rw [← point8]
  have h := congrFun (Value.blocks8 m c t (flush8 t)) (ix2 r l)
  rw [Value.flushed8, View.read_apply] at h
  refine Eq.trans (congrArg ((dats m 0 c).arrAt 8 cfg0.N) ?_) h
  funext a
  apply Fin.ext
  match a with
  | ⟨0, _⟩ => show t.val * 512 + r.val = win0_8.index t 0 * 512 + 1 * r.val; rw [(idx8 t).1]; omega
  | ⟨1, _⟩ => show l.val = win0_8.index t 1 * 1024 + 1 * l.val; rw [(idx8 t).2]; omega

/-- What is convolved. -/
theorem point9 (t : Fin cfg0.N) (r : Fin 512) (j : Fin 5632) :
    out0_9 (iblk m c 0 t) (iblk m c 1 t) (iblk m c 2 t) (iblk m c 3 t) (iblk m c 4 t) (iblk m c 5 t) (ix2 r j) = upOf (ax m c) (am m c) (ap m c) (aq m c) (ao m c) (au m c) (row (pt t) r) j := by
  unfold out0_9
  refine View.canon_eq_of_allAt _ _ _ (cover0_9 _ _ _ _ _) ?_
  refine View.allAt_cons_unit _ _ _ _ _ (fun y hy => piece_at m c t 3 (by decide) _ _ pay5_at y hy) ?_
  refine View.allAt_cons_unit _ _ _ _ _ (fun y hy => piece_at m c t 2 (by decide) _ _ pay4_at y hy) ?_
  refine View.allAt_cons_unit _ _ _ _ _ (fun y hy => piece_at m c t 1 (by decide) _ _ pay3_at y hy) ?_
  refine View.allAt_cons_unit _ _ _ _ _ (fun y hy => piece_at m c t 0 (by decide) _ _ pay2_at y hy) ?_
  exact View.allAt_nil _ _

theorem flush9 : ∀ t : Fin cfg0.N, (cfg0.win 9).flush t = true :=
  (by decide +kernel : ∀ t : Fin grid0.N, win0_9.flush t = true)

set_option maxRecDepth 8192 in
theorem arr9 (t : Fin cfg0.N) (r : Fin 512) (j : Fin 5632) : (dats m 0 c).arrAt 9 cfg0.N (ix2 (row (pt t) r) j) = upOf (ax m c) (am m c) (ap m c) (aq m c) (ao m c) (au m c) (row (pt t) r) j := by
  rw [← point9]
  have h := congrFun (Value.blocks9 m c t (flush9 t)) (ix2 r j)
  rw [Value.flushed9, View.read_apply] at h
  refine Eq.trans (congrArg ((dats m 0 c).arrAt 9 cfg0.N) ?_) h
  funext a
  apply Fin.ext
  match a with
  | ⟨0, _⟩ => show t.val * 512 + r.val = win0_9.index t 0 * 512 + 1 * r.val; rw [(idx9 t).1]; omega
  | ⟨1, _⟩ => show j.val = win0_9.index t 1 * 5632 + 1 * j.val; rw [(idx9 t).2]; omega

end Cert.Kernel5Ideal.Gen

end
-- ==== Proof.FwdClaim.lean ====
/- The two forward calls around the mixer: the programs and their references compute the same arrays. -/
module

public import proofs.«01_k».proof.Defs
public import proofs.«01_k».proof.Proof.FwdRef
public import proofs.«01_k».proof.Proof.InFwd
public import proofs.«01_k».proof.Proof.UpFwd
public import proofs.«01_k».proof.Proof.Gen.Reference5Ideal.Run
public import proofs.«01_k».proof.Proof.Gen.Reference6Ideal.Run
public import Idealize.ShloMosaic.Init

@[expose] public section

noncomputable section

namespace Cert.Proof

open Idealize.ShloMosaic Idealize.SL.Sem Cert.Proof.Head Cert.Proof.Fwd

/-- The rows of a matrix that a program leaves in blocks of 512 rows. -/
theorem ext512 {b : ℕ} {α : Type} {f g : (⟨2, ![16384, b]⟩ : Shape).Idx → α} (h : ∀ t s l, f (ix2 (row t s) l) = g (ix2 (row t s) l)) : f = g := ext2 fun r l => by
  obtain ⟨t, s, rfl⟩ := exists_row r
  exact h t s l

/-- The first projection and its rows. -/
theorem in_forward : Cert.algebraic_Kernel6Ideal_Reference6Ideal := by
  intro m g m' g' _ hargs
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m g, (θ_run _ _ _).mono (fun _ h c => ?_) (Cert.Reference6Ideal.Value.run m' g')⟩
  obtain ⟨h0, h1, hrest⟩ := h c
  obtain ⟨a0, a1, a2⟩ := hargs c
  refine ⟨h0.trans ((Cert.Reference6Ideal.Read.val_main_v17_eq (F := Ideal) _ _).trans ?_), h1.trans ((Cert.Reference6Ideal.Read.val_main_v18_eq (F := Ideal) _ _ _).trans ?_), hrest⟩
  · rw [a0, a1]
    refine ext2 fun r l => ?_
    obtain ⟨t, s, rfl⟩ := exists_at1024 r
    exact (in_rows _ _ _ _).trans (Cert.Kernel6Ideal.Gen.arr3 m c (Fin.cast Cert.Kernel6Ideal.Gen.N_0.symm t) s l).symm
  · rw [a0, a1, a2]
    refine ext2 fun r l => ?_
    obtain ⟨t, s, rfl⟩ := exists_at1024 r
    exact (Fwd.in_proj _ _ _ _ _).trans (Cert.Kernel6Ideal.Gen.arr4 m c (Fin.cast Cert.Kernel6Ideal.Gen.N_0.symm t) s l).symm

/-- The heads' product, the residual, its normalised rows, and what is convolved. -/
theorem up_forward : Cert.algebraic_Kernel5Ideal_Reference5Ideal := by
  intro m g m' g' _ hargs
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    fun c => (Cert.Kernel5Ideal.Gen.dats m 0 c).arrAt 8 Cert.Kernel5Ideal.cfg0.N, fun c => (Cert.Kernel5Ideal.Gen.dats m 0 c).arrAt 9 Cert.Kernel5Ideal.cfg0.N,
    Cert.Kernel5Ideal.Value.run_blocks m g, (θ_run _ _ _).mono (fun _ h c => ?_) (Cert.Reference5Ideal.Value.run m' g')⟩
  obtain ⟨h0, h1, h2, h3, hrest⟩ := h c
  obtain ⟨a0, a1, a2, a3, a4, a5⟩ := hargs c
  refine ⟨h0.trans ((Cert.Reference5Ideal.Read.val_main_v33_eq (F := Ideal) _ _).trans ?_), h1.trans ((Cert.Reference5Ideal.Read.val_main_v34_eq (F := Ideal) _ _ _ _).trans ?_),
    h2.trans ((Cert.Reference5Ideal.Read.val_main_v36_eq m' c).trans ?_), h3.trans ((Cert.Reference5Ideal.Read.val_main_v38_eq m' c).trans ?_), hrest⟩
  · rw [a1, a2]
    exact ext512 fun t s l => (up_mixed2 _ _ _ _).trans (Cert.Kernel5Ideal.Gen.arr6 m c (Fin.cast Cert.Kernel5Ideal.Gen.N_0.symm t) s l).symm
  · rw [a0, a1, a2, a3]
    exact ext512 fun t s l => (up_resid2 _ _ _ _ _ _).trans (Cert.Kernel5Ideal.Gen.arr7 m c (Fin.cast Cert.Kernel5Ideal.Gen.N_0.symm t) s l).symm
  · rw [a0, a1, a2, a3, a4]
    exact ext512 fun t s l => (up_rows _ _ _ _ _ _ _).trans (Cert.Kernel5Ideal.Gen.arr8 m c (Fin.cast Cert.Kernel5Ideal.Gen.N_0.symm t) s l).symm
  · rw [a0, a1, a2, a3, a4, a5]
    exact ext512 fun t s l => (up_wide _ _ _ _ _ _ _ _).trans (Cert.Kernel5Ideal.Gen.arr9 m c (Fin.cast Cert.Kernel5Ideal.Gen.N_0.symm t) s l).symm

/-- The references end and leave their arguments as they were. They have no semaphore. -/
theorem in_forward_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

theorem up_forward_frame : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

end Cert.Proof

end
-- ==== Proof.TailFrame.lean ====
/- The frames of the call with the convolution, the gate, the output norm and the loss, both forms from one run. -/
module

public import proofs.«01_k».proof.Defs
public import proofs.«01_k».proof.Proof.Gen.Kernel4
public import proofs.«01_k».proof.Proof.Gen.Kernel4Ideal.Frame

@[expose] public section

set_option maxRecDepth 16384

noncomputable section

namespace Cert.Proof.Tail

open Idealize.ShloMosaic Idealize.SL.Sem

/-- What the frame of the kernel as printed for idealization says, at any reading of the floats. -/
def IdealText (F : FTy → Type) [FloatOps F] : Prop :=
  ∀ (m : (ℓ : Loc Cert.Kernel4Ideal.nD Cert.Kernel4Ideal.τ Cert.Kernel4Ideal.sig) → Buf (Elt F) ℓ) (g : Dev Cert.Kernel4Ideal.nD → PrngReg),
    θ_run (Cert.Kernel4Ideal.defs (F := F)) (onTc (τ := Cert.Kernel4Ideal.τ) (Cert.Kernel4Ideal.main (F := F))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

/-- The same of the kernel as it runs. -/
def KernelText (F : FTy → Type) [FloatOps F] : Prop :=
  ∀ (m : (ℓ : Loc Cert.Kernel4.nD Cert.Kernel4.τ Cert.Kernel4.sig) → Buf (Elt F) ℓ) (g : Dev Cert.Kernel4.nD → PrngReg),
    θ_run (Cert.Kernel4.defs (F := F)) (onTc (τ := Cert.Kernel4.τ) (Cert.Kernel4.main (F := F))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

/-- The two programs have the same text, so the two statements are the same. -/
theorem same_text (F : FTy → Type) [FloatOps F] : IdealText F = KernelText F := by sl_kernel_rfl

theorem tail_kernel : Cert.quiescent_Kernel4 :=
  fun m ρ _ => (same_text Bits).mp (fun m ρ => Cert.Kernel4Ideal.Gen.frame m ρ) m ρ

theorem tail_ideal : Cert.quiescent_Kernel4Ideal :=
  fun m ρ _ => Cert.Kernel4Ideal.Gen.frame m ρ

end Cert.Proof.Tail

end
-- ==== Proof.FwdMixTile.lean ====
/- The attention part of one chunk of the forward call, as a function of what it loads, and the pieces that a step of the call stores for its chunks. -/
module

public import proofs.«01_k».proof.Proof.Gen.Kernel7Ideal.Frame

@[expose] public section

set_option maxRecDepth 16384

noncomputable section

namespace Cert.Kernel7Ideal.Gen

open Cert.Kernel7Ideal Idealize.ShloMosaic Idealize.ShloMosaic.TcCoe Idealize.ShloMosaic.Tactic Idealize.SL.Sem

variable {F : FTy → Type} [FloatOps F] [Named F]

/-- What the attention part of a chunk reads. -/
structure Loads (F : FTy → Type) where
  /-- The chunk's keys and values. -/
  cur : Vec F S128x256 .f32
  /-- The keys and values of the chunk before. -/
  prev : Vec F S128x256 .f32
  /-- The queries, in column tiles of two heads. -/
  queries : Fin 4 → Vec F S128x128 .f32
  /-- The sinks. -/
  sinks : Fin 8 → Elt F .f32
  /-- What is added to the scores: nothing where a row looks. -/
  bias : FVec F S512x256 .f32

/-- The lanes of the first head of a pair. -/
def firstLanes : IVec S128x128 1 := k0_pay16
/-- The lanes of the second. -/
def secondLanes : IVec S128x128 1 := k0_pay18 k0_pay17 64#32

/-- What a chunk adds to its scores: nothing where a row looks, else the named constant. -/
def biasAny : FVec F S512x256 .f32 := k0_pay10 k0_pay8 (Named.named κ "mask" 0xF149F2CA#32) k0_pay9
/-- The same for the first chunk of a step, which may be the first of all. -/
def biasFirst (n : BitVec 32) : FVec F S512x256 .f32 := k0_pay11 n k0_pay8 (Named.named κ "mask" 0xF149F2CA#32) k0_pay9

namespace Loads

variable (x : Loads F)

/-- The keys of both chunks. -/
def keys : FVec F S256x128 .f32 := k0_pay23 x.cur x.prev
/-- The values of both chunks. -/
def values : FVec F S256x128 .f32 := k0_pay24 x.cur x.prev

/-- The sinks of the first four heads, by stacked rows. -/
def sinkRows0 : FVec F S512x1 .f32 := k0_pay21 (iota .tc S512x1 32 [0] iota_S512x1_d0_w32) (x.sinks 0) (x.sinks 1) (x.sinks 2) (x.sinks 3)
/-- The sinks of the others. -/
def sinkRows1 : FVec F S512x1 .f32 := k0_pay22 (x.sinks 4) (x.sinks 5) (x.sinks 6) (x.sinks 7)

/-- The probabilities of the first group. -/
def probs0 : FVec F S512x256 .bf16 := k0_pay33 x.bias firstLanes x.sinkRows0 x.keys (x.queries 0) (x.queries 0) (x.queries 1) (x.queries 1)
/-- The probabilities of the second group. -/
def probs1 : FVec F S512x256 .bf16 :=
  k0_pay48 x.bias secondLanes x.sinkRows1 (k0_pay25 x.keys) (k0_pay40 secondLanes (x.queries 2)) (x.queries 2) k0_pay41 (x.queries 3) (x.queries 3)

/-- The result, in column tiles of two heads. -/
def tile : Fin 4 → FVec F S128x128 .bf16
  | 0 => k0_pay38 k0_pay19 x.values x.probs0
  | 1 => k0_pay39 k0_pay19 x.values x.probs0
  | 2 => k0_pay53 k0_pay20 x.values x.probs1
  | 3 => k0_pay54 k0_pay20 x.values x.probs1

end Loads

variable (m : (ℓ : Loc nD τ sig) → Buf (Elt F) ℓ) (c : Dev nD) (t : Fin cfg0.N)

/-- What chunk `j` of a step reads. -/
def loads (j : Fin 4) : Loads F where
  cur := View.readAt (Elt F) (ms0_1 t).view (Rect.unit (s := S512x2816) ![128 * j.val, 512] S128x256.size (by revert j; decide)).toLoadRect ((hs0_1 t).unread (iblk m c 1 t))
  prev := match j with
    | 0 => View.readAt (Elt F) (ms0_2 t).view (Rect.unit (s := S128x256) ![0, 0] S128x256.size inb_S128x256_S128x256_0_0).toLoadRect ((hs0_2 t).unread (iblk m c 2 t))
    | 1 => View.readAt (Elt F) (ms0_1 t).view (Rect.unit (s := S512x2816) ![0, 512] S128x256.size inb_S512x2816_S128x256_0_512).toLoadRect ((hs0_1 t).unread (iblk m c 1 t))
    | 2 => View.readAt (Elt F) (ms0_1 t).view (Rect.unit (s := S512x2816) ![128, 512] S128x256.size inb_S512x2816_S128x256_128_512).toLoadRect ((hs0_1 t).unread (iblk m c 1 t))
    | 3 => View.readAt (Elt F) (ms0_1 t).view (Rect.unit (s := S512x2816) ![256, 512] S128x256.size inb_S512x2816_S128x256_256_512).toLoadRect ((hs0_1 t).unread (iblk m c 1 t))
  queries k := View.readAt (Elt F) (ms0_1 t).view (Rect.unit (s := S512x2816) ![128 * j.val, 128 * k.val] S128x128.size (by revert j k; decide)).toLoadRect ((hs0_1 t).unread (iblk m c 1 t))
  sinks k := View.readAt (Elt F) (ms0_0 t).view (Rect.unit (s := S8) ![k.val] S1.size (by revert k; decide)).toLoadRect ((hs0_0 t).unread (iblk m c 0 t)) (Shape.Idx.first (numel1_S1.symm ▸ Nat.one_pos))
  bias := match j with
    | 0 => biasFirst (BitVec.ofNat 32 (grid0.coords t 0).val)
    | 1 => biasAny
    | 2 => biasAny
    | 3 => biasAny

/-- The place of column tile `k` of chunk `j`. -/
def place (j k : Fin 4) : Rect S512x1024 := Rect.unit (s := S512x1024) ![128 * j.val, 128 * k.val] S128x128.size (by revert j k; decide)

/-- A tile that a chunk stores, with its place. -/
def piece (j k : Fin 4) (w : Vec F S128x128 .bf16) : View.Piece (Elt F) S512x1024 .bf16 := ⟨place j k, w⟩

/-- Tile `k` of chunk `j` in a step's list of stores, the newest first, and whether the newer ones leave its place alone. -/
def stored (L : List (View.Piece (Elt F) S512x1024 .bf16)) (j k : Fin 4) : Option (View.Piece (Elt F) S512x1024 .bf16) × Bool :=
  (View.Piece.nth L (8 * (3 - j.val) + (7 - k.val)), LoadRect.hitChk (L.map Sigma.fst) (place j k).toLoadRect (8 * (3 - j.val) + (7 - k.val)))

/-- The attention's tiles of a chunk in a list of stores. -/
def storedAll (L : List (View.Piece (Elt F) S512x1024 .bf16)) (j : Fin 4) : List (Option (View.Piece (Elt F) S512x1024 .bf16) × Bool) :=
  [stored L j 0, stored L j 1, stored L j 2, stored L j 3]

/-- The tiles that a chunk should store. -/
def tileAll (j : Fin 4) : List (Option (View.Piece (Elt F) S512x1024 .bf16) × Bool) :=
  [(some (piece j 0 ((loads m c t j).tile 0)), true), (some (piece j 1 ((loads m c t j).tile 1)), true),
   (some (piece j 2 ((loads m c t j).tile 2)), true), (some (piece j 3 ((loads m c t j).tile 3)), true)]

/-- A place that the newer stores leave alone holds what was stored there. -/
theorem canon_of_hit : ∀ (L : List (View.Piece (Elt F) S512x1024 .bf16)) (n : Nat) (r : Rect S512x1024) (w : r.shape.Idx → Elt F .bf16),
    View.Piece.nth L n = some ⟨r, w⟩ → LoadRect.hitChk (L.map Sigma.fst) r.toLoadRect n = true → ∀ x, View.canon L (r.emb x) = w x
  | [], n, _, _, hn, _, _ => by cases n <;> cases hn
  | p :: L, 0, r, w, hn, _, x => by
    simp only [View.Piece.nth, Option.some.injEq] at hn
    subst hn
    exact View.canon_cons_emb r w L x
  | p :: L, n + 1, r, w, hn, hc, x => by
    simp only [View.Piece.nth] at hn
    simp only [List.map_cons, LoadRect.hitChk, Bool.and_eq_true] at hc
    exact (View.canon_cons_of_not_mem p L (LoadRect.idx_not_mem_of_disj hc.1 x)).trans (canon_of_hit L n r w hn hc.2 x)

/-- A list of stores that holds the attention's tiles of a chunk leaves them in place. -/
theorem canon_of_stored (L : List (View.Piece (Elt F) S512x1024 .bf16)) (j : Fin 4) (h : storedAll L j = tileAll m c t j) (k : Fin 4) (x : S128x128.Idx) :
    View.canon L ((place j k).emb x) = (loads m c t j).tile k x := by
  simp only [storedAll, tileAll, List.cons.injEq, and_true] at h
  have go : ∀ k, stored L j k = (some (piece j k ((loads m c t j).tile k)), true) → View.canon L ((place j k).emb x) = (loads m c t j).tile k x := fun k e => by
    simp only [stored, Prod.mk.injEq] at e
    exact canon_of_hit L _ (place j k) ((loads m c t j).tile k) e.1 e.2 x
  match k with
  | 0 => exact go 0 h.1
  | 1 => exact go 1 h.2.1
  | 2 => exact go 2 h.2.2.1
  | 3 => exact go 3 h.2.2.2

/-- The stores of the first step into the mixed rows. -/
def storesA (h : t.val % 32 = 0) : List (View.Piece (Elt F) S512x1024 .bf16) :=
  (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t)).1

/-- The stores of a later step. -/
def storesB (h : ¬t.val % 32 = 0) : List (View.Piece (Elt F) S512x1024 .bf16) :=
  (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.2.2.2.2.2).1

theorem storesA_tiles (h : t.val % 32 = 0) : ∀ j, storedAll (storesA m c t h) j = tileAll m c t j
  | 0 => by sl_kernel_rfl
  | 1 => by sl_kernel_rfl
  | 2 => by sl_kernel_rfl
  | 3 => by sl_kernel_rfl

theorem storesB_tiles (h : ¬t.val % 32 = 0) : ∀ j, storedAll (storesB m c t h) j = tileAll m c t j
  | 0 => by sl_kernel_rfl
  | 1 => by sl_kernel_rfl
  | 2 => by sl_kernel_rfl
  | 3 => by sl_kernel_rfl

theorem outA_tile (h : t.val % 32 = 0) (j k : Fin 4) (x : S128x128.Idx) :
    out0_A_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) ((place j k).emb x) = (loads m c t j).tile k x := by
  unfold out0_A_9
  exact (congrFun (View.read_writes_junk_eq_canon _ _) _).trans (canon_of_stored m c t (storesA m c t h) j (storesA_tiles m c t h j) k x)

theorem outB_tile (h : ¬t.val % 32 = 0) (j k : Fin 4) (x : S128x128.Idx) :
    out0_B_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.2.2.2.2.2 ((place j k).emb x) = (loads m c t j).tile k x := by
  unfold out0_B_9
  exact (congrFun (View.read_writes_junk_eq_canon _ _) _).trans (canon_of_stored m c t (storesB m c t h) j (storesB_tiles m c t h j) k x)

/-- The attention's tiles of a step's block of the mixed rows. -/
theorem block_tile (j k : Fin 4) (x : S128x128.Idx) : (outsAt0 m c t.val t.isLt).1 ((place j k).emb x) = (loads m c t j).tile k x := by
  by_cases h : t.val % 32 = 0
  · exact (congrFun (congrArg Prod.fst (outsAt0_A m c t h)) _).trans (outA_tile m c t h j k x)
  · exact (congrFun (congrArg Prod.fst (outsAt0_B m c t h)) _).trans (outB_tile m c t h j k x)

end Cert.Kernel7Ideal.Gen

end
-- ==== Proof.FwdMixLanes.lean ====
/- The attention part of one chunk of the forward call, lane by lane: two heads of 64 columns lie side by side in a tile, a product of tiles masked to one head's
   lanes is the product over that head's columns. -/
module

public import proofs.«01_k».proof.Proof.FwdMixTile
public import proofs.«01_k».proof.Proof.MixLanes
public import proofs.«01_k».proof.Proof.MixSpec
public import Idealize.ShloMosaic.Lib.Pointwise

@[expose] public section

noncomputable section

namespace Cert.Kernel7Ideal.Gen

open Cert.Kernel7Ideal Idealize.ShloMosaic Cert.Proof
open Cert.Kernel2Ideal.Gen (lane stack sum_half lane_cases)

theorem firstLanes_at (r l : Fin 128) : firstLanes (ix2 r l) = if l.val < 64 then 1#1 else 0#1 := by
  unfold firstLanes
  pointwise [k0_pay16]
  revert l; decide +kernel

theorem secondLanes_at (r l : Fin 128) : secondLanes (ix2 r l) = if l.val < 64 then 0#1 else 1#1 := by
  unfold secondLanes
  pointwise [k0_pay17, k0_pay18]
  revert l; decide +kernel

theorem firstValues_at (b : Fin 256) (l : Fin 128) : k0_pay19 (ix2 b l) = if l.val < 64 then 1#1 else 0#1 := by
  pointwise [k0_pay19]
  revert l; decide +kernel

theorem secondValues_at (b : Fin 256) (l : Fin 128) : k0_pay20 (ix2 b l) = if l.val < 64 then 0#1 else 1#1 := by
  pointwise [k0_pay20]
  revert l; decide +kernel

/-- The row within its head of a stacked row, as the program computes it. -/
def rowOf (w : BitVec 32) : BitVec 32 :=
  Scalar.select
    (IntOp.andi
      (IntOp.xori (IntOp.cmpi .slt (IntOp.remsi .vector w (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector w (Scalar.select (Scalar.cmpi .eq 128#32 0#32) 1#32 128#32)) 0#32))
    (IntOp.addi (IntOp.remsi .vector w (Scalar.select (Scalar.cmpi .eq 128#32 0#32) 1#32 128#32)) (Scalar.select (Scalar.cmpi .eq 128#32 0#32) 1#32 128#32))
    (IntOp.remsi .vector w (Scalar.select (Scalar.cmpi .eq 128#32 0#32) 1#32 128#32))

theorem rowOf_stack : ∀ (g : Fin 4) (r : Fin 128), rowOf (BitVec.ofNat 32 (stack g r).val) = BitVec.ofNat 32 r.val := by decide +kernel

theorem near : ∀ (r : Fin 128) (b : Fin 256), IntOp.andi (IntOp.cmpi .sgt (BitVec.ofNat 32 b.val) (BitVec.ofNat 32 r.val))
    (IntOp.cmpi .sle (BitVec.ofNat 32 b.val) (IntOp.addi (BitVec.ofNat 32 r.val) 128#32)) = if b.val ≤ r.val + 128 ∧ r.val < b.val then 1#1 else 0#1 := by decide +kernel

/-- Where a row looks, among the stacked rows. -/
theorem looks_at (g : Fin 4) (r : Fin 128) (b : Fin 256) : k0_pay8 (ix2 (stack g r) b) = if b.val ≤ r.val + 128 ∧ r.val < b.val then 1#1 else 0#1 := by
  pointwise [k0_pay8]
  refine Eq.trans ?_ (near r b)
  rw [← rowOf_stack g r]
  rfl

theorem mask_bot : Named.named (F := Ideal) κ "mask" (φ := .f32) 0xF149F2CA#32 = ⊥ := IdealRules.named_const.ideal_named_scalar _ _ _ _ rfl

theorem biasAny_at (g : Fin 4) (r : Fin 128) (b : Fin 256) : biasAny (F := Ideal) (ix2 (stack g r) b) = if b.val ≤ r.val + 128 ∧ r.val < b.val then 0 else ⊥ := by
  unfold biasAny
  pointwise [k0_pay10, k0_pay9, looks_at]
  rw [mask_bot]
  split_ifs <;> rfl

/-- In the first chunk of all a row does not look at the places before the first row. -/
theorem biasFirst_at (n : BitVec 32) (g : Fin 4) (r : Fin 128) (b : Fin 256) :
    biasFirst (F := Ideal) n (ix2 (stack g r) b) = if (b.val ≤ r.val + 128 ∧ r.val < b.val) ∧ (n ≠ 0#32 ∨ 128 ≤ b.val) then 0 else ⊥ := by
  have own : ∀ b : Fin 256, IntOp.cmpi .sge (BitVec.ofNat 32 b.val) 128#32 = if 128 ≤ b.val then 1#1 else 0#1 := by decide +kernel
  have e : biasFirst (F := Ideal) n (ix2 (stack g r) b) = Scalar.select (Scalar.cmpi .eq n 0#32)
      (Scalar.select (IntOp.andi (k0_pay8 (ix2 (stack g r) b)) (IntOp.cmpi .sge (BitVec.ofNat 32 b.val) 128#32)) (0 : EReal) (Named.named (F := Ideal) κ "mask" (φ := .f32) 0xF149F2CA#32))
      (biasAny (F := Ideal) (ix2 (stack g r) b)) := by
    unfold biasFirst biasAny
    pointwise [k0_pay11, k0_pay9, k0_pay8]
  have first : Scalar.cmpi .eq n 0#32 = if n = 0#32 then 1#1 else 0#1 := by
    by_cases hn : n = 0#32
    · subst hn; rfl
    · rw [if_neg hn]
      simp [Scalar.cmpi, IntOp.cmpi, beq_eq_false_iff_ne.mpr hn]
  rw [e, biasAny_at, looks_at, own, mask_bot, first]
  by_cases h1 : n = 0#32 <;> by_cases h2 : b.val ≤ r.val + 128 ∧ r.val < b.val <;> by_cases h3 : 128 ≤ b.val <;>
    simp [h1, h2, h3, Scalar.select, IntOp.andi]

variable (x : Loads Ideal) (h : Fin 2) (g : Fin 4) (r : Fin 128) (b : Fin 256) (d : Fin 64)

theorem keys_at (l : Fin 128) : x.keys (ix2 b l) = if hb : b.val < 128 then x.prev (ix2 ⟨b.val, hb⟩ ⟨l.val, by omega⟩) else x.cur (ix2 ⟨b.val - 128, by omega⟩ ⟨l.val, by omega⟩) := by
  unfold Loads.keys
  pointwise [k0_pay23]

theorem values_at (l : Fin 128) : x.values (ix2 b l) = if hb : b.val < 128 then x.prev (ix2 ⟨b.val, hb⟩ ⟨128 + l.val, by omega⟩) else x.cur (ix2 ⟨b.val - 128, by omega⟩ ⟨128 + l.val, by omega⟩) := by
  unfold Loads.values
  pointwise [k0_pay24]

/-- The stacked queries, by group. -/
def Loads.stacked (x : Loads Ideal) : Fin 2 → FVec Ideal S512x128 .bf16
  | 0 => k0_pay26 firstLanes (x.queries 0) (x.queries 0) (x.queries 1) (x.queries 1)
  | 1 => k0_pay42 secondLanes (k0_pay40 secondLanes (x.queries 2)) (x.queries 2) k0_pay41 (x.queries 3) (x.queries 3)

/-- The sinks by stacked rows. -/
def Loads.sinkRows (x : Loads Ideal) : Fin 2 → FVec Ideal S512x1 .f32
  | 0 => x.sinkRows0
  | 1 => x.sinkRows1

/-- The probabilities, by group. -/
def Loads.probs (x : Loads Ideal) : Fin 2 → FVec Ideal S512x256 .bf16
  | 0 => x.probs0
  | 1 => x.probs1

/-- The query of a head. -/
def Loads.headQuery (x : Loads Ideal) (h : Fin 2) (g : Fin 4) (r : Fin 128) (d : Fin 64) : EReal :=
  x.queries ⟨2 * h.val + g.val / 2, by omega⟩ (ix2 r (lane ⟨g.val % 2, by omega⟩ d))

theorem stacked_at (p : Fin 2) : x.stacked h (ix2 (stack g r) (lane p d)) = if p = h then x.headQuery h g r d else 0 := by
  unfold stack lane Loads.headQuery lane
  fin_cases h <;> fin_cases g <;> fin_cases p
  all_goals
    simp only [Loads.stacked]
    pointwise [k0_pay26, k0_pay40, k0_pay41, k0_pay42, firstLanes_at, secondLanes_at]
  all_goals
    (repeat' split) <;> first
      | rfl
      | (exfalso; omega)
      | (congr 2 <;> exact Fin.ext (by dsimp only; omega))

theorem sinkRows_at : x.sinkRows h (ix2 (stack g r) 0) = x.sinks ⟨4 * h.val + g.val, by omega⟩ := by
  have k : ∀ n : Fin 4, ∀ k : Fin 512, IntOp.cmpi .sge (BitVec.ofNat 32 k.val) (BitVec.ofNat 32 (128 * n.val)) = if 128 * n.val ≤ k.val then 1#1 else 0#1 := by decide +kernel
  have hv : (stack g r).val = g.val * 128 + r.val := by simp only [stack]; omega
  have k1 : IntOp.cmpi .sge (BitVec.ofNat 32 (stack g r).val) 128#32 = if 128 ≤ g.val * 128 + r.val then 1#1 else 0#1 := (k 1 (stack g r)).trans (by rw [hv]; rfl)
  have k2 : IntOp.cmpi .sge (BitVec.ofNat 32 (stack g r).val) 256#32 = if 256 ≤ g.val * 128 + r.val then 1#1 else 0#1 := (k 2 (stack g r)).trans (by rw [hv]; rfl)
  have k3 : IntOp.cmpi .sge (BitVec.ofNat 32 (stack g r).val) 384#32 = if 384 ≤ g.val * 128 + r.val then 1#1 else 0#1 := (k 3 (stack g r)).trans (by rw [hv]; rfl)
  have sel : ∀ (c : Prop) [Decidable c] (a b : EReal), Scalar.select (if c then 1#1 else 0#1) a b = if c then a else b := fun c _ a b => by split_ifs <;> rfl
  fin_cases h
  · show x.sinkRows0 (ix2 (stack g r) 0) = _
    unfold Loads.sinkRows0
    pointwise [k0_pay21]
    rw [k1, k2, k3]
    rw [sel, sel, sel]
    obtain ⟨g, hg⟩ := g
    interval_cases g <;> dsimp only <;> split_ifs <;> first | rfl | (exfalso; omega)
  · show x.sinkRows1 (ix2 (stack g r) 0) = _
    unfold Loads.sinkRows1
    pointwise [k0_pay22]
    rw [k1, k2, k3]
    rw [sel, sel, sel]
    obtain ⟨g, hg⟩ := g
    interval_cases g <;> dsimp only <;> split_ifs <;> first | rfl | (exfalso; omega)

/-- The score of a place. -/
def Loads.score (x : Loads Ideal) (h : Fin 2) (g : Fin 4) (r : Fin 128) (b : Fin 256) : EReal :=
  (∑ d, x.headQuery h g r d * x.keys (ix2 b (lane h d))) * eighth + x.bias (ix2 (stack g r) b)

theorem dot_keys : ∑ l, x.stacked h (ix2 (stack g r) l) * x.keys (ix2 b l) = ∑ d, x.headQuery h g r d * x.keys (ix2 b (lane h d)) := by
  refine (sum_half h _ fun l hl => ?_).trans (Finset.sum_congr rfl fun d _ => ?_)
  · obtain ⟨p, d, rfl⟩ := lane_cases l
    rw [stacked_at, if_neg, zero_mul]
    rintro rfl
    exact hl (by simp [lane]; omega)
  · rw [stacked_at, if_pos rfl]

/-- The scores, by group. -/
def Loads.scores (x : Loads Ideal) : Fin 2 → FVec Ideal S512x256 .f32
  | 0 => k0_pay27 x.bias firstLanes x.keys (x.queries 0) (x.queries 0) (x.queries 1) (x.queries 1)
  | 1 => k0_pay43 x.bias secondLanes (k0_pay25 x.keys) (k0_pay40 secondLanes (x.queries 2)) (x.queries 2) k0_pay41 (x.queries 3) (x.queries 3)

theorem scores_at : x.scores h (ix2 (stack g r) b) = x.score h g r b := by
  unfold Loads.score
  rw [← dot_keys]
  fin_cases h
  · simp only [Loads.scores, Loads.stacked]
    pointwise [k0_pay27, k0_pay25]
    rfl
  · simp only [Loads.scores, Loads.stacked]
    pointwise [k0_pay43, k0_pay25]
    rfl

/-- The largest score of a row. -/
def Loads.top (x : Loads Ideal) (h : Fin 2) (g : Fin 4) (r : Fin 128) : EReal :=
  max ((Finset.univ : Finset (Fin 256)).fold max ⊥ (x.score h g r)) (x.sinks ⟨4 * h.val + g.val, by omega⟩)

/-- The largest scores, by group. -/
def Loads.tops (x : Loads Ideal) : Fin 2 → FVec Ideal S512x1 .f32
  | 0 => k0_pay28 x.bias firstLanes x.sinkRows0 x.keys (x.queries 0) (x.queries 0) (x.queries 1) (x.queries 1)
  | 1 => k0_pay44 x.bias secondLanes x.sinkRows1 (k0_pay25 x.keys) (k0_pay40 secondLanes (x.queries 2)) (x.queries 2) k0_pay41 (x.queries 3) (x.queries 3)

theorem tops_at : x.tops h (ix2 (stack g r) 0) = x.top h g r := by
  unfold Loads.top
  rw [← sinkRows_at x h g r]
  fin_cases h
  · have e : ∀ b, k0_pay27 x.bias firstLanes x.keys (x.queries 0) (x.queries 0) (x.queries 1) (x.queries 1) (ix2 (stack g r) b) = x.score 0 g r b := fun b => scores_at x 0 g r b
    simp only [Loads.tops, Loads.sinkRows]
    pointwise [k0_pay28, e]
    rw [lit_bot]
  · have e : ∀ b, k0_pay43 x.bias secondLanes (k0_pay25 x.keys) (k0_pay40 secondLanes (x.queries 2)) (x.queries 2) k0_pay41 (x.queries 3) (x.queries 3) (ix2 (stack g r) b) = x.score 1 g r b := fun b => scores_at x 1 g r b
    simp only [Loads.tops, Loads.sinkRows]
    pointwise [k0_pay44, e]
    rw [lit_bot]

/-- The exponentials. -/
def Loads.weight (x : Loads Ideal) (h : Fin 2) (g : Fin 4) (r : Fin 128) (b : Fin 256) : EReal := Ideal.exp (x.score h g r b - x.top h g r)

/-- The sink's exponential. -/
def Loads.sinkWeight (x : Loads Ideal) (h : Fin 2) (g : Fin 4) (r : Fin 128) : EReal := Ideal.exp (x.sinks ⟨4 * h.val + g.val, by omega⟩ - x.top h g r)

theorem probs_at : x.probs h (ix2 (stack g r) b) = x.weight h g r b * Ideal.div 1 ((∑ b, x.weight h g r b) + x.sinkWeight h g r) := by
  unfold Loads.weight Loads.sinkWeight
  rw [← sinkRows_at x h g r, ← tops_at]
  fin_cases h
  · have e : ∀ b, k0_pay27 x.bias firstLanes x.keys (x.queries 0) (x.queries 0) (x.queries 1) (x.queries 1) (ix2 (stack g r) b) = x.score 0 g r b := fun b => scores_at x 0 g r b
    simp only [Loads.sinkRows, Loads.probs]
    unfold Loads.probs0
    have f : ∀ b, k0_pay29 x.bias firstLanes x.sinkRows0 x.keys (x.queries 0) (x.queries 0) (x.queries 1) (x.queries 1) (ix2 (stack g r) b) = Ideal.exp (x.score 0 g r b - x.tops 0 (ix2 (stack g r) 0)) := by
      intro b
      pointwise [k0_pay29, e]
      rfl
    have t : k0_pay28 x.bias firstLanes x.sinkRows0 x.keys (x.queries 0) (x.queries 0) (x.queries 1) (x.queries 1) (ix2 (stack g r) 0) = x.tops 0 (ix2 (stack g r) 0) := rfl
    pointwise [k0_pay33, k0_pay31, k0_pay30, f, t]
  · have e : ∀ b, k0_pay43 x.bias secondLanes (k0_pay25 x.keys) (k0_pay40 secondLanes (x.queries 2)) (x.queries 2) k0_pay41 (x.queries 3) (x.queries 3) (ix2 (stack g r) b) = x.score 1 g r b := fun b => scores_at x 1 g r b
    simp only [Loads.sinkRows, Loads.probs]
    unfold Loads.probs1
    have f : ∀ b, k0_pay45 x.bias secondLanes x.sinkRows1 (k0_pay25 x.keys) (k0_pay40 secondLanes (x.queries 2)) (x.queries 2) k0_pay41 (x.queries 3) (x.queries 3) (ix2 (stack g r) b) = Ideal.exp (x.score 1 g r b - x.tops 1 (ix2 (stack g r) 0)) := by
      intro b
      pointwise [k0_pay45, e]
      rfl
    have t : k0_pay44 x.bias secondLanes x.sinkRows1 (k0_pay25 x.keys) (k0_pay40 secondLanes (x.queries 2)) (x.queries 2) k0_pay41 (x.queries 3) (x.queries 3) (ix2 (stack g r) 0) = x.tops 1 (ix2 (stack g r) 0) := rfl
    pointwise [k0_pay48, k0_pay47, k0_pay46, f, t]

/-- The tile of two heads is the products of both, each in its own lanes. -/
theorem tile_at (q p : Fin 2) : x.tile ⟨2 * h.val + q.val, by omega⟩ (ix2 r (lane p d)) = ∑ b, x.probs h (ix2 (stack ⟨2 * q.val + p.val, by omega⟩ r) b) * x.values (ix2 b (lane h d)) := by
  unfold stack lane
  fin_cases h <;> fin_cases q <;> fin_cases p
  all_goals
    simp only [Loads.tile, Loads.probs]
    pointwise [k0_pay38, k0_pay39, k0_pay53, k0_pay54, k0_pay37, k0_pay52, firstValues_at, secondValues_at]
  all_goals
    simp only [show (d.val + 128 - 64) % 128 = 64 + d.val by omega, show (64 + d.val + 128 - 64) % 128 = d.val by omega, if_neg (show ¬ 64 + d.val < 64 by omega), if_pos d.isLt,
      Scalar.select, if_true, mul_zero, Finset.sum_const_zero, zero_add, add_zero]
    simp

end Cert.Kernel7Ideal.Gen

end
-- ==== Proof.FwdMixRef.lean ====
/- The array that the forward attention's reference returns, at an index: the probabilities of the window's places on the window's values. -/
module

public import proofs.«01_k».proof.Proof.Gen.Reference7Ideal.Read
public import proofs.«01_k».proof.Proof.MixRef

@[expose] public section

noncomputable section

namespace Cert.Proof

open Idealize.ShloMosaic

section
variable (x : Proj) (s : Sinks) (n r : Fin 128) (h : Fin 2) (g : Fin 4) (d : Fin 64)

/-- A head's result: the values of the window, each with its probability. -/
def attended : EReal := ∑ b : Fin 256, winValue x n h b d * prob x s n h g r b.castSucc

/-- The column of a head's lane among the mixed columns. -/
def mixedCol (h : Fin 2) (g : Fin 4) (d : Fin 64) : Fin 1024 := ⟨h.val * 256 + g.val * 64 + d.val, by omega⟩

end

namespace FwdMixRef

open Cert.Reference7Ideal.Read Cert.Reference7Ideal

variable (x : Proj) (s : Sinks) (n r : Fin 128) (h : Fin 2) (g : Fin 4) (d : Fin 64) (b : Fin 256) (j : Fin 257)

theorem query_at : val_main_v7 (F := Ideal) x (ix6 0 n r h g d) = query x n h g r d := by
  pointwise [val_main_v7, val_main_v1, val_main_v0]
  rfl

theorem key_at : val_main_v13 (F := Ideal) x (ix5 0 n b h d) = winKey x n h b d := by
  pointwise [val_main_v13, val_main_v12, val_main_v11, val_main_v10, val_main_v8, val_main_v3, val_main_v2, val_main_cst]
  unfold winKey inWindow keyCol
  rfl

theorem value_at : val_main_v16 (F := Ideal) x (ix5 0 n b h d) = winValue x n h b d := by
  pointwise [val_main_v16, val_main_v15, val_main_v14, val_main_v10, val_main_v9, val_main_v5, val_main_v4, val_main_cst]
  unfold winValue inWindow valueCol
  rfl

theorem score_at : val_main_v20 (F := Ideal) x (ix6 0 n h g r b) = (∑ d, winKey x n h b d * query x n h g r d) * eighth := by
  pointwise [val_main_v20, val_main_v19, val_main_v18, val_main_v17, val_main_cst_0, key_at, query_at]
  rfl

theorem mask_at : val_main_call0_v1 (F := Ideal) (ix6 0 n h g r b) = if live n r b then 1#1 else 0#1 := by
  pointwise [val_main_call0_v1, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_c, val_main_c_1, val_main_c_2, val_main_c_3, val_main_c_4]
  exact mask_live n r b

theorem masked_at : val_main_v50 (F := Ideal) x (ix6 0 n h g r b) = if live n r b then (∑ d, winKey x n h b d * query x n h g r d) * eighth else ⊥ := by
  pointwise [val_main_v50, val_main_call0_v2, val_main_call0_v0, val_main_cst_5, score_at, mask_at]
  rw [show id (constant (F := Ideal) S_ FTy.f32 4286578688#32) ix0 = ⊥ from lit_bot]
  split_ifs <;> rfl

theorem logit_at : val_main_v54 (F := Ideal) x s (ix6 0 n h g r j) = logit x s n h g r j := by
  pointwise [val_main_v54, val_main_v53, val_main_v52, val_main_v51, val_main_v6, masked_at]
  rfl

theorem largest_at : val_main_v55 (F := Ideal) x s (ix5 0 n h g r) = (Finset.univ : Finset (Fin 257)).fold max ⊥ (logit x s n h g r) := by
  have e : val_main_cst_6 (F := Ideal) (Shape.Idx.first Gen.h_S_) = ⊥ := by
    unfold val_main_cst_6
    exact lit_bot
  unfold val_main_v55
  rw [max_last6, e]
  exact Finset.fold_congr fun j _ => logit_at x s n r h g j

theorem top_at : val_main_v57 (F := Ideal) x s (ix5 0 n h g r) = top x s n h g r := by
  have e : val_main_v56 (F := Ideal) (ix5 0 n h g r) = ⊥ := by
    pointwise [val_main_v56, val_main_cst_7]
    exact lit_bot
  unfold val_main_v57
  rw [larger_at, e, largest_at, top_def]

theorem weight_at : val_main_v61 (F := Ideal) x s (ix6 0 n h g r j) = weight x s n h g r j := by
  pointwise [val_main_v61, val_main_v60, val_main_v59, val_main_v58, top_at, logit_at]
  rfl

theorem total_at : val_main_v64 (F := Ideal) x s (ix6 0 n h g r j) = total x s n h g r := by
  have k : val_main_v62 (F := Ideal) x s (ix5 0 n h g r) = total x s n h g r := by
    refine (sum_last6 _ _ _ 0 n h g r).trans ?_
    rw [show val_main_cst_8 (F := Ideal) (Shape.Idx.first Gen.h_S_) = 0 from Ideal.ofBits_zero_f32, zero_add]
    exact Finset.sum_congr rfl fun j _ => weight_at x s n r h g j
  pointwise [val_main_v64, val_main_v63, k]

theorem prob_at : val_main_v66 (F := Ideal) x s (ix6 0 n h g r b) = prob x s n h g r b.castSucc := by
  pointwise [val_main_v66, val_main_v65, weight_at, total_at]
  rfl

theorem attended_at : val_main_v68 (F := Ideal) x s (ix6 0 n r h g d) = attended x s n r h g d := by
  pointwise [val_main_v68, val_main_v67, value_at, prob_at]
  rfl

/-- The reference's result in the attention's columns. -/
theorem result_at : val_main_v73 (F := Ideal) x s (ix2 (pos n r) (mixedCol h g d)) = attended x s n r h g d := by
  have e : val_main_v70 (F := Ideal) x s (ix2 (pos n r) ⟨h.val * 256 + g.val * 64 + d.val, by omega⟩) = attended x s n r h g d := by
    unfold pos
    pointwise [val_main_v70, val_main_v69, attended_at]
  unfold mixedCol
  pointwise [val_main_v73, val_main_v72]
  rw [dif_pos (by omega)]
  exact e

end FwdMixRef

end Cert.Proof
-- ==== Proof.FwdMixChunk.lean ====
/- The attention part of one chunk of the forward call is the attention, given that the chunk loads what the attention is of. -/
module

public import proofs.«01_k».proof.Proof.FwdMixLanes
public import proofs.«01_k».proof.Proof.FwdMixRef

@[expose] public section

noncomputable section

namespace Cert.Kernel7Ideal.Gen

open Cert.Proof Idealize.ShloMosaic
open Cert.Kernel2Ideal.Gen (lane stack)

/-- What chunk `n` reads: its rows and those before, its queries, the sinks, and where its rows look. -/
structure Reads (L : Loads Ideal) (x : Proj) (s : Cert.Proof.Sinks) (n : Fin 128) : Prop where
  cur : ∀ (r : Fin 128) (l : Fin 256), L.cur (ix2 r l) = x (ix2 (pos n r) ⟨512 + l.val, by omega⟩)
  prev : ∀ (_ : 0 < n.val) (r : Fin 128) (l : Fin 256), L.prev (ix2 r l) = x (ix2 ⟨(n.val - 1) * 128 + r.val, by omega⟩ ⟨512 + l.val, by omega⟩)
  queries : ∀ (k : Fin 4) (r l : Fin 128), L.queries k (ix2 r l) = x (ix2 (pos n r) ⟨128 * k.val + l.val, by omega⟩)
  sinks : ∀ k : Fin 8, L.sinks k = s (ix2 0 k)
  bias : ∀ (g : Fin 4) (r : Fin 128) (b : Fin 256), L.bias (ix2 (stack g r) b) = if live n r b then 0 else ⊥

section
variable {L : Loads Ideal} {x : Proj} {s : Cert.Proof.Sinks} {n : Fin 128} (R : Reads L x s n)
  (hx : ∀ i, x i ≠ ⊤ ∧ x i ≠ ⊥) (hs : ∀ i, s i ≠ ⊤ ∧ s i ≠ ⊥)
  (h : Fin 2) (g : Fin 4) (r : Fin 128) (b : Fin 256) (d : Fin 64)

/-- A column of a window. -/
def Loads.window (L : Loads Ideal) (b : Fin 256) (l : Fin 256) : EReal :=
  if hb : b.val < 128 then L.prev (ix2 ⟨b.val, hb⟩ l) else L.cur (ix2 ⟨b.val - 128, by omega⟩ l)

include R

theorem window_at (hb : 0 < n.val ∨ 128 ≤ b.val) (l : Fin 256) : L.window b l = inWindow x n b ⟨512 + l.val, by omega⟩ := by
  unfold Loads.window inWindow
  by_cases q : b.val < 128
  · have hn : 0 < n.val := by omega
    rw [dif_pos q, if_pos q, if_neg (by omega), R.prev hn]
  · rw [dif_neg q, if_neg q, R.cur]
    rfl

theorem keys_window (hb : 0 < n.val ∨ 128 ≤ b.val) : L.keys (ix2 b (lane h d)) = winKey x n h b d := by
  have e : L.keys (ix2 b (lane h d)) = L.window b ⟨(lane h d).val, by omega⟩ := by
    rw [keys_at]; rfl
  rw [e, window_at R b hb]
  unfold winKey
  exact congrArg (inWindow x n b) (Fin.ext (by simp only [lane, keyCol]; omega))

theorem values_window (hb : 0 < n.val ∨ 128 ≤ b.val) : L.values (ix2 b (lane h d)) = winValue x n h b d := by
  have e : L.values (ix2 b (lane h d)) = L.window b ⟨128 + (lane h d).val, by omega⟩ := by
    rw [values_at]; rfl
  rw [e, window_at R b hb]
  unfold winValue
  exact congrArg (inWindow x n b) (Fin.ext (by simp only [lane, valueCol]; omega))

theorem headQuery_eq : L.headQuery h g r d = query x n h g r d := by
  unfold Loads.headQuery query
  rw [R.queries]
  exact congrArg x (congrArg (ix2 (pos n r)) (Fin.ext (by simp only [lane, queryCol]; omega)))

theorem sink_eq : L.sinks ⟨4 * h.val + g.val, by omega⟩ = logit x s n h g r (Fin.last 256) := by
  unfold logit
  rw [dif_neg (by simp), R.sinks]
  exact congrArg s (congrArg (ix2 0) (Fin.ext (by dsimp only; omega)))

theorem score_eq : L.score h g r b = logit x s n h g r b.castSucc := by
  unfold Loads.score logit
  rw [dif_pos (show b.castSucc.val < 256 from b.isLt), R.bias]
  by_cases hb : live n r b
  · rw [if_pos hb, if_pos (show live n r ⟨b.castSucc.val, b.isLt⟩ from hb), add_zero]
    refine congrArg (· * eighth) (Finset.sum_congr rfl fun d _ => ?_)
    rw [headQuery_eq R, keys_window R h b d hb.2, mul_comm]
    rfl
  · rw [if_neg hb, if_neg (show ¬ live n r ⟨b.castSucc.val, b.isLt⟩ from hb), EReal.add_bot]

theorem top_eq : L.top h g r = top x s n h g r := by
  have u : (Finset.univ : Finset (Fin 257)).fold max ⊥ (logit x s n h g r)
      = max (logit x s n h g r (Fin.last 256)) ((Finset.univ : Finset (Fin 256)).fold max ⊥ fun b => logit x s n h g r b.castSucc) := by
    rw [Fin.univ_castSuccEmb 256, Finset.fold_cons, Finset.fold_map]
    rfl
  unfold Loads.top top
  rw [u, sink_eq R h g r, max_eq_right bot_le, max_comm]
  exact congrArg (max (logit x s n h g r (Fin.last 256))) (Finset.fold_congr (op := max) fun b _ => score_eq R h g r b)

theorem weight_eq : L.weight h g r b = weight x s n h g r b.castSucc := by
  unfold Loads.weight weight
  rw [score_eq R, top_eq R]

theorem sinkWeight_eq : L.sinkWeight h g r = weight x s n h g r (Fin.last 256) := by
  unfold Loads.sinkWeight weight
  rw [sink_eq R h g r, top_eq R]

include hx hs

theorem probs_eq : L.probs h (ix2 (stack g r) b) = prob x s n h g r b.castSucc := by
  obtain ⟨e, he, hp⟩ := weight_real hx hs n h g r
  have ht : (∑ b, L.weight h g r b) + L.sinkWeight h g r = ((∑ j, e j : ℝ) : EReal) := by
    rw [sinkWeight_eq R, ← coe_sum, Fin.sum_univ_castSucc (fun j => ((e j : ℝ) : EReal)), he]
    exact congrArg (· + ((e (Fin.last 256) : ℝ) : EReal)) (Finset.sum_congr rfl fun b _ => (weight_eq R h g r b).trans (he _))
  rw [probs_at, ht, weight_eq R]
  unfold prob total
  simp only [he, coe_sum]
  rw [Ideal.div_coe hp.ne', Ideal.div_coe hp.ne', one_mul]

theorem tile_eq (q p : Fin 2) : L.tile ⟨2 * h.val + q.val, by omega⟩ (ix2 r (lane p d)) = attended x s n r h ⟨2 * q.val + p.val, by omega⟩ d := by
  rw [tile_at]
  unfold attended
  refine Finset.sum_congr rfl fun b _ => ?_
  rw [probs_eq R hx hs]
  by_cases hb : 0 < n.val ∨ 128 ≤ b.val
  · rw [values_window R _ _ _ hb, mul_comm]
  · rw [prob_dead hx hs n h _ r b fun q => hb q.2, zero_mul, mul_zero]

end

end Cert.Kernel7Ideal.Gen

end
-- ==== Proof.FwdMixBlocks.lean ====
/- What a chunk of the forward call reads, at an index, as functions of the projection and the sinks. -/
module

public import proofs.«01_k».proof.Proof.FwdMixChunk
public import Idealize.ShloMosaic.Lib.Pipeline.ValueKit.Tiles
public import Idealize.ShloMosaic.Lib.StableHlo.ReadAt

@[expose] public section

noncomputable section

namespace Cert.Kernel7Ideal.Gen

open Cert.Kernel7Ideal Cert.Proof Idealize.ShloMosaic Idealize.ShloMosaic.TcCoe Idealize.SL.Sem

variable (m : (ℓ : Loc nD τ sig) → Buf (Elt Ideal) ℓ) (c : Dev nD) (t : Fin cfg0.N)

/-- The projection. -/
abbrev projOf : Proj := m ((c : Thread nD τ).loc main_arg0)

/-- The sinks. -/
abbrev sinksOf : Cert.Proof.Sinks := m ((c : Thread nD τ).loc main_arg1)

theorem V_sinks (k : Fin 8) : V m c main_v82 (ix1 k) = sinksOf m c (ix2 0 k) := by
  unfold V; after_reads_at

theorem step_lt : t.val < 32 := lt_of_lt_of_eq t.isLt (show cfg0.N = 32 from N_0)

/-- The chunk that is chunk `j` of step `t`. -/
def chunk (j : Fin 4) : Fin 128 := ⟨4 * t.val + j.val, by have := step_lt t; omega⟩

theorem idx0 : ∀ t : Fin cfg0.N, win0_0.index t 0 = 0 :=
  (by decide +kernel : ∀ t : Fin grid0.N, win0_0.index t 0 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 4 * t.val - 1 ∧ win0_2.index t 1 = 2 :=
  (by decide +kernel : ∀ t : Fin grid0.N, win0_2.index t 0 = 4 * t.val - 1 ∧ win0_2.index t 1 = 2)
theorem idx9 : ∀ t : Fin cfg0.N, win0_9.index t 0 = t.val ∧ win0_9.index t 1 = 0 :=
  (by decide +kernel : ∀ t : Fin grid0.N, win0_9.index t 0 = t.val ∧ win0_9.index t 1 = 0)
theorem coord0 : ∀ t : Fin cfg0.N, (grid0.coords t 0).val = t.val :=
  (by decide +kernel : ∀ t : Fin grid0.N, (grid0.coords t 0).val = t.val)

theorem read0 (X : Vec Ideal S8 .f32) (k : Fin 8) : (((cfg0.win 0).blk t).view.read (Elt Ideal) X : Vec Ideal S8 .f32) (ix1 k) = X (ix1 k) := by
  rw [View.read_apply]
  show X _ = X _
  congr 1
  funext a
  apply Fin.ext
  match a with
  | ⟨0, _⟩ => show win0_0.index t 0 * 8 + 1 * k.val = k.val; rw [idx0 t]; omega

theorem blk_sinks (k : Fin 8) : (iblk m c 0 t : Vec Ideal S8 .f32) (ix1 k) = sinksOf m c (ix2 0 k) :=
  (read0 t (V m c main_v82) k).trans (V_sinks m c k)

theorem read1 (X : Vec Ideal S16384x2816 .f32) (r : Fin 512) (k : Fin 2816) :
    (((cfg0.win 1).blk t).view.read (Elt Ideal) X : Vec Ideal S512x2816 .f32) (ix2 r k) = X (ix2 ⟨t.val * 512 + r.val, by have := step_lt t; omega⟩ k) := by
  rw [View.read_apply]
  show X _ = X _
  congr 1
  funext a
  apply Fin.ext
  match a with
  | ⟨0, _⟩ => show win0_1.index t 0 * 512 + 1 * r.val = t.val * 512 + r.val; rw [(idx1 t).1]; omega
  | ⟨1, _⟩ => show win0_1.index t 1 * 2816 + 1 * k.val = k.val; rw [(idx1 t).2]; omega

theorem blk_proj (r : Fin 512) (k : Fin 2816) :
    (iblk m c 1 t : Vec Ideal S512x2816 .f32) (ix2 r k) = projOf m c (ix2 ⟨t.val * 512 + r.val, by have := step_lt t; omega⟩ k) :=
  (read1 t (V m c main_arg0) r k).trans (congrFun (V_main_arg0 m c) _)

theorem read2 (X : Vec Ideal S16384x2816 .f32) (r : Fin 128) (k : Fin 256) :
    (((cfg0.win 2).blk t).view.read (Elt Ideal) X : Vec Ideal S128x256 .f32) (ix2 r k) = X (ix2 ⟨(4 * t.val - 1) * 128 + r.val, by have := step_lt t; omega⟩ ⟨512 + k.val, by omega⟩) := by
  rw [View.read_apply]
  show X _ = X _
  congr 1
  funext a
  apply Fin.ext
  match a with
  | ⟨0, _⟩ => show win0_2.index t 0 * 128 + 1 * r.val = (4 * t.val - 1) * 128 + r.val; rw [(idx2 t).1]; omega
  | ⟨1, _⟩ => show win0_2.index t 1 * 256 + 1 * k.val = 512 + k.val; rw [(idx2 t).2]; omega

theorem blk_before (r : Fin 128) (k : Fin 256) :
    (iblk m c 2 t : Vec Ideal S128x256 .f32) (ix2 r k) = projOf m c (ix2 ⟨(4 * t.val - 1) * 128 + r.val, by have := step_lt t; omega⟩ ⟨512 + k.val, by omega⟩) :=
  (read2 t (V m c main_arg0) r k).trans (congrFun (V_main_arg0 m c) _)

/-- A load from a block. -/
theorem load_at {sp : Space} {S : Shape} {e : EltTy} {M : Memref sig .tc sp S e} (h : M.IsWhole) (X : S.Idx → Elt Ideal e) (off size : Fin S.rank → Nat)
    (inb : ∀ a, off a + size a ≤ S.size a) (x : (Rect.unit off size inb).shape.Idx) (i : S.Idx) (hi : ∀ a, (i a : Nat) = off a + x a) :
    View.readAt (Elt Ideal) M.view (Rect.unit off size inb).toLoadRect (h.unread X) x = X i :=
  (congrFun (congrArg (fun Y => View.ld Y (Rect.unit off size inb)) (h.read_unread X)) x).trans (View.ld_unit_apply_of X off size inb x i hi)

theorem loads_cur (j : Fin 4) (r : Fin 128) (l : Fin 256) : (loads m c t j).cur (ix2 r l) = (iblk m c 1 t : Vec Ideal S512x2816 .f32) (ix2 ⟨128 * j.val + r.val, by omega⟩ ⟨512 + l.val, by omega⟩) :=
  load_at (hs0_1 t) (iblk m c 1 t : Vec Ideal S512x2816 .f32) _ _ _ (ix2 r l) (ix2 ⟨128 * j.val + r.val, by omega⟩ ⟨512 + l.val, by omega⟩) fun a => match a with | ⟨0, _⟩ => rfl | ⟨1, _⟩ => rfl

theorem loads_queries (j k : Fin 4) (r l : Fin 128) : (loads m c t j).queries k (ix2 r l) = (iblk m c 1 t : Vec Ideal S512x2816 .f32) (ix2 ⟨128 * j.val + r.val, by omega⟩ ⟨128 * k.val + l.val, by omega⟩) :=
  load_at (hs0_1 t) (iblk m c 1 t : Vec Ideal S512x2816 .f32) _ _ _ (ix2 r l) (ix2 ⟨128 * j.val + r.val, by omega⟩ ⟨128 * k.val + l.val, by omega⟩) fun a => match a with | ⟨0, _⟩ => rfl | ⟨1, _⟩ => rfl

theorem loads_prev_0 (r : Fin 128) (l : Fin 256) : (loads m c t 0).prev (ix2 r l) = (iblk m c 2 t : Vec Ideal S128x256 .f32) (ix2 r l) :=
  load_at (hs0_2 t) (iblk m c 2 t : Vec Ideal S128x256 .f32) _ _ _ (ix2 r l) (ix2 r l) fun a => match a with | ⟨0, _⟩ => (Nat.zero_add _).symm | ⟨1, _⟩ => (Nat.zero_add _).symm

theorem loads_prev_1 (r : Fin 128) (l : Fin 256) : (loads m c t 1).prev (ix2 r l) = (iblk m c 1 t : Vec Ideal S512x2816 .f32) (ix2 ⟨0 + r.val, by omega⟩ ⟨512 + l.val, by omega⟩) :=
  load_at (hs0_1 t) (iblk m c 1 t : Vec Ideal S512x2816 .f32) _ _ _ (ix2 r l) (ix2 ⟨0 + r.val, by omega⟩ ⟨512 + l.val, by omega⟩) fun a => match a with | ⟨0, _⟩ => rfl | ⟨1, _⟩ => rfl

theorem loads_prev_2 (r : Fin 128) (l : Fin 256) : (loads m c t 2).prev (ix2 r l) = (iblk m c 1 t : Vec Ideal S512x2816 .f32) (ix2 ⟨128 + r.val, by omega⟩ ⟨512 + l.val, by omega⟩) :=
  load_at (hs0_1 t) (iblk m c 1 t : Vec Ideal S512x2816 .f32) _ _ _ (ix2 r l) (ix2 ⟨128 + r.val, by omega⟩ ⟨512 + l.val, by omega⟩) fun a => match a with | ⟨0, _⟩ => rfl | ⟨1, _⟩ => rfl

theorem loads_prev_3 (r : Fin 128) (l : Fin 256) : (loads m c t 3).prev (ix2 r l) = (iblk m c 1 t : Vec Ideal S512x2816 .f32) (ix2 ⟨256 + r.val, by omega⟩ ⟨512 + l.val, by omega⟩) :=
  load_at (hs0_1 t) (iblk m c 1 t : Vec Ideal S512x2816 .f32) _ _ _ (ix2 r l) (ix2 ⟨256 + r.val, by omega⟩ ⟨512 + l.val, by omega⟩) fun a => match a with | ⟨0, _⟩ => rfl | ⟨1, _⟩ => rfl

theorem loads_sinks (j : Fin 4) (k : Fin 8) : (loads m c t j).sinks k = (iblk m c 0 t : Vec Ideal S8 .f32) (ix1 k) :=
  load_at (hs0_0 t) (iblk m c 0 t : Vec Ideal S8 .f32) _ _ _ (Shape.Idx.first (numel1_S1.symm ▸ Nat.one_pos)) (ix1 k) fun a => match a with | ⟨0, _⟩ => rfl

/-- A chunk reads what the attention is of. -/
theorem loads_reads (j : Fin 4) : Reads (loads m c t j) (projOf m c) (sinksOf m c) (chunk t j) where
  cur r l := by
    rw [loads_cur, blk_proj]
    exact congrArg (projOf m c) (congrArg (ix2 · _) (Fin.ext (by simp only [pos, chunk]; omega)))
  prev hn r l := by
    have hn' : 0 < 4 * t.val + j.val := hn
    match j with
    | 0 =>
      rw [loads_prev_0, blk_before]
      exact congrArg (projOf m c) (congrArg (ix2 · _) (Fin.ext (by simp only [chunk]; rfl)))
    | 1 =>
      rw [loads_prev_1, blk_proj]
      exact congrArg (projOf m c) (congrArg (ix2 · _) (Fin.ext (by simp only [chunk, Fin.val_one]; omega)))
    | 2 =>
      rw [loads_prev_2, blk_proj]
      exact congrArg (projOf m c) (congrArg (ix2 · _) (Fin.ext (by simp only [chunk, Fin.val_two]; omega)))
    | 3 =>
      rw [loads_prev_3, blk_proj]
      exact congrArg (projOf m c) (congrArg (ix2 · _) (Fin.ext (by simp only [chunk, show (3 : Fin 4).val = 3 from rfl]; omega)))
  queries k r l := by
    rw [loads_queries, blk_proj]
    exact congrArg (projOf m c) (congrArg (ix2 · _) (Fin.ext (by simp only [pos, chunk]; omega)))
  sinks k := by rw [loads_sinks, blk_sinks]
  bias g r b := by
    have later : ∀ j : Fin 4, 0 < j.val → (loads m c t j).bias = biasAny → (loads m c t j).bias (ix2 (Cert.Kernel2Ideal.Gen.stack g r) b) = if live (chunk t j) r b then 0 else ⊥ := by
      intro j hj e
      rw [e, biasAny_at]
      refine if_congr ?_ rfl rfl
      unfold live
      have : 0 < (chunk t j).val := by simp only [chunk]; omega
      tauto
    match j with
    | 0 =>
      have e : (loads m c t 0).bias = biasFirst (BitVec.ofNat 32 (grid0.coords t 0).val) := rfl
      rw [e, biasFirst_at, coord0]
      refine if_congr ?_ rfl rfl
      unfold live
      have z : ∀ k : Fin 32, BitVec.ofNat 32 k.val ≠ 0#32 ↔ 0 < 4 * k.val + 0 := by decide +kernel
      have := z ⟨t.val, step_lt t⟩
      exact and_congr Iff.rfl (or_congr this Iff.rfl)
    | 1 => exact later 1 (by decide) rfl
    | 2 => exact later 2 (by decide) rfl
    | 3 => exact later 3 (by decide) rfl

end Cert.Kernel7Ideal.Gen

end
-- ==== Proof.FwdMixValue.lean ====
/- The mixed rows after the forward call, in the attention's columns. -/
module

public import proofs.«01_k».proof.Proof.FwdMixBlocks
public import Idealize.ShloMosaic.Lib.Pipeline.Value

@[expose] public section

noncomputable section

namespace Cert.Kernel7Ideal.Gen

open Cert.Kernel7Ideal Cert.Proof Idealize.ShloMosaic Idealize.ShloMosaic.TcCoe Idealize.SL.Sem
open Cert.Kernel2Ideal.Gen (lane)

variable (m : (ℓ : Loc nD τ sig) → Buf (Elt Ideal) ℓ) (c : Dev nD)

/-- A step's block, at an index. -/
theorem block_at (t : Fin cfg0.N) (j k : Fin 4) (r l : Fin 128) :
    (outsAt0 m c t.val t.isLt).1 (ix2 ⟨128 * j.val + r.val, by omega⟩ ⟨128 * k.val + l.val, by omega⟩) = (loads m c t j).tile k (ix2 r l) := by
  refine Eq.trans ?_ (block_tile m c t j k (ix2 r l))
  refine congrArg (outsAt0 m c t.val t.isLt).1 (funext fun a => Fin.ext ?_)
  match a with
  | ⟨0, _⟩ => show 128 * j.val + r.val = 128 * j.val + 1 * r.val; omega
  | ⟨1, _⟩ => show 128 * k.val + l.val = 128 * k.val + 1 * l.val; omega

/-- The step that writes a row. -/
def writer (r : ℕ) (hr : r < 16384) : Fin cfg0.N := ⟨r / 512, by rw [show cfg0.N = 32 from N_0]; omega⟩

/-- The mixed rows after the run. -/
def mixOut (i : S16384x1024.Idx) : EReal :=
  (outsAt0 m c (writer (i 0).val (i 0).isLt).val (writer (i 0).val (i 0).isLt).isLt).1 (ix2 (⟨(i 0).val % 512, Nat.mod_lt _ (by decide)⟩ : Fin 512) (⟨(i 1).val, (i 1).isLt⟩ : Fin 1024))

theorem outs_congr (t u : Fin cfg0.N) (r r' : Fin 512) (l l' : Fin 1024) (hu : u = t) (hr : r' = r) (hl : l' = l) :
    (outsAt0 m c u.val u.isLt).1 (ix2 r' l') = (outsAt0 m c t.val t.isLt).1 (ix2 r l) := by
  subst hu hr hl; rfl

theorem flushed9_eq (t : Fin cfg0.N) (hf : (cfg0.win 9).flush t = true) :
    (dats m 0 c).flushed 9 t = ((cfg0.win 9).blk t).view.read (Elt Ideal) (mixOut m c) := by
  have hN := step_lt t
  show (cfg0.win 9).cut (grid0.coords t) ((dats m 0 c).after 9 t) = _
  rw [after0_9]
  funext j
  rw [View.read_apply]
  obtain ⟨r, l, rfl⟩ : ∃ (r : Fin 512) (l : Fin 1024), j = ix2 r l := ⟨j 0, j 1, funext fun a => match a with | ⟨0, _⟩ => rfl | ⟨1, _⟩ => rfl⟩
  have hi : (View.emb ((cfg0.win 9).blk t).view (ix2 r l) : S16384x1024.Idx) = ix2 (⟨t.val * 512 + r.val, by omega⟩ : Fin 16384) l := by
    funext a
    apply Fin.ext
    match a with
    | ⟨0, _⟩ => show win0_9.index t 0 * 512 + 1 * r.val = t.val * 512 + r.val; rw [(idx9 t).1]; omega
    | ⟨1, _⟩ => show win0_9.index t 1 * 1024 + 1 * l.val = l.val; rw [(idx9 t).2]; omega
  refine Eq.trans ?_ (congrArg (mixOut m c) hi).symm
  refine (outs_congr m c t (writer (t.val * 512 + r.val) (by omega)) r ⟨(t.val * 512 + r.val) % 512, Nat.mod_lt _ (by decide)⟩ l l (Fin.ext ?_) (Fin.ext ?_) rfl).symm
  · show (t.val * 512 + r.val) / 512 = t.val
    omega
  · show (t.val * 512 + r.val) % 512 = r.val
    omega

theorem arr9 : (dats m 0 c).arrAt 9 cfg0.N = mixOut m c :=
  (dats m 0 c).arrAt_eq_of_cover 9 (mixOut m c) (flushed9_eq m c) fun i => by
    have h0 : (i 0 : Nat) < 16384 := (i 0).isLt
    have h1 : (i 1 : Nat) < 1024 := (i 1).isLt
    refine ⟨writer (i 0).val h0, flush0_9 _, ?_⟩
    show i ∈ ((View.whole main_v83_0).slice (win0_9.rect (writer (i 0).val h0))).set
    rw [View.set_slice_whole, Rect.mem_set_unit]
    have e : (writer (i 0).val h0).val = (i 0).val / 512 := rfl
    intro a
    match a with
    | ⟨0, _⟩ => show win0_9.index (writer (i 0).val h0) 0 * 512 ≤ (i 0 : Nat) ∧ (i 0 : Nat) < win0_9.index (writer (i 0).val h0) 0 * 512 + 512; rw [(idx9 _).1, e]; omega
    | ⟨1, _⟩ => show win0_9.index (writer (i 0).val h0) 1 * 1024 ≤ (i 1 : Nat) ∧ (i 1 : Nat) < win0_9.index (writer (i 0).val h0) 1 * 1024 + 1024; rw [(idx9 _).2]; omega

variable (hx : ∀ i, projOf m c i ≠ ⊤ ∧ projOf m c i ≠ ⊥) (hs : ∀ i, sinksOf m c i ≠ ⊤ ∧ sinksOf m c i ≠ ⊥)

include hx hs in
/-- The mixed rows after the run, in the attention's columns. -/
theorem mix_at (n r : Fin 128) (h : Fin 2) (g : Fin 4) (d : Fin 64) :
    (dats m 0 c).arrAt 9 cfg0.N (ix2 (pos n r) (mixedCol h g d)) = attended (projOf m c) (sinksOf m c) n r h g d := by
  have hN : cfg0.N = 32 := N_0
  let t : Fin cfg0.N := ⟨n.val / 4, by omega⟩
  let j : Fin 4 := ⟨n.val % 4, by omega⟩
  let q : Fin 2 := ⟨g.val / 2, by omega⟩
  let p : Fin 2 := ⟨g.val % 2, by omega⟩
  have hn : chunk t j = n := Fin.ext (show 4 * (n.val / 4) + n.val % 4 = n.val by omega)
  have hg : (⟨2 * q.val + p.val, by omega⟩ : Fin 4) = g := Fin.ext (show 2 * (g.val / 2) + g.val % 2 = g.val by omega)
  rw [arr9]
  have e := (block_at m c t j ⟨2 * h.val + q.val, by omega⟩ r (lane p d)).trans (tile_eq (loads_reads m c t j) hx hs h r d q p)
  rw [hn, hg] at e
  refine Eq.trans ?_ e
  refine outs_congr m c t _ _ _ _ _ (Fin.ext ?_) (Fin.ext ?_) (Fin.ext ?_)
  · show (n.val * 128 + r.val) / 512 = n.val / 4
    omega
  · show (n.val * 128 + r.val) % 512 = 128 * (n.val % 4) + r.val
    omega
  · show h.val * 256 + g.val * 64 + d.val = 128 * (2 * h.val + g.val / 2) + (64 * (g.val % 2) + d.val)
    omega

end Cert.Kernel7Ideal.Gen

end
-- ==== Proof.FwdMixClaim.lean ====
/- The mixer's forward: in the attention's columns the kernel and the reference compute the same mixed rows. -/
module

public import proofs.«01_k».proof.Defs
public import proofs.«01_k».proof.Proof.FwdMixValue
public import proofs.«01_k».proof.Proof.FwdMixRef
public import proofs.«01_k».proof.Proof.Finite
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.On_attention_half
public import proofs.«01_k».proof.Proof.Gen.Pre_finite_fwd

@[expose] public section

noncomputable section

namespace Cert.Proof

open Idealize.ShloMosaic Idealize.SL.Sem Idealize.ShloMosaic.StableHlo

/-- The projection and the sinks hold reals where the precondition holds. -/
theorem fwd_real (x : FVec Ideal Cert.Pre_finite_fwd.S16384x2816 .f32) (s : FVec Ideal Cert.Pre_finite_fwd.S1x8 .f32)
    (h : Cert.Pre_finite_fwd.fn (F := Ideal) x s = fun _ => 1#1) : (∀ i, x i ≠ ⊤ ∧ x i ≠ ⊥) ∧ ∀ i, s i ≠ ⊤ ∧ s i ≠ ⊥ := by
  have e := congrFun h ix0
  dsimp only [Cert.Pre_finite_fwd.fn] at e
  obtain ⟨hx, hs⟩ := IntOp.andi_eq_one.mp e
  haveI : Subsingleton Cert.Pre_finite_fwd.S_.Idx := ⟨fun a b => funext fun k => k.elim0⟩
  exact ⟨real_of_all _ _ _ _ _ _ hx, real_of_all _ _ _ _ _ _ hs⟩

/-- The mask selects the first half of the columns only. -/
theorem half_column (x : FVec Ideal Cert.On_attention_half.S16384x2816 .f32) (s : FVec Ideal Cert.On_attention_half.S1x8 .f32)
    (r : Fin 16384) (l : Fin 1024) (h : Cert.On_attention_half.fn (F := Ideal) x s (ix2 r l) = 1#1) : l.val < 512 := by
  have e : IntOp.cmpi .slt (BitVec.ofNat 32 l.val) 512#32 = 1#1 := h
  by_contra hl
  have : ∀ l : Fin 1024, ¬l.val < 512 → IntOp.cmpi .slt (BitVec.ofNat 32 l.val) 512#32 ≠ 1#1 := by decide +kernel
  exact this l hl e

/-- A row and a column of the attention's half, by chunk, head and lane. -/
theorem half_cases (r : Fin 16384) (l : Fin 1024) (hl : l.val < 512) :
    ∃ (n k : Fin 128) (h : Fin 2) (g : Fin 4) (d : Fin 64), r = pos n k ∧ l = mixedCol h g d := by
  refine ⟨⟨r.val / 128, by omega⟩, ⟨r.val % 128, by omega⟩, ⟨l.val / 256, by omega⟩, ⟨l.val / 64 % 4, by omega⟩, ⟨l.val % 64, by omega⟩, Fin.ext ?_, Fin.ext ?_⟩
  · show r.val = r.val / 128 * 128 + r.val % 128
    omega
  · show l.val = l.val / 256 * 256 + l.val / 64 % 4 * 64 + l.val % 64
    omega

/-- The forward mixer's reference ends and leaves its arguments as they were. It has no semaphore. -/
theorem mixer_forward_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The literal the kernel masks with stands for minus infinity. -/
theorem mask_named : Cert.preserves_Kernel7_Kernel7Ideal :=
  IdealRules.named_const.statement Cert.Kernel7Ideal.κ "mask" .f32 0xF149F2CA#32 ⊥ rfl

/-- The two programs of the mixer's forward compute the same mixed rows where the mask is set. -/
theorem mixer_forward : Cert.algebraic_Kernel7Ideal_Reference7Ideal_on_attention_half_pre_finite_fwd := by
  intro m g m' g' hpre hargs
  refine ⟨fun c => (Cert.Kernel7Ideal.Gen.dats m 0 c).arrAt 9 Cert.Kernel7Ideal.cfg0.N,
    (θ_run _ _ _).mono (fun r h c => ⟨fun i _ => congrFun ((h.1 c).1 9) i, h.2.1 c⟩)
      (θ_run_and (Cert.Kernel7Ideal.Gen.run_main m g) (Cert.Kernel7Ideal.Gen.frame m g)),
    (θ_run _ _ _).mono (fun _ h c => ?_) (Cert.Reference7Ideal.Value.run m' g')⟩
  obtain ⟨h0, hrest⟩ := h c
  obtain ⟨a0, a1⟩ := hargs c
  obtain ⟨hx, hs⟩ := fwd_real _ _ (hpre c)
  refine ⟨fun i hi => ?_, hrest⟩
  obtain ⟨r, l, rfl⟩ : ∃ (r : Fin 16384) (l : Fin 1024), i = ix2 r l := ⟨i 0, i 1, funext fun a => match a with | ⟨0, _⟩ => rfl | ⟨1, _⟩ => rfl⟩
  obtain ⟨n, k, b, q, d, rfl, rfl⟩ := half_cases r l (half_column _ _ r l hi)
  refine (congrFun (h0.trans (Cert.Reference7Ideal.Read.val_main_v73_eq m' c)) (ix2 (pos n k) (mixedCol b q d))).trans ?_
  refine Eq.trans ?_ (Cert.Kernel7Ideal.Gen.mix_at m c hx hs n k b q d).symm
  refine Eq.trans ?_ (FwdMixRef.result_at _ _ n k b q d)
  exact congrFun (congrArg₂ (Cert.Reference7Ideal.Read.val_main_v73 (F := Ideal)) a0 a1) _

end Cert.Proof

end
-- ==== Proof.GradSum.lean ====
/- A product over all the rows, accumulated over blocks of rows. -/
module

public import Idealize.ShloMosaic.Lib.Pipeline.Value
public import Idealize.ShloMosaic.Lib.Pointwise

@[expose] public section

noncomputable section

namespace Cert.Proof

open Idealize.ShloMosaic

/-- A sum over equal pieces is the sum over all. -/
theorem sum_pieces (f : ℕ → EReal) (T : ℕ) : ∀ J : ℕ, ∑ s ∈ Finset.range J, ∑ k : Fin T, f (s * T + k.val) = ∑ k ∈ Finset.range (J * T), f k
  | 0 => by simp
  | J + 1 => by
    rw [Finset.sum_range_succ, sum_pieces f T J, Nat.succ_mul, Finset.sum_range_add, Finset.sum_range (fun k => f (J * T + k))]

/-- An accumulation that takes one piece at each step ends at the sum over all. -/
theorem fold_pieces {N : ℕ} {ι : Type} (a : (n : ℕ) → n < N → ι → EReal) (g : (n : ℕ) → n < N → (ι → EReal) → ι → EReal) (f : ι → ℕ → EReal) (T J b : ℕ)
    (ha : ∀ (h : b < N) (i : ι), a b h i = ∑ k : Fin T, f i k.val)
    (hg : ∀ (s : ℕ) (h : b + s < N) (acc : ι → EReal) (i : ι), s ≤ J → g (b + s) h acc i = acc i + ∑ k : Fin T, f i (s * T + k.val))
    (h : b + J < N) (i : ι) : Pipeline.accAt a g b J h i = ∑ k ∈ Finset.range ((J + 1) * T), f i k := by
  rw [Pipeline.accAt_add_apply a g (fun _ => 0) (fun n i => ∑ k : Fin T, f i ((n - b) * T + k.val)) b J ?_ ?_ J le_rfl h i, zero_add, ← sum_pieces (f i) T (J + 1)]
  · simp only [Nat.add_sub_cancel_left]
  · intro h i
    rw [ha, zero_add, Nat.sub_self]
    simp only [zero_mul, zero_add]
  · intro n h acc i hb hn
    obtain ⟨s, rfl⟩ := Nat.exists_eq_add_of_lt hb
    have e := hg (s + 1) h acc i (by omega)
    rw [show b + s + 1 - b = s + 1 by omega]
    exact e

/-- Row `n` of the rows. -/
def nthRow (n : ℕ) : Fin 16384 := ⟨n % 16384, Nat.mod_lt _ (by decide)⟩

/-- The sum over the rows, by number. -/
theorem sum_nthRow (f : Fin 16384 → EReal) : ∑ k ∈ Finset.range 16384, f (nthRow k) = ∑ k, f k := by
  rw [Finset.sum_range]
  exact Finset.sum_congr rfl fun k _ => congrArg f (Fin.ext (Nat.mod_eq_of_lt k.isLt))

end Cert.Proof

end
-- ==== Proof.GradUp.lean ====
/- The gradient of the first feed-forward weight, in column blocks: what the kernel leaves is the product over all the rows. -/
module

public import proofs.«01_k».proof.Proof.GradSum
public import proofs.«01_k».proof.Proof.Gen.Kernel8Ideal.Value

@[expose] public section

noncomputable section

namespace Cert.Kernel8Ideal.Gen

open Cert.Kernel8Ideal Cert.Kernel8Ideal.Value Cert.Proof Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A step -/

theorem start_at (i : S1x1024x1408.Idx) : k0_pay1 (F := Ideal) i = 0 := by
  pointwise [k0_pay1]

theorem step_at (acc : Vec Ideal S1x1024x1408 .f32) (x : Vec Ideal S2048x1024 .bf16) (y : Vec Ideal S2048x1408 .bf16) (r : Fin 1024) (l : Fin 1408) :
    k0_pay2 (F := Ideal) acc x y (ix3 0 r l) = acc (ix3 0 r l) + ∑ k : Fin 2048, x (ix2 k r) * y (ix2 k l) := by
  pointwise [k0_pay2]

theorem narrow_at (x : Vec Ideal S1x1024x1408 .f32) (r : Fin 1024) (l : Fin 1408) : k0_pay3 (F := Ideal) x (ix3 0 r l) = x (ix3 0 r l) := by
  pointwise [k0_pay3]

section Body

variable (c : Dev nD) (i : grid0.Coords) (arg2 : Memref sig .tc .vmem S2048x1024 .bf16) (harg2 : arg2.IsWhole) (arg3 : Memref sig .tc .vmem S2048x1408 .bf16) (harg3 : arg3.IsWhole)
  (arg4 : Memref sig .tc .vmem S1x1024x1408 .f32) (harg4 : arg4.IsWhole) (arg5 : Memref sig .tc .vmem S1x1024x1408 .bf16) (harg5 : arg5.IsWhole)
  (x : Vec Ideal S2048x1024 .bf16) (y : Vec Ideal S2048x1408 .bf16) (z : Vec Ideal S1x1024x1408 .f32)

/-- A block's first step starts from zero. -/
theorem first_out (hc0 : cond0_0 i) (hc1 : ¬cond0_1 i) :
    out0_A_2 c i arg2 harg2 arg3 harg3 arg4 harg4 arg5 harg5 hc0 hc1 x y = k0_pay2 (k0_pay1 (F := Ideal)) x y := by
  unfold out0_A_2
  rw [View.read_writes_eq_canon _ _ _ (cover0_A_2 c i arg2 harg2 arg3 harg3 arg4 harg4 arg5 harg5 hc0 hc1 x y)]
  unfold kernelRun0_A
  dsimp only
  try sl_unfold_words
  rw [View.canon_cons_unit_zero (S := S1x1024x1408) hz3, View.readCov_unit_zero (S := S1x1024x1408) _ hz3]
  simp only [View.readAt_eq_ld, harg2.read_unread, harg3.read_unread, harg4.read_unread, View.ld_unit_zero (S := S2048x1024) hz2, View.ld_unit_zero (S := S2048x1408) hz2, View.ld_unit_zero (S := S1x1024x1408) hz3, shapeCast_self]

/-- A later step adds to what the step before left. -/
theorem next_out (hc0 : ¬cond0_0 i) (hc1 : ¬cond0_1 i) :
    out0_B_2 c i arg2 harg2 arg3 harg3 arg4 harg4 arg5 harg5 hc0 hc1 x y z = k0_pay2 z x y := by
  unfold out0_B_2
  rw [View.read_writes_eq_canon _ _ _ (cover0_B_2 c i arg2 harg2 arg3 harg3 arg4 harg4 arg5 harg5 hc0 hc1 x y z)]
  unfold kernelRun0_B
  dsimp only
  try sl_unfold_words
  rw [View.canon_unit_zero hz3]
  simp only [View.readAt_eq_ld, harg2.read_unread, harg3.read_unread, harg4.read_unread, View.ld_unit_zero (S := S2048x1024) hz2, View.ld_unit_zero (S := S2048x1408) hz2, View.ld_unit_zero (S := S1x1024x1408) hz3, shapeCast_self]

/-- So does a block's last step, -/
theorem last_out (hc0 : ¬cond0_0 i) (hc1 : cond0_1 i) :
    out0_C_2 c i arg2 harg2 arg3 harg3 arg4 harg4 arg5 harg5 hc0 hc1 x y z = k0_pay2 z x y := by
  unfold out0_C_2
  rw [View.read_writes_eq_canon _ _ _ (cover0_C_2 c i arg2 harg2 arg3 harg3 arg4 harg4 arg5 harg5 hc0 hc1 x y z)]
  unfold kernelRun0_C
  dsimp only
  try sl_unfold_words
  rw [View.canon_unit_zero hz3]
  simp only [View.readAt_eq_ld, harg2.read_unread, harg3.read_unread, harg4.read_unread, View.ld_unit_zero (S := S2048x1024) hz2, View.ld_unit_zero (S := S2048x1408) hz2, View.ld_unit_zero (S := S1x1024x1408) hz3, shapeCast_self]

/-- which also leaves the sum in the narrower format. -/
theorem last_narrow (hc0 : ¬cond0_0 i) (hc1 : cond0_1 i) :
    out0_C_3 c i arg2 harg2 arg3 harg3 arg4 harg4 arg5 harg5 hc0 hc1 x y z = k0_pay3 (k0_pay2 z x y) := by
  unfold out0_C_3
  rw [View.read_writes_eq_canon _ _ _ (cover0_C_3 c i arg2 harg2 arg3 harg3 arg4 harg4 arg5 harg5 hc0 hc1 x y z)]
  unfold kernelRun0_C
  dsimp only
  try sl_unfold_words
  rw [View.canon_unit_zero hz3, View.readCov_unit_zero (S := S1x1024x1408) _ hz3]
  simp only [View.readAt_eq_ld, harg2.read_unread, harg3.read_unread, harg4.read_unread, View.ld_unit_zero (S := S2048x1024) hz2, View.ld_unit_zero (S := S2048x1408) hz2, View.ld_unit_zero (S := S1x1024x1408) hz3, shapeCast_self]

end Body

/-! ## The accumulation -/

variable (m : (ℓ : Loc nD τ sig) → Buf (Elt Ideal) ℓ) (c : Dev nD)

/-- The two arrays that are multiplied. -/
abbrev left : Vec Ideal S16384x1024 .bf16 := m ((c : Thread nD τ).loc main_arg0)
abbrev right : Vec Ideal S16384x5632 .bf16 := m ((c : Thread nD τ).loc main_arg1)

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Column `l` of block `j`. -/
def blockCol (j : Fin 4) (l : Fin 1408) : Fin 5632 := ⟨j.val * 1408 + l.val, by omega⟩

/-- The block that a point works on. -/
def blockOf (n : ℕ) (h : n < cfg0.N) : Fin 4 := ⟨n / 8, by have hN : n < 32 := lt_of_lt_of_eq h (show cfg0.N = 32 from N_0); omega⟩

theorem blk_left (t : Fin cfg0.N) (k : Fin 2048) (r : Fin 1024) :
    (iblk m c 0 t : Vec Ideal S2048x1024 .bf16) (ix2 k r) = left m c (ix2 (nthRow (t.val % 8 * 2048 + k.val)) r) := by
  rw [show left m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 2048 + 1 * k.val = (t.val % 8 * 2048 + k.val) % 16384; rw [(idx0 t).1]; omega
  | ⟨1, _⟩ => show win0_0.index t 1 * 1024 + 1 * r.val = r.val; rw [(idx0 t).2]; omega

theorem blk_right (t : Fin cfg0.N) (k : Fin 2048) (l : Fin 1408) :
    (iblk m c 1 t : Vec Ideal S2048x1408 .bf16) (ix2 k l) = right m c (ix2 (nthRow (t.val % 8 * 2048 + k.val)) (blockCol (blockOf t.val t.isLt) l)) := by
  rw [show right m c = V m c main_arg1 from (V_main_arg1 m c).symm]
  unfold iblk
  rw [View.read_apply]
  show V m c main_arg1 _ = V m c main_arg1 _
  congr 1
  funext a
  apply Fin.ext
  match a with
  | ⟨0, _⟩ => show win0_1.index t 0 * 2048 + 1 * k.val = (t.val % 8 * 2048 + k.val) % 16384; rw [(idx1 t).1]; omega
  | ⟨1, _⟩ => show win0_1.index t 1 * 1408 + 1 * l.val = t.val / 8 * 1408 + l.val; rw [(idx1 t).2]; omega

/-- The product of a row's two elements, for an element of block `j`. -/
def term (j : Fin 4) (r : Fin 1024) (l : Fin 1408) (n : ℕ) : EReal := left m c (ix2 (nthRow n) r) * right m c (ix2 (nthRow n) (blockCol j l))

theorem step_term (t : Fin cfg0.N) (acc : Vec Ideal S1x1024x1408 .f32) (r : Fin 1024) (l : Fin 1408) :
    k0_pay2 (F := Ideal) acc (iblk m c 0 t) (iblk m c 1 t) (ix3 0 r l)
      = acc (ix3 0 r l) + ∑ k : Fin 2048, term m c (blockOf t.val t.isLt) r l (t.val % 8 * 2048 + k.val) :=
  (step_at _ _ _ r l).trans (congrArg (acc (ix3 0 r l) + ·) (Finset.sum_congr rfl fun k _ => congrArg₂ (· * ·) (blk_left m c t k r) (blk_right m c t k l)))

/-- What a block holds after each of its steps: the sum over the rows so far. -/
theorem outs_sum (r : Fin 1024) (l : Fin 1408) (n : ℕ) (h : n < cfg0.N) :
    (outsAt0 m c n h).1 (ix3 0 r l) = ∑ k ∈ Finset.range ((n % 8 + 1) * 2048), term m c (blockOf n h) r l k := by
  have hN : n < 32 := lt_of_lt_of_eq h (show cfg0.N = 32 from N_0)
  rw [← sum_pieces, Finset.sum_range_succ]
  by_cases h0 : n % 8 = 0
  · have h1 : ¬n % 8 = 7 := by omega
    rw [outsAt0_A m c ⟨n, h⟩ h0 h1]
    dsimp only
    rw [first_out]
    refine (step_term m c ⟨n, h⟩ _ r l).trans ?_
    rw [start_at]
    simp only [h0, Finset.range_zero, Finset.sum_empty]
  · obtain ⟨p, rfl⟩ : ∃ p, n = p + 1 := ⟨n - 1, by omega⟩
    have ih := outs_sum r l p (Nat.lt_of_succ_lt h)
    have hb : blockOf p (Nat.lt_of_succ_lt h) = blockOf (p + 1) h := Fin.ext (by show p / 8 = (p + 1) / 8; omega)
    have hp : p % 8 + 1 = (p + 1) % 8 := by omega
    rw [hb, hp, ← sum_pieces] at ih
    by_cases h1 : (p + 1) % 8 = 7
    · rw [outsAt0_C m c ⟨p + 1, h⟩ h0 h1]
      dsimp only
      rw [last_out]
      refine (step_term m c ⟨p + 1, h⟩ _ r l).trans ?_
      exact congrArg (· + _) ih
    · rw [outsAt0_B m c ⟨p + 1, h⟩ h0 h1]
      dsimp only
      rw [next_out]
      refine (step_term m c ⟨p + 1, h⟩ _ r l).trans ?_
      exact congrArg (· + _) ih

/-- At a block's last step the other array's block is the same. -/
theorem outs_narrow (t : Fin cfg0.N) (h : t.val % 8 = 7) (r : Fin 1024) (l : Fin 1408) : (outsAt0 m c t.val t.isLt).2 (ix3 0 r l) = (outsAt0 m c t.val t.isLt).1 (ix3 0 r l) := by
  rw [outsAt0_C m c t (by omega) h]
  dsimp only
  rw [last_out, last_narrow, narrow_at]

/-- The product over all the rows, in column blocks. -/
def product (i : S4x1024x1408.Idx) : EReal := ∑ k : Fin 16384, left m c (ix2 k (i 1)) * right m c (ix2 k (blockCol (i 0) (i 2)))

theorem outs_product (t : Fin cfg0.N) (h : t.val % 8 = 7) (r : Fin 1024) (l : Fin 1408) :
    (outsAt0 m c t.val t.isLt).1 (ix3 0 r l) = product m c (ix3 (blockOf t.val t.isLt) r l) := by
  refine (outs_sum m c r l t.val t.isLt).trans ?_
  rw [h]
  exact sum_nthRow fun k => left m c (ix2 k r) * right m c (ix2 k (blockCol (blockOf t.val t.isLt) l))

theorem flushed2_eq (t : Fin cfg0.N) (hf : (cfg0.win 2).flush t = true) :
    (dats m 0 c).flushed 2 t = ((cfg0.win 2).blk t).view.read (Elt Ideal) (product m c) := by
  have ht := (flush0_2 t).mp hf
  rw [Value.flushed2]
  funext j
  rw [View.read_apply]
  obtain ⟨r, l, rfl⟩ : ∃ (r : Fin 1024) (l : Fin 1408), j = ix3 0 r l := ⟨j 1, j 2, funext fun a => match a with | ⟨0, _⟩ => Subsingleton.elim (α := Fin 1) _ _ | ⟨1, _⟩ => rfl | ⟨2, _⟩ => rfl⟩
  have hi : (View.emb ((cfg0.win 2).blk t).view (ix3 0 r l) : S4x1024x1408.Idx) = ix3 (blockOf t.val t.isLt) r l := by
    funext a
    apply Fin.ext
    match a with
    | ⟨0, _⟩ => show win0_2.index t 0 * 1 + 1 * 0 = t.val / 8; rw [(idx2 t).1]; omega
    | ⟨1, _⟩ => show win0_2.index t 1 * 1024 + 1 * r.val = r.val; rw [(idx2 t).2.1]; omega
    | ⟨2, _⟩ => show win0_2.index t 2 * 1408 + 1 * l.val = l.val; rw [(idx2 t).2.2]; omega
  refine (outs_product m c t ht r l).trans ?_
  exact eq_of_heq ((heq_of_eq (congrArg (product m c) hi.symm)).trans (cast_heq _ _).symm)

theorem flushed3_eq (t : Fin cfg0.N) (hf : (cfg0.win 3).flush t = true) :
    (dats m 0 c).flushed 3 t = ((cfg0.win 3).blk t).view.read (Elt Ideal) (product m c) := by
  have ht := (flush0_3 t).mp hf
  rw [Value.flushed3]
  funext j
  rw [View.read_apply]
  obtain ⟨r, l, rfl⟩ : ∃ (r : Fin 1024) (l : Fin 1408), j = ix3 0 r l := ⟨j 1, j 2, funext fun a => match a with | ⟨0, _⟩ => Subsingleton.elim (α := Fin 1) _ _ | ⟨1, _⟩ => rfl | ⟨2, _⟩ => rfl⟩
  have hi : (View.emb ((cfg0.win 3).blk t).view (ix3 0 r l) : S4x1024x1408.Idx) = ix3 (blockOf t.val t.isLt) r l := by
    funext a
    apply Fin.ext
    match a with
    | ⟨0, _⟩ => show win0_3.index t 0 * 1 + 1 * 0 = t.val / 8; rw [(idx3 t).1]; omega
    | ⟨1, _⟩ => show win0_3.index t 1 * 1024 + 1 * r.val = r.val; rw [(idx3 t).2.1]; omega
    | ⟨2, _⟩ => show win0_3.index t 2 * 1408 + 1 * l.val = l.val; rw [(idx3 t).2.2]; omega
  refine ((outs_narrow m c t ht r l).trans (outs_product m c t ht r l)).trans ?_
  exact eq_of_heq ((heq_of_eq (congrArg (product m c) hi.symm)).trans (cast_heq _ _).symm)

/-- The last step of a block. -/
theorem last_lt (j : ℕ) (h : j < 4) : j * 8 + 7 < cfg0.N := by
  rw [show cfg0.N = 32 from N_0]
  omega

theorem arr2 : (dats m 0 c).arrAt 2 cfg0.N = product m c :=
  (dats m 0 c).arrAt_eq_of_cover 2 (product m c) (flushed2_eq m c) fun i => by
    have h0 : (i 0 : Nat) < 4 := (i 0).isLt
    have h1 : (i 1 : Nat) < 1024 := (i 1).isLt
    have h2 : (i 2 : Nat) < 1408 := (i 2).isLt
    have hlt := last_lt (i 0) h0
    refine ⟨⟨(i 0 : Nat) * 8 + 7, hlt⟩, (flush0_2 _).mpr (by show ((i 0 : Nat) * 8 + 7) % 8 = 7; omega), ?_⟩
    show i ∈ ((View.whole main_v0_0).slice (win0_2.rect ⟨(i 0 : Nat) * 8 + 7, hlt⟩)).set
    rw [View.set_slice_whole, Rect.mem_set_unit]
    intro a
    have e := (idx2 ⟨(i 0 : Nat) * 8 + 7, hlt⟩).1
    dsimp only at e
    match a with
    | ⟨0, _⟩ => show win0_2.index ⟨(i 0 : Nat) * 8 + 7, hlt⟩ 0 * 1 ≤ (i 0 : Nat) ∧ (i 0 : Nat) < win0_2.index ⟨(i 0 : Nat) * 8 + 7, hlt⟩ 0 * 1 + 1; rw [e]; omega
    | ⟨1, _⟩ => show win0_2.index ⟨(i 0 : Nat) * 8 + 7, hlt⟩ 1 * 1024 ≤ (i 1 : Nat) ∧ (i 1 : Nat) < win0_2.index ⟨(i 0 : Nat) * 8 + 7, hlt⟩ 1 * 1024 + 1024; rw [(idx2 _).2.1]; omega
    | ⟨2, _⟩ => show win0_2.index ⟨(i 0 : Nat) * 8 + 7, hlt⟩ 2 * 1408 ≤ (i 2 : Nat) ∧ (i 2 : Nat) < win0_2.index ⟨(i 0 : Nat) * 8 + 7, hlt⟩ 2 * 1408 + 1408; rw [(idx2 _).2.2]; omega

theorem arr3 : (dats m 0 c).arrAt 3 cfg0.N = product m c :=
  (dats m 0 c).arrAt_eq_of_cover 3 (product m c) (flushed3_eq m c) fun i => by
    have h0 : (i 0 : Nat) < 4 := (i 0).isLt
    have h1 : (i 1 : Nat) < 1024 := (i 1).isLt
    have h2 : (i 2 : Nat) < 1408 := (i 2).isLt
    have hlt := last_lt (i 0) h0
    refine ⟨⟨(i 0 : Nat) * 8 + 7, hlt⟩, (flush0_3 _).mpr (by show ((i 0 : Nat) * 8 + 7) % 8 = 7; omega), ?_⟩
    show i ∈ ((View.whole main_v0_1).slice (win0_3.rect ⟨(i 0 : Nat) * 8 + 7, hlt⟩)).set
    rw [View.set_slice_whole, Rect.mem_set_unit]
    intro a
    have e := (idx3 ⟨(i 0 : Nat) * 8 + 7, hlt⟩).1
    dsimp only at e
    match a with
    | ⟨0, _⟩ => show win0_3.index ⟨(i 0 : Nat) * 8 + 7, hlt⟩ 0 * 1 ≤ (i 0 : Nat) ∧ (i 0 : Nat) < win0_3.index ⟨(i 0 : Nat) * 8 + 7, hlt⟩ 0 * 1 + 1; rw [e]; omega
    | ⟨1, _⟩ => show win0_3.index ⟨(i 0 : Nat) * 8 + 7, hlt⟩ 1 * 1024 ≤ (i 1 : Nat) ∧ (i 1 : Nat) < win0_3.index ⟨(i 0 : Nat) * 8 + 7, hlt⟩ 1 * 1024 + 1024; rw [(idx3 _).2.1]; omega
    | ⟨2, _⟩ => show win0_3.index ⟨(i 0 : Nat) * 8 + 7, hlt⟩ 2 * 1408 ≤ (i 2 : Nat) ∧ (i 2 : Nat) < win0_3.index ⟨(i 0 : Nat) * 8 + 7, hlt⟩ 2 * 1408 + 1408; rw [(idx3 _).2.2]; omega

end Cert.Kernel8Ideal.Gen

end
-- ==== Proof.GradClaim.lean ====
/- The gradient of the first feed-forward weight: the program and its reference compute the same arrays. -/
module

public import proofs.«01_k».proof.Defs
public import proofs.«01_k».proof.Proof.GradUp
public import proofs.«01_k».proof.Proof.Gen.Reference8Ideal.Run
public import proofs.«01_k».proof.Proof.Gen.Reference8Ideal.Read
public import Idealize.ShloMosaic.Init

@[expose] public section

noncomputable section

namespace Cert.Proof

open Idealize.ShloMosaic Idealize.SL.Sem

section Reference

open Cert.Reference8Ideal Cert.Reference8Ideal.Read

/-- The reference's product, in column blocks. -/
theorem grad_ref (x : Vec Ideal S16384x1024 .bf16) (y : Vec Ideal S16384x5632 .bf16) (j : Fin 4) (r : Fin 1024) (l : Fin 1408) :
    val_main_v4 (F := Ideal) x y (ix3 j r l) = ∑ k : Fin 16384, x (ix2 k r) * y (ix2 k (Cert.Kernel8Ideal.Gen.blockCol j l)) := by
  have hi : idx_main_v3 (idx_main_v4 (ix3 j r l)) = ix2 r (Cert.Kernel8Ideal.Gen.blockCol j l) := by
    funext a
    apply Fin.ext
    match a with
    | ⟨0, _⟩ => show ((r.val * 4 + j.val) * 1408 + l.val) / 5632 = r.val; omega
    | ⟨1, _⟩ => show ((r.val * 4 + j.val) * 1408 + l.val) % 5632 = j.val * 1408 + l.val; omega
  rw [val_main_v4_apply, val_main_v3_apply, hi]
  pointwise [val_main_v2, val_main_v1, val_main_v0]

/-- Both of the reference's results are the product. -/
theorem grad_ref_eq (x : Vec Ideal S16384x1024 .bf16) (y : Vec Ideal S16384x5632 .bf16) (i : S4x1024x1408.Idx) :
    val_main_v4 (F := Ideal) x y i = ∑ k : Fin 16384, x (ix2 k (i 1)) * y (ix2 k (Cert.Kernel8Ideal.Gen.blockCol (i 0) (i 2))) := by
  obtain ⟨j, r, l, rfl⟩ : ∃ (j : Fin 4) (r : Fin 1024) (l : Fin 1408), i = ix3 j r l := ⟨i 0, i 1, i 2, funext fun a => match a with | ⟨0, _⟩ => rfl | ⟨1, _⟩ => rfl | ⟨2, _⟩ => rfl⟩
  exact grad_ref x y j r l

theorem grad_ref_narrow (x : Vec Ideal S16384x1024 .bf16) (y : Vec Ideal S16384x5632 .bf16) (i : S4x1024x1408.Idx) : val_main_v5 (F := Ideal) x y i = val_main_v4 (F := Ideal) x y i := rfl

end Reference

/-- The gradient of the first feed-forward weight, as it is summed and in the narrower format. -/
theorem grad_up : Cert.algebraic_Kernel8Ideal_Reference8Ideal := by
  intro m g m' g' _ hargs
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N,
    Cert.Kernel8Ideal.Value.run_blocks m g, (θ_run _ _ _).mono (fun _ h c => ?_) (Cert.Reference8Ideal.Value.run m' g')⟩
  obtain ⟨h0, h1, hrest⟩ := h c
  obtain ⟨a0, a1⟩ := hargs c
  refine ⟨h0.trans ((Cert.Reference8Ideal.Read.val_main_v4_eq (F := Ideal) _ _).trans ?_), h1.trans ((Cert.Reference8Ideal.Read.val_main_v5_eq (F := Ideal) _ _).trans ?_), hrest⟩
  · rw [a0, a1]
    refine Eq.trans ?_ (Cert.Kernel8Ideal.Gen.arr2 m c).symm
    exact funext fun i => grad_ref_eq _ _ i
  · rw [a0, a1]
    refine Eq.trans ?_ (Cert.Kernel8Ideal.Gen.arr3 m c).symm
    exact funext fun i => (grad_ref_narrow _ _ i).trans (grad_ref_eq _ _ i)

/-- The reference ends and leaves its arguments as they were. It has no semaphore. -/
theorem grad_up_frame : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

end Cert.Proof

end
-- ==== Proof.Adam.lean ====
/- The optimiser's step on the first feed-forward weight: the program and its reference compute the same arrays. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit.Tiles
public import Idealize.ShloMosaic.Init

@[expose] public section

noncomputable section

namespace Cert.Kernel9Ideal.Gen

open Cert.Kernel9Ideal Idealize.ShloMosaic Idealize.ShloMosaic.TcCoe Idealize.SL.Sem
open Cert.Reference9Ideal.Read

/-- A whole array. -/
abbrev Whole := Vec Ideal S1024x1408 .f32

/-- A block of rows of one. -/
abbrev Rows := Vec Ideal S128x1408 .f32

/-! ## An element of each result -/

section Element

variable (w g a b : Rows) (W G A B : Whole) (i : S128x1408.Idx) (k : S1024x1408.Idx)

/-- The first average. -/
theorem first_eq (hg : g i = G k) (ha : a i = A k) : k0_pay1 (F := Ideal) g a i = val_main_v4 (F := Ideal) G A k := by
  pointwise [k0_pay1, val_main_v4, val_main_v3, val_main_v2, val_main_v1, val_main_v0, val_main_cst, val_main_cst_0]
  rw [hg, ha]

/-- The second average, of the squares. -/
theorem second_eq (hg : g i = G k) (hb : b i = B k) : k0_pay2 (F := Ideal) g b i = val_main_v10 (F := Ideal) G B k := by
  pointwise [k0_pay2, val_main_v10, val_main_v9, val_main_v8, val_main_v7, val_main_v6, val_main_v5, val_main_cst_1, val_main_cst_2]
  rw [hg, hb]

/-- The change of the weight. -/
theorem delta_eq (hw : w i = W k) (hg : g i = G k) (ha : a i = A k) (hb : b i = B k) :
    k0_pay3 (F := Ideal) g w a b i = val_main_v23 (F := Ideal) W G A B k := by
  pointwise [k0_pay3, val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [first_eq g a G A i k hg ha, second_eq g b G B i k hg hb, hw]

end Element

/-! ## The blocks -/

variable (m : (ℓ : Loc nD τ sig) → Buf (Elt Ideal) ℓ) (c : Dev nD)

/-- The weight, its gradient and the two averages. -/
abbrev weight : Whole := m ((c : Thread nD τ).loc main_arg0)
abbrev grad : Whole := m ((c : Thread nD τ).loc main_arg1)
abbrev first : Whole := m ((c : Thread nD τ).loc main_arg2)
abbrev second : Whole := m ((c : Thread nD τ).loc main_arg3)

/-- A point as a number below 8. -/
def pt (t : Fin cfg0.N) : Fin 8 := ⟨t.val, lt_of_lt_of_eq t.isLt (show cfg0.N = 8 from N_0)⟩

/-- Row `r` of block `t`. -/
def rowOf (t : Fin 8) (r : Fin 128) : Fin 1024 := ⟨t.val * 128 + r.val, by omega⟩

theorem hz : (![0, 0] : Fin 2 → Nat) = fun _ => 0 := funext fun a => by fin_cases a <;> rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

theorem blk_weight (t : Fin cfg0.N) (r : Fin 128) (l : Fin 1408) : (iblk m c 0 t : Rows) (ix2 r l) = weight m c (ix2 (rowOf (pt t) r) l) := by
  rw [show weight m c = V m c main_arg0 from (V_main_arg0 m c).symm]
  unfold iblk
  rw [View.read_apply]
  show V m c main_arg0 _ = V m c main_arg0 _
  congr 1
  funext i
  apply Fin.ext
  match i with
  | ⟨0, _⟩ => show win0_0.index t 0 * 128 + 1 * r.val = t.val * 128 + r.val; rw [(idx0 t).1]; omega
  | ⟨1, _⟩ => show win0_0.index t 1 * 1408 + 1 * l.val = l.val; rw [(idx0 t).2]; omega

theorem blk_grad (t : Fin cfg0.N) (r : Fin 128) (l : Fin 1408) : (iblk m c 1 t : Rows) (ix2 r l) = grad m c (ix2 (rowOf (pt t) r) l) := by
  rw [show grad m c = V m c main_arg1 from (V_main_arg1 m c).symm]
  unfold iblk
  rw [View.read_apply]
  show V m c main_arg1 _ = V m c main_arg1 _
  congr 1
  funext i
  apply Fin.ext
  match i with
  | ⟨0, _⟩ => show win0_1.index t 0 * 128 + 1 * r.val = t.val * 128 + r.val; rw [(idx1 t).1]; omega
  | ⟨1, _⟩ => show win0_1.index t 1 * 1408 + 1 * l.val = l.val; rw [(idx1 t).2]; omega

theorem blk_first (t : Fin cfg0.N) (r : Fin 128) (l : Fin 1408) : (iblk m c 2 t : Rows) (ix2 r l) = first m c (ix2 (rowOf (pt t) r) l) := by
  rw [show first m c = V m c main_arg2 from (V_main_arg2 m c).symm]
  unfold iblk
  rw [View.read_apply]
  show V m c main_arg2 _ = V m c main_arg2 _
  congr 1
  funext i
  apply Fin.ext
  match i with
  | ⟨0, _⟩ => show win0_2.index t 0 * 128 + 1 * r.val = t.val * 128 + r.val; rw [(idx2 t).1]; omega
  | ⟨1, _⟩ => show win0_2.index t 1 * 1408 + 1 * l.val = l.val; rw [(idx2 t).2]; omega

theorem blk_second (t : Fin cfg0.N) (r : Fin 128) (l : Fin 1408) : (iblk m c 3 t : Rows) (ix2 r l) = second m c (ix2 (rowOf (pt t) r) l) := by
  rw [show second m c = V m c main_arg3 from (V_main_arg3 m c).symm]
  unfold iblk
  rw [View.read_apply]
  show V m c main_arg3 _ = V m c main_arg3 _
  congr 1
  funext i
  apply Fin.ext
  match i with
  | ⟨0, _⟩ => show win0_3.index t 0 * 128 + 1 * r.val = t.val * 128 + r.val; rw [(idx3 t).1]; omega
  | ⟨1, _⟩ => show win0_3.index t 1 * 1408 + 1 * l.val = l.val; rw [(idx3 t).2]; omega

/-! ## What is left of each result -/

/-- The gradient, passed on. -/
theorem point4 (t : Fin cfg0.N) (r : Fin 128) (l : Fin 1408) :
    out0_4 (iblk m c 0 t) (iblk m c 1 t) (iblk m c 2 t) (iblk m c 3 t) (ix2 r l) = (grad m c : Whole) (ix2 (rowOf (pt t) r) l) := by
  unfold out0_4
  rw [View.canon_unit_zero hz]
  refine (congrFun (View.ld_unit_zero (S := S128x1408) hz _ _) _).trans ?_
  exact blk_grad m c t r l

theorem flush4 : ∀ t : Fin cfg0.N, (cfg0.win 4).flush t = true :=
  (by decide +kernel : ∀ t : Fin grid0.N, win0_4.flush t = true)

set_option maxRecDepth 8192 in
theorem at4 (t : Fin cfg0.N) (r : Fin 128) (l : Fin 1408) : (dats m 0 c).arrAt 4 cfg0.N (ix2 (rowOf (pt t) r) l) = (grad m c : Whole) (ix2 (rowOf (pt t) r) l) := by
  rw [← point4]
  have h := congrFun (Value.blocks4 m c t (flush4 t)) (ix2 r l)
  rw [Value.flushed4, View.read_apply] at h
  refine Eq.trans (congrArg ((dats m 0 c).arrAt 4 cfg0.N) ?_) h
  funext a
  apply Fin.ext
  match a with
  | ⟨0, _⟩ => show t.val * 128 + r.val = win0_4.index t 0 * 128 + 1 * r.val; rw [(idx4 t).1]; omega
  | ⟨1, _⟩ => show l.val = win0_4.index t 1 * 1408 + 1 * l.val; rw [(idx4 t).2]; omega

/-- The change of the weight. -/
theorem point5 (t : Fin cfg0.N) (r : Fin 128) (l : Fin 1408) :
    out0_5 (iblk m c 0 t) (iblk m c 1 t) (iblk m c 2 t) (iblk m c 3 t) (ix2 r l) = (val_main_v23 (F := Ideal) (weight m c) (grad m c) (first m c) (second m c) : Whole) (ix2 (rowOf (pt t) r) l) := by
  unfold out0_5
  rw [View.canon_unit_zero hz]
  simp only [View.ld_unit_zero (S := S128x1408) hz]
  exact delta_eq _ _ _ _ _ _ _ _ _ _ (blk_weight m c t r l) (blk_grad m c t r l) (blk_first m c t r l) (blk_second m c t r l)

theorem flush5 : ∀ t : Fin cfg0.N, (cfg0.win 5).flush t = true :=
  (by decide +kernel : ∀ t : Fin grid0.N, win0_5.flush t = true)

set_option maxRecDepth 8192 in
theorem at5 (t : Fin cfg0.N) (r : Fin 128) (l : Fin 1408) : (dats m 0 c).arrAt 5 cfg0.N (ix2 (rowOf (pt t) r) l) = (val_main_v23 (F := Ideal) (weight m c) (grad m c) (first m c) (second m c) : Whole) (ix2 (rowOf (pt t) r) l) := by
  rw [← point5]
  have h := congrFun (Value.blocks5 m c t (flush5 t)) (ix2 r l)
  rw [Value.flushed5, View.read_apply] at h
  refine Eq.trans (congrArg ((dats m 0 c).arrAt 5 cfg0.N) ?_) h
  funext a
  apply Fin.ext
  match a with
  | ⟨0, _⟩ => show t.val * 128 + r.val = win0_5.index t 0 * 128 + 1 * r.val; rw [(idx5 t).1]; omega
  | ⟨1, _⟩ => show l.val = win0_5.index t 1 * 1408 + 1 * l.val; rw [(idx5 t).2]; omega

/-- The first average. -/
theorem point6 (t : Fin cfg0.N) (r : Fin 128) (l : Fin 1408) :
    out0_6 (iblk m c 0 t) (iblk m c 1 t) (iblk m c 2 t) (iblk m c 3 t) (ix2 r l) = (val_main_v4 (F := Ideal) (grad m c) (first m c) : Whole) (ix2 (rowOf (pt t) r) l) := by
  unfold out0_6
  rw [View.canon_unit_zero hz]
  simp only [View.ld_unit_zero (S := S128x1408) hz]
  exact first_eq _ _ _ _ _ _ (blk_grad m c t r l) (blk_first m c t r l)

theorem flush6 : ∀ t : Fin cfg0.N, (cfg0.win 6).flush t = true :=
  (by decide +kernel : ∀ t : Fin grid0.N, win0_6.flush t = true)

set_option maxRecDepth 8192 in
theorem at6 (t : Fin cfg0.N) (r : Fin 128) (l : Fin 1408) : (dats m 0 c).arrAt 6 cfg0.N (ix2 (rowOf (pt t) r) l) = (val_main_v4 (F := Ideal) (grad m c) (first m c) : Whole) (ix2 (rowOf (pt t) r) l) := by
  rw [← point6]
  have h := congrFun (Value.blocks6 m c t (flush6 t)) (ix2 r l)
  rw [Value.flushed6, View.read_apply] at h
  refine Eq.trans (congrArg ((dats m 0 c).arrAt 6 cfg0.N) ?_) h
  funext a
  apply Fin.ext
  match a with
  | ⟨0, _⟩ => show t.val * 128 + r.val = win0_6.index t 0 * 128 + 1 * r.val; rw [(idx6 t).1]; omega
  | ⟨1, _⟩ => show l.val = win0_6.index t 1 * 1408 + 1 * l.val; rw [(idx6 t).2]; omega

/-- The second average. -/
theorem point7 (t : Fin cfg0.N) (r : Fin 128) (l : Fin 1408) :
    out0_7 (iblk m c 0 t) (iblk m c 1 t) (iblk m c 2 t) (iblk m c 3 t) (ix2 r l) = (val_main_v10 (F := Ideal) (grad m c) (second m c) : Whole) (ix2 (rowOf (pt t) r) l) := by
  unfold out0_7
  rw [View.canon_unit_zero hz]
  simp only [View.ld_unit_zero (S := S128x1408) hz]
  exact second_eq _ _ _ _ _ _ (blk_grad m c t r l) (blk_second m c t r l)

theorem flush7 : ∀ t : Fin cfg0.N, (cfg0.win 7).flush t = true :=
  (by decide +kernel : ∀ t : Fin grid0.N, win0_7.flush t = true)

set_option maxRecDepth 8192 in
theorem at7 (t : Fin cfg0.N) (r : Fin 128) (l : Fin 1408) : (dats m 0 c).arrAt 7 cfg0.N (ix2 (rowOf (pt t) r) l) = (val_main_v10 (F := Ideal) (grad m c) (second m c) : Whole) (ix2 (rowOf (pt t) r) l) := by
  rw [← point7]
  have h := congrFun (Value.blocks7 m c t (flush7 t)) (ix2 r l)
  rw [Value.flushed7, View.read_apply] at h
  refine Eq.trans (congrArg ((dats m 0 c).arrAt 7 cfg0.N) ?_) h
  funext a
  apply Fin.ext
  match a with
  | ⟨0, _⟩ => show t.val * 128 + r.val = win0_7.index t 0 * 128 + 1 * r.val; rw [(idx7 t).1]; omega
  | ⟨1, _⟩ => show l.val = win0_7.index t 1 * 1408 + 1 * l.val; rw [(idx7 t).2]; omega

/-- Every element of an array is in a block. -/
theorem exists_row (i : S1024x1408.Idx) : ∃ (t : Fin cfg0.N) (r : Fin 128) (l : Fin 1408), i = ix2 (rowOf (pt t) r) l := by
  have h0 : (i 0 : Nat) < 1024 := (i 0).isLt
  refine ⟨⟨(i 0 : Nat) / 128, by rw [show cfg0.N = 8 from N_0]; omega⟩, ⟨(i 0 : Nat) % 128, Nat.mod_lt _ (by omega)⟩, i 1, ?_⟩
  funext a
  apply Fin.ext
  match a with
  | ⟨0, _⟩ => show (i 0 : Nat) = (i 0 : Nat) / 128 * 128 + (i 0 : Nat) % 128; omega
  | ⟨1, _⟩ => rfl

theorem arr4 : (dats m 0 c).arrAt 4 cfg0.N = (grad m c : Whole) := by
  funext i
  obtain ⟨t, r, l, rfl⟩ := exists_row i
  exact at4 m c t r l

theorem arr5 : (dats m 0 c).arrAt 5 cfg0.N = (val_main_v23 (F := Ideal) (weight m c) (grad m c) (first m c) (second m c) : Whole) := by
  funext i
  obtain ⟨t, r, l, rfl⟩ := exists_row i
  exact at5 m c t r l

theorem arr6 : (dats m 0 c).arrAt 6 cfg0.N = (val_main_v4 (F := Ideal) (grad m c) (first m c) : Whole) := by
  funext i
  obtain ⟨t, r, l, rfl⟩ := exists_row i
  exact at6 m c t r l

theorem arr7 : (dats m 0 c).arrAt 7 cfg0.N = (val_main_v10 (F := Ideal) (grad m c) (second m c) : Whole) := by
  funext i
  obtain ⟨t, r, l, rfl⟩ := exists_row i
  exact at7 m c t r l

end Cert.Kernel9Ideal.Gen

namespace Cert.Proof

open Idealize.ShloMosaic Idealize.SL.Sem

/-- The optimiser's step: the gradient passed on, the change of the weight and the two averages. -/
theorem adam : Cert.algebraic_Kernel9Ideal_Reference9Ideal := by
  intro m g m' g' _ hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m g, (θ_run _ _ _).mono (fun _ h c => ?_) (Cert.Reference9Ideal.Value.run m' g')⟩
  obtain ⟨h0, h1, h2, h3, hrest⟩ := h c
  obtain ⟨a0, a1, a2, a3⟩ := hargs c
  refine ⟨h0.trans ?_, h1.trans ((Cert.Reference9Ideal.Read.val_main_v23_eq (F := Ideal) _ _ _ _).trans ?_), h2.trans ((Cert.Reference9Ideal.Read.val_main_v4_eq (F := Ideal) _ _).trans ?_),
    h3.trans ((Cert.Reference9Ideal.Read.val_main_v10_eq (F := Ideal) _ _).trans ?_), hrest⟩
  · rw [a1]
    exact (Cert.Kernel9Ideal.Gen.arr4 m c).symm
  · rw [a0, a1, a2, a3]
    exact (Cert.Kernel9Ideal.Gen.arr5 m c).symm
  · rw [a1, a2]
    exact (Cert.Kernel9Ideal.Gen.arr6 m c).symm
  · rw [a1, a3]
    exact (Cert.Kernel9Ideal.Gen.arr7 m c).symm

/-- The reference ends and leaves its arguments as they were. It has no semaphore. -/
theorem adam_frame : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run m ρ)

end Cert.Proof

end
-- ==== Proof.DeviceSum.lean ====
/- The sum of the small gradients over the devices: the program and its reference compute the same array. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Init

@[expose] public section

noncomputable section

namespace Cert.Kernel10Ideal.Gen

open Cert.Kernel10Ideal Idealize.ShloMosaic Idealize.ShloMosaic.TcCoe Idealize.SL.Sem

/-- The eight devices' arrays, stacked. -/
abbrev Parts := Vec Ideal S8x40x1024 .f32

/-- An array of one device. -/
abbrev Part := Vec Ideal S1x40x1024 .f32

/-- The kernel adds the eight arrays in turn. -/
theorem added_at (p0 p1 p2 p3 p4 p5 p6 p7 : Part) (r : Fin 40) (l : Fin 1024) :
    k0_pay1 (F := Ideal) p0 p1 p2 p3 p4 p5 p6 p7 (ix2 r l)
      = p0 (ix3 0 r l) + p1 (ix3 0 r l) + p2 (ix3 0 r l) + p3 (ix3 0 r l) + p4 (ix3 0 r l) + p5 (ix3 0 r l) + p6 (ix3 0 r l) + p7 (ix3 0 r l) := by
  pointwise [k0_pay1]

/-- A device's array is read at its place in the stack. -/
theorem part_at (x : Parts) (n : ℕ) (hn : n < 8) (h) (r : Fin 40) (l : Fin 1024) :
    (View.ld x (Rect.unit (s := S8x40x1024) ![n, 0, 0] S1x40x1024.size h) : Part) (ix3 0 r l) = x (ix3 ⟨n, hn⟩ r l) := by
  refine congrArg x ?_
  funext a
  apply Fin.ext
  match a with
  | ⟨0, _⟩ => show n + 1 * 0 = n; omega
  | ⟨1, _⟩ => show 0 + 1 * r.val = r.val; omega
  | ⟨2, _⟩ => show 0 + 1 * l.val = l.val; omega

/-- What the kernel leaves is the reference's sum. -/
theorem sum_eq (x : Parts) : Value.G1 (F := Ideal) x = Cert.Reference10Ideal.Read.val_main_v0 (F := Ideal) x := by
  funext i
  obtain ⟨r, l, rfl⟩ : ∃ (r : Fin 40) (l : Fin 1024), i = ix2 r l := ⟨i 0, i 1, funext fun a => match a with | ⟨0, _⟩ => rfl | ⟨1, _⟩ => rfl⟩
  have hi (k : Fin 8) : Cert.Reference10Ideal.Read.idx_main_v0 (ix2 r l) k = ix3 k r l :=
    funext fun a => match a with | ⟨0, _⟩ => rfl | ⟨1, _⟩ => rfl | ⟨2, _⟩ => rfl
  have hz (i) : Cert.Reference10Ideal.Read.val_main_cst (F := Ideal) i = 0 := by
    pointwise [Cert.Reference10Ideal.Read.val_main_cst]
  rw [Cert.Reference10Ideal.Read.val_main_v0_apply, hz, zero_add]
  simp only [hi, Fin.sum_univ_eight]
  refine (added_at _ _ _ _ _ _ _ _ r l).trans ?_
  rw [part_at x 0 (by omega), part_at x 1 (by omega), part_at x 2 (by omega), part_at x 3 (by omega), part_at x 4 (by omega), part_at x 5 (by omega), part_at x 6 (by omega), part_at x 7 (by omega)]
  rfl

end Cert.Kernel10Ideal.Gen

namespace Cert.Proof

open Idealize.ShloMosaic Idealize.SL.Sem

/-- The sum over the devices. -/
theorem device_sum : Cert.algebraic_Kernel10Ideal_Reference10Ideal := by
  intro m g m' g' _ hargs
  refine ⟨fun c => Cert.Kernel10Ideal.Value.G1 (F := Ideal) (m ((c.tc : Thread Cert.Kernel10Ideal.nD Cert.Kernel10Ideal.τ).loc Cert.Kernel10Ideal.main_arg0)),
    Cert.Kernel10Ideal.Value.run m g, (θ_run _ _ _).mono (fun _ h c => ?_) (Cert.Reference10Ideal.Value.run m' g')⟩
  obtain ⟨h0, hrest⟩ := h c
  refine ⟨h0.trans ((Cert.Reference10Ideal.Read.val_main_v0_eq (F := Ideal) _).trans ?_), hrest⟩
  rw [hargs c]
  exact (Cert.Kernel10Ideal.Gen.sum_eq _).symm

/-- The reference ends and leaves its argument as it was. It has no semaphore. -/
theorem device_sum_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

end Cert.Proof

end
-- ==== Proof.lean ====
/- The proof of the claims of proofs.«01_k».proof.Defs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.InRun
public import proofs.«01_k».proof.Proof.InRef
public import proofs.«01_k».proof.Proof.InPre
public import proofs.«01_k».proof.Proof.MixClaim
public import proofs.«01_k».proof.Proof.RetClaim
public import proofs.«01_k».proof.Proof.HeadClaim
public import proofs.«01_k».proof.Proof.Gen.Reference2Ideal.Run
public import proofs.«01_k».proof.Proof.Gen.Reference2Ideal.Read
public import proofs.«01_k».proof.Proof.Gen.Kernel2
public import proofs.«01_k».proof.Proof.Gen.On_attention_columns
public import proofs.«01_k».proof.Proof.Gen.Reference3Ideal.Run
public import proofs.«01_k».proof.Proof.Gen.Reference3Ideal.Read
public import proofs.«01_k».proof.Proof.Gen.On_retention_columns
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_head
public import proofs.«01_k».proof.Proof.Gen.Pre_finite_mixer
public import proofs.«01_k».proof.Proof.FwdClaim
public import proofs.«01_k».proof.Proof.TailFrame
public import proofs.«01_k».proof.Proof.Gen.Kernel4
public import proofs.«01_k».proof.Proof.Gen.Kernel4Ideal
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_fwd
public import proofs.«01_k».proof.Proof.Gen.On_attention_half
public import proofs.«01_k».proof.Proof.FwdMixClaim
public import proofs.«01_k».proof.Proof.Gen.Kernel8
public import proofs.«01_k».proof.Proof.Gen.Kernel9
public import proofs.«01_k».proof.Proof.Gen.Kernel10
public import proofs.«01_k».proof.Proof.Gen.Kernel8.Frame
public import proofs.«01_k».proof.Proof.Gen.Kernel9.Frame
public import proofs.«01_k».proof.Proof.Gen.Kernel10.Frame
public import proofs.«01_k».proof.Proof.Gen.Kernel8Ideal
public import proofs.«01_k».proof.Proof.Gen.Kernel9Ideal
public import proofs.«01_k».proof.Proof.Gen.Kernel10Ideal
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Reference8Ideal
public import proofs.«01_k».proof.Proof.Gen.Reference9Ideal
public import proofs.«01_k».proof.Proof.Gen.Reference10Ideal
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference8Ideal.Read
public import proofs.«01_k».proof.Proof.Gen.Reference9Ideal.Read
public import proofs.«01_k».proof.Proof.Gen.Reference10Ideal.Read
public import proofs.«01_k».proof.Proof.GradClaim
public import proofs.«01_k».proof.Proof.Adam
public import proofs.«01_k».proof.Proof.DeviceSum
public import Idealize.ShloMosaic.Adequacy
public import Idealize.ShloMosaic.Init

@[expose] public section

noncomputable section

namespace Cert.Proof

open Idealize.ShloMosaic Idealize.SL.Sem Cert.Kernel

/-- The two programs of the first projection's backward compute the same arrays. -/
theorem in_proj [Cert.Pre_finite.Facts] : Cert.algebraic_KernelIdeal_ReferenceIdeal_pre_finite := by
  intro m g m' g' hpre hargs
  refine ⟨fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m g, (θ_run _ _ _).mono (fun _ h c => ?_) (Cert.ReferenceIdeal.Value.run m' g')⟩
  obtain ⟨h0, h1, hrest⟩ := h c
  obtain ⟨a0, a1, a2, a3, a4⟩ := hargs c
  obtain ⟨hx, hg, hw, hp⟩ := finite_real _ _ _ _ _ (hpre c)
  refine ⟨h0.trans ((Cert.ReferenceIdeal.Read.val_main_v44_eq m' c).trans ?_), h1.trans ((Cert.ReferenceIdeal.Read.val_main_v46_eq _ _ _).trans ?_), hrest⟩
  · rw [a0, a1, a2, a3, a4]
    funext i
    obtain ⟨r, l, rfl⟩ : ∃ (r : Fin 16384) (l : Fin 1024), i = ix2 r l := ⟨i 0, i 1, funext fun a => match a with | ⟨0, _⟩ => rfl | ⟨1, _⟩ => rfl⟩
    refine (ref_x _ _ _ _ _ hx hg hw hp r l).trans ?_
    obtain ⟨t, s, rfl⟩ := exists_row r
    exact (Cert.KernelIdeal.Gen.arr5 m c (Fin.cast Cert.KernelIdeal.Gen.N_0.symm t) s l).symm
  · rw [a0, a2, a4]
    refine Eq.trans ?_ (Cert.KernelIdeal.Gen.arr6 m c).symm
    funext i
    obtain ⟨r, l, rfl⟩ : ∃ (r : Fin 8) (l : Fin 1024), i = ix2 r l := ⟨i 0, i 1, funext fun a => match a with | ⟨0, _⟩ => rfl | ⟨1, _⟩ => rfl⟩
    refine (ref_gain _ _ _ r l).trans ?_
    unfold Cert.KernelIdeal.Gen.gainOut
    refine if_congr Iff.rfl ?_ rfl
    rw [← sum_rows]
    exact (Fintype.sum_equiv (finCongr Cert.KernelIdeal.Gen.N_0) _ _ fun t => rfl).symm

/-- The reference ends and leaves its arguments as they were. It has no semaphore. -/
theorem ref_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Reference3Ideal.Gen.facts,
  Cert.Kernel3.Gen.facts, Cert.Kernel3Ideal.Gen.facts, Cert.Reference4Ideal.Gen.facts,
  Cert.Kernel4.Gen.facts, Cert.Kernel4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite_mixer.Gen.facts, Cert.Pre_finite_head.Gen.facts, Cert.Pre_finite_fwd.Gen.facts,
  Cert.On_attention_columns.Gen.facts, Cert.On_retention_columns.Gen.facts, Cert.On_attention_half.Gen.facts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  mixer_kernel,
  mixer_ideal,
  fun m ρ _ => mixer_ideal m ρ trivial,
  attention_frame,
  fun m ρ _ => attention_frame m ρ trivial,
  retention_frame,
  fun m ρ _ => retention_frame m ρ trivial,
  fun m ρ _ => Cert.Kernel3.Gen.frame m ρ,
  fun m ρ _ => Cert.Kernel3Ideal.Gen.frame m ρ,
  fun m ρ _ => Cert.Kernel3Ideal.Gen.frame m ρ,
  head_frame,
  fun m ρ _ => head_frame m ρ trivial,
  Tail.tail_kernel,
  Tail.tail_ideal,
  fun m ρ _ => Cert.Kernel5.Gen.frame m ρ,
  fun m ρ _ => Cert.Kernel5Ideal.Gen.frame m ρ,
  up_forward_frame,
  fun m ρ _ => Cert.Kernel6.Gen.frame m ρ,
  fun m ρ _ => Cert.Kernel6Ideal.Gen.frame m ρ,
  in_forward_frame,
  fun m ρ _ => Cert.Kernel7.Gen.frame m ρ,
  fun m ρ _ => Cert.Kernel7Ideal.Gen.frame m ρ,
  fun m ρ _ => Cert.Kernel7Ideal.Gen.frame m ρ,
  mixer_forward_frame,
  fun m ρ _ => mixer_forward_frame m ρ trivial,
  fun m ρ _ => Cert.Kernel8.Gen.frame m ρ,
  fun m ρ _ => Cert.Kernel8Ideal.Gen.frame m ρ,
  grad_up_frame,
  fun m ρ _ => Cert.Kernel9.Gen.frame m ρ,
  fun m ρ _ => Cert.Kernel9Ideal.Gen.frame m ρ,
  adam_frame,
  fun m ρ _ => Cert.Kernel10.Gen.frame m ρ,
  fun m ρ _ => Cert.Kernel10Ideal.Gen.frame m ρ,
  device_sum_frame,
  trivial, in_proj, trivial, attention, retention, trivial, head, trivial, trivial, up_forward, trivial, in_forward, mask_named, mixer_forward, trivial, grad_up, trivial, adam, trivial, device_sum⟩

end Cert.Proof

end
